-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_1)) (v1 : (c : Dev Cert.Kernel2Ideal.nD) → Buf (Elt Ideal) ((c.tc : Thread Cert.Kernel2Ideal.nD Cert.Kernel2Ideal.τ).loc Cert.Kernel2Ideal.main_v1)) (v2 : (c : Dev Cert.Kernel2Ideal.nD) → Buf (Elt Ideal) ((c.tc : Thread Cert.Kernel2Ideal.nD Cert.Kernel2Ideal.τ).loc Cert.Kernel2Ideal.main_v3)) (v3 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_1) = v0 c
          ∧ r.2.mem ((c.tc : Thread Cert.Kernel2Ideal.nD Cert.Kernel2Ideal.τ).loc Cert.Kernel2Ideal.main_v1) = v1 c
          ∧ r.2.mem ((c.tc : Thread Cert.Kernel2Ideal.nD Cert.Kernel2Ideal.τ).loc Cert.Kernel2Ideal.main_v3) = v2 c
          ∧ r.2.mem ((c.tc : Thread Cert.Kernel2Ideal.nD Cert.Kernel2Ideal.τ).loc Cert.Kernel2Ideal.main_v2) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)) (v2 : (c : Dev Cert.Kernel5Ideal.nD) → Buf (Elt Ideal) ((c.tc : Thread Cert.Kernel5Ideal.nD Cert.Kernel5Ideal.τ).loc Cert.Kernel5Ideal.main_v2)) (v3 : (c : Dev Cert.Kernel5Ideal.nD) → Buf (Elt Ideal) ((c.tc : Thread Cert.Kernel5Ideal.nD Cert.Kernel5Ideal.τ).loc Cert.Kernel5Ideal.main_v3)) (v4 : (c : Dev Cert.Kernel5Ideal.nD) → Buf (Elt Ideal) ((c.tc : Thread Cert.Kernel5Ideal.nD Cert.Kernel5Ideal.τ).loc Cert.Kernel5Ideal.main_v4)) (v5 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_v2) = v2 c
          ∧ r.2.mem ((c.tc : Thread Cert.Kernel5Ideal.nD Cert.Kernel5Ideal.τ).loc Cert.Kernel5Ideal.main_v3) = v3 c
          ∧ r.2.mem ((c.tc : Thread Cert.Kernel5Ideal.nD Cert.Kernel5Ideal.τ).loc Cert.Kernel5Ideal.main_v4) = v4 c
          ∧ r.2.mem ((c.tc : Thread Cert.Kernel5Ideal.nD Cert.Kernel5Ideal.τ).loc Cert.Kernel5Ideal.main_v5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_v17) = v3 c
          ∧ r.2.mem ((c.tc : Thread Cert.Reference5Ideal.nD Cert.Reference5Ideal.τ).loc Cert.Reference5Ideal.main_v10) = v4 c
          ∧ r.2.mem ((c.tc : Thread Cert.Reference5Ideal.nD Cert.Reference5Ideal.τ).loc Cert.Reference5Ideal.main_v18) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0)) (v1 : (c : Dev Cert.Kernel7Ideal.nD) → Buf (Elt Ideal) ((c.tc : Thread Cert.Kernel7Ideal.nD Cert.Kernel7Ideal.τ).loc Cert.Kernel7Ideal.main_v1)) (v2 : (c : Dev Cert.Kernel7Ideal.nD) → Buf (Elt Ideal) ((c.tc : Thread Cert.Kernel7Ideal.nD Cert.Kernel7Ideal.τ).loc Cert.Kernel7Ideal.main_v2)) (v3 : (c : Dev Cert.Kernel7Ideal.nD) → Buf (Elt Ideal) ((c.tc : Thread Cert.Kernel7Ideal.nD Cert.Kernel7Ideal.τ).loc Cert.Kernel7Ideal.main_v3)) (v4 : (c : Dev Cert.Kernel7Ideal.nD) → Buf (Elt Ideal) ((c.tc : Thread Cert.Kernel7Ideal.nD Cert.Kernel7Ideal.τ).loc Cert.Kernel7Ideal.main_v4)) (v5 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_v1) = v1 c
          ∧ r.2.mem ((c.tc : Thread Cert.Kernel7Ideal.nD Cert.Kernel7Ideal.τ).loc Cert.Kernel7Ideal.main_v2) = v2 c
          ∧ r.2.mem ((c.tc : Thread Cert.Kernel7Ideal.nD Cert.Kernel7Ideal.τ).loc Cert.Kernel7Ideal.main_v3) = v3 c
          ∧ r.2.mem ((c.tc : Thread Cert.Kernel7Ideal.nD Cert.Kernel7Ideal.τ).loc Cert.Kernel7Ideal.main_v4) = v4 c
          ∧ r.2.mem ((c.tc : Thread Cert.Kernel7Ideal.nD Cert.Kernel7Ideal.τ).loc Cert.Kernel7Ideal.main_v5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_v13) = v4 c
          ∧ r.2.mem ((c.tc : Thread Cert.Reference7Ideal.nD Cert.Reference7Ideal.τ).loc Cert.Reference7Ideal.main_v14) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0)) (v1 : (c : Dev Cert.Kernel8Ideal.nD) → Buf (Elt Ideal) ((c.tc : Thread Cert.Kernel8Ideal.nD Cert.Kernel8Ideal.τ).loc Cert.Kernel8Ideal.main_v1)) (v2 : (c : Dev Cert.Kernel8Ideal.nD) → Buf (Elt Ideal) ((c.tc : Thread Cert.Kernel8Ideal.nD Cert.Kernel8Ideal.τ).loc Cert.Kernel8Ideal.main_v2)) (v3 : (c : Dev Cert.Kernel8Ideal.nD) → Buf (Elt Ideal) ((c.tc : Thread Cert.Kernel8Ideal.nD Cert.Kernel8Ideal.τ).loc Cert.Kernel8Ideal.main_v3)) (v4 : (c : Dev Cert.Kernel8Ideal.nD) → Buf (Elt Ideal) ((c.tc : Thread Cert.Kernel8Ideal.nD Cert.Kernel8Ideal.τ).loc Cert.Kernel8Ideal.main_v4)) (v5 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_v1) = v1 c
          ∧ r.2.mem ((c.tc : Thread Cert.Kernel8Ideal.nD Cert.Kernel8Ideal.τ).loc Cert.Kernel8Ideal.main_v2) = v2 c
          ∧ r.2.mem ((c.tc : Thread Cert.Kernel8Ideal.nD Cert.Kernel8Ideal.τ).loc Cert.Kernel8Ideal.main_v3) = v3 c
          ∧ r.2.mem ((c.tc : Thread Cert.Kernel8Ideal.nD Cert.Kernel8Ideal.τ).loc Cert.Kernel8Ideal.main_v4) = v4 c
          ∧ r.2.mem ((c.tc : Thread Cert.Kernel8Ideal.nD Cert.Kernel8Ideal.τ).loc Cert.Kernel8Ideal.main_v5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_v20) = v2 c
          ∧ r.2.mem ((c.tc : Thread Cert.Reference8Ideal.nD Cert.Reference8Ideal.τ).loc Cert.Reference8Ideal.main_v27) = v3 c
          ∧ r.2.mem ((c.tc : Thread Cert.Reference8Ideal.nD Cert.Reference8Ideal.τ).loc Cert.Reference8Ideal.main_v34) = v4 c
          ∧ r.2.mem ((c.tc : Thread Cert.Reference8Ideal.nD Cert.Reference8Ideal.τ).loc Cert.Reference8Ideal.main_v41) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v2)) (v1 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_v3) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  IdealRules.named_const.Statement Cert.Kernel12Ideal.κ "mask" .f32 0xF149F2CA#32 ⊥

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v57) = v0 c
          ∧ r.2.mem ((c.tc : Thread Cert.Reference12Ideal.nD Cert.Reference12Ideal.τ).loc Cert.Reference12Ideal.main_v22) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v36) = v1 c
          ∧ r.2.mem ((c.tc : Thread Cert.Reference13Ideal.nD Cert.Reference13Ideal.τ).loc Cert.Reference13Ideal.main_v17) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v34) = v0 c
          ∧ r.2.mem ((c.tc : Thread Cert.Reference18Ideal.nD Cert.Reference18Ideal.τ).loc Cert.Reference18Ideal.main_v17) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v34) = v0 c
          ∧ r.2.mem ((c.tc : Thread Cert.Reference19Ideal.nD Cert.Reference19Ideal.τ).loc Cert.Reference19Ideal.main_v17) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v14) = v0 c
          ∧ r.2.mem ((c.tc : Thread Cert.Reference20Ideal.nD Cert.Reference20Ideal.τ).loc Cert.Reference20Ideal.main_v15) = v1 c
          ∧ r.2.mem ((c.tc : Thread Cert.Reference20Ideal.nD Cert.Reference20Ideal.τ).loc Cert.Reference20Ideal.main_v16) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S2048x6144 : Shape := ⟨2, ![2048, 6144]⟩
abbrev S2048x2048 : Shape := ⟨2, ![2048, 2048]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  bcast_S_S2048x2048 : S_.BroadcastsInDim S2048x2048 (![] : Fin 0 → Fin S2048x2048.rank)

variable [Facts]

def fn {F : FTy → Type} [FloatOps F] (main_arg0 : FVec F S2048x6144 .bf16) (main_arg1 : FVec F S2048x2048 .bf16) : IVec S2048x6144 1 × IVec S2048x2048 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  (main_v3, main_v7)
-- ==== Pre_finite12.lean ====
abbrev S2048x6144 : Shape := ⟨2, ![2048, 6144]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)

variable [Facts]

def fn {F : FTy → Type} [FloatOps F] (main_arg0 : FVec F S2048x6144 .bf16) : IVec S2048x6144 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  main_v3
-- ==== Kernel.lean ====
abbrev S2048x6144 : Shape := ⟨2, ![2048, 6144]⟩
abbrev S2048x2048 : Shape := ⟨2, ![2048, 2048]⟩
abbrev S1x2048x16x128 : Shape := ⟨4, ![1, 2048, 16, 128]⟩
abbrev S1x16x2048x128 : Shape := ⟨4, ![1, 16, 2048, 128]⟩
abbrev S1x16x2048x2048 : Shape := ⟨4, ![1, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x16x2048 : Shape := ⟨3, ![1, 16, 2048]⟩
abbrev S16x2048 : Shape := ⟨2, ![16, 2048]⟩
abbrev S16x2048x1 : Shape := ⟨3, ![16, 2048, 1]⟩
abbrev S256x512 : Shape := ⟨2, ![256, 512]⟩
abbrev S2048x512 : Shape := ⟨2, ![2048, 512]⟩
abbrev S4x256x1 : Shape := ⟨3, ![4, 256, 1]⟩
abbrev S512x256 : Shape := ⟨2, ![512, 256]⟩
abbrev S256x256 : Shape := ⟨2, ![256, 256]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩

abbrev nBuf : Space → Nat
  | .hbm => 49
  | .vmem => 20
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x6144, .f32⟩
  | .hbm, ⟨3, _⟩ => ⟨S2048x2048, .f32⟩
  | .hbm, ⟨4, _⟩ => ⟨S1x2048x16x128, .f32⟩
  | .hbm, ⟨5, _⟩ => ⟨S1x16x2048x128, .f32⟩
  | .hbm, ⟨6, _⟩ => ⟨S2048x2048, .f32⟩
  | .hbm, ⟨7, _⟩ => ⟨S1x2048x16x128, .f32⟩
  | .hbm, ⟨8, _⟩ => ⟨S1x16x2048x128, .f32⟩
  | .hbm, ⟨9, _⟩ => ⟨S1x16x2048x2048, .f32⟩
  | .hbm, ⟨10, _⟩ => ⟨S_, .f32⟩
  | .hbm, ⟨11, _⟩ => ⟨S1x16x2048x2048, .f32⟩
  | .hbm, ⟨12, _⟩ => ⟨S1x16x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S1x16x2048x2048, .f32⟩
  | .hbm, ⟨21, _⟩ => ⟨S1x16x2048x2048, .f32⟩
  | .hbm, ⟨22, _⟩ => ⟨S_, .f32⟩
  | .hbm, ⟨23, _⟩ => ⟨S1x16x2048x2048, .f32⟩
  | .hbm, ⟨24, _⟩ => ⟨S1x16x2048x2048, .f32⟩
  | .hbm, ⟨25, _⟩ => ⟨S1x16x2048x2048, .f32⟩
  | .hbm, ⟨26, _⟩ => ⟨S1x16x2048x2048, .f32⟩
  | .hbm, ⟨27, _⟩ => ⟨S1x16x2048x2048, .i1⟩
  | .hbm, ⟨28, _⟩ => ⟨S1x16x2048x2048, .f32⟩
  | .hbm, ⟨29, _⟩ => ⟨S1x16x2048x2048, .f32⟩
  | .hbm, ⟨30, _⟩ => ⟨S1x16x2048x2048, .f32⟩
  | .hbm, ⟨31, _⟩ => ⟨S1x16x2048x2048, .f32⟩
  | .hbm, ⟨32, _⟩ => ⟨S1x16x2048x2048, .f32⟩
  | .hbm, ⟨33, _⟩ => ⟨S1x16x2048x2048, .f32⟩
  | .hbm, ⟨34, _⟩ => ⟨S1x16x2048x2048, .f32⟩
  | .hbm, ⟨35, _⟩ => ⟨S1x16x2048x2048, .f32⟩
  | .hbm, ⟨36, _⟩ => ⟨S1x16x2048x2048, .f32⟩
  | .hbm, ⟨37, _⟩ => ⟨S_, .f32⟩
  | .hbm, ⟨38, _⟩ => ⟨S_, .f32⟩
  | .hbm, ⟨39, _⟩ => ⟨S1x16x2048x2048, .i1⟩
  | .hbm, ⟨40, _⟩ => ⟨S1x16x2048x2048, .f32⟩
  | .hbm, ⟨41, _⟩ => ⟨S1x16x2048x2048, .f32⟩
  | .hbm, ⟨42, _⟩ => ⟨S_, .f32⟩
  | .hbm, ⟨43, _⟩ => ⟨S1x16x2048, .f32⟩
  | .hbm, ⟨44, _⟩ => ⟨S16x2048, .f32⟩
  | .hbm, ⟨45, _⟩ => ⟨S16x2048x1, .f32⟩
  | .hbm, ⟨46, _⟩ => ⟨S2048x2048, .bf16⟩
  | .hbm, ⟨47, _⟩ => ⟨S2048x2048, .bf16⟩
  | .hbm, ⟨48, _⟩ => ⟨S2048x2048, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S4x256x1, .f32⟩
  | .local _ .vmem, ⟨9, _⟩ => ⟨S4x256x1, .f32⟩
  | .local _ .vmem, ⟨10, _⟩ => ⟨S256x512, .bf16⟩
  | .local _ .vmem, ⟨11, _⟩ => ⟨S256x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .f32⟩
  | .local _ .vmem, ⟨17, _⟩ => ⟨S2048x512, .f32⟩
  | .local _ .vmem, ⟨18, _⟩ => ⟨S512x256, .bf16⟩
  | .local _ .vmem, ⟨19, _⟩ => ⟨S512x256, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev main_v23_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_41 : BitVec 32 := 0#32
  let arg1 : BitVec 32 := BitVec.ofNat 32 (i 1).val
  let v53 : BitVec 32 := Scalar.subi arg1 c0_i32_41
  let c1_i32 : BitVec 32 := 1#32
  let v55 : BitVec 32 := Scalar.divsi v53 c1_i32
  let v56 : BitVec 32 := Scalar.muli v55 c1_i32
  let v57 : BitVec 32 := Scalar.addi c0_i32_41 v56
  let c1_i32_42 : BitVec 32 := 1#32
  ⟨c0_i32_41, v57, c1_i32_42⟩
def k0_mult1 (i : grid0.Coords) (k0_t1 : Fin (k0_t1_loop i).trips) : BitVec 32 :=
  let c0_i32_41 : BitVec 32 := 0#32
  let c1_i32_42 : BitVec 32 := 1#32
  let arg14 : BitVec 32 := Scf.iv c0_i32_41 c1_i32_42 k0_t1
  let c256_i32_149 : BitVec 32 := 256#32
  let v373 : BitVec 32 := Scalar.muli arg14 c256_i32_149
  v373
def k0_off1 (i : grid0.Coords) (k0_t1 : Fin (k0_t1_loop i).trips) : Fin 2 → Nat :=
  let c0_i32_41 : BitVec 32 := 0#32
  let c1_i32_42 : BitVec 32 := 1#32
  let arg14 : BitVec 32 := Scf.iv c0_i32_41 c1_i32_42 k0_t1
  let c256_i32_149 : BitVec 32 := 256#32
  let v373 : BitVec 32 := Scalar.muli arg14 c256_i32_149
  let v374 : BitVec 32 := v373
  let v375 : Index := Scalar.indexCast v374
  let c0_150 : Index := 0#32
  ![v375.toNat, 0]
def k0_off2 (i : grid0.Coords) (k0_t1 : Fin (k0_t1_loop i).trips) : Fin 2 → Nat :=
  let c0_i32_41 : BitVec 32 := 0#32
  let c1_i32_42 : BitVec 32 := 1#32
  let arg14 : BitVec 32 := Scf.iv c0_i32_41 c1_i32_42 k0_t1
  let c256_i32_149 : BitVec 32 := 256#32
  let v373 : BitVec 32 := Scalar.muli arg14 c256_i32_149
  let v374 : BitVec 32 := v373
  let v450 : Index := Scalar.indexCast v374
  let c128_174 : Index := 128#32
  ![v450.toNat, 128]
def k0_off3 (i : grid0.Coords) (k0_t1 : Fin (k0_t1_loop i).trips) : Fin 2 → Nat :=
  let c0_i32_41 : BitVec 32 := 0#32
  let c1_i32_42 : BitVec 32 := 1#32
  let arg14 : BitVec 32 := Scf.iv c0_i32_41 c1_i32_42 k0_t1
  let c256_i32_149 : BitVec 32 := 256#32
  let v373 : BitVec 32 := Scalar.muli arg14 c256_i32_149
  let v374 : BitVec 32 := v373
  let v525 : Index := Scalar.indexCast v374
  let c256_198 : Index := 256#32
  ![v525.toNat, 256]
def k0_off4 (i : grid0.Coords) (k0_t1 : Fin (k0_t1_loop i).trips) : Fin 2 → Nat :=
  let c0_i32_41 : BitVec 32 := 0#32
  let c1_i32_42 : BitVec 32 := 1#32
  let arg14 : BitVec 32 := Scf.iv c0_i32_41 c1_i32_42 k0_t1
  let c256_i32_149 : BitVec 32 := 256#32
  let v373 : BitVec 32 := Scalar.muli arg14 c256_i32_149
  let v374 : BitVec 32 := v373
  let v600 : Index := Scalar.indexCast v374
  let c384_222 : Index := 384#32
  ![v600.toNat, 384]
@[reducible] def k0_t2_loop (i : grid0.Coords) : Scf.Loop 32 :=
  let c0_i32_41 : BitVec 32 := 0#32
  let arg1 : BitVec 32 := BitVec.ofNat 32 (i 1).val
  let v53 : BitVec 32 := Scalar.subi arg1 c0_i32_41
  let c1_i32 : BitVec 32 := 1#32
  let v55 : BitVec 32 := Scalar.divsi v53 c1_i32
  let v56 : BitVec 32 := Scalar.muli v55 c1_i32
  let v57 : BitVec 32 := Scalar.addi c0_i32_41 v56
  let v54 : BitVec 32 := Scalar.addi c0_i32_41 v53
  let c1_i32_43 : BitVec 32 := 1#32
  ⟨v57, v54, c1_i32_43⟩
def k0_mult2 (i : grid0.Coords) (k0_t2 : Fin (k0_t2_loop i).trips) : BitVec 32 :=
  let c0_i32_41 : BitVec 32 := 0#32
  let arg1 : BitVec 32 := BitVec.ofNat 32 (i 1).val
  let v53 : BitVec 32 := Scalar.subi arg1 c0_i32_41
  let c1_i32 : BitVec 32 := 1#32
  let v55 : BitVec 32 := Scalar.divsi v53 c1_i32
  let v56 : BitVec 32 := Scalar.muli v55 c1_i32
  let v57 : BitVec 32 := Scalar.addi c0_i32_41 v56
  let c1_i32_43 : BitVec 32 := 1#32
  let arg14 : BitVec 32 := Scf.iv v57 c1_i32_43 k0_t2
  let c256_i32_149 : BitVec 32 := 256#32
  let v373 : BitVec 32 := Scalar.muli arg14 c256_i32_149
  v373
def k0_off5 (i : grid0.Coords) (k0_t2 : Fin (k0_t2_loop i).trips) : Fin 2 → Nat :=
  let c0_i32_41 : BitVec 32 := 0#32
  let arg1 : BitVec 32 := BitVec.ofNat 32 (i 1).val
  let v53 : BitVec 32 := Scalar.subi arg1 c0_i32_41
  let c1_i32 : BitVec 32 := 1#32
  let v55 : BitVec 32 := Scalar.divsi v53 c1_i32
  let v56 : BitVec 32 := Scalar.muli v55 c1_i32
  let v57 : BitVec 32 := Scalar.addi c0_i32_41 v56
  let c1_i32_43 : BitVec 32 := 1#32
  let arg14 : BitVec 32 := Scf.iv v57 c1_i32_43 k0_t2
  let c256_i32_149 : BitVec 32 := 256#32
  let v373 : BitVec 32 := Scalar.muli arg14 c256_i32_149
  let v374 : BitVec 32 := v373
  let v375 : Index := Scalar.indexCast v374
  let c0_150 : Index := 0#32
  ![v375.toNat, 0]
def k0_off6 (i : grid0.Coords) (k0_t2 : Fin (k0_t2_loop i).trips) : Fin 2 → Nat :=
  let c0_i32_41 : BitVec 32 := 0#32
  let arg1 : BitVec 32 := BitVec.ofNat 32 (i 1).val
  let v53 : BitVec 32 := Scalar.subi arg1 c0_i32_41
  let c1_i32 : BitVec 32 := 1#32
  let v55 : BitVec 32 := Scalar.divsi v53 c1_i32
  let v56 : BitVec 32 := Scalar.muli v55 c1_i32
  let v57 : BitVec 32 := Scalar.addi c0_i32_41 v56
  let c1_i32_43 : BitVec 32 := 1#32
  let arg14 : BitVec 32 := Scf.iv v57 c1_i32_43 k0_t2
  let c256_i32_149 : BitVec 32 := 256#32
  let v373 : BitVec 32 := Scalar.muli arg14 c256_i32_149
  let v374 : BitVec 32 := v373
  let v450 : Index := Scalar.indexCast v374
  let c128_174 : Index := 128#32
  ![v450.toNat, 128]
def k0_off7 (i : grid0.Coords) (k0_t2 : Fin (k0_t2_loop i).trips) : Fin 2 → Nat :=
  let c0_i32_41 : BitVec 32 := 0#32
  let arg1 : BitVec 32 := BitVec.ofNat 32 (i 1).val
  let v53 : BitVec 32 := Scalar.subi arg1 c0_i32_41
  let c1_i32 : BitVec 32 := 1#32
  let v55 : BitVec 32 := Scalar.divsi v53 c1_i32
  let v56 : BitVec 32 := Scalar.muli v55 c1_i32
  let v57 : BitVec 32 := Scalar.addi c0_i32_41 v56
  let c1_i32_43 : BitVec 32 := 1#32
  let arg14 : BitVec 32 := Scf.iv v57 c1_i32_43 k0_t2
  let c256_i32_149 : BitVec 32 := 256#32
  let v373 : BitVec 32 := Scalar.muli arg14 c256_i32_149
  let v374 : BitVec 32 := v373
  let v525 : Index := Scalar.indexCast v374
  let c256_198 : Index := 256#32
  ![v525.toNat, 256]
def k0_off8 (i : grid0.Coords) (k0_t2 : Fin (k0_t2_loop i).trips) : Fin 2 → Nat :=
  let c0_i32_41 : BitVec 32 := 0#32
  let arg1 : BitVec 32 := BitVec.ofNat 32 (i 1).val
  let v53 : BitVec 32 := Scalar.subi arg1 c0_i32_41
  let c1_i32 : BitVec 32 := 1#32
  let v55 : BitVec 32 := Scalar.divsi v53 c1_i32
  let v56 : BitVec 32 := Scalar.muli v55 c1_i32
  let v57 : BitVec 32 := Scalar.addi c0_i32_41 v56
  let c1_i32_43 : BitVec 32 := 1#32
  let arg14 : BitVec 32 := Scf.iv v57 c1_i32_43 k0_t2
  let c256_i32_149 : BitVec 32 := 256#32
  let v373 : BitVec 32 := Scalar.muli arg14 c256_i32_149
  let v374 : BitVec 32 := v373
  let v600 : Index := Scalar.indexCast v374
  let c384_222 : Index := 384#32
  ![v600.toNat, 384]
def k0_mult3 (i : grid0.Coords) : BitVec 32 :=
  let arg1 : BitVec 32 := BitVec.ofNat 32 (i 1).val
  let c256_i32 : BitVec 32 := 256#32
  let v60 : BitVec 32 := Scalar.muli arg1 c256_i32
  v60
def k0_off9 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v62 : Index := Scalar.indexCast v61
  let c0_44 : Index := 0#32
  ![v62.toNat, 0]
def k0_off10 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v137 : Index := Scalar.indexCast v61
  let c128_68 : Index := 128#32
  ![v137.toNat, 128]
def k0_off11 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v212 : Index := Scalar.indexCast v61
  let c256_92 : Index := 256#32
  ![v212.toNat, 256]
def k0_off12 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v287 : Index := Scalar.indexCast v61
  let c384_116 : Index := 384#32
  ![v287.toNat, 384]
def k0_cond2 (i : grid0.Coords) : BitVec 1 :=
  let arg1 : BitVec 32 := BitVec.ofNat 32 (i 1).val
  let c7_i32 : BitVec 32 := 7#32
  let v370 : BitVec 1 := Scalar.cmpi .eq arg1 c7_i32
  let v371 : BitVec 32 := Scalar.extui v370
  let c0_i32_148 : BitVec 32 := 0#32
  let v372 : BitVec 1 := Scalar.cmpi .ne v371 c0_i32_148
  v372

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x6144 : Shape := ⟨2, ![2048, 6144]⟩
abbrev S2048x2048 : Shape := ⟨2, ![2048, 2048]⟩
abbrev S1x2048x16x128 : Shape := ⟨4, ![1, 2048, 16, 128]⟩
abbrev S1x16x2048x128 : Shape := ⟨4, ![1, 16, 2048, 128]⟩
abbrev S1x16x2048x2048 : Shape := ⟨4, ![1, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x16x128x2048 : Shape := ⟨4, ![1, 16, 128, 2048]⟩

abbrev nBuf : Space → Nat
  | .hbm => 186
  | .vmem => 0
  | .smem => 0
  | _ => 0

abbrev hbmTy0_0 (i : Nat) : BufTy := match i % 128 with
  | 0 => ⟨S2048x6144, .bf16⟩
  | 1 => ⟨S2048x2048, .bf16⟩
  | 2 => ⟨S2048x6144, .f32⟩
  | 3 => ⟨S2048x2048, .f32⟩
  | 4 => ⟨S2048x2048, .f32⟩
  | 5 => ⟨S2048x2048, .f32⟩
  | 6 => ⟨S1x2048x16x128, .f32⟩
  | 7 => ⟨S1x16x2048x128, .f32⟩
  | 8 => ⟨S1x2048x16x128, .f32⟩
  | 9 => ⟨S1x16x2048x128, .f32⟩
  | 10 => ⟨S1x2048x16x128, .f32⟩
  | 11 => ⟨S1x16x2048x128, .f32⟩
  | 12 => ⟨S1x16x2048x2048, .f32⟩
  | 13 => ⟨S_, .f32⟩
  | 14 => ⟨S1x16x2048x2048, .f32⟩
  | 15 => ⟨S1x16x2048x2048, .f32⟩
  | 16 => ⟨S2048, .i32⟩
  | 17 => ⟨S1x2048, .i32⟩
  | 18 => ⟨S2048, .i32⟩
  | 19 => ⟨S_, .i32⟩
  | 20 => ⟨S2048, .i32⟩
  | 21 => ⟨S2048, .i32⟩
  | 22 => ⟨S2048x1, .i32⟩
  | 23 => ⟨S2048x2048, .i32⟩
  | 24 => ⟨S2048x2048, .i32⟩
  | 25 => ⟨S2048x2048, .i1⟩
  | 26 => ⟨S1x16x2048x2048, .f32⟩
  | 27 => ⟨S1x16x2048x2048, .f32⟩
  | 28 => ⟨S_, .f32⟩
  | 29 => ⟨S1x16x2048x2048, .f32⟩
  | 30 => ⟨S1x16x2048x2048, .f32⟩
  | 31 => ⟨S1x16x2048x2048, .f32⟩
  | 32 => ⟨S1x16x2048x2048, .f32⟩
  | 33 => ⟨S1x16x2048x2048, .i1⟩
  | 34 => ⟨S1x16x2048x2048, .f32⟩
  | 35 => ⟨S1x16x2048x2048, .f32⟩
  | 36 => ⟨S1x16x2048x2048, .f32⟩
  | 37 => ⟨S1x16x2048x2048, .f32⟩
  | 38 => ⟨S1x16x2048x2048, .f32⟩
  | 39 => ⟨S1x16x2048x2048, .f32⟩
  | 40 => ⟨S1x16x2048x2048, .f32⟩
  | 41 => ⟨S1x16x2048x2048, .f32⟩
  | 42 => ⟨S_, .f32⟩
  | 43 => ⟨S1x16x2048x2048, .f32⟩
  | 44 => ⟨S1x16x2048x2048, .i1⟩
  | 45 => ⟨S_, .f32⟩
  | 46 => ⟨S1x16x2048x2048, .f32⟩
  | 47 => ⟨S1x16x2048x2048, .f32⟩
  | 48 => ⟨S_, .f32⟩
  | 49 => ⟨S1x16x2048x2048, .f32⟩
  | 50 => ⟨S1x16x2048x2048, .i1⟩
  | 51 => ⟨S_, .f32⟩
  | 52 => ⟨S1x16x2048x2048, .f32⟩
  | 53 => ⟨S1x16x2048x2048, .f32⟩
  | 54 => ⟨S1x16x2048x2048, .f32⟩
  | 55 => ⟨S1x16x2048x2048, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S_, .f32⟩
  | 63 => ⟨S1x16x2048x2048, .f32⟩
  | 64 => ⟨S1x16x2048x2048, .i1⟩
  | 65 => ⟨S_, .f32⟩
  | 66 => ⟨S1x16x2048x2048, .f32⟩
  | 67 => ⟨S1x16x2048x2048, .f32⟩
  | 68 => ⟨S1x16x2048x2048, .f32⟩
  | 69 => ⟨S1x16x2048x2048, .f32⟩
  | 70 => ⟨S1x16x2048x2048, .f32⟩
  | 71 => ⟨S_, .f32⟩
  | 72 => ⟨S1x16x2048x2048, .f32⟩
  | 73 => ⟨S1x16x2048x2048, .f32⟩
  | 74 => ⟨S1x16x2048x2048, .f32⟩
  | 75 => ⟨S_, .f32⟩
  | 76 => ⟨S_, .f32⟩
  | 77 => ⟨S1x16x2048x2048, .i1⟩
  | 78 => ⟨S1x16x2048x2048, .f32⟩
  | 79 => ⟨S1x16x2048x2048, .f32⟩
  | 80 => ⟨S_, .f32⟩
  | 81 => ⟨S1x16x2048x2048, .f32⟩
  | 82 => ⟨S_, .f32⟩
  | 83 => ⟨S_, .f32⟩
  | 84 => ⟨S1x16x2048x2048, .f32⟩
  | 85 => ⟨S1x16x2048x2048, .f32⟩
  | 86 => ⟨S1x16x2048x2048, .f32⟩
  | 87 => ⟨S_, .f32⟩
  | 88 => ⟨S1x16x2048x2048, .f32⟩
  | 89 => ⟨S1x16x2048x2048, .f32⟩
  | 90 => ⟨S1x16x2048x2048, .f32⟩
  | 91 => ⟨S1x16x2048x2048, .f32⟩
  | 92 => ⟨S1x16x2048x2048, .i1⟩
  | 93 => ⟨S1x16x2048x2048, .f32⟩
  | 94 => ⟨S1x16x2048x2048, .f32⟩
  | 95 => ⟨S1x16x2048x2048, .f32⟩
  | 96 => ⟨S1x16x2048x2048, .f32⟩
  | 97 => ⟨S1x16x2048x2048, .f32⟩
  | 98 => ⟨S1x16x2048x2048, .f32⟩
  | 99 => ⟨S1x16x2048x2048, .f32⟩
  | 100 => ⟨S1x16x2048x2048, .f32⟩
  | 101 => ⟨S_, .f32⟩
  | 102 => ⟨S1x16x2048x2048, .f32⟩
  | 103 => ⟨S1x16x2048x2048, .i1⟩
  | 104 => ⟨S_, .f32⟩
  | 105 => ⟨S1x16x2048x2048, .f32⟩
  | 106 => ⟨S1x16x2048x2048, .f32⟩
  | 107 => ⟨S_, .f32⟩
  | 108 => ⟨S1x16x2048x2048, .f32⟩
  | 109 => ⟨S1x16x2048x2048, .i1⟩
  | 110 => ⟨S_, .f32⟩
  | 111 => ⟨S1x16x2048x2048, .f32⟩
  | 112 => ⟨S1x16x2048x2048, .f32⟩
  | 113 => ⟨S1x16x2048x2048, .f32⟩
  | 114 => ⟨S1x16x2048x2048, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S1x16x2048x2048, .f32⟩
  | 123 => ⟨S1x16x2048x2048, .i1⟩
  | 124 => ⟨S_, .f32⟩
  | 125 => ⟨S1x16x2048x2048, .f32⟩
  | 126 => ⟨S1x16x2048x2048, .f32⟩
  | 127 => ⟨S1x16x2048x2048, .f32⟩
  | _ => ⟨S2048x6144, .bf16⟩

abbrev hbmTy0_1 (i : Nat) : BufTy := match i % 128 with
  | 0 => ⟨S1x16x2048x2048, .f32⟩
  | 1 => ⟨S1x16x2048x2048, .f32⟩
  | 2 => ⟨S_, .f32⟩
  | 3 => ⟨S1x16x2048x2048, .f32⟩
  | 4 => ⟨S1x16x2048x2048, .f32⟩
  | 5 => ⟨S1x16x2048x2048, .f32⟩
  | 6 => ⟨S1x16x2048x2048, .f32⟩
  | 7 => ⟨S1x16x2048x2048, .f32⟩
  | 8 => ⟨S_, .f32⟩
  | 9 => ⟨S_, .f32⟩
  | 10 => ⟨S1x16x2048x2048, .i1⟩
  | 11 => ⟨S1x16x2048x2048, .f32⟩
  | 12 => ⟨S1x16x2048x2048, .f32⟩
  | 13 => ⟨S_, .f32⟩
  | 14 => ⟨S1x16x2048x2048, .f32⟩
  | 15 => ⟨S1x16x2048x128, .f32⟩
  | 16 => ⟨S1x2048x16x128, .f32⟩
  | 17 => ⟨S2048x2048, .f32⟩
  | 18 => ⟨S2048x2048, .f32⟩
  | 19 => ⟨S1x2048x16x128, .f32⟩
  | 20 => ⟨S1x16x2048x128, .f32⟩
  | 21 => ⟨S1x16x128x2048, .f32⟩
  | 22 => ⟨S1x16x2048x128, .f32⟩
  | 23 => ⟨S1x16x2048x2048, .f32⟩
  | 24 => ⟨S_, .f32⟩
  | 25 => ⟨S1x16x2048x2048, .f32⟩
  | 26 => ⟨S1x16x2048x2048, .f32⟩
  | 27 => ⟨S1x16x2048x2048, .f32⟩
  | 28 => ⟨S1x16x2048x2048, .f32⟩
  | 29 => ⟨S1x16x2048x2048, .f32⟩
  | 30 => ⟨S1x16x2048x2048, .f32⟩
  | 31 => ⟨S1x16x2048x2048, .f32⟩
  | 32 => ⟨S_, .f32⟩
  | 33 => ⟨S_, .f32⟩
  | 34 => ⟨S1x16x2048x2048, .f32⟩
  | 35 => ⟨S1x16x2048x2048, .f32⟩
  | 36 => ⟨S_, .f32⟩
  | 37 => ⟨S1x16x2048x2048, .f32⟩
  | 38 => ⟨S1x16x2048x2048, .f32⟩
  | 39 => ⟨S1x16x2048x2048, .f32⟩
  | 40 => ⟨S1x16x2048x2048, .f32⟩
  | 41 => ⟨S1x16x2048x2048, .f32⟩
  | 42 => ⟨S1x16x2048x2048, .f32⟩
  | 43 => ⟨S1x16x2048x2048, .f32⟩
  | 44 => ⟨S_, .f32⟩
  | 45 => ⟨S1x16x2048x2048, .f32⟩
  | 46 => ⟨S1x16x2048x2048, .f32⟩
  | 47 => ⟨S1x16x2048x128, .f32⟩
  | 48 => ⟨S1x16x2048x128, .f32⟩
  | 49 => ⟨S1x2048x16x128, .f32⟩
  | 50 => ⟨S2048x2048, .f32⟩
  | 51 => ⟨S1x2048x16x128, .f32⟩
  | 52 => ⟨S2048x2048, .f32⟩
  | 53 => ⟨S1x2048x16x128, .f32⟩
  | 54 => ⟨S2048x2048, .f32⟩
  | 55 => ⟨S2048x2048, .bf16⟩
  | 56 => ⟨S2048x2048, .bf16⟩
  | 57 => ⟨S2048x2048, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1_0 : Ref sig .tc := ⟨.hbm, 41, rfl⟩
abbrev main_call0_call0_cst_0 : Ref sig .tc := ⟨.hbm, 42, rfl⟩
abbrev main_call0_call0_v13 : Ref sig .tc := ⟨.hbm, 43, rfl⟩
abbrev main_call0_call0_v14 : Ref sig .tc := ⟨.hbm, 44, rfl⟩
abbrev main_call0_call0_cst_1 : Ref sig .tc := ⟨.hbm, 45, rfl⟩
abbrev main_call0_call0_v15 : Ref sig .tc := ⟨.hbm, 46, rfl⟩
abbrev main_call0_call0_v16 : Ref sig .tc := ⟨.hbm, 47, rfl⟩
abbrev main_call0_call0_cst_2 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_cst_3 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_v21 : Ref sig .tc := ⟨.hbm, 54, rfl⟩
abbrev main_v23_1 : Ref sig .tc := ⟨.hbm, 55, rfl⟩
abbrev main_call0_call0_cst_4 : Ref sig .tc := ⟨.hbm, 56, rfl⟩
abbrev main_call0_call0_cst_5 : Ref sig .tc := ⟨.hbm, 57, rfl⟩
abbrev main_call0_call0_v23 : Ref sig .tc := ⟨.hbm, 58, rfl⟩
abbrev main_call0_call0_cst_6 : Ref sig .tc := ⟨.hbm, 59, rfl⟩
abbrev main_call0_call0_cst_7 : Ref sig .tc := ⟨.hbm, 60, rfl⟩
abbrev main_call0_call0_v24 : Ref sig .tc := ⟨.hbm, 61, rfl⟩
abbrev main_call0_call0_cst_8 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_cst_9 : Ref sig .tc := ⟨.hbm, 65, rfl⟩
abbrev main_call0_call0_v27 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_cst_10 : Ref sig .tc := ⟨.hbm, 71, rfl⟩
abbrev main_call0_call0_v32 : Ref sig .tc := ⟨.hbm, 72, rfl⟩
abbrev main_v23_2 : Ref sig .tc := ⟨.hbm, 73, rfl⟩
abbrev main_v23_0 : Ref sig .tc := ⟨.hbm, 74, rfl⟩
abbrev main_cst_0 : Ref sig .tc := ⟨.hbm, 75, rfl⟩
abbrev main_call1_v0 : Ref sig .tc := ⟨.hbm, 76, rfl⟩
abbrev main_v24_1 : Ref sig .tc := ⟨.hbm, 77, rfl⟩
abbrev main_call1_v2 : Ref sig .tc := ⟨.hbm, 78, rfl⟩
abbrev main_v24_0 : Ref sig .tc := ⟨.hbm, 79, rfl⟩
abbrev main_call1_cst : Ref sig .tc := ⟨.hbm, 80, rfl⟩
abbrev main_v24_2 : Ref sig .tc := ⟨.hbm, 81, rfl⟩
abbrev main_call2_cst : Ref sig .tc := ⟨.hbm, 82, rfl⟩
abbrev main_call2_v0 : Ref sig .tc := ⟨.hbm, 83, rfl⟩
abbrev main_v25 : Ref sig .tc := ⟨.hbm, 84, rfl⟩
abbrev main_v26 : Ref sig .tc := ⟨.hbm, 85, rfl⟩
abbrev main_call3_v0 : Ref sig .tc := ⟨.hbm, 86, rfl⟩
abbrev main_call3_call0_cst : Ref sig .tc := ⟨.hbm, 87, rfl⟩
abbrev main_call3_call0_v0 : Ref sig .tc := ⟨.hbm, 88, rfl⟩
abbrev main_call3_call0_v1 : Ref sig .tc := ⟨.hbm, 89, rfl⟩
abbrev main_call3_call0_v2 : Ref sig .tc := ⟨.hbm, 90, rfl⟩
abbrev main_call3_call0_v3 : Ref sig .tc := ⟨.hbm, 91, rfl⟩
abbrev main_call3_call0_v4 : Ref sig .tc := ⟨.hbm, 92, rfl⟩
abbrev main_call3_call0_v5 : Ref sig .tc := ⟨.hbm, 93, rfl⟩
abbrev main_call3_call0_v6 : Ref sig .tc := ⟨.hbm, 94, rfl⟩
abbrev main_call3_call0_v7 : Ref sig .tc := ⟨.hbm, 95, rfl⟩
abbrev main_call3_call0_v8 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_v1_0 : Ref sig .tc := ⟨.hbm, 100, rfl⟩
abbrev main_call3_call0_cst_0 : Ref sig .tc := ⟨.hbm, 101, rfl⟩
abbrev main_call3_call0_v13 : Ref sig .tc := ⟨.hbm, 102, rfl⟩
abbrev main_call3_call0_v14 : Ref sig .tc := ⟨.hbm, 103, rfl⟩
abbrev main_call3_call0_cst_1 : Ref sig .tc := ⟨.hbm, 104, rfl⟩
abbrev main_call3_call0_v15 : Ref sig .tc := ⟨.hbm, 105, rfl⟩
abbrev main_call3_call0_v16 : Ref sig .tc := ⟨.hbm, 106, rfl⟩
abbrev main_call3_call0_cst_2 : Ref sig .tc := ⟨.hbm, 107, rfl⟩
abbrev main_call3_call0_v17 : Ref sig .tc := ⟨.hbm, 108, rfl⟩
abbrev main_call3_call0_v18 : Ref sig .tc := ⟨.hbm, 109, rfl⟩
abbrev main_call3_call0_cst_3 : Ref sig .tc := ⟨.hbm, 110, rfl⟩
abbrev main_call3_call0_v19 : Ref sig .tc := ⟨.hbm, 111, rfl⟩
abbrev main_call3_call0_v20 : Ref sig .tc := ⟨.hbm, 112, rfl⟩
abbrev main_call3_call0_v21 : Ref sig .tc := ⟨.hbm, 113, rfl⟩
abbrev main_v27_1 : Ref sig .tc := ⟨.hbm, 114, rfl⟩
abbrev main_call3_call0_cst_4 : Ref sig .tc := ⟨.hbm, 115, rfl⟩
abbrev main_call3_call0_cst_5 : Ref sig .tc := ⟨.hbm, 116, rfl⟩
abbrev main_call3_call0_v23 : Ref sig .tc := ⟨.hbm, 117, rfl⟩
abbrev main_call3_call0_cst_6 : Ref sig .tc := ⟨.hbm, 118, rfl⟩
abbrev main_call3_call0_cst_7 : Ref sig .tc := ⟨.hbm, 119, rfl⟩
abbrev main_call3_call0_v24 : Ref sig .tc := ⟨.hbm, 120, rfl⟩
abbrev main_call3_call0_cst_8 : Ref sig .tc := ⟨.hbm, 121, rfl⟩
abbrev main_call3_call0_v25 : Ref sig .tc := ⟨.hbm, 122, rfl⟩
abbrev main_call3_call0_v26 : Ref sig .tc := ⟨.hbm, 123, rfl⟩
abbrev main_call3_call0_cst_9 : Ref sig .tc := ⟨.hbm, 124, rfl⟩
abbrev main_call3_call0_v27 : Ref sig .tc := ⟨.hbm, 125, rfl⟩
abbrev main_call3_call0_v28 : Ref sig .tc := ⟨.hbm, 126, rfl⟩
abbrev main_call3_call0_v29 : Ref sig .tc := ⟨.hbm, 127, rfl⟩
abbrev main_call3_call0_v30 : Ref sig .tc := ⟨.hbm, 128, rfl⟩
abbrev main_call3_call0_v31 : Ref sig .tc := ⟨.hbm, 129, rfl⟩
abbrev main_call3_call0_cst_10 : Ref sig .tc := ⟨.hbm, 130, rfl⟩
abbrev main_call3_call0_v32 : Ref sig .tc := ⟨.hbm, 131, rfl⟩
abbrev main_v27_2 : Ref sig .tc := ⟨.hbm, 132, rfl⟩
abbrev main_v27_0 : Ref sig .tc := ⟨.hbm, 133, rfl⟩
abbrev main_v28 : Ref sig .tc := ⟨.hbm, 134, rfl⟩
abbrev main_v29 : Ref sig .tc := ⟨.hbm, 135, rfl⟩
abbrev main_cst_1 : Ref sig .tc := ⟨.hbm, 136, rfl⟩
abbrev main_call4_v0 : Ref sig .tc := ⟨.hbm, 137, rfl⟩
abbrev main_v30_1 : Ref sig .tc := ⟨.hbm, 138, rfl⟩
abbrev main_call4_v2 : Ref sig .tc := ⟨.hbm, 139, rfl⟩
abbrev main_v30_0 : Ref sig .tc := ⟨.hbm, 140, rfl⟩
abbrev main_call4_cst : Ref sig .tc := ⟨.hbm, 141, rfl⟩
abbrev main_v30_2 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_call5_cst : Ref sig .tc := ⟨.hbm, 152, rfl⟩
abbrev main_call5_v0 : Ref sig .tc := ⟨.hbm, 153, rfl⟩
abbrev main_v40 : Ref sig .tc := ⟨.hbm, 154, rfl⟩
abbrev main_v41 : Ref sig .tc := ⟨.hbm, 155, rfl⟩
abbrev main_call6_v0 : Ref sig .tc := ⟨.hbm, 156, rfl⟩
abbrev main_call6_v1 : Ref sig .tc := ⟨.hbm, 157, rfl⟩
abbrev main_v42 : Ref sig .tc := ⟨.hbm, 158, rfl⟩
abbrev main_v43 : Ref sig .tc := ⟨.hbm, 159, rfl⟩
abbrev main_call7_cst : Ref sig .tc := ⟨.hbm, 160, rfl⟩
abbrev main_call7_v0 : Ref sig .tc := ⟨.hbm, 161, rfl⟩
abbrev main_v44 : Ref sig .tc := ⟨.hbm, 162, rfl⟩
abbrev main_v45 : Ref sig .tc := ⟨.hbm, 163, rfl⟩
abbrev main_call8_cst : Ref sig .tc := ⟨.hbm, 164, rfl⟩
abbrev main_call8_v0 : Ref sig .tc := ⟨.hbm, 165, rfl⟩
abbrev main_v46 : Ref sig .tc := ⟨.hbm, 166, rfl⟩
abbrev main_call9_v0 : Ref sig .tc := ⟨.hbm, 167, rfl⟩
abbrev main_call9_v1 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_cst_2 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩

abbrev nD : Nat := 1
abbrev τ : Topo := Topo.v7x

variable {F : FTy → Type} [FloatOps F]
-- ==== Kernel2.lean ====
abbrev S2048x2048 : Shape := ⟨2, ![2048, 2048]⟩
abbrev S2048x8192 : Shape := ⟨2, ![2048, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8192x2048, .bf16⟩
  | .hbm, ⟨3, _⟩ => ⟨S2048x2048, .bf16⟩
  | .hbm, ⟨4, _⟩ => ⟨S2048x8192, .f32⟩
  | .hbm, ⟨5, _⟩ => ⟨S2048x8192, .bf16⟩
  | .hbm, ⟨6, _⟩ => ⟨S2048x8192, .bf16⟩
  | .hbm, ⟨7, _⟩ => ⟨S8192x2048, .bf16⟩
  | .hbm, ⟨8, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S2048x1024, .bf16⟩
  | .local _ .vmem, ⟨17, _⟩ => ⟨S2048x1024, .bf16⟩
  | .local _ .vmem, ⟨18, _⟩ => ⟨S2048x1024, .bf16⟩
  | .local _ .vmem, ⟨19, _⟩ => ⟨S2048x1024, .bf16⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S1024x1024, .bf16⟩
  | .local _ .vmem, ⟨27, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8192x2048, .bf16⟩
  | .hbm, ⟨3, _⟩ => ⟨S2048x2048, .bf16⟩
  | .hbm, ⟨4, _⟩ => ⟨S2048x2048, .f32⟩
  | .hbm, ⟨5, _⟩ => ⟨S2048x8192, .f32⟩
  | .hbm, ⟨6, _⟩ => ⟨S8192x2048, .f32⟩
  | .hbm, ⟨7, _⟩ => ⟨S2048x2048, .f32⟩
  | .hbm, ⟨8, _⟩ => ⟨S2048x8192, .f32⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .i1⟩
  | .hbm, ⟨15, _⟩ => ⟨S_, .f32⟩
  | .hbm, ⟨16, _⟩ => ⟨S2048x8192, .f32⟩
  | .hbm, ⟨17, _⟩ => ⟨S2048x8192, .f32⟩
  | .hbm, ⟨18, _⟩ => ⟨S2048x2048, .f32⟩
  | .hbm, ⟨19, _⟩ => ⟨S2048x8192, .f32⟩
  | .hbm, ⟨20, _⟩ => ⟨S8192x2048, .f32⟩
  | .hbm, ⟨21, _⟩ => ⟨S2048x8192, .f32⟩
  | .hbm, ⟨22, _⟩ => ⟨S2048x8192, .f32⟩
  | .hbm, ⟨23, _⟩ => ⟨S2048x8192, .f32⟩
  | .hbm, ⟨24, _⟩ => ⟨S2048x8192, .f32⟩
  | .hbm, ⟨25, _⟩ => ⟨S_, .f32⟩
  | .hbm, ⟨26, _⟩ => ⟨S2048x8192, .f32⟩
  | .hbm, ⟨27, _⟩ => ⟨S2048x8192, .f32⟩
  | .hbm, ⟨28, _⟩ => ⟨S8192x2048, .f32⟩
  | .hbm, ⟨29, _⟩ => ⟨S2048x8192, .f32⟩
  | .hbm, ⟨30, _⟩ => ⟨S2048x2048, .f32⟩
  | .hbm, ⟨31, _⟩ => ⟨S2048x8192, .bf16⟩
  | .hbm, ⟨32, _⟩ => ⟨S2048x8192, .bf16⟩
  | .hbm, ⟨33, _⟩ => ⟨S2048x8192, .bf16⟩
  | .hbm, ⟨34, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel3.lean ====
abbrev S2048x8192 : Shape := ⟨2, ![2048, 8192]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2048x2048 : Shape := ⟨2, ![2048, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 13
  | .vmem => 38
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x6144, .bf16⟩
  | .hbm, ⟨6, _⟩ => ⟨S2048x6144, .bf16⟩
  | .hbm, ⟨7, _⟩ => ⟨S2048x2048, .f32⟩
  | .hbm, ⟨8, _⟩ => ⟨S2048x2048, .bf16⟩
  | .hbm, ⟨9, _⟩ => ⟨S2048x2048, .bf16⟩
  | .hbm, ⟨10, _⟩ => ⟨S2048x6144, .bf16⟩
  | .hbm, ⟨11, _⟩ => ⟨S2048x6144, .f32⟩
  | .hbm, ⟨12, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S2048x1024, .bf16⟩
  | .local _ .vmem, ⟨15, _⟩ => ⟨S2048x1024, .bf16⟩
  | .local _ .vmem, ⟨16, _⟩ => ⟨S2048x1024, .bf16⟩
  | .local _ .vmem, ⟨17, _⟩ => ⟨S2048x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x2048, .bf16⟩
  | .local _ .vmem, ⟨21, _⟩ => ⟨S1024x2048, .bf16⟩
  | .local _ .vmem, ⟨22, _⟩ => ⟨S2048x1024, .bf16⟩
  | .local _ .vmem, ⟨23, _⟩ => ⟨S2048x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x2048, .bf16⟩
  | .local _ .vmem, ⟨27, _⟩ => ⟨S1024x2048, .bf16⟩
  | .local _ .vmem, ⟨28, _⟩ => ⟨S2048x1024, .bf16⟩
  | .local _ .vmem, ⟨29, _⟩ => ⟨S2048x1024, .bf16⟩
  | .local _ .vmem, ⟨30, _⟩ => ⟨S1024x1024, .f32⟩
  | .local _ .vmem, ⟨31, _⟩ => ⟨S1024x1024, .f32⟩
  | .local _ .vmem, ⟨32, _⟩ => ⟨S2048x1024, .bf16⟩
  | .local _ .vmem, ⟨33, _⟩ => ⟨S2048x1024, .bf16⟩
  | .local _ .vmem, ⟨34, _⟩ => ⟨S2048x1024, .bf16⟩
  | .local _ .vmem, ⟨35, _⟩ => ⟨S2048x1024, .bf16⟩
  | .local _ .vmem, ⟨36, _⟩ => ⟨S1024x1024, .bf16⟩
  | .local _ .vmem, ⟨37, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 6, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 6, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 6, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference5Ideal.lean ====
abbrev S2048x2048 : Shape := ⟨2, ![2048, 2048]⟩
abbrev S2048x6144 : Shape := ⟨2, ![2048, 6144]⟩
abbrev S6144x2048 : Shape := ⟨2, ![6144, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x6144, .bf16⟩
  | .hbm, ⟨6, _⟩ => ⟨S2048x6144, .bf16⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x6144, .f32⟩
  | .hbm, ⟨12, _⟩ => ⟨S2048x6144, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x6144, .f32⟩
  | .hbm, ⟨18, _⟩ => ⟨S6144x2048, .f32⟩
  | .hbm, ⟨19, _⟩ => ⟨S2048x6144, .f32⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S2048x2048, .bf16⟩
  | .hbm, ⟨24, _⟩ => ⟨S2048x6144, .bf16⟩
  | .hbm, ⟨25, _⟩ => ⟨S2048x6144, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S2048x6144 : Shape := ⟨2, ![2048, 6144]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x6144 : Shape := ⟨2, ![2048, 6144]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S_, .f32⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x6144, .f32⟩
  | .hbm, ⟨7, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2048x2048 : Shape := ⟨2, ![2048, 2048]⟩
abbrev S2048x768 : Shape := ⟨2, ![2048, 768]⟩
abbrev S2048x512 : Shape := ⟨2, ![2048, 512]⟩
abbrev S2048x128 : Shape := ⟨2, ![2048, 128]⟩
abbrev S768x4096 : Shape := ⟨2, ![768, 4096]⟩
abbrev S512x4096 : Shape := ⟨2, ![512, 4096]⟩
abbrev S1024x2048 : Shape := ⟨2, ![1024, 2048]⟩
abbrev S1024x768 : Shape := ⟨2, ![1024, 768]⟩
abbrev S1024x512 : Shape := ⟨2, ![1024, 512]⟩
abbrev S1024x128 : Shape := ⟨2, ![1024, 128]⟩
abbrev S2048x4096 : Shape := ⟨2, ![2048, 4096]⟩
abbrev S768x1024 : Shape := ⟨2, ![768, 1024]⟩
abbrev S1024x1024 : Shape := ⟨2, ![1024, 1024]⟩
abbrev S512x1024 : Shape := ⟨2, ![512, 1024]⟩

abbrev nBuf : Space → Nat
  | .hbm => 15
  | .vmem => 32
  | .smem => 0
  | _ => 0

abbrev bufTy : (tb : Table) → Fin (tcTables nBuf tb) → BufTy
  | .hbm, ⟨0, _⟩ => ⟨S2048x2048, .bf16⟩
  | .hbm, ⟨1, _⟩ => ⟨S2048x768, .bf16⟩
  | .hbm, ⟨2, _⟩ => ⟨S2048x512, .bf16⟩
  | .hbm, ⟨3, _⟩ => ⟨S2048x128, .bf16⟩
  | .hbm, ⟨4, _⟩ => ⟨S2048x128, .bf16⟩
  | .hbm, ⟨5, _⟩ => ⟨S2048x768, .bf16⟩
  | .hbm, ⟨6, _⟩ => ⟨S768x4096, .bf16⟩
  | .hbm, ⟨7, _⟩ => ⟨S2048x512, .bf16⟩
  | .hbm, ⟨8, _⟩ => ⟨S512x4096, .bf16⟩
  | .hbm, ⟨9, _⟩ => ⟨S2048x768, .f32⟩
  | .hbm, ⟨10, _⟩ => ⟨S2048x512, .f32⟩
  | .hbm, ⟨11, _⟩ => ⟨S2048x128, .f32⟩
  | .hbm, ⟨12, _⟩ => ⟨S2048x128, .f32⟩
  | .hbm, ⟨13, _⟩ => ⟨S2048x4096, .f32⟩
  | .hbm, ⟨14, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S1024x768, .f32⟩
  | .local _ .vmem, ⟨4, _⟩ => ⟨S1024x768, .f32⟩
  | .local _ .vmem, ⟨5, _⟩ => ⟨S1024x2048, .bf16⟩
  | .local _ .vmem, ⟨6, _⟩ => ⟨S1024x2048, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | .local _ .vmem, ⟨11, _⟩ => ⟨S1024x2048, .bf16⟩
  | .local _ .vmem, ⟨12, _⟩ => ⟨S2048x128, .bf16⟩
  | .local _ .vmem, ⟨13, _⟩ => ⟨S1024x128, .f32⟩
  | .local _ .vmem, ⟨14, _⟩ => ⟨S1024x128, .f32⟩
  | .local _ .vmem, ⟨15, _⟩ => ⟨S1024x2048, .bf16⟩
  | .local _ .vmem, ⟨16, _⟩ => ⟨S1024x2048, .bf16⟩
  | .local _ .vmem, ⟨17, _⟩ => ⟨S2048x128, .bf16⟩
  | .local _ .vmem, ⟨18, _⟩ => ⟨S1024x128, .f32⟩
  | .local _ .vmem, ⟨19, _⟩ => ⟨S1024x128, .f32⟩
  | .local _ .vmem, ⟨20, _⟩ => ⟨S1024x768, .bf16⟩
  | .local _ .vmem, ⟨21, _⟩ => ⟨S1024x768, .bf16⟩
  | .local _ .vmem, ⟨22, _⟩ => ⟨S768x1024, .bf16⟩
  | .local _ .vmem, ⟨23, _⟩ => ⟨S768x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x512, .bf16⟩
  | .local _ .vmem, ⟨27, _⟩ => ⟨S1024x512, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .f32⟩
  | .local _ .vmem, ⟨31, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x768 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S768x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference7Ideal.lean ====
abbrev S2048x2048 : Shape := ⟨2, ![2048, 2048]⟩
abbrev S2048x768 : Shape := ⟨2, ![2048, 768]⟩
abbrev S2048x512 : Shape := ⟨2, ![2048, 512]⟩
abbrev S2048x128 : Shape := ⟨2, ![2048, 128]⟩
abbrev S768x4096 : Shape := ⟨2, ![768, 4096]⟩
abbrev S512x4096 : Shape := ⟨2, ![512, 4096]⟩
abbrev S2048x4096 : Shape := ⟨2, ![2048, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x768, .bf16⟩
  | .hbm, ⟨2, _⟩ => ⟨S2048x512, .bf16⟩
  | .hbm, ⟨3, _⟩ => ⟨S2048x128, .bf16⟩
  | .hbm, ⟨4, _⟩ => ⟨S2048x128, .bf16⟩
  | .hbm, ⟨5, _⟩ => ⟨S2048x768, .bf16⟩
  | .hbm, ⟨6, _⟩ => ⟨S768x4096, .bf16⟩
  | .hbm, ⟨7, _⟩ => ⟨S2048x512, .bf16⟩
  | .hbm, ⟨8, _⟩ => ⟨S512x4096, .bf16⟩
  | .hbm, ⟨9, _⟩ => ⟨S2048x2048, .f32⟩
  | .hbm, ⟨10, _⟩ => ⟨S2048x768, .f32⟩
  | .hbm, ⟨11, _⟩ => ⟨S2048x512, .f32⟩
  | .hbm, ⟨12, _⟩ => ⟨S2048x128, .f32⟩
  | .hbm, ⟨13, _⟩ => ⟨S2048x128, .f32⟩
  | .hbm, ⟨14, _⟩ => ⟨S2048x768, .f32⟩
  | .hbm, ⟨15, _⟩ => ⟨S768x4096, .f32⟩
  | .hbm, ⟨16, _⟩ => ⟨S2048x512, .f32⟩
  | .hbm, ⟨17, _⟩ => ⟨S512x4096, .f32⟩
  | .hbm, ⟨18, _⟩ => ⟨S2048x768, .f32⟩
  | .hbm, ⟨19, _⟩ => ⟨S2048x512, .f32⟩
  | .hbm, ⟨20, _⟩ => ⟨S2048x128, .f32⟩
  | .hbm, ⟨21, _⟩ => ⟨S2048x128, .f32⟩
  | .hbm, ⟨22, _⟩ => ⟨S2048x4096, .f32⟩
  | .hbm, ⟨23, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel8.lean ====
abbrev S2048x2048 : Shape := ⟨2, ![2048, 2048]⟩
abbrev S2048x768 : Shape := ⟨2, ![2048, 768]⟩
abbrev S2048x512 : Shape := ⟨2, ![2048, 512]⟩
abbrev S2048x128 : Shape := ⟨2, ![2048, 128]⟩
abbrev S2048x4096 : Shape := ⟨2, ![2048, 4096]⟩
abbrev S2048x1024 : Shape := ⟨2, ![2048, 1024]⟩
abbrev S1024x768 : Shape := ⟨2, ![1024, 768]⟩
abbrev S1024x512 : Shape := ⟨2, ![1024, 512]⟩
abbrev S1024x128 : Shape := ⟨2, ![1024, 128]⟩
abbrev S768x4096 : Shape := ⟨2, ![768, 4096]⟩
abbrev S768x1024 : Shape := ⟨2, ![768, 1024]⟩
abbrev S512x4096 : Shape := ⟨2, ![512, 4096]⟩
abbrev S512x1024 : Shape := ⟨2, ![512, 1024]⟩

abbrev nBuf : Space → Nat
  | .hbm => 15
  | .vmem => 30
  | .smem => 0
  | _ => 0

abbrev bufTy : (tb : Table) → Fin (tcTables nBuf tb) → BufTy
  | .hbm, ⟨0, _⟩ => ⟨S2048x2048, .bf16⟩
  | .hbm, ⟨1, _⟩ => ⟨S2048x768, .bf16⟩
  | .hbm, ⟨2, _⟩ => ⟨S2048x512, .bf16⟩
  | .hbm, ⟨3, _⟩ => ⟨S2048x128, .bf16⟩
  | .hbm, ⟨4, _⟩ => ⟨S2048x128, .bf16⟩
  | .hbm, ⟨5, _⟩ => ⟨S2048x768, .bf16⟩
  | .hbm, ⟨6, _⟩ => ⟨S2048x4096, .bf16⟩
  | .hbm, ⟨7, _⟩ => ⟨S2048x512, .bf16⟩
  | .hbm, ⟨8, _⟩ => ⟨S2048x4096, .bf16⟩
  | .hbm, ⟨9, _⟩ => ⟨S2048x768, .bf16⟩
  | .hbm, ⟨10, _⟩ => ⟨S2048x512, .bf16⟩
  | .hbm, ⟨11, _⟩ => ⟨S2048x128, .bf16⟩
  | .hbm, ⟨12, _⟩ => ⟨S2048x128, .bf16⟩
  | .hbm, ⟨13, _⟩ => ⟨S768x4096, .bf16⟩
  | .hbm, ⟨14, _⟩ => ⟨S512x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S1024x768, .bf16⟩
  | .local _ .vmem, ⟨4, _⟩ => ⟨S1024x768, .bf16⟩
  | .local _ .vmem, ⟨5, _⟩ => ⟨S2048x1024, .bf16⟩
  | .local _ .vmem, ⟨6, _⟩ => ⟨S2048x1024, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S2048x1024, .bf16⟩
  | .local _ .vmem, ⟨11, _⟩ => ⟨S2048x1024, .bf16⟩
  | .local _ .vmem, ⟨12, _⟩ => ⟨S2048x128, .bf16⟩
  | .local _ .vmem, ⟨13, _⟩ => ⟨S1024x128, .bf16⟩
  | .local _ .vmem, ⟨14, _⟩ => ⟨S1024x128, .bf16⟩
  | .local _ .vmem, ⟨15, _⟩ => ⟨S2048x1024, .bf16⟩
  | .local _ .vmem, ⟨16, _⟩ => ⟨S2048x1024, .bf16⟩
  | .local _ .vmem, ⟨17, _⟩ => ⟨S2048x128, .bf16⟩
  | .local _ .vmem, ⟨18, _⟩ => ⟨S1024x128, .bf16⟩
  | .local _ .vmem, ⟨19, _⟩ => ⟨S1024x128, .bf16⟩
  | .local _ .vmem, ⟨20, _⟩ => ⟨S2048x768, .bf16⟩
  | .local _ .vmem, ⟨21, _⟩ => ⟨S2048x1024, .bf16⟩
  | .local _ .vmem, ⟨22, _⟩ => ⟨S2048x1024, .bf16⟩
  | .local _ .vmem, ⟨23, _⟩ => ⟨S768x1024, .bf16⟩
  | .local _ .vmem, ⟨24, _⟩ => ⟨S768x1024, .bf16⟩
  | .local _ .vmem, ⟨25, _⟩ => ⟨S2048x512, .bf16⟩
  | .local _ .vmem, ⟨26, _⟩ => ⟨S2048x1024, .bf16⟩
  | .local _ .vmem, ⟨27, _⟩ => ⟨S2048x1024, .bf16⟩
  | .local _ .vmem, ⟨28, _⟩ => ⟨S512x1024, .bf16⟩
  | .local _ .vmem, ⟨29, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem1_0 : DmaSem sig := 26
abbrev cc5_sem1_1 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x768 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S768x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x512 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference8Ideal.lean ====
abbrev S2048x2048 : Shape := ⟨2, ![2048, 2048]⟩
abbrev S2048x768 : Shape := ⟨2, ![2048, 768]⟩
abbrev S2048x512 : Shape := ⟨2, ![2048, 512]⟩
abbrev S2048x128 : Shape := ⟨2, ![2048, 128]⟩
abbrev S2048x4096 : Shape := ⟨2, ![2048, 4096]⟩
abbrev S_ : Shape := ⟨0, ![]⟩
abbrev S768x2048 : Shape := ⟨2, ![768, 2048]⟩
abbrev S512x2048 : Shape := ⟨2, ![512, 2048]⟩
abbrev S128x2048 : Shape := ⟨2, ![128, 2048]⟩
abbrev S768x4096 : Shape := ⟨2, ![768, 4096]⟩
abbrev S4096x768 : Shape := ⟨2, ![4096, 768]⟩
abbrev S512x4096 : Shape := ⟨2, ![512, 4096]⟩
abbrev S4096x512 : Shape := ⟨2, ![4096, 512]⟩

abbrev nBuf : Space → Nat
  | .hbm => 57
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x768, .bf16⟩
  | .hbm, ⟨2, _⟩ => ⟨S2048x512, .bf16⟩
  | .hbm, ⟨3, _⟩ => ⟨S2048x128, .bf16⟩
  | .hbm, ⟨4, _⟩ => ⟨S2048x128, .bf16⟩
  | .hbm, ⟨5, _⟩ => ⟨S2048x768, .bf16⟩
  | .hbm, ⟨6, _⟩ => ⟨S2048x4096, .bf16⟩
  | .hbm, ⟨7, _⟩ => ⟨S2048x512, .bf16⟩
  | .hbm, ⟨8, _⟩ => ⟨S2048x4096, .bf16⟩
  | .hbm, ⟨9, _⟩ => ⟨S_, .f32⟩
  | .hbm, ⟨10, _⟩ => ⟨S2048x768, .f32⟩
  | .hbm, ⟨11, _⟩ => ⟨S2048x2048, .f32⟩
  | .hbm, ⟨12, _⟩ => ⟨S2048x768, .f32⟩
  | .hbm, ⟨13, _⟩ => ⟨S2048x768, .f32⟩
  | .hbm, ⟨14, _⟩ => ⟨S768x2048, .f32⟩
  | .hbm, ⟨15, _⟩ => ⟨S2048x768, .f32⟩
  | .hbm, ⟨16, _⟩ => ⟨S2048x768, .bf16⟩
  | .hbm, ⟨17, _⟩ => ⟨S_, .f32⟩
  | .hbm, ⟨18, _⟩ => ⟨S2048x512, .f32⟩
  | .hbm, ⟨19, _⟩ => ⟨S2048x2048, .f32⟩
  | .hbm, ⟨20, _⟩ => ⟨S2048x512, .f32⟩
  | .hbm, ⟨21, _⟩ => ⟨S2048x512, .f32⟩
  | .hbm, ⟨22, _⟩ => ⟨S512x2048, .f32⟩
  | .hbm, ⟨23, _⟩ => ⟨S2048x512, .f32⟩
  | .hbm, ⟨24, _⟩ => ⟨S2048x512, .bf16⟩
  | .hbm, ⟨25, _⟩ => ⟨S_, .f32⟩
  | .hbm, ⟨26, _⟩ => ⟨S2048x128, .f32⟩
  | .hbm, ⟨27, _⟩ => ⟨S2048x2048, .f32⟩
  | .hbm, ⟨28, _⟩ => ⟨S2048x128, .f32⟩
  | .hbm, ⟨29, _⟩ => ⟨S2048x128, .f32⟩
  | .hbm, ⟨30, _⟩ => ⟨S128x2048, .f32⟩
  | .hbm, ⟨31, _⟩ => ⟨S2048x128, .f32⟩
  | .hbm, ⟨32, _⟩ => ⟨S2048x128, .bf16⟩
  | .hbm, ⟨33, _⟩ => ⟨S_, .f32⟩
  | .hbm, ⟨34, _⟩ => ⟨S2048x128, .f32⟩
  | .hbm, ⟨35, _⟩ => ⟨S2048x2048, .f32⟩
  | .hbm, ⟨36, _⟩ => ⟨S2048x128, .f32⟩
  | .hbm, ⟨37, _⟩ => ⟨S2048x128, .f32⟩
  | .hbm, ⟨38, _⟩ => ⟨S128x2048, .f32⟩
  | .hbm, ⟨39, _⟩ => ⟨S2048x128, .f32⟩
  | .hbm, ⟨40, _⟩ => ⟨S2048x128, .bf16⟩
  | .hbm, ⟨41, _⟩ => ⟨S_, .f32⟩
  | .hbm, ⟨42, _⟩ => ⟨S768x4096, .f32⟩
  | .hbm, ⟨43, _⟩ => ⟨S2048x768, .f32⟩
  | .hbm, ⟨44, _⟩ => ⟨S2048x4096, .f32⟩
  | .hbm, ⟨45, _⟩ => ⟨S2048x4096, .f32⟩
  | .hbm, ⟨46, _⟩ => ⟨S4096x768, .f32⟩
  | .hbm, ⟨47, _⟩ => ⟨S768x4096, .f32⟩
  | .hbm, ⟨48, _⟩ => ⟨S768x4096, .bf16⟩
  | .hbm, ⟨49, _⟩ => ⟨S_, .f32⟩
  | .hbm, ⟨50, _⟩ => ⟨S512x4096, .f32⟩
  | .hbm, ⟨51, _⟩ => ⟨S2048x512, .f32⟩
  | .hbm, ⟨52, _⟩ => ⟨S2048x4096, .f32⟩
  | .hbm, ⟨53, _⟩ => ⟨S2048x4096, .f32⟩
  | .hbm, ⟨54, _⟩ => ⟨S4096x512, .f32⟩
  | .hbm, ⟨55, _⟩ => ⟨S512x4096, .f32⟩
  | .hbm, ⟨56, _⟩ => ⟨S512x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel9.lean ====
abbrev S2048x768 : Shape := ⟨2, ![2048, 768]⟩
abbrev S2048x512 : Shape := ⟨2, ![2048, 512]⟩
abbrev S2048x128 : Shape := ⟨2, ![2048, 128]⟩
abbrev S2048x2048 : Shape := ⟨2, ![2048, 2048]⟩
abbrev S1024x768 : Shape := ⟨2, ![1024, 768]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 13
  | .vmem => 30
  | .smem => 0
  | _ => 0

abbrev bufTy : (tb : Table) → Fin (tcTables nBuf tb) → BufTy
  | .hbm, ⟨0, _⟩ => ⟨S2048x768, .bf16⟩
  | .hbm, ⟨1, _⟩ => ⟨S2048x768, .bf16⟩
  | .hbm, ⟨2, _⟩ => ⟨S2048x512, .bf16⟩
  | .hbm, ⟨3, _⟩ => ⟨S2048x512, .bf16⟩
  | .hbm, ⟨4, _⟩ => ⟨S2048x128, .bf16⟩
  | .hbm, ⟨5, _⟩ => ⟨S2048x128, .bf16⟩
  | .hbm, ⟨6, _⟩ => ⟨S2048x2048, .f32⟩
  | .hbm, ⟨7, _⟩ => ⟨S2048x128, .bf16⟩
  | .hbm, ⟨8, _⟩ => ⟨S2048x128, .bf16⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x128, .bf16⟩
  | .local _ .vmem, ⟨23, _⟩ => ⟨S1024x128, .bf16⟩
  | .local _ .vmem, ⟨24, _⟩ => ⟨S1024x128, .bf16⟩
  | .local _ .vmem, ⟨25, _⟩ => ⟨S1024x128, .bf16⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== Reference9Ideal.lean ====
abbrev S2048x768 : Shape := ⟨2, ![2048, 768]⟩
abbrev S2048x512 : Shape := ⟨2, ![2048, 512]⟩
abbrev S2048x128 : Shape := ⟨2, ![2048, 128]⟩
abbrev S2048x2048 : Shape := ⟨2, ![2048, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x768, .bf16⟩
  | .hbm, ⟨2, _⟩ => ⟨S2048x512, .bf16⟩
  | .hbm, ⟨3, _⟩ => ⟨S2048x512, .bf16⟩
  | .hbm, ⟨4, _⟩ => ⟨S2048x128, .bf16⟩
  | .hbm, ⟨5, _⟩ => ⟨S2048x128, .bf16⟩
  | .hbm, ⟨6, _⟩ => ⟨S2048x2048, .f32⟩
  | .hbm, ⟨7, _⟩ => ⟨S2048x128, .bf16⟩
  | .hbm, ⟨8, _⟩ => ⟨S2048x128, .bf16⟩
  | .hbm, ⟨9, _⟩ => ⟨S_, .f32⟩
  | .hbm, ⟨10, _⟩ => ⟨S2048x2048, .f32⟩
  | .hbm, ⟨11, _⟩ => ⟨S2048x768, .f32⟩
  | .hbm, ⟨12, _⟩ => ⟨S2048x512, .f32⟩
  | .hbm, ⟨13, _⟩ => ⟨S2048x128, .f32⟩
  | .hbm, ⟨14, _⟩ => ⟨S2048x128, .f32⟩
  | .hbm, ⟨15, _⟩ => ⟨S2048x768, .f32⟩
  | .hbm, ⟨16, _⟩ => ⟨S2048x512, .f32⟩
  | .hbm, ⟨17, _⟩ => ⟨S2048x128, .f32⟩
  | .hbm, ⟨18, _⟩ => ⟨S2048x768, .f32⟩
  | .hbm, ⟨19, _⟩ => ⟨S2048x512, .f32⟩
  | .hbm, ⟨20, _⟩ => ⟨S2048x128, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x128, .f32⟩
  | .hbm, ⟨27, _⟩ => ⟨S2048x128, .f32⟩
  | .hbm, ⟨28, _⟩ => ⟨S2048x2048, .f32⟩
  | .hbm, ⟨29, _⟩ => ⟨S2048x2048, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel10.lean ====
abbrev S2048x4096 : Shape := ⟨2, ![2048, 4096]⟩
abbrev S768x4096 : Shape := ⟨2, ![768, 4096]⟩
abbrev S2048x768 : Shape := ⟨2, ![2048, 768]⟩
abbrev S1024x2048 : Shape := ⟨2, ![1024, 2048]⟩
abbrev S768x2048 : Shape := ⟨2, ![768, 2048]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S768x4096, .bf16⟩
  | .hbm, ⟨2, _⟩ => ⟨S2048x768, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x4096 : Shape := ⟨2, ![2048, 4096]⟩
abbrev S768x4096 : Shape := ⟨2, ![768, 4096]⟩
abbrev S_ : Shape := ⟨0, ![]⟩
abbrev S2048x768 : Shape := ⟨2, ![2048, 768]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S768x4096, .bf16⟩
  | .hbm, ⟨2, _⟩ => ⟨S_, .f32⟩
  | .hbm, ⟨3, _⟩ => ⟨S2048x768, .f32⟩
  | .hbm, ⟨4, _⟩ => ⟨S768x4096, .f32⟩
  | .hbm, ⟨5, _⟩ => ⟨S2048x4096, .f32⟩
  | .hbm, ⟨6, _⟩ => ⟨S2048x4096, .f32⟩
  | .hbm, ⟨7, _⟩ => ⟨S2048x768, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x4096 : Shape := ⟨2, ![2048, 4096]⟩
abbrev S512x4096 : Shape := ⟨2, ![512, 4096]⟩
abbrev S2048x512 : Shape := ⟨2, ![2048, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S512x4096, .bf16⟩
  | .hbm, ⟨2, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x4096 : Shape := ⟨2, ![2048, 4096]⟩
abbrev S512x4096 : Shape := ⟨2, ![512, 4096]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S512x4096, .bf16⟩
  | .hbm, ⟨2, _⟩ => ⟨S_, .f32⟩
  | .hbm, ⟨3, _⟩ => ⟨S2048x512, .f32⟩
  | .hbm, ⟨4, _⟩ => ⟨S512x4096, .f32⟩
  | .hbm, ⟨5, _⟩ => ⟨S2048x4096, .f32⟩
  | .hbm, ⟨6, _⟩ => ⟨S2048x4096, .f32⟩
  | .hbm, ⟨7, _⟩ => ⟨S2048x512, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x6144 : Shape := ⟨2, ![2048, 6144]⟩
abbrev S2048x2048 : Shape := ⟨2, ![2048, 2048]⟩
abbrev S16x2048x1 : Shape := ⟨3, ![16, 2048, 1]⟩
abbrev S256x1024 : Shape := ⟨2, ![256, 1024]⟩
abbrev S2048x1024 : Shape := ⟨2, ![2048, 1024]⟩
abbrev S8x256x1 : Shape := ⟨3, ![8, 256, 1]⟩
abbrev S512x256 : Shape := ⟨2, ![512, 256]⟩
abbrev S256x256 : Shape := ⟨2, ![256, 256]⟩
abbrev S256x128 : Shape := ⟨2, ![256, 128]⟩
abbrev S256x1 : Shape := ⟨2, ![256, 1]⟩
abbrev S256x512 : Shape := ⟨2, ![256, 512]⟩
abbrev S256 : Shape := ⟨1, ![256]⟩
abbrev S1x256x1 : Shape := ⟨3, ![1, 256, 1]⟩

abbrev nBuf : Space → Nat
  | .hbm => 3
  | .vmem => 11
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S16x2048x1, .f32⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S256x1024, .bf16⟩
  | .local _ .vmem, ⟨7, _⟩ => ⟨S256x1024, .bf16⟩
  | .local _ .vmem, ⟨8, _⟩ => ⟨S8x256x1, .f32⟩
  | .local _ .vmem, ⟨9, _⟩ => ⟨S8x256x1, .f32⟩
  | .local _ .vmem, ⟨10, _⟩ => ⟨S512x256, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c256_i32 : BitVec 32 := 256#32
  let v30 : BitVec 32 := Scalar.muli arg1 c256_i32
  v30
def k0_off1 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v33 : Index := Scalar.indexCast v31
  let c0_19 : Index := 0#32
  ![v33.toNat, 0]
def k0_off2 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v76 : Index := Scalar.indexCast v31
  let c128_34 : Index := 128#32
  ![v76.toNat, 128]
def k0_off3 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v119 : Index := Scalar.indexCast v31
  let c256_50 : Index := 256#32
  ![v119.toNat, 256]
def k0_off4 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v162 : Index := Scalar.indexCast v31
  let c384_65 : Index := 384#32
  ![v162.toNat, 384]
def k0_off5 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v205 : Index := Scalar.indexCast v31
  let c512_80 : Index := 512#32
  ![v205.toNat, 512]
def k0_off6 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v248 : Index := Scalar.indexCast v31
  let c640_95 : Index := 640#32
  ![v248.toNat, 640]
def k0_off7 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v291 : Index := Scalar.indexCast v31
  let c768_110 : Index := 768#32
  ![v291.toNat, 768]
def k0_off8 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v334 : Index := Scalar.indexCast v31
  let c896_125 : Index := 896#32
  ![v334.toNat, 896]
@[reducible] def k0_t1_loop (i : grid0.Coords) : Scf.Loop 32 :=
  let c1_i32_139 : BitVec 32 := 1#32
  let arg1 : BitVec 32 := BitVec.ofNat 32 (i 1).val
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let c1_i32_141 : BitVec 32 := 1#32
  ⟨c1_i32_139, v381, c1_i32_141⟩
def k0_mult2 (i : grid0.Coords) (k0_t1 : Fin (k0_t1_loop i).trips) : BitVec 32 :=
  let arg1 : BitVec 32 := BitVec.ofNat 32 (i 1).val
  let c1_i32_139 : BitVec 32 := 1#32
  let c1_i32_141 : BitVec 32 := 1#32
  let arg8 : BitVec 32 := Scf.iv c1_i32_139 c1_i32_141 k0_t1
  let v424 : BitVec 32 := Scalar.subi arg1 arg8
  let c256_i32_176 : BitVec 32 := 256#32
  let v425 : BitVec 32 := Scalar.muli v424 c256_i32_176
  v425
def k0_off9 (i : grid0.Coords) (k0_t1 : Fin (k0_t1_loop i).trips) : Fin 2 → Nat :=
  let arg1 : BitVec 32 := BitVec.ofNat 32 (i 1).val
  let c1_i32_139 : BitVec 32 := 1#32
  let c1_i32_141 : BitVec 32 := 1#32
  let arg8 : BitVec 32 := Scf.iv c1_i32_139 c1_i32_141 k0_t1
  let v424 : BitVec 32 := Scalar.subi arg1 arg8
  let c256_i32_176 : BitVec 32 := 256#32
  let v425 : BitVec 32 := Scalar.muli v424 c256_i32_176
  let v426 : BitVec 32 := v425
  let v428 : Index := Scalar.indexCast v426
  let c0_179 : Index := 0#32
  ![v428.toNat, 0]
def k0_off10 (i : grid0.Coords) (k0_t1 : Fin (k0_t1_loop i).trips) : Fin 2 → Nat :=
  let arg1 : BitVec 32 := BitVec.ofNat 32 (i 1).val
  let c1_i32_139 : BitVec 32 := 1#32
  let c1_i32_141 : BitVec 32 := 1#32
  let arg8 : BitVec 32 := Scf.iv c1_i32_139 c1_i32_141 k0_t1
  let v424 : BitVec 32 := Scalar.subi arg1 arg8
  let c256_i32_176 : BitVec 32 := 256#32
  let v425 : BitVec 32 := Scalar.muli v424 c256_i32_176
  let v426 : BitVec 32 := v425
  let v465 : Index := Scalar.indexCast v426
  let c128_193 : Index := 128#32
  ![v465.toNat, 128]
def k0_off11 (i : grid0.Coords) (k0_t1 : Fin (k0_t1_loop i).trips) : Fin 2 → Nat :=
  let arg1 : BitVec 32 := BitVec.ofNat 32 (i 1).val
  let c1_i32_139 : BitVec 32 := 1#32
  let c1_i32_141 : BitVec 32 := 1#32
  let arg8 : BitVec 32 := Scf.iv c1_i32_139 c1_i32_141 k0_t1
  let v424 : BitVec 32 := Scalar.subi arg1 arg8
  let c256_i32_176 : BitVec 32 := 256#32
  let v425 : BitVec 32 := Scalar.muli v424 c256_i32_176
  let v426 : BitVec 32 := v425
  let v502 : Index := Scalar.indexCast v426
  let c256_207 : Index := 256#32
  ![v502.toNat, 256]
def k0_off12 (i : grid0.Coords) (k0_t1 : Fin (k0_t1_loop i).trips) : Fin 2 → Nat :=
  let arg1 : BitVec 32 := BitVec.ofNat 32 (i 1).val
  let c1_i32_139 : BitVec 32 := 1#32
  let c1_i32_141 : BitVec 32 := 1#32
  let arg8 : BitVec 32 := Scf.iv c1_i32_139 c1_i32_141 k0_t1
  let v424 : BitVec 32 := Scalar.subi arg1 arg8
  let c256_i32_176 : BitVec 32 := 256#32
  let v425 : BitVec 32 := Scalar.muli v424 c256_i32_176
  let v426 : BitVec 32 := v425
  let v539 : Index := Scalar.indexCast v426
  let c384_221 : Index := 384#32
  ![v539.toNat, 384]
def k0_off13 (i : grid0.Coords) (k0_t1 : Fin (k0_t1_loop i).trips) : Fin 2 → Nat :=
  let arg1 : BitVec 32 := BitVec.ofNat 32 (i 1).val
  let c1_i32_139 : BitVec 32 := 1#32
  let c1_i32_141 : BitVec 32 := 1#32
  let arg8 : BitVec 32 := Scf.iv c1_i32_139 c1_i32_141 k0_t1
  let v424 : BitVec 32 := Scalar.subi arg1 arg8
  let c256_i32_176 : BitVec 32 := 256#32
  let v425 : BitVec 32 := Scalar.muli v424 c256_i32_176
  let v426 : BitVec 32 := v425
  let v576 : Index := Scalar.indexCast v426
  let c512_235 : Index := 512#32
  ![v576.toNat, 512]
def k0_off14 (i : grid0.Coords) (k0_t1 : Fin (k0_t1_loop i).trips) : Fin 2 → Nat :=
  let arg1 : BitVec 32 := BitVec.ofNat 32 (i 1).val
  let c1_i32_139 : BitVec 32 := 1#32
  let c1_i32_141 : BitVec 32 := 1#32
  let arg8 : BitVec 32 := Scf.iv c1_i32_139 c1_i32_141 k0_t1
  let v424 : BitVec 32 := Scalar.subi arg1 arg8
  let c256_i32_176 : BitVec 32 := 256#32
  let v425 : BitVec 32 := Scalar.muli v424 c256_i32_176
  let v426 : BitVec 32 := v425
  let v613 : Index := Scalar.indexCast v426
  let c640_249 : Index := 640#32
  ![v613.toNat, 640]
def k0_off15 (i : grid0.Coords) (k0_t1 : Fin (k0_t1_loop i).trips) : Fin 2 → Nat :=
  let arg1 : BitVec 32 := BitVec.ofNat 32 (i 1).val
  let c1_i32_139 : BitVec 32 := 1#32
  let c1_i32_141 : BitVec 32 := 1#32
  let arg8 : BitVec 32 := Scf.iv c1_i32_139 c1_i32_141 k0_t1
  let v424 : BitVec 32 := Scalar.subi arg1 arg8
  let c256_i32_176 : BitVec 32 := 256#32
  let v425 : BitVec 32 := Scalar.muli v424 c256_i32_176
  let v426 : BitVec 32 := v425
  let v650 : Index := Scalar.indexCast v426
  let c768_263 : Index := 768#32
  ![v650.toNat, 768]
def k0_off16 (i : grid0.Coords) (k0_t1 : Fin (k0_t1_loop i).trips) : Fin 2 → Nat :=
  let arg1 : BitVec 32 := BitVec.ofNat 32 (i 1).val
  let c1_i32_139 : BitVec 32 := 1#32
  let c1_i32_141 : BitVec 32 := 1#32
  let arg8 : BitVec 32 := Scf.iv c1_i32_139 c1_i32_141 k0_t1
  let v424 : BitVec 32 := Scalar.subi arg1 arg8
  let c256_i32_176 : BitVec 32 := 256#32
  let v425 : BitVec 32 := Scalar.muli v424 c256_i32_176
  let v426 : BitVec 32 := v425
  let v687 : Index := Scalar.indexCast v426
  let c896_277 : Index := 896#32
  ![v687.toNat, 896]
@[reducible] def k0_t2_loop (i : grid0.Coords) : Scf.Loop 32 :=
  let c1_i32_139 : BitVec 32 := 1#32
  let arg1 : BitVec 32 := BitVec.ofNat 32 (i 1).val
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let v378 : BitVec 32 := Scalar.addi c1_i32_139 v377
  let c1_i32_142 : BitVec 32 := 1#32
  ⟨v381, v378, c1_i32_142⟩
def k0_mult3 (i : grid0.Coords) (k0_t2 : Fin (k0_t2_loop i).trips) : BitVec 32 :=
  let arg1 : BitVec 32 := BitVec.ofNat 32 (i 1).val
  let c1_i32_139 : BitVec 32 := 1#32
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let c1_i32_142 : BitVec 32 := 1#32
  let arg8 : BitVec 32 := Scf.iv v381 c1_i32_142 k0_t2
  let v424 : BitVec 32 := Scalar.subi arg1 arg8
  let c256_i32_176 : BitVec 32 := 256#32
  let v425 : BitVec 32 := Scalar.muli v424 c256_i32_176
  v425
def k0_off17 (i : grid0.Coords) (k0_t2 : Fin (k0_t2_loop i).trips) : Fin 2 → Nat :=
  let arg1 : BitVec 32 := BitVec.ofNat 32 (i 1).val
  let c1_i32_139 : BitVec 32 := 1#32
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let c1_i32_142 : BitVec 32 := 1#32
  let arg8 : BitVec 32 := Scf.iv v381 c1_i32_142 k0_t2
  let v424 : BitVec 32 := Scalar.subi arg1 arg8
  let c256_i32_176 : BitVec 32 := 256#32
  let v425 : BitVec 32 := Scalar.muli v424 c256_i32_176
  let v426 : BitVec 32 := v425
  let v428 : Index := Scalar.indexCast v426
  let c0_179 : Index := 0#32
  ![v428.toNat, 0]
def k0_off18 (i : grid0.Coords) (k0_t2 : Fin (k0_t2_loop i).trips) : Fin 2 → Nat :=
  let arg1 : BitVec 32 := BitVec.ofNat 32 (i 1).val
  let c1_i32_139 : BitVec 32 := 1#32
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let c1_i32_142 : BitVec 32 := 1#32
  let arg8 : BitVec 32 := Scf.iv v381 c1_i32_142 k0_t2
  let v424 : BitVec 32 := Scalar.subi arg1 arg8
  let c256_i32_176 : BitVec 32 := 256#32
  let v425 : BitVec 32 := Scalar.muli v424 c256_i32_176
  let v426 : BitVec 32 := v425
  let v465 : Index := Scalar.indexCast v426
  let c128_193 : Index := 128#32
  ![v465.toNat, 128]
def k0_off19 (i : grid0.Coords) (k0_t2 : Fin (k0_t2_loop i).trips) : Fin 2 → Nat :=
  let arg1 : BitVec 32 := BitVec.ofNat 32 (i 1).val
  let c1_i32_139 : BitVec 32 := 1#32
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let c1_i32_142 : BitVec 32 := 1#32
  let arg8 : BitVec 32 := Scf.iv v381 c1_i32_142 k0_t2
  let v424 : BitVec 32 := Scalar.subi arg1 arg8
  let c256_i32_176 : BitVec 32 := 256#32
  let v425 : BitVec 32 := Scalar.muli v424 c256_i32_176
  let v426 : BitVec 32 := v425
  let v502 : Index := Scalar.indexCast v426
  let c256_207 : Index := 256#32
  ![v502.toNat, 256]
def k0_off20 (i : grid0.Coords) (k0_t2 : Fin (k0_t2_loop i).trips) : Fin 2 → Nat :=
  let arg1 : BitVec 32 := BitVec.ofNat 32 (i 1).val
  let c1_i32_139 : BitVec 32 := 1#32
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let c1_i32_142 : BitVec 32 := 1#32
  let arg8 : BitVec 32 := Scf.iv v381 c1_i32_142 k0_t2
  let v424 : BitVec 32 := Scalar.subi arg1 arg8
  let c256_i32_176 : BitVec 32 := 256#32
  let v425 : BitVec 32 := Scalar.muli v424 c256_i32_176
  let v426 : BitVec 32 := v425
  let v539 : Index := Scalar.indexCast v426
  let c384_221 : Index := 384#32
  ![v539.toNat, 384]
def k0_off21 (i : grid0.Coords) (k0_t2 : Fin (k0_t2_loop i).trips) : Fin 2 → Nat :=
  let arg1 : BitVec 32 := BitVec.ofNat 32 (i 1).val
  let c1_i32_139 : BitVec 32 := 1#32
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let c1_i32_142 : BitVec 32 := 1#32
  let arg8 : BitVec 32 := Scf.iv v381 c1_i32_142 k0_t2
  let v424 : BitVec 32 := Scalar.subi arg1 arg8
  let c256_i32_176 : BitVec 32 := 256#32
  let v425 : BitVec 32 := Scalar.muli v424 c256_i32_176
  let v426 : BitVec 32 := v425
  let v576 : Index := Scalar.indexCast v426
  let c512_235 : Index := 512#32
  ![v576.toNat, 512]
def k0_off22 (i : grid0.Coords) (k0_t2 : Fin (k0_t2_loop i).trips) : Fin 2 → Nat :=
  let arg1 : BitVec 32 := BitVec.ofNat 32 (i 1).val
  let c1_i32_139 : BitVec 32 := 1#32
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let c1_i32_142 : BitVec 32 := 1#32
  let arg8 : BitVec 32 := Scf.iv v381 c1_i32_142 k0_t2
  let v424 : BitVec 32 := Scalar.subi arg1 arg8
  let c256_i32_176 : BitVec 32 := 256#32
  let v425 : BitVec 32 := Scalar.muli v424 c256_i32_176
  let v426 : BitVec 32 := v425
  let v613 : Index := Scalar.indexCast v426
  let c640_249 : Index := 640#32
  ![v613.toNat, 640]
def k0_off23 (i : grid0.Coords) (k0_t2 : Fin (k0_t2_loop i).trips) : Fin 2 → Nat :=
  let arg1 : BitVec 32 := BitVec.ofNat 32 (i 1).val
  let c1_i32_139 : BitVec 32 := 1#32
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let c1_i32_142 : BitVec 32 := 1#32
  let arg8 : BitVec 32 := Scf.iv v381 c1_i32_142 k0_t2
  let v424 : BitVec 32 := Scalar.subi arg1 arg8
  let c256_i32_176 : BitVec 32 := 256#32
  let v425 : BitVec 32 := Scalar.muli v424 c256_i32_176
  let v426 : BitVec 32 := v425
  let v650 : Index := Scalar.indexCast v426
  let c768_263 : Index := 768#32
  ![v650.toNat, 768]
def k0_off24 (i : grid0.Coords) (k0_t2 : Fin (k0_t2_loop i).trips) : Fin 2 → Nat :=
  let arg1 : BitVec 32 := BitVec.ofNat 32 (i 1).val
  let c1_i32_139 : BitVec 32 := 1#32
  let c1_i32 : BitVec 32 := 1#32
  let v376 : BitVec 32 := Scalar.addi arg1 c1_i32
  let v377 : BitVec 32 := Scalar.subi v376 c1_i32_139
  let c1_i32_140 : BitVec 32 := 1#32
  let v379 : BitVec 32 := Scalar.divsi v377 c1_i32_140
  let v380 : BitVec 32 := Scalar.muli v379 c1_i32_140
  let v381 : BitVec 32 := Scalar.addi c1_i32_139 v380
  let c1_i32_142 : BitVec 32 := 1#32
  let arg8 : BitVec 32 := Scf.iv v381 c1_i32_142 k0_t2
  let v424 : BitVec 32 := Scalar.subi arg1 arg8
  let c256_i32_176 : BitVec 32 := 256#32
  let v425 : BitVec 32 := Scalar.muli v424 c256_i32_176
  let v426 : BitVec 32 := v425
  let v687 : Index := Scalar.indexCast v426
  let c896_277 : Index := 896#32
  ![v687.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel12Ideal.lean ====
variable {F : FTy → Type} [FloatOps F] [Named F]
def κ : String → Option EReal := fun
  | "mask" => some ⊥
  | _ => none
-- ==== Reference12Ideal.lean ====
abbrev S2048x6144 : Shape := ⟨2, ![2048, 6144]⟩
abbrev S2048x2048 : Shape := ⟨2, ![2048, 2048]⟩
abbrev S1x2048x16x128 : Shape := ⟨4, ![1, 2048, 16, 128]⟩
abbrev S1x16x2048x128 : Shape := ⟨4, ![1, 16, 2048, 128]⟩
abbrev S1x16x2048x2048 : Shape := ⟨4, ![1, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x16x2048 : Shape := ⟨3, ![1, 16, 2048]⟩
abbrev S16x2048 : Shape := ⟨2, ![16, 2048]⟩
abbrev S16x2048x1 : Shape := ⟨3, ![16, 2048, 1]⟩

abbrev nBuf : Space → Nat
  | .hbm => 122
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .f32⟩
  | .hbm, ⟨2, _⟩ => ⟨S2048x2048, .f32⟩
  | .hbm, ⟨3, _⟩ => ⟨S1x2048x16x128, .f32⟩
  | .hbm, ⟨4, _⟩ => ⟨S1x16x2048x128, .f32⟩
  | .hbm, ⟨5, _⟩ => ⟨S2048x2048, .f32⟩
  | .hbm, ⟨6, _⟩ => ⟨S1x2048x16x128, .f32⟩
  | .hbm, ⟨7, _⟩ => ⟨S1x16x2048x128, .f32⟩
  | .hbm, ⟨8, _⟩ => ⟨S1x16x2048x2048, .f32⟩
  | .hbm, ⟨9, _⟩ => ⟨S_, .f32⟩
  | .hbm, ⟨10, _⟩ => ⟨S1x16x2048x2048, .f32⟩
  | .hbm, ⟨11, _⟩ => ⟨S1x16x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x16x2048x2048, .f32⟩
  | .hbm, ⟨20, _⟩ => ⟨S1x16x2048x2048, .f32⟩
  | .hbm, ⟨21, _⟩ => ⟨S_, .f32⟩
  | .hbm, ⟨22, _⟩ => ⟨S1x16x2048x2048, .f32⟩
  | .hbm, ⟨23, _⟩ => ⟨S1x16x2048x2048, .f32⟩
  | .hbm, ⟨24, _⟩ => ⟨S1x16x2048x2048, .f32⟩
  | .hbm, ⟨25, _⟩ => ⟨S1x16x2048x2048, .f32⟩
  | .hbm, ⟨26, _⟩ => ⟨S1x16x2048x2048, .i1⟩
  | .hbm, ⟨27, _⟩ => ⟨S1x16x2048x2048, .f32⟩
  | .hbm, ⟨28, _⟩ => ⟨S1x16x2048x2048, .f32⟩
  | .hbm, ⟨29, _⟩ => ⟨S1x16x2048x2048, .f32⟩
  | .hbm, ⟨30, _⟩ => ⟨S1x16x2048x2048, .f32⟩
  | .hbm, ⟨31, _⟩ => ⟨S1x16x2048x2048, .f32⟩
  | .hbm, ⟨32, _⟩ => ⟨S1x16x2048x2048, .f32⟩
  | .hbm, ⟨33, _⟩ => ⟨S1x16x2048x2048, .f32⟩
  | .hbm, ⟨34, _⟩ => ⟨S1x16x2048x2048, .f32⟩
  | .hbm, ⟨35, _⟩ => ⟨S1x16x2048x2048, .f32⟩
  | .hbm, ⟨36, _⟩ => ⟨S_, .f32⟩
  | .hbm, ⟨37, _⟩ => ⟨S_, .f32⟩
  | .hbm, ⟨38, _⟩ => ⟨S1x16x2048x2048, .i1⟩
  | .hbm, ⟨39, _⟩ => ⟨S1x16x2048x2048, .f32⟩
  | .hbm, ⟨40, _⟩ => ⟨S1x16x2048x2048, .f32⟩
  | .hbm, ⟨41, _⟩ => ⟨S_, .f32⟩
  | .hbm, ⟨42, _⟩ => ⟨S1x16x2048, .f32⟩
  | .hbm, ⟨43, _⟩ => ⟨S16x2048, .f32⟩
  | .hbm, ⟨44, _⟩ => ⟨S16x2048x1, .f32⟩
  | .hbm, ⟨45, _⟩ => ⟨S2048x6144, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S1x2048x16x128, .f32⟩
  | .hbm, ⟨50, _⟩ => ⟨S1x16x2048x128, .f32⟩
  | .hbm, ⟨51, _⟩ => ⟨S1x2048x16x128, .f32⟩
  | .hbm, ⟨52, _⟩ => ⟨S1x16x2048x128, .f32⟩
  | .hbm, ⟨53, _⟩ => ⟨S1x2048x16x128, .f32⟩
  | .hbm, ⟨54, _⟩ => ⟨S1x16x2048x128, .f32⟩
  | .hbm, ⟨55, _⟩ => ⟨S1x16x2048x2048, .f32⟩
  | .hbm, ⟨56, _⟩ => ⟨S_, .f32⟩
  | .hbm, ⟨57, _⟩ => ⟨S1x16x2048x2048, .f32⟩
  | .hbm, ⟨58, _⟩ => ⟨S1x16x2048x2048, .f32⟩
  | .hbm, ⟨59, _⟩ => ⟨S2048, .i32⟩
  | .hbm, ⟨60, _⟩ => ⟨S1x2048, .i32⟩
  | .hbm, ⟨61, _⟩ => ⟨S2048, .i32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S2048x2048, .i32⟩
  | .hbm, ⟨67, _⟩ => ⟨S2048x2048, .i32⟩
  | .hbm, ⟨68, _⟩ => ⟨S2048x2048, .i1⟩
  | .hbm, ⟨69, _⟩ => ⟨S1x16x2048x2048, .f32⟩
  | .hbm, ⟨70, _⟩ => ⟨S1x16x2048x2048, .f32⟩
  | .hbm, ⟨71, _⟩ => ⟨S_, .f32⟩
  | .hbm, ⟨72, _⟩ => ⟨S1x16x2048x2048, .f32⟩
  | .hbm, ⟨73, _⟩ => ⟨S1x16x2048x2048, .f32⟩
  | .hbm, ⟨74, _⟩ => ⟨S1x16x2048x2048, .f32⟩
  | .hbm, ⟨75, _⟩ => ⟨S1x16x2048x2048, .f32⟩
  | .hbm, ⟨76, _⟩ => ⟨S1x16x2048x2048, .i1⟩
  | .hbm, ⟨77, _⟩ => ⟨S1x16x2048x2048, .f32⟩
  | .hbm, ⟨78, _⟩ => ⟨S1x16x2048x2048, .f32⟩
  | .hbm, ⟨79, _⟩ => ⟨S1x16x2048x2048, .f32⟩
  | .hbm, ⟨80, _⟩ => ⟨S1x16x2048x2048, .f32⟩
  | .hbm, ⟨81, _⟩ => ⟨S1x16x2048x2048, .f32⟩
  | .hbm, ⟨82, _⟩ => ⟨S1x16x2048x2048, .f32⟩
  | .hbm, ⟨83, _⟩ => ⟨S1x16x2048x2048, .f32⟩
  | .hbm, ⟨84, _⟩ => ⟨S1x16x2048x2048, .f32⟩
  | .hbm, ⟨85, _⟩ => ⟨S1x16x2048x2048, .f32⟩
  | .hbm, ⟨86, _⟩ => ⟨S_, .f32⟩
  | .hbm, ⟨87, _⟩ => ⟨S_, .f32⟩
  | .hbm, ⟨88, _⟩ => ⟨S1x16x2048x2048, .i1⟩
  | .hbm, ⟨89, _⟩ => ⟨S1x16x2048x2048, .f32⟩
  | .hbm, ⟨90, _⟩ => ⟨S1x16x2048x2048, .f32⟩
  | .hbm, ⟨91, _⟩ => ⟨S_, .f32⟩
  | .hbm, ⟨92, _⟩ => ⟨S_, .f32⟩
  | .hbm, ⟨93, _⟩ => ⟨S1x16x2048x2048, .f32⟩
  | .hbm, ⟨94, _⟩ => ⟨S1x16x2048x2048, .f32⟩
  | .hbm, ⟨95, _⟩ => ⟨S1x16x2048x2048, .f32⟩
  | .hbm, ⟨96, _⟩ => ⟨S_, .f32⟩
  | .hbm, ⟨97, _⟩ => ⟨S1x16x2048x2048, .f32⟩
  | .hbm, ⟨98, _⟩ => ⟨S1x16x2048x2048, .f32⟩
  | .hbm, ⟨99, _⟩ => ⟨S1x16x2048x2048, .f32⟩
  | .hbm, ⟨100, _⟩ => ⟨S1x16x2048x2048, .f32⟩
  | .hbm, ⟨101, _⟩ => ⟨S1x16x2048x2048, .i1⟩
  | .hbm, ⟨102, _⟩ => ⟨S1x16x2048x2048, .f32⟩
  | .hbm, ⟨103, _⟩ => ⟨S1x16x2048x2048, .f32⟩
  | .hbm, ⟨104, _⟩ => ⟨S1x16x2048x2048, .f32⟩
  | .hbm, ⟨105, _⟩ => ⟨S1x16x2048x2048, .f32⟩
  | .hbm, ⟨106, _⟩ => ⟨S1x16x2048x2048, .f32⟩
  | .hbm, ⟨107, _⟩ => ⟨S1x16x2048x2048, .f32⟩
  | .hbm, ⟨108, _⟩ => ⟨S1x16x2048x2048, .f32⟩
  | .hbm, ⟨109, _⟩ => ⟨S1x16x2048x2048, .f32⟩
  | .hbm, ⟨110, _⟩ => ⟨S1x16x2048x2048, .f32⟩
  | .hbm, ⟨111, _⟩ => ⟨S1x16x2048x2048, .f32⟩
  | .hbm, ⟨112, _⟩ => ⟨S1x16x2048x2048, .f32⟩
  | .hbm, ⟨113, _⟩ => ⟨S_, .f32⟩
  | .hbm, ⟨114, _⟩ => ⟨S_, .f32⟩
  | .hbm, ⟨115, _⟩ => ⟨S1x16x2048x2048, .i1⟩
  | .hbm, ⟨116, _⟩ => ⟨S1x16x2048x2048, .f32⟩
  | .hbm, ⟨117, _⟩ => ⟨S1x16x2048x2048, .f32⟩
  | .hbm, ⟨118, _⟩ => ⟨S1x16x2048x128, .f32⟩
  | .hbm, ⟨119, _⟩ => ⟨S1x2048x16x128, .f32⟩
  | .hbm, ⟨120, _⟩ => ⟨S2048x2048, .f32⟩
  | .hbm, ⟨121, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call2_v0 : Ref sig .tc := ⟨.hbm, 70, rfl⟩
abbrev main_call2_call0_cst : Ref sig .tc := ⟨.hbm, 71, rfl⟩
abbrev main_call2_call0_v0 : Ref sig .tc := ⟨.hbm, 72, rfl⟩
abbrev main_call2_call0_v1 : Ref sig .tc := ⟨.hbm, 73, rfl⟩
abbrev main_call2_call0_v2 : Ref sig .tc := ⟨.hbm, 74, rfl⟩
abbrev main_call2_call0_v3 : Ref sig .tc := ⟨.hbm, 75, rfl⟩
abbrev main_call2_call0_v4 : Ref sig .tc := ⟨.hbm, 76, rfl⟩
abbrev main_call2_call0_v5 : Ref sig .tc := ⟨.hbm, 77, rfl⟩
abbrev main_call2_call0_v6 : Ref sig .tc := ⟨.hbm, 78, rfl⟩
abbrev main_call2_call0_v7 : Ref sig .tc := ⟨.hbm, 79, rfl⟩
abbrev main_call2_call0_v8 : Ref sig .tc := ⟨.hbm, 80, rfl⟩
abbrev main_call2_call0_v9 : Ref sig .tc := ⟨.hbm, 81, rfl⟩
abbrev main_call2_call0_v10 : Ref sig .tc := ⟨.hbm, 82, rfl⟩
abbrev main_call2_call0_v11 : Ref sig .tc := ⟨.hbm, 83, rfl⟩
abbrev main_call2_v1 : Ref sig .tc := ⟨.hbm, 84, rfl⟩
abbrev main_v46 : Ref sig .tc := ⟨.hbm, 85, rfl⟩
abbrev main_cst_3 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v47 : Ref sig .tc := ⟨.hbm, 90, rfl⟩
abbrev main_call4_cst : Ref sig .tc := ⟨.hbm, 91, rfl⟩
abbrev main_call4_v0 : Ref sig .tc := ⟨.hbm, 92, rfl⟩
abbrev main_v48 : Ref sig .tc := ⟨.hbm, 93, rfl⟩
abbrev main_v49 : Ref sig .tc := ⟨.hbm, 94, rfl⟩
abbrev main_call5_v0 : Ref sig .tc := ⟨.hbm, 95, rfl⟩
abbrev main_call5_call0_cst : Ref sig .tc := ⟨.hbm, 96, rfl⟩
abbrev main_call5_call0_v0 : Ref sig .tc := ⟨.hbm, 97, rfl⟩
abbrev main_call5_call0_v1 : Ref sig .tc := ⟨.hbm, 98, rfl⟩
abbrev main_call5_call0_v2 : Ref sig .tc := ⟨.hbm, 99, rfl⟩
abbrev main_call5_call0_v3 : Ref sig .tc := ⟨.hbm, 100, rfl⟩
abbrev main_call5_call0_v4 : Ref sig .tc := ⟨.hbm, 101, rfl⟩
abbrev main_call5_call0_v5 : Ref sig .tc := ⟨.hbm, 102, rfl⟩
abbrev main_call5_call0_v6 : Ref sig .tc := ⟨.hbm, 103, rfl⟩
abbrev main_call5_call0_v7 : Ref sig .tc := ⟨.hbm, 104, rfl⟩
abbrev main_call5_call0_v8 : Ref sig .tc := ⟨.hbm, 105, rfl⟩
abbrev main_call5_call0_v9 : Ref sig .tc := ⟨.hbm, 106, rfl⟩
abbrev main_call5_call0_v10 : Ref sig .tc := ⟨.hbm, 107, rfl⟩
abbrev main_call5_call0_v11 : Ref sig .tc := ⟨.hbm, 108, rfl⟩
abbrev main_call5_v1 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_4 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩

abbrev nD : Nat := 1
abbrev τ : Topo := Topo.v7x

variable {F : FTy → Type} [FloatOps F]
-- ==== Kernel13.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel14.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel15.lean ====
abbrev S16x2048 : Shape := ⟨2, ![16, 2048]⟩

abbrev nBuf : Space → Nat
  | .hbm => 7
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S16x2048, .f32⟩
  | .hbm, ⟨6, _⟩ => ⟨S16x2048, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference15Ideal.lean ====
abbrev S16x2048 : Shape := ⟨2, ![16, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S16x2048, .f32⟩
  | .hbm, ⟨28, _⟩ => ⟨S16x2048, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S16x2048, .f32⟩
  | .hbm, ⟨34, _⟩ => ⟨S_, .f32⟩
  | .hbm, ⟨35, _⟩ => ⟨S16x2048, .f32⟩
  | .hbm, ⟨36, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2048x768 : Shape := ⟨2, ![2048, 768]⟩
abbrev S1x768 : Shape := ⟨2, ![1, 768]⟩
abbrev S256x768 : Shape := ⟨2, ![256, 768]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x768, .f32⟩
  | .hbm, ⟨1, _⟩ => ⟨S1x768, .f32⟩
  | .hbm, ⟨2, _⟩ => ⟨S2048x768, .bf16⟩
  | .local _ .vmem, ⟨0, _⟩ => ⟨S256x768, .f32⟩
  | .local _ .vmem, ⟨1, _⟩ => ⟨S256x768, .f32⟩
  | .local _ .vmem, ⟨2, _⟩ => ⟨S1x768, .f32⟩
  | .local _ .vmem, ⟨3, _⟩ => ⟨S256x768, .bf16⟩
  | .local _ .vmem, ⟨4, _⟩ => ⟨S256x768, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S2048x768 : Shape := ⟨2, ![2048, 768]⟩
abbrev S1x768 : Shape := ⟨2, ![1, 768]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S1x768, .f32⟩
  | .hbm, ⟨2, _⟩ => ⟨S2048x768, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S2048x768, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S2048x512 : Shape := ⟨2, ![2048, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S2048x512, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x512 : Shape := ⟨2, ![2048, 512]⟩
abbrev S1x512 : Shape := ⟨2, ![1, 512]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S2048x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel18.lean ====
abbrev S2048x768 : Shape := ⟨2, ![2048, 768]⟩
abbrev S1x768 : Shape := ⟨2, ![1, 768]⟩
abbrev S256x768 : Shape := ⟨2, ![256, 768]⟩
abbrev S256 : Shape := ⟨1, ![256]⟩
abbrev S256x1 : Shape := ⟨2, ![256, 1]⟩
abbrev S768 : Shape := ⟨1, ![768]⟩

abbrev nBuf : Space → Nat
  | .hbm => 5
  | .vmem => 8
  | .smem => 0
  | _ => 0

abbrev bufTy : (tb : Table) → Fin (tcTables nBuf tb) → BufTy
  | .hbm, ⟨0, _⟩ => ⟨S2048x768, .f32⟩
  | .hbm, ⟨1, _⟩ => ⟨S1x768, .f32⟩
  | .hbm, ⟨2, _⟩ => ⟨S2048x768, .f32⟩
  | .hbm, ⟨3, _⟩ => ⟨S2048x768, .bf16⟩
  | .hbm, ⟨4, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S1x768, .f32⟩
  | .local _ .vmem, ⟨3, _⟩ => ⟨S256x768, .f32⟩
  | .local _ .vmem, ⟨4, _⟩ => ⟨S256x768, .f32⟩
  | .local _ .vmem, ⟨5, _⟩ => ⟨S256x768, .bf16⟩
  | .local _ .vmem, ⟨6, _⟩ => ⟨S256x768, .bf16⟩
  | .local _ .vmem, ⟨7, _⟩ => ⟨S1x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference18Ideal.lean ====
abbrev S2048x768 : Shape := ⟨2, ![2048, 768]⟩
abbrev S1x768 : Shape := ⟨2, ![1, 768]⟩
abbrev S_ : Shape := ⟨0, ![]⟩
abbrev S2048 : Shape := ⟨1, ![2048]⟩
abbrev S2048x1 : Shape := ⟨2, ![2048, 1]⟩
abbrev S768 : Shape := ⟨1, ![768]⟩

abbrev nBuf : Space → Nat
  | .hbm => 46
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S1x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S2048x768, .f32⟩
  | .hbm, ⟨22, _⟩ => ⟨S2048x768, .f32⟩
  | .hbm, ⟨23, _⟩ => ⟨S_, .f32⟩
  | .hbm, ⟨24, _⟩ => ⟨S768, .f32⟩
  | .hbm, ⟨25, _⟩ => ⟨S1x768, .f32⟩
  | .hbm, ⟨26, _⟩ => ⟨S2048x768, .f32⟩
  | .hbm, ⟨27, _⟩ => ⟨S2048x768, .f32⟩
  | .hbm, ⟨28, _⟩ => ⟨S2048x768, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S2048x768, .f32⟩
  | .hbm, ⟨33, _⟩ => ⟨S2048x768, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048, .f32⟩
  | .hbm, ⟨40, _⟩ => ⟨S2048x768, .f32⟩
  | .hbm, ⟨41, _⟩ => ⟨S2048x768, .f32⟩
  | .hbm, ⟨42, _⟩ => ⟨S2048x768, .f32⟩
  | .hbm, ⟨43, _⟩ => ⟨S2048x768, .f32⟩
  | .hbm, ⟨44, _⟩ => ⟨S2048x768, .f32⟩
  | .hbm, ⟨45, _⟩ => ⟨S2048x768, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel19.lean ====
abbrev S2048x512 : Shape := ⟨2, ![2048, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S2048x512, .f32⟩
  | .hbm, ⟨3, _⟩ => ⟨S2048x512, .bf16⟩
  | .hbm, ⟨4, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .f32⟩
  | .local _ .vmem, ⟨4, _⟩ => ⟨S256x512, .f32⟩
  | .local _ .vmem, ⟨5, _⟩ => ⟨S256x512, .bf16⟩
  | .local _ .vmem, ⟨6, _⟩ => ⟨S256x512, .bf16⟩
  | .local _ .vmem, ⟨7, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference19Ideal.lean ====
abbrev S2048x512 : Shape := ⟨2, ![2048, 512]⟩
abbrev S1x512 : Shape := ⟨2, ![1, 512]⟩
abbrev S_ : Shape := ⟨0, ![]⟩
abbrev S2048 : Shape := ⟨1, ![2048]⟩
abbrev S2048x1 : Shape := ⟨2, ![2048, 1]⟩
abbrev S512 : Shape := ⟨1, ![512]⟩

abbrev nBuf : Space → Nat
  | .hbm => 46
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S2048x512, .f32⟩
  | .hbm, ⟨33, _⟩ => ⟨S2048x512, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel20.lean ====
abbrev S2048x2048 : Shape := ⟨2, ![2048, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference20Ideal.lean ====
abbrev S2048x2048 : Shape := ⟨2, ![2048, 2048]⟩
abbrev S_ : Shape := ⟨0, ![]⟩
abbrev S2048 : Shape := ⟨1, ![2048]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S2048x2048, .bf16⟩
  | .hbm, ⟨26, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel21.lean ====
abbrev S4x16x2048 : Shape := ⟨3, ![4, 16, 2048]⟩
abbrev S16x2048 : Shape := ⟨2, ![16, 2048]⟩
abbrev S1x16x2048 : Shape := ⟨3, ![1, 16, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x16x2048, .f32⟩
  | .hbm, ⟨1, _⟩ => ⟨S16x2048, .f32⟩
  | .local _ .vmem, ⟨0, _⟩ => ⟨S4x16x2048, .f32⟩
  | .local _ .vmem, ⟨1, _⟩ => ⟨S16x2048, .f32⟩
  | _, _ => ⟨S4x16x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference21Ideal.lean ====
abbrev S4x16x2048 : Shape := ⟨3, ![4, 16, 2048]⟩
abbrev S_ : Shape := ⟨0, ![]⟩
abbrev S16x2048 : Shape := ⟨2, ![16, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x16x2048, .f32⟩
  | .hbm, ⟨1, _⟩ => ⟨S_, .f32⟩
  | .hbm, ⟨2, _⟩ => ⟨S16x2048, .f32⟩
  | _, _ => ⟨S4x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mlp.lean ====
module

public import Idealize.ShloMosaic.Lib.Pointwise
public import Mathlib.Algebra.BigOperators.Fin

/-! The squared-ReLU MLP over the extended reals: `y = relu(h w1)² w2` and its derivative. -/

@[expose] public section

noncomputable section

namespace Cert.Mlp

variable (h dy : Fin 2048 → Fin 2048 → EReal) (w1 : Fin 2048 → Fin 8192 → EReal) (w2 : Fin 8192 → Fin 2048 → EReal)

/-- The squared ReLU. -/
def act (z : EReal) : EReal := max z 0 * max z 0

/-- The gradient `d` of the activation, taken to its argument `z`. -/
def gate (d z : EReal) : EReal := d * (2 * max z 0)

/-- The product of two matrices. -/
def mm {m n k : ℕ} (a : Fin m → Fin k → EReal) (b : Fin k → Fin n → EReal) (i : Fin m) (j : Fin n) : EReal := ∑ l, a i l * b l j

/-- The product of a matrix and a transposed one. -/
def mmT {m n k : ℕ} (a : Fin m → Fin k → EReal) (b : Fin n → Fin k → EReal) (i : Fin m) (j : Fin n) : EReal := ∑ l, a i l * b j l

/-- The product of a transposed matrix and another. -/
def Tmm {m n k : ℕ} (a : Fin k → Fin m → EReal) (b : Fin k → Fin n → EReal) (i : Fin m) (j : Fin n) : EReal := ∑ l, a l i * b l j

/-- `u = relu(h w1)²`. -/
def u (i : Fin 2048) (j : Fin 8192) : EReal := act (mm h w1 i j)

/-- The gradient of `z = h w1`. -/
def dz (i : Fin 2048) (j : Fin 8192) : EReal := gate (mmT dy w2 i j) (mm h w1 i j)

/-- The gradient of `w2`. -/
def dw2 (i : Fin 8192) (j : Fin 2048) : EReal := Tmm (u h w1) dy i j

/-- The gradient of `w1`. -/
def dw1 (i : Fin 2048) (j : Fin 8192) : EReal := Tmm h (dz h dy w1 w2) i j

theorem two_bits : Idealize.ShloMosaic.Ideal.ofBits .f32 0x40000000#32 = (2 : EReal) := by
  simp [Idealize.ShloMosaic.Ideal.ofBits, Idealize.ShloMosaic.Ideal.ieee]
  rw [← EReal.coe_mul]
  norm_num
  rfl

theorem add_self (x : EReal) : x + x = 2 * x := by
  have h2 : (2 : EReal) = ((2 : ℝ) : EReal) := rfl
  induction x with
  | bot => rw [h2, EReal.coe_mul_bot_of_pos (by norm_num)]; rfl
  | coe r => rw [h2, ← EReal.coe_add, ← EReal.coe_mul, two_mul]
  | top => rw [h2, EReal.coe_mul_top_of_pos (by norm_num)]; rfl

/-- The product rule's two equal terms, chosen where the argument is positive, are the kernel's one product. -/
theorem gate_eq (d z : EReal) : (if 0 < z then max z 0 * d + d * max z 0 else 0) = gate d z := by
  unfold gate
  split
  · rw [mul_comm d (max z 0), add_self, mul_comm d, mul_assoc]
  · rw [max_eq_right (not_lt.mp ‹_›), mul_zero, mul_zero]

/-- The sum over the `b`-th of four blocks of 2048. -/
def block (f : Fin 8192 → EReal) (b : ℕ) (hb : b < 4) : EReal := ∑ k : Fin 2048, f ⟨b * 2048 + k.val, by omega⟩

/-- A sum over 8192 in four blocks of 2048. -/
theorem sum_blocks (f : Fin 8192 → EReal) :
    ∑ k, f k = ((block f 0 (by decide) + block f 1 (by decide)) + block f 2 (by decide)) + block f 3 (by decide) := by
  have e1 := Fin.sum_univ_add (a := 6144) (b := 2048) f
  have e2 := Fin.sum_univ_add (a := 4096) (b := 2048) fun k => f (Fin.castAdd 2048 k)
  have e3 := Fin.sum_univ_add (a := 2048) (b := 2048) fun k => f (Fin.castAdd 2048 (Fin.castAdd 2048 k))
  have e0 : block f 0 (by decide) = ∑ k : Fin 2048, f (Fin.castAdd 2048 (Fin.castAdd 2048 (Fin.castAdd 2048 k))) :=
    Finset.sum_congr rfl fun k _ => congrArg f (Fin.ext (by show 0 * 2048 + k.val = k.val; omega))
  rw [e1, e2, e3, e0]
  rfl

end Cert.Mlp
-- ==== Proof.Proj.lean ====
module

public import proofs.«01_k».proof.Proof.Gen.Kernel5Ideal.Frame
public import proofs.«01_k».proof.Proof.Mlp
public import Idealize.ShloMosaic.Lib.Pointwise
public import Idealize.ShloMosaic.Lib.Pipeline.ValueKit

/-! The projections of the mixers, forward and backward: six tiled products, each the whole product. -/

@[expose] public section

set_option maxRecDepth 16384

noncomputable section

namespace Cert.Kernel5Ideal.Proj

open Idealize.ShloMosaic Idealize.ShloMosaic.TcCoe Idealize.SL.Sem
open Cert.Kernel5Ideal Cert.Kernel5Ideal.Gen Cert.Mlp

theorem z2 : (![0, 0] : Fin 2 → Nat) = fun _ => 0 := funext fun a => by fin_cases a <;> rfl

variable (V : (c : Dev nD) → (b : Ref sig .tc) → Buf (Elt Ideal) ((c : Thread nD τ).loc b)) (c : Dev nD)

/-- An array read as a matrix. -/
abbrev mat {a b : ℕ} (x : (⟨2, ![a, b]⟩ : Shape).Idx → EReal) : Fin a → Fin b → EReal := fun i j => x (ix2 i j)

/-- An index of a matrix is its row and its column. -/
theorem pair {a b : ℕ} (i : (⟨2, ![a, b]⟩ : Shape).Idx) : i = ix2 (i 0) (i 1) := by
  funext k
  match k with
  | ⟨0, _⟩ => rfl
  | ⟨1, _⟩ => rfl

section
variable {m k n s r : ℕ} {i : Fin m} {j : Fin n} {p : Fin s} {q : Fin r}

/-- The product of a block of rows and a block of columns is a block of the product, in the arrays' own indices. -/
theorem mm_blk {x : (⟨2, ![s, k]⟩ : Shape).Idx → EReal} {y : (⟨2, ![k, r]⟩ : Shape).Idx → EReal} {X : (⟨2, ![m, k]⟩ : Shape).Idx → EReal}
    {Y : (⟨2, ![k, n]⟩ : Shape).Idx → EReal} (h0 : ∀ l, x (ix2 p l) = X (ix2 i l)) (h1 : ∀ l, y (ix2 l q) = Y (ix2 l j)) :
    ∑ l, x (ix2 p l) * y (ix2 l q) = mm (mat X) (mat Y) i j :=
  Finset.sum_congr rfl fun l _ => congrArg₂ (fun a b : EReal => a * b) (h0 l) (h1 l)

theorem mmT_blk {x : (⟨2, ![s, k]⟩ : Shape).Idx → EReal} {y : (⟨2, ![r, k]⟩ : Shape).Idx → EReal} {X : (⟨2, ![m, k]⟩ : Shape).Idx → EReal}
    {Y : (⟨2, ![n, k]⟩ : Shape).Idx → EReal} (h0 : ∀ l, x (ix2 p l) = X (ix2 i l)) (h1 : ∀ l, y (ix2 q l) = Y (ix2 j l)) :
    ∑ l, x (ix2 p l) * y (ix2 q l) = mmT (mat X) (mat Y) i j :=
  Finset.sum_congr rfl fun l _ => congrArg₂ (fun a b : EReal => a * b) (h0 l) (h1 l)

theorem Tmm_blk {x : (⟨2, ![k, s]⟩ : Shape).Idx → EReal} {y : (⟨2, ![k, r]⟩ : Shape).Idx → EReal} {X : (⟨2, ![k, m]⟩ : Shape).Idx → EReal}
    {Y : (⟨2, ![k, n]⟩ : Shape).Idx → EReal} (h0 : ∀ l, x (ix2 l p) = X (ix2 l i)) (h1 : ∀ l, y (ix2 l q) = Y (ix2 l j)) :
    ∑ l, x (ix2 l p) * y (ix2 l q) = Tmm (mat X) (mat Y) i j :=
  Finset.sum_congr rfl fun l _ => congrArg₂ (fun a b : EReal => a * b) (h0 l) (h1 l)

end

/-! ## The product out of the mixer, with the residual -/

theorem idx0 : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

theorem out0 (x0 : Vec Ideal S1024x2048 .bf16) (x1 : Vec Ideal S2048x1024 .bf16) (x2 : Vec Ideal S1024x1024 .f32) (p q : Fin 1024) :
    out0_3 (F := Ideal) x0 x1 x2 (ix2 p q) = (∑ k : Fin 2048, x0 (ix2 p k) * x1 (ix2 k q)) + x2 (ix2 p q) := by
  unfold out0_3
  rw [View.canon_unit_zero z2, View.ld_unit_zero z2, View.ld_unit_zero z2, View.ld_unit_zero z2]
  pointwise [k0_pay1]

theorem blk0_0 (t : Fin cfg0.N) (p : Fin 1024) (k i : Fin 2048) (hi : i.val = t.val / 2 * 1024 + p.val) :
    iblk0 V c 0 t (ix2 p k) = V c main_arg1 (ix2 i k) := by
  obtain ⟨e, -⟩ := idx0 t
  blk_ext [iblk0, e]

theorem blk0_1 (t : Fin cfg0.N) (k : Fin 2048) (q : Fin 1024) (j : Fin 2048) (hj : j.val = t.val % 2 * 1024 + q.val) :
    iblk0 V c 1 t (ix2 k q) = V c main_arg2 (ix2 k j) := by
  obtain ⟨-, e, -⟩ := idx0 t
  blk_ext [iblk0, e]

theorem blk0_2 (t : Fin cfg0.N) (p q : Fin 1024) (i j : Fin 2048) (hi : i.val = t.val / 2 * 1024 + p.val) (hj : j.val = t.val % 2 * 1024 + q.val) :
    iblk0 V c 2 t (ix2 p q) = V c main_arg0 (ix2 i j) := by
  obtain ⟨-, -, e, -⟩ := idx0 t
  blk_ext [iblk0, e]

/-- The array the call leaves. -/
def arr0 : Buf (Elt Ideal) ((c : Thread nD τ).loc main_v0) := fun i => (mm (mat (V c main_arg1)) (mat (V c main_arg2)) (i 0) (i 1) : EReal) + V c main_arg0 (ix2 (i 0) (i 1))

theorem flushed0 (t : Fin cfg0.N) : (dat0 V c).flushed 3 t = ((cfg0.win 3).blk t).view.read (Elt Ideal) (arr0 V c) := by
  show (cfg0.win 3).cut (grid0.coords t) ((dat0 V c).after 3 t) = _
  rw [after0_3]
  obtain ⟨-, -, -, e⟩ := idx0 t
  funext y
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  rw [e, one_mul] at hb0 hb1
  show out0_3 _ _ _ ((cfg0.win 3).xinj (grid0.coords t) y) = arr0 V c (((cfg0.win 3).blk t).view.emb y)
  refine (congrArg (out0_3 _ _ _) (pair (a := 1024) (b := 1024) _)).trans ((out0 _ _ _ _ _).trans ?_)
  exact congrArg₂ (fun a b : EReal => a + b) (mm_blk (fun k => blk0_0 V c t _ k _ hb0) fun k => blk0_1 V c t k _ _ hb1) (blk0_2 V c t _ _ _ _ hb0 hb1)

theorem final0 : (dat0 V c).arrAt 3 cfg0.N = arr0 V c :=
  (dat0 V c).arrAt_eq_of_cover 3 _ (fun t _ => flushed0 V c t) ((by decide +kernel : (cfg0.win 3).Covers).cover _ (Memref.isWhole_whole _))

/-! ## Its gradient to the mixer -/

theorem idx1 : ∀ t : Fin cfg1.N, win1_0.index t = ![t.val / 2, 0] ∧ win1_1.index t = ![t.val % 2, 0] ∧ win1_2.index t = ![t.val / 2, t.val % 2] :=
  (by decide +kernel : ∀ t : Fin grid1.N, _)

theorem out1 (x0 : Vec Ideal S1024x2048 .bf16) (x1 : Vec Ideal S1024x2048 .bf16) (p q : Fin 1024) :
    out1_2 (F := Ideal) x0 x1 (ix2 p q) = ∑ k : Fin 2048, x0 (ix2 p k) * x1 (ix2 q k) := by
  unfold out1_2
  rw [View.canon_unit_zero z2, View.ld_unit_zero z2, View.ld_unit_zero z2]
  pointwise [k1_pay1]

theorem blk1_0 (t : Fin cfg1.N) (p : Fin 1024) (k i : Fin 2048) (hi : i.val = t.val / 2 * 1024 + p.val) :
    iblk1 V c 0 t (ix2 p k) = V c main_arg3 (ix2 i k) := by
  obtain ⟨e, -⟩ := idx1 t
  blk_ext [iblk1, e]

theorem blk1_1 (t : Fin cfg1.N) (k : Fin 2048) (q : Fin 1024) (j : Fin 2048) (hj : j.val = t.val % 2 * 1024 + q.val) :
    iblk1 V c 1 t (ix2 q k) = V c main_arg2 (ix2 j k) := by
  obtain ⟨-, e, -⟩ := idx1 t
  blk_ext [iblk1, e]

/-- The array the call leaves. -/
def arr1 : Buf (Elt Ideal) ((c : Thread nD τ).loc main_v1) := fun i => mmT (mat (V c main_arg3)) (mat (V c main_arg2)) (i 0) (i 1)

theorem flushed1 (t : Fin cfg1.N) : (dat1 V c).flushed 2 t = ((cfg1.win 2).blk t).view.read (Elt Ideal) (arr1 V c) := by
  show (cfg1.win 2).cut (grid1.coords t) ((dat1 V c).after 2 t) = _
  rw [after1_2]
  obtain ⟨-, -, e⟩ := idx1 t
  funext y
  have hb0 : (((cfg1.win 2).blk t).view.emb y 0).val = win1_2.index t (0 : Fin 2) * 1024 + 1 * (y 0).val := rfl
  have hb1 : (((cfg1.win 2).blk t).view.emb y 1).val = win1_2.index t (1 : Fin 2) * 1024 + 1 * (y 1).val := rfl
  rw [e, one_mul] at hb0 hb1
  show out1_2 _ _ ((cfg1.win 2).xinj (grid1.coords t) y) = arr1 V c (((cfg1.win 2).blk t).view.emb y)
  refine (congrArg (out1_2 _ _) (pair (a := 1024) (b := 1024) _)).trans ((out1 _ _ _ _).trans ?_)
  exact mmT_blk (fun k => blk1_0 V c t _ k _ hb0) fun k => blk1_1 V c t k _ _ hb1

theorem final1 : (dat1 V c).arrAt 2 cfg1.N = arr1 V c :=
  (dat1 V c).arrAt_eq_of_cover 2 _ (fun t _ => flushed1 V c t) ((by decide +kernel : (cfg1.win 2).Covers).cover _ (Memref.isWhole_whole _))

/-! ## Its gradient to the weight -/

theorem idx2 : ∀ t : Fin cfg2.N, win2_0.index t = ![0, t.val / 2] ∧ win2_1.index t = ![0, t.val % 2] ∧ win2_2.index t = ![t.val / 2, t.val % 2] :=
  (by decide +kernel : ∀ t : Fin grid2.N, _)

theorem out2 (x0 : Vec Ideal S2048x1024 .bf16) (x1 : Vec Ideal S2048x1024 .bf16) (p q : Fin 1024) :
    out2_2 (F := Ideal) x0 x1 (ix2 p q) = ∑ k : Fin 2048, x0 (ix2 k p) * x1 (ix2 k q) := by
  unfold out2_2
  rw [View.canon_unit_zero z2, View.ld_unit_zero z2, View.ld_unit_zero z2]
  pointwise [k2_pay1]

theorem blk2_0 (t : Fin cfg2.N) (p : Fin 1024) (k i : Fin 2048) (hi : i.val = t.val / 2 * 1024 + p.val) :
    iblk2 V c 0 t (ix2 k p) = V c main_arg1 (ix2 k i) := by
  obtain ⟨e, -⟩ := idx2 t
  blk_ext [iblk2, e]

theorem blk2_1 (t : Fin cfg2.N) (k : Fin 2048) (q : Fin 1024) (j : Fin 2048) (hj : j.val = t.val % 2 * 1024 + q.val) :
    iblk2 V c 1 t (ix2 k q) = V c main_arg3 (ix2 k j) := by
  obtain ⟨-, e, -⟩ := idx2 t
  blk_ext [iblk2, e]

/-- The array the call leaves. -/
def arr2 : Buf (Elt Ideal) ((c : Thread nD τ).loc main_v2) := fun i => Tmm (mat (V c main_arg1)) (mat (V c main_arg3)) (i 0) (i 1)

theorem flushed2 (t : Fin cfg2.N) : (dat2 V c).flushed 2 t = ((cfg2.win 2).blk t).view.read (Elt Ideal) (arr2 V c) := by
  show (cfg2.win 2).cut (grid2.coords t) ((dat2 V c).after 2 t) = _
  rw [after2_2]
  obtain ⟨-, -, e⟩ := idx2 t
  funext y
  have hb0 : (((cfg2.win 2).blk t).view.emb y 0).val = win2_2.index t (0 : Fin 2) * 1024 + 1 * (y 0).val := rfl
  have hb1 : (((cfg2.win 2).blk t).view.emb y 1).val = win2_2.index t (1 : Fin 2) * 1024 + 1 * (y 1).val := rfl
  rw [e, one_mul] at hb0 hb1
  show out2_2 _ _ ((cfg2.win 2).xinj (grid2.coords t) y) = arr2 V c (((cfg2.win 2).blk t).view.emb y)
  refine (congrArg (out2_2 _ _) (pair (a := 1024) (b := 1024) _)).trans ((out2 _ _ _ _).trans ?_)
  exact Tmm_blk (fun k => blk2_0 V c t _ k _ hb0) fun k => blk2_1 V c t k _ _ hb1

theorem final2 : (dat2 V c).arrAt 2 cfg2.N = arr2 V c :=
  (dat2 V c).arrAt_eq_of_cover 2 _ (fun t _ => flushed2 V c t) ((by decide +kernel : (cfg2.win 2).Covers).cover _ (Memref.isWhole_whole _))

/-! ## The product into the mixer, rounded -/

theorem idx3 : ∀ t : Fin cfg3.N, win3_0.index t = ![t.val / 6, 0] ∧ win3_1.index t = ![0, t.val % 6] ∧ win3_2.index t = ![t.val / 6, t.val % 6] :=
  (by decide +kernel : ∀ t : Fin grid3.N, _)

theorem out3 (x0 : Vec Ideal S1024x2048 .bf16) (x1 : Vec Ideal S2048x1024 .bf16) (p q : Fin 1024) :
    out3_2 (F := Ideal) x0 x1 (ix2 p q) = ∑ k : Fin 2048, x0 (ix2 p k) * x1 (ix2 k q) := by
  unfold out3_2
  rw [View.canon_unit_zero z2, View.ld_unit_zero z2, View.ld_unit_zero z2]
  pointwise [k3_pay1]

theorem blk3_0 (t : Fin cfg3.N) (p : Fin 1024) (k i : Fin 2048) (hi : i.val = t.val / 6 * 1024 + p.val) :
    iblk3 V c 0 t (ix2 p k) = V c main_arg4 (ix2 i k) := by
  obtain ⟨e, -⟩ := idx3 t
  blk_ext [iblk3, e]

theorem blk3_1 (t : Fin cfg3.N) (k : Fin 2048) (q : Fin 1024) (j : Fin 6144) (hj : j.val = t.val % 6 * 1024 + q.val) :
    iblk3 V c 1 t (ix2 k q) = V c main_arg5 (ix2 k j) := by
  obtain ⟨-, e, -⟩ := idx3 t
  blk_ext [iblk3, e]

/-- The array the call leaves. -/
def arr3 : Buf (Elt Ideal) ((c : Thread nD τ).loc main_v3) := fun i => mm (mat (V c main_arg4)) (mat (V c main_arg5)) (i 0) (i 1)

theorem flushed3 (t : Fin cfg3.N) : (dat3 V c).flushed 2 t = ((cfg3.win 2).blk t).view.read (Elt Ideal) (arr3 V c) := by
  show (cfg3.win 2).cut (grid3.coords t) ((dat3 V c).after 2 t) = _
  rw [after3_2]
  obtain ⟨-, -, e⟩ := idx3 t
  funext y
  have hb0 : (((cfg3.win 2).blk t).view.emb y 0).val = win3_2.index t (0 : Fin 2) * 1024 + 1 * (y 0).val := rfl
  have hb1 : (((cfg3.win 2).blk t).view.emb y 1).val = win3_2.index t (1 : Fin 2) * 1024 + 1 * (y 1).val := rfl
  rw [e, one_mul] at hb0 hb1
  show out3_2 _ _ ((cfg3.win 2).xinj (grid3.coords t) y) = arr3 V c (((cfg3.win 2).blk t).view.emb y)
  refine (congrArg (out3_2 _ _) (pair (a := 1024) (b := 1024) _)).trans ((out3 _ _ _ _).trans ?_)
  exact mm_blk (fun k => blk3_0 V c t _ k _ hb0) fun k => blk3_1 V c t k _ _ hb1

theorem final3 : (dat3 V c).arrAt 2 cfg3.N = arr3 V c :=
  (dat3 V c).arrAt_eq_of_cover 2 _ (fun t _ => flushed3 V c t) ((by decide +kernel : (cfg3.win 2).Covers).cover _ (Memref.isWhole_whole _))

/-! ## The product into the mixer, kept -/

theorem idx4 : ∀ t : Fin cfg4.N, win4_0.index t = ![t.val / 6, 0] ∧ win4_1.index t = ![0, t.val % 6] ∧ win4_2.index t = ![t.val / 6, t.val % 6] :=
  (by decide +kernel : ∀ t : Fin grid4.N, _)

theorem out4 (x0 : Vec Ideal S1024x2048 .bf16) (x1 : Vec Ideal S2048x1024 .bf16) (p q : Fin 1024) :
    out4_2 (F := Ideal) x0 x1 (ix2 p q) = ∑ k : Fin 2048, x0 (ix2 p k) * x1 (ix2 k q) := by
  unfold out4_2
  rw [View.canon_unit_zero z2, View.ld_unit_zero z2, View.ld_unit_zero z2]
  pointwise [k4_pay1]

theorem blk4_0 (t : Fin cfg4.N) (p : Fin 1024) (k i : Fin 2048) (hi : i.val = t.val / 6 * 1024 + p.val) :
    iblk4 V c 0 t (ix2 p k) = V c main_arg4 (ix2 i k) := by
  obtain ⟨e, -⟩ := idx4 t
  blk_ext [iblk4, e]

theorem blk4_1 (t : Fin cfg4.N) (k : Fin 2048) (q : Fin 1024) (j : Fin 6144) (hj : j.val = t.val % 6 * 1024 + q.val) :
    iblk4 V c 1 t (ix2 k q) = V c main_arg5 (ix2 k j) := by
  obtain ⟨-, e, -⟩ := idx4 t
  blk_ext [iblk4, e]

/-- The array the call leaves. -/
def arr4 : Buf (Elt Ideal) ((c : Thread nD τ).loc main_v4) := fun i => mm (mat (V c main_arg4)) (mat (V c main_arg5)) (i 0) (i 1)

theorem flushed4 (t : Fin cfg4.N) : (dat4 V c).flushed 2 t = ((cfg4.win 2).blk t).view.read (Elt Ideal) (arr4 V c) := by
  show (cfg4.win 2).cut (grid4.coords t) ((dat4 V c).after 2 t) = _
  rw [after4_2]
  obtain ⟨-, -, e⟩ := idx4 t
  funext y
  have hb0 : (((cfg4.win 2).blk t).view.emb y 0).val = win4_2.index t (0 : Fin 2) * 1024 + 1 * (y 0).val := rfl
  have hb1 : (((cfg4.win 2).blk t).view.emb y 1).val = win4_2.index t (1 : Fin 2) * 1024 + 1 * (y 1).val := rfl
  rw [e, one_mul] at hb0 hb1
  show out4_2 _ _ ((cfg4.win 2).xinj (grid4.coords t) y) = arr4 V c (((cfg4.win 2).blk t).view.emb y)
  refine (congrArg (out4_2 _ _) (pair (a := 1024) (b := 1024) _)).trans ((out4 _ _ _ _).trans ?_)
  exact mm_blk (fun k => blk4_0 V c t _ k _ hb0) fun k => blk4_1 V c t k _ _ hb1

theorem final4 : (dat4 V c).arrAt 2 cfg4.N = arr4 V c :=
  (dat4 V c).arrAt_eq_of_cover 2 _ (fun t _ => flushed4 V c t) ((by decide +kernel : (cfg4.win 2).Covers).cover _ (Memref.isWhole_whole _))

/-! ## Its gradient to the weight -/

theorem idx5 : ∀ t : Fin cfg5.N, win5_0.index t = ![0, t.val / 6] ∧ win5_1.index t = ![0, t.val % 6] ∧ win5_2.index t = ![t.val / 6, t.val % 6] :=
  (by decide +kernel : ∀ t : Fin grid5.N, _)

theorem out5 (x0 : Vec Ideal S2048x1024 .bf16) (x1 : Vec Ideal S2048x1024 .bf16) (p q : Fin 1024) :
    out5_2 (F := Ideal) x0 x1 (ix2 p q) = ∑ k : Fin 2048, x0 (ix2 k p) * x1 (ix2 k q) := by
  unfold out5_2
  rw [View.canon_unit_zero z2, View.ld_unit_zero z2, View.ld_unit_zero z2]
  pointwise [k5_pay1]

theorem blk5_0 (t : Fin cfg5.N) (p : Fin 1024) (k i : Fin 2048) (hi : i.val = t.val / 6 * 1024 + p.val) :
    iblk5 V c 0 t (ix2 k p) = V c main_arg4 (ix2 k i) := by
  obtain ⟨e, -⟩ := idx5 t
  blk_ext [iblk5, e]

theorem blk5_1 (t : Fin cfg5.N) (k : Fin 2048) (q : Fin 1024) (j : Fin 6144) (hj : j.val = t.val % 6 * 1024 + q.val) :
    iblk5 V c 1 t (ix2 k q) = V c main_arg6 (ix2 k j) := by
  obtain ⟨-, e, -⟩ := idx5 t
  blk_ext [iblk5, e]

/-- The array the call leaves. -/
def arr5 : Buf (Elt Ideal) ((c : Thread nD τ).loc main_v5) := fun i => Tmm (mat (V c main_arg4)) (mat (V c main_arg6)) (i 0) (i 1)

theorem flushed5 (t : Fin cfg5.N) : (dat5 V c).flushed 2 t = ((cfg5.win 2).blk t).view.read (Elt Ideal) (arr5 V c) := by
  show (cfg5.win 2).cut (grid5.coords t) ((dat5 V c).after 2 t) = _
  rw [after5_2]
  obtain ⟨-, -, e⟩ := idx5 t
  funext y
  have hb0 : (((cfg5.win 2).blk t).view.emb y 0).val = win5_2.index t (0 : Fin 2) * 1024 + 1 * (y 0).val := rfl
  have hb1 : (((cfg5.win 2).blk t).view.emb y 1).val = win5_2.index t (1 : Fin 2) * 1024 + 1 * (y 1).val := rfl
  rw [e, one_mul] at hb0 hb1
  show out5_2 _ _ ((cfg5.win 2).xinj (grid5.coords t) y) = arr5 V c (((cfg5.win 2).blk t).view.emb y)
  refine (congrArg (out5_2 _ _) (pair (a := 1024) (b := 1024) _)).trans ((out5 _ _ _ _).trans ?_)
  exact Tmm_blk (fun k => blk5_0 V c t _ k _ hb0) fun k => blk5_1 V c t k _ _ hb1

theorem final5 : (dat5 V c).arrAt 2 cfg5.N = arr5 V c :=
  (dat5 V c).arrAt_eq_of_cover 2 _ (fun t _ => flushed5 V c t) ((by decide +kernel : (cfg5.win 2).Covers).cover _ (Memref.isWhole_whole _))

end Cert.Kernel5Ideal.Proj
-- ==== Proof.Latent.lean ====
module

public import proofs.«01_k».proof.Proof.Gen.Kernel7Ideal.Frame
public import proofs.«01_k».proof.Proof.Proj
public import Idealize.ShloMosaic.Lib.Pointwise
public import Idealize.ShloMosaic.Lib.Pipeline.ValueKit

/-! The projections of the latent attention and of the forget gate, forward: six tiled products, each the whole product. -/

@[expose] public section

set_option maxRecDepth 16384

noncomputable section

namespace Cert.Kernel7Ideal.Latent

open Idealize.ShloMosaic Idealize.ShloMosaic.TcCoe Idealize.SL.Sem
open Cert.Kernel7Ideal Cert.Kernel7Ideal.Gen Cert.Mlp
open Cert.Kernel5Ideal.Proj (z2 mat pair mm_blk mmT_blk Tmm_blk)

variable (V : (c : Dev nD) → (b : Ref sig .tc) → Buf (Elt Ideal) ((c : Thread nD τ).loc b)) (c : Dev nD)

/-! ## The queries' latent -/

theorem idx0 : ∀ t : Fin cfg0.N, win0_0.index t = ![t.val, 0] ∧ win0_1.index t = ![0, 0] ∧ win0_2.index t = ![t.val, 0] :=
  (by decide +kernel : ∀ t : Fin grid0.N, _)

theorem out0 (x0 : Vec Ideal S1024x2048 .bf16) (x1 : Vec Ideal S2048x768 .bf16) (p : Fin 1024) (q : Fin 768) :
    out0_2 (F := Ideal) x0 x1 (ix2 p q) = ∑ k : Fin 2048, x0 (ix2 p k) * x1 (ix2 k q) := by
  unfold out0_2
  rw [View.canon_unit_zero z2, View.ld_unit_zero z2, View.ld_unit_zero z2]
  pointwise [k0_pay1]

/-- The array the call leaves. -/
def arr0 : Buf (Elt Ideal) ((c : Thread nD τ).loc main_v0) := fun i => mm (mat (V c main_arg0)) (mat (V c main_arg1)) (i 0) (i 1)

theorem final0 : (dat0 V c).arrAt 2 cfg0.N = arr0 V c := by
  refine (dat0 V c).arrAt_eq_of_covers 2 _ (by decide +kernel) fun t hf y => ?_
  blk_simp
  rw [after0_2]
  obtain ⟨e0, e1, e2⟩ := idx0 t
  refine (congrArg (out0_2 _ _) (pair y)).trans ((out0 _ _ _ _).trans (mm_blk (fun k => ?_) fun k => ?_))
  · blk_ext [iblk0, e0, e2]
  · blk_ext [iblk0, e1, e2]

/-! ## The keys' and values' latent -/

theorem idx1 : ∀ t : Fin cfg1.N, win1_0.index t = ![t.val, 0] ∧ win1_1.index t = ![0, 0] ∧ win1_2.index t = ![t.val, 0] :=
  (by decide +kernel : ∀ t : Fin grid1.N, _)

theorem out1 (x0 : Vec Ideal S1024x2048 .bf16) (x1 : Vec Ideal S2048x512 .bf16) (p : Fin 1024) (q : Fin 512) :
    out1_2 (F := Ideal) x0 x1 (ix2 p q) = ∑ k : Fin 2048, x0 (ix2 p k) * x1 (ix2 k q) := by
  unfold out1_2
  rw [View.canon_unit_zero z2, View.ld_unit_zero z2, View.ld_unit_zero z2]
  pointwise [k1_pay1]

/-- The array the call leaves. -/
def arr1 : Buf (Elt Ideal) ((c : Thread nD τ).loc main_v1) := fun i => mm (mat (V c main_arg0)) (mat (V c main_arg2)) (i 0) (i 1)

theorem final1 : (dat1 V c).arrAt 2 cfg1.N = arr1 V c := by
  refine (dat1 V c).arrAt_eq_of_covers 2 _ (by decide +kernel) fun t hf y => ?_
  blk_simp
  rw [after1_2]
  obtain ⟨e0, e1, e2⟩ := idx1 t
  refine (congrArg (out1_2 _ _) (pair y)).trans ((out1 _ _ _ _).trans (mm_blk (fun k => ?_) fun k => ?_))
  · blk_ext [iblk1, e0, e2]
  · blk_ext [iblk1, e1, e2]

/-! ## The rotary key -/

theorem idx2 : ∀ t : Fin cfg2.N, win2_0.index t = ![t.val, 0] ∧ win2_1.index t = ![0, 0] ∧ win2_2.index t = ![t.val, 0] :=
  (by decide +kernel : ∀ t : Fin grid2.N, _)

theorem out2 (x0 : Vec Ideal S1024x2048 .bf16) (x1 : Vec Ideal S2048x128 .bf16) (p : Fin 1024) (q : Fin 128) :
    out2_2 (F := Ideal) x0 x1 (ix2 p q) = ∑ k : Fin 2048, x0 (ix2 p k) * x1 (ix2 k q) := by
  unfold out2_2
  rw [View.canon_unit_zero z2, View.ld_unit_zero z2, View.ld_unit_zero z2]
  pointwise [k2_pay1]

/-- The array the call leaves. -/
def arr2 : Buf (Elt Ideal) ((c : Thread nD τ).loc main_v2) := fun i => mm (mat (V c main_arg0)) (mat (V c main_arg3)) (i 0) (i 1)

theorem final2 : (dat2 V c).arrAt 2 cfg2.N = arr2 V c := by
  refine (dat2 V c).arrAt_eq_of_covers 2 _ (by decide +kernel) fun t hf y => ?_
  blk_simp
  rw [after2_2]
  obtain ⟨e0, e1, e2⟩ := idx2 t
  refine (congrArg (out2_2 _ _) (pair y)).trans ((out2 _ _ _ _).trans (mm_blk (fun k => ?_) fun k => ?_))
  · blk_ext [iblk2, e0, e2]
  · blk_ext [iblk2, e1, e2]

/-! ## The forget gate -/

theorem idx3 : ∀ t : Fin cfg3.N, win3_0.index t = ![t.val, 0] ∧ win3_1.index t = ![0, 0] ∧ win3_2.index t = ![t.val, 0] :=
  (by decide +kernel : ∀ t : Fin grid3.N, _)

theorem out3 (x0 : Vec Ideal S1024x2048 .bf16) (x1 : Vec Ideal S2048x128 .bf16) (p : Fin 1024) (q : Fin 128) :
    out3_2 (F := Ideal) x0 x1 (ix2 p q) = ∑ k : Fin 2048, x0 (ix2 p k) * x1 (ix2 k q) := by
  unfold out3_2
  rw [View.canon_unit_zero z2, View.ld_unit_zero z2, View.ld_unit_zero z2]
  pointwise [k3_pay1]

/-- The array the call leaves. -/
def arr3 : Buf (Elt Ideal) ((c : Thread nD τ).loc main_v3) := fun i => mm (mat (V c main_arg0)) (mat (V c main_arg4)) (i 0) (i 1)

theorem final3 : (dat3 V c).arrAt 2 cfg3.N = arr3 V c := by
  refine (dat3 V c).arrAt_eq_of_covers 2 _ (by decide +kernel) fun t hf y => ?_
  blk_simp
  rw [after3_2]
  obtain ⟨e0, e1, e2⟩ := idx3 t
  refine (congrArg (out3_2 _ _) (pair y)).trans ((out3 _ _ _ _).trans (mm_blk (fun k => ?_) fun k => ?_))
  · blk_ext [iblk3, e0, e2]
  · blk_ext [iblk3, e1, e2]

/-! ## The queries from their latent -/

theorem idx4 : ∀ t : Fin cfg4.N, win4_0.index t = ![t.val / 4, 0] ∧ win4_1.index t = ![0, t.val % 4] ∧ win4_2.index t = ![t.val / 4, t.val % 4] :=
  (by decide +kernel : ∀ t : Fin grid4.N, _)

theorem out4 (x0 : Vec Ideal S1024x768 .bf16) (x1 : Vec Ideal S768x1024 .bf16) (p : Fin 1024) (q : Fin 1024) :
    out4_2 (F := Ideal) x0 x1 (ix2 p q) = ∑ k : Fin 768, x0 (ix2 p k) * x1 (ix2 k q) := by
  unfold out4_2
  rw [View.canon_unit_zero z2, View.ld_unit_zero z2, View.ld_unit_zero z2]
  pointwise [k4_pay1]

/-- The array the call leaves. -/
def arr4 : Buf (Elt Ideal) ((c : Thread nD τ).loc main_v4) := fun i => mm (mat (V c main_arg5)) (mat (V c main_arg6)) (i 0) (i 1)

theorem final4 : (dat4 V c).arrAt 2 cfg4.N = arr4 V c := by
  refine (dat4 V c).arrAt_eq_of_covers 2 _ (by decide +kernel) fun t hf y => ?_
  blk_simp
  rw [after4_2]
  obtain ⟨e0, e1, e2⟩ := idx4 t
  refine (congrArg (out4_2 _ _) (pair y)).trans ((out4 _ _ _ _).trans (mm_blk (fun k => ?_) fun k => ?_))
  · blk_ext [iblk4, e0, e2]
  · blk_ext [iblk4, e1, e2]

/-! ## The keys and values from theirs -/

theorem idx5 : ∀ t : Fin cfg5.N, win5_0.index t = ![t.val / 4, 0] ∧ win5_1.index t = ![0, t.val % 4] ∧ win5_2.index t = ![t.val / 4, t.val % 4] :=
  (by decide +kernel : ∀ t : Fin grid5.N, _)

theorem out5 (x0 : Vec Ideal S1024x512 .bf16) (x1 : Vec Ideal S512x1024 .bf16) (p : Fin 1024) (q : Fin 1024) :
    out5_2 (F := Ideal) x0 x1 (ix2 p q) = ∑ k : Fin 512, x0 (ix2 p k) * x1 (ix2 k q) := by
  unfold out5_2
  rw [View.canon_unit_zero z2, View.ld_unit_zero z2, View.ld_unit_zero z2]
  pointwise [k5_pay1]

/-- The array the call leaves. -/
def arr5 : Buf (Elt Ideal) ((c : Thread nD τ).loc main_v5) := fun i => mm (mat (V c main_arg7)) (mat (V c main_arg8)) (i 0) (i 1)

theorem final5 : (dat5 V c).arrAt 2 cfg5.N = arr5 V c := by
  refine (dat5 V c).arrAt_eq_of_covers 2 _ (by decide +kernel) fun t hf y => ?_
  blk_simp
  rw [after5_2]
  obtain ⟨e0, e1, e2⟩ := idx5 t
  refine (congrArg (out5_2 _ _) (pair y)).trans ((out5 _ _ _ _).trans (mm_blk (fun k => ?_) fun k => ?_))
  · blk_ext [iblk5, e0, e2]
  · blk_ext [iblk5, e1, e2]

end Cert.Kernel7Ideal.Latent
-- ==== Proof.LatentRun.lean ====
module

public import proofs.«01_k».proof.Proof.Latent

/-! The six forward products one after the other: what the results hold at the end. -/

@[expose] public section

set_option maxRecDepth 16384

noncomputable section

namespace Cert.Kernel7Ideal.LatentRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen
open Cert.Kernel5Ideal.Proj (mat)

variable (m : (ℓ : Loc nD τ sig) → Buf (Elt Ideal) ℓ) (ρ : Dev nD → PrngReg) (c : Dev nD)

/-- The arguments. -/
abbrev arg (b : Ref sig .tc) : Buf (Elt Ideal) ((c : Thread nD τ).loc b) := m ((c : Thread nD τ).loc b)

theorem v0_eq : W6 m ρ c (Proc.devRef .tc main_v0) = fun i => Mlp.mm (mat (arg m c main_arg0)) (mat (arg m c main_arg1)) (i 0) (i 1) := by
  refine ((W6_of m ρ c main_v0 (by decide)).trans ((W5_of m ρ c main_v0 (by decide)).trans ((W4_of m ρ c main_v0 (by decide)).trans ((W3_of m ρ c main_v0 (by decide)).trans ((W2_of m ρ c main_v0 (by decide)).trans ((W1_arr m ρ c 2).trans (Latent.final0 (V0 m ρ) c))))))).trans ?_
  rfl

theorem v1_eq : W6 m ρ c (Proc.devRef .tc main_v1) = fun i => Mlp.mm (mat (arg m c main_arg0)) (mat (arg m c main_arg2)) (i 0) (i 1) := by
  refine ((W6_of m ρ c main_v1 (by decide)).trans ((W5_of m ρ c main_v1 (by decide)).trans ((W4_of m ρ c main_v1 (by decide)).trans ((W3_of m ρ c main_v1 (by decide)).trans ((W2_arr m ρ c 2).trans (Latent.final1 (V1 m ρ) c)))))).trans ?_
  have e0 : V1 m ρ c main_arg0 = arg m c main_arg0 := W1_args m ρ c main_arg0 (by decide)
  have e1 : V1 m ρ c main_arg2 = arg m c main_arg2 := W1_args m ρ c main_arg2 (by decide)
  unfold Latent.arr1
  rw [e0, e1]

theorem v2_eq : W6 m ρ c (Proc.devRef .tc main_v2) = fun i => Mlp.mm (mat (arg m c main_arg0)) (mat (arg m c main_arg3)) (i 0) (i 1) := by
  refine ((W6_of m ρ c main_v2 (by decide)).trans ((W5_of m ρ c main_v2 (by decide)).trans ((W4_of m ρ c main_v2 (by decide)).trans ((W3_arr m ρ c 2).trans (Latent.final2 (V2 m ρ) c))))).trans ?_
  have e0 : V2 m ρ c main_arg0 = arg m c main_arg0 := W2_args m ρ c main_arg0 (by decide)
  have e1 : V2 m ρ c main_arg3 = arg m c main_arg3 := W2_args m ρ c main_arg3 (by decide)
  unfold Latent.arr2
  rw [e0, e1]

theorem v3_eq : W6 m ρ c (Proc.devRef .tc main_v3) = fun i => Mlp.mm (mat (arg m c main_arg0)) (mat (arg m c main_arg4)) (i 0) (i 1) := by
  refine ((W6_of m ρ c main_v3 (by decide)).trans ((W5_of m ρ c main_v3 (by decide)).trans ((W4_arr m ρ c 2).trans (Latent.final3 (V3 m ρ) c)))).trans ?_
  have e0 : V3 m ρ c main_arg0 = arg m c main_arg0 := W3_args m ρ c main_arg0 (by decide)
  have e1 : V3 m ρ c main_arg4 = arg m c main_arg4 := W3_args m ρ c main_arg4 (by decide)
  unfold Latent.arr3
  rw [e0, e1]

theorem v4_eq : W6 m ρ c (Proc.devRef .tc main_v4) = fun i => Mlp.mm (mat (arg m c main_arg5)) (mat (arg m c main_arg6)) (i 0) (i 1) := by
  refine ((W6_of m ρ c main_v4 (by decide)).trans ((W5_arr m ρ c 2).trans (Latent.final4 (V4 m ρ) c))).trans ?_
  have e0 : V4 m ρ c main_arg5 = arg m c main_arg5 := W4_args m ρ c main_arg5 (by decide)
  have e1 : V4 m ρ c main_arg6 = arg m c main_arg6 := W4_args m ρ c main_arg6 (by decide)
  unfold Latent.arr4
  rw [e0, e1]

theorem v5_eq : W6 m ρ c (Proc.devRef .tc main_v5) = fun i => Mlp.mm (mat (arg m c main_arg7)) (mat (arg m c main_arg8)) (i 0) (i 1) := by
  refine ((W6_arr m ρ c 2).trans (Latent.final5 (V5 m ρ) c)).trans ?_
  have e0 : V5 m ρ c main_arg7 = arg m c main_arg7 := W5_args m ρ c main_arg7 (by decide)
  have e1 : V5 m ρ c main_arg8 = arg m c main_arg8 := W5_args m ρ c main_arg8 (by decide)
  unfold Latent.arr5
  rw [e0, e1]

set_option backward.isDefEq.respectTransparency.types false in
/-- The run: every array the program names ends at the last segment's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.Kernel7Ideal.LatentRun
-- ==== Proof.LatentGrad.lean ====
module

public import proofs.«01_k».proof.Proof.Gen.Kernel8Ideal.Frame
public import proofs.«01_k».proof.Proof.Proj
public import Idealize.ShloMosaic.Lib.Pointwise
public import Idealize.ShloMosaic.Lib.Pipeline.ValueKit

/-! Their gradients to the weights: six tiled products, each the whole product. -/

@[expose] public section

set_option maxRecDepth 16384

noncomputable section

namespace Cert.Kernel8Ideal.LatentGrad

open Idealize.ShloMosaic Idealize.ShloMosaic.TcCoe Idealize.SL.Sem
open Cert.Kernel8Ideal Cert.Kernel8Ideal.Gen Cert.Mlp
open Cert.Kernel5Ideal.Proj (z2 mat pair mm_blk mmT_blk Tmm_blk)

variable (V : (c : Dev nD) → (b : Ref sig .tc) → Buf (Elt Ideal) ((c : Thread nD τ).loc b)) (c : Dev nD)

/-! ## The queries' down-projection -/

theorem idx0 : ∀ t : Fin cfg0.N, win0_0.index t = ![0, t.val] ∧ win0_1.index t = ![0, 0] ∧ win0_2.index t = ![t.val, 0] :=
  (by decide +kernel : ∀ t : Fin grid0.N, _)

theorem out0 (x0 : Vec Ideal S2048x1024 .bf16) (x1 : Vec Ideal S2048x768 .bf16) (p : Fin 1024) (q : Fin 768) :
    out0_2 (F := Ideal) x0 x1 (ix2 p q) = ∑ k : Fin 2048, x0 (ix2 k p) * x1 (ix2 k q) := by
  unfold out0_2
  rw [View.canon_unit_zero z2, View.ld_unit_zero z2, View.ld_unit_zero z2]
  pointwise [k0_pay1]

/-- The array the call leaves. -/
def arr0 : Buf (Elt Ideal) ((c : Thread nD τ).loc main_v0) := fun i => Tmm (mat (V c main_arg0)) (mat (V c main_arg1)) (i 0) (i 1)

theorem final0 : (dat0 V c).arrAt 2 cfg0.N = arr0 V c := by
  refine (dat0 V c).arrAt_eq_of_covers 2 _ (by decide +kernel) fun t hf y => ?_
  blk_simp
  rw [after0_2]
  obtain ⟨e0, e1, e2⟩ := idx0 t
  refine (congrArg (out0_2 _ _) (pair y)).trans ((out0 _ _ _ _).trans (Tmm_blk (fun k => ?_) fun k => ?_))
  · blk_ext [iblk0, e0, e2]
  · blk_ext [iblk0, e1, e2]

/-! ## The keys' and values' down-projection -/

theorem idx1 : ∀ t : Fin cfg1.N, win1_0.index t = ![0, t.val] ∧ win1_1.index t = ![0, 0] ∧ win1_2.index t = ![t.val, 0] :=
  (by decide +kernel : ∀ t : Fin grid1.N, _)

theorem out1 (x0 : Vec Ideal S2048x1024 .bf16) (x1 : Vec Ideal S2048x512 .bf16) (p : Fin 1024) (q : Fin 512) :
    out1_2 (F := Ideal) x0 x1 (ix2 p q) = ∑ k : Fin 2048, x0 (ix2 k p) * x1 (ix2 k q) := by
  unfold out1_2
  rw [View.canon_unit_zero z2, View.ld_unit_zero z2, View.ld_unit_zero z2]
  pointwise [k1_pay1]

/-- The array the call leaves. -/
def arr1 : Buf (Elt Ideal) ((c : Thread nD τ).loc main_v1) := fun i => Tmm (mat (V c main_arg0)) (mat (V c main_arg2)) (i 0) (i 1)

theorem final1 : (dat1 V c).arrAt 2 cfg1.N = arr1 V c := by
  refine (dat1 V c).arrAt_eq_of_covers 2 _ (by decide +kernel) fun t hf y => ?_
  blk_simp
  rw [after1_2]
  obtain ⟨e0, e1, e2⟩ := idx1 t
  refine (congrArg (out1_2 _ _) (pair y)).trans ((out1 _ _ _ _).trans (Tmm_blk (fun k => ?_) fun k => ?_))
  · blk_ext [iblk1, e0, e2]
  · blk_ext [iblk1, e1, e2]

/-! ## The rotary key's projection -/

theorem idx2 : ∀ t : Fin cfg2.N, win2_0.index t = ![0, t.val] ∧ win2_1.index t = ![0, 0] ∧ win2_2.index t = ![t.val, 0] :=
  (by decide +kernel : ∀ t : Fin grid2.N, _)

theorem out2 (x0 : Vec Ideal S2048x1024 .bf16) (x1 : Vec Ideal S2048x128 .bf16) (p : Fin 1024) (q : Fin 128) :
    out2_2 (F := Ideal) x0 x1 (ix2 p q) = ∑ k : Fin 2048, x0 (ix2 k p) * x1 (ix2 k q) := by
  unfold out2_2
  rw [View.canon_unit_zero z2, View.ld_unit_zero z2, View.ld_unit_zero z2]
  pointwise [k2_pay1]

/-- The array the call leaves. -/
def arr2 : Buf (Elt Ideal) ((c : Thread nD τ).loc main_v2) := fun i => Tmm (mat (V c main_arg0)) (mat (V c main_arg3)) (i 0) (i 1)

theorem final2 : (dat2 V c).arrAt 2 cfg2.N = arr2 V c := by
  refine (dat2 V c).arrAt_eq_of_covers 2 _ (by decide +kernel) fun t hf y => ?_
  blk_simp
  rw [after2_2]
  obtain ⟨e0, e1, e2⟩ := idx2 t
  refine (congrArg (out2_2 _ _) (pair y)).trans ((out2 _ _ _ _).trans (Tmm_blk (fun k => ?_) fun k => ?_))
  · blk_ext [iblk2, e0, e2]
  · blk_ext [iblk2, e1, e2]

/-! ## The forget gate's projection -/

theorem idx3 : ∀ t : Fin cfg3.N, win3_0.index t = ![0, t.val] ∧ win3_1.index t = ![0, 0] ∧ win3_2.index t = ![t.val, 0] :=
  (by decide +kernel : ∀ t : Fin grid3.N, _)

theorem out3 (x0 : Vec Ideal S2048x1024 .bf16) (x1 : Vec Ideal S2048x128 .bf16) (p : Fin 1024) (q : Fin 128) :
    out3_2 (F := Ideal) x0 x1 (ix2 p q) = ∑ k : Fin 2048, x0 (ix2 k p) * x1 (ix2 k q) := by
  unfold out3_2
  rw [View.canon_unit_zero z2, View.ld_unit_zero z2, View.ld_unit_zero z2]
  pointwise [k3_pay1]

/-- The array the call leaves. -/
def arr3 : Buf (Elt Ideal) ((c : Thread nD τ).loc main_v3) := fun i => Tmm (mat (V c main_arg0)) (mat (V c main_arg4)) (i 0) (i 1)

theorem final3 : (dat3 V c).arrAt 2 cfg3.N = arr3 V c := by
  refine (dat3 V c).arrAt_eq_of_covers 2 _ (by decide +kernel) fun t hf y => ?_
  blk_simp
  rw [after3_2]
  obtain ⟨e0, e1, e2⟩ := idx3 t
  refine (congrArg (out3_2 _ _) (pair y)).trans ((out3 _ _ _ _).trans (Tmm_blk (fun k => ?_) fun k => ?_))
  · blk_ext [iblk3, e0, e2]
  · blk_ext [iblk3, e1, e2]

/-! ## The queries' up-projection -/

theorem idx4 : ∀ t : Fin cfg4.N, win4_0.index t = ![0, 0] ∧ win4_1.index t = ![0, t.val] ∧ win4_2.index t = ![0, t.val] :=
  (by decide +kernel : ∀ t : Fin grid4.N, _)

theorem out4 (x0 : Vec Ideal S2048x768 .bf16) (x1 : Vec Ideal S2048x1024 .bf16) (p : Fin 768) (q : Fin 1024) :
    out4_2 (F := Ideal) x0 x1 (ix2 p q) = ∑ k : Fin 2048, x0 (ix2 k p) * x1 (ix2 k q) := by
  unfold out4_2
  rw [View.canon_unit_zero z2, View.ld_unit_zero z2, View.ld_unit_zero z2]
  pointwise [k4_pay1]

/-- The array the call leaves. -/
def arr4 : Buf (Elt Ideal) ((c : Thread nD τ).loc main_v4) := fun i => Tmm (mat (V c main_arg5)) (mat (V c main_arg6)) (i 0) (i 1)

theorem final4 : (dat4 V c).arrAt 2 cfg4.N = arr4 V c := by
  refine (dat4 V c).arrAt_eq_of_covers 2 _ (by decide +kernel) fun t hf y => ?_
  blk_simp
  rw [after4_2]
  obtain ⟨e0, e1, e2⟩ := idx4 t
  refine (congrArg (out4_2 _ _) (pair y)).trans ((out4 _ _ _ _).trans (Tmm_blk (fun k => ?_) fun k => ?_))
  · blk_ext [iblk4, e0, e2]
  · blk_ext [iblk4, e1, e2]

/-! ## The keys' and values' up-projection -/

theorem idx5 : ∀ t : Fin cfg5.N, win5_0.index t = ![0, 0] ∧ win5_1.index t = ![0, t.val] ∧ win5_2.index t = ![0, t.val] :=
  (by decide +kernel : ∀ t : Fin grid5.N, _)

theorem out5 (x0 : Vec Ideal S2048x512 .bf16) (x1 : Vec Ideal S2048x1024 .bf16) (p : Fin 512) (q : Fin 1024) :
    out5_2 (F := Ideal) x0 x1 (ix2 p q) = ∑ k : Fin 2048, x0 (ix2 k p) * x1 (ix2 k q) := by
  unfold out5_2
  rw [View.canon_unit_zero z2, View.ld_unit_zero z2, View.ld_unit_zero z2]
  pointwise [k5_pay1]

/-- The array the call leaves. -/
def arr5 : Buf (Elt Ideal) ((c : Thread nD τ).loc main_v5) := fun i => Tmm (mat (V c main_arg7)) (mat (V c main_arg8)) (i 0) (i 1)

theorem final5 : (dat5 V c).arrAt 2 cfg5.N = arr5 V c := by
  refine (dat5 V c).arrAt_eq_of_covers 2 _ (by decide +kernel) fun t hf y => ?_
  blk_simp
  rw [after5_2]
  obtain ⟨e0, e1, e2⟩ := idx5 t
  refine (congrArg (out5_2 _ _) (pair y)).trans ((out5 _ _ _ _).trans (Tmm_blk (fun k => ?_) fun k => ?_))
  · blk_ext [iblk5, e0, e2]
  · blk_ext [iblk5, e1, e2]

end Cert.Kernel8Ideal.LatentGrad
-- ==== Proof.LatentGradRun.lean ====
module

public import proofs.«01_k».proof.Proof.LatentGrad

/-! The six gradients to weights one after the other: what the results hold at the end. -/

@[expose] public section

set_option maxRecDepth 16384

noncomputable section

namespace Cert.Kernel8Ideal.LatentGradRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen
open Cert.Kernel5Ideal.Proj (mat)

variable (m : (ℓ : Loc nD τ sig) → Buf (Elt Ideal) ℓ) (ρ : Dev nD → PrngReg) (c : Dev nD)

/-- The arguments. -/
abbrev arg (b : Ref sig .tc) : Buf (Elt Ideal) ((c : Thread nD τ).loc b) := m ((c : Thread nD τ).loc b)

theorem v0_eq : W6 m ρ c (Proc.devRef .tc main_v0) = fun i => Mlp.Tmm (mat (arg m c main_arg0)) (mat (arg m c main_arg1)) (i 0) (i 1) := by
  refine ((W6_of m ρ c main_v0 (by decide)).trans ((W5_of m ρ c main_v0 (by decide)).trans ((W4_of m ρ c main_v0 (by decide)).trans ((W3_of m ρ c main_v0 (by decide)).trans ((W2_of m ρ c main_v0 (by decide)).trans ((W1_arr m ρ c 2).trans (LatentGrad.final0 (V0 m ρ) c))))))).trans ?_
  rfl

theorem v1_eq : W6 m ρ c (Proc.devRef .tc main_v1) = fun i => Mlp.Tmm (mat (arg m c main_arg0)) (mat (arg m c main_arg2)) (i 0) (i 1) := by
  refine ((W6_of m ρ c main_v1 (by decide)).trans ((W5_of m ρ c main_v1 (by decide)).trans ((W4_of m ρ c main_v1 (by decide)).trans ((W3_of m ρ c main_v1 (by decide)).trans ((W2_arr m ρ c 2).trans (LatentGrad.final1 (V1 m ρ) c)))))).trans ?_
  have e0 : V1 m ρ c main_arg0 = arg m c main_arg0 := W1_args m ρ c main_arg0 (by decide)
  have e1 : V1 m ρ c main_arg2 = arg m c main_arg2 := W1_args m ρ c main_arg2 (by decide)
  unfold LatentGrad.arr1
  rw [e0, e1]

theorem v2_eq : W6 m ρ c (Proc.devRef .tc main_v2) = fun i => Mlp.Tmm (mat (arg m c main_arg0)) (mat (arg m c main_arg3)) (i 0) (i 1) := by
  refine ((W6_of m ρ c main_v2 (by decide)).trans ((W5_of m ρ c main_v2 (by decide)).trans ((W4_of m ρ c main_v2 (by decide)).trans ((W3_arr m ρ c 2).trans (LatentGrad.final2 (V2 m ρ) c))))).trans ?_
  have e0 : V2 m ρ c main_arg0 = arg m c main_arg0 := W2_args m ρ c main_arg0 (by decide)
  have e1 : V2 m ρ c main_arg3 = arg m c main_arg3 := W2_args m ρ c main_arg3 (by decide)
  unfold LatentGrad.arr2
  rw [e0, e1]

theorem v3_eq : W6 m ρ c (Proc.devRef .tc main_v3) = fun i => Mlp.Tmm (mat (arg m c main_arg0)) (mat (arg m c main_arg4)) (i 0) (i 1) := by
  refine ((W6_of m ρ c main_v3 (by decide)).trans ((W5_of m ρ c main_v3 (by decide)).trans ((W4_arr m ρ c 2).trans (LatentGrad.final3 (V3 m ρ) c)))).trans ?_
  have e0 : V3 m ρ c main_arg0 = arg m c main_arg0 := W3_args m ρ c main_arg0 (by decide)
  have e1 : V3 m ρ c main_arg4 = arg m c main_arg4 := W3_args m ρ c main_arg4 (by decide)
  unfold LatentGrad.arr3
  rw [e0, e1]

theorem v4_eq : W6 m ρ c (Proc.devRef .tc main_v4) = fun i => Mlp.Tmm (mat (arg m c main_arg5)) (mat (arg m c main_arg6)) (i 0) (i 1) := by
  refine ((W6_of m ρ c main_v4 (by decide)).trans ((W5_arr m ρ c 2).trans (LatentGrad.final4 (V4 m ρ) c))).trans ?_
  have e0 : V4 m ρ c main_arg5 = arg m c main_arg5 := W4_args m ρ c main_arg5 (by decide)
  have e1 : V4 m ρ c main_arg6 = arg m c main_arg6 := W4_args m ρ c main_arg6 (by decide)
  unfold LatentGrad.arr4
  rw [e0, e1]

theorem v5_eq : W6 m ρ c (Proc.devRef .tc main_v5) = fun i => Mlp.Tmm (mat (arg m c main_arg7)) (mat (arg m c main_arg8)) (i 0) (i 1) := by
  refine ((W6_arr m ρ c 2).trans (LatentGrad.final5 (V5 m ρ) c)).trans ?_
  have e0 : V5 m ρ c main_arg7 = arg m c main_arg7 := W5_args m ρ c main_arg7 (by decide)
  have e1 : V5 m ρ c main_arg8 = arg m c main_arg8 := W5_args m ρ c main_arg8 (by decide)
  unfold LatentGrad.arr5
  rw [e0, e1]

set_option backward.isDefEq.respectTransparency.types false in
/-- The run: every array the program names ends at the last segment's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.Kernel8Ideal.LatentGradRun
-- ==== Proof.LatentBwd.lean ====
module

public import proofs.«01_k».proof.Proof.Gen.Kernel9Ideal.Frame
public import proofs.«01_k».proof.Proof.Proj
public import Idealize.ShloMosaic.Lib.Pointwise
public import Idealize.ShloMosaic.Lib.Pipeline.ValueKit

/-! The gradients through the projections from the layer's input: four tiled products, the later ones added to what came before. -/

@[expose] public section

set_option maxRecDepth 16384

noncomputable section

namespace Cert.Kernel9Ideal.LatentBwd

open Idealize.ShloMosaic Idealize.ShloMosaic.TcCoe Idealize.SL.Sem
open Cert.Kernel9Ideal Cert.Kernel9Ideal.Gen Cert.Mlp
open Cert.Kernel5Ideal.Proj (z2 mat pair mm_blk mmT_blk Tmm_blk)

variable (V : (c : Dev nD) → (b : Ref sig .tc) → Buf (Elt Ideal) ((c : Thread nD τ).loc b)) (c : Dev nD)

/-! ## Through the queries' latent -/

theorem idx0 : ∀ t : Fin cfg0.N, win0_0.index t = ![t.val / 2, 0] ∧ win0_1.index t = ![t.val % 2, 0] ∧ win0_2.index t = ![t.val / 2, t.val % 2] :=
  (by decide +kernel : ∀ t : Fin grid0.N, _)

theorem out0 (x0 : Vec Ideal S1024x768 .bf16) (x1 : Vec Ideal S1024x768 .bf16) (p : Fin 1024) (q : Fin 1024) :
    out0_2 (F := Ideal) x0 x1 (ix2 p q) = ∑ k : Fin 768, x0 (ix2 p k) * x1 (ix2 q k) := by
  unfold out0_2
  rw [View.canon_unit_zero z2, View.ld_unit_zero z2, View.ld_unit_zero z2]
  pointwise [k0_pay1]

/-- The array the call leaves. -/
def arr0 : Buf (Elt Ideal) ((c : Thread nD τ).loc main_v0) := fun i => mmT (mat (V c main_arg0)) (mat (V c main_arg1)) (i 0) (i 1)

theorem final0 : (dat0 V c).arrAt 2 cfg0.N = arr0 V c := by
  refine (dat0 V c).arrAt_eq_of_covers 2 _ (by decide +kernel) fun t hf y => ?_
  blk_simp
  rw [after0_2]
  obtain ⟨e0, e1, e2⟩ := idx0 t
  refine (congrArg (out0_2 _ _) (pair y)).trans ((out0 _ _ _ _).trans (mmT_blk (fun k => ?_) fun k => ?_))
  · blk_ext [iblk0, e0, e2]
  · blk_ext [iblk0, e1, e2]

/-! ## Through the keys' and values' latent -/

theorem idx1 : ∀ t : Fin cfg1.N, win1_0.index t = ![t.val / 2, 0] ∧ win1_1.index t = ![t.val % 2, 0] ∧ win1_2.index t = ![t.val / 2, t.val % 2] ∧ win1_3.index t = ![t.val / 2, t.val % 2] :=
  (by decide +kernel : ∀ t : Fin grid1.N, _)

theorem out1 (x0 : Vec Ideal S1024x512 .bf16) (x1 : Vec Ideal S1024x512 .bf16) (x2 : Vec Ideal S1024x1024 .f32) (p : Fin 1024) (q : Fin 1024) :
    out1_3 (F := Ideal) x0 x1 x2 (ix2 p q) = (∑ k : Fin 512, x0 (ix2 p k) * x1 (ix2 q k)) + x2 (ix2 p q) := by
  unfold out1_3
  rw [View.canon_unit_zero z2, View.ld_unit_zero z2, View.ld_unit_zero z2, View.ld_unit_zero z2]
  pointwise [k1_pay1]

/-- The array the call leaves. -/
def arr1 : Buf (Elt Ideal) ((c : Thread nD τ).loc main_v1) := fun i => (mmT (mat (V c main_arg2)) (mat (V c main_arg3)) (i 0) (i 1) : EReal) + V c main_v0 (ix2 (i 0) (i 1))

theorem final1 : (dat1 V c).arrAt 3 cfg1.N = arr1 V c := by
  refine (dat1 V c).arrAt_eq_of_covers 3 _ (by decide +kernel) fun t hf y => ?_
  blk_simp
  rw [after1_3]
  obtain ⟨e0, e1, e2, e3⟩ := idx1 t
  refine (congrArg (out1_3 _ _ _) (pair y)).trans ((out1 _ _ _ _ _).trans (congrArg₂ (fun a b : EReal => a + b) (mmT_blk (fun k => ?_) fun k => ?_) ?_))
  · blk_ext [iblk1, e0, e3]
  · blk_ext [iblk1, e1, e3]
  · blk_ext [iblk1, e2, e3]

/-! ## Through the rotary key -/

theorem idx2 : ∀ t : Fin cfg2.N, win2_0.index t = ![t.val / 2, 0] ∧ win2_1.index t = ![t.val % 2, 0] ∧ win2_2.index t = ![t.val / 2, t.val % 2] ∧ win2_3.index t = ![t.val / 2, t.val % 2] :=
  (by decide +kernel : ∀ t : Fin grid2.N, _)

theorem out2 (x0 : Vec Ideal S1024x128 .bf16) (x1 : Vec Ideal S1024x128 .bf16) (x2 : Vec Ideal S1024x1024 .f32) (p : Fin 1024) (q : Fin 1024) :
    out2_3 (F := Ideal) x0 x1 x2 (ix2 p q) = (∑ k : Fin 128, x0 (ix2 p k) * x1 (ix2 q k)) + x2 (ix2 p q) := by
  unfold out2_3
  rw [View.canon_unit_zero z2, View.ld_unit_zero z2, View.ld_unit_zero z2, View.ld_unit_zero z2]
  pointwise [k2_pay1]

/-- The array the call leaves. -/
def arr2 : Buf (Elt Ideal) ((c : Thread nD τ).loc main_v2) := fun i => (mmT (mat (V c main_arg4)) (mat (V c main_arg5)) (i 0) (i 1) : EReal) + V c main_v1 (ix2 (i 0) (i 1))

theorem final2 : (dat2 V c).arrAt 3 cfg2.N = arr2 V c := by
  refine (dat2 V c).arrAt_eq_of_covers 3 _ (by decide +kernel) fun t hf y => ?_
  blk_simp
  rw [after2_3]
  obtain ⟨e0, e1, e2, e3⟩ := idx2 t
  refine (congrArg (out2_3 _ _ _) (pair y)).trans ((out2 _ _ _ _ _).trans (congrArg₂ (fun a b : EReal => a + b) (mmT_blk (fun k => ?_) fun k => ?_) ?_))
  · blk_ext [iblk2, e0, e3]
  · blk_ext [iblk2, e1, e3]
  · blk_ext [iblk2, e2, e3]

/-! ## Through the forget gate -/

theorem idx3 : ∀ t : Fin cfg3.N, win3_0.index t = ![t.val / 2, 0] ∧ win3_1.index t = ![t.val % 2, 0] ∧ win3_2.index t = ![t.val / 2, t.val % 2] ∧ win3_3.index t = ![t.val / 2, t.val % 2] :=
  (by decide +kernel : ∀ t : Fin grid3.N, _)

theorem out3 (x0 : Vec Ideal S1024x128 .bf16) (x1 : Vec Ideal S1024x128 .bf16) (x2 : Vec Ideal S1024x1024 .f32) (p : Fin 1024) (q : Fin 1024) :
    out3_3 (F := Ideal) x0 x1 x2 (ix2 p q) = (∑ k : Fin 128, x0 (ix2 p k) * x1 (ix2 q k)) + x2 (ix2 p q) := by
  unfold out3_3
  rw [View.canon_unit_zero z2, View.ld_unit_zero z2, View.ld_unit_zero z2, View.ld_unit_zero z2]
  pointwise [k3_pay1]

/-- The array the call leaves. -/
def arr3 : Buf (Elt Ideal) ((c : Thread nD τ).loc main_v3) := fun i => (mmT (mat (V c main_arg7)) (mat (V c main_arg8)) (i 0) (i 1) : EReal) + V c main_arg6 (ix2 (i 0) (i 1))

theorem final3 : (dat3 V c).arrAt 3 cfg3.N = arr3 V c := by
  refine (dat3 V c).arrAt_eq_of_covers 3 _ (by decide +kernel) fun t hf y => ?_
  blk_simp
  rw [after3_3]
  obtain ⟨e0, e1, e2, e3⟩ := idx3 t
  refine (congrArg (out3_3 _ _ _) (pair y)).trans ((out3 _ _ _ _ _).trans (congrArg₂ (fun a b : EReal => a + b) (mmT_blk (fun k => ?_) fun k => ?_) ?_))
  · blk_ext [iblk3, e0, e3]
  · blk_ext [iblk3, e1, e3]
  · blk_ext [iblk3, e2, e3]

end Cert.Kernel9Ideal.LatentBwd
-- ==== Proof.LatentBwdRun.lean ====
module

public import proofs.«01_k».proof.Proof.LatentBwd

/-! The four products one after the other: what the results hold at the end. -/

@[expose] public section

set_option maxRecDepth 16384

noncomputable section

namespace Cert.Kernel9Ideal.LatentBwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen
open Cert.Kernel5Ideal.Proj (mat)

variable (m : (ℓ : Loc nD τ sig) → Buf (Elt Ideal) ℓ) (ρ : Dev nD → PrngReg) (c : Dev nD)

/-- The arguments. -/
abbrev arg (b : Ref sig .tc) : Buf (Elt Ideal) ((c : Thread nD τ).loc b) := m ((c : Thread nD τ).loc b)

theorem v0_eq1 : V1 m ρ c main_v0 = fun i => (Mlp.mmT (mat (arg m c main_arg0)) (mat (arg m c main_arg1)) (i 0) (i 1) : EReal) := by
  refine ((W1_arr m ρ c 2).trans (LatentBwd.final0 (V0 m ρ) c)).trans ?_
  rfl

theorem v1_eq2 : V2 m ρ c main_v1 = fun i => (Mlp.mmT (mat (arg m c main_arg2)) (mat (arg m c main_arg3)) (i 0) (i 1) : EReal) + (Mlp.mmT (mat (arg m c main_arg0)) (mat (arg m c main_arg1)) (i 0) (i 1) : EReal) := by
  refine ((W2_arr m ρ c 3).trans (LatentBwd.final1 (V1 m ρ) c)).trans ?_
  have e0 : V1 m ρ c main_arg2 = arg m c main_arg2 := W1_args m ρ c main_arg2 (by decide)
  have e1 : V1 m ρ c main_arg3 = arg m c main_arg3 := W1_args m ρ c main_arg3 (by decide)
  unfold LatentBwd.arr1
  rw [e0, e1, v0_eq1]
  rfl

/-- The latent attention's gradient: its three products added from the first on. -/
theorem v2_eq : W4 m ρ c (Proc.devRef .tc main_v2) = fun i => (Mlp.mmT (mat (arg m c main_arg4)) (mat (arg m c main_arg5)) (i 0) (i 1) : EReal) + ((Mlp.mmT (mat (arg m c main_arg2)) (mat (arg m c main_arg3)) (i 0) (i 1) : EReal) + (Mlp.mmT (mat (arg m c main_arg0)) (mat (arg m c main_arg1)) (i 0) (i 1) : EReal)) := by
  refine ((W4_of m ρ c main_v2 (by decide)).trans ((W3_arr m ρ c 3).trans (LatentBwd.final2 (V2 m ρ) c))).trans ?_
  have e0 : V2 m ρ c main_arg4 = arg m c main_arg4 := W2_args m ρ c main_arg4 (by decide)
  have e1 : V2 m ρ c main_arg5 = arg m c main_arg5 := W2_args m ρ c main_arg5 (by decide)
  unfold LatentBwd.arr2
  rw [e0, e1, v1_eq2]
  rfl

/-- The forgetting attention's gradient with the gate's product added. -/
theorem v3_eq : W4 m ρ c (Proc.devRef .tc main_v3) = fun i => (Mlp.mmT (mat (arg m c main_arg7)) (mat (arg m c main_arg8)) (i 0) (i 1) : EReal) + arg m c main_arg6 (ix2 (i 0) (i 1)) := by
  refine ((W4_arr m ρ c 3).trans (LatentBwd.final3 (V3 m ρ) c)).trans ?_
  have e0 : V3 m ρ c main_arg7 = arg m c main_arg7 := W3_args m ρ c main_arg7 (by decide)
  have e1 : V3 m ρ c main_arg8 = arg m c main_arg8 := W3_args m ρ c main_arg8 (by decide)
  have e2 : V3 m ρ c main_arg6 = arg m c main_arg6 := W3_args m ρ c main_arg6 (by decide)
  unfold LatentBwd.arr3
  rw [e0, e1, e2]

set_option backward.isDefEq.respectTransparency.types false in
/-- The run: every array the program names ends at the last segment's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Kernel9Ideal.LatentBwdRun
-- ==== Proof.LatentUpQ.lean ====
module

public import proofs.«01_k».proof.Proof.Gen.Kernel10Ideal.Value
public import proofs.«01_k».proof.Proof.Mlp
public import Idealize.ShloMosaic.Lib.Pointwise

/-! The gradient through the queries' up-projection: `dq w_uqᵀ`, the 4096 columns summed in two blocks. -/

@[expose] public section

set_option maxRecDepth 16384

noncomputable section

namespace Cert.Kernel10Ideal.LatentUpQ

open Idealize.ShloMosaic Idealize.ShloMosaic.TcCoe Idealize.SL.Sem
open Cert.Kernel10Ideal Cert.Kernel10Ideal.Gen Cert.Kernel10Ideal.Value Cert.Mlp

theorem z2 : (![0, 0] : Fin 2 → Nat) = fun _ => 0 := funext fun a => by fin_cases a <;> rfl

/-- The sum over the `b`-th of two blocks of 2048. -/
def block2 (f : Fin 4096 → EReal) (b : ℕ) (hb : b < 2) : EReal := ∑ k : Fin 2048, f ⟨b * 2048 + k.val, by omega⟩

/-- A sum over 4096 in two blocks of 2048. -/
theorem sum_blocks2 (f : Fin 4096 → EReal) : ∑ k, f k = block2 f 0 (by decide) + block2 f 1 (by decide) := by
  have e1 := Fin.sum_univ_add (a := 2048) (b := 2048) f
  have e0 : block2 f 0 (by decide) = ∑ k : Fin 2048, f (Fin.castAdd 2048 k) :=
    Finset.sum_congr rfl fun k _ => congrArg f (Fin.ext (by show 0 * 2048 + k.val = k.val; omega))
  rw [e1, e0]
  rfl

/-- The product of two blocks at `(p, q)`. -/
def dot (x0 : Vec Ideal S1024x2048 .bf16) (x1 : Vec Ideal S768x2048 .bf16) (p : Fin 1024) (q : Fin 768) : EReal :=
  ∑ k : Fin 2048, x0 (ix2 p k) * x1 (ix2 q k)

section
variable (c : Dev nD) (i : grid0.Coords) (arg3 : Memref sig .tc .vmem S1024x2048 .bf16) (harg3 : arg3.IsWhole)
  (arg4 : Memref sig .tc .vmem S768x2048 .bf16) (harg4 : arg4.IsWhole) (arg5 : Memref sig .tc .vmem S1024x768 .f32) (harg5 : arg5.IsWhole)
  (arg6 : Memref sig .tc .vmem S1024x768 .f32) (harg6 : arg6.IsWhole)
  (x0 : Vec Ideal S1024x2048 .bf16) (x1 : Vec Ideal S768x2048 .bf16) (xs : Vec Ideal S1024x768 .f32)
  (p : Fin 1024) (q : Fin 768)

/-- The first block's product is stored into the scratch. -/
theorem first (hc0 : cond0_0 i) (hc1 : ¬cond0_1 i) (hc2 : ¬cond0_2 i) :
    sout0_A_0 (F := Ideal) c i arg3 harg3 arg4 harg4 arg5 harg5 arg6 harg6 hc0 hc1 hc2 x0 x1 (ix2 p q) = dot x0 x1 p q := by
  unfold sout0_A_0
  rw [View.read_writes_junk_eq_canon]
  unfold kernelRun0_A
  dsimp only
  rw [View.canon_unit_zero z2]
  simp only [View.readAt_eq_ld, harg3.read_unread, harg4.read_unread]
  rw [View.ld_unit_zero z2, View.ld_unit_zero z2]
  pointwise [k0_pay1, dot]

/-- The last block's product is added and the sum written out. -/
theorem last (hc0 : ¬cond0_0 i) (hc1 : ¬cond0_1 i) (hc2 : cond0_2 i) :
    out0_B_2 (F := Ideal) c i arg3 harg3 arg4 harg4 arg5 harg5 arg6 harg6 hc0 hc1 hc2 x0 x1 xs (ix2 p q) = xs (ix2 p q) + dot x0 x1 p q := by
  unfold out0_B_2
  rw [View.read_writes_junk_eq_canon]
  unfold kernelRun0_B
  dsimp only
  rw [View.canon_unit_zero z2]
  simp only [View.readAt_eq_ld, harg3.read_unread, harg4.read_unread, harg6.read_unread]
  rw [View.ld_unit_zero z2, View.ld_unit_zero z2, View.ld_unit_zero z2]
  pointwise [k0_pay3, dot]

end

variable (m : (ℓ : Loc nD τ sig) → Buf (Elt Ideal) ℓ) (ρ : Dev nD → PrngReg) (c : Dev nD)

/-- The operands. -/
abbrev DP : Fin 2048 → Fin 4096 → EReal := fun i k => m ((c : Thread nD τ).loc main_arg0) (ix2 i k)
abbrev WI : Fin 768 → Fin 4096 → EReal := fun j k => m ((c : Thread nD τ).loc main_arg1) (ix2 j k)

/-- Where the blocks of point `t` lie. -/
theorem idx : ∀ t : Fin cfg0.N, win0_0.index t 0 = t.val / 2 ∧ win0_0.index t 1 = t.val % 2 ∧ win0_1.index t 0 = 0 ∧ win0_1.index t 1 = t.val % 2
    ∧ win0_2.index t 0 = t.val / 2 ∧ win0_2.index t 1 = 0 :=
  (by decide +kernel : ∀ t : Fin grid0.N, _)

theorem blk0 (t : Fin cfg0.N) (p : Fin 1024) (k : Fin 2048) (i : Fin 2048) (k' : Fin 4096) (hi : i.val = t.val / 2 * 1024 + p.val)
    (hk : k'.val = t.val % 2 * 2048 + k.val) : iblk m c 0 t (ix2 p k) = m ((c : Thread nD τ).loc main_arg0) (ix2 i k') := by
  obtain ⟨e0, e1, -⟩ := idx t
  refine congrArg (m ((c : Thread nD τ).loc main_arg0)) (funext fun a => Fin.ext ?_)
  match a with
  | ⟨0, _⟩ => show win0_0.index t 0 * 1024 + 1 * p.val = i.val; omega
  | ⟨1, _⟩ => show win0_0.index t 1 * 2048 + 1 * k.val = k'.val; omega

theorem blk1 (t : Fin cfg0.N) (q : Fin 768) (k : Fin 2048) (j : Fin 768) (k' : Fin 4096) (hj : j.val = q.val)
    (hk : k'.val = t.val % 2 * 2048 + k.val) : iblk m c 1 t (ix2 q k) = m ((c : Thread nD τ).loc main_arg1) (ix2 j k') := by
  obtain ⟨-, -, e0, e1, -⟩ := idx t
  refine congrArg (m ((c : Thread nD τ).loc main_arg1)) (funext fun a => Fin.ext ?_)
  match a with
  | ⟨0, _⟩ => show win0_1.index t 0 * 768 + 1 * q.val = j.val; omega
  | ⟨1, _⟩ => show win0_1.index t 1 * 2048 + 1 * k.val = k'.val; omega

/-- The product of point `t`'s blocks is one block of the sum at `(i, j)`. -/
theorem dot_blk (t : Fin cfg0.N) (b : ℕ) (hb : b < 2) (p : Fin 1024) (q : Fin 768) (i : Fin 2048) (j : Fin 768) (ht : t.val % 2 = b) (hi : i.val = t.val / 2 * 1024 + p.val)
    (hj : j.val = q.val) : dot (iblk m c 0 t) (iblk m c 1 t) p q = block2 (fun k => DP m c i k * WI m c j k) b hb :=
  Finset.sum_congr rfl fun k _ => congrArg₂ (fun a b : EReal => a * b)
    (blk0 m c t p k i _ hi (by rw [ht])) (blk1 m c t q k j _ hj (by rw [ht]))

theorem scr_first (t : Fin cfg0.N) (h : t.val % 2 = 0) (p : Fin 1024) (q : Fin 768) :
    (outsAt0 m c t.val t.isLt).2 (ix2 p q) = dot (iblk m c 0 t) (iblk m c 1 t) p q := by
  rw [outsAt0_A m c t h (by omega)]
  dsimp only
  rw [first]

theorem out_last (t s : Fin cfg0.N) (hs : s.val + 1 = t.val) (h : t.val % 2 = 1) (p : Fin 1024) (q : Fin 768) :
    (outsAt0 m c t.val t.isLt).1 (ix2 p q) = (outsAt0 m c s.val s.isLt).2 (ix2 p q) + dot (iblk m c 0 t) (iblk m c 1 t) p q := by
  obtain rfl : s = ⟨t.val - 1, Nat.lt_of_le_of_lt (Nat.sub_le _ _) t.isLt⟩ := Fin.ext (by show s.val = t.val - 1; omega)
  rw [outsAt0_B m c t (by omega) h]
  dsimp only
  rw [last]

/-- What the second of two points writes. -/
theorem out_val (t : Fin cfg0.N) (h : t.val % 2 = 1) (p : Fin 1024) (q : Fin 768) (i : Fin 2048) (j : Fin 768) (hi : i.val = t.val / 2 * 1024 + p.val)
    (hj : j.val = q.val) : (outsAt0 m c t.val t.isLt).1 (ix2 p q) = mmT (DP m c) (WI m c) i j := by
  let s : Fin cfg0.N := ⟨t.val - 1, by omega⟩
  have v : s.val = t.val - 1 := rfl
  have d1 := dot_blk m c t 1 (by decide) p q i j h hi hj
  have d0 := dot_blk m c s 0 (by decide) p q i j (by omega) (by omega) hj
  refine (out_last m c t s (by omega) h p q).trans ?_
  rw [scr_first m c s (by omega), d0, d1]
  exact (sum_blocks2 _).symm

/-- The result. -/
def arr : Buf (Elt Ideal) ((c : Thread nD τ).loc main_v0) := fun i => mmT (DP m c) (WI m c) (i 0) (i 1)

theorem flushed (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2]
  obtain ⟨-, -, -, -, e0, e1⟩ := idx t
  funext y
  have hb0 : (((cfg0.win 2).blk t).view.emb y 0).val = win0_2.index t (0 : Fin 2) * 1024 + 1 * (y 0).val := rfl
  have hb1 : (((cfg0.win 2).blk t).view.emb y 1).val = win0_2.index t (1 : Fin 2) * 768 + 1 * (y 1).val := rfl
  have hy : (cfg0.win 2).xinj (grid0.coords t) y = ix2 (n0 := 1024) (n1 := 768) (y 0) (y 1) := by
    funext a
    match a with
    | ⟨0, _⟩ => rfl
    | ⟨1, _⟩ => rfl
  show (outsAt0 m c t.val t.isLt).1 ((cfg0.win 2).xinj (grid0.coords t) y) = arr m c (((cfg0.win 2).blk t).view.emb y)
  exact (congrArg (outsAt0 m c t.val t.isLt).1 hy).trans
    (out_val m c t ((flush0_2 t).mp hf) _ _ _ _ (by rw [hb0]; omega) (by rw [hb1]; omega))

theorem final : (dats m 0 c).arrAt 2 cfg0.N = arr m c :=
  (dats m 0 c).arrAt_eq_of_cover 2 _ (fun t hf => flushed m c t hf) fun i => (covered_iff2 i).2 (by
    have h0 : (i 0).val < 2048 := (i 0).isLt
    have h1 : (i 1).val < 768 := (i 1).isLt
    omega)

end Cert.Kernel10Ideal.LatentUpQ
-- ==== Proof.LatentUpKv.lean ====
module

public import proofs.«01_k».proof.Proof.Gen.Kernel11Ideal.Value
public import proofs.«01_k».proof.Proof.LatentUpQ
public import Idealize.ShloMosaic.Lib.Pointwise

/-! The gradient through the keys' and values' up-projection: `dkv w_ukvᵀ`, the 4096 columns summed in two blocks. -/

@[expose] public section

set_option maxRecDepth 16384

noncomputable section

namespace Cert.Kernel11Ideal.LatentUpKv

open Idealize.ShloMosaic Idealize.ShloMosaic.TcCoe Idealize.SL.Sem
open Cert.Kernel11Ideal Cert.Kernel11Ideal.Gen Cert.Kernel11Ideal.Value Cert.Mlp
open Cert.Kernel10Ideal.LatentUpQ (z2 block2 sum_blocks2)

/-- The product of two blocks at `(p, q)`. -/
def dot (x0 : Vec Ideal S1024x2048 .bf16) (x1 : Vec Ideal S512x2048 .bf16) (p : Fin 1024) (q : Fin 512) : EReal :=
  ∑ k : Fin 2048, x0 (ix2 p k) * x1 (ix2 q k)

section
variable (c : Dev nD) (i : grid0.Coords) (arg3 : Memref sig .tc .vmem S1024x2048 .bf16) (harg3 : arg3.IsWhole)
  (arg4 : Memref sig .tc .vmem S512x2048 .bf16) (harg4 : arg4.IsWhole) (arg5 : Memref sig .tc .vmem S1024x512 .f32) (harg5 : arg5.IsWhole)
  (arg6 : Memref sig .tc .vmem S1024x512 .f32) (harg6 : arg6.IsWhole)
  (x0 : Vec Ideal S1024x2048 .bf16) (x1 : Vec Ideal S512x2048 .bf16) (xs : Vec Ideal S1024x512 .f32)
  (p : Fin 1024) (q : Fin 512)

/-- The first block's product is stored into the scratch. -/
theorem first (hc0 : cond0_0 i) (hc1 : ¬cond0_1 i) (hc2 : ¬cond0_2 i) :
    sout0_A_0 (F := Ideal) c i arg3 harg3 arg4 harg4 arg5 harg5 arg6 harg6 hc0 hc1 hc2 x0 x1 (ix2 p q) = dot x0 x1 p q := by
  unfold sout0_A_0
  rw [View.read_writes_junk_eq_canon]
  unfold kernelRun0_A
  dsimp only
  rw [View.canon_unit_zero z2]
  simp only [View.readAt_eq_ld, harg3.read_unread, harg4.read_unread]
  rw [View.ld_unit_zero z2, View.ld_unit_zero z2]
  pointwise [k0_pay1, dot]

/-- The last block's product is added and the sum written out. -/
theorem last (hc0 : ¬cond0_0 i) (hc1 : ¬cond0_1 i) (hc2 : cond0_2 i) :
    out0_B_2 (F := Ideal) c i arg3 harg3 arg4 harg4 arg5 harg5 arg6 harg6 hc0 hc1 hc2 x0 x1 xs (ix2 p q) = xs (ix2 p q) + dot x0 x1 p q := by
  unfold out0_B_2
  rw [View.read_writes_junk_eq_canon]
  unfold kernelRun0_B
  dsimp only
  rw [View.canon_unit_zero z2]
  simp only [View.readAt_eq_ld, harg3.read_unread, harg4.read_unread, harg6.read_unread]
  rw [View.ld_unit_zero z2, View.ld_unit_zero z2, View.ld_unit_zero z2]
  pointwise [k0_pay3, dot]

end

variable (m : (ℓ : Loc nD τ sig) → Buf (Elt Ideal) ℓ) (ρ : Dev nD → PrngReg) (c : Dev nD)

/-- The operands. -/
abbrev DP : Fin 2048 → Fin 4096 → EReal := fun i k => m ((c : Thread nD τ).loc main_arg0) (ix2 i k)
abbrev WI : Fin 512 → Fin 4096 → EReal := fun j k => m ((c : Thread nD τ).loc main_arg1) (ix2 j k)

/-- Where the blocks of point `t` lie. -/
theorem idx : ∀ t : Fin cfg0.N, win0_0.index t 0 = t.val / 2 ∧ win0_0.index t 1 = t.val % 2 ∧ win0_1.index t 0 = 0 ∧ win0_1.index t 1 = t.val % 2
    ∧ win0_2.index t 0 = t.val / 2 ∧ win0_2.index t 1 = 0 :=
  (by decide +kernel : ∀ t : Fin grid0.N, _)

theorem blk0 (t : Fin cfg0.N) (p : Fin 1024) (k : Fin 2048) (i : Fin 2048) (k' : Fin 4096) (hi : i.val = t.val / 2 * 1024 + p.val)
    (hk : k'.val = t.val % 2 * 2048 + k.val) : iblk m c 0 t (ix2 p k) = m ((c : Thread nD τ).loc main_arg0) (ix2 i k') := by
  obtain ⟨e0, e1, -⟩ := idx t
  refine congrArg (m ((c : Thread nD τ).loc main_arg0)) (funext fun a => Fin.ext ?_)
  match a with
  | ⟨0, _⟩ => show win0_0.index t 0 * 1024 + 1 * p.val = i.val; omega
  | ⟨1, _⟩ => show win0_0.index t 1 * 2048 + 1 * k.val = k'.val; omega

theorem blk1 (t : Fin cfg0.N) (q : Fin 512) (k : Fin 2048) (j : Fin 512) (k' : Fin 4096) (hj : j.val = q.val)
    (hk : k'.val = t.val % 2 * 2048 + k.val) : iblk m c 1 t (ix2 q k) = m ((c : Thread nD τ).loc main_arg1) (ix2 j k') := by
  obtain ⟨-, -, e0, e1, -⟩ := idx t
  refine congrArg (m ((c : Thread nD τ).loc main_arg1)) (funext fun a => Fin.ext ?_)
  match a with
  | ⟨0, _⟩ => show win0_1.index t 0 * 512 + 1 * q.val = j.val; omega
  | ⟨1, _⟩ => show win0_1.index t 1 * 2048 + 1 * k.val = k'.val; omega

/-- The product of point `t`'s blocks is one block of the sum at `(i, j)`. -/
theorem dot_blk (t : Fin cfg0.N) (b : ℕ) (hb : b < 2) (p : Fin 1024) (q : Fin 512) (i : Fin 2048) (j : Fin 512) (ht : t.val % 2 = b) (hi : i.val = t.val / 2 * 1024 + p.val)
    (hj : j.val = q.val) : dot (iblk m c 0 t) (iblk m c 1 t) p q = block2 (fun k => DP m c i k * WI m c j k) b hb :=
  Finset.sum_congr rfl fun k _ => congrArg₂ (fun a b : EReal => a * b)
    (blk0 m c t p k i _ hi (by rw [ht])) (blk1 m c t q k j _ hj (by rw [ht]))

theorem scr_first (t : Fin cfg0.N) (h : t.val % 2 = 0) (p : Fin 1024) (q : Fin 512) :
    (outsAt0 m c t.val t.isLt).2 (ix2 p q) = dot (iblk m c 0 t) (iblk m c 1 t) p q := by
  rw [outsAt0_A m c t h (by omega)]
  dsimp only
  rw [first]

theorem out_last (t s : Fin cfg0.N) (hs : s.val + 1 = t.val) (h : t.val % 2 = 1) (p : Fin 1024) (q : Fin 512) :
    (outsAt0 m c t.val t.isLt).1 (ix2 p q) = (outsAt0 m c s.val s.isLt).2 (ix2 p q) + dot (iblk m c 0 t) (iblk m c 1 t) p q := by
  obtain rfl : s = ⟨t.val - 1, Nat.lt_of_le_of_lt (Nat.sub_le _ _) t.isLt⟩ := Fin.ext (by show s.val = t.val - 1; omega)
  rw [outsAt0_B m c t (by omega) h]
  dsimp only
  rw [last]

/-- What the second of two points writes. -/
theorem out_val (t : Fin cfg0.N) (h : t.val % 2 = 1) (p : Fin 1024) (q : Fin 512) (i : Fin 2048) (j : Fin 512) (hi : i.val = t.val / 2 * 1024 + p.val)
    (hj : j.val = q.val) : (outsAt0 m c t.val t.isLt).1 (ix2 p q) = mmT (DP m c) (WI m c) i j := by
  let s : Fin cfg0.N := ⟨t.val - 1, by omega⟩
  have v : s.val = t.val - 1 := rfl
  have d1 := dot_blk m c t 1 (by decide) p q i j h hi hj
  have d0 := dot_blk m c s 0 (by decide) p q i j (by omega) (by omega) hj
  refine (out_last m c t s (by omega) h p q).trans ?_
  rw [scr_first m c s (by omega), d0, d1]
  exact (sum_blocks2 _).symm

/-- The result. -/
def arr : Buf (Elt Ideal) ((c : Thread nD τ).loc main_v0) := fun i => mmT (DP m c) (WI m c) (i 0) (i 1)

theorem flushed (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2]
  obtain ⟨-, -, -, -, e0, e1⟩ := idx t
  funext y
  have hb0 : (((cfg0.win 2).blk t).view.emb y 0).val = win0_2.index t (0 : Fin 2) * 1024 + 1 * (y 0).val := rfl
  have hb1 : (((cfg0.win 2).blk t).view.emb y 1).val = win0_2.index t (1 : Fin 2) * 512 + 1 * (y 1).val := rfl
  have hy : (cfg0.win 2).xinj (grid0.coords t) y = ix2 (n0 := 1024) (n1 := 512) (y 0) (y 1) := by
    funext a
    match a with
    | ⟨0, _⟩ => rfl
    | ⟨1, _⟩ => rfl
  show (outsAt0 m c t.val t.isLt).1 ((cfg0.win 2).xinj (grid0.coords t) y) = arr m c (((cfg0.win 2).blk t).view.emb y)
  exact (congrArg (outsAt0 m c t.val t.isLt).1 hy).trans
    (out_val m c t ((flush0_2 t).mp hf) _ _ _ _ (by rw [hb0]; omega) (by rw [hb1]; omega))

theorem final : (dats m 0 c).arrAt 2 cfg0.N = arr m c :=
  (dats m 0 c).arrAt_eq_of_cover 2 _ (fun t hf => flushed m c t hf) fun i => (covered_iff2 i).2 (by
    have h0 : (i 0).val < 2048 := (i 0).isLt
    have h1 : (i 1).val < 512 := (i 1).isLt
    omega)

end Cert.Kernel11Ideal.LatentUpKv
-- ==== Proof.LatentClaims.lean ====
module

public import proofs.«01_k».proof.Defs
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.LatentRun
public import proofs.«01_k».proof.Proof.LatentGradRun
public import proofs.«01_k».proof.Proof.LatentBwdRun
public import proofs.«01_k».proof.Proof.LatentUpQ
public import proofs.«01_k».proof.Proof.LatentUpKv
public import proofs.«01_k».proof.Proof.Gen.Reference7Ideal.Read
public import proofs.«01_k».proof.Proof.Gen.Reference8Ideal.Read
public import proofs.«01_k».proof.Proof.Gen.Reference9Ideal.Read
public import proofs.«01_k».proof.Proof.Gen.Reference10Ideal.Read
public import proofs.«01_k».proof.Proof.Gen.Reference11Ideal.Read

/-! The claims on the latent attention's projections and the forget gate's: the products with their gradients. -/

@[expose] public section

noncomputable section

namespace Cert.Proof

open Idealize.ShloMosaic Idealize.ShloMosaic.TcCoe Idealize.SL.Sem
open Cert.Kernel5Ideal.Proj (mat pair)

theorem frame_p7 : Cert.quiescent_Kernel7 := fun m ρ _ => Cert.Kernel7.Gen.frame m ρ

theorem frame_pi7 : Cert.quiescent_Kernel7Ideal := fun m ρ _ => Cert.Kernel7Ideal.Gen.frame m ρ

theorem frame_ri7 : Cert.quiescent_Reference7Ideal := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

theorem preserves7 : Cert.preserves_Kernel7_Kernel7Ideal := trivial

theorem frame_p8 : Cert.quiescent_Kernel8 := fun m ρ _ => Cert.Kernel8.Gen.frame m ρ

theorem frame_pi8 : Cert.quiescent_Kernel8Ideal := fun m ρ _ => Cert.Kernel8Ideal.Gen.frame m ρ

theorem frame_ri8 : Cert.quiescent_Reference8Ideal := fun m ρ _ =>
  (θ_run Cert.Reference8Ideal.defs _ _).mono (fun r h => ⟨fun c => (h c).2.2.2.2.2.2, sem_eq_zero_of_no_sems (by decide) r.2⟩)
    (Cert.Reference8Ideal.Value.run (F := Ideal) m ρ)

theorem preserves8 : Cert.preserves_Kernel8_Kernel8Ideal := trivial

theorem frame_p9 : Cert.quiescent_Kernel9 := fun m ρ _ => Cert.Kernel9.Gen.frame m ρ

theorem frame_pi9 : Cert.quiescent_Kernel9Ideal := fun m ρ _ => Cert.Kernel9Ideal.Gen.frame m ρ

theorem frame_ri9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem preserves9 : Cert.preserves_Kernel9_Kernel9Ideal := trivial

theorem frame_p10 : Cert.quiescent_Kernel10 := fun m ρ _ => Cert.Kernel10.Gen.frame m ρ

theorem frame_pi10 : Cert.quiescent_Kernel10Ideal := fun m ρ _ => Cert.Kernel10Ideal.Gen.frame m ρ

theorem frame_ri10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem preserves10 : Cert.preserves_Kernel10_Kernel10Ideal := trivial

theorem frame_p11 : Cert.quiescent_Kernel11 := fun m ρ _ => Cert.Kernel11.Gen.frame m ρ

theorem frame_pi11 : Cert.quiescent_Kernel11Ideal := fun m ρ _ => Cert.Kernel11Ideal.Gen.frame m ρ

theorem frame_ri11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem preserves11 : Cert.preserves_Kernel11_Kernel11Ideal := trivial

/-! ## The reference's results -/

section
open Cert.Reference7Ideal Cert.Reference7Ideal.Read

theorem ref7_dq (x : (⟨S2048x2048, .bf16⟩ : BufTy).Contents (Elt Ideal)) (y : (⟨S2048x768, .bf16⟩ : BufTy).Contents (Elt Ideal)) (i : Fin 2048) (j : Fin 768) :
    val_main_v9 (F := Ideal) x y (ix2 i j) = Mlp.mm (mat x) (mat y) i j := by
  pointwise [val_main_v9, val_main_v0, val_main_v1, Mlp.mm]

theorem ref7_dkv (x : (⟨S2048x2048, .bf16⟩ : BufTy).Contents (Elt Ideal)) (y : (⟨S2048x512, .bf16⟩ : BufTy).Contents (Elt Ideal)) (i : Fin 2048) (j : Fin 512) :
    val_main_v10 (F := Ideal) x y (ix2 i j) = Mlp.mm (mat x) (mat y) i j := by
  pointwise [val_main_v10, val_main_v0, val_main_v2, Mlp.mm]

theorem ref7_kr (x : (⟨S2048x2048, .bf16⟩ : BufTy).Contents (Elt Ideal)) (y : (⟨S2048x128, .bf16⟩ : BufTy).Contents (Elt Ideal)) (i : Fin 2048) (j : Fin 128) :
    val_main_v11 (F := Ideal) x y (ix2 i j) = Mlp.mm (mat x) (mat y) i j := by
  pointwise [val_main_v11, val_main_v0, val_main_v3, Mlp.mm]

theorem ref7_flog (x : (⟨S2048x2048, .bf16⟩ : BufTy).Contents (Elt Ideal)) (y : (⟨S2048x128, .bf16⟩ : BufTy).Contents (Elt Ideal)) (i : Fin 2048) (j : Fin 128) :
    val_main_v12 (F := Ideal) x y (ix2 i j) = Mlp.mm (mat x) (mat y) i j := by
  pointwise [val_main_v12, val_main_v0, val_main_v4, Mlp.mm]

theorem ref7_qfull (x : (⟨S2048x768, .bf16⟩ : BufTy).Contents (Elt Ideal)) (y : (⟨S768x4096, .bf16⟩ : BufTy).Contents (Elt Ideal)) (i : Fin 2048) (j : Fin 4096) :
    val_main_v13 (F := Ideal) x y (ix2 i j) = Mlp.mm (mat x) (mat y) i j := by
  pointwise [val_main_v13, val_main_v5, val_main_v6, Mlp.mm]

theorem ref7_kv (x : (⟨S2048x512, .bf16⟩ : BufTy).Contents (Elt Ideal)) (y : (⟨S512x4096, .bf16⟩ : BufTy).Contents (Elt Ideal)) (i : Fin 2048) (j : Fin 4096) :
    val_main_v14 (F := Ideal) x y (ix2 i j) = Mlp.mm (mat x) (mat y) i j := by
  pointwise [val_main_v14, val_main_v7, val_main_v8, Mlp.mm]

end

section
open Cert.Reference8Ideal Cert.Reference8Ideal.Read

theorem ref8_dw_dq (x : (⟨S2048x2048, .bf16⟩ : BufTy).Contents (Elt Ideal)) (y : (⟨S2048x768, .bf16⟩ : BufTy).Contents (Elt Ideal)) (i : Fin 2048) (j : Fin 768) :
    val_main_v6 (F := Ideal) x y (ix2 i j) = Mlp.Tmm (mat x) (mat y) i j := by
  show val_main_v5 (F := Ideal) x y (ix2 i j) = _
  rw [val_main_v5_apply, show idx_main_v5 (ix2 i j) = ix2 j i from pair _]
  have h : val_main_v4 (F := Ideal) x y (ix2 j i) = ∑ k : Fin 2048, y (ix2 k j) * x (ix2 k i) := by
    pointwise [val_main_v4, val_main_v2, val_main_v1]
  exact h.trans (Finset.sum_congr rfl fun k _ => mul_comm (G := EReal) _ _)

theorem ref8_dw_dkv (x : (⟨S2048x2048, .bf16⟩ : BufTy).Contents (Elt Ideal)) (y : (⟨S2048x512, .bf16⟩ : BufTy).Contents (Elt Ideal)) (i : Fin 2048) (j : Fin 512) :
    val_main_v13 (F := Ideal) x y (ix2 i j) = Mlp.Tmm (mat x) (mat y) i j := by
  show val_main_v12 (F := Ideal) x y (ix2 i j) = _
  rw [val_main_v12_apply, show idx_main_v12 (ix2 i j) = ix2 j i from pair _]
  have h : val_main_v11 (F := Ideal) x y (ix2 j i) = ∑ k : Fin 2048, y (ix2 k j) * x (ix2 k i) := by
    pointwise [val_main_v11, val_main_v9, val_main_v8]
  exact h.trans (Finset.sum_congr rfl fun k _ => mul_comm (G := EReal) _ _)

theorem ref8_dw_dr (x : (⟨S2048x2048, .bf16⟩ : BufTy).Contents (Elt Ideal)) (y : (⟨S2048x128, .bf16⟩ : BufTy).Contents (Elt Ideal)) (i : Fin 2048) (j : Fin 128) :
    val_main_v20 (F := Ideal) x y (ix2 i j) = Mlp.Tmm (mat x) (mat y) i j := by
  show val_main_v19 (F := Ideal) x y (ix2 i j) = _
  rw [val_main_v19_apply, show idx_main_v19 (ix2 i j) = ix2 j i from pair _]
  have h : val_main_v18 (F := Ideal) x y (ix2 j i) = ∑ k : Fin 2048, y (ix2 k j) * x (ix2 k i) := by
    pointwise [val_main_v18, val_main_v16, val_main_v15]
  exact h.trans (Finset.sum_congr rfl fun k _ => mul_comm (G := EReal) _ _)

theorem ref8_dw_f (x : (⟨S2048x2048, .bf16⟩ : BufTy).Contents (Elt Ideal)) (y : (⟨S2048x128, .bf16⟩ : BufTy).Contents (Elt Ideal)) (i : Fin 2048) (j : Fin 128) :
    val_main_v27 (F := Ideal) x y (ix2 i j) = Mlp.Tmm (mat x) (mat y) i j := by
  show val_main_v26 (F := Ideal) x y (ix2 i j) = _
  rw [val_main_v26_apply, show idx_main_v26 (ix2 i j) = ix2 j i from pair _]
  have h : val_main_v25 (F := Ideal) x y (ix2 j i) = ∑ k : Fin 2048, y (ix2 k j) * x (ix2 k i) := by
    pointwise [val_main_v25, val_main_v23, val_main_v22]
  exact h.trans (Finset.sum_congr rfl fun k _ => mul_comm (G := EReal) _ _)

theorem ref8_dw_uq (x : (⟨S2048x768, .bf16⟩ : BufTy).Contents (Elt Ideal)) (y : (⟨S2048x4096, .bf16⟩ : BufTy).Contents (Elt Ideal)) (i : Fin 768) (j : Fin 4096) :
    val_main_v34 (F := Ideal) x y (ix2 i j) = Mlp.Tmm (mat x) (mat y) i j := by
  show val_main_v33 (F := Ideal) x y (ix2 i j) = _
  rw [val_main_v33_apply, show idx_main_v33 (ix2 i j) = ix2 j i from pair _]
  have h : val_main_v32 (F := Ideal) x y (ix2 j i) = ∑ k : Fin 2048, y (ix2 k j) * x (ix2 k i) := by
    pointwise [val_main_v32, val_main_v30, val_main_v29]
  exact h.trans (Finset.sum_congr rfl fun k _ => mul_comm (G := EReal) _ _)

theorem ref8_dw_ukv (x : (⟨S2048x512, .bf16⟩ : BufTy).Contents (Elt Ideal)) (y : (⟨S2048x4096, .bf16⟩ : BufTy).Contents (Elt Ideal)) (i : Fin 512) (j : Fin 4096) :
    val_main_v41 (F := Ideal) x y (ix2 i j) = Mlp.Tmm (mat x) (mat y) i j := by
  show val_main_v40 (F := Ideal) x y (ix2 i j) = _
  rw [val_main_v40_apply, show idx_main_v40 (ix2 i j) = ix2 j i from pair _]
  have h : val_main_v39 (F := Ideal) x y (ix2 j i) = ∑ k : Fin 2048, y (ix2 k j) * x (ix2 k i) := by
    pointwise [val_main_v39, val_main_v37, val_main_v36]
  exact h.trans (Finset.sum_congr rfl fun k _ => mul_comm (G := EReal) _ _)

end

section
open Cert.Reference9Ideal Cert.Reference9Ideal.Read

theorem ref9_mla (x0 x1 : (⟨S2048x768, .bf16⟩ : BufTy).Contents (Elt Ideal)) (x2 x3 : (⟨S2048x512, .bf16⟩ : BufTy).Contents (Elt Ideal)) (x4 x5 : (⟨S2048x128, .bf16⟩ : BufTy).Contents (Elt Ideal)) (i j : Fin 2048) :
    val_main_v15 (F := Ideal) x0 x1 x2 x3 x4 x5 (ix2 i j) = (Mlp.mmT (mat x4) (mat x5) i j + Mlp.mmT (mat x2) (mat x3) i j) + Mlp.mmT (mat x0) (mat x1) i j := by
  pointwise [val_main_v15, val_main_v14, val_main_v13, val_main_v12, val_main_v11, val_main_v10, val_main_v9, val_main_v8, val_main_v3, val_main_v2, val_main_v1, Mlp.mmT]

theorem ref9_dh (x6 : (⟨S2048x2048, .f32⟩ : BufTy).Contents (Elt Ideal)) (x7 x8 : (⟨S2048x128, .bf16⟩ : BufTy).Contents (Elt Ideal)) (i j : Fin 2048) :
    val_main_v19 (F := Ideal) x6 x7 x8 (ix2 i j) = x6 (ix2 i j) + Mlp.mmT (mat x7) (mat x8) i j := by
  pointwise [val_main_v19, val_main_v18, val_main_v17, val_main_v4, Mlp.mmT]

end

section
open Cert.Reference10Ideal Cert.Reference10Ideal.Read

theorem ref10 (x0 : (⟨S2048x4096, .bf16⟩ : BufTy).Contents (Elt Ideal)) (x1 : (⟨S768x4096, .bf16⟩ : BufTy).Contents (Elt Ideal)) (i : Fin 2048) (j : Fin 768) :
    val_main_v4 (F := Ideal) x0 x1 (ix2 i j) = Mlp.mmT (mat x0) (mat x1) i j := by
  pointwise [val_main_v4, val_main_v3, val_main_v1, Mlp.mmT]

end

section
open Cert.Reference11Ideal Cert.Reference11Ideal.Read

theorem ref11 (x0 : (⟨S2048x4096, .bf16⟩ : BufTy).Contents (Elt Ideal)) (x1 : (⟨S512x4096, .bf16⟩ : BufTy).Contents (Elt Ideal)) (i : Fin 2048) (j : Fin 512) :
    val_main_v4 (F := Ideal) x0 x1 (ix2 i j) = Mlp.mmT (mat x0) (mat x1) i j := by
  pointwise [val_main_v4, val_main_v3, val_main_v1, Mlp.mmT]

end

/-! ## Both programs leave the same arrays -/

theorem algebraic7 : Cert.algebraic_Kernel7Ideal_Reference7Ideal := by
  intro m ρ m' ρ' _ hagree
  refine ⟨fun c => Cert.Kernel7Ideal.Gen.W6 m ρ c (Proc.devRef .tc Cert.Kernel7Ideal.main_v0),
    fun c => Cert.Kernel7Ideal.Gen.W6 m ρ c (Proc.devRef .tc Cert.Kernel7Ideal.main_v1),
    fun c => Cert.Kernel7Ideal.Gen.W6 m ρ c (Proc.devRef .tc Cert.Kernel7Ideal.main_v2),
    fun c => Cert.Kernel7Ideal.Gen.W6 m ρ c (Proc.devRef .tc Cert.Kernel7Ideal.main_v3),
    fun c => Cert.Kernel7Ideal.Gen.W6 m ρ c (Proc.devRef .tc Cert.Kernel7Ideal.main_v4),
    fun c => Cert.Kernel7Ideal.Gen.W6 m ρ c (Proc.devRef .tc Cert.Kernel7Ideal.main_v5),
    ?_, ?_⟩
  · refine (θ_run Cert.Kernel7Ideal.defs _ _).mono (fun r h c => ⟨?_, ?_, ?_, ?_, ?_, ?_, ?_, ?_, ?_, ?_, ?_, ?_, ?_, ?_, ?_⟩) (Cert.Kernel7Ideal.LatentRun.run m ρ)
    · exact h c _ (Cert.Kernel7Ideal.Gen.mem_uc Cert.Kernel7Ideal.main_v0 (by decide))
    · exact h c _ (Cert.Kernel7Ideal.Gen.mem_uc Cert.Kernel7Ideal.main_v1 (by decide))
    · exact h c _ (Cert.Kernel7Ideal.Gen.mem_uc Cert.Kernel7Ideal.main_v2 (by decide))
    · exact h c _ (Cert.Kernel7Ideal.Gen.mem_uc Cert.Kernel7Ideal.main_v3 (by decide))
    · exact h c _ (Cert.Kernel7Ideal.Gen.mem_uc Cert.Kernel7Ideal.main_v4 (by decide))
    · exact h c _ (Cert.Kernel7Ideal.Gen.mem_uc Cert.Kernel7Ideal.main_v5 (by decide))
    · exact (h c _ (Cert.Kernel7Ideal.Gen.mem_uc Cert.Kernel7Ideal.main_arg0 (by decide))).trans (Cert.Kernel7Ideal.Gen.W6_main_arg0 m ρ c)
    · exact (h c _ (Cert.Kernel7Ideal.Gen.mem_uc Cert.Kernel7Ideal.main_arg1 (by decide))).trans (Cert.Kernel7Ideal.Gen.W6_main_arg1 m ρ c)
    · exact (h c _ (Cert.Kernel7Ideal.Gen.mem_uc Cert.Kernel7Ideal.main_arg2 (by decide))).trans (Cert.Kernel7Ideal.Gen.W6_main_arg2 m ρ c)
    · exact (h c _ (Cert.Kernel7Ideal.Gen.mem_uc Cert.Kernel7Ideal.main_arg3 (by decide))).trans (Cert.Kernel7Ideal.Gen.W6_main_arg3 m ρ c)
    · exact (h c _ (Cert.Kernel7Ideal.Gen.mem_uc Cert.Kernel7Ideal.main_arg4 (by decide))).trans (Cert.Kernel7Ideal.Gen.W6_main_arg4 m ρ c)
    · exact (h c _ (Cert.Kernel7Ideal.Gen.mem_uc Cert.Kernel7Ideal.main_arg5 (by decide))).trans (Cert.Kernel7Ideal.Gen.W6_main_arg5 m ρ c)
    · exact (h c _ (Cert.Kernel7Ideal.Gen.mem_uc Cert.Kernel7Ideal.main_arg6 (by decide))).trans (Cert.Kernel7Ideal.Gen.W6_main_arg6 m ρ c)
    · exact (h c _ (Cert.Kernel7Ideal.Gen.mem_uc Cert.Kernel7Ideal.main_arg7 (by decide))).trans (Cert.Kernel7Ideal.Gen.W6_main_arg7 m ρ c)
    · exact (h c _ (Cert.Kernel7Ideal.Gen.mem_uc Cert.Kernel7Ideal.main_arg8 (by decide))).trans (Cert.Kernel7Ideal.Gen.W6_main_arg8 m ρ c)
  refine (θ_run Cert.Reference7Ideal.defs _ _).mono (fun r h c => ?_) (Cert.Reference7Ideal.Value.run (F := Ideal) m' ρ')
  obtain ⟨a0, a1, a2, a3, a4, a5, a6, a7, a8⟩ := hagree c
  obtain ⟨h0, h1, h2, h3, h4, h5, hargs⟩ := h c
  refine ⟨?_, ?_, ?_, ?_, ?_, ?_, hargs⟩
  · refine h0.trans ((Cert.Reference7Ideal.Read.val_main_v9_eq _ _).trans ?_)
    rw [a0, a1]
    refine Eq.trans ?_ (Cert.Kernel7Ideal.LatentRun.v0_eq m ρ c).symm
    funext i
    rw [pair i]
    exact ref7_dq _ _ _ _
  · refine h1.trans ((Cert.Reference7Ideal.Read.val_main_v10_eq _ _).trans ?_)
    rw [a0, a2]
    refine Eq.trans ?_ (Cert.Kernel7Ideal.LatentRun.v1_eq m ρ c).symm
    funext i
    rw [pair i]
    exact ref7_dkv _ _ _ _
  · refine h2.trans ((Cert.Reference7Ideal.Read.val_main_v11_eq _ _).trans ?_)
    rw [a0, a3]
    refine Eq.trans ?_ (Cert.Kernel7Ideal.LatentRun.v2_eq m ρ c).symm
    funext i
    rw [pair i]
    exact ref7_kr _ _ _ _
  · refine h3.trans ((Cert.Reference7Ideal.Read.val_main_v12_eq _ _).trans ?_)
    rw [a0, a4]
    refine Eq.trans ?_ (Cert.Kernel7Ideal.LatentRun.v3_eq m ρ c).symm
    funext i
    rw [pair i]
    exact ref7_flog _ _ _ _
  · refine h4.trans ((Cert.Reference7Ideal.Read.val_main_v13_eq _ _).trans ?_)
    rw [a5, a6]
    refine Eq.trans ?_ (Cert.Kernel7Ideal.LatentRun.v4_eq m ρ c).symm
    funext i
    rw [pair i]
    exact ref7_qfull _ _ _ _
  · refine h5.trans ((Cert.Reference7Ideal.Read.val_main_v14_eq _ _).trans ?_)
    rw [a7, a8]
    refine Eq.trans ?_ (Cert.Kernel7Ideal.LatentRun.v5_eq m ρ c).symm
    funext i
    rw [pair i]
    exact ref7_kv _ _ _ _

theorem algebraic8 : Cert.algebraic_Kernel8Ideal_Reference8Ideal := by
  intro m ρ m' ρ' _ hagree
  refine ⟨fun c => Cert.Kernel8Ideal.Gen.W6 m ρ c (Proc.devRef .tc Cert.Kernel8Ideal.main_v0),
    fun c => Cert.Kernel8Ideal.Gen.W6 m ρ c (Proc.devRef .tc Cert.Kernel8Ideal.main_v1),
    fun c => Cert.Kernel8Ideal.Gen.W6 m ρ c (Proc.devRef .tc Cert.Kernel8Ideal.main_v2),
    fun c => Cert.Kernel8Ideal.Gen.W6 m ρ c (Proc.devRef .tc Cert.Kernel8Ideal.main_v3),
    fun c => Cert.Kernel8Ideal.Gen.W6 m ρ c (Proc.devRef .tc Cert.Kernel8Ideal.main_v4),
    fun c => Cert.Kernel8Ideal.Gen.W6 m ρ c (Proc.devRef .tc Cert.Kernel8Ideal.main_v5),
    ?_, ?_⟩
  · refine (θ_run Cert.Kernel8Ideal.defs _ _).mono (fun r h c => ⟨?_, ?_, ?_, ?_, ?_, ?_, ?_, ?_, ?_, ?_, ?_, ?_, ?_, ?_, ?_⟩) (Cert.Kernel8Ideal.LatentGradRun.run m ρ)
    · exact h c _ (Cert.Kernel8Ideal.Gen.mem_uc Cert.Kernel8Ideal.main_v0 (by decide))
    · exact h c _ (Cert.Kernel8Ideal.Gen.mem_uc Cert.Kernel8Ideal.main_v1 (by decide))
    · exact h c _ (Cert.Kernel8Ideal.Gen.mem_uc Cert.Kernel8Ideal.main_v2 (by decide))
    · exact h c _ (Cert.Kernel8Ideal.Gen.mem_uc Cert.Kernel8Ideal.main_v3 (by decide))
    · exact h c _ (Cert.Kernel8Ideal.Gen.mem_uc Cert.Kernel8Ideal.main_v4 (by decide))
    · exact h c _ (Cert.Kernel8Ideal.Gen.mem_uc Cert.Kernel8Ideal.main_v5 (by decide))
    · exact (h c _ (Cert.Kernel8Ideal.Gen.mem_uc Cert.Kernel8Ideal.main_arg0 (by decide))).trans (Cert.Kernel8Ideal.Gen.W6_main_arg0 m ρ c)
    · exact (h c _ (Cert.Kernel8Ideal.Gen.mem_uc Cert.Kernel8Ideal.main_arg1 (by decide))).trans (Cert.Kernel8Ideal.Gen.W6_main_arg1 m ρ c)
    · exact (h c _ (Cert.Kernel8Ideal.Gen.mem_uc Cert.Kernel8Ideal.main_arg2 (by decide))).trans (Cert.Kernel8Ideal.Gen.W6_main_arg2 m ρ c)
    · exact (h c _ (Cert.Kernel8Ideal.Gen.mem_uc Cert.Kernel8Ideal.main_arg3 (by decide))).trans (Cert.Kernel8Ideal.Gen.W6_main_arg3 m ρ c)
    · exact (h c _ (Cert.Kernel8Ideal.Gen.mem_uc Cert.Kernel8Ideal.main_arg4 (by decide))).trans (Cert.Kernel8Ideal.Gen.W6_main_arg4 m ρ c)
    · exact (h c _ (Cert.Kernel8Ideal.Gen.mem_uc Cert.Kernel8Ideal.main_arg5 (by decide))).trans (Cert.Kernel8Ideal.Gen.W6_main_arg5 m ρ c)
    · exact (h c _ (Cert.Kernel8Ideal.Gen.mem_uc Cert.Kernel8Ideal.main_arg6 (by decide))).trans (Cert.Kernel8Ideal.Gen.W6_main_arg6 m ρ c)
    · exact (h c _ (Cert.Kernel8Ideal.Gen.mem_uc Cert.Kernel8Ideal.main_arg7 (by decide))).trans (Cert.Kernel8Ideal.Gen.W6_main_arg7 m ρ c)
    · exact (h c _ (Cert.Kernel8Ideal.Gen.mem_uc Cert.Kernel8Ideal.main_arg8 (by decide))).trans (Cert.Kernel8Ideal.Gen.W6_main_arg8 m ρ c)
  refine (θ_run Cert.Reference8Ideal.defs _ _).mono (fun r h c => ?_) (Cert.Reference8Ideal.Value.run (F := Ideal) m' ρ')
  obtain ⟨a0, a1, a2, a3, a4, a5, a6, a7, a8⟩ := hagree c
  obtain ⟨h0, h1, h2, h3, h4, h5, hargs⟩ := h c
  refine ⟨?_, ?_, ?_, ?_, ?_, ?_, hargs⟩
  · refine h0.trans ((Cert.Reference8Ideal.Read.val_main_v6_eq _ _).trans ?_)
    rw [a0, a1]
    refine Eq.trans ?_ (Cert.Kernel8Ideal.LatentGradRun.v0_eq m ρ c).symm
    funext i
    rw [pair i]
    exact ref8_dw_dq _ _ _ _
  · refine h1.trans ((Cert.Reference8Ideal.Read.val_main_v13_eq _ _).trans ?_)
    rw [a0, a2]
    refine Eq.trans ?_ (Cert.Kernel8Ideal.LatentGradRun.v1_eq m ρ c).symm
    funext i
    rw [pair i]
    exact ref8_dw_dkv _ _ _ _
  · refine h2.trans ((Cert.Reference8Ideal.Read.val_main_v20_eq _ _).trans ?_)
    rw [a0, a3]
    refine Eq.trans ?_ (Cert.Kernel8Ideal.LatentGradRun.v2_eq m ρ c).symm
    funext i
    rw [pair i]
    exact ref8_dw_dr _ _ _ _
  · refine h3.trans ((Cert.Reference8Ideal.Read.val_main_v27_eq _ _).trans ?_)
    rw [a0, a4]
    refine Eq.trans ?_ (Cert.Kernel8Ideal.LatentGradRun.v3_eq m ρ c).symm
    funext i
    rw [pair i]
    exact ref8_dw_f _ _ _ _
  · refine h4.trans ((Cert.Reference8Ideal.Read.val_main_v34_eq _ _).trans ?_)
    rw [a5, a6]
    refine Eq.trans ?_ (Cert.Kernel8Ideal.LatentGradRun.v4_eq m ρ c).symm
    funext i
    rw [pair i]
    exact ref8_dw_uq _ _ _ _
  · refine h5.trans ((Cert.Reference8Ideal.Read.val_main_v41_eq _ _).trans ?_)
    rw [a7, a8]
    refine Eq.trans ?_ (Cert.Kernel8Ideal.LatentGradRun.v5_eq m ρ c).symm
    funext i
    rw [pair i]
    exact ref8_dw_ukv _ _ _ _

theorem algebraic9 : Cert.algebraic_Kernel9Ideal_Reference9Ideal := by
  intro m ρ m' ρ' _ hagree
  refine ⟨fun c => Cert.Kernel9Ideal.Gen.W4 m ρ c (Proc.devRef .tc Cert.Kernel9Ideal.main_v2),
    fun c => Cert.Kernel9Ideal.Gen.W4 m ρ c (Proc.devRef .tc Cert.Kernel9Ideal.main_v3),
    ?_, ?_⟩
  · refine (θ_run Cert.Kernel9Ideal.defs _ _).mono (fun r h c => ⟨?_, ?_, ?_, ?_, ?_, ?_, ?_, ?_, ?_, ?_, ?_⟩) (Cert.Kernel9Ideal.LatentBwdRun.run m ρ)
    · exact h c _ (Cert.Kernel9Ideal.Gen.mem_uc Cert.Kernel9Ideal.main_v2 (by decide))
    · exact h c _ (Cert.Kernel9Ideal.Gen.mem_uc Cert.Kernel9Ideal.main_v3 (by decide))
    · exact (h c _ (Cert.Kernel9Ideal.Gen.mem_uc Cert.Kernel9Ideal.main_arg0 (by decide))).trans (Cert.Kernel9Ideal.Gen.W4_main_arg0 m ρ c)
    · exact (h c _ (Cert.Kernel9Ideal.Gen.mem_uc Cert.Kernel9Ideal.main_arg1 (by decide))).trans (Cert.Kernel9Ideal.Gen.W4_main_arg1 m ρ c)
    · exact (h c _ (Cert.Kernel9Ideal.Gen.mem_uc Cert.Kernel9Ideal.main_arg2 (by decide))).trans (Cert.Kernel9Ideal.Gen.W4_main_arg2 m ρ c)
    · exact (h c _ (Cert.Kernel9Ideal.Gen.mem_uc Cert.Kernel9Ideal.main_arg3 (by decide))).trans (Cert.Kernel9Ideal.Gen.W4_main_arg3 m ρ c)
    · exact (h c _ (Cert.Kernel9Ideal.Gen.mem_uc Cert.Kernel9Ideal.main_arg4 (by decide))).trans (Cert.Kernel9Ideal.Gen.W4_main_arg4 m ρ c)
    · exact (h c _ (Cert.Kernel9Ideal.Gen.mem_uc Cert.Kernel9Ideal.main_arg5 (by decide))).trans (Cert.Kernel9Ideal.Gen.W4_main_arg5 m ρ c)
    · exact (h c _ (Cert.Kernel9Ideal.Gen.mem_uc Cert.Kernel9Ideal.main_arg6 (by decide))).trans (Cert.Kernel9Ideal.Gen.W4_main_arg6 m ρ c)
    · exact (h c _ (Cert.Kernel9Ideal.Gen.mem_uc Cert.Kernel9Ideal.main_arg7 (by decide))).trans (Cert.Kernel9Ideal.Gen.W4_main_arg7 m ρ c)
    · exact (h c _ (Cert.Kernel9Ideal.Gen.mem_uc Cert.Kernel9Ideal.main_arg8 (by decide))).trans (Cert.Kernel9Ideal.Gen.W4_main_arg8 m ρ c)
  refine (θ_run Cert.Reference9Ideal.defs _ _).mono (fun r h c => ?_) (Cert.Reference9Ideal.Value.run (F := Ideal) m' ρ')
  obtain ⟨a0, a1, a2, a3, a4, a5, a6, a7, a8⟩ := hagree c
  obtain ⟨h0, h1, hargs⟩ := h c
  refine ⟨?_, ?_, hargs⟩
  · refine h0.trans ((Cert.Reference9Ideal.Read.val_main_v15_eq _ _ _ _ _ _).trans ?_)
    rw [a0, a1, a2, a3, a4, a5]
    refine Eq.trans ?_ (Cert.Kernel9Ideal.LatentBwdRun.v2_eq m ρ c).symm
    funext i
    rw [pair i]
    exact (ref9_mla _ _ _ _ _ _ _ _).trans (add_assoc (G := EReal) _ _ _)
  · refine h1.trans ((Cert.Reference9Ideal.Read.val_main_v19_eq _ _ _).trans ?_)
    rw [a6, a7, a8]
    refine Eq.trans ?_ (Cert.Kernel9Ideal.LatentBwdRun.v3_eq m ρ c).symm
    funext i
    rw [pair i]
    exact (ref9_dh _ _ _ _ _).trans (add_comm (G := EReal) _ _)

theorem algebraic10 : Cert.algebraic_Kernel10Ideal_Reference10Ideal := by
  intro m ρ m' ρ' _ hagree
  refine ⟨fun c => Cert.Kernel10Ideal.LatentUpQ.arr m c, (θ_run Cert.Kernel10Ideal.defs _ _).mono
    (fun r h c => ⟨(h c).1.trans (Cert.Kernel10Ideal.LatentUpQ.final m c), (h c).2⟩) (Cert.Kernel10Ideal.Value.run_blocks m ρ), ?_⟩
  refine (θ_run Cert.Reference10Ideal.defs _ _).mono (fun r h c => ⟨?_, (h c).2⟩) (Cert.Reference10Ideal.Value.run (F := Ideal) m' ρ')
  refine (h c).1.trans ((Cert.Reference10Ideal.Read.val_main_v4_eq _ _).trans ?_)
  rw [(hagree c).1, (hagree c).2]
  funext i
  rw [pair i]
  exact ref10 _ _ _ _

theorem algebraic11 : Cert.algebraic_Kernel11Ideal_Reference11Ideal := by
  intro m ρ m' ρ' _ hagree
  refine ⟨fun c => Cert.Kernel11Ideal.LatentUpKv.arr m c, (θ_run Cert.Kernel11Ideal.defs _ _).mono
    (fun r h c => ⟨(h c).1.trans (Cert.Kernel11Ideal.LatentUpKv.final m c), (h c).2⟩) (Cert.Kernel11Ideal.Value.run_blocks m ρ), ?_⟩
  refine (θ_run Cert.Reference11Ideal.defs _ _).mono (fun r h c => ⟨?_, (h c).2⟩) (Cert.Reference11Ideal.Value.run (F := Ideal) m' ρ')
  refine (h c).1.trans ((Cert.Reference11Ideal.Read.val_main_v4_eq _ _).trans ?_)
  rw [(hagree c).1, (hagree c).2]
  funext i
  rw [pair i]
  exact ref11 _ _ _ _

end Cert.Proof
-- ==== Proof.Norm.lean ====
module

public import Idealize.ShloMosaic.Lib.Pointwise
public import Mathlib.Algebra.BigOperators.Fin

/-! The RMS norm of a row over the extended reals, `y = x r g` with `r = 1/√(mean x² + ε)`, and its derivative. -/

@[expose] public section

noncomputable section

namespace Cert.Norm

open Idealize.ShloMosaic

/-- The length of a row: of the layers' inputs, and of the two latents. -/
def n2048 : EReal := Ideal.ofBits .f32 0x45000000#32
def n768 : EReal := Ideal.ofBits .f32 0x44400000#32
def n512 : EReal := Ideal.ofBits .f32 0x44000000#32

section
variable {n : ℕ} (N : EReal)

/-- The mean of a row of `N` entries whose sum is `s`. -/
def mean (s : EReal) : EReal := Ideal.div s N

/-- The mean square of a row, and the norm's epsilon. -/
def ms (x : Fin n → EReal) : EReal := mean N (∑ k, x k * x k) + Ideal.ofBits .f32 0x358637BD#32

/-- The factor `r` of a row. -/
def rms (x : Fin n → EReal) : EReal := Ideal.rsqrt (ms N x)

/-- The gradient at column `j`. -/
def dx (x g dy : Fin n → EReal) (j : Fin n) : EReal :=
  rms N x * (dy j * g j) - x j * (rms N x * rms N x * rms N x * mean N (∑ k, dy k * g k * x k))

/-- Row `i`'s share of the weight's gradient at column `j`. -/
def share (x dy : Fin 2048 → Fin n → EReal) (j : Fin n) (i : ℕ) : EReal :=
  if h : i < 2048 then dy ⟨i, h⟩ j * x ⟨i, h⟩ j * rms N (x ⟨i, h⟩) else 0

theorem share_sum (x dy : Fin 2048 → Fin n → EReal) (j : Fin n) :
    ∑ i ∈ Finset.range 2048, share N x dy j i = ∑ k, dy k j * x k j * rms N (x k) := by
  rw [← Fin.sum_univ_eq_sum_range (fun k => share N x dy j k) 2048]
  exact Finset.sum_congr rfl fun k _ => dif_pos k.isLt

theorem dx_congr {x x' g g' dy dy' : Fin n → EReal} {j j' : Fin n} (hx : ∀ k, x k = x' k) (hg : ∀ k, g k = g' k)
    (hdy : ∀ k, dy k = dy' k) (hj : j = j') : dx N x g dy j = dx N x' g' dy' j' := by
  obtain rfl := funext hx; obtain rfl := funext hg; obtain rfl := funext hdy; rw [hj]

end

theorem n2048_real : n2048 = ((2048 : ℝ) : EReal) := by
  simp [n2048, Ideal.ofBits, Ideal.ieee]
  rw [← EReal.coe_mul]
  norm_num

theorem n768_real : n768 = ((768 : ℝ) : EReal) := by
  simp [n768, Ideal.ofBits, Ideal.ieee]
  rw [← EReal.coe_mul]
  norm_num

theorem n512_real : n512 = ((512 : ℝ) : EReal) := by
  simp [n512, Ideal.ofBits, Ideal.ieee]
  rw [← EReal.coe_mul]
  norm_num

theorem bits_half : Ideal.ofBits .f32 0xBF000000#32 = ((-(1 / 2) : ℝ) : EReal) := by
  simp [Ideal.ofBits, Ideal.ieee]
  rw [← EReal.coe_mul]
  norm_num

theorem bits_eps : 0 < Ideal.ofBits .f32 0x358637BD#32 := by
  simp [Ideal.ofBits, Ideal.ieee]
  rw [← EReal.coe_mul]
  exact EReal.coe_pos.2 (by positivity)

theorem mean_eq {N : EReal} {r : ℝ} (hN : N = (r : EReal)) (hr : 0 < r) (s : EReal) : mean N s = s * ((1 / r : ℝ) : EReal) := by
  rw [mean, hN, Ideal.div_coe hr.ne']

theorem mul_self_nonneg (a : EReal) : 0 ≤ a * a := by
  induction a with
  | bot => simp
  | coe r => rw [← EReal.coe_mul]; exact EReal.coe_nonneg.2 (_root_.mul_self_nonneg r)
  | top => simp

theorem ms_pos {n : ℕ} {N : EReal} {r : ℝ} (hN : N = (r : EReal)) (hr : 0 < r) (x : Fin n → EReal) : 0 < ms N x := by
  have h : 0 ≤ ∑ k, x k * x k := Finset.sum_nonneg fun k _ => mul_self_nonneg (x k)
  have hm : 0 ≤ mean N (∑ k, x k * x k) := by
    rw [mean_eq hN hr]
    exact mul_nonneg h (EReal.coe_nonneg.2 (by positivity))
  exact lt_of_lt_of_le bits_eps (le_add_of_nonneg_left hm)

/-- The derivative of `1/√v` is taken from `1/√v` and `v`. -/
theorem cube (v : EReal) (h : 0 < v) : Ideal.div (Ideal.rsqrt v) v = Ideal.rsqrt v * Ideal.rsqrt v * Ideal.rsqrt v := by
  induction v with
  | bot => exact absurd h (by simp)
  | top => rw [Ideal.rsqrt_top, Ideal.div, if_neg (by simp)]; simp
  | coe r =>
    have hr : 0 < r := EReal.coe_pos.1 h
    rw [Ideal.div_coe hr.ne', Ideal.rsqrt_coe, if_neg hr.not_gt, if_neg hr.ne', ← EReal.coe_mul, ← EReal.coe_mul, ← EReal.coe_mul]
    refine congrArg _ ?_
    have hs : Real.sqrt r * Real.sqrt r = r := Real.mul_self_sqrt hr.le
    have hp : Real.sqrt r ≠ 0 := (Real.sqrt_pos.2 hr).ne'
    rw [mul_assoc (Real.sqrt r)⁻¹, ← mul_inv, hs, mul_comm, one_div]
    ring

/-- Twice minus one half. -/
theorem halves (a : EReal) : ((-(1 / 2) : ℝ) : EReal) * a + ((-(1 / 2) : ℝ) : EReal) * a = -a := by
  induction a with
  | bot => rw [EReal.coe_mul_bot_of_neg (by norm_num)]; rfl
  | coe r => rw [← EReal.coe_mul, ← EReal.coe_add, ← EReal.coe_neg]; exact congrArg _ (by ring)
  | top => rw [EReal.coe_mul_top_of_neg (by norm_num)]; rfl

/-- The gradient by the product rule: the square's two equal terms are the kernel's one. -/
theorem dx_eq {n : ℕ} {N : EReal} {r : ℝ} (hN : N = (r : EReal)) (hr : 0 < r) (x g dy : Fin n → EReal) (j : Fin n) (w : EReal)
    (hw : w = mean N ((∑ k, x k * (dy k * g k)) * (Ideal.ofBits .f32 0xBF000000#32 * Ideal.div (rms N x) (ms N x)))) :
    dy j * g j * rms N x + x j * w + w * x j = dx N x g dy j := by
  have hs : ∑ k, x k * (dy k * g k) = ∑ k, dy k * g k * x k := Finset.sum_congr rfl fun k _ => mul_comm _ _
  have hx : x j * w = ((-(1 / 2) : ℝ) : EReal) * (x j * (rms N x * rms N x * rms N x * mean N (∑ k, dy k * g k * x k))) := by
    rw [hw, hs, bits_half, show Ideal.div (rms N x) (ms N x) = rms N x * rms N x * rms N x from cube _ (ms_pos hN hr x), mean_eq hN hr, mean_eq hN hr]
    simp only [mul_comm, mul_left_comm, mul_assoc]
  rw [mul_comm w, add_assoc, hx, halves, mul_comm (dy j * g j)]
  rfl

end Cert.Norm
-- ==== Proof.NormFwd.lean ====
module

public import proofs.«01_k».proof.Proof.Gen.Kernel14Ideal.Value
public import proofs.«01_k».proof.Proof.Norm
public import proofs.«01_k».proof.Proof.Proj
public import Idealize.ShloMosaic.Lib.Pipeline.ValueKit
public import Idealize.ShloMosaic.Lib.Pipeline.ValueKit.Geometry

/-! The norm's forward call: each row by its factor and by the weight. -/

@[expose] public section

set_option maxRecDepth 16384

noncomputable section

namespace Cert.Kernel14Ideal.NormFwd

open Idealize.ShloMosaic Idealize.ShloMosaic.TcCoe Idealize.SL.Sem
open Cert.Kernel14Ideal Cert.Kernel14Ideal.Gen Cert.Kernel14Ideal.Value Cert.Norm
open Cert.Kernel5Ideal.Proj (z2 mat pair)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem out (x0 : Vec Ideal S256x2048 .f32) (x1 : Vec Ideal S1x2048 .f32) (p : Fin 256) (q : Fin 2048) :
    out0_2 (F := Ideal) x0 x1 (ix2 p q) = x0 (ix2 p q) * rms n2048 (fun k => x0 (ix2 p k)) * x1 (ix2 0 q) := by
  unfold out0_2
  rw [View.canon_unit_zero z2, View.ld_unit_zero z2, View.ld_unit_zero z2]
  pointwise [k0_pay1, rms, ms, mean, n2048]

/-- The array the call leaves. -/
def arr : Buf (Elt Ideal) ((c : Thread nD τ).loc main_v0) := fun i =>
  mat (m ((c : Thread nD τ).loc main_arg0)) (i 0) (i 1) * rms n2048 (mat (m ((c : Thread nD τ).loc main_arg0)) (i 0)) * mat (m ((c : Thread nD τ).loc main_arg1)) 0 (i 1)

theorem final : (dats m 0 c).arrAt 2 cfg0.N = arr m c := by
  refine (dats m 0 c).arrAt_eq_of_covers 2 _ (by decide +kernel) fun t hf y => ?_
  blk_simp
  rw [after0_2]
  obtain ⟨e0, e1, e2⟩ := idx t
  refine (congrArg (out0_2 _ _) (pair y)).trans ((out _ _ _ _).trans
    (congrArg₂ (fun a b : EReal => a * b) (congrArg₂ (fun a b : EReal => a * b) ?_ (congrArg (rms n2048) (funext fun k => ?_))) ?_))
  · blk_ext [iblk, e0, e2]
  · blk_ext [iblk, e0, e2]
  · blk_ext [iblk, e1, e2]

end Cert.Kernel14Ideal.NormFwd
-- ==== Proof.NormBwd.lean ====
module

public import proofs.«01_k».proof.Proof.Gen.Kernel13Ideal.Value
public import proofs.«01_k».proof.Proof.Norm
public import proofs.«01_k».proof.Proof.Proj
public import Idealize.ShloMosaic.Lib.Pipeline.ValueKit
public import Idealize.ShloMosaic.Lib.Pipeline.ValueKit.Geometry

/-! The norm's backward call: the gradient of each row, and the weight's gradient summed over eight blocks of rows. -/

@[expose] public section

set_option maxRecDepth 16384

noncomputable section

namespace Cert.Kernel13Ideal.NormBwd

open Idealize.ShloMosaic Idealize.ShloMosaic.TcCoe Idealize.SL.Sem
open Cert.Kernel13Ideal Cert.Kernel13Ideal.Gen Cert.Kernel13Ideal.Value Cert.Norm
open Cert.Kernel5Ideal.Proj (z2 mat pair)

/-- A block's share of the weight's gradient at column `q`. -/
def part (x0 x2 : Vec Ideal S256x2048 .f32) (q : Fin 2048) : EReal :=
  ∑ p : Fin 256, x2 (ix2 p q) * x0 (ix2 p q) * rms n2048 (fun k => x0 (ix2 p k))

theorem pay3 (x0 x2 : Vec Ideal S256x2048 .f32) (x1 : Vec Ideal S1x2048 .f32) (x3 : Vec Ideal S256x2048 .f32) (p : Fin 256) (q : Fin 2048) :
    k0_pay3 (F := Ideal) x0 x2 x1 x3 (ix2 p q)
      = x3 (ix2 p q) + dx n2048 (fun k => x0 (ix2 p k)) (fun k => x1 (ix2 0 k)) (fun k => x2 (ix2 p k)) q := by
  rw [add_comm]
  pointwise [k0_pay3, k0_pay2, dx, rms, ms, mean, n2048]

theorem pay4 (x0 x2 : Vec Ideal S256x2048 .f32) (x1 : Vec Ideal S1x2048 .f32) (x3 : Vec Ideal S256x2048 .f32) (p : Fin 256) (q : Fin 2048) :
    k0_pay4 (F := Ideal) x0 x2 x1 x3 (ix2 p q)
      = x3 (ix2 p q) + dx n2048 (fun k => x0 (ix2 p k)) (fun k => x1 (ix2 0 k)) (fun k => x2 (ix2 p k)) q := pay3 x0 x2 x1 x3 p q

theorem pay1 (x0 x2 : Vec Ideal S256x2048 .f32) (a : Vec Ideal S1x2048 .f32) (q : Fin 2048) :
    k0_pay1 (F := Ideal) x0 (k0_pay2 x0) x2 a (ix2 0 q) = a (ix2 0 q) + part x0 x2 q := by
  pointwise [k0_pay1, k0_pay2, part, rms, ms, mean, n2048]

section
variable (c : Dev nD) (i : grid0.Coords) (arg1 : Memref sig .tc .vmem S256x2048 .f32) (harg1 : arg1.IsWhole)
  (arg2 : Memref sig .tc .vmem S1x2048 .f32) (harg2 : arg2.IsWhole) (arg3 : Memref sig .tc .vmem S256x2048 .f32) (harg3 : arg3.IsWhole)
  (arg4 : Memref sig .tc .vmem S256x2048 .f32) (harg4 : arg4.IsWhole) (arg5 : Memref sig .tc .vmem S256x2048 .f32) (harg5 : arg5.IsWhole)
  (arg6 : Memref sig .tc .vmem S256x2048 .bf16) (harg6 : arg6.IsWhole) (arg7 : Memref sig .tc .vmem S1x2048 .f32) (harg7 : arg7.IsWhole)
  (x0 : Vec Ideal S256x2048 .f32) (x1 : Vec Ideal S1x2048 .f32) (x2 x3 : Vec Ideal S256x2048 .f32) (xo : Vec Ideal S1x2048 .f32)

theorem out4_A (h : cond0_0 i) :
    out0_A_4 (F := Ideal) c i arg1 harg1 arg2 harg2 arg3 harg3 arg4 harg4 arg5 harg5 arg6 harg6 arg7 harg7 h x0 x1 x2 x3 = k0_pay3 x0 x2 x1 x3 := by
  unfold out0_A_4
  rw [View.read_writes_junk_eq_canon]
  unfold kernelRun0_A
  dsimp only
  rw [View.canon_unit_zero z2]
  simp only [View.readAt_eq_ld, harg1.read_unread, harg2.read_unread, harg3.read_unread, harg4.read_unread]
  rw [View.ld_unit_zero z2, View.ld_unit_zero z2, View.ld_unit_zero z2, View.ld_unit_zero z2]

theorem out4_B (h : ¬cond0_0 i) :
    out0_B_4 (F := Ideal) c i arg1 harg1 arg2 harg2 arg3 harg3 arg4 harg4 arg5 harg5 arg6 harg6 arg7 harg7 h x0 x1 x2 x3 xo = k0_pay3 x0 x2 x1 x3 := by
  unfold out0_B_4
  rw [View.read_writes_junk_eq_canon]
  unfold kernelRun0_B
  dsimp only
  rw [View.canon_unit_zero z2]
  simp only [View.readAt_eq_ld, harg1.read_unread, harg2.read_unread, harg3.read_unread, harg4.read_unread]
  rw [View.ld_unit_zero z2, View.ld_unit_zero z2, View.ld_unit_zero z2, View.ld_unit_zero z2]

theorem out5_A (h : cond0_0 i) :
    out0_A_5 (F := Ideal) c i arg1 harg1 arg2 harg2 arg3 harg3 arg4 harg4 arg5 harg5 arg6 harg6 arg7 harg7 h x0 x1 x2 x3 = k0_pay4 x0 x2 x1 x3 := by
  unfold out0_A_5
  rw [View.read_writes_junk_eq_canon]
  unfold kernelRun0_A
  dsimp only
  rw [View.canon_unit_zero z2]
  simp only [View.readAt_eq_ld, harg1.read_unread, harg2.read_unread, harg3.read_unread, harg4.read_unread]
  rw [View.ld_unit_zero z2, View.ld_unit_zero z2, View.ld_unit_zero z2, View.ld_unit_zero z2]

theorem out5_B (h : ¬cond0_0 i) :
    out0_B_5 (F := Ideal) c i arg1 harg1 arg2 harg2 arg3 harg3 arg4 harg4 arg5 harg5 arg6 harg6 arg7 harg7 h x0 x1 x2 x3 xo = k0_pay4 x0 x2 x1 x3 := by
  unfold out0_B_5
  rw [View.read_writes_junk_eq_canon]
  unfold kernelRun0_B
  dsimp only
  rw [View.canon_unit_zero z2]
  simp only [View.readAt_eq_ld, harg1.read_unread, harg2.read_unread, harg3.read_unread, harg4.read_unread]
  rw [View.ld_unit_zero z2, View.ld_unit_zero z2, View.ld_unit_zero z2, View.ld_unit_zero z2]

theorem out6_B (h : ¬cond0_0 i) :
    out0_B_6 (F := Ideal) c i arg1 harg1 arg2 harg2 arg3 harg3 arg4 harg4 arg5 harg5 arg6 harg6 arg7 harg7 h x0 x1 x2 x3 xo = k0_pay1 x0 (k0_pay2 x0) x2 xo := by
  unfold out0_B_6
  rw [View.read_writes_junk_eq_canon]
  unfold kernelRun0_B
  dsimp only
  rw [View.canon_unit_zero z2]
  unfold kernelRun0_B.sl.r kernelRun0_B.sl.r_1 kernelRun0_B.sl.r_2 kernelRun0_B.sl.r_3
  simp only [View.readAt_eq_ld, harg1.read_unread, harg3.read_unread, harg7.read_unread]
  rw [View.ld_unit_zero z2, View.ld_unit_zero z2, View.ld_unit_zero z2]

theorem out6_A (h : cond0_0 i) :
    out0_A_6 (F := Ideal) c i arg1 harg1 arg2 harg2 arg3 harg3 arg4 harg4 arg5 harg5 arg6 harg6 arg7 harg7 h x0 x1 x2 x3 = k0_pay1 x0 (k0_pay2 x0) x2 (k0_pay5 (F := Ideal)) := by
  unfold out0_A_6
  rw [View.read_writes_junk_eq_canon]
  unfold kernelRun0_A
  dsimp only
  rw [View.canon_cons_unit_zero z2]
  unfold kernelRun0_A.sl.r kernelRun0_A.sl.r_1 kernelRun0_A.sl.r_2 kernelRun0_A.sl.v34 kernelRun0_A.sl.H6_1
  rw [View.readCov_unit_zero _ z2]
  simp only [View.readAt_eq_ld, harg1.read_unread, harg3.read_unread]
  rw [View.ld_unit_zero z2, View.ld_unit_zero z2]

end

variable (m : (ℓ : Loc nD τ sig) → Buf (Elt Ideal) ℓ) (c : Dev nD)

/-- The operands. -/
abbrev X : Fin 2048 → Fin 2048 → EReal := mat (m ((c : Thread nD τ).loc main_arg0))
abbrev W : Fin 2048 → EReal := mat (m ((c : Thread nD τ).loc main_arg1)) 0
abbrev DY : Fin 2048 → Fin 2048 → EReal := mat (m ((c : Thread nD τ).loc main_arg2))
abbrev D : Fin 2048 → Fin 2048 → EReal := mat (m ((c : Thread nD τ).loc main_arg3))

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-! ## The rows' gradient, whole and rounded -/

/-- The two arrays the call leaves. -/
def arr4 : Buf (Elt Ideal) ((c : Thread nD τ).loc main_v0_0) := fun i => D m c (i 0) (i 1) + dx n2048 (X m c (i 0)) (W m c) (DY m c (i 0)) (i 1)
def arr5 : Buf (Elt Ideal) ((c : Thread nD τ).loc main_v0_1) := fun i => D m c (i 0) (i 1) + dx n2048 (X m c (i 0)) (W m c) (DY m c (i 0)) (i 1)

theorem outs4 (t : Fin cfg0.N) : (outsAt0 m c t.val t.isLt).1 = k0_pay3 (iblk m c 0 t) (iblk m c 2 t) (iblk m c 1 t) (iblk m c 3 t) := by
  by_cases h : t.val % 8 = 0
  · rw [outsAt0_A m c t h, out4_A]
  · rw [outsAt0_B m c t h, out4_B]

theorem outs5 (t : Fin cfg0.N) : (outsAt0 m c t.val t.isLt).2.1 = k0_pay4 (iblk m c 0 t) (iblk m c 2 t) (iblk m c 1 t) (iblk m c 3 t) := by
  by_cases h : t.val % 8 = 0
  · rw [outsAt0_A m c t h, out5_A]
  · rw [outsAt0_B m c t h, out5_B]

theorem final4 : (dats m 0 c).arrAt 4 cfg0.N = arr4 m c := by
  refine (dats m 0 c).arrAt_eq_of_covers 4 _ (by decide +kernel) fun t hf y => ?_
  blk_simp
  rw [after0_4]
  obtain ⟨e0, e1, e2, e3, e4, -, -⟩ := idx t
  refine (congrFun (outs4 m c t) _).trans ((congrArg (k0_pay3 _ _ _ _) (pair y)).trans ((pay3 _ _ _ _ _ _).trans
    (congrArg₂ (fun a b : EReal => a + b) ?_ (dx_congr _ (fun k => ?_) (fun k => ?_) (fun k => ?_) ?_))))
  · blk_ext [iblk, e3, e4]
  · blk_ext [iblk, e0, e4]
  · blk_ext [iblk, e1, e4]
  · blk_ext [iblk, e2, e4]
  · refine Fin.ext ?_
    show (y 1).val = win0_4.index t 1 * 2048 + 1 * (y 1).val
    rw [e4]
    show (y 1).val = 0 * 2048 + 1 * (y 1).val
    omega

theorem final5 : (dats m 0 c).arrAt 5 cfg0.N = arr5 m c := by
  refine (dats m 0 c).arrAt_eq_of_covers 5 _ (by decide +kernel) fun t hf y => ?_
  blk_simp
  rw [after0_5]
  obtain ⟨e0, e1, e2, e3, -, e5, -⟩ := idx t
  refine (congrFun (outs5 m c t) _).trans ((congrArg (k0_pay4 _ _ _ _) (pair y)).trans ((pay4 _ _ _ _ _ _).trans
    (congrArg₂ (fun a b : EReal => a + b) ?_ (dx_congr _ (fun k => ?_) (fun k => ?_) (fun k => ?_) ?_))))
  · blk_ext [iblk, e3, e5]
  · blk_ext [iblk, e0, e5]
  · blk_ext [iblk, e1, e5]
  · blk_ext [iblk, e2, e5]
  · refine Fin.ext ?_
    show (y 1).val = win0_5.index t 1 * 2048 + 1 * (y 1).val
    rw [e5]
    show (y 1).val = 0 * 2048 + 1 * (y 1).val
    omega

/-! ## The weight's gradient -/

theorem part_blk (t : Fin cfg0.N) (q : Fin 2048) :
    part (iblk m c 0 t) (iblk m c 2 t) q = ∑ p ∈ Finset.range 256, share n2048 (X m c) (DY m c) q (t.val * 256 + p) := by
  obtain ⟨e0, -, e2, -, -, -, -⟩ := idx t
  rw [← Fin.sum_univ_eq_sum_range (fun p => share n2048 (X m c) (DY m c) q (t.val * 256 + p)) 256]
  refine Finset.sum_congr rfl fun p _ => ?_
  rw [share, dif_pos (show t.val * 256 + p.val < 2048 by have ht : t.val < 8 := t.isLt; have hp : p.val < 256 := p.isLt; omega)]
  refine congrArg₂ (fun a b : EReal => a * b)
    (congrArg₂ (fun a b : EReal => a * b) ?_ ?_) (congrArg (rms n2048) (funext fun k => ?_))
  · blk_ext [iblk, e2]
  · blk_ext [iblk, e0]
  · blk_ext [iblk, e0]

/-- After point `n` the output holds the shares of the blocks so far. -/
theorem acc (q : Fin 2048) : ∀ (n : ℕ) (hn : n < cfg0.N), (outsAt0 m c n hn).2.2 (ix2 0 q) = ∑ i ∈ Finset.range ((n + 1) * 256), share n2048 (X m c) (DY m c) q i := by
  intro n
  induction n with
  | zero =>
    intro hn
    rw [outsAt0_A m c ⟨0, hn⟩ rfl]
    dsimp only
    rw [out6_A, pay1, part_blk m c ⟨0, hn⟩ q, show k0_pay5 (F := Ideal) (ix2 0 q) = 0 by pointwise [k0_pay5], zero_add]
    simp only [Nat.zero_mul, Nat.zero_add, Nat.one_mul]
  | succ n ih =>
    intro hn
    have hn' : n + 1 < 8 := hn
    rw [outsAt0_B m c ⟨n + 1, hn⟩ (by show ¬(n + 1) % 8 = 0; omega)]
    dsimp only
    rw [out6_B, pay1, part_blk m c ⟨n + 1, hn⟩ q, Nat.succ_mul (n + 1) 256, Finset.sum_range_add]
    exact congrArg (fun a : EReal => a + _) (ih _)

/-- The array the call leaves. -/
def arr6 : Buf (Elt Ideal) ((c : Thread nD τ).loc main_v0_2) := fun i => (∑ k, DY m c k (i 1) * X m c k (i 1) * rms n2048 (X m c k) : EReal)

theorem final6 : (dats m 0 c).arrAt 6 cfg0.N = arr6 m c := by
  refine (dats m 0 c).arrAt_eq_of_covers 6 _ (by decide +kernel) fun t hf y => ?_
  have ht : t.val = 7 := by have h := (flush0_6 t).mp hf; have h8 : t.val < 8 := t.isLt; omega
  blk_simp
  rw [after0_6]
  obtain ⟨-, -, -, -, -, -, e6⟩ := idx t
  refine (congrArg (outsAt0 m c t.val t.isLt).2.2 ((pair y).trans
    (congrArg (fun a : Fin 1 => ix2 (n0 := 1) (n1 := 2048) a (y 1)) (Subsingleton.elim (α := Fin 1) _ 0)))).trans ?_
  refine (acc m c (y 1) t.val t.isLt).trans ?_
  rw [ht]
  have hj : (y 1 : Fin 2048) = ((cfg0.win 6).blk t).view.emb y 1 := by
    refine Fin.ext ?_
    show (y 1).val = win0_6.index t 1 * 2048 + 1 * (y 1).val
    rw [e6]
    show (y 1).val = 0 * 2048 + 1 * (y 1).val
    omega
  refine (share_sum n2048 (X m c) (DY m c) (y 1)).trans ?_
  exact congrArg (fun j : Fin 2048 => ∑ k, DY m c k j * X m c k j * rms n2048 (X m c k)) hj

end Cert.Kernel13Ideal.NormBwd
-- ==== Proof.NormReference.lean ====
module

public import proofs.«01_k».proof.Proof.Gen.Reference13Ideal.Read
public import proofs.«01_k».proof.Proof.Gen.Reference14Ideal.Read
public import proofs.«01_k».proof.Proof.Norm
public import proofs.«01_k».proof.Proof.Proj
public import Idealize.ShloMosaic.Lib.Pointwise

/-! What the RMS norm and its derivative are, entry by entry. -/

@[expose] public section

set_option maxRecDepth 16384

noncomputable section

namespace Cert.Proof

open Idealize.ShloMosaic Idealize.ShloMosaic.TcCoe Idealize.SL.Sem Cert.Norm
open Cert.Kernel5Ideal.Proj (mat)

section
open Cert.Reference14Ideal Cert.Reference14Ideal.Read

theorem ref14 (x : (⟨S2048x2048, .f32⟩ : BufTy).Contents (Elt Ideal)) (g : (⟨S1x2048, .f32⟩ : BufTy).Contents (Elt Ideal)) (i j : Fin 2048) :
    val_main_v12 (F := Ideal) x g (ix2 i j) = mat x i j * rms n2048 (mat x i) * mat g 0 j := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, rms, ms, mean, n2048]

end

section
open Cert.Reference13Ideal Cert.Reference13Ideal.Read

variable (x : (⟨S2048x2048, .f32⟩ : BufTy).Contents (Elt Ideal)) (g : (⟨S1x2048, .f32⟩ : BufTy).Contents (Elt Ideal))
  (dy d : (⟨S2048x2048, .f32⟩ : BufTy).Contents (Elt Ideal)) (i j : Fin 2048)

theorem ref13_ms : val_main_v6 (F := Ideal) x (ix2 i 0) = ms n2048 (mat x i) := by
  pointwise [val_main_v6, val_main_v5, val_main_v4, val_main_v3, val_main_v2, val_main_v1, val_main_v0, val_main_cst, val_main_cst_0, val_main_cst_1, ms, mean, n2048]

theorem ref13_rms : val_main_v7 (F := Ideal) x (ix2 i 0) = rms n2048 (mat x i) :=
  congrArg Ideal.rsqrt (ref13_ms x i)

/-- The gradient taken to the mean square, by the entries. -/
theorem ref13_w : val_main_v29 (F := Ideal) x g dy (ix2 i j)
    = mean n2048 ((∑ k, mat x i k * (mat dy i k * mat g 0 k)) * (Ideal.ofBits .f32 0xBF000000#32 * Ideal.div (rms n2048 (mat x i)) (ms n2048 (mat x i)))) := by
  rw [← ref13_rms, ← ref13_ms]
  generalize ha : val_main_v7 (F := Ideal) x = a
  generalize hb : val_main_v6 (F := Ideal) x = b
  pointwise [val_main_v29, val_main_v28, val_main_v27, val_main_v26, val_main_v25, val_main_v22, val_main_v21, val_main_v20, val_main_v19, val_main_v18,
    val_main_v10, val_main_v9, val_main_v8, val_main_cst_2, val_main_cst_4, val_main_cst_5, val_main_cst_6, mean, n2048, ha, hb]
  exact Fin.sum_univ_one _

theorem ref13_dx : val_main_v34 (F := Ideal) x g dy d (ix2 i j) = mat d i j + dx n2048 (mat x i) (mat g 0) (mat dy i) j := by
  refine Eq.trans ?_ (congrArg (fun a : EReal => mat d i j + a) (dx_eq n2048_real (by norm_num) (mat x i) (mat g 0) (mat dy i) j _ (ref13_w x g dy i j)))
  rw [← ref13_rms]
  generalize hw : val_main_v29 (F := Ideal) x g dy = w
  generalize ha : val_main_v7 (F := Ideal) x = a
  pointwise [val_main_v34, val_main_v33, val_main_v32, val_main_v31, val_main_v30, val_main_v24, val_main_v23, val_main_v19, val_main_v18, hw, ha]

theorem ref13_dx' : val_main_v36 (F := Ideal) x g dy d (ix2 i j) = mat d i j + dx n2048 (mat x i) (mat g 0) (mat dy i) j :=
  ref13_dx x g dy d i j

theorem ref13_dg : val_main_v17 (F := Ideal) x dy (ix2 0 j) = ∑ k, mat dy k j * mat x k j * rms n2048 (mat x k) := by
  have h : ∀ k, mat dy k j * mat x k j * rms n2048 (mat x k) = mat x k j * val_main_v7 (F := Ideal) x (ix2 k 0) * mat dy k j := fun k => by
    rw [ref13_rms, mul_comm, mul_comm (mat dy k j), ← mul_assoc, mul_comm (rms _ _)]
  rw [Finset.sum_congr rfl fun k _ => h k]
  generalize ha : val_main_v7 (F := Ideal) x = a
  pointwise [val_main_v17, val_main_v16, val_main_v15, val_main_v12, val_main_v11, val_main_cst_3, ha]

end

end Cert.Proof
-- ==== Proof.NormQ.lean ====
module

public import proofs.«01_k».proof.Proof.Gen.Kernel16Ideal.Value
public import proofs.«01_k».proof.Proof.Gen.Kernel18Ideal.Value
public import proofs.«01_k».proof.Proof.Gen.Reference16Ideal.Read
public import proofs.«01_k».proof.Proof.Gen.Reference18Ideal.Read
public import proofs.«01_k».proof.Proof.Norm
public import proofs.«01_k».proof.Proof.Proj
public import Idealize.ShloMosaic.Lib.Pointwise
public import Idealize.ShloMosaic.Lib.Pipeline.ValueKit
public import Idealize.ShloMosaic.Lib.Pipeline.ValueKit.Geometry

/-! The norm of the query latent (rows of 768), forward and backward: what the two calls leave, and what the references are. -/

@[expose] public section

set_option maxRecDepth 16384

noncomputable section

namespace Cert.Kernel16Ideal.NormFwd

open Idealize.ShloMosaic Idealize.ShloMosaic.TcCoe Idealize.SL.Sem
open Cert.Kernel16Ideal Cert.Kernel16Ideal.Gen Cert.Kernel16Ideal.Value Cert.Norm
open Cert.Kernel5Ideal.Proj (z2 mat pair)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem out (x0 : Vec Ideal S256x768 .f32) (x1 : Vec Ideal S1x768 .f32) (p : Fin 256) (q : Fin 768) :
    out0_2 (F := Ideal) x0 x1 (ix2 p q) = x0 (ix2 p q) * rms n768 (fun k => x0 (ix2 p k)) * x1 (ix2 0 q) := by
  unfold out0_2
  rw [View.canon_unit_zero z2, View.ld_unit_zero z2, View.ld_unit_zero z2]
  pointwise [k0_pay1, rms, ms, mean, n768]

/-- The array the call leaves. -/
def arr : Buf (Elt Ideal) ((c : Thread nD τ).loc main_v0) := fun i =>
  mat (m ((c : Thread nD τ).loc main_arg0)) (i 0) (i 1) * rms n768 (mat (m ((c : Thread nD τ).loc main_arg0)) (i 0)) * mat (m ((c : Thread nD τ).loc main_arg1)) 0 (i 1)

theorem final : (dats m 0 c).arrAt 2 cfg0.N = arr m c := by
  refine (dats m 0 c).arrAt_eq_of_covers 2 _ (by decide +kernel) fun t hf y => ?_
  blk_simp
  rw [after0_2]
  obtain ⟨e0, e1, e2⟩ := idx t
  refine (congrArg (out0_2 _ _) (pair y)).trans ((out _ _ _ _).trans
    (congrArg₂ (fun a b : EReal => a * b) (congrArg₂ (fun a b : EReal => a * b) ?_ (congrArg (rms n768) (funext fun k => ?_))) ?_))
  · blk_ext [iblk, e0, e2]
  · blk_ext [iblk, e0, e2]
  · blk_ext [iblk, e1, e2]

end Cert.Kernel16Ideal.NormFwd

namespace Cert.Kernel18Ideal.NormBwd

open Idealize.ShloMosaic Idealize.ShloMosaic.TcCoe Idealize.SL.Sem
open Cert.Kernel18Ideal Cert.Kernel18Ideal.Gen Cert.Kernel18Ideal.Value Cert.Norm
open Cert.Kernel5Ideal.Proj (z2 mat pair)

theorem pay2 (x0 x2 : Vec Ideal S256x768 .f32) (x1 : Vec Ideal S1x768 .f32) (p : Fin 256) (q : Fin 768) :
    k0_pay2 (F := Ideal) x0 x2 x1 (ix2 p q) = dx n768 (fun k => x0 (ix2 p k)) (fun k => x1 (ix2 0 k)) (fun k => x2 (ix2 p k)) q := by
  pointwise [k0_pay2, k0_pay1, dx, rms, ms, mean, n768]

theorem pay4 (x0 x2 : Vec Ideal S256x768 .f32) (a : Vec Ideal S1x768 .f32) (q : Fin 768) :
    k0_pay4 (F := Ideal) x0 x2 a (ix2 0 q) = a (ix2 0 q) + ∑ p : Fin 256, x2 (ix2 p q) * x0 (ix2 p q) * rms n768 (fun k => x0 (ix2 p k)) := by
  pointwise [k0_pay4, k0_pay1, rms, ms, mean, n768]

section
variable (c : Dev nD) (i : grid0.Coords) (arg1 : Memref sig .tc .vmem S256x768 .f32) (harg1 : arg1.IsWhole)
  (arg2 : Memref sig .tc .vmem S1x768 .f32) (harg2 : arg2.IsWhole) (arg3 : Memref sig .tc .vmem S256x768 .f32) (harg3 : arg3.IsWhole)
  (arg4 : Memref sig .tc .vmem S256x768 .bf16) (harg4 : arg4.IsWhole) (arg5 : Memref sig .tc .vmem S1x768 .f32) (harg5 : arg5.IsWhole)
  (x0 : Vec Ideal S256x768 .f32) (x1 : Vec Ideal S1x768 .f32) (x2 : Vec Ideal S256x768 .f32) (xo : Vec Ideal S1x768 .f32)

theorem out3_A (h : cond0_0 i) :
    out0_A_3 (F := Ideal) c i arg1 harg1 arg2 harg2 arg3 harg3 arg4 harg4 arg5 harg5 h x0 x1 x2 = k0_pay2 x0 x2 x1 := by
  unfold out0_A_3
  rw [View.read_writes_junk_eq_canon]
  unfold kernelRun0_A
  dsimp only
  rw [View.canon_unit_zero z2]
  simp only [View.readAt_eq_ld, harg1.read_unread, harg2.read_unread, harg3.read_unread]
  rw [View.ld_unit_zero z2, View.ld_unit_zero z2, View.ld_unit_zero z2]

theorem out3_B (h : ¬cond0_0 i) :
    out0_B_3 (F := Ideal) c i arg1 harg1 arg2 harg2 arg3 harg3 arg4 harg4 arg5 harg5 h x0 x1 x2 xo = k0_pay2 x0 x2 x1 := by
  unfold out0_B_3
  rw [View.read_writes_junk_eq_canon]
  unfold kernelRun0_B
  dsimp only
  rw [View.canon_unit_zero z2]
  simp only [View.readAt_eq_ld, harg1.read_unread, harg2.read_unread, harg3.read_unread]
  rw [View.ld_unit_zero z2, View.ld_unit_zero z2, View.ld_unit_zero z2]

theorem out4_B (h : ¬cond0_0 i) :
    out0_B_4 (F := Ideal) c i arg1 harg1 arg2 harg2 arg3 harg3 arg4 harg4 arg5 harg5 h x0 x1 x2 xo = k0_pay4 x0 x2 xo := by
  unfold out0_B_4
  rw [View.read_writes_junk_eq_canon]
  unfold kernelRun0_B
  dsimp only
  rw [View.canon_unit_zero z2]
  unfold kernelRun0_B.sl.r
  simp only [View.readAt_eq_ld, harg1.read_unread, harg3.read_unread, harg5.read_unread]
  rw [View.ld_unit_zero z2, View.ld_unit_zero z2, View.ld_unit_zero z2]

theorem out4_A (h : cond0_0 i) :
    out0_A_4 (F := Ideal) c i arg1 harg1 arg2 harg2 arg3 harg3 arg4 harg4 arg5 harg5 h x0 x1 x2 = k0_pay4 x0 x2 (k0_pay3 (F := Ideal)) := by
  unfold out0_A_4
  rw [View.read_writes_junk_eq_canon]
  unfold kernelRun0_A
  dsimp only
  rw [View.canon_cons_unit_zero z2]
  unfold kernelRun0_A.sl.r kernelRun0_A.sl.v31 kernelRun0_A.sl.H4_1
  rw [View.readCov_unit_zero _ z2]
  simp only [View.readAt_eq_ld, harg1.read_unread, harg3.read_unread]
  rw [View.ld_unit_zero z2, View.ld_unit_zero z2]

end

variable (m : (ℓ : Loc nD τ sig) → Buf (Elt Ideal) ℓ) (c : Dev nD)

/-- The operands. -/
abbrev X : Fin 2048 → Fin 768 → EReal := mat (m ((c : Thread nD τ).loc main_arg0))
abbrev W : Fin 768 → EReal := mat (m ((c : Thread nD τ).loc main_arg1)) 0
abbrev DY : Fin 2048 → Fin 768 → EReal := mat (m ((c : Thread nD τ).loc main_arg2))

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-! ## The rows' gradient -/

/-- The array the call leaves. -/
def arr3 : Buf (Elt Ideal) ((c : Thread nD τ).loc main_v0_0) := fun i => dx n768 (X m c (i 0)) (W m c) (DY m c (i 0)) (i 1)

theorem outs3 (t : Fin cfg0.N) : (outsAt0 m c t.val t.isLt).1 = k0_pay2 (iblk m c 0 t) (iblk m c 2 t) (iblk m c 1 t) := by
  by_cases h : t.val % 8 = 0
  · rw [outsAt0_A m c t h, out3_A]
  · rw [outsAt0_B m c t h, out3_B]

theorem final3 : (dats m 0 c).arrAt 3 cfg0.N = arr3 m c := by
  refine (dats m 0 c).arrAt_eq_of_covers 3 _ (by decide +kernel) fun t hf y => ?_
  blk_simp
  rw [after0_3]
  obtain ⟨e0, e1, e2, e3, -⟩ := idx t
  refine (congrFun (outs3 m c t) _).trans ((congrArg (k0_pay2 _ _ _) (pair y)).trans ((pay2 _ _ _ _ _).trans
    (dx_congr _ (fun k => ?_) (fun k => ?_) (fun k => ?_) ?_)))
  · blk_ext [iblk, e0, e3]
  · blk_ext [iblk, e1, e3]
  · blk_ext [iblk, e2, e3]
  · refine Fin.ext ?_
    show (y 1).val = win0_3.index t 1 * 768 + 1 * (y 1).val
    rw [e3]
    show (y 1).val = 0 * 768 + 1 * (y 1).val
    omega

/-! ## The weight's gradient -/

theorem part_blk (t : Fin cfg0.N) (a : Vec Ideal S1x768 .f32) (q : Fin 768) :
    k0_pay4 (iblk m c 0 t) (iblk m c 2 t) a (ix2 0 q)
      = a (ix2 0 q) + ∑ p ∈ Finset.range 256, share n768 (X m c) (DY m c) q (t.val * 256 + p) := by
  obtain ⟨e0, -, e2, -, -⟩ := idx t
  rw [pay4, ← Fin.sum_univ_eq_sum_range (fun p => share n768 (X m c) (DY m c) q (t.val * 256 + p)) 256]
  refine congrArg (fun b : EReal => a (ix2 0 q) + b) (Finset.sum_congr rfl fun p _ => ?_)
  rw [share, dif_pos (show t.val * 256 + p.val < 2048 by have ht : t.val < 8 := t.isLt; have hp : p.val < 256 := p.isLt; omega)]
  refine congrArg₂ (fun a b : EReal => a * b)
    (congrArg₂ (fun a b : EReal => a * b) ?_ ?_) (congrArg (rms n768) (funext fun k => ?_))
  · blk_ext [iblk, e2]
  · blk_ext [iblk, e0]
  · blk_ext [iblk, e0]

/-- After point `n` the output holds the shares of the blocks so far. -/
theorem acc (q : Fin 768) : ∀ (n : ℕ) (hn : n < cfg0.N),
    (outsAt0 m c n hn).2 (ix2 0 q) = ∑ i ∈ Finset.range ((n + 1) * 256), share n768 (X m c) (DY m c) q i := by
  intro n
  induction n with
  | zero =>
    intro hn
    rw [outsAt0_A m c ⟨0, hn⟩ rfl]
    dsimp only
    rw [out4_A, part_blk m c ⟨0, hn⟩, show k0_pay3 (F := Ideal) (ix2 0 q) = 0 by pointwise [k0_pay3], zero_add]
    simp only [Nat.zero_mul, Nat.zero_add, Nat.one_mul]
  | succ n ih =>
    intro hn
    have hn' : n + 1 < 8 := hn
    rw [outsAt0_B m c ⟨n + 1, hn⟩ (by show ¬(n + 1) % 8 = 0; omega)]
    dsimp only
    rw [out4_B, part_blk m c ⟨n + 1, hn⟩, Nat.succ_mul (n + 1) 256, Finset.sum_range_add]
    exact congrArg (fun a : EReal => a + _) (ih _)

/-- The array the call leaves. -/
def arr4 : Buf (Elt Ideal) ((c : Thread nD τ).loc main_v0_1) := fun i => (∑ k, DY m c k (i 1) * X m c k (i 1) * rms n768 (X m c k) : EReal)

theorem final4 : (dats m 0 c).arrAt 4 cfg0.N = arr4 m c := by
  refine (dats m 0 c).arrAt_eq_of_covers 4 _ (by decide +kernel) fun t hf y => ?_
  have ht : t.val = 7 := by have h := (flush0_4 t).mp hf; have h8 : t.val < 8 := t.isLt; omega
  blk_simp
  rw [after0_4]
  obtain ⟨-, -, -, -, e4⟩ := idx t
  refine (congrArg (outsAt0 m c t.val t.isLt).2 ((pair y).trans
    (congrArg (fun a : Fin 1 => ix2 (n0 := 1) (n1 := 768) a (y 1)) (Subsingleton.elim (α := Fin 1) _ 0)))).trans ?_
  refine (acc m c (y 1) t.val t.isLt).trans ?_
  rw [ht]
  have hj : (y 1 : Fin 768) = ((cfg0.win 4).blk t).view.emb y 1 := by
    refine Fin.ext ?_
    show (y 1).val = win0_4.index t 1 * 768 + 1 * (y 1).val
    rw [e4]
    show (y 1).val = 0 * 768 + 1 * (y 1).val
    omega
  refine (share_sum n768 (X m c) (DY m c) (y 1)).trans ?_
  exact congrArg (fun j : Fin 768 => ∑ k, DY m c k j * X m c k j * rms n768 (X m c k)) hj

end Cert.Kernel18Ideal.NormBwd

namespace Cert.Proof

open Idealize.ShloMosaic Idealize.ShloMosaic.TcCoe Idealize.SL.Sem Cert.Norm
open Cert.Kernel5Ideal.Proj (mat)

section
open Cert.Reference16Ideal Cert.Reference16Ideal.Read

theorem ref16 (x : (⟨S2048x768, .f32⟩ : BufTy).Contents (Elt Ideal)) (g : (⟨S1x768, .f32⟩ : BufTy).Contents (Elt Ideal)) (i : Fin 2048) (j : Fin 768) :
    val_main_v12 (F := Ideal) x g (ix2 i j) = mat x i j * rms n768 (mat x i) * mat g 0 j := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, rms, ms, mean, n768]

end

section
open Cert.Reference18Ideal Cert.Reference18Ideal.Read

variable (x : (⟨S2048x768, .f32⟩ : BufTy).Contents (Elt Ideal)) (g : (⟨S1x768, .f32⟩ : BufTy).Contents (Elt Ideal))
  (dy : (⟨S2048x768, .f32⟩ : BufTy).Contents (Elt Ideal)) (i : Fin 2048) (j : Fin 768)

theorem ref18_ms : val_main_v6 (F := Ideal) x (ix2 i 0) = ms n768 (mat x i) := by
  pointwise [val_main_v6, val_main_v5, val_main_v4, val_main_v3, val_main_v2, val_main_v1, val_main_v0, val_main_cst, val_main_cst_0, val_main_cst_1, ms, mean, n768]

theorem ref18_rms : val_main_v7 (F := Ideal) x (ix2 i 0) = rms n768 (mat x i) :=
  congrArg Ideal.rsqrt (ref18_ms x i)

/-- The gradient taken to the mean square, by the entries. -/
theorem ref18_w : val_main_v29 (F := Ideal) x g dy (ix2 i j)
    = mean n768 ((∑ k, mat x i k * (mat dy i k * mat g 0 k)) * (Ideal.ofBits .f32 0xBF000000#32 * Ideal.div (rms n768 (mat x i)) (ms n768 (mat x i)))) := by
  rw [← ref18_rms, ← ref18_ms]
  generalize ha : val_main_v7 (F := Ideal) x = a
  generalize hb : val_main_v6 (F := Ideal) x = b
  pointwise [val_main_v29, val_main_v28, val_main_v27, val_main_v26, val_main_v25, val_main_v22, val_main_v21, val_main_v20, val_main_v19, val_main_v18,
    val_main_v10, val_main_v9, val_main_v8, val_main_cst_2, val_main_cst_4, val_main_cst_5, val_main_cst_6, mean, n768, ha, hb]
  exact Fin.sum_univ_one _

theorem ref18_dx : val_main_v34 (F := Ideal) x g dy (ix2 i j) = dx n768 (mat x i) (mat g 0) (mat dy i) j := by
  refine Eq.trans ?_ (dx_eq n768_real (by norm_num) (mat x i) (mat g 0) (mat dy i) j _ (ref18_w x g dy i j))
  rw [← ref18_rms]
  generalize hw : val_main_v29 (F := Ideal) x g dy = w
  generalize ha : val_main_v7 (F := Ideal) x = a
  pointwise [val_main_v34, val_main_v33, val_main_v32, val_main_v31, val_main_v30, val_main_v24, val_main_v23, val_main_v19, val_main_v18, hw, ha]

theorem ref18_dg : val_main_v17 (F := Ideal) x dy (ix2 0 j) = ∑ k, mat dy k j * mat x k j * rms n768 (mat x k) := by
  have h : ∀ k, mat dy k j * mat x k j * rms n768 (mat x k) = mat x k j * val_main_v7 (F := Ideal) x (ix2 k 0) * mat dy k j := fun k => by
    rw [ref18_rms, mul_comm, mul_comm (mat dy k j), ← mul_assoc, mul_comm (rms _ _)]
  rw [Finset.sum_congr rfl fun k _ => h k]
  generalize ha : val_main_v7 (F := Ideal) x = a
  pointwise [val_main_v17, val_main_v16, val_main_v15, val_main_v12, val_main_v11, val_main_cst_3, ha]

end

end Cert.Proof
-- ==== Proof.NormKv.lean ====
module

public import proofs.«01_k».proof.Proof.Gen.Kernel17Ideal.Value
public import proofs.«01_k».proof.Proof.Gen.Kernel19Ideal.Value
public import proofs.«01_k».proof.Proof.Gen.Reference17Ideal.Read
public import proofs.«01_k».proof.Proof.Gen.Reference19Ideal.Read
public import proofs.«01_k».proof.Proof.Norm
public import proofs.«01_k».proof.Proof.Proj
public import Idealize.ShloMosaic.Lib.Pointwise
public import Idealize.ShloMosaic.Lib.Pipeline.ValueKit
public import Idealize.ShloMosaic.Lib.Pipeline.ValueKit.Geometry

/-! The norm of the key and value latent (rows of 512), forward and backward: what the two calls leave, and what the references are. -/

@[expose] public section

set_option maxRecDepth 16384

noncomputable section

namespace Cert.Kernel17Ideal.NormFwd

open Idealize.ShloMosaic Idealize.ShloMosaic.TcCoe Idealize.SL.Sem
open Cert.Kernel17Ideal Cert.Kernel17Ideal.Gen Cert.Kernel17Ideal.Value Cert.Norm
open Cert.Kernel5Ideal.Proj (z2 mat pair)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem out (x0 : Vec Ideal S256x512 .f32) (x1 : Vec Ideal S1x512 .f32) (p : Fin 256) (q : Fin 512) :
    out0_2 (F := Ideal) x0 x1 (ix2 p q) = x0 (ix2 p q) * rms n512 (fun k => x0 (ix2 p k)) * x1 (ix2 0 q) := by
  unfold out0_2
  rw [View.canon_unit_zero z2, View.ld_unit_zero z2, View.ld_unit_zero z2]
  pointwise [k0_pay1, rms, ms, mean, n512]

/-- The array the call leaves. -/
def arr : Buf (Elt Ideal) ((c : Thread nD τ).loc main_v0) := fun i =>
  mat (m ((c : Thread nD τ).loc main_arg0)) (i 0) (i 1) * rms n512 (mat (m ((c : Thread nD τ).loc main_arg0)) (i 0)) * mat (m ((c : Thread nD τ).loc main_arg1)) 0 (i 1)

theorem final : (dats m 0 c).arrAt 2 cfg0.N = arr m c := by
  refine (dats m 0 c).arrAt_eq_of_covers 2 _ (by decide +kernel) fun t hf y => ?_
  blk_simp
  rw [after0_2]
  obtain ⟨e0, e1, e2⟩ := idx t
  refine (congrArg (out0_2 _ _) (pair y)).trans ((out _ _ _ _).trans
    (congrArg₂ (fun a b : EReal => a * b) (congrArg₂ (fun a b : EReal => a * b) ?_ (congrArg (rms n512) (funext fun k => ?_))) ?_))
  · blk_ext [iblk, e0, e2]
  · blk_ext [iblk, e0, e2]
  · blk_ext [iblk, e1, e2]

end Cert.Kernel17Ideal.NormFwd

namespace Cert.Kernel19Ideal.NormBwd

open Idealize.ShloMosaic Idealize.ShloMosaic.TcCoe Idealize.SL.Sem
open Cert.Kernel19Ideal Cert.Kernel19Ideal.Gen Cert.Kernel19Ideal.Value Cert.Norm
open Cert.Kernel5Ideal.Proj (z2 mat pair)

theorem pay2 (x0 x2 : Vec Ideal S256x512 .f32) (x1 : Vec Ideal S1x512 .f32) (p : Fin 256) (q : Fin 512) :
    k0_pay2 (F := Ideal) x0 x2 x1 (ix2 p q) = dx n512 (fun k => x0 (ix2 p k)) (fun k => x1 (ix2 0 k)) (fun k => x2 (ix2 p k)) q := by
  pointwise [k0_pay2, k0_pay1, dx, rms, ms, mean, n512]

theorem pay4 (x0 x2 : Vec Ideal S256x512 .f32) (a : Vec Ideal S1x512 .f32) (q : Fin 512) :
    k0_pay4 (F := Ideal) x0 x2 a (ix2 0 q) = a (ix2 0 q) + ∑ p : Fin 256, x2 (ix2 p q) * x0 (ix2 p q) * rms n512 (fun k => x0 (ix2 p k)) := by
  pointwise [k0_pay4, k0_pay1, rms, ms, mean, n512]

section
variable (c : Dev nD) (i : grid0.Coords) (arg1 : Memref sig .tc .vmem S256x512 .f32) (harg1 : arg1.IsWhole)
  (arg2 : Memref sig .tc .vmem S1x512 .f32) (harg2 : arg2.IsWhole) (arg3 : Memref sig .tc .vmem S256x512 .f32) (harg3 : arg3.IsWhole)
  (arg4 : Memref sig .tc .vmem S256x512 .bf16) (harg4 : arg4.IsWhole) (arg5 : Memref sig .tc .vmem S1x512 .f32) (harg5 : arg5.IsWhole)
  (x0 : Vec Ideal S256x512 .f32) (x1 : Vec Ideal S1x512 .f32) (x2 : Vec Ideal S256x512 .f32) (xo : Vec Ideal S1x512 .f32)

theorem out3_A (h : cond0_0 i) :
    out0_A_3 (F := Ideal) c i arg1 harg1 arg2 harg2 arg3 harg3 arg4 harg4 arg5 harg5 h x0 x1 x2 = k0_pay2 x0 x2 x1 := by
  unfold out0_A_3
  rw [View.read_writes_junk_eq_canon]
  unfold kernelRun0_A
  dsimp only
  rw [View.canon_unit_zero z2]
  simp only [View.readAt_eq_ld, harg1.read_unread, harg2.read_unread, harg3.read_unread]
  rw [View.ld_unit_zero z2, View.ld_unit_zero z2, View.ld_unit_zero z2]

theorem out3_B (h : ¬cond0_0 i) :
    out0_B_3 (F := Ideal) c i arg1 harg1 arg2 harg2 arg3 harg3 arg4 harg4 arg5 harg5 h x0 x1 x2 xo = k0_pay2 x0 x2 x1 := by
  unfold out0_B_3
  rw [View.read_writes_junk_eq_canon]
  unfold kernelRun0_B
  dsimp only
  rw [View.canon_unit_zero z2]
  simp only [View.readAt_eq_ld, harg1.read_unread, harg2.read_unread, harg3.read_unread]
  rw [View.ld_unit_zero z2, View.ld_unit_zero z2, View.ld_unit_zero z2]

theorem out4_B (h : ¬cond0_0 i) :
    out0_B_4 (F := Ideal) c i arg1 harg1 arg2 harg2 arg3 harg3 arg4 harg4 arg5 harg5 h x0 x1 x2 xo = k0_pay4 x0 x2 xo := by
  unfold out0_B_4
  rw [View.read_writes_junk_eq_canon]
  unfold kernelRun0_B
  dsimp only
  rw [View.canon_unit_zero z2]
  unfold kernelRun0_B.sl.r
  simp only [View.readAt_eq_ld, harg1.read_unread, harg3.read_unread, harg5.read_unread]
  rw [View.ld_unit_zero z2, View.ld_unit_zero z2, View.ld_unit_zero z2]

theorem out4_A (h : cond0_0 i) :
    out0_A_4 (F := Ideal) c i arg1 harg1 arg2 harg2 arg3 harg3 arg4 harg4 arg5 harg5 h x0 x1 x2 = k0_pay4 x0 x2 (k0_pay3 (F := Ideal)) := by
  unfold out0_A_4
  rw [View.read_writes_junk_eq_canon]
  unfold kernelRun0_A
  dsimp only
  rw [View.canon_cons_unit_zero z2]
  unfold kernelRun0_A.sl.r kernelRun0_A.sl.v31 kernelRun0_A.sl.H4_1
  rw [View.readCov_unit_zero _ z2]
  simp only [View.readAt_eq_ld, harg1.read_unread, harg3.read_unread]
  rw [View.ld_unit_zero z2, View.ld_unit_zero z2]

end

variable (m : (ℓ : Loc nD τ sig) → Buf (Elt Ideal) ℓ) (c : Dev nD)

/-- The operands. -/
abbrev X : Fin 2048 → Fin 512 → EReal := mat (m ((c : Thread nD τ).loc main_arg0))
abbrev W : Fin 512 → EReal := mat (m ((c : Thread nD τ).loc main_arg1)) 0
abbrev DY : Fin 2048 → Fin 512 → EReal := mat (m ((c : Thread nD τ).loc main_arg2))

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-! ## The rows' gradient -/

/-- The array the call leaves. -/
def arr3 : Buf (Elt Ideal) ((c : Thread nD τ).loc main_v0_0) := fun i => dx n512 (X m c (i 0)) (W m c) (DY m c (i 0)) (i 1)

theorem outs3 (t : Fin cfg0.N) : (outsAt0 m c t.val t.isLt).1 = k0_pay2 (iblk m c 0 t) (iblk m c 2 t) (iblk m c 1 t) := by
  by_cases h : t.val % 8 = 0
  · rw [outsAt0_A m c t h, out3_A]
  · rw [outsAt0_B m c t h, out3_B]

theorem final3 : (dats m 0 c).arrAt 3 cfg0.N = arr3 m c := by
  refine (dats m 0 c).arrAt_eq_of_covers 3 _ (by decide +kernel) fun t hf y => ?_
  blk_simp
  rw [after0_3]
  obtain ⟨e0, e1, e2, e3, -⟩ := idx t
  refine (congrFun (outs3 m c t) _).trans ((congrArg (k0_pay2 _ _ _) (pair y)).trans ((pay2 _ _ _ _ _).trans
    (dx_congr _ (fun k => ?_) (fun k => ?_) (fun k => ?_) ?_)))
  · blk_ext [iblk, e0, e3]
  · blk_ext [iblk, e1, e3]
  · blk_ext [iblk, e2, e3]
  · refine Fin.ext ?_
    show (y 1).val = win0_3.index t 1 * 512 + 1 * (y 1).val
    rw [e3]
    show (y 1).val = 0 * 512 + 1 * (y 1).val
    omega

/-! ## The weight's gradient -/

theorem part_blk (t : Fin cfg0.N) (a : Vec Ideal S1x512 .f32) (q : Fin 512) :
    k0_pay4 (iblk m c 0 t) (iblk m c 2 t) a (ix2 0 q)
      = a (ix2 0 q) + ∑ p ∈ Finset.range 256, share n512 (X m c) (DY m c) q (t.val * 256 + p) := by
  obtain ⟨e0, -, e2, -, -⟩ := idx t
  rw [pay4, ← Fin.sum_univ_eq_sum_range (fun p => share n512 (X m c) (DY m c) q (t.val * 256 + p)) 256]
  refine congrArg (fun b : EReal => a (ix2 0 q) + b) (Finset.sum_congr rfl fun p _ => ?_)
  rw [share, dif_pos (show t.val * 256 + p.val < 2048 by have ht : t.val < 8 := t.isLt; have hp : p.val < 256 := p.isLt; omega)]
  refine congrArg₂ (fun a b : EReal => a * b)
    (congrArg₂ (fun a b : EReal => a * b) ?_ ?_) (congrArg (rms n512) (funext fun k => ?_))
  · blk_ext [iblk, e2]
  · blk_ext [iblk, e0]
  · blk_ext [iblk, e0]

/-- After point `n` the output holds the shares of the blocks so far. -/
theorem acc (q : Fin 512) : ∀ (n : ℕ) (hn : n < cfg0.N),
    (outsAt0 m c n hn).2 (ix2 0 q) = ∑ i ∈ Finset.range ((n + 1) * 256), share n512 (X m c) (DY m c) q i := by
  intro n
  induction n with
  | zero =>
    intro hn
    rw [outsAt0_A m c ⟨0, hn⟩ rfl]
    dsimp only
    rw [out4_A, part_blk m c ⟨0, hn⟩, show k0_pay3 (F := Ideal) (ix2 0 q) = 0 by pointwise [k0_pay3], zero_add]
    simp only [Nat.zero_mul, Nat.zero_add, Nat.one_mul]
  | succ n ih =>
    intro hn
    have hn' : n + 1 < 8 := hn
    rw [outsAt0_B m c ⟨n + 1, hn⟩ (by show ¬(n + 1) % 8 = 0; omega)]
    dsimp only
    rw [out4_B, part_blk m c ⟨n + 1, hn⟩, Nat.succ_mul (n + 1) 256, Finset.sum_range_add]
    exact congrArg (fun a : EReal => a + _) (ih _)

/-- The array the call leaves. -/
def arr4 : Buf (Elt Ideal) ((c : Thread nD τ).loc main_v0_1) := fun i => (∑ k, DY m c k (i 1) * X m c k (i 1) * rms n512 (X m c k) : EReal)

theorem final4 : (dats m 0 c).arrAt 4 cfg0.N = arr4 m c := by
  refine (dats m 0 c).arrAt_eq_of_covers 4 _ (by decide +kernel) fun t hf y => ?_
  have ht : t.val = 7 := by have h := (flush0_4 t).mp hf; have h8 : t.val < 8 := t.isLt; omega
  blk_simp
  rw [after0_4]
  obtain ⟨-, -, -, -, e4⟩ := idx t
  refine (congrArg (outsAt0 m c t.val t.isLt).2 ((pair y).trans
    (congrArg (fun a : Fin 1 => ix2 (n0 := 1) (n1 := 512) a (y 1)) (Subsingleton.elim (α := Fin 1) _ 0)))).trans ?_
  refine (acc m c (y 1) t.val t.isLt).trans ?_
  rw [ht]
  have hj : (y 1 : Fin 512) = ((cfg0.win 4).blk t).view.emb y 1 := by
    refine Fin.ext ?_
    show (y 1).val = win0_4.index t 1 * 512 + 1 * (y 1).val
    rw [e4]
    show (y 1).val = 0 * 512 + 1 * (y 1).val
    omega
  refine (share_sum n512 (X m c) (DY m c) (y 1)).trans ?_
  exact congrArg (fun j : Fin 512 => ∑ k, DY m c k j * X m c k j * rms n512 (X m c k)) hj

end Cert.Kernel19Ideal.NormBwd

namespace Cert.Proof

open Idealize.ShloMosaic Idealize.ShloMosaic.TcCoe Idealize.SL.Sem Cert.Norm
open Cert.Kernel5Ideal.Proj (mat)

section
open Cert.Reference17Ideal Cert.Reference17Ideal.Read

theorem ref17 (x : (⟨S2048x512, .f32⟩ : BufTy).Contents (Elt Ideal)) (g : (⟨S1x512, .f32⟩ : BufTy).Contents (Elt Ideal)) (i : Fin 2048) (j : Fin 512) :
    val_main_v12 (F := Ideal) x g (ix2 i j) = mat x i j * rms n512 (mat x i) * mat g 0 j := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, rms, ms, mean, n512]

end

section
open Cert.Reference19Ideal Cert.Reference19Ideal.Read

variable (x : (⟨S2048x512, .f32⟩ : BufTy).Contents (Elt Ideal)) (g : (⟨S1x512, .f32⟩ : BufTy).Contents (Elt Ideal))
  (dy : (⟨S2048x512, .f32⟩ : BufTy).Contents (Elt Ideal)) (i : Fin 2048) (j : Fin 512)

theorem ref19_ms : val_main_v6 (F := Ideal) x (ix2 i 0) = ms n512 (mat x i) := by
  pointwise [val_main_v6, val_main_v5, val_main_v4, val_main_v3, val_main_v2, val_main_v1, val_main_v0, val_main_cst, val_main_cst_0, val_main_cst_1, ms, mean, n512]

theorem ref19_rms : val_main_v7 (F := Ideal) x (ix2 i 0) = rms n512 (mat x i) :=
  congrArg Ideal.rsqrt (ref19_ms x i)

/-- The gradient taken to the mean square, by the entries. -/
theorem ref19_w : val_main_v29 (F := Ideal) x g dy (ix2 i j)
    = mean n512 ((∑ k, mat x i k * (mat dy i k * mat g 0 k)) * (Ideal.ofBits .f32 0xBF000000#32 * Ideal.div (rms n512 (mat x i)) (ms n512 (mat x i)))) := by
  rw [← ref19_rms, ← ref19_ms]
  generalize ha : val_main_v7 (F := Ideal) x = a
  generalize hb : val_main_v6 (F := Ideal) x = b
  pointwise [val_main_v29, val_main_v28, val_main_v27, val_main_v26, val_main_v25, val_main_v22, val_main_v21, val_main_v20, val_main_v19, val_main_v18,
    val_main_v10, val_main_v9, val_main_v8, val_main_cst_2, val_main_cst_4, val_main_cst_5, val_main_cst_6, mean, n512, ha, hb]
  exact Fin.sum_univ_one _

theorem ref19_dx : val_main_v34 (F := Ideal) x g dy (ix2 i j) = dx n512 (mat x i) (mat g 0) (mat dy i) j := by
  refine Eq.trans ?_ (dx_eq n512_real (by norm_num) (mat x i) (mat g 0) (mat dy i) j _ (ref19_w x g dy i j))
  rw [← ref19_rms]
  generalize hw : val_main_v29 (F := Ideal) x g dy = w
  generalize ha : val_main_v7 (F := Ideal) x = a
  pointwise [val_main_v34, val_main_v33, val_main_v32, val_main_v31, val_main_v30, val_main_v24, val_main_v23, val_main_v19, val_main_v18, hw, ha]

theorem ref19_dg : val_main_v17 (F := Ideal) x dy (ix2 0 j) = ∑ k, mat dy k j * mat x k j * rms n512 (mat x k) := by
  have h : ∀ k, mat dy k j * mat x k j * rms n512 (mat x k) = mat x k j * val_main_v7 (F := Ideal) x (ix2 k 0) * mat dy k j := fun k => by
    rw [ref19_rms, mul_comm, mul_comm (mat dy k j), ← mul_assoc, mul_comm (rms _ _)]
  rw [Finset.sum_congr rfl fun k _ => h k]
  generalize ha : val_main_v7 (F := Ideal) x = a
  pointwise [val_main_v17, val_main_v16, val_main_v15, val_main_v12, val_main_v11, val_main_cst_3, ha]

end

end Cert.Proof
-- ==== Proof.NormClaims.lean ====
module

public import proofs.«01_k».proof.Defs
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Reference13Ideal.Run
public import proofs.«01_k».proof.Proof.Gen.Reference14Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.NormFwd
public import proofs.«01_k».proof.Proof.NormBwd
public import proofs.«01_k».proof.Proof.NormReference
public import proofs.«01_k».proof.Proof.NormQ
public import proofs.«01_k».proof.Proof.NormKv

/-! The claims of the RMS norm's two calls, on the layers' rows and on the two latents. -/

@[expose] public section

set_option maxRecDepth 16384

noncomputable section

namespace Cert.Proof

open Idealize.ShloMosaic Idealize.ShloMosaic.TcCoe Idealize.SL.Sem
open Cert.Kernel5Ideal.Proj (pair)

theorem frame_p13 : Cert.quiescent_Kernel13 := fun m ρ _ => Cert.Kernel13.Gen.frame m ρ

theorem frame_pi13 : Cert.quiescent_Kernel13Ideal := fun m ρ _ => Cert.Kernel13Ideal.Gen.frame m ρ

theorem frame_ri13 : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem preserves13 : Cert.preserves_Kernel13_Kernel13Ideal := trivial

/-- Both programs leave the rows' gradient, whole and rounded, and the weight's gradient. -/
theorem algebraic13 : Cert.algebraic_Kernel13Ideal_Reference13Ideal := by
  intro m ρ m' ρ' _ hagree
  refine ⟨fun c => Cert.Kernel13Ideal.NormBwd.arr4 m c, fun c => Cert.Kernel13Ideal.NormBwd.arr5 m c, fun c => Cert.Kernel13Ideal.NormBwd.arr6 m c,
    (θ_run Cert.Kernel13Ideal.defs _ _).mono (fun r h c => ⟨(h c).1.trans (Cert.Kernel13Ideal.NormBwd.final4 m c),
      (h c).2.1.trans (Cert.Kernel13Ideal.NormBwd.final5 m c), (h c).2.2.1.trans (Cert.Kernel13Ideal.NormBwd.final6 m c), (h c).2.2.2⟩)
      (Cert.Kernel13Ideal.Value.run_blocks m ρ), ?_⟩
  refine (θ_run Cert.Reference13Ideal.defs _ _).mono (fun r h c => ⟨?_, ?_, ?_, (h c).2.2.2⟩) (Cert.Reference13Ideal.Value.run (F := Ideal) m' ρ')
  · refine (h c).1.trans ((Cert.Reference13Ideal.Read.val_main_v34_eq _ _ _ _).trans ?_)
    rw [(hagree c).1, (hagree c).2.1, (hagree c).2.2.1, (hagree c).2.2.2]
    funext i
    rw [pair i]
    exact ref13_dx _ _ _ _ _ _
  · refine (h c).2.1.trans ((Cert.Reference13Ideal.Read.val_main_v36_eq _ _ _ _).trans ?_)
    rw [(hagree c).1, (hagree c).2.1, (hagree c).2.2.1, (hagree c).2.2.2]
    funext i
    rw [pair i]
    exact ref13_dx' _ _ _ _ _ _
  · refine (h c).2.2.1.trans ((Cert.Reference13Ideal.Read.val_main_v17_eq _ _).trans ?_)
    rw [(hagree c).1, (hagree c).2.2.1]
    funext i
    refine (congrArg (Cert.Reference13Ideal.Read.val_main_v17 (F := Ideal) _ _) ((pair i).trans
      (congrArg (fun a : Fin 1 => ix2 (n0 := 1) (n1 := 2048) a (i 1)) (Subsingleton.elim (α := Fin 1) _ 0)))).trans ?_
    exact ref13_dg _ _ _

theorem frame_p14 : Cert.quiescent_Kernel14 := fun m ρ _ => Cert.Kernel14.Gen.frame m ρ

theorem frame_pi14 : Cert.quiescent_Kernel14Ideal := fun m ρ _ => Cert.Kernel14Ideal.Gen.frame m ρ

theorem frame_ri14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem preserves14 : Cert.preserves_Kernel14_Kernel14Ideal := trivial

/-- Both programs leave the normed rows. -/
theorem algebraic14 : Cert.algebraic_Kernel14Ideal_Reference14Ideal := by
  intro m ρ m' ρ' _ hagree
  refine ⟨fun c => Cert.Kernel14Ideal.NormFwd.arr m c, (θ_run Cert.Kernel14Ideal.defs _ _).mono
    (fun r h c => ⟨(h c).1.trans (Cert.Kernel14Ideal.NormFwd.final m c), (h c).2⟩) (Cert.Kernel14Ideal.Value.run_blocks m ρ), ?_⟩
  refine (θ_run Cert.Reference14Ideal.defs _ _).mono (fun r h c => ⟨?_, (h c).2⟩) (Cert.Reference14Ideal.Value.run (F := Ideal) m' ρ')
  refine (h c).1.trans ((Cert.Reference14Ideal.Read.val_main_v12_eq _ _).trans ?_)
  rw [(hagree c).1, (hagree c).2]
  funext i
  rw [pair i]
  exact ref14 _ _ _ _

theorem frame_p16 : Cert.quiescent_Kernel16 := fun m ρ _ => Cert.Kernel16.Gen.frame m ρ

theorem frame_pi16 : Cert.quiescent_Kernel16Ideal := fun m ρ _ => Cert.Kernel16Ideal.Gen.frame m ρ

theorem frame_ri16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem preserves16 : Cert.preserves_Kernel16_Kernel16Ideal := trivial

/-- Both programs leave the normed rows of the query latent. -/
theorem algebraic16 : Cert.algebraic_Kernel16Ideal_Reference16Ideal := by
  intro m ρ m' ρ' _ hagree
  refine ⟨fun c => Cert.Kernel16Ideal.NormFwd.arr m c, (θ_run Cert.Kernel16Ideal.defs _ _).mono
    (fun r h c => ⟨(h c).1.trans (Cert.Kernel16Ideal.NormFwd.final m c), (h c).2⟩) (Cert.Kernel16Ideal.Value.run_blocks m ρ), ?_⟩
  refine (θ_run Cert.Reference16Ideal.defs _ _).mono (fun r h c => ⟨?_, (h c).2⟩) (Cert.Reference16Ideal.Value.run (F := Ideal) m' ρ')
  refine (h c).1.trans ((Cert.Reference16Ideal.Read.val_main_v12_eq _ _).trans ?_)
  rw [(hagree c).1, (hagree c).2]
  funext i
  rw [pair i]
  exact ref16 _ _ _ _

theorem frame_p17 : Cert.quiescent_Kernel17 := fun m ρ _ => Cert.Kernel17.Gen.frame m ρ

theorem frame_pi17 : Cert.quiescent_Kernel17Ideal := fun m ρ _ => Cert.Kernel17Ideal.Gen.frame m ρ

theorem frame_ri17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem preserves17 : Cert.preserves_Kernel17_Kernel17Ideal := trivial

/-- Both programs leave the normed rows of the key and value latent. -/
theorem algebraic17 : Cert.algebraic_Kernel17Ideal_Reference17Ideal := by
  intro m ρ m' ρ' _ hagree
  refine ⟨fun c => Cert.Kernel17Ideal.NormFwd.arr m c, (θ_run Cert.Kernel17Ideal.defs _ _).mono
    (fun r h c => ⟨(h c).1.trans (Cert.Kernel17Ideal.NormFwd.final m c), (h c).2⟩) (Cert.Kernel17Ideal.Value.run_blocks m ρ), ?_⟩
  refine (θ_run Cert.Reference17Ideal.defs _ _).mono (fun r h c => ⟨?_, (h c).2⟩) (Cert.Reference17Ideal.Value.run (F := Ideal) m' ρ')
  refine (h c).1.trans ((Cert.Reference17Ideal.Read.val_main_v12_eq _ _).trans ?_)
  rw [(hagree c).1, (hagree c).2]
  funext i
  rw [pair i]
  exact ref17 _ _ _ _

theorem frame_p18 : Cert.quiescent_Kernel18 := fun m ρ _ => Cert.Kernel18.Gen.frame m ρ

theorem frame_pi18 : Cert.quiescent_Kernel18Ideal := fun m ρ _ => Cert.Kernel18Ideal.Gen.frame m ρ

theorem frame_ri18 : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

theorem preserves18 : Cert.preserves_Kernel18_Kernel18Ideal := trivial

/-- Both programs leave the rows' gradient and the weight's gradient of the query latent. -/
theorem algebraic18 : Cert.algebraic_Kernel18Ideal_Reference18Ideal := by
  intro m ρ m' ρ' _ hagree
  refine ⟨fun c => Cert.Kernel18Ideal.NormBwd.arr3 m c, fun c => Cert.Kernel18Ideal.NormBwd.arr4 m c,
    (θ_run Cert.Kernel18Ideal.defs _ _).mono (fun r h c => ⟨(h c).1.trans (Cert.Kernel18Ideal.NormBwd.final3 m c),
      (h c).2.1.trans (Cert.Kernel18Ideal.NormBwd.final4 m c), (h c).2.2⟩) (Cert.Kernel18Ideal.Value.run_blocks m ρ), ?_⟩
  refine (θ_run Cert.Reference18Ideal.defs _ _).mono (fun r h c => ⟨?_, ?_, (h c).2.2⟩) (Cert.Reference18Ideal.Value.run (F := Ideal) m' ρ')
  · refine (h c).1.trans ((Cert.Reference18Ideal.Read.val_main_v34_eq _ _ _).trans ?_)
    rw [(hagree c).1, (hagree c).2.1, (hagree c).2.2]
    funext i
    rw [pair i]
    exact ref18_dx _ _ _ _ _
  · refine (h c).2.1.trans ((Cert.Reference18Ideal.Read.val_main_v17_eq _ _).trans ?_)
    rw [(hagree c).1, (hagree c).2.2]
    funext i
    refine (congrArg (Cert.Reference18Ideal.Read.val_main_v17 (F := Ideal) _ _) ((pair i).trans
      (congrArg (fun a : Fin 1 => ix2 (n0 := 1) (n1 := 768) a (i 1)) (Subsingleton.elim (α := Fin 1) _ 0)))).trans ?_
    exact ref18_dg _ _ _

theorem frame_p19 : Cert.quiescent_Kernel19 := fun m ρ _ => Cert.Kernel19.Gen.frame m ρ

theorem frame_pi19 : Cert.quiescent_Kernel19Ideal := fun m ρ _ => Cert.Kernel19Ideal.Gen.frame m ρ

theorem frame_ri19 : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

theorem preserves19 : Cert.preserves_Kernel19_Kernel19Ideal := trivial

/-- Both programs leave the rows' gradient and the weight's gradient of the key and value latent. -/
theorem algebraic19 : Cert.algebraic_Kernel19Ideal_Reference19Ideal := by
  intro m ρ m' ρ' _ hagree
  refine ⟨fun c => Cert.Kernel19Ideal.NormBwd.arr3 m c, fun c => Cert.Kernel19Ideal.NormBwd.arr4 m c,
    (θ_run Cert.Kernel19Ideal.defs _ _).mono (fun r h c => ⟨(h c).1.trans (Cert.Kernel19Ideal.NormBwd.final3 m c),
      (h c).2.1.trans (Cert.Kernel19Ideal.NormBwd.final4 m c), (h c).2.2⟩) (Cert.Kernel19Ideal.Value.run_blocks m ρ), ?_⟩
  refine (θ_run Cert.Reference19Ideal.defs _ _).mono (fun r h c => ⟨?_, ?_, (h c).2.2⟩) (Cert.Reference19Ideal.Value.run (F := Ideal) m' ρ')
  · refine (h c).1.trans ((Cert.Reference19Ideal.Read.val_main_v34_eq _ _ _).trans ?_)
    rw [(hagree c).1, (hagree c).2.1, (hagree c).2.2]
    funext i
    rw [pair i]
    exact ref19_dx _ _ _ _ _
  · refine (h c).2.1.trans ((Cert.Reference19Ideal.Read.val_main_v17_eq _ _).trans ?_)
    rw [(hagree c).1, (hagree c).2.2]
    funext i
    refine (congrArg (Cert.Reference19Ideal.Read.val_main_v17 (F := Ideal) _ _) ((pair i).trans
      (congrArg (fun a : Fin 1 => ix2 (n0 := 1) (n1 := 512) a (i 1)) (Subsingleton.elim (α := Fin 1) _ 0)))).trans ?_
    exact ref19_dg _ _ _

end Cert.Proof
-- ==== Proof.Adam.lean ====
module

public import proofs.«01_k».proof.Defs
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise

/-! The claims of the optimiser's step on the small weights: the update and the two moments, entry by entry. -/

@[expose] public section

set_option maxRecDepth 16384

noncomputable section

namespace Cert.Proof

open Idealize.ShloMosaic Idealize.ShloMosaic.TcCoe Idealize.SL.Sem

theorem frame_p15 : Cert.quiescent_Kernel15 := fun m ρ _ => Cert.Kernel15.Gen.frame m ρ

theorem frame_pi15 : Cert.quiescent_Kernel15Ideal := fun m ρ _ => Cert.Kernel15Ideal.Gen.frame m ρ

theorem frame_ri15 : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem preserves15 : Cert.preserves_Kernel15_Kernel15Ideal := trivial

section
open Cert.Reference15Ideal Cert.Reference15Ideal.Read

variable (w g mo ve : (⟨S16x2048, .f32⟩ : BufTy).Contents (Elt Ideal))

/-- The first moment. -/
theorem adam_m : val_main_v4 (F := Ideal) g mo = Cert.Kernel15Ideal.Value.G5 (F := Ideal) g mo := rfl

/-- The second moment. -/
theorem adam_v : val_main_v10 (F := Ideal) g ve = Cert.Kernel15Ideal.Value.G6 (F := Ideal) g ve := rfl

/-- The update. -/
theorem adam_d : val_main_v23 (F := Ideal) w g mo ve = Cert.Kernel15Ideal.Value.G4 (F := Ideal) w g mo ve := rfl

end

/-- Both programs leave the update and the two moments. -/
theorem algebraic15 : Cert.algebraic_Kernel15Ideal_Reference15Ideal := by
  intro m ρ m' ρ' _ hagree
  refine ⟨_, _, _, Cert.Kernel15Ideal.Value.run m ρ, ?_⟩
  refine (θ_run Cert.Reference15Ideal.defs _ _).mono (fun r h c => ⟨?_, ?_, ?_, (h c).2.2.2⟩) (Cert.Reference15Ideal.Value.run (F := Ideal) m' ρ')
  · refine (h c).1.trans ((Cert.Reference15Ideal.Read.val_main_v23_eq _ _ _ _).trans ?_)
    rw [(hagree c).1, (hagree c).2.1, (hagree c).2.2.1, (hagree c).2.2.2]
    exact adam_d _ _ _ _
  · refine (h c).2.1.trans ((Cert.Reference15Ideal.Read.val_main_v4_eq _ _).trans ?_)
    rw [(hagree c).2.1, (hagree c).2.2.1]
    exact adam_m _ _
  · refine (h c).2.2.1.trans ((Cert.Reference15Ideal.Read.val_main_v10_eq _ _).trans ?_)
    rw [(hagree c).2.1, (hagree c).2.2.2]
    exact adam_v _ _

end Cert.Proof
-- ==== Proof.Loss.lean ====
module

public import proofs.«01_k».proof.Proof.Gen.Kernel20Ideal.Value
public import proofs.«01_k».proof.Proof.Gen.Reference20Ideal.Read
public import proofs.«01_k».proof.Proof.Norm
public import proofs.«01_k».proof.Proof.Proj
public import Idealize.ShloMosaic.Lib.Pointwise
public import Idealize.ShloMosaic.Lib.Pipeline.ValueKit
public import Idealize.ShloMosaic.Lib.Pipeline.ValueKit.Geometry

/-! The loss, half the sum over the rows of the mean square of the error, and its gradient: what the call leaves, the loss summed
    over eight blocks of rows, and what the reference is. -/

@[expose] public section

set_option maxRecDepth 16384

noncomputable section

namespace Cert.Loss

open Idealize.ShloMosaic Cert.Norm

def half : EReal := Ideal.ofBits .f32 0x3F000000#32

theorem mean_nonneg {n : ℕ} (e : Fin n → EReal) : 0 ≤ mean n2048 (∑ k, e k * e k) := by
  rw [mean_eq n2048_real (by norm_num)]
  exact mul_nonneg (Finset.sum_nonneg fun k _ => Cert.Norm.mul_self_nonneg (e k)) (EReal.coe_nonneg.2 (by norm_num))

/-- The derivative's factors, half a mean of twice the error, are one. -/
theorem factor (e : EReal) : Ideal.div (half * Ideal.ofBits .f32 0x3F800000#32) n2048 * (Ideal.ofBits .f32 0x40000000#32 * e)
    = e * Ideal.ofBits .f32 0x3A000000#32 := by
  have h1 : half = ((1 / 2 : ℝ) : EReal) := by
    simp [half, Ideal.ofBits, Ideal.ieee]
    rw [← EReal.coe_mul]
    norm_num
  have h2 : Ideal.ofBits .f32 0x3F800000#32 = ((1 : ℝ) : EReal) := by
    simp [Ideal.ofBits, Ideal.ieee]
    rw [← EReal.coe_mul]
    norm_num
  have h3 : Ideal.ofBits .f32 0x40000000#32 = ((2 : ℝ) : EReal) := by
    simp [Ideal.ofBits, Ideal.ieee]
    rw [← EReal.coe_mul]
    norm_num
  have h4 : Ideal.ofBits .f32 0x3A000000#32 = ((1 / 2048 : ℝ) : EReal) := by
    simp [Ideal.ofBits, Ideal.ieee]
    rw [← EReal.coe_mul]
    norm_num
  rw [h1, h2, h3, h4, n2048_real, Ideal.div_coe (by norm_num), ← EReal.coe_mul, ← EReal.coe_mul, ← mul_assoc, ← EReal.coe_mul, mul_comm]
  norm_num

end Cert.Loss

namespace Cert.Kernel20Ideal.LossHead

open Idealize.ShloMosaic Idealize.ShloMosaic.TcCoe Idealize.SL.Sem
open Cert.Kernel20Ideal Cert.Kernel20Ideal.Gen Cert.Kernel20Ideal.Value Cert.Norm Cert.Loss
open Cert.Kernel5Ideal.Proj (z2 mat pair)

theorem pay2 (x0 x1 : Vec Ideal S256x2048 .f32) (p : Fin 256) (q : Fin 2048) :
    k0_pay2 (F := Ideal) x0 x1 (ix2 p q) = (x0 (ix2 p q) - x1 (ix2 p q)) * Ideal.ofBits .f32 0x3A000000#32 := by
  pointwise [k0_pay2, k0_pay1]

theorem pay3 (x0 x1 : Vec Ideal S256x2048 .f32) (p : Fin 256) (q : Fin 2048) :
    k0_pay3 (F := Ideal) x0 x1 (ix2 p q) = (x0 (ix2 p q) - x1 (ix2 p q)) * Ideal.ofBits .f32 0x3A000000#32 := pay2 x0 x1 p q

theorem pay5 (x0 x1 : Vec Ideal S256x2048 .f32) (a : Vec Ideal S1x1 .f32) :
    k0_pay5 (F := Ideal) x0 x1 a (ix2 0 0) = a (ix2 0 0)
      + half * ∑ p : Fin 256, mean n2048 (∑ k, (x0 (ix2 p k) - x1 (ix2 p k)) * (x0 (ix2 p k) - x1 (ix2 p k))) := by
  pointwise [k0_pay5, k0_pay1, half, mean, n2048]

section
variable (c : Dev nD) (i : grid0.Coords) (arg1 : Memref sig .tc .vmem S256x2048 .f32) (harg1 : arg1.IsWhole)
  (arg2 : Memref sig .tc .vmem S256x2048 .f32) (harg2 : arg2.IsWhole) (arg3 : Memref sig .tc .vmem S256x2048 .f32) (harg3 : arg3.IsWhole)
  (arg4 : Memref sig .tc .vmem S256x2048 .bf16) (harg4 : arg4.IsWhole) (arg5 : Memref sig .tc .vmem S1x1 .f32) (harg5 : arg5.IsWhole)
  (x0 x1 : Vec Ideal S256x2048 .f32) (xo : Vec Ideal S1x1 .f32)

theorem out2_A (h : cond0_0 i) :
    out0_A_2 (F := Ideal) c i arg1 harg1 arg2 harg2 arg3 harg3 arg4 harg4 arg5 harg5 h x0 x1 = k0_pay2 x0 x1 := by
  unfold out0_A_2
  rw [View.read_writes_junk_eq_canon]
  unfold kernelRun0_A
  dsimp only
  rw [View.canon_unit_zero z2]
  simp only [View.readAt_eq_ld, harg1.read_unread, harg2.read_unread]
  rw [View.ld_unit_zero z2, View.ld_unit_zero z2]

theorem out2_B (h : ¬cond0_0 i) :
    out0_B_2 (F := Ideal) c i arg1 harg1 arg2 harg2 arg3 harg3 arg4 harg4 arg5 harg5 h x0 x1 xo = k0_pay2 x0 x1 := by
  unfold out0_B_2
  rw [View.read_writes_junk_eq_canon]
  unfold kernelRun0_B
  dsimp only
  rw [View.canon_unit_zero z2]
  simp only [View.readAt_eq_ld, harg1.read_unread, harg2.read_unread]
  rw [View.ld_unit_zero z2, View.ld_unit_zero z2]

theorem out3_A (h : cond0_0 i) :
    out0_A_3 (F := Ideal) c i arg1 harg1 arg2 harg2 arg3 harg3 arg4 harg4 arg5 harg5 h x0 x1 = k0_pay3 x0 x1 := by
  unfold out0_A_3
  rw [View.read_writes_junk_eq_canon]
  unfold kernelRun0_A
  dsimp only
  rw [View.canon_unit_zero z2]
  simp only [View.readAt_eq_ld, harg1.read_unread, harg2.read_unread]
  rw [View.ld_unit_zero z2, View.ld_unit_zero z2]

theorem out3_B (h : ¬cond0_0 i) :
    out0_B_3 (F := Ideal) c i arg1 harg1 arg2 harg2 arg3 harg3 arg4 harg4 arg5 harg5 h x0 x1 xo = k0_pay3 x0 x1 := by
  unfold out0_B_3
  rw [View.read_writes_junk_eq_canon]
  unfold kernelRun0_B
  dsimp only
  rw [View.canon_unit_zero z2]
  simp only [View.readAt_eq_ld, harg1.read_unread, harg2.read_unread]
  rw [View.ld_unit_zero z2, View.ld_unit_zero z2]

theorem out4_B (h : ¬cond0_0 i) :
    out0_B_4 (F := Ideal) c i arg1 harg1 arg2 harg2 arg3 harg3 arg4 harg4 arg5 harg5 h x0 x1 xo = k0_pay5 x0 x1 xo := by
  unfold out0_B_4
  rw [View.read_writes_junk_eq_canon]
  unfold kernelRun0_B
  dsimp only
  rw [View.canon_unit_zero z2]
  simp only [View.readAt_eq_ld, harg1.read_unread, harg2.read_unread, harg5.read_unread]
  rw [View.ld_unit_zero z2, View.ld_unit_zero z2, View.ld_unit_zero z2]

theorem out4_A (h : cond0_0 i) :
    out0_A_4 (F := Ideal) c i arg1 harg1 arg2 harg2 arg3 harg3 arg4 harg4 arg5 harg5 h x0 x1 = k0_pay5 x0 x1 (k0_pay4 (F := Ideal)) := by
  unfold out0_A_4
  rw [View.read_writes_junk_eq_canon]
  unfold kernelRun0_A
  dsimp only
  rw [View.canon_cons_unit_zero z2]
  unfold kernelRun0_A.sl.v20 kernelRun0_A.sl.H4_1
  rw [View.readCov_unit_zero _ z2]
  simp only [View.readAt_eq_ld, harg1.read_unread, harg2.read_unread]
  rw [View.ld_unit_zero z2, View.ld_unit_zero z2]

end

variable (m : (ℓ : Loc nD τ sig) → Buf (Elt Ideal) ℓ) (c : Dev nD)

/-- The operands. -/
abbrev Y : Fin 2048 → Fin 2048 → EReal := mat (m ((c : Thread nD τ).loc main_arg0))
abbrev T : Fin 2048 → Fin 2048 → EReal := mat (m ((c : Thread nD τ).loc main_arg1))

theorem idx : ∀ t : Fin cfg0.N, win0_0.index t = ![t.val, 0] ∧ win0_1.index t = ![t.val, 0] ∧ win0_2.index t = ![t.val, 0]
    ∧ win0_3.index t = ![t.val, 0] ∧ win0_4.index t = ![0, 0] :=
  (by decide +kernel : ∀ t : Fin grid0.N, _)

/-! ## The gradient, whole and rounded -/

/-- The two arrays the call leaves. -/
def arr2 : Buf (Elt Ideal) ((c : Thread nD τ).loc main_v0_0) := fun i => (Y m c (i 0) (i 1) - T m c (i 0) (i 1)) * Ideal.ofBits .f32 0x3A000000#32
def arr3 : Buf (Elt Ideal) ((c : Thread nD τ).loc main_v0_1) := fun i => (Y m c (i 0) (i 1) - T m c (i 0) (i 1)) * Ideal.ofBits .f32 0x3A000000#32

theorem outs2 (t : Fin cfg0.N) : (outsAt0 m c t.val t.isLt).1 = k0_pay2 (iblk m c 0 t) (iblk m c 1 t) := by
  by_cases h : t.val % 8 = 0
  · rw [outsAt0_A m c t h, out2_A]
  · rw [outsAt0_B m c t h, out2_B]

theorem outs3 (t : Fin cfg0.N) : (outsAt0 m c t.val t.isLt).2.1 = k0_pay3 (iblk m c 0 t) (iblk m c 1 t) := by
  by_cases h : t.val % 8 = 0
  · rw [outsAt0_A m c t h, out3_A]
  · rw [outsAt0_B m c t h, out3_B]

theorem final2 : (dats m 0 c).arrAt 2 cfg0.N = arr2 m c := by
  refine (dats m 0 c).arrAt_eq_of_covers 2 _ (by decide +kernel) fun t hf y => ?_
  blk_simp
  rw [after0_2]
  obtain ⟨e0, e1, e2, -, -⟩ := idx t
  refine (congrFun (outs2 m c t) _).trans ((congrArg (k0_pay2 _ _) (pair y)).trans ((pay2 _ _ _ _).trans
    (congrArg (fun a : EReal => a * _) (congrArg₂ (fun a b : EReal => a - b) ?_ ?_))))
  · blk_ext [iblk, e0, e2]
  · blk_ext [iblk, e1, e2]

theorem final3 : (dats m 0 c).arrAt 3 cfg0.N = arr3 m c := by
  refine (dats m 0 c).arrAt_eq_of_covers 3 _ (by decide +kernel) fun t hf y => ?_
  blk_simp
  rw [after0_3]
  obtain ⟨e0, e1, -, e3, -⟩ := idx t
  refine (congrFun (outs3 m c t) _).trans ((congrArg (k0_pay3 _ _) (pair y)).trans ((pay3 _ _ _ _).trans
    (congrArg (fun a : EReal => a * _) (congrArg₂ (fun a b : EReal => a - b) ?_ ?_))))
  · blk_ext [iblk, e0, e3]
  · blk_ext [iblk, e1, e3]

/-! ## The loss -/

/-- The mean square of row `i`. -/
def row (i : ℕ) : EReal :=
  if h : i < 2048 then mean n2048 (∑ k, (Y m c ⟨i, h⟩ k - T m c ⟨i, h⟩ k) * (Y m c ⟨i, h⟩ k - T m c ⟨i, h⟩ k)) else 0

theorem row_nonneg (i : ℕ) : 0 ≤ row m c i := by
  unfold row
  split
  · exact mean_nonneg _
  · exact le_refl _

theorem part_blk (t : Fin cfg0.N) (a : Vec Ideal S1x1 .f32) :
    k0_pay5 (iblk m c 0 t) (iblk m c 1 t) a (ix2 0 0) = a (ix2 0 0) + half * ∑ p ∈ Finset.range 256, row m c (t.val * 256 + p) := by
  obtain ⟨e0, e1, -, -, -⟩ := idx t
  rw [pay5, ← Fin.sum_univ_eq_sum_range (fun p => row m c (t.val * 256 + p)) 256]
  refine congrArg (fun b : EReal => a (ix2 0 0) + half * b) (Finset.sum_congr rfl fun p _ => ?_)
  rw [row, dif_pos (show t.val * 256 + p.val < 2048 by have ht : t.val < 8 := t.isLt; have hp : p.val < 256 := p.isLt; omega)]
  refine congrArg (mean n2048) (Finset.sum_congr rfl fun k _ => ?_)
  refine congrArg (fun a : EReal => a * a) (congrArg₂ (fun a b : EReal => a - b) ?_ ?_)
  · blk_ext [iblk, e0]
  · blk_ext [iblk, e1]

/-- After point `n` the output holds half the sum over the blocks so far. -/
theorem acc : ∀ (n : ℕ) (hn : n < cfg0.N), (outsAt0 m c n hn).2.2 (ix2 0 0) = half * ∑ i ∈ Finset.range ((n + 1) * 256), row m c i := by
  intro n
  induction n with
  | zero =>
    intro hn
    rw [outsAt0_A m c ⟨0, hn⟩ rfl]
    dsimp only
    rw [out4_A, part_blk m c ⟨0, hn⟩, show k0_pay4 (F := Ideal) (ix2 0 0) = 0 by pointwise [k0_pay4], zero_add]
    simp only [Nat.zero_mul, Nat.zero_add, Nat.one_mul]
  | succ n ih =>
    intro hn
    have hn' : n + 1 < 8 := hn
    rw [outsAt0_B m c ⟨n + 1, hn⟩ (by show ¬(n + 1) % 8 = 0; omega)]
    dsimp only
    rw [out4_B, part_blk m c ⟨n + 1, hn⟩, Nat.succ_mul (n + 1) 256, Finset.sum_range_add,
      EReal.left_distrib_of_nonneg (Finset.sum_nonneg fun i _ => row_nonneg m c i) (Finset.sum_nonneg fun i _ => row_nonneg m c _)]
    exact congrArg (fun a : EReal => a + _) (ih _)

/-- The array the call leaves. -/
def arr4 : Buf (Elt Ideal) ((c : Thread nD τ).loc main_v0_2) := fun _ =>
  (half * ∑ i, mean n2048 (∑ k, (Y m c i k - T m c i k) * (Y m c i k - T m c i k)) : EReal)

theorem one (y : (⟨2, ![1, 1]⟩ : Shape).Idx) : y = ix2 0 0 :=
  (pair y).trans (congrArg₂ (fun a b : Fin 1 => ix2 (n0 := 1) (n1 := 1) a b) (Subsingleton.elim (α := Fin 1) _ 0) (Subsingleton.elim (α := Fin 1) _ 0))

theorem final4 : (dats m 0 c).arrAt 4 cfg0.N = arr4 m c := by
  refine (dats m 0 c).arrAt_eq_of_covers 4 _ (by decide +kernel) fun t hf y => ?_
  have ht : t.val = 7 := by have h := (flush0_4 t).mp hf; have h8 : t.val < 8 := t.isLt; omega
  blk_simp
  rw [after0_4]
  refine (congrArg (outsAt0 m c t.val t.isLt).2.2 (one y)).trans ((acc m c t.val t.isLt).trans ?_)
  rw [ht, ← Fin.sum_univ_eq_sum_range (fun k => row m c k) 2048]
  exact congrArg (fun a : EReal => half * a) (Finset.sum_congr rfl fun k _ => dif_pos k.isLt)

end Cert.Kernel20Ideal.LossHead

namespace Cert.Proof

open Idealize.ShloMosaic Idealize.ShloMosaic.TcCoe Idealize.SL.Sem Cert.Norm Cert.Loss
open Cert.Kernel5Ideal.Proj (mat)
open Cert.Reference20Ideal Cert.Reference20Ideal.Read

theorem ref20_dy (y t : (⟨S2048x2048, .f32⟩ : BufTy).Contents (Elt Ideal)) (i j : Fin 2048) :
    val_main_v14 (F := Ideal) y t (ix2 i j) = (mat y i j - mat t i j) * Ideal.ofBits .f32 0x3A000000#32 := by
  refine Eq.trans ?_ (factor _)
  pointwise [val_main_v14, val_main_v13, val_main_v12, val_main_v11, val_main_v10, val_main_v9, val_main_v3, val_main_v2, val_main_v0,
    val_main_cst, val_main_cst_4, val_main_cst_5, val_main_cst_6, half, n2048]

theorem ref20_loss (y t : (⟨S2048x2048, .f32⟩ : BufTy).Contents (Elt Ideal)) :
    val_main_v16 (F := Ideal) y t (ix2 0 0) = half * ∑ i, mean n2048 (∑ k, (mat y i k - mat t i k) * (mat y i k - mat t i k)) := by
  pointwise [val_main_v16, val_main_v8, val_main_v7, val_main_v6, val_main_v5, val_main_v4, val_main_v1, val_main_v0,
    val_main_cst_0, val_main_cst_1, val_main_cst_2, val_main_cst_3, half, mean, n2048]

end Cert.Proof
-- ==== Proof.LossClaims.lean ====
module

public import proofs.«01_k».proof.Defs
public import proofs.«01_k».proof.Proof.Gen.Kernel20.Frame
public import proofs.«01_k».proof.Proof.Gen.Kernel20Ideal.Frame
public import proofs.«01_k».proof.Proof.Gen.Reference20Ideal.Run
public import proofs.«01_k».proof.Proof.Loss

/-! The claims of the loss. -/

@[expose] public section

set_option maxRecDepth 16384

noncomputable section

namespace Cert.Proof

open Idealize.ShloMosaic Idealize.ShloMosaic.TcCoe Idealize.SL.Sem
open Cert.Kernel5Ideal.Proj (pair)

theorem frame_p20 : Cert.quiescent_Kernel20 := fun m ρ _ => Cert.Kernel20.Gen.frame m ρ

theorem frame_pi20 : Cert.quiescent_Kernel20Ideal := fun m ρ _ => Cert.Kernel20Ideal.Gen.frame m ρ

theorem frame_ri20 : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

theorem preserves20 : Cert.preserves_Kernel20_Kernel20Ideal := trivial

/-- Both programs leave the gradient, whole and rounded, and the loss. -/
theorem algebraic20 : Cert.algebraic_Kernel20Ideal_Reference20Ideal := by
  intro m ρ m' ρ' _ hagree
  refine ⟨fun c => Cert.Kernel20Ideal.LossHead.arr2 m c, fun c => Cert.Kernel20Ideal.LossHead.arr3 m c, fun c => Cert.Kernel20Ideal.LossHead.arr4 m c,
    (θ_run Cert.Kernel20Ideal.defs _ _).mono (fun r h c => ⟨(h c).1.trans (Cert.Kernel20Ideal.LossHead.final2 m c),
      (h c).2.1.trans (Cert.Kernel20Ideal.LossHead.final3 m c), (h c).2.2.1.trans (Cert.Kernel20Ideal.LossHead.final4 m c), (h c).2.2.2⟩)
      (Cert.Kernel20Ideal.Value.run_blocks m ρ), ?_⟩
  refine (θ_run Cert.Reference20Ideal.defs _ _).mono (fun r h c => ⟨?_, ?_, ?_, (h c).2.2.2⟩) (Cert.Reference20Ideal.Value.run (F := Ideal) m' ρ')
  · refine (h c).1.trans ((Cert.Reference20Ideal.Read.val_main_v14_eq _ _).trans ?_)
    rw [(hagree c).1, (hagree c).2]
    funext i
    rw [pair i]
    exact ref20_dy _ _ _ _
  · refine (h c).2.1.trans ((Cert.Reference20Ideal.Read.val_main_v15_eq _ _).trans ?_)
    rw [(hagree c).1, (hagree c).2]
    funext i
    rw [pair i]
    exact ref20_dy _ _ _ _
  · refine (h c).2.2.1.trans ((Cert.Reference20Ideal.Read.val_main_v16_eq _ _).trans ?_)
    rw [(hagree c).1, (hagree c).2]
    funext i
    exact (congrArg (Cert.Reference20Ideal.Read.val_main_v16 (F := Ideal) _ _) (Cert.Kernel20Ideal.LossHead.one i)).trans (ref20_loss _ _)

end Cert.Proof
-- ==== Proof.Sum.lean ====
module

public import proofs.«01_k».proof.Defs
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise

/-! The claims of the sum of the small gradients' four parts, entry by entry. -/

@[expose] public section

set_option maxRecDepth 16384

noncomputable section

namespace Cert.Proof

open Idealize.ShloMosaic Idealize.ShloMosaic.TcCoe Idealize.SL.Sem

theorem frame_p21 : Cert.quiescent_Kernel21 := fun m ρ _ => Cert.Kernel21.Gen.frame m ρ

theorem frame_pi21 : Cert.quiescent_Kernel21Ideal := fun m ρ _ => Cert.Kernel21Ideal.Gen.frame m ρ

theorem frame_ri21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem preserves21 : Cert.preserves_Kernel21_Kernel21Ideal := trivial

section
open Cert.Reference21Ideal.Read Cert.Kernel21Ideal Cert.Kernel21Ideal.Gen

variable (x : (⟨S4x16x2048, .f32⟩ : BufTy).Contents (Elt Ideal))

/-- Part, row and column determine an entry. -/
theorem entry_eq (i : S16x2048.Idx) (k : Fin 4) (j : S4x16x2048.Idx) (h0 : (j 0).val = k.val) (h1 : (j 1).val = (i 0).val)
    (h2 : (j 2).val = (i 1).val) : x j = x (idx_main_v0 i k) :=
  congrArg x (funext fun a => Fin.ext (by
    match a with
    | ⟨0, _⟩ => exact h0
    | ⟨1, _⟩ => exact h1
    | ⟨2, _⟩ => exact h2))

/-- A whole row or column read from its start is read at its own place. -/
theorem unit_place (n : ℕ) : 0 + 1 * (0 + 1 * n) = n := by omega

/-- The kernel adds the four parts from the first to the last. -/
theorem sum_parts : val_main_v0 (F := Ideal) x = Cert.Kernel21Ideal.Value.G1 (F := Ideal) x := by
  funext i
  refine Eq.trans ?_ (Cert.Kernel21Ideal.Value.piece1_0 _ _ _ _ i).symm
  have h : val_main_v0 (F := Ideal) x i = ∑ k : Fin 4, x (idx_main_v0 i k) := by
    pointwise [val_main_v0, val_main_cst]
    exact Finset.sum_congr rfl fun k _ => entry_eq x i k _ rfl rfl rfl
  rw [h, Fin.sum_univ_four]
  have e0 := entry_eq x i 0 (r0_0.idx (Cert.Kernel21Ideal.Value.ix1_0 (r0_4.idx i))) rfl (unit_place _) (unit_place _)
  have e1 := entry_eq x i 1 (r0_1.idx (Cert.Kernel21Ideal.Value.ix1_1 (r0_4.idx i))) rfl (unit_place _) (unit_place _)
  have e2 := entry_eq x i 2 (r0_2.idx (Cert.Kernel21Ideal.Value.ix1_2 (r0_4.idx i))) rfl (unit_place _) (unit_place _)
  have e3 := entry_eq x i 3 (r0_3.idx (Cert.Kernel21Ideal.Value.ix1_3 (r0_4.idx i))) rfl (unit_place _) (unit_place _)
  rw [← e0, ← e1, ← e2, ← e3]
  rfl

end

/-- Both programs leave the sum of the four parts. -/
theorem algebraic21 : Cert.algebraic_Kernel21Ideal_Reference21Ideal := by
  intro m ρ m' ρ' _ hagree
  refine ⟨_, Cert.Kernel21Ideal.Value.run m ρ, ?_⟩
  refine (θ_run Cert.Reference21Ideal.defs _ _).mono (fun r h c => ⟨?_, (h c).2⟩) (Cert.Reference21Ideal.Value.run (F := Ideal) m' ρ')
  refine (h c).1.trans ((Cert.Reference21Ideal.Read.val_main_v0_eq _).trans ?_)
  rw [hagree c]
  exact sum_parts _

end Cert.Proof
-- ==== Proof.MlpUp.lean ====
module

public import proofs.«01_k».proof.Proof.Gen.Kernel2Ideal.Frame
public import proofs.«01_k».proof.Proof.Mlp
public import Idealize.ShloMosaic.Lib.Pointwise
public import Idealize.ShloMosaic.Lib.Pipeline.Value

/-! The first product of the MLP: `z = h w1` and `relu(z)²`, block by block of 1024 rows and 1024 columns. -/

@[expose] public section

set_option maxRecDepth 16384

noncomputable section

namespace Cert.Kernel2Ideal.Up

open Idealize.ShloMosaic Idealize.ShloMosaic.TcCoe Idealize.SL.Sem
open Cert.Kernel2Ideal Cert.Kernel2Ideal.Gen Cert.Mlp

theorem z2 : (![0, 0] : Fin 2 → Nat) = fun _ => 0 := funext fun a => by fin_cases a <;> rfl

variable (V : (c : Dev nD) → (b : Ref sig .tc) → Buf (Elt Ideal) ((c : Thread nD τ).loc b)) (c : Dev nD)

/-- Where the blocks of point `t` lie. -/
theorem idx : ∀ t : Fin cfg0.N, win0_0.index t 0 = t.val / 8 ∧ win0_0.index t 1 = 0 ∧ win0_1.index t 0 = 0 ∧ win0_1.index t 1 = t.val % 8
    ∧ win0_2.index t 0 = t.val / 8 ∧ win0_2.index t 1 = t.val % 8 ∧ win0_3.index t 0 = t.val / 8 ∧ win0_3.index t 1 = t.val % 8 :=
  (by decide +kernel : ∀ t : Fin grid0.N, _)

theorem blk0 (t : Fin cfg0.N) (p : Fin 1024) (k : Fin 2048) (i : Fin 2048) (hi : i.val = t.val / 8 * 1024 + p.val) :
    iblk0 V c 0 t (ix2 p k) = V c main_arg0 (ix2 i k) := by
  obtain ⟨e0, e1, -⟩ := idx t
  refine congrArg (V c main_arg0) (funext fun a => Fin.ext ?_)
  match a with
  | ⟨0, _⟩ => show win0_0.index t 0 * 1024 + 1 * p.val = i.val; omega
  | ⟨1, _⟩ => show win0_0.index t 1 * 2048 + 1 * k.val = k.val; omega

theorem blk1 (t : Fin cfg0.N) (k : Fin 2048) (q : Fin 1024) (j : Fin 8192) (hj : j.val = t.val % 8 * 1024 + q.val) :
    iblk0 V c 1 t (ix2 k q) = V c main_arg1 (ix2 k j) := by
  obtain ⟨-, -, e0, e1, -⟩ := idx t
  refine congrArg (V c main_arg1) (funext fun a => Fin.ext ?_)
  match a with
  | ⟨0, _⟩ => show win0_1.index t 0 * 2048 + 1 * k.val = k.val; omega
  | ⟨1, _⟩ => show win0_1.index t 1 * 1024 + 1 * q.val = j.val; omega

theorem out2 (x0 : Vec Ideal S1024x2048 .bf16) (x1 : Vec Ideal S2048x1024 .bf16) (p q : Fin 1024) :
    out0_2 (F := Ideal) x0 x1 (ix2 p q) = ∑ k : Fin 2048, x0 (ix2 p k) * x1 (ix2 k q) := by
  unfold out0_2
  rw [View.canon_unit_zero z2, View.ld_unit_zero z2, View.ld_unit_zero z2]
  pointwise [k0_pay1]

theorem out3 (x0 : Vec Ideal S1024x2048 .bf16) (x1 : Vec Ideal S2048x1024 .bf16) (p q : Fin 1024) :
    out0_3 (F := Ideal) x0 x1 (ix2 p q) = act (∑ k : Fin 2048, x0 (ix2 p k) * x1 (ix2 k q)) := by
  unfold out0_3
  rw [View.canon_unit_zero z2, View.ld_unit_zero z2, View.ld_unit_zero z2]
  pointwise [k0_pay2, k0_pay1, act]

/-- What point `t` adds up at `(p, q)` of its block, in the arrays' own indices. -/
theorem sum_blk (t : Fin cfg0.N) (x0 : Vec Ideal S1024x2048 .bf16) (x1 : Vec Ideal S2048x1024 .bf16) (h0 : x0 = iblk0 V c 0 t)
    (h1 : x1 = iblk0 V c 1 t) (p q : Fin 1024) (i : Fin 2048) (j : Fin 8192) (hi : i.val = t.val / 8 * 1024 + p.val)
    (hj : j.val = t.val % 8 * 1024 + q.val) :
    ∑ k : Fin 2048, x0 (ix2 p k) * x1 (ix2 k q)
      = mm (fun i k => V c main_arg0 (ix2 i k)) (fun k j => V c main_arg1 (ix2 k j)) i j := by
  subst h0 h1
  exact Finset.sum_congr rfl fun k _ => congrArg₂ (fun a b : EReal => a * b) (blk0 V c t p k i hi) (blk1 V c t k q j hj)

/-- The array of `z`. -/
def arrZ : Buf (Elt Ideal) ((c : Thread nD τ).loc main_v0_0) := fun i =>
  mm (fun i k => V c main_arg0 (ix2 i k)) (fun k j => V c main_arg1 (ix2 k j)) (i 0) (i 1)

/-- The array of `relu(z)²`. -/
def arrU : Buf (Elt Ideal) ((c : Thread nD τ).loc main_v0_1) := fun i =>
  act (mm (fun i k => V c main_arg0 (ix2 i k)) (fun k j => V c main_arg1 (ix2 k j)) (i 0) (i 1))

theorem flushed2 (t : Fin cfg0.N) : (dat0 V c).flushed 2 t = ((cfg0.win 2).blk t).view.read (Elt Ideal) (arrZ V c) := by
  show (cfg0.win 2).cut (grid0.coords t) ((dat0 V c).after 2 t) = _
  rw [after0_2]
  obtain ⟨-, -, -, -, e0, e1, -⟩ := idx t
  funext y
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  have hy : (cfg0.win 2).xinj (grid0.coords t) y = ix2 (n0 := 1024) (n1 := 1024) (y 0) (y 1) := by
    funext a
    match a with
    | ⟨0, _⟩ => rfl
    | ⟨1, _⟩ => rfl
  show out0_2 _ _ ((cfg0.win 2).xinj (grid0.coords t) y) = arrZ V c (((cfg0.win 2).blk t).view.emb y)
  refine (congrArg (out0_2 _ _) hy).trans ((out2 _ _ _ _).trans ?_)
  exact sum_blk V c t _ _ rfl rfl _ _ _ _ (by rw [hb0]; omega) (by rw [hb1]; omega)

theorem flushed3 (t : Fin cfg0.N) : (dat0 V c).flushed 3 t = ((cfg0.win 3).blk t).view.read (Elt Ideal) (arrU V c) := by
  show (cfg0.win 3).cut (grid0.coords t) ((dat0 V c).after 3 t) = _
  rw [after0_3]
  obtain ⟨-, -, -, -, -, -, e0, e1⟩ := idx t
  funext y
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  have hy : (cfg0.win 3).xinj (grid0.coords t) y = ix2 (n0 := 1024) (n1 := 1024) (y 0) (y 1) := by
    funext a
    match a with
    | ⟨0, _⟩ => rfl
    | ⟨1, _⟩ => rfl
  show out0_3 _ _ ((cfg0.win 3).xinj (grid0.coords t) y) = arrU V c (((cfg0.win 3).blk t).view.emb y)
  refine (congrArg (out0_3 _ _) hy).trans ((out3 _ _ _ _).trans ?_)
  exact congrArg act (sum_blk V c t _ _ rfl rfl _ _ _ _ (by rw [hb0]; omega) (by rw [hb1]; omega))

theorem mem_blk2 (t : Fin cfg0.N) (i : S2048x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0_0).slice (win0_2.rect t)).set ↔ _
  rw [View.set_slice_whole, Rect.mem_set_unit]
  exact Iff.rfl

theorem mem_blk3 (t : Fin cfg0.N) (i : S2048x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0_1).slice (win0_3.rect t)).set ↔ _
  rw [View.set_slice_whole, Rect.mem_set_unit]
  exact Iff.rfl

/-- The point whose blocks hold `i`. -/
def pt (i : S2048x8192.Idx) : Fin cfg0.N :=
  ⟨(i 0).val / 1024 * 8 + (i 1).val / 1024, lt_of_lt_of_eq (by
    have h0 : (i 0).val < 2048 := (i 0).isLt
    have h1 : (i 1).val < 8192 := (i 1).isLt
    omega : _ < 16) (by decide)⟩

theorem flush2 : ∀ t : Fin cfg0.N, (cfg0.win 2).flush t = true := (by decide +kernel : ∀ t : Fin grid0.N, _)

theorem flush3 : ∀ t : Fin cfg0.N, (cfg0.win 3).flush t = true := (by decide +kernel : ∀ t : Fin grid0.N, _)

theorem final2 : (dat0 V c).arrAt 2 cfg0.N = arrZ V c :=
  (dat0 V c).arrAt_eq_of_cover 2 _ (fun t _ => flushed2 V c t) fun i => ⟨pt i, flush2 _, by
    rw [mem_blk2]
    have h0 : (i 0).val < 2048 := (i 0).isLt
    have h1 : (i 1).val < 8192 := (i 1).isLt
    have hp : (pt i).val = (i 0).val / 1024 * 8 + (i 1).val / 1024 := rfl
    obtain ⟨-, -, -, -, e0, e1, -⟩ := idx (pt i)
    intro a
    match a with
    | ⟨0, _⟩ => show win0_2.index (pt i) (0 : Fin 2) * 1024 ≤ (i 0).val ∧ (i 0).val < win0_2.index (pt i) (0 : Fin 2) * 1024 + 1024; omega
    | ⟨1, _⟩ => show win0_2.index (pt i) (1 : Fin 2) * 1024 ≤ (i 1).val ∧ (i 1).val < win0_2.index (pt i) (1 : Fin 2) * 1024 + 1024; omega⟩

theorem final3 : (dat0 V c).arrAt 3 cfg0.N = arrU V c :=
  (dat0 V c).arrAt_eq_of_cover 3 _ (fun t _ => flushed3 V c t) fun i => ⟨pt i, flush3 _, by
    rw [mem_blk3]
    have h0 : (i 0).val < 2048 := (i 0).isLt
    have h1 : (i 1).val < 8192 := (i 1).isLt
    have hp : (pt i).val = (i 0).val / 1024 * 8 + (i 1).val / 1024 := rfl
    obtain ⟨-, -, -, -, -, -, e0, e1⟩ := idx (pt i)
    intro a
    match a with
    | ⟨0, _⟩ => show win0_3.index (pt i) (0 : Fin 2) * 1024 ≤ (i 0).val ∧ (i 0).val < win0_3.index (pt i) (0 : Fin 2) * 1024 + 1024; omega
    | ⟨1, _⟩ => show win0_3.index (pt i) (1 : Fin 2) * 1024 ≤ (i 1).val ∧ (i 1).val < win0_3.index (pt i) (1 : Fin 2) * 1024 + 1024; omega⟩

end Cert.Kernel2Ideal.Up
-- ==== Proof.MlpDownBwd.lean ====
module

public import proofs.«01_k».proof.Proof.MlpUp

/-! The gradient through the second product and the squared ReLU: `dz = (dy w2ᵀ) (2 relu(z))`. -/

@[expose] public section

set_option maxRecDepth 16384

noncomputable section

namespace Cert.Kernel2Ideal.DownBwd

open Idealize.ShloMosaic Idealize.ShloMosaic.TcCoe Idealize.SL.Sem
open Cert.Kernel2Ideal Cert.Kernel2Ideal.Gen Cert.Mlp
open Cert.Kernel2Ideal.Up (z2)

variable (V : (c : Dev nD) → (b : Ref sig .tc) → Buf (Elt Ideal) ((c : Thread nD τ).loc b)) (c : Dev nD)

/-- Where the blocks of point `t` lie. -/
theorem idx : ∀ t : Fin cfg1.N, win1_0.index t 0 = t.val / 8 ∧ win1_0.index t 1 = 0 ∧ win1_1.index t 0 = t.val % 8 ∧ win1_1.index t 1 = 0
    ∧ win1_2.index t 0 = t.val / 8 ∧ win1_2.index t 1 = t.val % 8 ∧ win1_3.index t 0 = t.val / 8 ∧ win1_3.index t 1 = t.val % 8 :=
  (by decide +kernel : ∀ t : Fin grid1.N, _)

theorem blk0 (t : Fin cfg1.N) (p : Fin 1024) (q : Fin 2048) (i : Fin 2048) (j : Fin 2048) (hi : i.val = t.val / 8 * 1024 + p.val)
    (hj : j.val = 0 + q.val) : iblk1 V c 0 t (ix2 p q) = V c main_arg3 (ix2 i j) := by
  obtain ⟨e0, e1, -⟩ := idx t
  refine congrArg (V c main_arg3) (funext fun a => Fin.ext ?_)
  match a with
  | ⟨0, _⟩ => show win1_0.index t 0 * 1024 + 1 * p.val = i.val; omega
  | ⟨1, _⟩ => show win1_0.index t 1 * 2048 + 1 * q.val = j.val; omega

theorem blk1 (t : Fin cfg1.N) (p : Fin 1024) (q : Fin 2048) (i : Fin 8192) (j : Fin 2048) (hi : i.val = t.val % 8 * 1024 + p.val)
    (hj : j.val = 0 + q.val) : iblk1 V c 1 t (ix2 p q) = V c main_arg2 (ix2 i j) := by
  obtain ⟨-, -, e0, e1, -⟩ := idx t
  refine congrArg (V c main_arg2) (funext fun a => Fin.ext ?_)
  match a with
  | ⟨0, _⟩ => show win1_1.index t 0 * 1024 + 1 * p.val = i.val; omega
  | ⟨1, _⟩ => show win1_1.index t 1 * 2048 + 1 * q.val = j.val; omega

theorem blk2 (t : Fin cfg1.N) (p : Fin 1024) (q : Fin 1024) (i : Fin 2048) (j : Fin 8192) (hi : i.val = t.val / 8 * 1024 + p.val)
    (hj : j.val = t.val % 8 * 1024 + q.val) : iblk1 V c 2 t (ix2 p q) = V c main_v0_0 (ix2 i j) := by
  obtain ⟨-, -, -, -, e0, e1, -⟩ := idx t
  refine congrArg (V c main_v0_0) (funext fun a => Fin.ext ?_)
  match a with
  | ⟨0, _⟩ => show win1_2.index t 0 * 1024 + 1 * p.val = i.val; omega
  | ⟨1, _⟩ => show win1_2.index t 1 * 1024 + 1 * q.val = j.val; omega

theorem out (x0 x1 : Vec Ideal S1024x2048 .bf16) (x2 : Vec Ideal S1024x1024 .f32) (p q : Fin 1024) :
    out1_3 (F := Ideal) x0 x1 x2 (ix2 p q) = gate (∑ k : Fin 2048, x0 (ix2 p k) * x1 (ix2 q k)) (x2 (ix2 p q)) := by
  unfold out1_3
  rw [View.canon_unit_zero z2, View.ld_unit_zero z2, View.ld_unit_zero z2, View.ld_unit_zero z2]
  have h : k1_pay1 x0 x1 x2 (ix2 p q) = (∑ k : Fin 2048, x0 (ix2 p k) * x1 (ix2 q k))
      * (Ideal.ofBits .f32 0x40000000#32 * max (x2 (ix2 p q)) 0) := by pointwise [k1_pay1]
  rw [h, two_bits]
  rfl

/-- What point `t` writes at `(p, q)` of its block, in the arrays' own indices. -/
theorem val (t : Fin cfg1.N) (x0 x1 : Vec Ideal S1024x2048 .bf16) (x2 : Vec Ideal S1024x1024 .f32) (h0 : x0 = iblk1 V c 0 t)
    (h1 : x1 = iblk1 V c 1 t) (h2 : x2 = iblk1 V c 2 t) (p q : Fin 1024) (i : Fin 2048) (j : Fin 8192) (hi : i.val = t.val / 8 * 1024 + p.val)
    (hj : j.val = t.val % 8 * 1024 + q.val) :
    gate (∑ k : Fin 2048, x0 (ix2 p k) * x1 (ix2 q k)) (x2 (ix2 p q))
      = gate (mmT (fun i k => V c main_arg3 (ix2 i k)) (fun j k => V c main_arg2 (ix2 j k)) i j) (V c main_v0_0 (ix2 i j)) := by
  subst h0 h1 h2
  exact congrArg₂ gate (Finset.sum_congr rfl fun k _ => congrArg₂ (fun a b : EReal => a * b) (blk0 V c t p k i k hi (by omega))
    (blk1 V c t q k j k hj (by omega))) (blk2 V c t p q i j hi hj)

/-- The array of `dz`. -/
def arr : Buf (Elt Ideal) ((c : Thread nD τ).loc main_v1) := fun i =>
  gate (mmT (fun i k => V c main_arg3 (ix2 i k)) (fun j k => V c main_arg2 (ix2 j k)) (i 0) (i 1)) (V c main_v0_0 (ix2 (i 0) (i 1)))

theorem flushed (t : Fin cfg1.N) : (dat1 V c).flushed 3 t = ((cfg1.win 3).blk t).view.read (Elt Ideal) (arr V c) := by
  show (cfg1.win 3).cut (grid1.coords t) ((dat1 V c).after 3 t) = _
  rw [after1_3]
  obtain ⟨-, -, -, -, -, -, e0, e1⟩ := idx t
  funext y
  have hb0 : (((cfg1.win 3).blk t).view.emb y 0).val = win1_3.index t (0 : Fin 2) * 1024 + 1 * (y 0).val := rfl
  have hb1 : (((cfg1.win 3).blk t).view.emb y 1).val = win1_3.index t (1 : Fin 2) * 1024 + 1 * (y 1).val := rfl
  have hy : (cfg1.win 3).xinj (grid1.coords t) y = ix2 (n0 := 1024) (n1 := 1024) (y 0) (y 1) := by
    funext a
    match a with
    | ⟨0, _⟩ => rfl
    | ⟨1, _⟩ => rfl
  show out1_3 _ _ _ ((cfg1.win 3).xinj (grid1.coords t) y) = arr V c (((cfg1.win 3).blk t).view.emb y)
  refine (congrArg (out1_3 _ _ _) hy).trans ((out _ _ _ _ _).trans ?_)
  exact val V c t _ _ _ rfl rfl rfl _ _ _ _ (by rw [hb0]; omega) (by rw [hb1]; omega)

theorem mem_blk (t : Fin cfg1.N) (i : S2048x8192.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v1).slice (win1_3.rect t)).set ↔ _
  rw [View.set_slice_whole, Rect.mem_set_unit]
  exact Iff.rfl

/-- The point whose block holds `i`. -/
def pt (i : S2048x8192.Idx) : Fin cfg1.N :=
  ⟨(i 0).val / 1024 * 8 + (i 1).val / 1024, lt_of_lt_of_eq (by
    have h0 : (i 0).val < 2048 := (i 0).isLt
    have h1 : (i 1).val < 8192 := (i 1).isLt
    omega : _ < 16) (by decide)⟩

theorem flush : ∀ t : Fin cfg1.N, (cfg1.win 3).flush t = true := (by decide +kernel : ∀ t : Fin grid1.N, _)

/-- The array after the call. -/
theorem final : (dat1 V c).arrAt 3 cfg1.N = arr V c :=
  (dat1 V c).arrAt_eq_of_cover 3 _ (fun t _ => flushed V c t) fun i => ⟨pt i, flush _, by
    rw [mem_blk]
    have h0 : (i 0).val < 2048 := (i 0).isLt
    have h1 : (i 1).val < 8192 := (i 1).isLt
    have hp : (pt i).val = (i 0).val / 1024 * 8 + (i 1).val / 1024 := rfl
    obtain ⟨-, -, -, -, -, -, e0, e1⟩ := idx (pt i)
    intro a
    match a with
    | ⟨0, _⟩ => show win1_3.index (pt i) (0 : Fin 2) * 1024 ≤ (i 0).val ∧ (i 0).val < win1_3.index (pt i) (0 : Fin 2) * 1024 + 1024; omega
    | ⟨1, _⟩ => show win1_3.index (pt i) (1 : Fin 2) * 1024 ≤ (i 1).val ∧ (i 1).val < win1_3.index (pt i) (1 : Fin 2) * 1024 + 1024; omega⟩

end Cert.Kernel2Ideal.DownBwd
-- ==== Proof.MlpW2Grad.lean ====
module

public import proofs.«01_k».proof.Proof.MlpUp

/-! The gradient of the second weight: `dw2 = uᵀ dy`. -/

@[expose] public section

set_option maxRecDepth 16384

noncomputable section

namespace Cert.Kernel2Ideal.W2Grad

open Idealize.ShloMosaic Idealize.ShloMosaic.TcCoe Idealize.SL.Sem
open Cert.Kernel2Ideal Cert.Kernel2Ideal.Gen Cert.Mlp
open Cert.Kernel2Ideal.Up (z2)

variable (V : (c : Dev nD) → (b : Ref sig .tc) → Buf (Elt Ideal) ((c : Thread nD τ).loc b)) (c : Dev nD)

/-- Where the blocks of point `t` lie. -/
theorem idx : ∀ t : Fin cfg2.N, win2_0.index t 0 = 0 ∧ win2_0.index t 1 = t.val / 2 ∧ win2_1.index t 0 = 0 ∧ win2_1.index t 1 = t.val % 2
    ∧ win2_2.index t 0 = t.val / 2 ∧ win2_2.index t 1 = t.val % 2 :=
  (by decide +kernel : ∀ t : Fin grid2.N, _)

theorem blk0 (t : Fin cfg2.N) (p : Fin 2048) (q : Fin 1024) (i : Fin 2048) (j : Fin 8192) (hi : i.val = 0 + p.val)
    (hj : j.val = t.val / 2 * 1024 + q.val) : iblk2 V c 0 t (ix2 p q) = V c main_v0_1 (ix2 i j) := by
  obtain ⟨e0, e1, -⟩ := idx t
  refine congrArg (V c main_v0_1) (funext fun a => Fin.ext ?_)
  match a with
  | ⟨0, _⟩ => show win2_0.index t 0 * 2048 + 1 * p.val = i.val; omega
  | ⟨1, _⟩ => show win2_0.index t 1 * 1024 + 1 * q.val = j.val; omega

theorem blk1 (t : Fin cfg2.N) (p : Fin 2048) (q : Fin 1024) (i : Fin 2048) (j : Fin 2048) (hi : i.val = 0 + p.val)
    (hj : j.val = t.val % 2 * 1024 + q.val) : iblk2 V c 1 t (ix2 p q) = V c main_arg3 (ix2 i j) := by
  obtain ⟨-, -, e0, e1, -⟩ := idx t
  refine congrArg (V c main_arg3) (funext fun a => Fin.ext ?_)
  match a with
  | ⟨0, _⟩ => show win2_1.index t 0 * 2048 + 1 * p.val = i.val; omega
  | ⟨1, _⟩ => show win2_1.index t 1 * 1024 + 1 * q.val = j.val; omega

theorem out (x0 x1 : Vec Ideal S2048x1024 .bf16) (p q : Fin 1024) :
    out2_2 (F := Ideal) x0 x1 (ix2 p q) = ∑ k : Fin 2048, x0 (ix2 k p) * x1 (ix2 k q) := by
  unfold out2_2
  rw [View.canon_unit_zero z2, View.ld_unit_zero z2, View.ld_unit_zero z2]
  pointwise [k2_pay1]

/-- What point `t` writes at `(p, q)` of its block, in the arrays' own indices. -/
theorem val (t : Fin cfg2.N) (x0 x1 : Vec Ideal S2048x1024 .bf16) (h0 : x0 = iblk2 V c 0 t) (h1 : x1 = iblk2 V c 1 t)
    (p q : Fin 1024) (i : Fin 8192) (j : Fin 2048) (hi : i.val = t.val / 2 * 1024 + p.val) (hj : j.val = t.val % 2 * 1024 + q.val) :
    ∑ k : Fin 2048, x0 (ix2 k p) * x1 (ix2 k q)
      = Tmm (fun k i => V c main_v0_1 (ix2 k i)) (fun k j => V c main_arg3 (ix2 k j)) i j := by
  subst h0 h1
  exact Finset.sum_congr rfl fun k _ => congrArg₂ (fun a b : EReal => a * b) (blk0 V c t k p k i (by omega) hi) (blk1 V c t k q k j (by omega) hj)

/-- The array of `dw2`. -/
def arr : Buf (Elt Ideal) ((c : Thread nD τ).loc main_v2) := fun i =>
  Tmm (fun k i => V c main_v0_1 (ix2 k i)) (fun k j => V c main_arg3 (ix2 k j)) (i 0) (i 1)

theorem flushed (t : Fin cfg2.N) : (dat2 V c).flushed 2 t = ((cfg2.win 2).blk t).view.read (Elt Ideal) (arr V c) := by
  show (cfg2.win 2).cut (grid2.coords t) ((dat2 V c).after 2 t) = _
  rw [after2_2]
  obtain ⟨-, -, -, -, e0, e1⟩ := idx t
  funext y
  have hb0 : (((cfg2.win 2).blk t).view.emb y 0).val = win2_2.index t (0 : Fin 2) * 1024 + 1 * (y 0).val := rfl
  have hb1 : (((cfg2.win 2).blk t).view.emb y 1).val = win2_2.index t (1 : Fin 2) * 1024 + 1 * (y 1).val := rfl
  have hy : (cfg2.win 2).xinj (grid2.coords t) y = ix2 (n0 := 1024) (n1 := 1024) (y 0) (y 1) := by
    funext a
    match a with
    | ⟨0, _⟩ => rfl
    | ⟨1, _⟩ => rfl
  show out2_2 _ _ ((cfg2.win 2).xinj (grid2.coords t) y) = arr V c (((cfg2.win 2).blk t).view.emb y)
  refine (congrArg (out2_2 _ _) hy).trans ((out _ _ _ _).trans ?_)
  exact val V c t _ _ rfl rfl _ _ _ _ (by rw [hb0]; omega) (by rw [hb1]; omega)

theorem mem_blk (t : Fin cfg2.N) (i : S8192x2048.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v2).slice (win2_2.rect t)).set ↔ _
  rw [View.set_slice_whole, Rect.mem_set_unit]
  exact Iff.rfl

/-- The point whose block holds `i`. -/
def pt (i : S8192x2048.Idx) : Fin cfg2.N :=
  ⟨(i 0).val / 1024 * 2 + (i 1).val / 1024, lt_of_lt_of_eq (by
    have h0 : (i 0).val < 8192 := (i 0).isLt
    have h1 : (i 1).val < 2048 := (i 1).isLt
    omega : _ < 16) (by decide)⟩

theorem flush : ∀ t : Fin cfg2.N, (cfg2.win 2).flush t = true := (by decide +kernel : ∀ t : Fin grid2.N, _)

/-- The array after the call. -/
theorem final : (dat2 V c).arrAt 2 cfg2.N = arr V c :=
  (dat2 V c).arrAt_eq_of_cover 2 _ (fun t _ => flushed V c t) fun i => ⟨pt i, flush _, by
    rw [mem_blk]
    have h0 : (i 0).val < 8192 := (i 0).isLt
    have h1 : (i 1).val < 2048 := (i 1).isLt
    have hp : (pt i).val = (i 0).val / 1024 * 2 + (i 1).val / 1024 := rfl
    obtain ⟨-, -, -, -, e0, e1⟩ := idx (pt i)
    intro a
    match a with
    | ⟨0, _⟩ => show win2_2.index (pt i) (0 : Fin 2) * 1024 ≤ (i 0).val ∧ (i 0).val < win2_2.index (pt i) (0 : Fin 2) * 1024 + 1024; omega
    | ⟨1, _⟩ => show win2_2.index (pt i) (1 : Fin 2) * 1024 ≤ (i 1).val ∧ (i 1).val < win2_2.index (pt i) (1 : Fin 2) * 1024 + 1024; omega⟩

end Cert.Kernel2Ideal.W2Grad
-- ==== Proof.MlpW1Grad.lean ====
module

public import proofs.«01_k».proof.Proof.MlpUp

/-! The gradient of the first weight: `dw1 = hᵀ dz`. -/

@[expose] public section

set_option maxRecDepth 16384

noncomputable section

namespace Cert.Kernel2Ideal.W1Grad

open Idealize.ShloMosaic Idealize.ShloMosaic.TcCoe Idealize.SL.Sem
open Cert.Kernel2Ideal Cert.Kernel2Ideal.Gen Cert.Mlp
open Cert.Kernel2Ideal.Up (z2)

variable (V : (c : Dev nD) → (b : Ref sig .tc) → Buf (Elt Ideal) ((c : Thread nD τ).loc b)) (c : Dev nD)

/-- Where the blocks of point `t` lie. -/
theorem idx : ∀ t : Fin cfg3.N, win3_0.index t 0 = 0 ∧ win3_0.index t 1 = t.val / 8 ∧ win3_1.index t 0 = 0 ∧ win3_1.index t 1 = t.val % 8
    ∧ win3_2.index t 0 = t.val / 8 ∧ win3_2.index t 1 = t.val % 8 :=
  (by decide +kernel : ∀ t : Fin grid3.N, _)

theorem blk0 (t : Fin cfg3.N) (p : Fin 2048) (q : Fin 1024) (i : Fin 2048) (j : Fin 2048) (hi : i.val = 0 + p.val)
    (hj : j.val = t.val / 8 * 1024 + q.val) : iblk3 V c 0 t (ix2 p q) = V c main_arg0 (ix2 i j) := by
  obtain ⟨e0, e1, -⟩ := idx t
  refine congrArg (V c main_arg0) (funext fun a => Fin.ext ?_)
  match a with
  | ⟨0, _⟩ => show win3_0.index t 0 * 2048 + 1 * p.val = i.val; omega
  | ⟨1, _⟩ => show win3_0.index t 1 * 1024 + 1 * q.val = j.val; omega

theorem blk1 (t : Fin cfg3.N) (p : Fin 2048) (q : Fin 1024) (i : Fin 2048) (j : Fin 8192) (hi : i.val = 0 + p.val)
    (hj : j.val = t.val % 8 * 1024 + q.val) : iblk3 V c 1 t (ix2 p q) = V c main_v1 (ix2 i j) := by
  obtain ⟨-, -, e0, e1, -⟩ := idx t
  refine congrArg (V c main_v1) (funext fun a => Fin.ext ?_)
  match a with
  | ⟨0, _⟩ => show win3_1.index t 0 * 2048 + 1 * p.val = i.val; omega
  | ⟨1, _⟩ => show win3_1.index t 1 * 1024 + 1 * q.val = j.val; omega

theorem out (x0 x1 : Vec Ideal S2048x1024 .bf16) (p q : Fin 1024) :
    out3_2 (F := Ideal) x0 x1 (ix2 p q) = ∑ k : Fin 2048, x0 (ix2 k p) * x1 (ix2 k q) := by
  unfold out3_2
  rw [View.canon_unit_zero z2, View.ld_unit_zero z2, View.ld_unit_zero z2]
  pointwise [k3_pay1]

/-- What point `t` writes at `(p, q)` of its block, in the arrays' own indices. -/
theorem val (t : Fin cfg3.N) (x0 x1 : Vec Ideal S2048x1024 .bf16) (h0 : x0 = iblk3 V c 0 t) (h1 : x1 = iblk3 V c 1 t)
    (p q : Fin 1024) (i : Fin 2048) (j : Fin 8192) (hi : i.val = t.val / 8 * 1024 + p.val) (hj : j.val = t.val % 8 * 1024 + q.val) :
    ∑ k : Fin 2048, x0 (ix2 k p) * x1 (ix2 k q)
      = Tmm (fun k i => V c main_arg0 (ix2 k i)) (fun k j => V c main_v1 (ix2 k j)) i j := by
  subst h0 h1
  exact Finset.sum_congr rfl fun k _ => congrArg₂ (fun a b : EReal => a * b) (blk0 V c t k p k i (by omega) hi) (blk1 V c t k q k j (by omega) hj)

/-- The array of `dw1`. -/
def arr : Buf (Elt Ideal) ((c : Thread nD τ).loc main_v3) := fun i =>
  Tmm (fun k i => V c main_arg0 (ix2 k i)) (fun k j => V c main_v1 (ix2 k j)) (i 0) (i 1)

theorem flushed (t : Fin cfg3.N) : (dat3 V c).flushed 2 t = ((cfg3.win 2).blk t).view.read (Elt Ideal) (arr V c) := by
  show (cfg3.win 2).cut (grid3.coords t) ((dat3 V c).after 2 t) = _
  rw [after3_2]
  obtain ⟨-, -, -, -, e0, e1⟩ := idx t
  funext y
  have hb0 : (((cfg3.win 2).blk t).view.emb y 0).val = win3_2.index t (0 : Fin 2) * 1024 + 1 * (y 0).val := rfl
  have hb1 : (((cfg3.win 2).blk t).view.emb y 1).val = win3_2.index t (1 : Fin 2) * 1024 + 1 * (y 1).val := rfl
  have hy : (cfg3.win 2).xinj (grid3.coords t) y = ix2 (n0 := 1024) (n1 := 1024) (y 0) (y 1) := by
    funext a
    match a with
    | ⟨0, _⟩ => rfl
    | ⟨1, _⟩ => rfl
  show out3_2 _ _ ((cfg3.win 2).xinj (grid3.coords t) y) = arr V c (((cfg3.win 2).blk t).view.emb y)
  refine (congrArg (out3_2 _ _) hy).trans ((out _ _ _ _).trans ?_)
  exact val V c t _ _ rfl rfl _ _ _ _ (by rw [hb0]; omega) (by rw [hb1]; omega)

theorem mem_blk (t : Fin cfg3.N) (i : S2048x8192.Idx) :
    i ∈ ((cfg3.win 2).blk t).view.set ↔ ∀ a : Fin 2, win3_2.index t a * S1024x1024.size a ≤ (i a).val
      ∧ (i a).val < win3_2.index t a * S1024x1024.size a + S1024x1024.size a := by
  show i ∈ ((View.whole main_v3).slice (win3_2.rect t)).set ↔ _
  rw [View.set_slice_whole, Rect.mem_set_unit]
  exact Iff.rfl

/-- The point whose block holds `i`. -/
def pt (i : S2048x8192.Idx) : Fin cfg3.N :=
  ⟨(i 0).val / 1024 * 8 + (i 1).val / 1024, lt_of_lt_of_eq (by
    have h0 : (i 0).val < 2048 := (i 0).isLt
    have h1 : (i 1).val < 8192 := (i 1).isLt
    omega : _ < 16) (by decide)⟩

theorem flush : ∀ t : Fin cfg3.N, (cfg3.win 2).flush t = true := (by decide +kernel : ∀ t : Fin grid3.N, _)

/-- The array after the call. -/
theorem final : (dat3 V c).arrAt 2 cfg3.N = arr V c :=
  (dat3 V c).arrAt_eq_of_cover 2 _ (fun t _ => flushed V c t) fun i => ⟨pt i, flush _, by
    rw [mem_blk]
    have h0 : (i 0).val < 2048 := (i 0).isLt
    have h1 : (i 1).val < 8192 := (i 1).isLt
    have hp : (pt i).val = (i 0).val / 1024 * 8 + (i 1).val / 1024 := rfl
    obtain ⟨-, -, -, -, e0, e1⟩ := idx (pt i)
    intro a
    match a with
    | ⟨0, _⟩ => show win3_2.index (pt i) (0 : Fin 2) * 1024 ≤ (i 0).val ∧ (i 0).val < win3_2.index (pt i) (0 : Fin 2) * 1024 + 1024; omega
    | ⟨1, _⟩ => show win3_2.index (pt i) (1 : Fin 2) * 1024 ≤ (i 1).val ∧ (i 1).val < win3_2.index (pt i) (1 : Fin 2) * 1024 + 1024; omega⟩

end Cert.Kernel2Ideal.W1Grad
-- ==== Proof.MlpRun.lean ====
module

public import proofs.«01_k».proof.Proof.MlpDownBwd
public import proofs.«01_k».proof.Proof.MlpW2Grad
public import proofs.«01_k».proof.Proof.MlpW1Grad

/-! The four products of the MLP's gradient one after the other: what the results hold at the end. -/

@[expose] public section

set_option maxRecDepth 16384

noncomputable section

namespace Cert.Kernel2Ideal.MlpRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable (m : (ℓ : Loc nD τ sig) → Buf (Elt Ideal) ℓ) (ρ : Dev nD → PrngReg) (c : Dev nD)

/-- The operands. -/
abbrev H : Fin 2048 → Fin 2048 → EReal := fun i k => m ((c : Thread nD τ).loc main_arg0) (ix2 i k)
abbrev A1 : Fin 2048 → Fin 8192 → EReal := fun k j => m ((c : Thread nD τ).loc main_arg1) (ix2 k j)
abbrev A2 : Fin 8192 → Fin 2048 → EReal := fun j k => m ((c : Thread nD τ).loc main_arg2) (ix2 j k)
abbrev DY : Fin 2048 → Fin 2048 → EReal := fun i k => m ((c : Thread nD τ).loc main_arg3) (ix2 i k)

theorem z_eq (i : Fin 2048) (j : Fin 8192) : V1 m ρ c main_v0_0 (ix2 i j) = Mlp.mm (H m c) (A1 m c) i j :=
  congrFun ((W1_arr m ρ c 2).trans (Up.final2 (V0 m ρ) c)) (ix2 i j)

theorem u_eq1 (i : Fin 2048) (j : Fin 8192) : V1 m ρ c main_v0_1 (ix2 i j) = Mlp.u (H m c) (A1 m c) i j :=
  congrFun ((W1_arr m ρ c 3).trans (Up.final3 (V0 m ρ) c)) (ix2 i j)

theorem u_kept2 : V2 m ρ c main_v0_1 = V1 m ρ c main_v0_1 := W2_of m ρ c main_v0_1 (by decide)

theorem u_kept : W4 m ρ c (Proc.devRef .tc main_v0_1) = V1 m ρ c main_v0_1 :=
  (W4_of m ρ c main_v0_1 (by decide)).trans ((W3_of m ρ c main_v0_1 (by decide)).trans (u_kept2 m ρ c))

theorem u_eq (i : Fin 2048) (j : Fin 8192) : W4 m ρ c (Proc.devRef .tc main_v0_1) (ix2 i j) = Mlp.u (H m c) (A1 m c) i j :=
  (congrFun (u_kept m ρ c) (ix2 i j)).trans (u_eq1 m ρ c i j)

theorem dz_eq2 (i : Fin 2048) (j : Fin 8192) :
    V2 m ρ c main_v1 (ix2 i j) = Mlp.dz (H m c) (DY m c) (A1 m c) (A2 m c) i j := by
  refine (congrFun ((W2_arr m ρ c 3).trans (DownBwd.final (V1 m ρ) c)) (ix2 i j)).trans ?_
  have e3 : V1 m ρ c main_arg3 = m ((c : Thread nD τ).loc main_arg3) := W1_args m ρ c main_arg3 (by decide)
  have e2 : V1 m ρ c main_arg2 = m ((c : Thread nD τ).loc main_arg2) := W1_args m ρ c main_arg2 (by decide)
  show Mlp.gate (Mlp.mmT (fun i k => V1 m ρ c main_arg3 (ix2 i k)) (fun j k => V1 m ρ c main_arg2 (ix2 j k)) i j) (V1 m ρ c main_v0_0 (ix2 i j)) = _
  rw [e3, e2]
  exact congrArg (Mlp.gate _) (z_eq m ρ c i j)

theorem dz_kept3 : V3 m ρ c main_v1 = V2 m ρ c main_v1 := W3_of m ρ c main_v1 (by decide)

theorem dz_kept : W4 m ρ c (Proc.devRef .tc main_v1) = V2 m ρ c main_v1 :=
  (W4_of m ρ c main_v1 (by decide)).trans (dz_kept3 m ρ c)

theorem dz_eq (i : Fin 2048) (j : Fin 8192) :
    W4 m ρ c (Proc.devRef .tc main_v1) (ix2 i j) = Mlp.dz (H m c) (DY m c) (A1 m c) (A2 m c) i j :=
  (congrFun (dz_kept m ρ c) (ix2 i j)).trans (dz_eq2 m ρ c i j)

theorem dw2_eq (i : Fin 8192) (j : Fin 2048) :
    W4 m ρ c (Proc.devRef .tc main_v2) (ix2 i j) = Mlp.dw2 (H m c) (DY m c) (A1 m c) i j := by
  refine (congrFun ((W4_of m ρ c main_v2 (by decide)).trans ((W3_arr m ρ c 2).trans (W2Grad.final (V2 m ρ) c))) (ix2 i j)).trans ?_
  have e3 : V2 m ρ c main_arg3 = m ((c : Thread nD τ).loc main_arg3) := W2_args m ρ c main_arg3 (by decide)
  show Mlp.Tmm (fun k i => V2 m ρ c main_v0_1 (ix2 k i)) (fun k j => V2 m ρ c main_arg3 (ix2 k j)) i j = _
  rw [e3, u_kept2]
  exact congrArg (fun f => Mlp.Tmm f (DY m c) i j) (funext fun k => funext fun i => u_eq1 m ρ c k i)

theorem dw1_eq (i : Fin 2048) (j : Fin 8192) :
    W4 m ρ c (Proc.devRef .tc main_v3) (ix2 i j) = Mlp.dw1 (H m c) (DY m c) (A1 m c) (A2 m c) i j := by
  refine (congrFun ((W4_arr m ρ c 2).trans (W1Grad.final (V3 m ρ) c)) (ix2 i j)).trans ?_
  have e0 : V3 m ρ c main_arg0 = m ((c : Thread nD τ).loc main_arg0) := W3_args m ρ c main_arg0 (by decide)
  show Mlp.Tmm (fun k i => V3 m ρ c main_arg0 (ix2 k i)) (fun k j => V3 m ρ c main_v1 (ix2 k j)) i j = _
  rw [e0, dz_kept3]
  exact congrArg (fun f => Mlp.Tmm (H m c) f i j) (funext fun k => funext fun j => dz_eq2 m ρ c k j)

set_option backward.isDefEq.respectTransparency.types false in
/-- The run: every array the program names ends at the last segment's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Kernel2Ideal.MlpRun
-- ==== Proof.MlpUpBwd.lean ====
module

public import proofs.«01_k».proof.Proof.Gen.Kernel3Ideal.Value
public import proofs.«01_k».proof.Proof.Mlp
public import Idealize.ShloMosaic.Lib.Pointwise

/-! The gradient through the first product of the MLP: `dz w1ᵀ`, the 8192 columns summed in four blocks. -/

@[expose] public section

set_option maxRecDepth 16384

noncomputable section

namespace Cert.Kernel3Ideal.UpBwd

open Idealize.ShloMosaic Idealize.ShloMosaic.TcCoe Idealize.SL.Sem
open Cert.Kernel3Ideal Cert.Kernel3Ideal.Gen Cert.Kernel3Ideal.Value Cert.Mlp

theorem z2 : (![0, 0] : Fin 2 → Nat) = fun _ => 0 := funext fun a => by fin_cases a <;> rfl

/-- The product of two blocks at `(p, q)`. -/
def dot (x0 : Vec Ideal S1024x2048 .bf16) (x1 : Vec Ideal S1024x2048 .bf16) (p q : Fin 1024) : EReal :=
  ∑ k : Fin 2048, x0 (ix2 p k) * x1 (ix2 q k)

section
variable (c : Dev nD) (i : grid0.Coords) (arg3 : Memref sig .tc .vmem S1024x2048 .bf16) (harg3 : arg3.IsWhole)
  (arg4 : Memref sig .tc .vmem S1024x2048 .bf16) (harg4 : arg4.IsWhole) (arg5 : Memref sig .tc .vmem S1024x1024 .f32) (harg5 : arg5.IsWhole)
  (arg6 : Memref sig .tc .vmem S1024x1024 .f32) (harg6 : arg6.IsWhole)
  (x0 : Vec Ideal S1024x2048 .bf16) (x1 : Vec Ideal S1024x2048 .bf16) (xs : Vec Ideal S1024x1024 .f32)
  (p q : Fin 1024)

/-- The first block's product is stored into the scratch. -/
theorem first (hc0 : cond0_0 i) (hc1 : ¬cond0_1 i) (hc2 : ¬cond0_2 i) :
    sout0_A_0 (F := Ideal) c i arg3 harg3 arg4 harg4 arg5 harg5 arg6 harg6 hc0 hc1 hc2 x0 x1 (ix2 p q) = dot x0 x1 p q := by
  unfold sout0_A_0
  rw [View.read_writes_junk_eq_canon]
  unfold kernelRun0_A
  dsimp only
  rw [View.canon_unit_zero z2]
  simp only [View.readAt_eq_ld, harg3.read_unread, harg4.read_unread]
  rw [View.ld_unit_zero z2, View.ld_unit_zero z2]
  pointwise [k0_pay1, dot]

/-- The next blocks' products are added to it. -/
theorem next (hc0 : ¬cond0_0 i) (hc1 : cond0_1 i) (hc2 : ¬cond0_2 i) :
    sout0_B_0 (F := Ideal) c i arg3 harg3 arg4 harg4 arg5 harg5 arg6 harg6 hc0 hc1 hc2 x0 x1 xs (ix2 p q) = xs (ix2 p q) + dot x0 x1 p q := by
  unfold sout0_B_0
  rw [View.read_writes_junk_eq_canon]
  unfold kernelRun0_B
  dsimp only
  rw [View.canon_unit_zero z2]
  simp only [View.readAt_eq_ld, harg3.read_unread, harg4.read_unread, harg6.read_unread]
  rw [View.ld_unit_zero z2, View.ld_unit_zero z2, View.ld_unit_zero z2]
  pointwise [k0_pay2, dot]

/-- The last block's product is added and the sum written out. -/
theorem last (hc0 : ¬cond0_0 i) (hc1 : ¬cond0_1 i) (hc2 : cond0_2 i) :
    out0_C_2 (F := Ideal) c i arg3 harg3 arg4 harg4 arg5 harg5 arg6 harg6 hc0 hc1 hc2 x0 x1 xs (ix2 p q) = xs (ix2 p q) + dot x0 x1 p q := by
  unfold out0_C_2
  rw [View.read_writes_junk_eq_canon]
  unfold kernelRun0_C
  dsimp only
  rw [View.canon_unit_zero z2]
  simp only [View.readAt_eq_ld, harg3.read_unread, harg4.read_unread, harg6.read_unread]
  rw [View.ld_unit_zero z2, View.ld_unit_zero z2, View.ld_unit_zero z2]
  pointwise [k0_pay3, dot]

end

variable (m : (ℓ : Loc nD τ sig) → Buf (Elt Ideal) ℓ) (ρ : Dev nD → PrngReg) (c : Dev nD)

/-- The operands. -/
abbrev DZ : Fin 2048 → Fin 8192 → EReal := fun i k => m ((c : Thread nD τ).loc main_arg0) (ix2 i k)
abbrev A1 : Fin 2048 → Fin 8192 → EReal := fun j k => m ((c : Thread nD τ).loc main_arg1) (ix2 j k)

/-- Where the blocks of point `t` lie. -/
theorem idx : ∀ t : Fin cfg0.N, win0_0.index t 0 = t.val / 8 ∧ win0_0.index t 1 = t.val % 4 ∧ win0_1.index t 0 = t.val / 4 % 2 ∧ win0_1.index t 1 = t.val % 4
    ∧ win0_2.index t 0 = t.val / 8 ∧ win0_2.index t 1 = t.val / 4 % 2 :=
  (by decide +kernel : ∀ t : Fin grid0.N, _)

theorem blk0 (t : Fin cfg0.N) (p : Fin 1024) (k : Fin 2048) (i : Fin 2048) (k' : Fin 8192) (hi : i.val = t.val / 8 * 1024 + p.val)
    (hk : k'.val = t.val % 4 * 2048 + k.val) : iblk m c 0 t (ix2 p k) = m ((c : Thread nD τ).loc main_arg0) (ix2 i k') := by
  obtain ⟨e0, e1, -⟩ := idx t
  refine congrArg (m ((c : Thread nD τ).loc main_arg0)) (funext fun a => Fin.ext ?_)
  match a with
  | ⟨0, _⟩ => show win0_0.index t 0 * 1024 + 1 * p.val = i.val; omega
  | ⟨1, _⟩ => show win0_0.index t 1 * 2048 + 1 * k.val = k'.val; omega

theorem blk1 (t : Fin cfg0.N) (q : Fin 1024) (k : Fin 2048) (j : Fin 2048) (k' : Fin 8192) (hj : j.val = t.val / 4 % 2 * 1024 + q.val)
    (hk : k'.val = t.val % 4 * 2048 + k.val) : iblk m c 1 t (ix2 q k) = m ((c : Thread nD τ).loc main_arg1) (ix2 j k') := by
  obtain ⟨-, -, e0, e1, -⟩ := idx t
  refine congrArg (m ((c : Thread nD τ).loc main_arg1)) (funext fun a => Fin.ext ?_)
  match a with
  | ⟨0, _⟩ => show win0_1.index t 0 * 1024 + 1 * q.val = j.val; omega
  | ⟨1, _⟩ => show win0_1.index t 1 * 2048 + 1 * k.val = k'.val; omega

/-- The product of point `t`'s blocks is one block of the sum at `(i, j)`. -/
theorem dot_blk (t : Fin cfg0.N) (b : ℕ) (hb : b < 4) (p q : Fin 1024) (i j : Fin 2048) (ht : t.val % 4 = b) (hi : i.val = t.val / 8 * 1024 + p.val)
    (hj : j.val = t.val / 4 % 2 * 1024 + q.val) : dot (iblk m c 0 t) (iblk m c 1 t) p q = block (fun k => DZ m c i k * A1 m c j k) b hb :=
  Finset.sum_congr rfl fun k _ => congrArg₂ (fun a b : EReal => a * b)
    (blk0 m c t p k i _ hi (by rw [ht])) (blk1 m c t q k j _ hj (by rw [ht]))

theorem scr_first (t : Fin cfg0.N) (h : t.val % 4 = 0) (p q : Fin 1024) :
    (outsAt0 m c t.val t.isLt).2 (ix2 p q) = dot (iblk m c 0 t) (iblk m c 1 t) p q := by
  rw [outsAt0_A m c t h (by omega) (by omega)]
  dsimp only
  rw [first]

theorem scr_next (t s : Fin cfg0.N) (hs : s.val + 1 = t.val) (h : 1 ≤ t.val % 4 ∧ t.val % 4 ≤ 2) (p q : Fin 1024) :
    (outsAt0 m c t.val t.isLt).2 (ix2 p q) = (outsAt0 m c s.val s.isLt).2 (ix2 p q) + dot (iblk m c 0 t) (iblk m c 1 t) p q := by
  obtain rfl : s = ⟨t.val - 1, Nat.lt_of_le_of_lt (Nat.sub_le _ _) t.isLt⟩ := Fin.ext (by show s.val = t.val - 1; omega)
  rw [outsAt0_B m c t (by omega) h (by omega)]
  dsimp only
  rw [next]

theorem out_last (t s : Fin cfg0.N) (hs : s.val + 1 = t.val) (h : t.val % 4 = 3) (p q : Fin 1024) :
    (outsAt0 m c t.val t.isLt).1 (ix2 p q) = (outsAt0 m c s.val s.isLt).2 (ix2 p q) + dot (iblk m c 0 t) (iblk m c 1 t) p q := by
  obtain rfl : s = ⟨t.val - 1, Nat.lt_of_le_of_lt (Nat.sub_le _ _) t.isLt⟩ := Fin.ext (by show s.val = t.val - 1; omega)
  rw [outsAt0_C m c t (by omega) (by omega) h]
  dsimp only
  rw [last]

/-- What the last of four points writes. -/
theorem out_val (t : Fin cfg0.N) (h : t.val % 4 = 3) (p q : Fin 1024) (i j : Fin 2048) (hi : i.val = t.val / 8 * 1024 + p.val)
    (hj : j.val = t.val / 4 % 2 * 1024 + q.val) : (outsAt0 m c t.val t.isLt).1 (ix2 p q) = mmT (DZ m c) (A1 m c) i j := by
  let s2 : Fin cfg0.N := ⟨t.val - 1, by omega⟩
  let s1 : Fin cfg0.N := ⟨t.val - 2, by omega⟩
  let s0 : Fin cfg0.N := ⟨t.val - 3, by omega⟩
  have v2 : s2.val = t.val - 1 := rfl
  have v1 : s1.val = t.val - 2 := rfl
  have v0 : s0.val = t.val - 3 := rfl
  have d3 := dot_blk m c t 3 (by decide) p q i j h hi hj
  have d2 := dot_blk m c s2 2 (by decide) p q i j (by omega) (by omega) (by omega)
  have d1 := dot_blk m c s1 1 (by decide) p q i j (by omega) (by omega) (by omega)
  have d0 := dot_blk m c s0 0 (by decide) p q i j (by omega) (by omega) (by omega)
  have e := (((scr_next m c s2 s1 (by omega) (by omega) p q).trans (congrArg (fun e : EReal => e + _)
    ((scr_next m c s1 s0 (by omega) (by omega) p q).trans (congrArg (fun e : EReal => e + _) (scr_first m c s0 (by omega) p q))))))
  rw [d0, d1, d2] at e
  refine (out_last m c t s2 (by omega) h p q).trans ?_
  rw [e, d3]
  exact (sum_blocks _).symm

/-- The result. -/
def arr : Buf (Elt Ideal) ((c : Thread nD τ).loc main_v0) := fun i => mmT (DZ m c) (A1 m c) (i 0) (i 1)

theorem flushed (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2]
  obtain ⟨-, -, -, -, e0, e1⟩ := idx t
  funext y
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  have hy : (cfg0.win 2).xinj (grid0.coords t) y = ix2 (n0 := 1024) (n1 := 1024) (y 0) (y 1) := by
    funext a
    match a with
    | ⟨0, _⟩ => rfl
    | ⟨1, _⟩ => rfl
  show (outsAt0 m c t.val t.isLt).1 ((cfg0.win 2).xinj (grid0.coords t) y) = arr m c (((cfg0.win 2).blk t).view.emb y)
  exact (congrArg (outsAt0 m c t.val t.isLt).1 hy).trans
    (out_val m c t ((flush0_2 t).mp hf) _ _ _ _ (by rw [hb0]; omega) (by rw [hb1]; omega))

theorem final : (dats m 0 c).arrAt 2 cfg0.N = arr m c :=
  (dats m 0 c).arrAt_eq_of_cover 2 _ (fun t hf => flushed m c t hf) fun i => (covered_iff2 i).2 (by
    have h0 : (i 0).val < 2048 := (i 0).isLt
    have h1 : (i 1).val < 2048 := (i 1).isLt
    omega)

end Cert.Kernel3Ideal.UpBwd
-- ==== Proof.MlpDown.lean ====
module

public import proofs.«01_k».proof.Proof.Gen.Kernel4Ideal.Value
public import proofs.«01_k».proof.Proof.Mlp
public import Idealize.ShloMosaic.Lib.Pointwise

/-! The second product of the MLP and the residual: `u w2 + x`, the 8192 columns summed in four blocks. -/

@[expose] public section

set_option maxRecDepth 16384

noncomputable section

namespace Cert.Kernel4Ideal.Down

open Idealize.ShloMosaic Idealize.ShloMosaic.TcCoe Idealize.SL.Sem
open Cert.Kernel4Ideal Cert.Kernel4Ideal.Gen Cert.Kernel4Ideal.Value Cert.Mlp

theorem z2 : (![0, 0] : Fin 2 → Nat) = fun _ => 0 := funext fun a => by fin_cases a <;> rfl

/-- The product of two blocks at `(p, q)`. -/
def dot (x0 : Vec Ideal S1024x2048 .bf16) (x1 : Vec Ideal S2048x1024 .bf16) (p q : Fin 1024) : EReal :=
  ∑ k : Fin 2048, x0 (ix2 p k) * x1 (ix2 k q)

section
variable (c : Dev nD) (i : grid0.Coords) (arg3 : Memref sig .tc .vmem S1024x2048 .bf16) (harg3 : arg3.IsWhole)
  (arg4 : Memref sig .tc .vmem S2048x1024 .bf16) (harg4 : arg4.IsWhole) (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (x0 : Vec Ideal S1024x2048 .bf16) (x1 : Vec Ideal S2048x1024 .bf16) (x2 : Vec Ideal S1024x1024 .f32) (xs : Vec Ideal S1024x1024 .f32)
  (p q : Fin 1024)

/-- The first block's product is stored into the scratch. -/
theorem first (hc0 : cond0_0 i) (hc1 : ¬cond0_1 i) (hc2 : ¬cond0_2 i) :
    sout0_A_0 (F := Ideal) c i arg3 harg3 arg4 harg4 arg5 harg5 arg6 harg6 arg7 harg7 hc0 hc1 hc2 x0 x1 x2 (ix2 p q) = dot x0 x1 p q := by
  unfold sout0_A_0
  rw [View.read_writes_junk_eq_canon]
  unfold kernelRun0_A
  dsimp only
  rw [View.canon_unit_zero z2]
  simp only [View.readAt_eq_ld, harg3.read_unread, harg4.read_unread]
  rw [View.ld_unit_zero z2, View.ld_unit_zero z2]
  pointwise [k0_pay1, dot]

/-- The next blocks' products are added to it. -/
theorem next (hc0 : ¬cond0_0 i) (hc1 : cond0_1 i) (hc2 : ¬cond0_2 i) :
    sout0_B_0 (F := Ideal) c i arg3 harg3 arg4 harg4 arg5 harg5 arg6 harg6 arg7 harg7 hc0 hc1 hc2 x0 x1 x2 xs (ix2 p q) = xs (ix2 p q) + dot x0 x1 p q := by
  unfold sout0_B_0
  rw [View.read_writes_junk_eq_canon]
  unfold kernelRun0_B
  dsimp only
  rw [View.canon_unit_zero z2]
  simp only [View.readAt_eq_ld, harg3.read_unread, harg4.read_unread, harg7.read_unread]
  rw [View.ld_unit_zero z2, View.ld_unit_zero z2, View.ld_unit_zero z2]
  pointwise [k0_pay2, dot]

/-- The last block's product is added and the sum written out. -/
theorem last (hc0 : ¬cond0_0 i) (hc1 : ¬cond0_1 i) (hc2 : cond0_2 i) :
    out0_C_3 (F := Ideal) c i arg3 harg3 arg4 harg4 arg5 harg5 arg6 harg6 arg7 harg7 hc0 hc1 hc2 x0 x1 x2 xs (ix2 p q) = xs (ix2 p q) + dot x0 x1 p q + x2 (ix2 p q) := by
  unfold out0_C_3
  rw [View.read_writes_junk_eq_canon]
  unfold kernelRun0_C
  dsimp only
  rw [View.canon_unit_zero z2]
  simp only [View.readAt_eq_ld, harg3.read_unread, harg4.read_unread, harg7.read_unread, harg5.read_unread]
  rw [View.ld_unit_zero z2, View.ld_unit_zero z2, View.ld_unit_zero z2, View.ld_unit_zero z2]
  pointwise [k0_pay3, dot]

end

variable (m : (ℓ : Loc nD τ sig) → Buf (Elt Ideal) ℓ) (ρ : Dev nD → PrngReg) (c : Dev nD)

/-- The operands. -/
abbrev U : Fin 2048 → Fin 8192 → EReal := fun i k => m ((c : Thread nD τ).loc main_arg0) (ix2 i k)
abbrev A2 : Fin 8192 → Fin 2048 → EReal := fun k j => m ((c : Thread nD τ).loc main_arg1) (ix2 k j)
abbrev X : Fin 2048 → Fin 2048 → EReal := fun i j => m ((c : Thread nD τ).loc main_arg2) (ix2 i j)

/-- Where the blocks of point `t` lie. -/
theorem idx : ∀ t : Fin cfg0.N, win0_0.index t 0 = t.val / 8 ∧ win0_0.index t 1 = t.val % 4 ∧ win0_1.index t 0 = t.val % 4 ∧ win0_1.index t 1 = t.val / 4 % 2
    ∧ win0_2.index t 0 = t.val / 8 ∧ win0_2.index t 1 = t.val / 4 % 2 ∧ win0_3.index t 0 = t.val / 8 ∧ win0_3.index t 1 = t.val / 4 % 2 :=
  (by decide +kernel : ∀ t : Fin grid0.N, _)

theorem blk0 (t : Fin cfg0.N) (p : Fin 1024) (k : Fin 2048) (i : Fin 2048) (k' : Fin 8192) (hi : i.val = t.val / 8 * 1024 + p.val)
    (hk : k'.val = t.val % 4 * 2048 + k.val) : iblk m c 0 t (ix2 p k) = m ((c : Thread nD τ).loc main_arg0) (ix2 i k') := by
  obtain ⟨e0, e1, -⟩ := idx t
  refine congrArg (m ((c : Thread nD τ).loc main_arg0)) (funext fun a => Fin.ext ?_)
  match a with
  | ⟨0, _⟩ => show win0_0.index t 0 * 1024 + 1 * p.val = i.val; omega
  | ⟨1, _⟩ => show win0_0.index t 1 * 2048 + 1 * k.val = k'.val; omega

theorem blk1 (t : Fin cfg0.N) (q : Fin 1024) (k : Fin 2048) (j : Fin 2048) (k' : Fin 8192) (hj : j.val = t.val / 4 % 2 * 1024 + q.val)
    (hk : k'.val = t.val % 4 * 2048 + k.val) : iblk m c 1 t (ix2 k q) = m ((c : Thread nD τ).loc main_arg1) (ix2 k' j) := by
  obtain ⟨-, -, e0, e1, -⟩ := idx t
  refine congrArg (m ((c : Thread nD τ).loc main_arg1)) (funext fun a => Fin.ext ?_)
  match a with
  | ⟨0, _⟩ => show win0_1.index t 0 * 2048 + 1 * k.val = k'.val; omega
  | ⟨1, _⟩ => show win0_1.index t 1 * 1024 + 1 * q.val = j.val; omega

theorem blk2 (t : Fin cfg0.N) (p q : Fin 1024) (i j : Fin 2048) (hi : i.val = t.val / 8 * 1024 + p.val)
    (hj : j.val = t.val / 4 % 2 * 1024 + q.val) : iblk m c 2 t (ix2 p q) = m ((c : Thread nD τ).loc main_arg2) (ix2 i j) := by
  obtain ⟨-, -, -, -, e0, e1, -⟩ := idx t
  refine congrArg (m ((c : Thread nD τ).loc main_arg2)) (funext fun a => Fin.ext ?_)
  match a with
  | ⟨0, _⟩ => show win0_2.index t 0 * 1024 + 1 * p.val = i.val; omega
  | ⟨1, _⟩ => show win0_2.index t 1 * 1024 + 1 * q.val = j.val; omega

/-- The product of point `t`'s blocks is one block of the sum at `(i, j)`. -/
theorem dot_blk (t : Fin cfg0.N) (b : ℕ) (hb : b < 4) (p q : Fin 1024) (i j : Fin 2048) (ht : t.val % 4 = b) (hi : i.val = t.val / 8 * 1024 + p.val)
    (hj : j.val = t.val / 4 % 2 * 1024 + q.val) : dot (iblk m c 0 t) (iblk m c 1 t) p q = block (fun k => U m c i k * A2 m c k j) b hb :=
  Finset.sum_congr rfl fun k _ => congrArg₂ (fun a b : EReal => a * b)
    (blk0 m c t p k i _ hi (by rw [ht])) (blk1 m c t q k j _ hj (by rw [ht]))

theorem scr_first (t : Fin cfg0.N) (h : t.val % 4 = 0) (p q : Fin 1024) :
    (outsAt0 m c t.val t.isLt).2 (ix2 p q) = dot (iblk m c 0 t) (iblk m c 1 t) p q := by
  rw [outsAt0_A m c t h (by omega) (by omega)]
  dsimp only
  rw [first]

theorem scr_next (t s : Fin cfg0.N) (hs : s.val + 1 = t.val) (h : 1 ≤ t.val % 4 ∧ t.val % 4 ≤ 2) (p q : Fin 1024) :
    (outsAt0 m c t.val t.isLt).2 (ix2 p q) = (outsAt0 m c s.val s.isLt).2 (ix2 p q) + dot (iblk m c 0 t) (iblk m c 1 t) p q := by
  obtain rfl : s = ⟨t.val - 1, Nat.lt_of_le_of_lt (Nat.sub_le _ _) t.isLt⟩ := Fin.ext (by show s.val = t.val - 1; omega)
  rw [outsAt0_B m c t (by omega) h (by omega)]
  dsimp only
  rw [next]

theorem out_last (t s : Fin cfg0.N) (hs : s.val + 1 = t.val) (h : t.val % 4 = 3) (p q : Fin 1024) :
    (outsAt0 m c t.val t.isLt).1 (ix2 p q) = (outsAt0 m c s.val s.isLt).2 (ix2 p q) + dot (iblk m c 0 t) (iblk m c 1 t) p q + iblk m c 2 t (ix2 p q) := by
  obtain rfl : s = ⟨t.val - 1, Nat.lt_of_le_of_lt (Nat.sub_le _ _) t.isLt⟩ := Fin.ext (by show s.val = t.val - 1; omega)
  rw [outsAt0_C m c t (by omega) (by omega) h]
  dsimp only
  rw [last]

/-- What the last of four points writes. -/
theorem out_val (t : Fin cfg0.N) (h : t.val % 4 = 3) (p q : Fin 1024) (i j : Fin 2048) (hi : i.val = t.val / 8 * 1024 + p.val)
    (hj : j.val = t.val / 4 % 2 * 1024 + q.val) : (outsAt0 m c t.val t.isLt).1 (ix2 p q) = mm (U m c) (A2 m c) i j + X m c i j := by
  let s2 : Fin cfg0.N := ⟨t.val - 1, by omega⟩
  let s1 : Fin cfg0.N := ⟨t.val - 2, by omega⟩
  let s0 : Fin cfg0.N := ⟨t.val - 3, by omega⟩
  have v2 : s2.val = t.val - 1 := rfl
  have v1 : s1.val = t.val - 2 := rfl
  have v0 : s0.val = t.val - 3 := rfl
  have d3 := dot_blk m c t 3 (by decide) p q i j h hi hj
  have d2 := dot_blk m c s2 2 (by decide) p q i j (by omega) (by omega) (by omega)
  have d1 := dot_blk m c s1 1 (by decide) p q i j (by omega) (by omega) (by omega)
  have d0 := dot_blk m c s0 0 (by decide) p q i j (by omega) (by omega) (by omega)
  have e := (((scr_next m c s2 s1 (by omega) (by omega) p q).trans (congrArg (fun e : EReal => e + _)
    ((scr_next m c s1 s0 (by omega) (by omega) p q).trans (congrArg (fun e : EReal => e + _) (scr_first m c s0 (by omega) p q))))))
  rw [d0, d1, d2] at e
  refine (out_last m c t s2 (by omega) h p q).trans ?_
  rw [e, d3, blk2 m c t p q i j hi hj]
  exact congrArg (fun e : EReal => e + X m c i j) (sum_blocks _).symm

/-- The result. -/
def arr : Buf (Elt Ideal) ((c : Thread nD τ).loc main_v0) := fun i => mm (U m c) (A2 m c) (i 0) (i 1) + X m c (i 0) (i 1)

theorem flushed (t : Fin cfg0.N) (hf : (cfg0.win 3).flush t = true) :
    (dats m 0 c).flushed 3 t = ((cfg0.win 3).blk t).view.read (Elt Ideal) (arr m c) := by
  show (cfg0.win 3).cut (grid0.coords t) ((dats m 0 c).after 3 t) = _
  rw [after0_3]
  obtain ⟨-, -, -, -, -, -, e0, e1⟩ := idx t
  funext y
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  have hy : (cfg0.win 3).xinj (grid0.coords t) y = ix2 (n0 := 1024) (n1 := 1024) (y 0) (y 1) := by
    funext a
    match a with
    | ⟨0, _⟩ => rfl
    | ⟨1, _⟩ => rfl
  show (outsAt0 m c t.val t.isLt).1 ((cfg0.win 3).xinj (grid0.coords t) y) = arr m c (((cfg0.win 3).blk t).view.emb y)
  exact (congrArg (outsAt0 m c t.val t.isLt).1 hy).trans
    (out_val m c t ((flush0_3 t).mp hf) _ _ _ _ (by rw [hb0]; omega) (by rw [hb1]; omega))

theorem final : (dats m 0 c).arrAt 3 cfg0.N = arr m c :=
  (dats m 0 c).arrAt_eq_of_cover 3 _ (fun t hf => flushed m c t hf) fun i => (covered_iff3 i).2 (by
    have h0 : (i 0).val < 2048 := (i 0).isLt
    have h1 : (i 1).val < 2048 := (i 1).isLt
    omega)

end Cert.Kernel4Ideal.Down
-- ==== Proof.MlpReference.lean ====
module

public import proofs.«01_k».proof.Proof.Gen.Reference2Ideal.Read
public import proofs.«01_k».proof.Proof.Mlp

/-! The reference of the MLP's gradient, read at an index. -/

@[expose] public section

noncomputable section

namespace Cert.Reference2Ideal.MlpRef

open Idealize.ShloMosaic Cert.Reference2Ideal Cert.Reference2Ideal.Read

variable (x0 x3 : (⟨S2048x2048, .bf16⟩ : BufTy).Contents (Elt Ideal)) (x1 : (⟨S2048x8192, .bf16⟩ : BufTy).Contents (Elt Ideal))
  (x2 : (⟨S8192x2048, .bf16⟩ : BufTy).Contents (Elt Ideal))

/-- The operands. -/
abbrev H : Fin 2048 → Fin 2048 → EReal := fun i k => x0 (ix2 i k)
abbrev A1 : Fin 2048 → Fin 8192 → EReal := fun i k => x1 (ix2 i k)
abbrev A2 : Fin 8192 → Fin 2048 → EReal := fun i k => x2 (ix2 i k)

theorem z_eq (i : Fin 2048) (j : Fin 8192) : val_main_v4 (F := Ideal) x0 x1 (ix2 i j) = Mlp.mm (H x0) (A1 x1) i j := by
  pointwise [val_main_v4, val_main_v0, val_main_v1, Mlp.mm]

theorem u_eq0 (i : Fin 2048) (j : Fin 8192) : val_main_v9 (F := Ideal) x0 x1 (ix2 i j) = Mlp.u (H x0) (A1 x1) i j := by
  unfold Mlp.u Mlp.act
  rw [← z_eq]
  pointwise [val_main_v9, val_main_v5, val_main_call0_v0, val_main_call0_cst]

theorem du_eq (i : Fin 2048) (j : Fin 8192) : val_main_v13 (F := Ideal) x2 x3 (ix2 i j) = Mlp.mmT (H x3) (A2 x2) i j := by
  pointwise [val_main_v13, val_main_v3, val_main_v2, Mlp.mmT]

theorem dz_eq0 (i : Fin 2048) (j : Fin 8192) :
    val_main_v18 (F := Ideal) x0 x1 x2 x3 (ix2 i j) = Mlp.dz (H x0) (H x3) (A1 x1) (A2 x2) i j := by
  unfold Mlp.dz
  rw [← z_eq, ← du_eq, ← Mlp.gate_eq]
  pointwise [val_main_v18, val_main_v7, val_main_v6, val_main_cst, val_main_v16, val_main_v14, val_main_v15, val_main_v5,
    val_main_call0_v0, val_main_call0_cst, val_main_v17, val_main_cst_1]

theorem idx20 (i : Fin 2048) (j : Fin 8192) : idx_main_v20 (ix2 i j) = ix2 j i := by
  funext a
  match a with
  | ⟨0, _⟩ => rfl
  | ⟨1, _⟩ => rfl

theorem idx12 (i : Fin 8192) (j : Fin 2048) : idx_main_v12 (ix2 i j) = ix2 j i := by
  funext a
  match a with
  | ⟨0, _⟩ => rfl
  | ⟨1, _⟩ => rfl

theorem dw1_eq0 (i : Fin 2048) (j : Fin 8192) :
    val_main_v20 (F := Ideal) x0 x1 x2 x3 (ix2 i j) = Mlp.dw1 (H x0) (H x3) (A1 x1) (A2 x2) i j := by
  rw [val_main_v20_apply, idx20]
  have h : val_main_v19 (F := Ideal) x0 x1 x2 x3 (ix2 j i)
      = ∑ k : Fin 2048, val_main_v18 (F := Ideal) x0 x1 x2 x3 (ix2 k j) * x0 (ix2 k i) := by pointwise [val_main_v19, val_main_v0]
  rw [h]
  exact Finset.sum_congr rfl fun k _ => (congrArg (fun d : EReal => d * x0 (ix2 k i)) (dz_eq0 x0 x3 x1 x2 k j)).trans (mul_comm _ _)

theorem dw2_eq0 (i : Fin 8192) (j : Fin 2048) :
    val_main_v12 (F := Ideal) x0 x1 x3 (ix2 i j) = Mlp.dw2 (H x0) (H x3) (A1 x1) i j := by
  rw [val_main_v12_apply, idx12]
  have h : val_main_v11 (F := Ideal) x0 x1 x3 (ix2 j i)
      = ∑ k : Fin 2048, x3 (ix2 k j) * val_main_v9 (F := Ideal) x0 x1 (ix2 k i) := by pointwise [val_main_v11, val_main_v3]
  rw [h]
  exact Finset.sum_congr rfl fun k _ => (congrArg (fun d : EReal => x3 (ix2 k j) * d) (u_eq0 x0 x1 k i)).trans (mul_comm _ _)

/-- The four results. -/
theorem u_eq (i : Fin 2048) (j : Fin 8192) : val_main_v22 (F := Ideal) x0 x1 (ix2 i j) = Mlp.u (H x0) (A1 x1) i j :=
  u_eq0 x0 x1 i j

theorem dz_eq (i : Fin 2048) (j : Fin 8192) :
    val_main_v23 (F := Ideal) x0 x1 x2 x3 (ix2 i j) = Mlp.dz (H x0) (H x3) (A1 x1) (A2 x2) i j :=
  dz_eq0 x0 x3 x1 x2 i j

theorem dw1_eq (i : Fin 2048) (j : Fin 8192) :
    val_main_v24 (F := Ideal) x0 x1 x2 x3 (ix2 i j) = Mlp.dw1 (H x0) (H x3) (A1 x1) (A2 x2) i j :=
  dw1_eq0 x0 x3 x1 x2 i j

theorem dw2_eq (i : Fin 8192) (j : Fin 2048) :
    val_main_v25 (F := Ideal) x0 x1 x3 (ix2 i j) = Mlp.dw2 (H x0) (H x3) (A1 x1) i j :=
  dw2_eq0 x0 x3 x1 i j

end Cert.Reference2Ideal.MlpRef
-- ==== Proof.MlpClaims.lean ====
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.MlpRun
public import proofs.«01_k».proof.Proof.MlpUpBwd
public import proofs.«01_k».proof.Proof.MlpDown
public import proofs.«01_k».proof.Proof.MlpReference
public import proofs.«01_k».proof.Proof.Gen.Reference3Ideal.Read
public import proofs.«01_k».proof.Proof.Gen.Reference4Ideal.Read

/-! The claims on the squared-ReLU MLP: its gradient's first four products, the fifth, and the forward pass's second. -/

@[expose] public section

noncomputable section

namespace Cert.Proof

open Idealize.ShloMosaic Idealize.ShloMosaic.TcCoe Idealize.SL.Sem

theorem pair {a b : ℕ} (i : (⟨2, ![a, b]⟩ : Shape).Idx) : i = ix2 (i 0) (i 1) := by
  funext k
  match k with
  | ⟨0, _⟩ => rfl
  | ⟨1, _⟩ => rfl

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem preserves2 : Cert.preserves_Kernel2_Kernel2Ideal := trivial

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves3 : Cert.preserves_Kernel3_Kernel3Ideal := trivial

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves4 : Cert.preserves_Kernel4_Kernel4Ideal := trivial

/-- Both programs leave the four arrays of the MLP's gradient. -/
theorem algebraic2 : Cert.algebraic_Kernel2Ideal_Reference2Ideal := by
  intro m ρ m' ρ' _ hagree
  refine ⟨fun c => Cert.Kernel2Ideal.Gen.W4 m ρ c (Proc.devRef .tc Cert.Kernel2Ideal.main_v0_1),
    fun c => Cert.Kernel2Ideal.Gen.W4 m ρ c (Proc.devRef .tc Cert.Kernel2Ideal.main_v1),
    fun c => Cert.Kernel2Ideal.Gen.W4 m ρ c (Proc.devRef .tc Cert.Kernel2Ideal.main_v3),
    fun c => Cert.Kernel2Ideal.Gen.W4 m ρ c (Proc.devRef .tc Cert.Kernel2Ideal.main_v2), ?_, ?_⟩
  · refine (θ_run Cert.Kernel2Ideal.defs _ _).mono (fun r h c => ⟨?_, ?_, ?_, ?_, ?_, ?_, ?_, ?_⟩) (Cert.Kernel2Ideal.MlpRun.run m ρ)
    · exact h c _ (Cert.Kernel2Ideal.Gen.mem_uc Cert.Kernel2Ideal.main_v0_1 (by decide))
    · exact h c _ (Cert.Kernel2Ideal.Gen.mem_uc Cert.Kernel2Ideal.main_v1 (by decide))
    · exact h c _ (Cert.Kernel2Ideal.Gen.mem_uc Cert.Kernel2Ideal.main_v3 (by decide))
    · exact h c _ (Cert.Kernel2Ideal.Gen.mem_uc Cert.Kernel2Ideal.main_v2 (by decide))
    · exact (h c _ (Cert.Kernel2Ideal.Gen.mem_uc Cert.Kernel2Ideal.main_arg0 (by decide))).trans (Cert.Kernel2Ideal.Gen.W4_main_arg0 m ρ c)
    · exact (h c _ (Cert.Kernel2Ideal.Gen.mem_uc Cert.Kernel2Ideal.main_arg1 (by decide))).trans (Cert.Kernel2Ideal.Gen.W4_main_arg1 m ρ c)
    · exact (h c _ (Cert.Kernel2Ideal.Gen.mem_uc Cert.Kernel2Ideal.main_arg2 (by decide))).trans (Cert.Kernel2Ideal.Gen.W4_main_arg2 m ρ c)
    · exact (h c _ (Cert.Kernel2Ideal.Gen.mem_uc Cert.Kernel2Ideal.main_arg3 (by decide))).trans (Cert.Kernel2Ideal.Gen.W4_main_arg3 m ρ c)
  refine (θ_run Cert.Reference2Ideal.defs _ _).mono (fun r h c => ⟨?_, ?_, ?_, ?_, (h c).2.2.2.2⟩)
    (Cert.Reference2Ideal.Value.run (F := Ideal) m' ρ')
  · refine (h c).1.trans ((Cert.Reference2Ideal.Read.val_main_v22_eq _ _).trans ?_)
    rw [(hagree c).1, (hagree c).2.1]
    funext i
    rw [pair i]
    exact (Cert.Reference2Ideal.MlpRef.u_eq _ _ _ _).trans (Cert.Kernel2Ideal.MlpRun.u_eq m ρ c _ _).symm
  · refine (h c).2.1.trans ((Cert.Reference2Ideal.Read.val_main_v23_eq _ _ _ _).trans ?_)
    rw [(hagree c).1, (hagree c).2.1, (hagree c).2.2.1, (hagree c).2.2.2]
    funext i
    rw [pair i]
    exact (Cert.Reference2Ideal.MlpRef.dz_eq _ _ _ _ _ _).trans (Cert.Kernel2Ideal.MlpRun.dz_eq m ρ c _ _).symm
  · refine (h c).2.2.1.trans ((Cert.Reference2Ideal.Read.val_main_v24_eq _ _ _ _).trans ?_)
    rw [(hagree c).1, (hagree c).2.1, (hagree c).2.2.1, (hagree c).2.2.2]
    funext i
    rw [pair i]
    exact (Cert.Reference2Ideal.MlpRef.dw1_eq _ _ _ _ _ _).trans (Cert.Kernel2Ideal.MlpRun.dw1_eq m ρ c _ _).symm
  · refine (h c).2.2.2.1.trans ((Cert.Reference2Ideal.Read.val_main_v25_eq _ _ _).trans ?_)
    rw [(hagree c).1, (hagree c).2.1, (hagree c).2.2.2]
    funext i
    rw [pair i]
    exact (Cert.Reference2Ideal.MlpRef.dw2_eq _ _ _ _ _).trans (Cert.Kernel2Ideal.MlpRun.dw2_eq m ρ c _ _).symm

section
open Cert.Reference3Ideal Cert.Reference3Ideal.Read

theorem ref3 (x0 x1 : (⟨S2048x8192, .bf16⟩ : BufTy).Contents (Elt Ideal)) (i j : Fin 2048) :
    val_main_v4 (F := Ideal) x0 x1 (ix2 i j) = Mlp.mmT (fun i k => x0 (ix2 i k)) (fun j k => x1 (ix2 j k)) i j := by
  pointwise [val_main_v4, val_main_v3, val_main_v1, Mlp.mmT]

end

section
open Cert.Reference4Ideal Cert.Reference4Ideal.Read

theorem ref4 (x0 : (⟨S2048x8192, .bf16⟩ : BufTy).Contents (Elt Ideal)) (x1 : (⟨S8192x2048, .bf16⟩ : BufTy).Contents (Elt Ideal))
    (x2 : (⟨S2048x2048, .f32⟩ : BufTy).Contents (Elt Ideal)) (i j : Fin 2048) :
    val_main_v3 (F := Ideal) x0 x1 x2 (ix2 i j) = x2 (ix2 i j) + Mlp.mm (fun i k => x0 (ix2 i k)) (fun k j => x1 (ix2 k j)) i j := by
  pointwise [val_main_v3, val_main_v2, val_main_v1, val_main_v0, Mlp.mm]

end

/-- Both programs leave the gradient of the MLP's input. -/
theorem algebraic3 : Cert.algebraic_Kernel3Ideal_Reference3Ideal := by
  intro m ρ m' ρ' _ hagree
  refine ⟨fun c => Cert.Kernel3Ideal.UpBwd.arr m c, (θ_run Cert.Kernel3Ideal.defs _ _).mono
    (fun r h c => ⟨(h c).1.trans (Cert.Kernel3Ideal.UpBwd.final m c), (h c).2⟩) (Cert.Kernel3Ideal.Value.run_blocks m ρ), ?_⟩
  refine (θ_run Cert.Reference3Ideal.defs _ _).mono (fun r h c => ⟨?_, (h c).2⟩) (Cert.Reference3Ideal.Value.run (F := Ideal) m' ρ')
  refine (h c).1.trans ((Cert.Reference3Ideal.Read.val_main_v4_eq _ _).trans ?_)
  rw [(hagree c).1, (hagree c).2]
  funext i
  rw [pair i]
  exact ref3 _ _ _ _

/-- Both programs leave the MLP's output. -/
theorem algebraic4 : Cert.algebraic_Kernel4Ideal_Reference4Ideal := by
  intro m ρ m' ρ' _ hagree
  refine ⟨fun c => Cert.Kernel4Ideal.Down.arr m c, (θ_run Cert.Kernel4Ideal.defs _ _).mono
    (fun r h c => ⟨(h c).1.trans (Cert.Kernel4Ideal.Down.final m c), (h c).2⟩) (Cert.Kernel4Ideal.Value.run_blocks m ρ), ?_⟩
  refine (θ_run Cert.Reference4Ideal.defs _ _).mono (fun r h c => ⟨?_, (h c).2⟩) (Cert.Reference4Ideal.Value.run (F := Ideal) m' ρ')
  refine (h c).1.trans ((Cert.Reference4Ideal.Read.val_main_v3_eq _ _ _).trans ?_)
  rw [(hagree c).1, (hagree c).2.1, (hagree c).2.2]
  funext i
  rw [pair i]
  exact (ref4 _ _ _ _ _).trans (add_comm _ _)

end Cert.Proof
-- ==== Proof.ProjRun.lean ====
module

public import proofs.«01_k».proof.Proof.Proj

/-! The six products of the projections one after the other: what the results hold at the end. -/

@[expose] public section

set_option maxRecDepth 16384

noncomputable section

namespace Cert.Kernel5Ideal.ProjRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable (m : (ℓ : Loc nD τ sig) → Buf (Elt Ideal) ℓ) (ρ : Dev nD → PrngReg) (c : Dev nD)

/-- The arguments. -/
abbrev arg (b : Ref sig .tc) : Buf (Elt Ideal) ((c : Thread nD τ).loc b) := m ((c : Thread nD τ).loc b)

theorem v0_eq : W6 m ρ c (Proc.devRef .tc main_v0) = fun i => (Mlp.mm (Proj.mat (arg m c main_arg1)) (Proj.mat (arg m c main_arg2)) (i 0) (i 1) : EReal) + arg m c main_arg0 (ix2 (i 0) (i 1)) := by
  refine ((W6_of m ρ c main_v0 (by decide)).trans ((W5_of m ρ c main_v0 (by decide)).trans ((W4_of m ρ c main_v0 (by decide)).trans ((W3_of m ρ c main_v0 (by decide)).trans ((W2_of m ρ c main_v0 (by decide)).trans ((W1_arr m ρ c 3).trans (Proj.final0 (V0 m ρ) c))))))).trans ?_
  rfl

theorem v1_eq : W6 m ρ c (Proc.devRef .tc main_v1) = fun i => Mlp.mmT (Proj.mat (arg m c main_arg3)) (Proj.mat (arg m c main_arg2)) (i 0) (i 1) := by
  refine ((W6_of m ρ c main_v1 (by decide)).trans ((W5_of m ρ c main_v1 (by decide)).trans ((W4_of m ρ c main_v1 (by decide)).trans ((W3_of m ρ c main_v1 (by decide)).trans ((W2_arr m ρ c 2).trans (Proj.final1 (V1 m ρ) c)))))).trans ?_
  have e3 : V1 m ρ c main_arg3 = arg m c main_arg3 := W1_args m ρ c main_arg3 (by decide)
  have e2 : V1 m ρ c main_arg2 = arg m c main_arg2 := W1_args m ρ c main_arg2 (by decide)
  unfold Proj.arr1
  rw [e3, e2]

theorem v2_eq : W6 m ρ c (Proc.devRef .tc main_v2) = fun i => Mlp.Tmm (Proj.mat (arg m c main_arg1)) (Proj.mat (arg m c main_arg3)) (i 0) (i 1) := by
  refine ((W6_of m ρ c main_v2 (by decide)).trans ((W5_of m ρ c main_v2 (by decide)).trans ((W4_of m ρ c main_v2 (by decide)).trans ((W3_arr m ρ c 2).trans (Proj.final2 (V2 m ρ) c))))).trans ?_
  have e1 : V2 m ρ c main_arg1 = arg m c main_arg1 := W2_args m ρ c main_arg1 (by decide)
  have e3 : V2 m ρ c main_arg3 = arg m c main_arg3 := W2_args m ρ c main_arg3 (by decide)
  unfold Proj.arr2
  rw [e1, e3]

theorem v3_eq : W6 m ρ c (Proc.devRef .tc main_v3) = fun i => Mlp.mm (Proj.mat (arg m c main_arg4)) (Proj.mat (arg m c main_arg5)) (i 0) (i 1) := by
  refine ((W6_of m ρ c main_v3 (by decide)).trans ((W5_of m ρ c main_v3 (by decide)).trans ((W4_arr m ρ c 2).trans (Proj.final3 (V3 m ρ) c)))).trans ?_
  have e4 : V3 m ρ c main_arg4 = arg m c main_arg4 := W3_args m ρ c main_arg4 (by decide)
  have e5 : V3 m ρ c main_arg5 = arg m c main_arg5 := W3_args m ρ c main_arg5 (by decide)
  unfold Proj.arr3
  rw [e4, e5]

theorem v4_eq : W6 m ρ c (Proc.devRef .tc main_v4) = fun i => Mlp.mm (Proj.mat (arg m c main_arg4)) (Proj.mat (arg m c main_arg5)) (i 0) (i 1) := by
  refine ((W6_of m ρ c main_v4 (by decide)).trans ((W5_arr m ρ c 2).trans (Proj.final4 (V4 m ρ) c))).trans ?_
  have e4 : V4 m ρ c main_arg4 = arg m c main_arg4 := W4_args m ρ c main_arg4 (by decide)
  have e5 : V4 m ρ c main_arg5 = arg m c main_arg5 := W4_args m ρ c main_arg5 (by decide)
  unfold Proj.arr4
  rw [e4, e5]

theorem v5_eq : W6 m ρ c (Proc.devRef .tc main_v5) = fun i => Mlp.Tmm (Proj.mat (arg m c main_arg4)) (Proj.mat (arg m c main_arg6)) (i 0) (i 1) := by
  refine ((W6_arr m ρ c 2).trans (Proj.final5 (V5 m ρ) c)).trans ?_
  have e4 : V5 m ρ c main_arg4 = arg m c main_arg4 := W5_args m ρ c main_arg4 (by decide)
  have e6 : V5 m ρ c main_arg6 = arg m c main_arg6 := W5_args m ρ c main_arg6 (by decide)
  unfold Proj.arr5
  rw [e4, e6]

set_option backward.isDefEq.respectTransparency.types false in
/-- The run: every array the program names ends at the last segment's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.Kernel5Ideal.ProjRun
-- ==== Proof.ProjInBwd.lean ====
module

public import proofs.«01_k».proof.Proof.Gen.Kernel6Ideal.Value
public import proofs.«01_k».proof.Proof.Mlp
public import Idealize.ShloMosaic.Lib.Pointwise

/-! The gradient through the product into the mixer: `dproj w_inᵀ`, the 6144 columns summed in three blocks. -/

@[expose] public section

set_option maxRecDepth 16384

noncomputable section

namespace Cert.Kernel6Ideal.InBwd

open Idealize.ShloMosaic Idealize.ShloMosaic.TcCoe Idealize.SL.Sem
open Cert.Kernel6Ideal Cert.Kernel6Ideal.Gen Cert.Kernel6Ideal.Value Cert.Mlp

theorem z2 : (![0, 0] : Fin 2 → Nat) = fun _ => 0 := funext fun a => by fin_cases a <;> rfl

/-- The sum over the `b`-th of three blocks of 2048. -/
def block3 (f : Fin 6144 → EReal) (b : ℕ) (hb : b < 3) : EReal := ∑ k : Fin 2048, f ⟨b * 2048 + k.val, by omega⟩

/-- A sum over 6144 in three blocks of 2048. -/
theorem sum_blocks3 (f : Fin 6144 → EReal) :
    ∑ k, f k = (block3 f 0 (by decide) + block3 f 1 (by decide)) + block3 f 2 (by decide) := by
  have e1 := Fin.sum_univ_add (a := 4096) (b := 2048) f
  have e2 := Fin.sum_univ_add (a := 2048) (b := 2048) fun k => f (Fin.castAdd 2048 k)
  have e0 : block3 f 0 (by decide) = ∑ k : Fin 2048, f (Fin.castAdd 2048 (Fin.castAdd 2048 k)) :=
    Finset.sum_congr rfl fun k _ => congrArg f (Fin.ext (by show 0 * 2048 + k.val = k.val; omega))
  rw [e1, e2, e0]
  rfl

/-- The product of two blocks at `(p, q)`. -/
def dot (x0 : Vec Ideal S1024x2048 .bf16) (x1 : Vec Ideal S1024x2048 .bf16) (p q : Fin 1024) : EReal :=
  ∑ k : Fin 2048, x0 (ix2 p k) * x1 (ix2 q k)

section
variable (c : Dev nD) (i : grid0.Coords) (arg3 : Memref sig .tc .vmem S1024x2048 .bf16) (harg3 : arg3.IsWhole)
  (arg4 : Memref sig .tc .vmem S1024x2048 .bf16) (harg4 : arg4.IsWhole) (arg5 : Memref sig .tc .vmem S1024x1024 .f32) (harg5 : arg5.IsWhole)
  (arg6 : Memref sig .tc .vmem S1024x1024 .f32) (harg6 : arg6.IsWhole)
  (x0 : Vec Ideal S1024x2048 .bf16) (x1 : Vec Ideal S1024x2048 .bf16) (xs : Vec Ideal S1024x1024 .f32)
  (p q : Fin 1024)

/-- The first block's product is stored into the scratch. -/
theorem first (hc0 : cond0_0 i) (hc1 : ¬cond0_1 i) (hc2 : ¬cond0_2 i) :
    sout0_A_0 (F := Ideal) c i arg3 harg3 arg4 harg4 arg5 harg5 arg6 harg6 hc0 hc1 hc2 x0 x1 (ix2 p q) = dot x0 x1 p q := by
  unfold sout0_A_0
  rw [View.read_writes_junk_eq_canon]
  unfold kernelRun0_A
  dsimp only
  rw [View.canon_unit_zero z2]
  simp only [View.readAt_eq_ld, harg3.read_unread, harg4.read_unread]
  rw [View.ld_unit_zero z2, View.ld_unit_zero z2]
  pointwise [k0_pay1, dot]

/-- The next blocks' products are added to it. -/
theorem next (hc0 : ¬cond0_0 i) (hc1 : cond0_1 i) (hc2 : ¬cond0_2 i) :
    sout0_B_0 (F := Ideal) c i arg3 harg3 arg4 harg4 arg5 harg5 arg6 harg6 hc0 hc1 hc2 x0 x1 xs (ix2 p q) = xs (ix2 p q) + dot x0 x1 p q := by
  unfold sout0_B_0
  rw [View.read_writes_junk_eq_canon]
  unfold kernelRun0_B
  dsimp only
  rw [View.canon_unit_zero z2]
  simp only [View.readAt_eq_ld, harg3.read_unread, harg4.read_unread, harg6.read_unread]
  rw [View.ld_unit_zero z2, View.ld_unit_zero z2, View.ld_unit_zero z2]
  pointwise [k0_pay2, dot]

/-- The last block's product is added and the sum written out. -/
theorem last (hc0 : ¬cond0_0 i) (hc1 : ¬cond0_1 i) (hc2 : cond0_2 i) :
    out0_C_2 (F := Ideal) c i arg3 harg3 arg4 harg4 arg5 harg5 arg6 harg6 hc0 hc1 hc2 x0 x1 xs (ix2 p q) = xs (ix2 p q) + dot x0 x1 p q := by
  unfold out0_C_2
  rw [View.read_writes_junk_eq_canon]
  unfold kernelRun0_C
  dsimp only
  rw [View.canon_unit_zero z2]
  simp only [View.readAt_eq_ld, harg3.read_unread, harg4.read_unread, harg6.read_unread]
  rw [View.ld_unit_zero z2, View.ld_unit_zero z2, View.ld_unit_zero z2]
  pointwise [k0_pay3, dot]

end

variable (m : (ℓ : Loc nD τ sig) → Buf (Elt Ideal) ℓ) (ρ : Dev nD → PrngReg) (c : Dev nD)

/-- The operands. -/
abbrev DP : Fin 2048 → Fin 6144 → EReal := fun i k => m ((c : Thread nD τ).loc main_arg0) (ix2 i k)
abbrev WI : Fin 2048 → Fin 6144 → EReal := fun j k => m ((c : Thread nD τ).loc main_arg1) (ix2 j k)

/-- Where the blocks of point `t` lie. -/
theorem idx : ∀ t : Fin cfg0.N, win0_0.index t 0 = t.val / 6 ∧ win0_0.index t 1 = t.val % 3 ∧ win0_1.index t 0 = t.val / 3 % 2 ∧ win0_1.index t 1 = t.val % 3
    ∧ win0_2.index t 0 = t.val / 6 ∧ win0_2.index t 1 = t.val / 3 % 2 :=
  (by decide +kernel : ∀ t : Fin grid0.N, _)

theorem blk0 (t : Fin cfg0.N) (p : Fin 1024) (k : Fin 2048) (i : Fin 2048) (k' : Fin 6144) (hi : i.val = t.val / 6 * 1024 + p.val)
    (hk : k'.val = t.val % 3 * 2048 + k.val) : iblk m c 0 t (ix2 p k) = m ((c : Thread nD τ).loc main_arg0) (ix2 i k') := by
  obtain ⟨e0, e1, -⟩ := idx t
  refine congrArg (m ((c : Thread nD τ).loc main_arg0)) (funext fun a => Fin.ext ?_)
  match a with
  | ⟨0, _⟩ => show win0_0.index t 0 * 1024 + 1 * p.val = i.val; omega
  | ⟨1, _⟩ => show win0_0.index t 1 * 2048 + 1 * k.val = k'.val; omega

theorem blk1 (t : Fin cfg0.N) (q : Fin 1024) (k : Fin 2048) (j : Fin 2048) (k' : Fin 6144) (hj : j.val = t.val / 3 % 2 * 1024 + q.val)
    (hk : k'.val = t.val % 3 * 2048 + k.val) : iblk m c 1 t (ix2 q k) = m ((c : Thread nD τ).loc main_arg1) (ix2 j k') := by
  obtain ⟨-, -, e0, e1, -⟩ := idx t
  refine congrArg (m ((c : Thread nD τ).loc main_arg1)) (funext fun a => Fin.ext ?_)
  match a with
  | ⟨0, _⟩ => show win0_1.index t 0 * 1024 + 1 * q.val = j.val; omega
  | ⟨1, _⟩ => show win0_1.index t 1 * 2048 + 1 * k.val = k'.val; omega

/-- The product of point `t`'s blocks is one block of the sum at `(i, j)`. -/
theorem dot_blk (t : Fin cfg0.N) (b : ℕ) (hb : b < 3) (p q : Fin 1024) (i j : Fin 2048) (ht : t.val % 3 = b) (hi : i.val = t.val / 6 * 1024 + p.val)
    (hj : j.val = t.val / 3 % 2 * 1024 + q.val) : dot (iblk m c 0 t) (iblk m c 1 t) p q = block3 (fun k => DP m c i k * WI m c j k) b hb :=
  Finset.sum_congr rfl fun k _ => congrArg₂ (fun a b : EReal => a * b)
    (blk0 m c t p k i _ hi (by rw [ht])) (blk1 m c t q k j _ hj (by rw [ht]))

theorem scr_first (t : Fin cfg0.N) (h : t.val % 3 = 0) (p q : Fin 1024) :
    (outsAt0 m c t.val t.isLt).2 (ix2 p q) = dot (iblk m c 0 t) (iblk m c 1 t) p q := by
  rw [outsAt0_A m c t h (by omega) (by omega)]
  dsimp only
  rw [first]

theorem scr_next (t s : Fin cfg0.N) (hs : s.val + 1 = t.val) (h : t.val % 3 = 1) (p q : Fin 1024) :
    (outsAt0 m c t.val t.isLt).2 (ix2 p q) = (outsAt0 m c s.val s.isLt).2 (ix2 p q) + dot (iblk m c 0 t) (iblk m c 1 t) p q := by
  obtain rfl : s = ⟨t.val - 1, Nat.lt_of_le_of_lt (Nat.sub_le _ _) t.isLt⟩ := Fin.ext (by show s.val = t.val - 1; omega)
  rw [outsAt0_B m c t (by omega) h (by omega)]
  dsimp only
  rw [next]

theorem out_last (t s : Fin cfg0.N) (hs : s.val + 1 = t.val) (h : t.val % 3 = 2) (p q : Fin 1024) :
    (outsAt0 m c t.val t.isLt).1 (ix2 p q) = (outsAt0 m c s.val s.isLt).2 (ix2 p q) + dot (iblk m c 0 t) (iblk m c 1 t) p q := by
  obtain rfl : s = ⟨t.val - 1, Nat.lt_of_le_of_lt (Nat.sub_le _ _) t.isLt⟩ := Fin.ext (by show s.val = t.val - 1; omega)
  rw [outsAt0_C m c t (by omega) (by omega) h]
  dsimp only
  rw [last]

/-- What the last of three points writes. -/
theorem out_val (t : Fin cfg0.N) (h : t.val % 3 = 2) (p q : Fin 1024) (i j : Fin 2048) (hi : i.val = t.val / 6 * 1024 + p.val)
    (hj : j.val = t.val / 3 % 2 * 1024 + q.val) : (outsAt0 m c t.val t.isLt).1 (ix2 p q) = mmT (DP m c) (WI m c) i j := by
  let s1 : Fin cfg0.N := ⟨t.val - 1, by omega⟩
  let s0 : Fin cfg0.N := ⟨t.val - 2, by omega⟩
  have v1 : s1.val = t.val - 1 := rfl
  have v0 : s0.val = t.val - 2 := rfl
  have d2 := dot_blk m c t 2 (by decide) p q i j h hi hj
  have d1 := dot_blk m c s1 1 (by decide) p q i j (by omega) (by omega) (by omega)
  have d0 := dot_blk m c s0 0 (by decide) p q i j (by omega) (by omega) (by omega)
  have e := (scr_next m c s1 s0 (by omega) (by omega) p q).trans (congrArg (fun e : EReal => e + _) (scr_first m c s0 (by omega) p q))
  rw [d0, d1] at e
  refine (out_last m c t s1 (by omega) h p q).trans ?_
  rw [e, d2]
  exact (sum_blocks3 _).symm

/-- The result. -/
def arr : Buf (Elt Ideal) ((c : Thread nD τ).loc main_v0) := fun i => mmT (DP m c) (WI m c) (i 0) (i 1)

theorem flushed (t : Fin cfg0.N) (hf : (cfg0.win 2).flush t = true) :
    (dats m 0 c).flushed 2 t = ((cfg0.win 2).blk t).view.read (Elt Ideal) (arr m c) := by
  show (cfg0.win 2).cut (grid0.coords t) ((dats m 0 c).after 2 t) = _
  rw [after0_2]
  obtain ⟨-, -, -, -, e0, e1⟩ := idx t
  funext y
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  have hy : (cfg0.win 2).xinj (grid0.coords t) y = ix2 (n0 := 1024) (n1 := 1024) (y 0) (y 1) := by
    funext a
    match a with
    | ⟨0, _⟩ => rfl
    | ⟨1, _⟩ => rfl
  show (outsAt0 m c t.val t.isLt).1 ((cfg0.win 2).xinj (grid0.coords t) y) = arr m c (((cfg0.win 2).blk t).view.emb y)
  exact (congrArg (outsAt0 m c t.val t.isLt).1 hy).trans
    (out_val m c t ((flush0_2 t).mp hf) _ _ _ _ (by rw [hb0]; omega) (by rw [hb1]; omega))

theorem final : (dats m 0 c).arrAt 2 cfg0.N = arr m c :=
  (dats m 0 c).arrAt_eq_of_cover 2 _ (fun t hf => flushed m c t hf) fun i => (covered_iff2 i).2 (by
    have h0 : (i 0).val < 2048 := (i 0).isLt
    have h1 : (i 1).val < 2048 := (i 1).isLt
    omega)

end Cert.Kernel6Ideal.InBwd
-- ==== Proof.ProjClaims.lean ====
module

public import proofs.«01_k».proof.Defs
public import proofs.«01_k».proof.Proof.Gen.Kernel5.Frame
public import proofs.«01_k».proof.Proof.Gen.Kernel6.Frame
public import proofs.«01_k».proof.Proof.ProjRun
public import proofs.«01_k».proof.Proof.ProjInBwd
public import proofs.«01_k».proof.Proof.Gen.Reference5Ideal.Read
public import proofs.«01_k».proof.Proof.Gen.Reference6Ideal.Read

/-! The claims on the mixers' projections: the products into and out of a mixer with their gradients. -/

@[expose] public section

noncomputable section

namespace Cert.Proof

open Idealize.ShloMosaic Idealize.ShloMosaic.TcCoe Idealize.SL.Sem
open Cert.Kernel5Ideal.Proj (mat pair)

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

theorem preserves5 : Cert.preserves_Kernel5_Kernel5Ideal := trivial

theorem frame_p6 : Cert.quiescent_Kernel6 := fun m ρ _ => Cert.Kernel6.Gen.frame m ρ

theorem frame_pi6 : Cert.quiescent_Kernel6Ideal := fun m ρ _ => Cert.Kernel6Ideal.Gen.frame m ρ

theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves6 : Cert.preserves_Kernel6_Kernel6Ideal := trivial

/-! ## The reference's results -/

section
open Cert.Reference5Ideal Cert.Reference5Ideal.Read

variable (x0 : (⟨S2048x2048, .f32⟩ : BufTy).Contents (Elt Ideal)) (x1 x2 x3 x4 : (⟨S2048x2048, .bf16⟩ : BufTy).Contents (Elt Ideal))
  (x5 x6 : (⟨S2048x6144, .bf16⟩ : BufTy).Contents (Elt Ideal))

theorem ref5_y (i j : Fin 2048) : val_main_v14 (F := Ideal) x0 x1 x2 (ix2 i j) = x0 (ix2 i j) + Mlp.mm (mat x1) (mat x2) i j := by
  pointwise [val_main_v14, val_main_v6, val_main_v0, val_main_v1, Mlp.mm]

theorem ref5_do (i j : Fin 2048) : val_main_v15 (F := Ideal) x2 x3 (ix2 i j) = Mlp.mmT (mat x3) (mat x2) i j := by
  pointwise [val_main_v15, val_main_v9, val_main_v2, val_main_v1, Mlp.mmT]

theorem ref5_dw_out (i j : Fin 2048) : val_main_v16 (F := Ideal) x1 x3 (ix2 i j) = Mlp.Tmm (mat x1) (mat x3) i j := by
  show val_main_v8 (F := Ideal) x1 x3 (ix2 i j) = _
  rw [val_main_v8_apply, show idx_main_v8 (ix2 i j) = ix2 j i from pair _]
  have h : val_main_v7 (F := Ideal) x1 x3 (ix2 j i) = ∑ k : Fin 2048, x3 (ix2 k j) * x1 (ix2 k i) := by
    pointwise [val_main_v7, val_main_v2, val_main_v0]
  exact h.trans (Finset.sum_congr rfl fun k _ => mul_comm (G := EReal) _ _)

theorem ref5_proj (i : Fin 2048) (j : Fin 6144) : val_main_v10 (F := Ideal) x4 x5 (ix2 i j) = Mlp.mm (mat x4) (mat x5) i j := by
  pointwise [val_main_v10, val_main_v3, val_main_v4, Mlp.mm]

theorem ref5_dw_in (i : Fin 2048) (j : Fin 6144) : val_main_v18 (F := Ideal) x4 x6 (ix2 i j) = Mlp.Tmm (mat x4) (mat x6) i j := by
  show val_main_v12 (F := Ideal) x4 x6 (ix2 i j) = _
  rw [val_main_v12_apply, show idx_main_v12 (ix2 i j) = ix2 j i from pair _]
  have h : val_main_v11 (F := Ideal) x4 x6 (ix2 j i) = ∑ k : Fin 2048, x6 (ix2 k j) * x4 (ix2 k i) := by
    pointwise [val_main_v11, val_main_v5, val_main_v3]
  exact h.trans (Finset.sum_congr rfl fun k _ => mul_comm (G := EReal) _ _)

end

section
open Cert.Reference6Ideal Cert.Reference6Ideal.Read

theorem ref6 (x0 x1 : (⟨S2048x6144, .bf16⟩ : BufTy).Contents (Elt Ideal)) (i j : Fin 2048) :
    val_main_v4 (F := Ideal) x0 x1 (ix2 i j) = Mlp.mmT (mat x0) (mat x1) i j := by
  pointwise [val_main_v4, val_main_v3, val_main_v1, Mlp.mmT]

end

/-! ## Both programs leave the same arrays -/

theorem algebraic5 : Cert.algebraic_Kernel5Ideal_Reference5Ideal := by
  intro m ρ m' ρ' _ hagree
  refine ⟨fun c => Cert.Kernel5Ideal.Gen.W6 m ρ c (Proc.devRef .tc Cert.Kernel5Ideal.main_v0),
    fun c => Cert.Kernel5Ideal.Gen.W6 m ρ c (Proc.devRef .tc Cert.Kernel5Ideal.main_v1),
    fun c => Cert.Kernel5Ideal.Gen.W6 m ρ c (Proc.devRef .tc Cert.Kernel5Ideal.main_v2),
    fun c => Cert.Kernel5Ideal.Gen.W6 m ρ c (Proc.devRef .tc Cert.Kernel5Ideal.main_v3),
    fun c => Cert.Kernel5Ideal.Gen.W6 m ρ c (Proc.devRef .tc Cert.Kernel5Ideal.main_v4),
    fun c => Cert.Kernel5Ideal.Gen.W6 m ρ c (Proc.devRef .tc Cert.Kernel5Ideal.main_v5),
    ?_, ?_⟩
  · refine (θ_run Cert.Kernel5Ideal.defs _ _).mono (fun r h c => ⟨?_, ?_, ?_, ?_, ?_, ?_, ?_, ?_, ?_, ?_, ?_, ?_, ?_⟩) (Cert.Kernel5Ideal.ProjRun.run m ρ)
    · exact h c _ (Cert.Kernel5Ideal.Gen.mem_uc Cert.Kernel5Ideal.main_v0 (by decide))
    · exact h c _ (Cert.Kernel5Ideal.Gen.mem_uc Cert.Kernel5Ideal.main_v1 (by decide))
    · exact h c _ (Cert.Kernel5Ideal.Gen.mem_uc Cert.Kernel5Ideal.main_v2 (by decide))
    · exact h c _ (Cert.Kernel5Ideal.Gen.mem_uc Cert.Kernel5Ideal.main_v3 (by decide))
    · exact h c _ (Cert.Kernel5Ideal.Gen.mem_uc Cert.Kernel5Ideal.main_v4 (by decide))
    · exact h c _ (Cert.Kernel5Ideal.Gen.mem_uc Cert.Kernel5Ideal.main_v5 (by decide))
    · exact (h c _ (Cert.Kernel5Ideal.Gen.mem_uc Cert.Kernel5Ideal.main_arg0 (by decide))).trans (Cert.Kernel5Ideal.Gen.W6_main_arg0 m ρ c)
    · exact (h c _ (Cert.Kernel5Ideal.Gen.mem_uc Cert.Kernel5Ideal.main_arg1 (by decide))).trans (Cert.Kernel5Ideal.Gen.W6_main_arg1 m ρ c)
    · exact (h c _ (Cert.Kernel5Ideal.Gen.mem_uc Cert.Kernel5Ideal.main_arg2 (by decide))).trans (Cert.Kernel5Ideal.Gen.W6_main_arg2 m ρ c)
    · exact (h c _ (Cert.Kernel5Ideal.Gen.mem_uc Cert.Kernel5Ideal.main_arg3 (by decide))).trans (Cert.Kernel5Ideal.Gen.W6_main_arg3 m ρ c)
    · exact (h c _ (Cert.Kernel5Ideal.Gen.mem_uc Cert.Kernel5Ideal.main_arg4 (by decide))).trans (Cert.Kernel5Ideal.Gen.W6_main_arg4 m ρ c)
    · exact (h c _ (Cert.Kernel5Ideal.Gen.mem_uc Cert.Kernel5Ideal.main_arg5 (by decide))).trans (Cert.Kernel5Ideal.Gen.W6_main_arg5 m ρ c)
    · exact (h c _ (Cert.Kernel5Ideal.Gen.mem_uc Cert.Kernel5Ideal.main_arg6 (by decide))).trans (Cert.Kernel5Ideal.Gen.W6_main_arg6 m ρ c)
  refine (θ_run Cert.Reference5Ideal.defs _ _).mono (fun r h c => ?_) (Cert.Reference5Ideal.Value.run (F := Ideal) m' ρ')
  obtain ⟨a0, a1, a2, a3, a4, a5, a6⟩ := hagree c
  obtain ⟨h0, h1, h2, h3, h4, h5, hargs⟩ := h c
  refine ⟨?_, ?_, ?_, ?_, ?_, ?_, hargs⟩
  · refine h0.trans ((Cert.Reference5Ideal.Read.val_main_v14_eq _ _ _).trans ?_)
    rw [a0, a1, a2]
    refine Eq.trans ?_ (Cert.Kernel5Ideal.ProjRun.v0_eq m ρ c).symm
    funext i
    rw [pair i]
    exact (ref5_y _ _ _ _ _).trans (add_comm (G := EReal) _ _)
  · refine h1.trans ((Cert.Reference5Ideal.Read.val_main_v15_eq _ _).trans ?_)
    rw [a2, a3]
    refine Eq.trans ?_ (Cert.Kernel5Ideal.ProjRun.v1_eq m ρ c).symm
    funext i
    rw [pair i]
    exact ref5_do _ _ _ _
  · refine h2.trans ((Cert.Reference5Ideal.Read.val_main_v16_eq _ _).trans ?_)
    rw [a1, a3]
    refine Eq.trans ?_ (Cert.Kernel5Ideal.ProjRun.v2_eq m ρ c).symm
    funext i
    rw [pair i]
    exact ref5_dw_out _ _ _ _
  · refine h3.trans ((Cert.Reference5Ideal.Read.val_main_v17_eq _ _).trans ?_)
    rw [a4, a5]
    refine Eq.trans ?_ (Cert.Kernel5Ideal.ProjRun.v3_eq m ρ c).symm
    funext i
    rw [pair i]
    exact ref5_proj _ _ _ _
  · refine h4.trans ((Cert.Reference5Ideal.Read.val_main_v10_eq _ _).trans ?_)
    rw [a4, a5]
    refine Eq.trans ?_ (Cert.Kernel5Ideal.ProjRun.v4_eq m ρ c).symm
    funext i
    rw [pair i]
    exact ref5_proj _ _ _ _
  · refine h5.trans ((Cert.Reference5Ideal.Read.val_main_v18_eq _ _).trans ?_)
    rw [a4, a6]
    refine Eq.trans ?_ (Cert.Kernel5Ideal.ProjRun.v5_eq m ρ c).symm
    funext i
    rw [pair i]
    exact ref5_dw_in _ _ _ _

theorem algebraic6 : Cert.algebraic_Kernel6Ideal_Reference6Ideal := by
  intro m ρ m' ρ' _ hagree
  refine ⟨fun c => Cert.Kernel6Ideal.InBwd.arr m c, (θ_run Cert.Kernel6Ideal.defs _ _).mono
    (fun r h c => ⟨(h c).1.trans (Cert.Kernel6Ideal.InBwd.final m c), (h c).2⟩) (Cert.Kernel6Ideal.Value.run_blocks m ρ), ?_⟩
  refine (θ_run Cert.Reference6Ideal.defs _ _).mono (fun r h c => ⟨?_, (h c).2⟩) (Cert.Reference6Ideal.Value.run (F := Ideal) m' ρ')
  refine (h c).1.trans ((Cert.Reference6Ideal.Read.val_main_v4_eq _ _).trans ?_)
  rw [(hagree c).1, (hagree c).2]
  funext i
  rw [pair i]
  exact ref6 _ _ _ _

end Cert.Proof
-- ==== Proof.Step.lean ====
module

public import proofs.«01_k».proof.Proof.Gen.KernelIdeal.Skeleton

/-! What the kernel does with one head and one block of keys, in the kernel's own vector operations:
the same for each of the four heads of a grid point, inside the loop over the blocks left of the
diagonal and on the diagonal block (where the mask enters). -/

@[expose] public section

noncomputable section

namespace Cert.KernelIdeal.Step

open Idealize.ShloMosaic Idealize.ShloMosaic.TcCoe
open Cert.KernelIdeal.Gen

variable {F : FTy → Type} [FloatOps F] [Named F]

/-- A block of logits before scaling, and of the gradients of the weights: rows against rows. -/
def prod (x y : Vec F S256x128 .bf16) : FVec F S256x256 .f32 :=
  matmul dot_S256x128_S256x128_S256x256_1_1_0_0_n_n none x y (constant S256x256 .f32 0x00000000#32)

/-- The scaled logits. -/
def logit (q k : Vec F S256x128 .bf16) : FVec F S256x256 .f32 :=
  mulf (prod q k) (broadcast S256x256 (Scalar.ofBits .f32 0x3DB504F3#32 : F .f32))

/-- The logarithm of the sigmoid, through the absolute value. -/
def logSig (z : FVec F S256x256 .f32) : FVec F S256x256 .f32 :=
  subf (minimumf z (broadcast S256x256 (Scalar.ofBits .f32 0x00000000#32 : F .f32)))
    (log (addf (broadcast S256x256 (Scalar.ofBits .f32 0x3F800000#32 : F .f32))
      (exp (subf (broadcast S256x256 (Scalar.ofBits .f32 0x00000000#32 : F .f32)) (absf z)))))

/-- The two 16-bit parts of a block, side by side. -/
def parts (x : FVec F S256x256 .f32) : FVec F S256x512 .bf16 :=
  concatenate S256x512 1
    [⟨S256x256, truncf .bf16 x bitsLt_bf16_f32⟩,
     ⟨S256x256, truncf .bf16 (subf x (extf .f32 (truncf .bf16 x bitsLt_bf16_f32) bitsLt_bf16_f32)) bitsLt_bf16_f32⟩]
    concatenates_S256x256_S256x256_S256x512_d1

/-- Sums along the rows of a block, by a triangle of ones stacked twice. -/
def rowSums (x : FVec F S256x256 .f32) (tri : Vec F S512x256 .bf16) : FVec F S256x256 .f32 :=
  matmul dot_S256x512_S512x256_S256x256_1_0_0_1_n_n none (parts x) tri (constant S256x256 .f32 0x00000000#32)

/-- The weights. -/
def weight (lsm lk : FVec F S256x256 .f32) (ctot lpre : FVec F S256x1 .f32) (tri : Vec F S512x256 .bf16) :
    FVec F S256x256 .f32 :=
  exp (subf (addf lsm (broadcastTo S256x256 (subf ctot lpre) broadcasts_S256x1_S256x256)) (rowSums lk tri))

/-- The weights times their gradients. -/
def wgrad (a : FVec F S256x256 .f32) (o v : Vec F S256x128 .bf16) : FVec F S256x256 .f32 :=
  mulf a (prod o v)

/-- The sums of these over the keys before. -/
def before (gw : FVec F S256x256 .f32) (gpre : FVec F S256x1 .f32) (tri : Vec F S512x256 .bf16) :
    FVec F S256x256 .f32 :=
  addf (broadcastTo S256x256 gpre broadcasts_S256x1_S256x256) (rowSums gw tri)

/-- The gradient of the unscaled logits. -/
def dlogit (z lsm gw gex : FVec F S256x256 .f32) : FVec F S256x256 .bf16 :=
  truncf .bf16
    (mulf (subf (mulf gw (exp (subf lsm z))) (mulf (exp lsm) gex))
      (broadcast S256x256 (Scalar.ofBits .f32 0x3DB504F3#32 : F .f32)))
    bitsLt_bf16_f32

/-- A block times the keys, added to the queries' gradient. -/
def addRows (dq : FVec F S256x128 .f32) (dz : FVec F S256x256 .bf16) (k : Vec F S256x128 .bf16) :
    FVec F S256x128 .f32 :=
  addf dq (matmul dot_S256x256_S256x128_S256x128_1_0_0_1_n_n none dz k (constant S256x128 .f32 0x00000000#32))

/-- A block, transposed, times rows, added to what a scratch buffer held. -/
def addCols (old : Vec F S256x128 .f32) (dz : FVec F S256x256 .bf16) (q : Vec F S256x128 .bf16) :
    FVec F S256x128 .f32 :=
  shapeCast S256x128
    (addf old (matmul dot_S256x256_S256x128_S256x128_0_0_1_1_n_n none dz q (constant S256x128 .f32 0x00000000#32)))
    shapeCasts_S256x128_S256x128

/-- The row sums of a block, added to a running sum. -/
def addSum (pre : FVec F S256x1 .f32) (x : FVec F S256x256 .f32) : FVec F S256x1 .f32 :=
  addf pre (shapeCast S256x1
    (multiReduction .add [1] S256 x 0x00000000#32 reduces_S256x256_S256 (.inl rfl) rfl) shapeCasts_S256_S256x1)

/-- `log keep` of a block wholly left of the diagonal. -/
def keep (z : FVec F S256x256 .f32) : FVec F S256x256 .f32 := subf (logSig z) z

/-- The strictly lower triangle. -/
def low : IVec S256x256 1 :=
  cmpi .sgt (iota .tc S256x256 32 [0] iota_S256x256_d0_w32) (iota .tc S256x256 32 [1] iota_S256x256_d1_w32)

/-- `log keep` of the diagonal block. -/
def keepD (z : FVec F S256x256 .f32) : FVec F S256x256 .f32 :=
  select low (keep z) (broadcast S256x256 (Scalar.ofBits .f32 0x00000000#32 : F .f32))

/-- The logarithm of the sigmoid on the diagonal block. -/
def logSigD (z : FVec F S256x256 .f32) : FVec F S256x256 .f32 :=
  select low (logSig z) (broadcast S256x256 (Named.named κ "mask" 0xF149F2CA#32 : F .f32))

/-- The quantities of one head before a block of keys. -/
structure Pre (F : FTy → Type) where
  dq : FVec F S256x128 .f32
  lpre : FVec F S256x1 .f32
  gpre : FVec F S256x1 .f32

/-- One head's rows: queries, output gradients, the row sums of `log keep`. -/
structure Rows (F : FTy → Type) where
  q : Vec F S256x128 .bf16
  o : Vec F S256x128 .bf16
  c : FVec F S256x1 .f32

/-- A block of keys and values and the two triangles. -/
structure Keys (F : FTy → Type) where
  k : Vec F S256x128 .bf16
  v : Vec F S256x128 .bf16
  ti : Vec F S512x256 .bf16
  ts : Vec F S512x256 .bf16

/-- The logits of the block, with their masked `logSig` and `keep`, as a head reads them. -/
structure Logits (F : FTy → Type) where
  z : FVec F S256x256 .f32
  lsm : FVec F S256x256 .f32
  lk : FVec F S256x256 .f32

def full (h : Rows F) (b : Keys F) : Logits F :=
  ⟨logit h.q b.k, logSig (logit h.q b.k), keep (logit h.q b.k)⟩

def diag (h : Rows F) (b : Keys F) : Logits F :=
  ⟨logit h.q b.k, logSigD (logit h.q b.k), keepD (logit h.q b.k)⟩

variable (h : Rows F) (b : Keys F) (x : Logits F) (p : Pre F)

def hA : FVec F S256x256 .f32 := weight x.lsm x.lk h.c p.lpre b.ti
def hGw : FVec F S256x256 .f32 := wgrad (hA h b x p) h.o b.v
def hDz : FVec F S256x256 .bf16 := dlogit x.z x.lsm (hGw h b x p) (before (hGw h b x p) p.gpre b.ts)
def hPre : Pre F := ⟨addRows p.dq (hDz h b x p) b.k, addSum p.lpre x.lk, addSum p.gpre (hGw h b x p)⟩
def hDk (old : Vec F S256x128 .f32) : FVec F S256x128 .f32 := addCols old (hDz h b x p) h.q
def hDv (old : Vec F S256x128 .f32) : FVec F S256x128 .f32 :=
  addCols old (truncf .bf16 (hA h b x p) bitsLt_bf16_f32) h.o

end Cert.KernelIdeal.Step

end
-- ==== Proof.Trip.lean ====
module

public import proofs.«01_k».proof.Proof.Gen.KernelIdeal.Loops
public import proofs.«01_k».proof.Proof.Step

/-! One trip of the kernel's loop over the key blocks, in the terms of one head's step. -/

@[expose] public section

set_option maxRecDepth 16384

noncomputable section

namespace Cert.KernelIdeal.Step

open Idealize.ShloMosaic Idealize.ShloMosaic.TcCoe Idealize.ShloMosaic.Tactic
open Cert.KernelIdeal.Gen

variable {F : FTy → Type} [FloatOps F] [Named F]

/-- A block of keys and values as a head loads it, with the triangles. -/
def keysAt (v3 v4 : View sig .tc .vmem S2048x512 .bf16) (v12 v13 : View sig .tc .vmem S512x256 .bf16)
    (X3 : v3.ty.Contents (Elt F)) (X4 : v4.ty.Contents (Elt F)) (X12 : v12.ty.Contents (Elt F))
    (X13 : v13.ty.Contents (Elt F)) {off : Fin 2 → ℕ} (inb : ∀ a, off a + S256x128.size a ≤ S2048x512.size a) : Keys F :=
  ⟨v3.readAt (Elt F) (Rect.unit (s := S2048x512) off S256x128.size inb).toLoadRect X3,
   v4.readAt (Elt F) (Rect.unit (s := S2048x512) off S256x128.size inb).toLoadRect X4,
   v12.readAt (Elt F) (Rect.unit (s := S512x256) ![0, 0] S512x256.size inb_S512x256_S512x256_0_0).toLoadRect X12,
   v13.readAt (Elt F) (Rect.unit (s := S512x256) ![0, 0] S512x256.size inb_S512x256_S512x256_0_0).toLoadRect X13⟩

/-- What a head stores of its keys' gradient, over the contents `f`. -/
def dkPiece (v : View sig .tc .vmem S2048x512 .f32) (f : v.ty.Contents (Elt F)) {off : Fin 2 → ℕ}
    (inb : ∀ a, off a + S256x128.size a ≤ S2048x512.size a) (h : Rows F) (b : Keys F) (x : Logits F) (p : Pre F) :
    View.Piece (Elt F) S2048x512 .f32 :=
  ⟨Rect.unit (s := S2048x512) off S256x128.size inb,
    hDk h b x p (v.readAt (Elt F) (Rect.unit (s := S2048x512) off S256x128.size inb).toLoadRect f)⟩

/-- What a head stores of its values' gradient, over the contents `f`. -/
def dvPiece (v : View sig .tc .vmem S2048x512 .f32) (f : v.ty.Contents (Elt F)) {off : Fin 2 → ℕ}
    (inb : ∀ a, off a + S256x128.size a ≤ S2048x512.size a) (h : Rows F) (b : Keys F) (x : Logits F) (p : Pre F) :
    View.Piece (Elt F) S2048x512 .f32 :=
  ⟨Rect.unit (s := S2048x512) off S256x128.size inb,
    hDv h b x p (v.readAt (Elt F) (Rect.unit (s := S2048x512) off S256x128.size inb).toLoadRect f)⟩

/-- What the loop carries: of each head the queries' gradient and the two running sums. -/
abbrev Carried (F : FTy → Type) : Type :=
  FVec F S256x128 .f32 × FVec F S256x1 .f32 × FVec F S256x1 .f32
  × FVec F S256x128 .f32 × FVec F S256x1 .f32 × FVec F S256x1 .f32
  × FVec F S256x128 .f32 × FVec F S256x1 .f32 × FVec F S256x1 .f32
  × FVec F S256x128 .f32 × FVec F S256x1 .f32 × FVec F S256x1 .f32

/-- The part of head 0. -/
def pre0 (a : Carried F) : Pre F := ⟨a.1, a.2.1, a.2.2.1⟩

/-- The part of head 1. -/
def pre1 (a : Carried F) : Pre F := ⟨a.2.2.2.1, a.2.2.2.2.1, a.2.2.2.2.2.1⟩

/-- The part of head 2. -/
def pre2 (a : Carried F) : Pre F := ⟨a.2.2.2.2.2.2.1, a.2.2.2.2.2.2.2.1, a.2.2.2.2.2.2.2.2.1⟩

/-- The part of head 3. -/
def pre3 (a : Carried F) : Pre F := ⟨a.2.2.2.2.2.2.2.2.2.1, a.2.2.2.2.2.2.2.2.2.2.1, a.2.2.2.2.2.2.2.2.2.2.2⟩

variable
  (𝒱 : Variants) (c : Dev nD) (bd : Option 𝒱.V) (i : grid0.Coords) (arg2 : Memref sig .tc .vmem S256x512 .bf16)
  (harg2 : arg2.IsWhole) (arg3 : Memref sig .tc .vmem S2048x512 .bf16) (harg3 : arg3.IsWhole)
  (arg4 : Memref sig .tc .vmem S2048x512 .bf16) (harg4 : arg4.IsWhole) (arg5 : Memref sig .tc .vmem S256x512 .bf16)
  (harg5 : arg5.IsWhole) (arg6 : Memref sig .tc .vmem S4x256x1 .f32) (harg6 : arg6.IsWhole)
  (arg7 : Memref sig .tc .vmem S256x512 .bf16) (harg7 : arg7.IsWhole) (arg8 : Memref sig .tc .vmem S2048x512 .bf16)
  (harg8 : arg8.IsWhole) (arg9 : Memref sig .tc .vmem S2048x512 .bf16) (harg9 : arg9.IsWhole)
  (arg10 : Memref sig .tc .vmem S2048x512 .f32) (harg10 : arg10.IsWhole)
  (arg11 : Memref sig .tc .vmem S2048x512 .f32) (harg11 : arg11.IsWhole)
  (arg12 : Memref sig .tc .vmem S512x256 .bf16) (harg12 : arg12.IsWhole)
  (arg13 : Memref sig .tc .vmem S512x256 .bf16) (harg13 : arg13.IsWhole) (arg1 : BitVec 32)
  (v25 : Vec F S256x128 .bf16) (v26 : Vec F S256x128 .bf16) (v28 : FVec F S256x1 .f32) (v29 : Vec F S256x128 .bf16)
  (v30 : Vec F S256x128 .bf16) (v31 : Vec F S1x256x1 .f32) (v33 : Vec F S256x128 .bf16)
  (v34 : Vec F S256x128 .bf16) (v35 : Vec F S1x256x1 .f32) (v37 : Vec F S256x128 .bf16)
  (v38 : Vec F S256x128 .bf16) (v39 : Vec F S1x256x1 .f32) (X_arg3 : BufTy.Contents (Elt F) arg3.view.ty)
  (X_arg4 : BufTy.Contents (Elt F) arg4.view.ty) (X_arg12 : BufTy.Contents (Elt F) arg12.view.ty)
  (X_arg13 : BufTy.Contents (Elt F) arg13.view.ty)

/-- The carried value after a trip of the loop. -/
theorem trip1_carried (k : Fin (k0_t1_loop i).trips) (acc : Carried F)
    (f_arg10 : BufTy.Contents (Elt F) arg10.view.ty) (f_arg11 : BufTy.Contents (Elt F) arg11.view.ty) :
    let h0 : Rows F := ⟨v25, v26, v28⟩
    let b0 : Keys F := keysAt arg3.view arg4.view arg12.view arg13.view X_arg3 X_arg4 X_arg12 X_arg13 (k0_off1_inb i k)
    let h1 : Rows F := ⟨v29, v30, k0_pay105 v31⟩
    let b1 : Keys F := keysAt arg3.view arg4.view arg12.view arg13.view X_arg3 X_arg4 X_arg12 X_arg13 (k0_off2_inb i k)
    let h2 : Rows F := ⟨v33, v34, k0_pay106 v35⟩
    let b2 : Keys F := keysAt arg3.view arg4.view arg12.view arg13.view X_arg3 X_arg4 X_arg12 X_arg13 (k0_off3_inb i k)
    let h3 : Rows F := ⟨v37, v38, k0_pay107 v39⟩
    let b3 : Keys F := keysAt arg3.view arg4.view arg12.view arg13.view X_arg3 X_arg4 X_arg12 X_arg13 (k0_off4_inb i k)
    tripR_k0_t1 (F := F)
      𝒱 c bd i arg2 harg2 arg3 harg3 arg4 harg4 arg5 harg5 arg6 harg6 arg7 harg7 arg8 harg8 arg9 harg9 arg10 harg10
      arg11 harg11 arg12 harg12 arg13 harg13 arg1 v25 v26 v28 v29 v30 v31 v33 v34 v35 v37 v38 v39 X_arg3 X_arg4
      X_arg12 X_arg13 k acc f_arg10 f_arg11
    =
      ((hPre h0 b0 (full h0 b0) (pre0 acc)).dq, (hPre h0 b0 (full h0 b0) (pre0 acc)).lpre,
        (hPre h0 b0 (full h0 b0) (pre0 acc)).gpre,
       (hPre h1 b1 (full h1 b1) (pre1 acc)).dq, (hPre h1 b1 (full h1 b1) (pre1 acc)).lpre,
        (hPre h1 b1 (full h1 b1) (pre1 acc)).gpre,
       (hPre h2 b2 (full h2 b2) (pre2 acc)).dq, (hPre h2 b2 (full h2 b2) (pre2 acc)).lpre,
        (hPre h2 b2 (full h2 b2) (pre2 acc)).gpre,
       (hPre h3 b3 (full h3 b3) (pre3 acc)).dq, (hPre h3 b3 (full h3 b3) (pre3 acc)).lpre,
        (hPre h3 b3 (full h3 b3) (pre3 acc)).gpre) := by
  dsimp only [tripR_k0_t1]
  unfold trip_k0_t1
  sl_unfold_words
  rfl

/-- The stores of a trip of the loop. -/
theorem trip1_stores (k : Fin (k0_t1_loop i).trips) (acc : Carried F)
    (f_arg10 : BufTy.Contents (Elt F) arg10.view.ty) (f_arg11 : BufTy.Contents (Elt F) arg11.view.ty) :
    let h0 : Rows F := ⟨v25, v26, v28⟩
    let b0 : Keys F := keysAt arg3.view arg4.view arg12.view arg13.view X_arg3 X_arg4 X_arg12 X_arg13 (k0_off1_inb i k)
    let h1 : Rows F := ⟨v29, v30, k0_pay105 v31⟩
    let b1 : Keys F := keysAt arg3.view arg4.view arg12.view arg13.view X_arg3 X_arg4 X_arg12 X_arg13 (k0_off2_inb i k)
    let h2 : Rows F := ⟨v33, v34, k0_pay106 v35⟩
    let b2 : Keys F := keysAt arg3.view arg4.view arg12.view arg13.view X_arg3 X_arg4 X_arg12 X_arg13 (k0_off3_inb i k)
    let h3 : Rows F := ⟨v37, v38, k0_pay107 v39⟩
    let b3 : Keys F := keysAt arg3.view arg4.view arg12.view arg13.view X_arg3 X_arg4 X_arg12 X_arg13 (k0_off4_inb i k)
    tripL_k0_t1 (F := F)
      𝒱 c bd i arg2 harg2 arg3 harg3 arg4 harg4 arg5 harg5 arg6 harg6 arg7 harg7 arg8 harg8 arg9 harg9 arg10 harg10
      arg11 harg11 arg12 harg12 arg13 harg13 arg1 v25 v26 v28 v29 v30 v31 v33 v34 v35 v37 v38 v39 X_arg3 X_arg4
      X_arg12 X_arg13 k acc f_arg10 f_arg11
    =
      ([dkPiece arg10.view f_arg10 (k0_off4_inb i k) h3 b3 (full h3 b3) (pre3 acc),
        dkPiece arg10.view f_arg10 (k0_off3_inb i k) h2 b2 (full h2 b2) (pre2 acc),
        dkPiece arg10.view f_arg10 (k0_off2_inb i k) h1 b1 (full h1 b1) (pre1 acc),
        dkPiece arg10.view f_arg10 (k0_off1_inb i k) h0 b0 (full h0 b0) (pre0 acc)],
       [dvPiece arg11.view f_arg11 (k0_off4_inb i k) h3 b3 (full h3 b3) (pre3 acc),
        dvPiece arg11.view f_arg11 (k0_off3_inb i k) h2 b2 (full h2 b2) (pre2 acc),
        dvPiece arg11.view f_arg11 (k0_off2_inb i k) h1 b1 (full h1 b1) (pre1 acc),
        dvPiece arg11.view f_arg11 (k0_off1_inb i k) h0 b0 (full h0 b0) (pre0 acc)]) := by
  dsimp only [tripL_k0_t1]
  unfold trip_k0_t1
  sl_unfold_words
  rfl

end Cert.KernelIdeal.Step

end
-- ==== Proof.Run.lean ====
module

public import proofs.«01_k».proof.Proof.Gen.KernelIdeal.Frame
public import proofs.«01_k».proof.Proof.Trip

/-! What a grid point leaves, in the terms of one head's step: the loop over the key blocks left of the
diagonal, then the diagonal block. -/

@[expose] public section

set_option maxRecDepth 16384

noncomputable section

namespace Cert.KernelIdeal.Step

open Idealize.ShloMosaic Idealize.ShloMosaic.TcCoe Idealize.ShloMosaic.Tactic
open Cert.KernelIdeal.Gen

variable {F : FTy → Type} [FloatOps F] [Named F]

/-- The stores of the triangle with its diagonal. -/
def triIncl : List (View.Piece (Elt F) S512x256 .bf16) :=
  [⟨Rect.unit (s := S512x256) ![256, 0] S256x256.size inb_S512x256_S256x256_256_0, k0_pay102⟩,
   ⟨Rect.unit (s := S512x256) ![0, 0] S256x256.size inb_S512x256_S256x256_0_0, k0_pay100⟩]

/-- The stores of the triangle without. -/
def triStrict : List (View.Piece (Elt F) S512x256 .bf16) :=
  [⟨Rect.unit (s := S512x256) ![256, 0] S256x256.size inb_S512x256_S256x256_256_0, k0_pay103⟩,
   ⟨Rect.unit (s := S512x256) ![0, 0] S256x256.size inb_S512x256_S256x256_0_0, k0_pay101⟩]

/-- The stores of zeros over an accumulator. -/
def zeros : List (View.Piece (Elt F) S2048x512 .f32) :=
  [⟨Rect.unit (s := S2048x512) ![0, 0] S2048x512.size inb_S2048x512_S2048x512_0_0, k0_pay96⟩]

/-- The four heads' stores of the keys' gradients on the diagonal, after the stores `L`. -/
def dkDiag (i : grid0.Coords) (v : View sig .tc .vmem S2048x512 .f32) (f : v.ty.Contents (Elt F))
    (h0 h1 h2 h3 : Rows F) (b0 b1 b2 b3 : Keys F) (a : Carried F) (L : List (View.Piece (Elt F) S2048x512 .f32)) :
    List (View.Piece (Elt F) S2048x512 .f32) :=
  let L0 := dkPiece v (v.writes (Elt F) f L) (k0_off9_inb i) h0 b0 (diag h0 b0) (pre0 a) :: L
  let L1 := dkPiece v (v.writes (Elt F) f L0) (k0_off10_inb i) h1 b1 (diag h1 b1) (pre1 a) :: L0
  let L2 := dkPiece v (v.writes (Elt F) f L1) (k0_off11_inb i) h2 b2 (diag h2 b2) (pre2 a) :: L1
  dkPiece v (v.writes (Elt F) f L2) (k0_off12_inb i) h3 b3 (diag h3 b3) (pre3 a) :: L2

/-- The four heads' stores of the values' gradients on the diagonal, after the stores `L`. -/
def dvDiag (i : grid0.Coords) (v : View sig .tc .vmem S2048x512 .f32) (f : v.ty.Contents (Elt F))
    (h0 h1 h2 h3 : Rows F) (b0 b1 b2 b3 : Keys F) (a : Carried F) (L : List (View.Piece (Elt F) S2048x512 .f32)) :
    List (View.Piece (Elt F) S2048x512 .f32) :=
  let L0 := dvPiece v (v.writes (Elt F) f L) (k0_off9_inb i) h0 b0 (diag h0 b0) (pre0 a) :: L
  let L1 := dvPiece v (v.writes (Elt F) f L0) (k0_off10_inb i) h1 b1 (diag h1 b1) (pre1 a) :: L0
  let L2 := dvPiece v (v.writes (Elt F) f L1) (k0_off11_inb i) h2 b2 (diag h2 b2) (pre2 a) :: L1
  dvPiece v (v.writes (Elt F) f L2) (k0_off12_inb i) h3 b3 (diag h3 b3) (pre3 a) :: L2

/-- The four heads' stores of the queries' gradients. -/
def dqDiag (h0 h1 h2 h3 : Rows F) (b0 b1 b2 b3 : Keys F) (a : Carried F) :
    List (View.Piece (Elt F) S256x512 .bf16) :=
  [⟨Rect.unit (s := S256x512) ![0, 384] S256x128.size inb_S256x512_S256x128_0_384,
     truncf .bf16 (hPre h3 b3 (diag h3 b3) (pre3 a)).dq bitsLt_bf16_f32⟩,
   ⟨Rect.unit (s := S256x512) ![0, 256] S256x128.size inb_S256x512_S256x128_0_256,
     truncf .bf16 (hPre h2 b2 (diag h2 b2) (pre2 a)).dq bitsLt_bf16_f32⟩,
   ⟨Rect.unit (s := S256x512) ![0, 128] S256x128.size inb_S256x512_S256x128_0_128,
     truncf .bf16 (hPre h1 b1 (diag h1 b1) (pre1 a)).dq bitsLt_bf16_f32⟩,
   ⟨Rect.unit (s := S256x512) ![0, 0] S256x128.size inb_S256x512_S256x128_0_0,
     truncf .bf16 (hPre h0 b0 (diag h0 b0) (pre0 a)).dq bitsLt_bf16_f32⟩]

variable
  (c : Dev nD) (i : grid0.Coords) (arg2 : Memref sig .tc .vmem S256x512 .bf16) (harg2 : arg2.IsWhole)
  (arg3 : Memref sig .tc .vmem S2048x512 .bf16) (harg3 : arg3.IsWhole)
  (arg4 : Memref sig .tc .vmem S2048x512 .bf16) (harg4 : arg4.IsWhole) (arg5 : Memref sig .tc .vmem S256x512 .bf16)
  (harg5 : arg5.IsWhole) (arg6 : Memref sig .tc .vmem S4x256x1 .f32) (harg6 : arg6.IsWhole)
  (arg7 : Memref sig .tc .vmem S256x512 .bf16) (harg7 : arg7.IsWhole) (arg8 : Memref sig .tc .vmem S2048x512 .bf16)
  (harg8 : arg8.IsWhole) (arg9 : Memref sig .tc .vmem S2048x512 .bf16) (harg9 : arg9.IsWhole)
  (arg10 : Memref sig .tc .vmem S2048x512 .f32) (harg10 : arg10.IsWhole)
  (arg11 : Memref sig .tc .vmem S2048x512 .f32) (harg11 : arg11.IsWhole)
  (arg12 : Memref sig .tc .vmem S512x256 .bf16) (harg12 : arg12.IsWhole)
  (arg13 : Memref sig .tc .vmem S512x256 .bf16) (harg13 : arg13.IsWhole)
  (x0 : Vec F S256x512 .bf16) (x1 x2 : Vec F S2048x512 .bf16) (x3 : Vec F S256x512 .bf16) (x4 : Vec F S4x256x1 .f32)

/-- The rows of head 0. -/
def row0 : Rows F :=
  ⟨View.readAt (Elt F) arg2.view (Rect.unit (s := S256x512) ![0, 0] S256x128.size inb_S256x512_S256x128_0_0).toLoadRect
      (harg2.unread x0),
   View.readAt (Elt F) arg5.view (Rect.unit (s := S256x512) ![0, 0] S256x128.size inb_S256x512_S256x128_0_0).toLoadRect
      (harg5.unread x3),
   k0_pay104 (View.readAt (Elt F) arg6.view (Rect.unit (s := S4x256x1) ![0, 0, 0] S1x256x1.size
      inb_S4x256x1_S1x256x1_0_0_0).toLoadRect (harg6.unread x4))⟩

/-- The rows of head 1. -/
def row1 : Rows F :=
  ⟨View.readAt (Elt F) arg2.view (Rect.unit (s := S256x512) ![0, 128] S256x128.size inb_S256x512_S256x128_0_128).toLoadRect
      (harg2.unread x0),
   View.readAt (Elt F) arg5.view (Rect.unit (s := S256x512) ![0, 128] S256x128.size inb_S256x512_S256x128_0_128).toLoadRect
      (harg5.unread x3),
   k0_pay105 (View.readAt (Elt F) arg6.view (Rect.unit (s := S4x256x1) ![1, 0, 0] S1x256x1.size
      inb_S4x256x1_S1x256x1_1_0_0).toLoadRect (harg6.unread x4))⟩

/-- The rows of head 2. -/
def row2 : Rows F :=
  ⟨View.readAt (Elt F) arg2.view (Rect.unit (s := S256x512) ![0, 256] S256x128.size inb_S256x512_S256x128_0_256).toLoadRect
      (harg2.unread x0),
   View.readAt (Elt F) arg5.view (Rect.unit (s := S256x512) ![0, 256] S256x128.size inb_S256x512_S256x128_0_256).toLoadRect
      (harg5.unread x3),
   k0_pay106 (View.readAt (Elt F) arg6.view (Rect.unit (s := S4x256x1) ![2, 0, 0] S1x256x1.size
      inb_S4x256x1_S1x256x1_2_0_0).toLoadRect (harg6.unread x4))⟩

/-- The rows of head 3. -/
def row3 : Rows F :=
  ⟨View.readAt (Elt F) arg2.view (Rect.unit (s := S256x512) ![0, 384] S256x128.size inb_S256x512_S256x128_0_384).toLoadRect
      (harg2.unread x0),
   View.readAt (Elt F) arg5.view (Rect.unit (s := S256x512) ![0, 384] S256x128.size inb_S256x512_S256x128_0_384).toLoadRect
      (harg5.unread x3),
   k0_pay107 (View.readAt (Elt F) arg6.view (Rect.unit (s := S4x256x1) ![3, 0, 0] S1x256x1.size
      inb_S4x256x1_S1x256x1_3_0_0).toLoadRect (harg6.unread x4))⟩

/-- The diagonal block of head 0's keys. -/
def key0 : Keys F :=
  keysAt arg3.view arg4.view arg12.view arg13.view (harg3.unread x1) (harg4.unread x2)
    (arg12.view.writes (Elt F) arg12.view.junk triIncl) (arg13.view.writes (Elt F) arg13.view.junk triStrict)
    (k0_off9_inb i)

/-- The diagonal block of head 1's keys. -/
def key1 : Keys F :=
  keysAt arg3.view arg4.view arg12.view arg13.view (harg3.unread x1) (harg4.unread x2)
    (arg12.view.writes (Elt F) arg12.view.junk triIncl) (arg13.view.writes (Elt F) arg13.view.junk triStrict)
    (k0_off10_inb i)

/-- The diagonal block of head 2's keys. -/
def key2 : Keys F :=
  keysAt arg3.view arg4.view arg12.view arg13.view (harg3.unread x1) (harg4.unread x2)
    (arg12.view.writes (Elt F) arg12.view.junk triIncl) (arg13.view.writes (Elt F) arg13.view.junk triStrict)
    (k0_off11_inb i)

/-- The diagonal block of head 3's keys. -/
def key3 : Keys F :=
  keysAt arg3.view arg4.view arg12.view arg13.view (harg3.unread x1) (harg4.unread x2)
    (arg12.view.writes (Elt F) arg12.view.junk triIncl) (arg13.view.writes (Elt F) arg13.view.junk triStrict)
    (k0_off12_inb i)

/-- What the loop leaves: the carried value and its stores. -/
def loop1 (G10 : BufTy.Contents (Elt F) arg10.view.ty) (G11 : BufTy.Contents (Elt F) arg11.view.ty) :
    Carried F × List (View.Piece (Elt F) S2048x512 .f32) × List (View.Piece (Elt F) S2048x512 .f32) :=
  st_k0_t1 (F := F) Variants.none c none i
    arg2 harg2 arg3 harg3 arg4 harg4 arg5 harg5 arg6 harg6 arg7 harg7 arg8 harg8 arg9 harg9 arg10 harg10 arg11
    harg11 arg12 harg12 arg13 harg13
    (BitVec.ofNat 32 ↑(i 1))
    (row0 arg2 harg2 arg5 harg5 arg6 harg6 x0 x3 x4).q
    (row0 arg2 harg2 arg5 harg5 arg6 harg6 x0 x3 x4).o
    (row0 arg2 harg2 arg5 harg5 arg6 harg6 x0 x3 x4).c
    (row1 arg2 harg2 arg5 harg5 arg6 harg6 x0 x3 x4).q
    (row1 arg2 harg2 arg5 harg5 arg6 harg6 x0 x3 x4).o
    (View.readAt (Elt F) arg6.view (Rect.unit (s := S4x256x1) ![1, 0, 0] S1x256x1.size inb_S4x256x1_S1x256x1_1_0_0).toLoadRect (harg6.unread x4))
    (row2 arg2 harg2 arg5 harg5 arg6 harg6 x0 x3 x4).q
    (row2 arg2 harg2 arg5 harg5 arg6 harg6 x0 x3 x4).o
    (View.readAt (Elt F) arg6.view (Rect.unit (s := S4x256x1) ![2, 0, 0] S1x256x1.size inb_S4x256x1_S1x256x1_2_0_0).toLoadRect (harg6.unread x4))
    (row3 arg2 harg2 arg5 harg5 arg6 harg6 x0 x3 x4).q
    (row3 arg2 harg2 arg5 harg5 arg6 harg6 x0 x3 x4).o
    (View.readAt (Elt F) arg6.view (Rect.unit (s := S4x256x1) ![3, 0, 0] S1x256x1.size inb_S4x256x1_S1x256x1_3_0_0).toLoadRect (harg6.unread x4))
    (harg3.unread x1) (harg4.unread x2)
    (arg12.view.writes (Elt F) arg12.view.junk triIncl) (arg13.view.writes (Elt F) arg13.view.junk triStrict)
    G10 G11
    (k0_pay108, k0_pay109, k0_pay110, k0_pay111, k0_pay112, k0_pay113, k0_pay114, k0_pay115, k0_pay116,
      k0_pay117, k0_pay118, k0_pay119)
    (Scf.trips (k0_t1_loop i).lb (k0_t1_loop i).ub (k0_t1_loop i).st)

/-- What the loop's remainder leaves, after the loop left `l`. -/
def loop2 (l : Carried F × List (View.Piece (Elt F) S2048x512 .f32) × List (View.Piece (Elt F) S2048x512 .f32))
    (H10 : BufTy.Contents (Elt F) arg10.view.ty) (H11 : BufTy.Contents (Elt F) arg11.view.ty) :
    Carried F × List (View.Piece (Elt F) S2048x512 .f32) × List (View.Piece (Elt F) S2048x512 .f32) :=
  st_k0_t2 (F := F) Variants.none c none i
    arg2 harg2 arg3 harg3 arg4 harg4 arg5 harg5 arg6 harg6 arg7 harg7 arg8 harg8 arg9 harg9 arg10 harg10 arg11
    harg11 arg12 harg12 arg13 harg13
    (BitVec.ofNat 32 ↑(i 1))
    (iota .tc S256x256 32 [0] iota_S256x256_d0_w32)
    (iota .tc S256x256 32 [1] iota_S256x256_d1_w32)
    (row0 arg2 harg2 arg5 harg5 arg6 harg6 x0 x3 x4).q
    (row0 arg2 harg2 arg5 harg5 arg6 harg6 x0 x3 x4).o
    (row0 arg2 harg2 arg5 harg5 arg6 harg6 x0 x3 x4).c
    (row1 arg2 harg2 arg5 harg5 arg6 harg6 x0 x3 x4).q
    (row1 arg2 harg2 arg5 harg5 arg6 harg6 x0 x3 x4).o
    (row1 arg2 harg2 arg5 harg5 arg6 harg6 x0 x3 x4).c
    (row2 arg2 harg2 arg5 harg5 arg6 harg6 x0 x3 x4).q
    (row2 arg2 harg2 arg5 harg5 arg6 harg6 x0 x3 x4).o
    (row2 arg2 harg2 arg5 harg5 arg6 harg6 x0 x3 x4).c
    (row3 arg2 harg2 arg5 harg5 arg6 harg6 x0 x3 x4).q
    (row3 arg2 harg2 arg5 harg5 arg6 harg6 x0 x3 x4).o
    (row3 arg2 harg2 arg5 harg5 arg6 harg6 x0 x3 x4).c
    (Scalar.addi (0#32 : BitVec 32) (Scalar.muli (Scalar.divsi (Scalar.subi (BitVec.ofNat 32 ↑(i 1)) (0#32 : BitVec 32)) (1#32 : BitVec 32)) (1#32 : BitVec 32)))
    l.1.1
    l.1.2.1
    l.1.2.2.1
    l.1.2.2.2.1
    l.1.2.2.2.2.1
    l.1.2.2.2.2.2.1
    l.1.2.2.2.2.2.2.1
    l.1.2.2.2.2.2.2.2.1
    l.1.2.2.2.2.2.2.2.2.1
    l.1.2.2.2.2.2.2.2.2.2.1
    l.1.2.2.2.2.2.2.2.2.2.2.1
    l.1.2.2.2.2.2.2.2.2.2.2.2
    (1#32 : BitVec 32)
    (harg3.unread x1)
    (harg4.unread x2)
    (arg12.view.writes (Elt F) arg12.view.junk triIncl)
    (arg13.view.writes (Elt F) arg13.view.junk triStrict)
    H10 H11
    (l.1.1, l.1.2.1, l.1.2.2.1, l.1.2.2.2.1, l.1.2.2.2.2.1, l.1.2.2.2.2.2.1, l.1.2.2.2.2.2.2.1, l.1.2.2.2.2.2.2.2.1, l.1.2.2.2.2.2.2.2.2.1, l.1.2.2.2.2.2.2.2.2.2.1, l.1.2.2.2.2.2.2.2.2.2.2.1, l.1.2.2.2.2.2.2.2.2.2.2.2)
    (Scf.trips (k0_t2_loop i).lb (k0_t2_loop i).ub (k0_t2_loop i).st)

end Cert.KernelIdeal.Step

end
-- ==== Proof.Math.lean ====
module

public import Idealize.ShloMosaic.PureOps.Ideal

@[expose] public section

/-! The gradient of stick-breaking attention over the real numbers, one head at a time: queries and keys
are numbered by natural numbers, `z t s` is the scaled logit of query `t` and key `s`, `da t s` the
product of the output's gradient and the value. -/

noncomputable section

namespace Cert.SB

open Finset

/-- The logarithm of the sigmoid. -/
def lsm (x : ℝ) : ℝ := min x 0 - Real.log (1 + Real.exp (-|x|))

variable (z da : ℕ → ℕ → ℝ) (c : ℝ)

/-- `log (1 - β)` below the diagonal. -/
def LK (t s : ℕ) : ℝ := if s < t then lsm (z t s) - z t s else 0

/-- Its sum over the keys. -/
def CT (t : ℕ) : ℝ := ∑ s ∈ range 2048, LK z t s

/-- The weights. -/
def A (t s : ℕ) : ℝ :=
  if s < t then Real.exp (lsm (z t s) + CT z t - ∑ s' ∈ range (s + 1), LK z t s') else 0

/-- The weights times their gradients. -/
def GW (t s : ℕ) : ℝ := A z t s * da t s

/-- The gradient of the unscaled logits. -/
def DZ (t s : ℕ) : ℝ :=
  if s < t then
    (GW z da t s * Real.exp (lsm (z t s) - z t s) - Real.exp (lsm (z t s)) * ∑ s' ∈ range s, GW z da t s') * c
  else 0

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem sum_fin_le (f : ℕ → ℝ) {n c : ℕ} (h : c < n) :
    ∑ x : Fin n, (if x.val ≤ c then f x.val else 0) = ∑ x ∈ range (c + 1), f x := by
  rw [Fin.sum_univ_eq_sum_range (fun x => if x ≤ c then f x else 0) n, ← sum_filter]
  congr 1
  ext x
  simp only [mem_filter, mem_range]
  omega

theorem sum_fin_lt (f : ℕ → ℝ) {n c : ℕ} (h : c ≤ n) :
    ∑ x : Fin n, (if x.val < c then f x.val else 0) = ∑ x ∈ range c, f x := by
  rw [Fin.sum_univ_eq_sum_range (fun x => if x < c then f x else 0) n, ← sum_filter]
  congr 1
  ext x
  simp only [mem_filter, mem_range]
  omega

theorem log_pos_arg (x : ℝ) : ¬ 1 + Real.exp x ≤ 0 := by
  have := Real.exp_pos x
  linarith

end Cert.SB

end
-- ==== Proof.StepIdeal.lean ====
module

public import proofs.«01_k».proof.Proof.Step
public import proofs.«01_k».proof.Proof.Math
public import Idealize.ShloMosaic.Lib.Pointwise

/-! One step of the kernel over the extended reals, on inputs that are real numbers. -/

@[expose] public section

set_option maxRecDepth 16384

noncomputable section

namespace Cert.KernelIdeal.Step

open Idealize.ShloMosaic Idealize.ShloMosaic.TcCoe
open Cert.KernelIdeal.Gen Cert.SB

/-- The scale `1 / √128`, as the program writes it. -/
def scale : ℝ := (Ideal.ofBits .f32 0x3DB504F3#32).toReal

theorem scale_coe : Ideal.ofBits .f32 0x3DB504F3#32 = (scale : EReal) := by
  refine (EReal.coe_toReal ?_ ?_).symm <;> simp [Ideal.ofBits, Ideal.ieee, -EReal.coe_mul]

theorem mask_bot (b : BitVec 32) : Named.named (F := Ideal) (φ := .f32) κ "mask" b = (⊥ : EReal) := rfl

theorem absf_coe (x : ℝ) : FloatOps.absf (F := Ideal) (φ := .f32) (x : EReal) = ((|x| : ℝ) : EReal) := by
  change max (x : EReal) (-(x : EReal)) = _
  rw [← EReal.coe_neg, ← EReal.coe_strictMono.monotone.map_max]
  rfl

theorem prod_coe (q k : Vec Ideal S256x128 .bf16) (Q K : ℕ → ℕ → ℝ) (i j : ℕ)
    (hq : ∀ (r : Fin 256) (d : Fin 128), q (ix2 r d) = ((Q (256 * i + r) d : ℝ) : EReal))
    (hk : ∀ (r : Fin 256) (d : Fin 128), k (ix2 r d) = ((K (256 * j + r) d : ℝ) : EReal)) (r c : Fin 256) :
    prod (F := Ideal) q k (ix2 r c)
      = ((∑ d : Fin 128, Q (256 * i + r) d * K (256 * j + c) d : ℝ) : EReal) := by
  have h : prod (F := Ideal) q k (ix2 r c) = ∑ d : Fin 128, q (ix2 r d) * k (ix2 c d) := by pointwise [prod]
  rw [h, ← coe_sum]
  exact Finset.sum_congr rfl fun d _ => by rw [hq, hk, EReal.coe_mul]

theorem logit_coe (q k : Vec Ideal S256x128 .bf16) (Q K : ℕ → ℕ → ℝ) (i j : ℕ)
    (hq : ∀ (r : Fin 256) (d : Fin 128), q (ix2 r d) = ((Q (256 * i + r) d : ℝ) : EReal))
    (hk : ∀ (r : Fin 256) (d : Fin 128), k (ix2 r d) = ((K (256 * j + r) d : ℝ) : EReal)) (r c : Fin 256) :
    logit (F := Ideal) q k (ix2 r c)
      = (((∑ d : Fin 128, Q (256 * i + r) d * K (256 * j + c) d) * scale : ℝ) : EReal) := by
  have h : logit (F := Ideal) q k (ix2 r c) = prod (F := Ideal) q k (ix2 r c) * Ideal.ofBits .f32 0x3DB504F3#32 := by
    pointwise [logit]
  rw [h, prod_coe q k Q K i j hq hk, scale_coe, EReal.coe_mul]

theorem logSig_coe (z : FVec Ideal S256x256 .f32) (r c : Fin 256) (x : ℝ) (hz : z (ix2 r c) = (x : EReal)) :
    logSig (F := Ideal) z (ix2 r c) = (lsm x : EReal) := by
  have h : logSig (F := Ideal) z (ix2 r c)
      = min (z (ix2 r c)) 0 - Ideal.log (1 + Ideal.exp (0 - FloatOps.absf (z (ix2 r c)))) := by pointwise [logSig]
  rw [h, hz, absf_coe, ← EReal.coe_zero, ← EReal.coe_sub, Ideal.exp_coe, ← EReal.coe_one, ← EReal.coe_add,
    Ideal.log_coe, if_neg (log_pos_arg _), ← EReal.coe_strictMono.monotone.map_min, ← EReal.coe_sub, lsm, zero_sub]

theorem keep_coe (z : FVec Ideal S256x256 .f32) (r c : Fin 256) (x : ℝ) (hz : z (ix2 r c) = (x : EReal)) :
    keep (F := Ideal) z (ix2 r c) = ((lsm x - x : ℝ) : EReal) := by
  have h : keep (F := Ideal) z (ix2 r c) = logSig (F := Ideal) z (ix2 r c) - z (ix2 r c) := by pointwise [keep]
  rw [h, logSig_coe z r c x hz, hz, EReal.coe_sub]

theorem low_apply (r c : Fin 256) : low (ix2 r c) = if c.val < r.val then 1#1 else 0#1 := by
  have h : low (ix2 r c) = IntOp.cmpi CmpIPredicate.sgt (BitVec.ofNat 32 ↑r) (BitVec.ofNat 32 ↑c) := by pointwise [low]
  have hr := r.isLt
  have hc := c.isLt
  have e : ∀ n : ℕ, n < 256 → (BitVec.ofNat 32 n).toInt = n := fun n hn => by
    rw [BitVec.toInt_eq_toNat_of_lt (by rw [BitVec.toNat_ofNat]; omega), BitVec.toNat_ofNat]
    omega
  rw [h]
  simp only [IntOp.cmpi, BitVec.slt, e _ hr, e _ hc]
  by_cases hlt : c.val < r.val <;> simp [hlt]

theorem logSigD_coe (z : FVec Ideal S256x256 .f32) (r c : Fin 256) (x : ℝ) (hz : z (ix2 r c) = (x : EReal)) :
    logSigD (F := Ideal) z (ix2 r c) = if c.val < r.val then (lsm x : EReal) else ⊥ := by
  have h : logSigD (F := Ideal) z (ix2 r c)
      = Scalar.select (low (ix2 r c)) (logSig (F := Ideal) z (ix2 r c)) (Named.named (F := Ideal) (φ := .f32) κ "mask" 4048155338#32) := by
    pointwise [logSigD]
  rw [h, low_apply, logSig_coe z r c x hz, mask_bot]
  split <;> rfl

theorem keepD_coe (z : FVec Ideal S256x256 .f32) (r c : Fin 256) (x : ℝ) (hz : z (ix2 r c) = (x : EReal)) :
    keepD (F := Ideal) z (ix2 r c) = ((if c.val < r.val then lsm x - x else 0 : ℝ) : EReal) := by
  have h : keepD (F := Ideal) z (ix2 r c)
      = Scalar.select (low (ix2 r c)) (keep (F := Ideal) z (ix2 r c)) 0 := by
    pointwise [keepD]
  rw [h, low_apply, keep_coe z r c x hz]
  split <;> rfl

/-- The two triangles, stacked twice. -/
def IsTri (p : ℕ → ℕ → Prop) (t : Vec Ideal S512x256 .bf16) : Prop :=
  ∀ (x : Fin 512) (c : Fin 256), (p (x.val % 256) c.val → t (ix2 x c) = ((1 : ℝ) : EReal))
    ∧ (¬ p (x.val % 256) c.val → t (ix2 x c) = ((0 : ℝ) : EReal))

theorem rowSums_coe (x : FVec Ideal S256x256 .f32) (t : Vec Ideal S512x256 .bf16) (p : ℕ → ℕ → Prop)
    [∀ a b, Decidable (p a b)] (ht : IsTri p t) (r c : Fin 256) (X : ℕ → ℝ)
    (hx : ∀ c : Fin 256, x (ix2 r c) = (X c : EReal)) :
    rowSums (F := Ideal) x t (ix2 r c) = ((∑ a : Fin 256, if p a.val c.val then X a.val else 0 : ℝ) : EReal) := by
  have h : rowSums (F := Ideal) x t (ix2 r c)
      = ∑ a : Fin 256, x (ix2 r a) * t (ix2 ⟨a.val, by omega⟩ c)
        + ∑ a : Fin 256, (x (ix2 r a) - x (ix2 r a)) * t (ix2 ⟨256 + a.val, by omega⟩ c) := by
    pointwise [rowSums, parts]
  have h2 : ∑ a : Fin 256, (x (ix2 r a) - x (ix2 r a)) * t (ix2 ⟨256 + a.val, by omega⟩ c) = 0 :=
    Finset.sum_eq_zero fun a _ => by
      rw [hx, ← EReal.coe_sub, sub_self, EReal.coe_zero, zero_mul]
  rw [h, h2, add_zero, ← coe_sum]
  refine Finset.sum_congr rfl fun a _ => ?_
  have e : (a.val % 256) = a.val := Nat.mod_eq_of_lt a.isLt
  have := ht ⟨a.val, by omega⟩ c
  simp only [e] at this
  by_cases hp : p a.val c.val
  · rw [this.1 hp, hx, if_pos hp, ← EReal.coe_mul, mul_one]
  · rw [this.2 hp, hx, if_neg hp, ← EReal.coe_mul, mul_zero]

/-- The scaled logits of real queries and keys. -/
def zf (Q K : ℕ → ℕ → ℝ) (t s : ℕ) : ℝ := (∑ d : Fin 128, Q t d * K s d) * scale

/-- The gradients of the weights. -/
def daf (O V : ℕ → ℕ → ℝ) (t s : ℕ) : ℝ := ∑ d : Fin 128, O t d * V s d

variable (Q K V O : ℕ → ℕ → ℝ) (i j : ℕ)

/-- One head's gradient of the logits. -/
def dzf (t s : ℕ) : ℝ := DZ (zf Q K) (daf O V) scale t s

/-- The rows are the query block's. -/
structure RowsOk (h : Rows Ideal) : Prop where
  q : ∀ (r : Fin 256) (d : Fin 128), h.q (ix2 r d) = ((Q (256 * i + r) d : ℝ) : EReal)
  o : ∀ (r : Fin 256) (d : Fin 128), h.o (ix2 r d) = ((O (256 * i + r) d : ℝ) : EReal)
  c : ∀ r : Fin 256, h.c (ix2 r 0) = ((CT (zf Q K) (256 * i + r) : ℝ) : EReal)

/-- The keys and values are the key block's, the triangles are triangles. -/
structure KeysOk (b : Keys Ideal) : Prop where
  k : ∀ (r : Fin 256) (d : Fin 128), b.k (ix2 r d) = ((K (256 * j + r) d : ℝ) : EReal)
  v : ∀ (r : Fin 256) (d : Fin 128), b.v (ix2 r d) = ((V (256 * j + r) d : ℝ) : EReal)
  ti : IsTri (fun a c => a ≤ c) b.ti
  ts : IsTri (fun a c => a < c) b.ts

/-- The logits are the block's. -/
structure LogitsOk (x : Logits Ideal) : Prop where
  z : ∀ r c : Fin 256, x.z (ix2 r c) = ((zf Q K (256 * i + r) (256 * j + c) : ℝ) : EReal)
  lsm : ∀ r c : Fin 256, x.lsm (ix2 r c) = if 256 * j + c.val < 256 * i + r.val then
    ((lsm (zf Q K (256 * i + r) (256 * j + c)) : ℝ) : EReal) else ⊥
  lk : ∀ r c : Fin 256, x.lk (ix2 r c) = ((LK (zf Q K) (256 * i + r) (256 * j + c) : ℝ) : EReal)

/-- The running sums are the sums over the keys left of the block. -/
structure PreOk (p : Pre Ideal) : Prop where
  dq : ∀ (r : Fin 256) (d : Fin 128), p.dq (ix2 r d)
    = ((∑ s ∈ Finset.range (256 * j), dzf Q K V O (256 * i + r) s * K s d : ℝ) : EReal)
  lpre : ∀ r : Fin 256, p.lpre (ix2 r 0)
    = ((∑ s ∈ Finset.range (256 * j), LK (zf Q K) (256 * i + r) s : ℝ) : EReal)
  gpre : ∀ r : Fin 256, p.gpre (ix2 r 0)
    = ((∑ s ∈ Finset.range (256 * j), GW (zf Q K) (daf O V) (256 * i + r) s : ℝ) : EReal)

theorem sum_block (f : ℕ → ℝ) :
    ∑ s ∈ Finset.range (256 * (j + 1)), f s
      = ∑ s ∈ Finset.range (256 * j), f s + ∑ x : Fin 256, f (256 * j + x) := by
  rw [Nat.mul_succ, Finset.sum_range_add, Fin.sum_univ_eq_sum_range (fun x => f (256 * j + x)) 256]

variable {Q K V O i j} {h : Rows Ideal} {b : Keys Ideal} {x : Logits Ideal} {p : Pre Ideal}

theorem full_ok (hr : RowsOk Q K O i h) (hb : KeysOk K V j b) (hij : j < i) : LogitsOk Q K i j (full h b) := by
  have hz := logit_coe h.q b.k Q K i j hr.q hb.k
  refine ⟨hz, fun r c => ?_, fun r c => ?_⟩
  · rw [if_pos (by omega)]
    exact logSig_coe _ r c _ (hz r c)
  · rw [LK, if_pos (by omega)]
    exact keep_coe _ r c _ (hz r c)

theorem diag_ok (hr : RowsOk Q K O i h) (hb : KeysOk K V i b) : LogitsOk Q K i i (diag h b) := by
  have hz := logit_coe h.q b.k Q K i i hr.q hb.k
  refine ⟨hz, fun r c => ?_, fun r c => ?_⟩
  · simp only [Nat.add_lt_add_iff_left]
    exact logSigD_coe _ r c _ (hz r c)
  · simp only [LK, Nat.add_lt_add_iff_left]
    exact keepD_coe _ r c _ (hz r c)

theorem hA_ok (hr : RowsOk Q K O i h) (hb : KeysOk K V j b) (hx : LogitsOk Q K i j x) (hp : PreOk Q K V O i j p)
    (r c : Fin 256) : hA h b x p (ix2 r c) = ((A (zf Q K) (256 * i + r) (256 * j + c) : ℝ) : EReal) := by
  have e : hA h b x p (ix2 r c)
      = Ideal.exp (x.lsm (ix2 r c) + (h.c (ix2 r 0) - p.lpre (ix2 r 0)) - rowSums (F := Ideal) x.lk b.ti (ix2 r c)) := by
    pointwise [hA, weight]
  rw [e, rowSums_coe x.lk b.ti (fun a c => a ≤ c) hb.ti r c (fun s => LK (zf Q K) (256 * i + r) (256 * j + s))
    (hx.lk r), hr.c, hp.lpre, hx.lsm, sum_fin_le (fun s => LK (zf Q K) (256 * i + r) (256 * j + s)) c.isLt, A]
  split
  · rw [← EReal.coe_sub, ← EReal.coe_add, ← EReal.coe_sub, Ideal.exp_coe, add_assoc (256 * j),
      Finset.sum_range_add (fun s => LK (zf Q K) (256 * i + r) s) (256 * j) (c + 1)]
    congr 2
    ring
  · rw [← EReal.coe_sub, EReal.bot_add, EReal.bot_sub]
    rfl

theorem hGw_ok (hr : RowsOk Q K O i h) (hb : KeysOk K V j b) (hx : LogitsOk Q K i j x) (hp : PreOk Q K V O i j p)
    (r c : Fin 256) :
    hGw h b x p (ix2 r c) = ((GW (zf Q K) (daf O V) (256 * i + r) (256 * j + c) : ℝ) : EReal) := by
  have e : hGw h b x p (ix2 r c) = hA h b x p (ix2 r c) * prod (F := Ideal) h.o b.v (ix2 r c) := by
    pointwise [hGw, wgrad]
  rw [e, hA_ok hr hb hx hp, prod_coe h.o b.v O V i j hr.o hb.v, GW, daf, EReal.coe_mul]

theorem hDz_ok (hr : RowsOk Q K O i h) (hb : KeysOk K V j b) (hx : LogitsOk Q K i j x) (hp : PreOk Q K V O i j p)
    (r c : Fin 256) :
    hDz h b x p (ix2 r c) = ((dzf Q K V O (256 * i + r) (256 * j + c) : ℝ) : EReal) := by
  have e : hDz h b x p (ix2 r c)
      = (hGw h b x p (ix2 r c) * Ideal.exp (x.lsm (ix2 r c) - x.z (ix2 r c))
          - Ideal.exp (x.lsm (ix2 r c)) * (p.gpre (ix2 r 0) + rowSums (F := Ideal) (hGw h b x p) b.ts (ix2 r c)))
        * Ideal.ofBits FTy.f32 0x3DB504F3#32 := by
    pointwise [hDz, dlogit, before]
  rw [e, rowSums_coe (hGw h b x p) b.ts (fun a c => a < c) hb.ts r c
    (fun s => GW (zf Q K) (daf O V) (256 * i + r) (256 * j + s)) (hGw_ok hr hb hx hp r),
    hGw_ok hr hb hx hp, hx.lsm, hx.z, hp.gpre,
    sum_fin_lt (fun s => GW (zf Q K) (daf O V) (256 * i + r) (256 * j + s)) c.isLt.le, scale_coe, dzf, DZ]
  split
  · rw [← EReal.coe_sub, Ideal.exp_coe, Ideal.exp_coe, ← EReal.coe_add, ← EReal.coe_mul, ← EReal.coe_mul,
      ← EReal.coe_sub, ← EReal.coe_mul, Finset.sum_range_add]
  · rename_i hn
    have e0 : Ideal.exp ⊥ = 0 := rfl
    rw [GW, A, if_neg hn, zero_mul, ← EReal.coe_add, EReal.bot_sub, e0, EReal.coe_zero, zero_mul, zero_mul, sub_zero,
      zero_mul]

theorem addSum_coe (q : FVec Ideal S256x1 .f32) (y : FVec Ideal S256x256 .f32) (r : Fin 256) :
    addSum (F := Ideal) q y (ix2 r 0) = q (ix2 r 0) + ∑ a : Fin 256, y (ix2 r a) := by pointwise [addSum]

theorem hPre_ok (hr : RowsOk Q K O i h) (hb : KeysOk K V j b) (hx : LogitsOk Q K i j x) (hp : PreOk Q K V O i j p) :
    PreOk Q K V O i (j + 1) (hPre h b x p) := by
  refine ⟨fun r d => ?_, fun r => ?_, fun r => ?_⟩
  · have e : (hPre h b x p).dq (ix2 r d) = p.dq (ix2 r d) + ∑ a : Fin 256, hDz h b x p (ix2 r a) * b.k (ix2 a d) := by
      pointwise [hPre, addRows]
    rw [e, hp.dq, sum_block, EReal.coe_add, ← coe_sum (Finset.univ (α := Fin 256))]
    congr 1
    exact Finset.sum_congr rfl fun a _ => by rw [hDz_ok hr hb hx hp, hb.k, EReal.coe_mul]
  · refine (addSum_coe _ _ r).trans ?_
    rw [hp.lpre, sum_block, EReal.coe_add, ← coe_sum (Finset.univ (α := Fin 256))]
    congr 1
    exact Finset.sum_congr rfl fun a _ => hx.lk r a
  · refine (addSum_coe _ _ r).trans ?_
    rw [hp.gpre, sum_block, EReal.coe_add, ← coe_sum (Finset.univ (α := Fin 256))]
    congr 1
    exact Finset.sum_congr rfl fun a _ => hGw_ok hr hb hx hp r a

theorem hDk_ok (hr : RowsOk Q K O i h) (hb : KeysOk K V j b) (hx : LogitsOk Q K i j x) (hp : PreOk Q K V O i j p)
    (old : Vec Ideal S256x128 .f32) (c : Fin 256) (d : Fin 128) :
    hDk h b x p old (ix2 c d) = old (ix2 c d)
      + ((∑ a : Fin 256, dzf Q K V O (256 * i + a) (256 * j + c) * Q (256 * i + a) d : ℝ) : EReal) := by
  have e : hDk h b x p old (ix2 c d) = old (ix2 c d) + ∑ a : Fin 256, hDz h b x p (ix2 a c) * h.q (ix2 a d) := by
    pointwise [hDk, addCols]
  rw [e, ← coe_sum]
  congr 1
  exact Finset.sum_congr rfl fun a _ => by rw [hDz_ok hr hb hx hp, hr.q, EReal.coe_mul]

theorem hDv_ok (hr : RowsOk Q K O i h) (hb : KeysOk K V j b) (hx : LogitsOk Q K i j x) (hp : PreOk Q K V O i j p)
    (old : Vec Ideal S256x128 .f32) (c : Fin 256) (d : Fin 128) :
    hDv h b x p old (ix2 c d) = old (ix2 c d)
      + ((∑ a : Fin 256, A (zf Q K) (256 * i + a) (256 * j + c) * O (256 * i + a) d : ℝ) : EReal) := by
  have e : hDv h b x p old (ix2 c d) = old (ix2 c d) + ∑ a : Fin 256, hA h b x p (ix2 a c) * h.o (ix2 a d) := by
    pointwise [hDv, addCols]
  rw [e, ← coe_sum]
  congr 1
  exact Finset.sum_congr rfl fun a _ => by rw [hA_ok hr hb hx hp, hr.o, EReal.coe_mul]

end Cert.KernelIdeal.Step

end
-- ==== Proof.Mem.lean ====
module

public import proofs.«01_k».proof.Proof.StepIdeal
public import proofs.«01_k».proof.Proof.Trip
public import Idealize.ShloMosaic.Lib.VecWindow

/-! A buffer of 2048 rows and four heads of 128 columns, read and written one block of 256 rows and one
head at a time. -/

@[expose] public section

set_option maxRecDepth 16384

noncomputable section

namespace Cert.KernelIdeal.Step

open Idealize.ShloMosaic Idealize.ShloMosaic.TcCoe
open Cert.KernelIdeal.Gen Cert.SB

section
variable {F : FTy → Type} [FloatOps F] {e : EltTy} (v : View sig .tc .vmem S2048x512 e)
  (f : v.ty.Contents (Elt F)) {off : Fin 2 → ℕ} {k g : ℕ}

theorem block_lt (inb : ∀ a, off a + S256x128.size a ≤ S2048x512.size a) (ho : off = ![256 * k, 128 * g]) :
    256 * k + 256 ≤ 2048 ∧ 128 * g + 128 ≤ 512 := by
  subst ho
  exact ⟨inb 0, inb 1⟩

theorem readAt_block (inb : ∀ a, off a + S256x128.size a ≤ S2048x512.size a) (ho : off = ![256 * k, 128 * g])
    (r : Fin 256) (d : Fin 128) :
    v.readAt (Elt F) (Rect.unit (s := S2048x512) off S256x128.size inb).toLoadRect f (ix2 r d)
      = v.read (Elt F) f (ix2 ⟨256 * k + r, by have := block_lt inb ho; omega⟩
          ⟨128 * g + d, by have := block_lt inb ho; omega⟩) := by
  subst ho
  exact congrArg (v.read (Elt F) f) (funext (Fin.forall_fin_two.mpr
    ⟨Fin.ext (show 256 * k + 1 * r.val = 256 * k + r.val by omega),
      Fin.ext (show 128 * g + 1 * d.val = 128 * g + d.val by omega)⟩))

theorem put_block (inb : ∀ a, off a + S256x128.size a ≤ S2048x512.size a) (ho : off = ![256 * k, 128 * g])
    (w : Vec F S256x128 e) (L : List (View.Piece (Elt F) S2048x512 e)) (s : Fin 2048) (n : Fin 512) :
    v.read (Elt F) (v.writes (Elt F) f (⟨Rect.unit (s := S2048x512) off S256x128.size inb, w⟩ :: L)) (ix2 s n)
      = if s.val / 256 = k ∧ n.val / 128 = g then
          w (ix2 ⟨s.val % 256, Nat.mod_lt _ (by decide)⟩ ⟨n.val % 128, Nat.mod_lt _ (by decide)⟩)
        else v.read (Elt F) (v.writes (Elt F) f L) (ix2 s n) := by
  have hb := block_lt inb ho
  split
  · rename_i h
    exact View.read_writes_cons_unit_of_mem v f inb w L (ix2 s n) _ ho (Fin.forall_fin_two.mpr
      ⟨show s.val = 256 * k + s.val % 256 by omega, show n.val = 128 * g + n.val % 128 by omega⟩)
  · rename_i h
    by_cases hs : s.val / 256 = k
    · exact View.read_writes_cons_unit_of_not_mem v f inb w L (ix2 s n) ho 1
        (show n.val < 128 * g ∨ 128 * g + 128 ≤ n.val by omega)
    · exact View.read_writes_cons_unit_of_not_mem v f inb w L (ix2 s n) ho 0
        (show s.val < 256 * k ∨ 256 * k + 256 ≤ s.val by omega)

end

/-- The head `g` of four heads of 128 columns. -/
def hd (g : ℕ) (X : ℕ → ℕ → ℝ) (t d : ℕ) : ℝ := X t (128 * g + d)

/-- The buffer holds the real numbers `X`. -/
def Reads (x : S2048x512.Idx → EReal) (X : ℕ → ℕ → ℝ) : Prop :=
  ∀ (s : Fin 2048) (n : Fin 512), x (ix2 s n) = ((X s n : ℝ) : EReal)

/-- What query `t` contributes to the gradient of key `s`, at the column `n`. -/
def gradK (Q K V O : ℕ → ℕ → ℝ) (t s n : ℕ) : ℝ :=
  dzf (hd (n / 128) Q) (hd (n / 128) K) (hd (n / 128) V) (hd (n / 128) O) t s * Q t n

/-- What query `t` contributes to the gradient of value `s`, at the column `n`. -/
def gradV (Q K O : ℕ → ℕ → ℝ) (t s n : ℕ) : ℝ :=
  A (zf (hd (n / 128) Q) (hd (n / 128) K)) t s * O t n

/-- An accumulator after the query blocks before block `i`, and of block `i` the key blocks before `j`. -/
def accum (E : ℕ → ℕ → ℕ → ℝ) (i j s n : ℕ) : ℝ :=
  ∑ t ∈ Finset.range (256 * i), E t s n + if s / 256 < j then ∑ a : Fin 256, E (256 * i + a) s n else 0

/-- The same in the middle of key block `j`, after the heads before `g`. -/
def mid (E : ℕ → ℕ → ℕ → ℝ) (i j g s n : ℕ) : ℝ :=
  if n / 128 < g then accum E i (j + 1) s n else accum E i j s n

theorem mid_zero (E : ℕ → ℕ → ℕ → ℝ) (i j : ℕ) : mid E i j 0 = accum E i j := by
  funext s n
  simp [mid]

theorem reads_mid_four {E : ℕ → ℕ → ℕ → ℝ} {i j : ℕ} {x : S2048x512.Idx → EReal} (h : Reads x (mid E i j 4)) :
    Reads x (accum E i (j + 1)) := fun s n => by
  have hn := n.isLt
  rw [h, mid, if_pos (by omega)]

section
variable (v : View sig .tc .vmem S2048x512 .f32) (f : v.ty.Contents (Elt Ideal))
  {off : Fin 2 → ℕ} {i j g : ℕ}

theorem mid_step (E : ℕ → ℕ → ℕ → ℝ) (inb : ∀ a, off a + S256x128.size a ≤ S2048x512.size a)
    (ho : off = ![256 * j, 128 * g]) (w : Vec Ideal S256x128 .f32) (L : List (View.Piece (Elt Ideal) S2048x512 .f32))
    (hL : Reads (v.read (Elt Ideal) (v.writes (Elt Ideal) f L)) (mid E i j g))
    (hw : ∀ (c : Fin 256) (d : Fin 128), w (ix2 c d) = ((accum E i j (256 * j + c) (128 * g + d) : ℝ) : EReal)
      + ((∑ a : Fin 256, E (256 * i + a) (256 * j + c) (128 * g + d) : ℝ) : EReal)) :
    Reads (v.read (Elt Ideal) (v.writes (Elt Ideal) f (⟨Rect.unit (s := S2048x512) off S256x128.size inb, w⟩ :: L)))
      (mid E i j (g + 1)) := fun s n => by
  refine (put_block v f inb ho w L s n).trans ?_
  split
  · rename_i h
    have e1 : 256 * j + s.val % 256 = s.val := by omega
    have e2 : 128 * g + n.val % 128 = n.val := by omega
    rw [hw]
    simp only [e1, e2]
    rw [mid, if_pos (by omega), accum, accum, if_neg (by omega), if_pos (by omega), add_zero, EReal.coe_add]
  · rename_i h
    rw [hL]
    congr 1
    simp only [mid, accum]
    split_ifs <;> first | rfl | omega

variable {Q K V O : ℕ → ℕ → ℝ} {h : Rows Ideal} {b : Keys Ideal} {x : Logits Ideal} {p : Pre Ideal}

theorem old_mid {E : ℕ → ℕ → ℕ → ℝ} {g' : ℕ} (hg : g' ≤ g) (f0 : v.ty.Contents (Elt Ideal))
    (h0 : Reads (v.read (Elt Ideal) f0) (mid E i j g')) (inb : ∀ a, off a + S256x128.size a ≤ S2048x512.size a)
    (ho : off = ![256 * j, 128 * g]) (c : Fin 256) (d : Fin 128) :
    v.readAt (Elt Ideal) (Rect.unit (s := S2048x512) off S256x128.size inb).toLoadRect f0 (ix2 c d)
      = ((accum E i j (256 * j + c) (128 * g + d) : ℝ) : EReal) := by
  have hd := d.isLt
  refine (readAt_block v f0 inb ho c d).trans ((h0 _ _).trans ?_)
  rw [mid, if_neg (show ¬ (128 * g + d.val) / 128 < g' by omega)]

theorem dk_step {g' : ℕ} (hg : g' ≤ g) (f0 : v.ty.Contents (Elt Ideal))
    (h0 : Reads (v.read (Elt Ideal) f0) (mid (gradK Q K V O) i j g'))
    (L : List (View.Piece (Elt Ideal) S2048x512 .f32))
    (hL : Reads (v.read (Elt Ideal) (v.writes (Elt Ideal) f L)) (mid (gradK Q K V O) i j g))
    (inb : ∀ a, off a + S256x128.size a ≤ S2048x512.size a) (ho : off = ![256 * j, 128 * g])
    (hr : RowsOk (hd g Q) (hd g K) (hd g O) i h) (hb : KeysOk (hd g K) (hd g V) j b)
    (hx : LogitsOk (hd g Q) (hd g K) i j x) (hp : PreOk (hd g Q) (hd g K) (hd g V) (hd g O) i j p) :
    Reads (v.read (Elt Ideal) (v.writes (Elt Ideal) f (dkPiece v f0 inb h b x p :: L)))
      (mid (gradK Q K V O) i j (g + 1)) := by
  refine mid_step v f _ inb ho _ L hL fun c d => ?_
  have hd' := d.isLt
  rw [hDk_ok hr hb hx hp, old_mid v hg f0 h0 inb ho]
  simp only [gradK, show (128 * g + d.val) / 128 = g by omega, hd]

theorem dv_step {g' : ℕ} (hg : g' ≤ g) (f0 : v.ty.Contents (Elt Ideal))
    (h0 : Reads (v.read (Elt Ideal) f0) (mid (gradV Q K O) i j g'))
    (L : List (View.Piece (Elt Ideal) S2048x512 .f32))
    (hL : Reads (v.read (Elt Ideal) (v.writes (Elt Ideal) f L)) (mid (gradV Q K O) i j g))
    (inb : ∀ a, off a + S256x128.size a ≤ S2048x512.size a) (ho : off = ![256 * j, 128 * g])
    (hr : RowsOk (hd g Q) (hd g K) (hd g O) i h) (hb : KeysOk (hd g K) (hd g V) j b)
    (hx : LogitsOk (hd g Q) (hd g K) i j x) (hp : PreOk (hd g Q) (hd g K) (hd g V) (hd g O) i j p) :
    Reads (v.read (Elt Ideal) (v.writes (Elt Ideal) f (dvPiece v f0 inb h b x p :: L)))
      (mid (gradV Q K O) i j (g + 1)) := by
  refine mid_step v f _ inb ho _ L hL fun c d => ?_
  have hd' := d.isLt
  rw [hDv_ok hr hb hx hp, old_mid v hg f0 h0 inb ho]
  simp only [gradV, show (128 * g + d.val) / 128 = g by omega, hd]

end

/-- A block of keys and values loaded from buffers that hold them. -/
theorem keysAt_ok {v3 v4 : View sig .tc .vmem S2048x512 .bf16} {v12 v13 : View sig .tc .vmem S512x256 .bf16}
    {X3 : v3.ty.Contents (Elt Ideal)} {X4 : v4.ty.Contents (Elt Ideal)} {X12 : v12.ty.Contents (Elt Ideal)}
    {X13 : v13.ty.Contents (Elt Ideal)} {K V : ℕ → ℕ → ℝ} {j g : ℕ} {off : Fin 2 → ℕ}
    (h3 : Reads (v3.read (Elt Ideal) X3) K) (h4 : Reads (v4.read (Elt Ideal) X4) V)
    (h12 : IsTri (fun a c => a ≤ c) (v12.read (Elt Ideal) X12))
    (h13 : IsTri (fun a c => a < c) (v13.read (Elt Ideal) X13))
    (inb : ∀ a, off a + S256x128.size a ≤ S2048x512.size a) (ho : off = ![256 * j, 128 * g]) :
    KeysOk (hd g K) (hd g V) j (keysAt (F := Ideal) v3 v4 v12 v13 X3 X4 X12 X13 inb) :=
  ⟨fun r d => (readAt_block v3 X3 inb ho r d).trans (h3 _ _),
   fun r d => (readAt_block v4 X4 inb ho r d).trans (h4 _ _),
   by
     show IsTri _ (v12.readAt (Elt Ideal) (Rect.unit (s := S512x256) ![0, 0] S512x256.size
       inb_S512x256_S512x256_0_0).toLoadRect X12)
     rw [View.readAt_full]
     exact h12,
   by
     show IsTri _ (v13.readAt (Elt Ideal) (Rect.unit (s := S512x256) ![0, 0] S512x256.size
       inb_S512x256_S512x256_0_0).toLoadRect X13)
     rw [View.readAt_full]
     exact h13⟩

end Cert.KernelIdeal.Step

end
-- ==== Proof.Offsets.lean ====
module

public import proofs.«01_k».proof.Proof.Run
public import proofs.«01_k».proof.Proof.Mem

/-! Where the loops begin and end, and where their trips load and store. -/

@[expose] public section

set_option maxRecDepth 16384

noncomputable section

namespace Cert.KernelIdeal.Step

open Idealize.ShloMosaic Cert.KernelIdeal.Gen

theorem trips1_all : ∀ n : Fin 8, Scf.trips (0#32 : BitVec 32)
    (Scalar.addi (0#32 : BitVec 32) (Scalar.muli (Scalar.divsi (Scalar.subi (BitVec.ofNat 32 n.val) 0#32) 1#32) 1#32)) 1#32
      = n.val := by decide

theorem trips1 (i : grid0.Coords) : Scf.trips (k0_t1_loop i).lb (k0_t1_loop i).ub (k0_t1_loop i).st = (i 1).val :=
  trips1_all (i 1)

theorem trips2_all : ∀ n : Fin 8, Scf.trips
    (Scalar.addi (0#32 : BitVec 32) (Scalar.muli (Scalar.divsi (Scalar.subi (BitVec.ofNat 32 n.val) 0#32) 1#32) 1#32))
    (Scalar.addi (0#32 : BitVec 32) (Scalar.subi (BitVec.ofNat 32 n.val) 0#32)) 1#32
      = 0 := by decide

theorem trips2 (i : grid0.Coords) : Scf.trips (k0_t2_loop i).lb (k0_t2_loop i).ub (k0_t2_loop i).st = 0 :=
  trips2_all (i 1)

theorem off_all : ∀ n : Fin 8, (Scalar.indexCast (Scalar.muli (BitVec.ofNat 32 n.val) 256#32) : Index).toNat = 256 * n.val := by
  decide

theorem iv_all : ∀ n : Fin 8, (Scalar.indexCast (Scalar.muli (Scf.iv (0#32 : BitVec 32) 1#32 n.val) 256#32) : Index).toNat
    = 256 * n.val := by
  decide

theorem off1 (i : grid0.Coords) (k : Fin (k0_t1_loop i).trips) : k0_off1 i k = ![256 * k.val, 128 * 0] := by
  have h : k.val < 8 := Nat.lt_of_lt_of_le k.isLt ((trips1 i).le.trans (Nat.le_of_lt (i 1).isLt))
  exact congrArg (fun x => ![x, 128 * 0]) (iv_all ⟨k.val, h⟩)

theorem off9 (i : grid0.Coords) : k0_off9 i = ![256 * (i 1).val, 128 * 0] := by
  unfold k0_off9
  exact congrArg (fun x => ![x, 128 * 0]) (off_all (i 1))

theorem off2 (i : grid0.Coords) (k : Fin (k0_t1_loop i).trips) : k0_off2 i k = ![256 * k.val, 128 * 1] := by
  have h : k.val < 8 := Nat.lt_of_lt_of_le k.isLt ((trips1 i).le.trans (Nat.le_of_lt (i 1).isLt))
  exact congrArg (fun x => ![x, 128 * 1]) (iv_all ⟨k.val, h⟩)

theorem off10 (i : grid0.Coords) : k0_off10 i = ![256 * (i 1).val, 128 * 1] := by
  unfold k0_off10
  exact congrArg (fun x => ![x, 128 * 1]) (off_all (i 1))

theorem off3 (i : grid0.Coords) (k : Fin (k0_t1_loop i).trips) : k0_off3 i k = ![256 * k.val, 128 * 2] := by
  have h : k.val < 8 := Nat.lt_of_lt_of_le k.isLt ((trips1 i).le.trans (Nat.le_of_lt (i 1).isLt))
  exact congrArg (fun x => ![x, 128 * 2]) (iv_all ⟨k.val, h⟩)

theorem off11 (i : grid0.Coords) : k0_off11 i = ![256 * (i 1).val, 128 * 2] := by
  unfold k0_off11
  exact congrArg (fun x => ![x, 128 * 2]) (off_all (i 1))

theorem off4 (i : grid0.Coords) (k : Fin (k0_t1_loop i).trips) : k0_off4 i k = ![256 * k.val, 128 * 3] := by
  have h : k.val < 8 := Nat.lt_of_lt_of_le k.isLt ((trips1 i).le.trans (Nat.le_of_lt (i 1).isLt))
  exact congrArg (fun x => ![x, 128 * 3]) (iv_all ⟨k.val, h⟩)

theorem off12 (i : grid0.Coords) : k0_off12 i = ![256 * (i 1).val, 128 * 3] := by
  unfold k0_off12
  exact congrArg (fun x => ![x, 128 * 3]) (off_all (i 1))

end Cert.KernelIdeal.Step

end
-- ==== Proof.Loop.lean ====
module

public import proofs.«01_k».proof.Proof.Offsets

/-! The kernel's loop over the key blocks, over the reals: what it has summed after so many trips. -/

@[expose] public section

set_option maxRecDepth 16384

noncomputable section

namespace Cert.KernelIdeal.Step

open Idealize.ShloMosaic Idealize.ShloMosaic.ValueIdx Cert.KernelIdeal.Gen Cert.SB

/-- After the key blocks before `j` of the query block `i`: what is carried, and both accumulators. -/
structure StOk (Q K V O : ℕ → ℕ → ℝ) (i j : ℕ) (a : Carried Ideal) (x y : S2048x512.Idx → EReal) : Prop where
  p0 : PreOk (hd 0 Q) (hd 0 K) (hd 0 V) (hd 0 O) i j (pre0 a)
  p1 : PreOk (hd 1 Q) (hd 1 K) (hd 1 V) (hd 1 O) i j (pre1 a)
  p2 : PreOk (hd 2 Q) (hd 2 K) (hd 2 V) (hd 2 O) i j (pre2 a)
  p3 : PreOk (hd 3 Q) (hd 3 K) (hd 3 V) (hd 3 O) i j (pre3 a)
  dk : Reads x (accum (gradK Q K V O) i j)
  dv : Reads y (accum (gradV Q K O) i j)

section
variable
  (𝒱 : Variants) (c : Dev nD) (bd : Option 𝒱.V) (i : grid0.Coords) (arg2 : Memref sig .tc .vmem S256x512 .bf16)
  (harg2 : arg2.IsWhole) (arg3 : Memref sig .tc .vmem S2048x512 .bf16) (harg3 : arg3.IsWhole)
  (arg4 : Memref sig .tc .vmem S2048x512 .bf16) (harg4 : arg4.IsWhole) (arg5 : Memref sig .tc .vmem S256x512 .bf16)
  (harg5 : arg5.IsWhole) (arg6 : Memref sig .tc .vmem S4x256x1 .f32) (harg6 : arg6.IsWhole)
  (arg7 : Memref sig .tc .vmem S256x512 .bf16) (harg7 : arg7.IsWhole) (arg8 : Memref sig .tc .vmem S2048x512 .bf16)
  (harg8 : arg8.IsWhole) (arg9 : Memref sig .tc .vmem S2048x512 .bf16) (harg9 : arg9.IsWhole)
  (arg10 : Memref sig .tc .vmem S2048x512 .f32) (harg10 : arg10.IsWhole)
  (arg11 : Memref sig .tc .vmem S2048x512 .f32) (harg11 : arg11.IsWhole)
  (arg12 : Memref sig .tc .vmem S512x256 .bf16) (harg12 : arg12.IsWhole)
  (arg13 : Memref sig .tc .vmem S512x256 .bf16) (harg13 : arg13.IsWhole) (arg1 : BitVec 32)
  (v25 : Vec Ideal S256x128 .bf16) (v26 : Vec Ideal S256x128 .bf16) (v28 : FVec Ideal S256x1 .f32) (v29 : Vec Ideal S256x128 .bf16)
  (v30 : Vec Ideal S256x128 .bf16) (v31 : Vec Ideal S1x256x1 .f32) (v33 : Vec Ideal S256x128 .bf16)
  (v34 : Vec Ideal S256x128 .bf16) (v35 : Vec Ideal S1x256x1 .f32) (v37 : Vec Ideal S256x128 .bf16)
  (v38 : Vec Ideal S256x128 .bf16) (v39 : Vec Ideal S1x256x1 .f32) (X_arg3 : BufTy.Contents (Elt Ideal) arg3.view.ty)
  (X_arg4 : BufTy.Contents (Elt Ideal) arg4.view.ty) (X_arg12 : BufTy.Contents (Elt Ideal) arg12.view.ty)
  (X_arg13 : BufTy.Contents (Elt Ideal) arg13.view.ty)

theorem trip1_ok {Q K V O : ℕ → ℕ → ℝ}
    (hr0 : RowsOk (hd 0 Q) (hd 0 K) (hd 0 O) (i 1).val ⟨v25, v26, v28⟩)
    (hr1 : RowsOk (hd 1 Q) (hd 1 K) (hd 1 O) (i 1).val ⟨v29, v30, k0_pay105 v31⟩)
    (hr2 : RowsOk (hd 2 Q) (hd 2 K) (hd 2 O) (i 1).val ⟨v33, v34, k0_pay106 v35⟩)
    (hr3 : RowsOk (hd 3 Q) (hd 3 K) (hd 3 O) (i 1).val ⟨v37, v38, k0_pay107 v39⟩)
    (h3 : Reads (arg3.view.read (Elt Ideal) X_arg3) K) (h4 : Reads (arg4.view.read (Elt Ideal) X_arg4) V)
    (h12 : IsTri (fun a c => a ≤ c) (arg12.view.read (Elt Ideal) X_arg12))
    (h13 : IsTri (fun a c => a < c) (arg13.view.read (Elt Ideal) X_arg13))
    (k : Fin (k0_t1_loop i).trips) (acc : Carried Ideal)
    (f_arg10 : BufTy.Contents (Elt Ideal) arg10.view.ty) (f_arg11 : BufTy.Contents (Elt Ideal) arg11.view.ty)
    (hs : StOk Q K V O (i 1).val k.val acc (arg10.view.read (Elt Ideal) f_arg10) (arg11.view.read (Elt Ideal) f_arg11)) :
    StOk Q K V O (i 1).val (k.val + 1)
      (tripR_k0_t1 (F := Ideal) 𝒱 c bd i arg2 harg2 arg3 harg3 arg4 harg4 arg5 harg5 arg6 harg6 arg7 harg7 arg8 harg8 arg9 harg9 arg10
        harg10 arg11 harg11 arg12 harg12 arg13 harg13 arg1 v25 v26 v28 v29 v30 v31 v33 v34 v35 v37 v38 v39 X_arg3
        X_arg4 X_arg12 X_arg13 k acc f_arg10 f_arg11)
      (arg10.view.read (Elt Ideal) (arg10.view.writes (Elt Ideal) f_arg10
        (tripL_k0_t1 (F := Ideal) 𝒱 c bd i arg2 harg2 arg3 harg3 arg4 harg4 arg5 harg5 arg6 harg6 arg7 harg7 arg8 harg8 arg9 harg9 arg10
        harg10 arg11 harg11 arg12 harg12 arg13 harg13 arg1 v25 v26 v28 v29 v30 v31 v33 v34 v35 v37 v38 v39 X_arg3
        X_arg4 X_arg12 X_arg13 k acc f_arg10 f_arg11).1))
      (arg11.view.read (Elt Ideal) (arg11.view.writes (Elt Ideal) f_arg11
        (tripL_k0_t1 (F := Ideal) 𝒱 c bd i arg2 harg2 arg3 harg3 arg4 harg4 arg5 harg5 arg6 harg6 arg7 harg7 arg8 harg8 arg9 harg9 arg10
        harg10 arg11 harg11 arg12 harg12 arg13 harg13 arg1 v25 v26 v28 v29 v30 v31 v33 v34 v35 v37 v38 v39 X_arg3
        X_arg4 X_arg12 X_arg13 k acc f_arg10 f_arg11).2)) := by
  have hk : k.val < (i 1).val := Nat.lt_of_lt_of_eq k.isLt (trips1 i)
  rw [trip1_carried, trip1_stores]
  have hb0 := keysAt_ok (V := V) h3 h4 h12 h13 (k0_off1_inb i k) (off1 i k)
  have hb1 := keysAt_ok (V := V) h3 h4 h12 h13 (k0_off2_inb i k) (off2 i k)
  have hb2 := keysAt_ok (V := V) h3 h4 h12 h13 (k0_off3_inb i k) (off3 i k)
  have hb3 := keysAt_ok (V := V) h3 h4 h12 h13 (k0_off4_inb i k) (off4 i k)
  have hx0 := full_ok hr0 hb0 hk
  have hx1 := full_ok hr1 hb1 hk
  have hx2 := full_ok hr2 hb2 hk
  have hx3 := full_ok hr3 hb3 hk
  have hK : Reads (arg10.view.read (Elt Ideal) f_arg10) (mid (gradK Q K V O) (i 1).val k.val 0) := by
    rw [mid_zero]; exact hs.dk
  have hV : Reads (arg11.view.read (Elt Ideal) f_arg11) (mid (gradV Q K O) (i 1).val k.val 0) := by
    rw [mid_zero]; exact hs.dv
  refine ⟨hPre_ok hr0 hb0 hx0 hs.p0, hPre_ok hr1 hb1 hx1 hs.p1, hPre_ok hr2 hb2 hx2 hs.p2,
    hPre_ok hr3 hb3 hx3 hs.p3, reads_mid_four ?_, reads_mid_four ?_⟩
  · have s0 := dk_step arg10.view f_arg10 (Nat.zero_le 0) f_arg10 hK [] hK (k0_off1_inb i k) (off1 i k) hr0 hb0 hx0 hs.p0
    have s1 := dk_step arg10.view f_arg10 (Nat.zero_le 1) f_arg10 hK _ s0 (k0_off2_inb i k) (off2 i k) hr1 hb1 hx1 hs.p1
    have s2 := dk_step arg10.view f_arg10 (Nat.zero_le 2) f_arg10 hK _ s1 (k0_off3_inb i k) (off3 i k) hr2 hb2 hx2 hs.p2
    exact dk_step arg10.view f_arg10 (Nat.zero_le 3) f_arg10 hK _ s2 (k0_off4_inb i k) (off4 i k) hr3 hb3 hx3 hs.p3
  · have s0 := dv_step arg11.view f_arg11 (Nat.zero_le 0) f_arg11 hV [] hV (k0_off1_inb i k) (off1 i k) hr0 hb0 hx0 hs.p0
    have s1 := dv_step arg11.view f_arg11 (Nat.zero_le 1) f_arg11 hV _ s0 (k0_off2_inb i k) (off2 i k) hr1 hb1 hx1 hs.p1
    have s2 := dv_step arg11.view f_arg11 (Nat.zero_le 2) f_arg11 hV _ s1 (k0_off3_inb i k) (off3 i k) hr2 hb2 hx2 hs.p2
    exact dv_step arg11.view f_arg11 (Nat.zero_le 3) f_arg11 hV _ s2 (k0_off4_inb i k) (off4 i k) hr3 hb3 hx3 hs.p3

theorem st1_ok {Q K V O : ℕ → ℕ → ℝ}
    (hr0 : RowsOk (hd 0 Q) (hd 0 K) (hd 0 O) (i 1).val ⟨v25, v26, v28⟩)
    (hr1 : RowsOk (hd 1 Q) (hd 1 K) (hd 1 O) (i 1).val ⟨v29, v30, k0_pay105 v31⟩)
    (hr2 : RowsOk (hd 2 Q) (hd 2 K) (hd 2 O) (i 1).val ⟨v33, v34, k0_pay106 v35⟩)
    (hr3 : RowsOk (hd 3 Q) (hd 3 K) (hd 3 O) (i 1).val ⟨v37, v38, k0_pay107 v39⟩)
    (h3 : Reads (arg3.view.read (Elt Ideal) X_arg3) K) (h4 : Reads (arg4.view.read (Elt Ideal) X_arg4) V)
    (h12 : IsTri (fun a c => a ≤ c) (arg12.view.read (Elt Ideal) X_arg12))
    (h13 : IsTri (fun a c => a < c) (arg13.view.read (Elt Ideal) X_arg13))
    (G10 : BufTy.Contents (Elt Ideal) arg10.view.ty) (G11 : BufTy.Contents (Elt Ideal) arg11.view.ty)
    (init : Carried Ideal)
    (hs : StOk Q K V O (i 1).val 0 init (arg10.view.read (Elt Ideal) G10) (arg11.view.read (Elt Ideal) G11))
    (k : ℕ) (hk : k ≤ (i 1).val) :
    StOk Q K V O (i 1).val k
      (st_k0_t1 (F := Ideal) 𝒱 c bd i arg2 harg2 arg3 harg3 arg4 harg4 arg5 harg5 arg6 harg6 arg7 harg7 arg8 harg8 arg9 harg9 arg10
        harg10 arg11 harg11 arg12 harg12 arg13 harg13 arg1 v25 v26 v28 v29 v30 v31 v33 v34 v35 v37 v38 v39 X_arg3
        X_arg4 X_arg12 X_arg13 G10 G11 init k).1
      (arg10.view.read (Elt Ideal) (arg10.view.writes (Elt Ideal) G10
        (st_k0_t1 (F := Ideal) 𝒱 c bd i arg2 harg2 arg3 harg3 arg4 harg4 arg5 harg5 arg6 harg6 arg7 harg7 arg8 harg8 arg9 harg9 arg10
        harg10 arg11 harg11 arg12 harg12 arg13 harg13 arg1 v25 v26 v28 v29 v30 v31 v33 v34 v35 v37 v38 v39 X_arg3
        X_arg4 X_arg12 X_arg13 G10 G11 init k).2.1))
      (arg11.view.read (Elt Ideal) (arg11.view.writes (Elt Ideal) G11
        (st_k0_t1 (F := Ideal) 𝒱 c bd i arg2 harg2 arg3 harg3 arg4 harg4 arg5 harg5 arg6 harg6 arg7 harg7 arg8 harg8 arg9 harg9 arg10
        harg10 arg11 harg11 arg12 harg12 arg13 harg13 arg1 v25 v26 v28 v29 v30 v31 v33 v34 v35 v37 v38 v39 X_arg3
        X_arg4 X_arg12 X_arg13 G10 G11 init k).2.2)) := by
  induction k with
  | zero => exact hs
  | succ k ih =>
    have ih := ih (Nat.le_of_succ_le hk)
    have hk' : k < (k0_t1_loop i).trips := Nat.lt_of_lt_of_eq hk (trips1 i).symm
    have e := st_k0_t1_succ (F := Ideal) 𝒱 c bd i arg2 harg2 arg3 harg3 arg4 harg4 arg5 harg5 arg6 harg6 arg7 harg7 arg8 harg8 arg9 harg9 arg10
        harg10 arg11 harg11 arg12 harg12 arg13 harg13 arg1 v25 v26 v28 v29 v30 v31 v33 v34 v35 v37 v38 v39 X_arg3
        X_arg4 X_arg12 X_arg13 G10 G11 init ⟨k, hk'⟩
    have h := trip1_ok 𝒱 c bd i arg2 harg2 arg3 harg3 arg4 harg4 arg5 harg5 arg6 harg6 arg7 harg7 arg8 harg8 arg9 harg9 arg10
        harg10 arg11 harg11 arg12 harg12 arg13 harg13 arg1 v25 v26 v28 v29 v30 v31 v33 v34 v35 v37 v38 v39 X_arg3
        X_arg4 X_arg12 X_arg13 hr0 hr1 hr2 hr3 h3 h4 h12 h13 ⟨k, hk'⟩ _ _ _ ih
    rw [show k + 1 = (⟨k, hk'⟩ : Fin (k0_t1_loop i).trips).val + 1 from rfl, e]
    dsimp only
    rw [View.writes_append, View.writes_append]
    exact h

end

end Cert.KernelIdeal.Step

end
-- ==== Proof.Point.lean ====
module

public import proofs.«01_k».proof.Proof.Loop
public import Idealize.ShloMosaic.Lib.WholeRead

/-! A grid point over the reals: from the accumulators before a query block to the accumulators after it, and
the gradients of the block's queries. -/

@[expose] public section

set_option maxRecDepth 16384

noncomputable section

namespace Cert.KernelIdeal.Step

open Idealize.ShloMosaic Idealize.ShloMosaic.TcCoe Cert.KernelIdeal.Gen Cert.SB

theorem toInt_small (n : ℕ) (h : n < 256) : (BitVec.ofNat 32 n).toInt = n := by
  rw [BitVec.toInt_eq_toNat_of_lt (by rw [BitVec.toNat_ofNat]; omega), BitVec.toNat_ofNat]
  omega

theorem pay98_apply (r c : Fin 256) :
    k0_pay98 (F := Ideal) (ix2 r c) = if r.val ≤ c.val then ((1 : ℝ) : EReal) else ((0 : ℝ) : EReal) := by
  have h : k0_pay98 (F := Ideal) (ix2 r c)
      = FloatOps.sitofp (F := Ideal) .f32 ((IntOp.cmpi CmpIPredicate.sle (BitVec.ofNat 32 ↑r) (BitVec.ofNat 32 ↑c)).setWidth 32) := by
    pointwise [k0_pay98]
  rw [h]
  simp only [IntOp.cmpi, BitVec.sle, toInt_small _ r.isLt, toInt_small _ c.isLt]
  by_cases hlt : r.val ≤ c.val <;> simp [hlt, FloatOps.sitofp]

theorem pay99_apply (r c : Fin 256) :
    k0_pay99 (F := Ideal) (ix2 r c) = if r.val < c.val then ((1 : ℝ) : EReal) else ((0 : ℝ) : EReal) := by
  have h : k0_pay99 (F := Ideal) (ix2 r c)
      = FloatOps.sitofp (F := Ideal) .f32 ((IntOp.cmpi CmpIPredicate.slt (BitVec.ofNat 32 ↑r) (BitVec.ofNat 32 ↑c)).setWidth 32) := by
    pointwise [k0_pay99]
  rw [h]
  simp only [IntOp.cmpi, BitVec.slt, toInt_small _ r.isLt, toInt_small _ c.isLt]
  by_cases hlt : r.val < c.val <;> simp [hlt, FloatOps.sitofp]

theorem pay100_apply (r c : Fin 256) : k0_pay100 (F := Ideal) (ix2 r c) = k0_pay98 (F := Ideal) (ix2 r c) := by
  pointwise [k0_pay100]

theorem pay101_apply (r c : Fin 256) : k0_pay101 (F := Ideal) (ix2 r c) = k0_pay99 (F := Ideal) (ix2 r c) := by
  pointwise [k0_pay101]

theorem pay102_apply (r c : Fin 256) : k0_pay102 (F := Ideal) (ix2 r c) = k0_pay98 (F := Ideal) (ix2 r c) := by
  pointwise [k0_pay102]

theorem pay103_apply (r c : Fin 256) : k0_pay103 (F := Ideal) (ix2 r c) = k0_pay99 (F := Ideal) (ix2 r c) := by
  pointwise [k0_pay103]

/-- Two stores of 256 rows over a buffer of 512. -/
theorem put_halves (v : View sig .tc .vmem S512x256 .bf16) (f : v.ty.Contents (Elt Ideal)) (w w' : Vec Ideal S256x256 .bf16)
    (x : Fin 512) (c : Fin 256) :
    v.read (Elt Ideal) (v.writes (Elt Ideal) f
      [⟨Rect.unit (s := S512x256) ![256, 0] S256x256.size inb_S512x256_S256x256_256_0, w⟩,
       ⟨Rect.unit (s := S512x256) ![0, 0] S256x256.size inb_S512x256_S256x256_0_0, w'⟩]) (ix2 x c)
      = if 256 ≤ x.val then w (ix2 ⟨x.val % 256, Nat.mod_lt _ (by decide)⟩ c)
        else w' (ix2 ⟨x.val % 256, Nat.mod_lt _ (by decide)⟩ c) := by
  have hx := x.isLt
  split
  · exact View.read_writes_cons_unit_of_mem v f _ w _ (ix2 x c) _ rfl (Fin.forall_fin_two.mpr
      ⟨show x.val = 256 + x.val % 256 by omega, show c.val = 0 + c.val by omega⟩)
  · refine (View.read_writes_cons_unit_of_not_mem v f _ w _ (ix2 x c) rfl 0
      (show x.val < 256 ∨ 256 + 256 ≤ x.val by omega)).trans ?_
    exact View.read_writes_cons_unit_of_mem v f _ w' _ (ix2 x c) _ rfl (Fin.forall_fin_two.mpr
      ⟨show x.val = 0 + x.val % 256 by omega, show c.val = 0 + c.val by omega⟩)

theorem triIncl_ok (v : View sig .tc .vmem S512x256 .bf16) (f : v.ty.Contents (Elt Ideal)) :
    IsTri (fun a c => a ≤ c) (v.read (Elt Ideal) (v.writes (Elt Ideal) f triIncl)) := fun x c => by
  have h := put_halves v f (k0_pay102 (F := Ideal)) (k0_pay100 (F := Ideal)) x c
  rw [pay102_apply, pay100_apply, ite_self, pay98_apply] at h
  exact ⟨fun hp => h.trans (if_pos hp), fun hp => h.trans (if_neg hp)⟩

theorem triStrict_ok (v : View sig .tc .vmem S512x256 .bf16) (f : v.ty.Contents (Elt Ideal)) :
    IsTri (fun a c => a < c) (v.read (Elt Ideal) (v.writes (Elt Ideal) f triStrict)) := fun x c => by
  have h := put_halves v f (k0_pay103 (F := Ideal)) (k0_pay101 (F := Ideal)) x c
  rw [pay103_apply, pay101_apply, ite_self, pay99_apply] at h
  exact ⟨fun hp => h.trans (if_pos hp), fun hp => h.trans (if_neg hp)⟩

theorem zeros_ok (E : ℕ → ℕ → ℕ → ℝ) (v : View sig .tc .vmem S2048x512 .f32) (f : v.ty.Contents (Elt Ideal)) :
    Reads (v.read (Elt Ideal) (v.writes (Elt Ideal) f zeros)) (accum E 0 0) := fun s n => by
  have e : accum E 0 0 s n = 0 := by simp [accum]
  rw [e]
  refine (View.read_writes_cons_unit_of_mem v f inb_S2048x512_S2048x512_0_0 (k0_pay96 (F := Ideal)) [] (ix2 s n) (ix2 s n) rfl (Fin.forall_fin_two.mpr
      ⟨show s.val = 0 + s.val by omega, show n.val = 0 + n.val by omega⟩)).trans ?_
  rw [EReal.coe_zero]
  pointwise [k0_pay96]

/-- After the diagonal block the next query block begins: the keys to the right of the diagonal get nothing. -/
theorem accum_next {E : ℕ → ℕ → ℕ → ℝ} (hE : ∀ t s n, t ≤ s → E t s n = 0) (i : ℕ) :
    accum E i (i + 1) = accum E (i + 1) 0 := by
  funext s n
  unfold accum
  rw [if_neg (Nat.not_lt_zero _), add_zero, sum_block]
  congr 1
  split
  · rfl
  · rename_i h
    refine (Finset.sum_eq_zero fun a _ => hE _ _ _ ?_).symm
    have := a.isLt
    omega

theorem gradK_zero (Q K V O : ℕ → ℕ → ℝ) (t s n : ℕ) (h : t ≤ s) : gradK Q K V O t s n = 0 := by
  rw [gradK, dzf, DZ, if_neg (by omega), zero_mul]

theorem gradV_zero (Q K O : ℕ → ℕ → ℝ) (t s n : ℕ) (h : t ≤ s) : gradV Q K O t s n = 0 := by
  rw [gradV, A, if_neg (by omega), zero_mul]

/-- The gradient of the query `t`, at the column `n`. -/
def gradQ (Q K V O : ℕ → ℕ → ℝ) (t n : ℕ) : ℝ :=
  ∑ s ∈ Finset.range 2048,
    dzf (hd (n / 128) Q) (hd (n / 128) K) (hd (n / 128) V) (hd (n / 128) O) t s * K s n

/-- What a grid point is given: a block of 256 queries and of the gradient of their outputs, the sums of their
rows, and all keys and values, of four heads. -/
structure InOk (Q K V O : ℕ → ℕ → ℝ) (i : ℕ) (x0 : Vec Ideal S256x512 .bf16) (x1 x2 : Vec Ideal S2048x512 .bf16)
    (x3 : Vec Ideal S256x512 .bf16) (x4 : Vec Ideal S4x256x1 .f32) : Prop where
  q : ∀ (r : Fin 256) (n : Fin 512), x0 (ix2 r n) = ((Q (256 * i + r) n : ℝ) : EReal)
  k : Reads x1 K
  v : Reads x2 V
  o : ∀ (r : Fin 256) (n : Fin 512), x3 (ix2 r n) = ((O (256 * i + r) n : ℝ) : EReal)
  c : ∀ (g : Fin 4) (r : Fin 256), x4 (ix3 g r 0) = ((CT (zf (hd g Q) (hd g K)) (256 * i + r) : ℝ) : EReal)

/-- Four stores of 128 columns over a block of 512. -/
theorem put_four (v : View sig .tc .vmem S256x512 .bf16) (f : v.ty.Contents (Elt Ideal)) (w : Fin 4 → Vec Ideal S256x128 .bf16)
    (r : Fin 256) (n : Fin 512) :
    v.read (Elt Ideal) (v.writes (Elt Ideal) f
      [⟨Rect.unit (s := S256x512) ![0, 384] S256x128.size inb_S256x512_S256x128_0_384, w 3⟩,
       ⟨Rect.unit (s := S256x512) ![0, 256] S256x128.size inb_S256x512_S256x128_0_256, w 2⟩,
       ⟨Rect.unit (s := S256x512) ![0, 128] S256x128.size inb_S256x512_S256x128_0_128, w 1⟩,
       ⟨Rect.unit (s := S256x512) ![0, 0] S256x128.size inb_S256x512_S256x128_0_0, w 0⟩]) (ix2 r n)
      = w ⟨n.val / 128, by omega⟩ (ix2 r ⟨n.val % 128, Nat.mod_lt _ (by decide)⟩) := by
  have hn := n.isLt
  have hit (g : ℕ) (hg : g < 4) (inb) (L) (h : n.val / 128 = g) :
      v.read (Elt Ideal) (v.writes (Elt Ideal) f (⟨Rect.unit (s := S256x512) ![0, 128 * g] S256x128.size inb, w ⟨g, hg⟩⟩ :: L))
        (ix2 r n) = w ⟨n.val / 128, by omega⟩ (ix2 r ⟨n.val % 128, Nat.mod_lt _ (by decide)⟩) := by
    subst h
    exact View.read_writes_cons_unit_of_mem v f inb _ L (ix2 r n) _ rfl (Fin.forall_fin_two.mpr
      ⟨show r.val = 0 + r.val by omega, show n.val = 128 * (n.val / 128) + n.val % 128 by omega⟩)
  have miss (g : ℕ) (inb) (u : Vec Ideal S256x128 .bf16) (L) (h : ¬ n.val / 128 = g) :
      v.read (Elt Ideal) (v.writes (Elt Ideal) f (⟨Rect.unit (s := S256x512) ![0, 128 * g] S256x128.size inb, u⟩ :: L))
        (ix2 r n) = v.read (Elt Ideal) (v.writes (Elt Ideal) f L) (ix2 r n) :=
    View.read_writes_cons_unit_of_not_mem v f inb _ L (ix2 r n) rfl 1
        (show n.val < 128 * g ∨ 128 * g + 128 ≤ n.val by omega)
  by_cases h3 : n.val / 128 = 3
  · exact hit 3 (by decide) _ _ h3
  refine (miss 3 _ _ _ h3).trans ?_
  by_cases h2 : n.val / 128 = 2
  · exact hit 2 (by decide) _ _ h2
  refine (miss 2 _ _ _ h2).trans ?_
  by_cases h1 : n.val / 128 = 1
  · exact hit 1 (by decide) _ _ h1
  refine (miss 1 _ _ _ h1).trans ?_
  exact hit 0 (by decide) _ _ (by omega)

theorem read_cols (m : Memref sig .tc .vmem S256x512 .bf16) (hm : m.IsWhole) (x : Vec Ideal S256x512 .bf16) (g : ℕ)
    (inb : ∀ a, (![0, 128 * g] : Fin 2 → ℕ) a + S256x128.size a ≤ S256x512.size a) (r : Fin 256) (d : Fin 128) :
    m.view.readAt (Elt Ideal) (Rect.unit (s := S256x512) ![0, 128 * g] S256x128.size inb).toLoadRect (hm.unread x) (ix2 r d)
      = x (ix2 r ⟨128 * g + d, by have : 128 * g + 128 ≤ 512 := inb 1; omega⟩) :=
  (hm.readAt_unread x _ _).trans (congrArg x (funext (Fin.forall_fin_two.mpr
    ⟨Fin.ext (show 0 + 1 * r.val = r.val by omega),
      Fin.ext (show 128 * g + 1 * d.val = 128 * g + d.val by omega)⟩)))

theorem read_row (m : Memref sig .tc .vmem S4x256x1 .f32) (hm : m.IsWhole) (x : Vec Ideal S4x256x1 .f32) (g : ℕ)
    (inb : ∀ a, (![g, 0, 0] : Fin 3 → ℕ) a + S1x256x1.size a ≤ S4x256x1.size a) (r : Fin 256) :
    m.view.readAt (Elt Ideal) (Rect.unit (s := S4x256x1) ![g, 0, 0] S1x256x1.size inb).toLoadRect (hm.unread x) (ix3 0 r 0)
      = x (ix3 ⟨g, by have : g + 1 ≤ 4 := inb 0; omega⟩ r 0) :=
  (hm.readAt_unread x _ _).trans (congrArg x (funext (Fin.forall_fin_succ.mpr ⟨Fin.ext (show g + 1 * 0 = g by omega),
    Fin.forall_fin_two.mpr
    ⟨Fin.ext (show 0 + 1 * r.val = r.val by omega),
      Fin.ext (show 0 + 1 * 0 = 0 by omega)⟩⟩)))

section
variable
  (c : Dev nD) (i : grid0.Coords) (arg2 : Memref sig .tc .vmem S256x512 .bf16) (harg2 : arg2.IsWhole)
  (arg3 : Memref sig .tc .vmem S2048x512 .bf16) (harg3 : arg3.IsWhole)
  (arg4 : Memref sig .tc .vmem S2048x512 .bf16) (harg4 : arg4.IsWhole) (arg5 : Memref sig .tc .vmem S256x512 .bf16)
  (harg5 : arg5.IsWhole) (arg6 : Memref sig .tc .vmem S4x256x1 .f32) (harg6 : arg6.IsWhole)
  (arg7 : Memref sig .tc .vmem S256x512 .bf16) (harg7 : arg7.IsWhole) (arg8 : Memref sig .tc .vmem S2048x512 .bf16)
  (harg8 : arg8.IsWhole) (arg9 : Memref sig .tc .vmem S2048x512 .bf16) (harg9 : arg9.IsWhole)
  (arg10 : Memref sig .tc .vmem S2048x512 .f32) (harg10 : arg10.IsWhole)
  (arg11 : Memref sig .tc .vmem S2048x512 .f32) (harg11 : arg11.IsWhole)
  (arg12 : Memref sig .tc .vmem S512x256 .bf16) (harg12 : arg12.IsWhole)
  (arg13 : Memref sig .tc .vmem S512x256 .bf16) (harg13 : arg13.IsWhole)
  (x0 : Vec Ideal S256x512 .bf16) (x1 x2 : Vec Ideal S2048x512 .bf16) (x3 : Vec Ideal S256x512 .bf16) (x4 : Vec Ideal S4x256x1 .f32)
  {Q K V O : ℕ → ℕ → ℝ}

theorem pay104_apply (x : Vec Ideal S1x256x1 .f32) (r : Fin 256) :
    k0_pay104 (F := Ideal) x (ix2 r 0) = x (ix3 0 r 0) := by
  pointwise [k0_pay104]

omit x1 x2 in
theorem row0_ok {x1 x2 : Vec Ideal S2048x512 .bf16} {j : ℕ} (h : InOk Q K V O j x0 x1 x2 x3 x4) :
    RowsOk (hd 0 Q) (hd 0 K) (hd 0 O) j (row0 arg2 harg2 arg5 harg5 arg6 harg6 x0 x3 x4) :=
  ⟨fun r d => (read_cols arg2 harg2 x0 0 _ r d).trans (h.q _ _),
   fun r d => (read_cols arg5 harg5 x3 0 _ r d).trans (h.o _ _),
   fun r => (pay104_apply _ r).trans ((read_row arg6 harg6 x4 0 _ r).trans (h.c 0 r))⟩

theorem key0_ok {j : ℕ} (h : InOk Q K V O j x0 x1 x2 x3 x4) :
    KeysOk (hd 0 K) (hd 0 V) (i 1).val (key0 i arg3 harg3 arg4 harg4 arg12 arg13 x1 x2) :=
  keysAt_ok (by rw [harg3.read_unread]; exact h.k) (by rw [harg4.read_unread]; exact h.v)
    (triIncl_ok _ _) (triStrict_ok _ _) (k0_off9_inb i) (off9 i)

theorem pay105_apply (x : Vec Ideal S1x256x1 .f32) (r : Fin 256) :
    k0_pay105 (F := Ideal) x (ix2 r 0) = x (ix3 0 r 0) := by
  pointwise [k0_pay105]

omit x1 x2 in
theorem row1_ok {x1 x2 : Vec Ideal S2048x512 .bf16} {j : ℕ} (h : InOk Q K V O j x0 x1 x2 x3 x4) :
    RowsOk (hd 1 Q) (hd 1 K) (hd 1 O) j (row1 arg2 harg2 arg5 harg5 arg6 harg6 x0 x3 x4) :=
  ⟨fun r d => (read_cols arg2 harg2 x0 1 _ r d).trans (h.q _ _),
   fun r d => (read_cols arg5 harg5 x3 1 _ r d).trans (h.o _ _),
   fun r => (pay105_apply _ r).trans ((read_row arg6 harg6 x4 1 _ r).trans (h.c 1 r))⟩

theorem key1_ok {j : ℕ} (h : InOk Q K V O j x0 x1 x2 x3 x4) :
    KeysOk (hd 1 K) (hd 1 V) (i 1).val (key1 i arg3 harg3 arg4 harg4 arg12 arg13 x1 x2) :=
  keysAt_ok (by rw [harg3.read_unread]; exact h.k) (by rw [harg4.read_unread]; exact h.v)
    (triIncl_ok _ _) (triStrict_ok _ _) (k0_off10_inb i) (off10 i)

theorem pay106_apply (x : Vec Ideal S1x256x1 .f32) (r : Fin 256) :
    k0_pay106 (F := Ideal) x (ix2 r 0) = x (ix3 0 r 0) := by
  pointwise [k0_pay106]

omit x1 x2 in
theorem row2_ok {x1 x2 : Vec Ideal S2048x512 .bf16} {j : ℕ} (h : InOk Q K V O j x0 x1 x2 x3 x4) :
    RowsOk (hd 2 Q) (hd 2 K) (hd 2 O) j (row2 arg2 harg2 arg5 harg5 arg6 harg6 x0 x3 x4) :=
  ⟨fun r d => (read_cols arg2 harg2 x0 2 _ r d).trans (h.q _ _),
   fun r d => (read_cols arg5 harg5 x3 2 _ r d).trans (h.o _ _),
   fun r => (pay106_apply _ r).trans ((read_row arg6 harg6 x4 2 _ r).trans (h.c 2 r))⟩

theorem key2_ok {j : ℕ} (h : InOk Q K V O j x0 x1 x2 x3 x4) :
    KeysOk (hd 2 K) (hd 2 V) (i 1).val (key2 i arg3 harg3 arg4 harg4 arg12 arg13 x1 x2) :=
  keysAt_ok (by rw [harg3.read_unread]; exact h.k) (by rw [harg4.read_unread]; exact h.v)
    (triIncl_ok _ _) (triStrict_ok _ _) (k0_off11_inb i) (off11 i)

theorem pay107_apply (x : Vec Ideal S1x256x1 .f32) (r : Fin 256) :
    k0_pay107 (F := Ideal) x (ix2 r 0) = x (ix3 0 r 0) := by
  pointwise [k0_pay107]

omit x1 x2 in
theorem row3_ok {x1 x2 : Vec Ideal S2048x512 .bf16} {j : ℕ} (h : InOk Q K V O j x0 x1 x2 x3 x4) :
    RowsOk (hd 3 Q) (hd 3 K) (hd 3 O) j (row3 arg2 harg2 arg5 harg5 arg6 harg6 x0 x3 x4) :=
  ⟨fun r d => (read_cols arg2 harg2 x0 3 _ r d).trans (h.q _ _),
   fun r d => (read_cols arg5 harg5 x3 3 _ r d).trans (h.o _ _),
   fun r => (pay107_apply _ r).trans ((read_row arg6 harg6 x4 3 _ r).trans (h.c 3 r))⟩

theorem key3_ok {j : ℕ} (h : InOk Q K V O j x0 x1 x2 x3 x4) :
    KeysOk (hd 3 K) (hd 3 V) (i 1).val (key3 i arg3 harg3 arg4 harg4 arg12 arg13 x1 x2) :=
  keysAt_ok (by rw [harg3.read_unread]; exact h.k) (by rw [harg4.read_unread]; exact h.v)
    (triIncl_ok _ _) (triStrict_ok _ _) (k0_off12_inb i) (off12 i)

/-- Nothing is summed before the first key block. -/
theorem init_ok (Q K V O : ℕ → ℕ → ℝ) (j : ℕ) (p : Pre Ideal) (h0 : ∀ (r : Fin 256) (d : Fin 128), p.dq (ix2 r d) = 0)
    (h1 : ∀ r : Fin 256, p.lpre (ix2 r 0) = 0) (h2 : ∀ r : Fin 256, p.gpre (ix2 r 0) = 0) : PreOk Q K V O j 0 p :=
  ⟨fun r d => by rw [h0]; simp, fun r => by rw [h1]; simp, fun r => by rw [h2]; simp⟩

theorem loop1_ok (h : InOk Q K V O (i 1).val x0 x1 x2 x3 x4)
    (G10 : BufTy.Contents (Elt Ideal) arg10.view.ty) (G11 : BufTy.Contents (Elt Ideal) arg11.view.ty)
    (hK : Reads (arg10.view.read (Elt Ideal) G10) (accum (gradK Q K V O) (i 1).val 0))
    (hV : Reads (arg11.view.read (Elt Ideal) G11) (accum (gradV Q K O) (i 1).val 0)) :
    StOk Q K V O (i 1).val (i 1).val
      (loop1 (F := Ideal) c i arg2 harg2 arg3 harg3 arg4 harg4 arg5 harg5 arg6 harg6 arg7 harg7 arg8 harg8 arg9 harg9 arg10 harg10 arg11 harg11
      arg12 harg12 arg13 harg13 x0 x1 x2 x3 x4 G10 G11).1
      (arg10.view.read (Elt Ideal) (arg10.view.writes (Elt Ideal) G10
        (loop1 (F := Ideal) c i arg2 harg2 arg3 harg3 arg4 harg4 arg5 harg5 arg6 harg6 arg7 harg7 arg8 harg8 arg9 harg9 arg10 harg10 arg11 harg11
      arg12 harg12 arg13 harg13 x0 x1 x2 x3 x4 G10 G11).2.1))
      (arg11.view.read (Elt Ideal) (arg11.view.writes (Elt Ideal) G11
        (loop1 (F := Ideal) c i arg2 harg2 arg3 harg3 arg4 harg4 arg5 harg5 arg6 harg6 arg7 harg7 arg8 harg8 arg9 harg9 arg10 harg10 arg11 harg11
      arg12 harg12 arg13 harg13 x0 x1 x2 x3 x4 G10 G11).2.2)) := by
  have z108 (r : Fin 256) (d : Fin 128) : k0_pay108 (F := Ideal) (ix2 r d) = 0 := by pointwise [k0_pay108]
  have z109 (r : Fin 256) : k0_pay109 (F := Ideal) (ix2 r 0) = 0 := by pointwise [k0_pay109]
  unfold loop1
  rw [trips1]
  exact st1_ok _ _ _ _ _ _ _ _ _ _ _ _ _ _ _ _ _ _ _ _ _ _ _ _ _ _ _ _ _ _ _ _ _ _ _ _ _ _ _ _ _ _ _ _ _
    (row0_ok arg2 harg2 arg5 harg5 arg6 harg6 x0 x3 x4 h) (row1_ok arg2 harg2 arg5 harg5 arg6 harg6 x0 x3 x4 h)
    (row2_ok arg2 harg2 arg5 harg5 arg6 harg6 x0 x3 x4 h) (row3_ok arg2 harg2 arg5 harg5 arg6 harg6 x0 x3 x4 h)
    (by rw [harg3.read_unread]; exact h.k) (by rw [harg4.read_unread]; exact h.v)
    (triIncl_ok _ _) (triStrict_ok _ _) G10 G11
    (k0_pay108, k0_pay109, k0_pay110, k0_pay111, k0_pay112, k0_pay113, k0_pay114, k0_pay115, k0_pay116,
      k0_pay117, k0_pay118, k0_pay119)
    ⟨init_ok _ _ _ _ _ _ z108 z109 z109, init_ok _ _ _ _ _ _ z108 z109 z109, init_ok _ _ _ _ _ _ z108 z109 z109,
      init_ok _ _ _ _ _ _ z108 z109 z109, hK, hV⟩ _ le_rfl

theorem loop2_eq {F : FTy → Type} [FloatOps F] [Named F] (x0 : Vec F S256x512 .bf16) (x1 x2 : Vec F S2048x512 .bf16)
    (x3 : Vec F S256x512 .bf16) (x4 : Vec F S4x256x1 .f32)
    (l : Carried F × List (View.Piece (Elt F) S2048x512 .f32) × List (View.Piece (Elt F) S2048x512 .f32))
    (H10 : BufTy.Contents (Elt F) arg10.view.ty) (H11 : BufTy.Contents (Elt F) arg11.view.ty) :
    loop2 (F := F) c i arg2 harg2 arg3 harg3 arg4 harg4 arg5 harg5 arg6 harg6 arg7 harg7 arg8 harg8 arg9 harg9 arg10 harg10 arg11 harg11
      arg12 harg12 arg13 harg13 x0 x1 x2 x3 x4 l H10 H11 = (l.1, [], []) := by
  unfold loop2
  rw [trips2]
  rfl

/-- The diagonal block, after the loop. -/
theorem dqDiag_ok {h0 h1 h2 h3 : Rows Ideal} {b0 b1 b2 b3 : Keys Ideal} {a : Carried Ideal} {j : ℕ} {x y}
    (hr0 : RowsOk (hd 0 Q) (hd 0 K) (hd 0 O) j h0) (hr1 : RowsOk (hd 1 Q) (hd 1 K) (hd 1 O) j h1)
    (hr2 : RowsOk (hd 2 Q) (hd 2 K) (hd 2 O) j h2) (hr3 : RowsOk (hd 3 Q) (hd 3 K) (hd 3 O) j h3)
    (hb0 : KeysOk (hd 0 K) (hd 0 V) j b0) (hb1 : KeysOk (hd 1 K) (hd 1 V) j b1)
    (hb2 : KeysOk (hd 2 K) (hd 2 V) j b2) (hb3 : KeysOk (hd 3 K) (hd 3 V) j b3)
    (hs : StOk Q K V O j j a x y) (hj : j < 8)
    (v : View sig .tc .vmem S256x512 .bf16) (f : v.ty.Contents (Elt Ideal)) (r : Fin 256) (n : Fin 512) :
    v.read (Elt Ideal) (v.writes (Elt Ideal) f (dqDiag h0 h1 h2 h3 b0 b1 b2 b3 a)) (ix2 r n)
      = ((gradQ Q K V O (256 * j + r) n : ℝ) : EReal) := by
  have cut (g : ℕ) (d : ℕ) :
      (∑ s ∈ Finset.range (256 * (j + 1)), dzf (hd g Q) (hd g K) (hd g V) (hd g O) (256 * j + r) s * hd g K s d)
        = ∑ s ∈ Finset.range 2048, dzf (hd g Q) (hd g K) (hd g V) (hd g O) (256 * j + r) s * hd g K s d := by
    refine Finset.sum_subset (Finset.range_subset_range.mpr (by omega)) fun s _ hs => ?_
    have hr := r.isLt
    rw [Finset.mem_range] at hs
    rw [dzf, DZ, if_neg (by omega), zero_mul]
  have h := put_four v f ![(truncf .bf16 (hPre h0 b0 (diag h0 b0) (pre0 a)).dq bitsLt_bf16_f32 : Vec Ideal S256x128 .bf16),
    truncf .bf16 (hPre h1 b1 (diag h1 b1) (pre1 a)).dq bitsLt_bf16_f32,
    truncf .bf16 (hPre h2 b2 (diag h2 b2) (pre2 a)).dq bitsLt_bf16_f32,
    truncf .bf16 (hPre h3 b3 (diag h3 b3) (pre3 a)).dq bitsLt_bf16_f32] r n
  refine Eq.trans h ?_
  have e (g : ℕ) (hg : n.val / 128 = g) : 128 * g + n.val % 128 = n.val := by omega
  have fin (g : ℕ) (hg : n.val / 128 = g) (w : Vec Ideal S256x128 .f32)
      (hw : ∀ (r : Fin 256) (d : Fin 128), w (ix2 r d)
        = ((∑ s ∈ Finset.range (256 * (j + 1)), dzf (hd g Q) (hd g K) (hd g V) (hd g O) (256 * j + r) s * hd g K s d : ℝ) : EReal)) :
      w (ix2 r ⟨n.val % 128, Nat.mod_lt _ (by decide)⟩) = ((gradQ Q K V O (256 * j + r) n : ℝ) : EReal) := by
    rw [hw, cut, gradQ, hg]
    simp only [hd, e g hg]
  have hn := n.isLt
  have h4 : n.val / 128 = 0 ∨ n.val / 128 = 1 ∨ n.val / 128 = 2 ∨ n.val / 128 = 3 := by omega
  rcases h4 with hg | hg | hg | hg
  · simp only [hg]
    exact fin 0 hg _ (hPre_ok hr0 hb0 (diag_ok hr0 hb0) hs.p0).dq
  · simp only [hg]
    exact fin 1 hg _ (hPre_ok hr1 hb1 (diag_ok hr1 hb1) hs.p1).dq
  · simp only [hg]
    exact fin 2 hg _ (hPre_ok hr2 hb2 (diag_ok hr2 hb2) hs.p2).dq
  · simp only [hg]
    exact fin 3 hg _ (hPre_ok hr3 hb3 (diag_ok hr3 hb3) hs.p3).dq

theorem dkDiag_ok {h0 h1 h2 h3 : Rows Ideal} {b0 b1 b2 b3 : Keys Ideal} {a : Carried Ideal} {x y}
    (hr0 : RowsOk (hd 0 Q) (hd 0 K) (hd 0 O) (i 1).val h0) (hr1 : RowsOk (hd 1 Q) (hd 1 K) (hd 1 O) (i 1).val h1)
    (hr2 : RowsOk (hd 2 Q) (hd 2 K) (hd 2 O) (i 1).val h2) (hr3 : RowsOk (hd 3 Q) (hd 3 K) (hd 3 O) (i 1).val h3)
    (hb0 : KeysOk (hd 0 K) (hd 0 V) (i 1).val b0) (hb1 : KeysOk (hd 1 K) (hd 1 V) (i 1).val b1)
    (hb2 : KeysOk (hd 2 K) (hd 2 V) (i 1).val b2) (hb3 : KeysOk (hd 3 K) (hd 3 V) (i 1).val b3)
    (hs : StOk Q K V O (i 1).val (i 1).val a x y)
    (v : View sig .tc .vmem S2048x512 .f32) (f : v.ty.Contents (Elt Ideal)) (L : List (View.Piece (Elt Ideal) S2048x512 .f32))
    (hL : Reads (v.read (Elt Ideal) (v.writes (Elt Ideal) f L)) (accum (gradK Q K V O) (i 1).val (i 1).val)) :
    Reads (v.read (Elt Ideal) (v.writes (Elt Ideal) f (dkDiag i v f h0 h1 h2 h3 b0 b1 b2 b3 a L)))
      (accum (gradK Q K V O) ((i 1).val + 1) 0) := by
  rw [← accum_next (gradK_zero Q K V O)]
  refine reads_mid_four ?_
  have z : Reads (v.read (Elt Ideal) (v.writes (Elt Ideal) f L)) (mid (gradK Q K V O) (i 1).val (i 1).val 0) := by
    rw [mid_zero]; exact hL
  have s0 := dk_step v f le_rfl _ z _ z (k0_off9_inb i) (off9 i) hr0 hb0 (diag_ok hr0 hb0) hs.p0
  have s1 := dk_step v f le_rfl _ s0 _ s0 (k0_off10_inb i) (off10 i) hr1 hb1 (diag_ok hr1 hb1) hs.p1
  have s2 := dk_step v f le_rfl _ s1 _ s1 (k0_off11_inb i) (off11 i) hr2 hb2 (diag_ok hr2 hb2) hs.p2
  exact dk_step v f le_rfl _ s2 _ s2 (k0_off12_inb i) (off12 i) hr3 hb3 (diag_ok hr3 hb3) hs.p3

theorem dvDiag_ok {h0 h1 h2 h3 : Rows Ideal} {b0 b1 b2 b3 : Keys Ideal} {a : Carried Ideal} {x y}
    (hr0 : RowsOk (hd 0 Q) (hd 0 K) (hd 0 O) (i 1).val h0) (hr1 : RowsOk (hd 1 Q) (hd 1 K) (hd 1 O) (i 1).val h1)
    (hr2 : RowsOk (hd 2 Q) (hd 2 K) (hd 2 O) (i 1).val h2) (hr3 : RowsOk (hd 3 Q) (hd 3 K) (hd 3 O) (i 1).val h3)
    (hb0 : KeysOk (hd 0 K) (hd 0 V) (i 1).val b0) (hb1 : KeysOk (hd 1 K) (hd 1 V) (i 1).val b1)
    (hb2 : KeysOk (hd 2 K) (hd 2 V) (i 1).val b2) (hb3 : KeysOk (hd 3 K) (hd 3 V) (i 1).val b3)
    (hs : StOk Q K V O (i 1).val (i 1).val a x y)
    (v : View sig .tc .vmem S2048x512 .f32) (f : v.ty.Contents (Elt Ideal)) (L : List (View.Piece (Elt Ideal) S2048x512 .f32))
    (hL : Reads (v.read (Elt Ideal) (v.writes (Elt Ideal) f L)) (accum (gradV Q K O) (i 1).val (i 1).val)) :
    Reads (v.read (Elt Ideal) (v.writes (Elt Ideal) f (dvDiag i v f h0 h1 h2 h3 b0 b1 b2 b3 a L)))
      (accum (gradV Q K O) ((i 1).val + 1) 0) := by
  rw [← accum_next (gradV_zero Q K O)]
  refine reads_mid_four ?_
  have z : Reads (v.read (Elt Ideal) (v.writes (Elt Ideal) f L)) (mid (gradV Q K O) (i 1).val (i 1).val 0) := by
    rw [mid_zero]; exact hL
  have s0 := dv_step v f le_rfl _ z _ z (k0_off9_inb i) (off9 i) hr0 hb0 (diag_ok hr0 hb0) hs.p0
  have s1 := dv_step v f le_rfl _ s0 _ s0 (k0_off10_inb i) (off10 i) hr1 hb1 (diag_ok hr1 hb1) hs.p1
  have s2 := dv_step v f le_rfl _ s1 _ s1 (k0_off11_inb i) (off11 i) hr2 hb2 (diag_ok hr2 hb2) hs.p2
  exact dv_step v f le_rfl _ s2 _ s2 (k0_off12_inb i) (off12 i) hr3 hb3 (diag_ok hr3 hb3) hs.p3

end

end Cert.KernelIdeal.Step

end
-- ==== Proof.RunA.lean ====
module

public import proofs.«01_k».proof.Proof.Run

/-! The case of the first query block, opened. -/

@[expose] public section

set_option maxRecDepth 16384

noncomputable section

namespace Cert.KernelIdeal.Step

open Idealize.ShloMosaic Idealize.ShloMosaic.TcCoe Idealize.ShloMosaic.Tactic
open Cert.KernelIdeal.Gen

variable {F : FTy → Type} [FloatOps F] [Named F]

variable
  (c : Dev nD) (i : grid0.Coords) (arg2 : Memref sig .tc .vmem S256x512 .bf16) (harg2 : arg2.IsWhole)
  (arg3 : Memref sig .tc .vmem S2048x512 .bf16) (harg3 : arg3.IsWhole)
  (arg4 : Memref sig .tc .vmem S2048x512 .bf16) (harg4 : arg4.IsWhole) (arg5 : Memref sig .tc .vmem S256x512 .bf16)
  (harg5 : arg5.IsWhole) (arg6 : Memref sig .tc .vmem S4x256x1 .f32) (harg6 : arg6.IsWhole)
  (arg7 : Memref sig .tc .vmem S256x512 .bf16) (harg7 : arg7.IsWhole) (arg8 : Memref sig .tc .vmem S2048x512 .bf16)
  (harg8 : arg8.IsWhole) (arg9 : Memref sig .tc .vmem S2048x512 .bf16) (harg9 : arg9.IsWhole)
  (arg10 : Memref sig .tc .vmem S2048x512 .f32) (harg10 : arg10.IsWhole)
  (arg11 : Memref sig .tc .vmem S2048x512 .f32) (harg11 : arg11.IsWhole)
  (arg12 : Memref sig .tc .vmem S512x256 .bf16) (harg12 : arg12.IsWhole)
  (arg13 : Memref sig .tc .vmem S512x256 .bf16) (harg13 : arg13.IsWhole)
  (x0 : Vec F S256x512 .bf16) (x1 x2 : Vec F S2048x512 .bf16) (x3 : Vec F S256x512 .bf16) (x4 : Vec F S4x256x1 .f32)

/-- What the loop leaves. -/
def l1A :
    Carried F × List (View.Piece (Elt F) S2048x512 .f32) × List (View.Piece (Elt F) S2048x512 .f32) :=
  st_k0_t1 (F := F) Variants.none c none i
    arg2 harg2 arg3 harg3 arg4 harg4 arg5 harg5 arg6 harg6 arg7 harg7 arg8 harg8 arg9 harg9 arg10 harg10 arg11
    harg11 arg12 harg12 arg13 harg13
    (BitVec.ofNat 32 ↑(i 1))
    (kernelRun0_A.sl.r c arg2 harg2 x0)
    (kernelRun0_A.sl.r_1 c arg5 harg5 x3)
    (kernelRun0_A.sl.r_2 c arg6 harg6 x4)
    (kernelRun0_A.sl.r_3 c arg2 harg2 x0)
    (kernelRun0_A.sl.r_4 c arg5 harg5 x3)
    (View.readAt (Elt F) arg6.view (Rect.unit (s := S4x256x1) ![1, 0, 0] S1x256x1.size inb_S4x256x1_S1x256x1_1_0_0).toLoadRect (harg6.unread x4))
    (View.readAt (Elt F) arg2.view (Rect.unit (s := S256x512) ![0, 256] S256x128.size inb_S256x512_S256x128_0_256).toLoadRect (harg2.unread x0))
    (View.readAt (Elt F) arg5.view (Rect.unit (s := S256x512) ![0, 256] S256x128.size inb_S256x512_S256x128_0_256).toLoadRect (harg5.unread x3))
    (View.readAt (Elt F) arg6.view (Rect.unit (s := S4x256x1) ![2, 0, 0] S1x256x1.size inb_S4x256x1_S1x256x1_2_0_0).toLoadRect (harg6.unread x4))
    (View.readAt (Elt F) arg2.view (Rect.unit (s := S256x512) ![0, 384] S256x128.size inb_S256x512_S256x128_0_384).toLoadRect (harg2.unread x0))
    (View.readAt (Elt F) arg5.view (Rect.unit (s := S256x512) ![0, 384] S256x128.size inb_S256x512_S256x128_0_384).toLoadRect (harg5.unread x3))
    (View.readAt (Elt F) arg6.view (Rect.unit (s := S4x256x1) ![3, 0, 0] S1x256x1.size inb_S4x256x1_S1x256x1_3_0_0).toLoadRect (harg6.unread x4))
    (harg3.unread x1) (harg4.unread x2)
    (arg12.view.writes (Elt F) arg12.view.junk kernelRun0_A.sl.HS2_2)
    (arg13.view.writes (Elt F) arg13.view.junk kernelRun0_A.sl.HS3_2)
    (arg10.view.writes (Elt F) arg10.view.junk kernelRun0_A.sl.HS0_1) (arg11.view.writes (Elt F) arg11.view.junk kernelRun0_A.sl.HS1_1)
    (k0_pay108, k0_pay109, k0_pay110, k0_pay111, k0_pay112, k0_pay113, k0_pay114, k0_pay115, k0_pay116,
      k0_pay117, k0_pay118, k0_pay119)
    (Scf.trips (k0_t1_loop i).lb (k0_t1_loop i).ub (k0_t1_loop i).st)

/-- What the loop's remainder leaves. -/
def l2A :
    Carried F × List (View.Piece (Elt F) S2048x512 .f32) × List (View.Piece (Elt F) S2048x512 .f32) :=
  st_k0_t2 (F := F) Variants.none c none i
    arg2 harg2 arg3 harg3 arg4 harg4 arg5 harg5 arg6 harg6 arg7 harg7 arg8 harg8 arg9 harg9 arg10 harg10 arg11
    harg11 arg12 harg12 arg13 harg13
    (BitVec.ofNat 32 ↑(i 1)) kernelRun0_A.sl.v3 kernelRun0_A.sl.v4
    (kernelRun0_A.sl.r c arg2 harg2 x0)
    (kernelRun0_A.sl.r_1 c arg5 harg5 x3)
    (kernelRun0_A.sl.r_2 c arg6 harg6 x4)
    (kernelRun0_A.sl.r_3 c arg2 harg2 x0)
    (kernelRun0_A.sl.r_4 c arg5 harg5 x3)
    (kernelRun0_A.sl.r_5 c arg6 harg6 x4)
    (kernelRun0_A.sl.r_6 c arg2 harg2 x0)
    (kernelRun0_A.sl.r_7 c arg5 harg5 x3)
    (kernelRun0_A.sl.r_8 c arg6 harg6 x4)
    (kernelRun0_A.sl.r_9 c arg2 harg2 x0)
    (kernelRun0_A.sl.r_10 c arg5 harg5 x3)
    (kernelRun0_A.sl.r_11 c arg6 harg6 x4)
    (kernelRun0_A.sl.v57 i)
    (kernelRun0_A.sl.r_12 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_13 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_14 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_15 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_16 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_17 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_18 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_19 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_20 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_21 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_22 c i arg2 harg2 arg3 harg3 arg4 harg4 arg5 harg5 arg6 harg6 arg7 harg7 arg8 harg8 arg9 harg9 arg10 harg10 arg11 harg11 arg12 harg12 arg13 harg13 x0 x1 x2 x3 x4)
    (kernelRun0_A.sl.r_23 c i arg2 harg2 arg3 harg3 arg4 harg4 arg5 harg5 arg6 harg6 arg7 harg7 arg8 harg8 arg9 harg9 arg10 harg10 arg11 harg11 arg12 harg12 arg13 harg13 x0 x1 x2 x3 x4)
    (1#32)
    (harg3.unread x1) (harg4.unread x2)
    (arg12.view.writes (Elt F) arg12.view.junk kernelRun0_A.sl.HS2_2)
    (arg13.view.writes (Elt F) arg13.view.junk kernelRun0_A.sl.HS3_2)
    (arg10.view.writes (Elt F) arg10.view.junk ((l1A c i arg2 harg2 arg3 harg3 arg4 harg4 arg5 harg5 arg6 harg6 arg7 harg7 arg8 harg8 arg9 harg9 arg10 harg10 arg11 harg11 arg12 harg12 arg13 harg13 x0 x1 x2 x3 x4).2.1 ++ kernelRun0_A.sl.HS0_1))
    (arg11.view.writes (Elt F) arg11.view.junk ((l1A c i arg2 harg2 arg3 harg3 arg4 harg4 arg5 harg5 arg6 harg6 arg7 harg7 arg8 harg8 arg9 harg9 arg10 harg10 arg11 harg11 arg12 harg12 arg13 harg13 x0 x1 x2 x3 x4).2.2 ++ kernelRun0_A.sl.HS1_1))
    ((kernelRun0_A.sl.r_12 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_13 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_14 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_15 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_16 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_17 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_18 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_19 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_20 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_21 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_22 c i arg2 harg2 arg3 harg3 arg4 harg4 arg5 harg5 arg6 harg6 arg7 harg7 arg8 harg8 arg9 harg9 arg10 harg10 arg11 harg11 arg12 harg12 arg13 harg13 x0 x1 x2 x3 x4),
    (kernelRun0_A.sl.r_23 c i arg2 harg2 arg3 harg3 arg4 harg4 arg5 harg5 arg6 harg6 arg7 harg7 arg8 harg8 arg9 harg9 arg10 harg10 arg11 harg11 arg12 harg12 arg13 harg13 x0 x1 x2 x3 x4))
    (Scf.trips (k0_t2_loop i).lb (k0_t2_loop i).ub (k0_t2_loop i).st)

/-- The carried value before the diagonal block. -/
def carA : Carried F :=
  ((kernelRun0_A.sl.r_24 c i arg2 harg2 arg3 harg3 arg4 harg4 arg5 harg5 arg6 harg6 arg7 harg7 arg8 harg8 arg9 harg9 arg10 harg10 arg11 harg11 arg12 harg12 arg13 harg13 x0 x1 x2 x3 x4), (l2A c i arg2 harg2 arg3 harg3 arg4 harg4 arg5 harg5 arg6 harg6 arg7 harg7 arg8 harg8 arg9 harg9 arg10 harg10 arg11 harg11 arg12 harg12 arg13 harg13 x0 x1 x2 x3 x4).1.2.1,
   (kernelRun0_A.sl.r_25 c i arg2 harg2 arg3 harg3 arg4 harg4 arg5 harg5 arg6 harg6 arg7 harg7 arg8 harg8 arg9 harg9 arg10 harg10 arg11 harg11 arg12 harg12 arg13 harg13 x0 x1 x2 x3 x4),
   (kernelRun0_A.sl.r_26 c i arg2 harg2 arg3 harg3 arg4 harg4 arg5 harg5 arg6 harg6 arg7 harg7 arg8 harg8 arg9 harg9 arg10 harg10 arg11 harg11 arg12 harg12 arg13 harg13 x0 x1 x2 x3 x4),
   (kernelRun0_A.sl.r_27 c i arg2 harg2 arg3 harg3 arg4 harg4 arg5 harg5 arg6 harg6 arg7 harg7 arg8 harg8 arg9 harg9 arg10 harg10 arg11 harg11 arg12 harg12 arg13 harg13 x0 x1 x2 x3 x4),
   (kernelRun0_A.sl.r_28 c i arg2 harg2 arg3 harg3 arg4 harg4 arg5 harg5 arg6 harg6 arg7 harg7 arg8 harg8 arg9 harg9 arg10 harg10 arg11 harg11 arg12 harg12 arg13 harg13 x0 x1 x2 x3 x4),
   (kernelRun0_A.sl.r_29 c i arg2 harg2 arg3 harg3 arg4 harg4 arg5 harg5 arg6 harg6 arg7 harg7 arg8 harg8 arg9 harg9 arg10 harg10 arg11 harg11 arg12 harg12 arg13 harg13 x0 x1 x2 x3 x4),
   (kernelRun0_A.sl.r_30 c i arg2 harg2 arg3 harg3 arg4 harg4 arg5 harg5 arg6 harg6 arg7 harg7 arg8 harg8 arg9 harg9 arg10 harg10 arg11 harg11 arg12 harg12 arg13 harg13 x0 x1 x2 x3 x4),
   (kernelRun0_A.sl.r_31 c i arg2 harg2 arg3 harg3 arg4 harg4 arg5 harg5 arg6 harg6 arg7 harg7 arg8 harg8 arg9 harg9 arg10 harg10 arg11 harg11 arg12 harg12 arg13 harg13 x0 x1 x2 x3 x4),
   (kernelRun0_A.sl.r_32 c i arg2 harg2 arg3 harg3 arg4 harg4 arg5 harg5 arg6 harg6 arg7 harg7 arg8 harg8 arg9 harg9 arg10 harg10 arg11 harg11 arg12 harg12 arg13 harg13 x0 x1 x2 x3 x4),
   (kernelRun0_A.sl.r_33 c i arg2 harg2 arg3 harg3 arg4 harg4 arg5 harg5 arg6 harg6 arg7 harg7 arg8 harg8 arg9 harg9 arg10 harg10 arg11 harg11 arg12 harg12 arg13 harg13 x0 x1 x2 x3 x4),
   (kernelRun0_A.sl.r_34 c i arg2 harg2 arg3 harg3 arg4 harg4 arg5 harg5 arg6 harg6 arg7 harg7 arg8 harg8 arg9 harg9 arg10 harg10 arg11 harg11 arg12 harg12 arg13 harg13 x0 x1 x2 x3 x4))

section

attribute [local irreducible] st_k0_t1 st_k0_t2 Scf.trips

theorem l1A_eq : (l1A c i arg2 harg2 arg3 harg3 arg4 harg4 arg5 harg5 arg6 harg6 arg7 harg7 arg8 harg8 arg9 harg9 arg10 harg10 arg11 harg11 arg12 harg12 arg13 harg13 x0 x1 x2 x3 x4) = loop1 c i arg2 harg2 arg3 harg3 arg4 harg4 arg5 harg5 arg6 harg6 arg7 harg7 arg8 harg8 arg9 harg9 arg10 harg10 arg11 harg11 arg12 harg12 arg13 harg13 x0 x1 x2 x3 x4 (arg10.view.writes (Elt F) arg10.view.junk zeros) (arg11.view.writes (Elt F) arg11.view.junk zeros) := by
  rfl

theorem l2A_eq : (l2A c i arg2 harg2 arg3 harg3 arg4 harg4 arg5 harg5 arg6 harg6 arg7 harg7 arg8 harg8 arg9 harg9 arg10 harg10 arg11 harg11 arg12 harg12 arg13 harg13 x0 x1 x2 x3 x4) = loop2 c i arg2 harg2 arg3 harg3 arg4 harg4 arg5 harg5 arg6 harg6 arg7 harg7 arg8 harg8 arg9 harg9 arg10 harg10 arg11 harg11 arg12 harg12 arg13 harg13 x0 x1 x2 x3 x4 (l1A c i arg2 harg2 arg3 harg3 arg4 harg4 arg5 harg5 arg6 harg6 arg7 harg7 arg8 harg8 arg9 harg9 arg10 harg10 arg11 harg11 arg12 harg12 arg13 harg13 x0 x1 x2 x3 x4) (arg10.view.writes (Elt F) arg10.view.junk ((l1A c i arg2 harg2 arg3 harg3 arg4 harg4 arg5 harg5 arg6 harg6 arg7 harg7 arg8 harg8 arg9 harg9 arg10 harg10 arg11 harg11 arg12 harg12 arg13 harg13 x0 x1 x2 x3 x4).2.1 ++ zeros)) (arg11.view.writes (Elt F) arg11.view.junk ((l1A c i arg2 harg2 arg3 harg3 arg4 harg4 arg5 harg5 arg6 harg6 arg7 harg7 arg8 harg8 arg9 harg9 arg10 harg10 arg11 harg11 arg12 harg12 arg13 harg13 x0 x1 x2 x3 x4).2.2 ++ zeros)) := by
  rfl

theorem carA_eq : (carA c i arg2 harg2 arg3 harg3 arg4 harg4 arg5 harg5 arg6 harg6 arg7 harg7 arg8 harg8 arg9 harg9 arg10 harg10 arg11 harg11 arg12 harg12 arg13 harg13 x0 x1 x2 x3 x4) = (l2A c i arg2 harg2 arg3 harg3 arg4 harg4 arg5 harg5 arg6 harg6 arg7 harg7 arg8 harg8 arg9 harg9 arg10 harg10 arg11 harg11 arg12 harg12 arg13 harg13 x0 x1 x2 x3 x4).1 := by
  rfl

end

section

attribute [local irreducible] st_k0_t1 st_k0_t2 Scf.trips
attribute [local irreducible] kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34

set_option maxHeartbeats 2000000 in
theorem runA_dq (hc0 : cond0_0 i) (hc1 : ¬cond0_1 i) :
    let h0 := row0 arg2 harg2 arg5 harg5 arg6 harg6 x0 x3 x4
    let b0 := key0 i arg3 harg3 arg4 harg4 arg12 arg13 x1 x2
    let h1 := row1 arg2 harg2 arg5 harg5 arg6 harg6 x0 x3 x4
    let b1 := key1 i arg3 harg3 arg4 harg4 arg12 arg13 x1 x2
    let h2 := row2 arg2 harg2 arg5 harg5 arg6 harg6 x0 x3 x4
    let b2 := key2 i arg3 harg3 arg4 harg4 arg12 arg13 x1 x2
    let h3 := row3 arg2 harg2 arg5 harg5 arg6 harg6 x0 x3 x4
    let b3 := key3 i arg3 harg3 arg4 harg4 arg12 arg13 x1 x2
    (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4).1
      = dqDiag h0 h1 h2 h3 b0 b1 b2 b3 (carA c i arg2 harg2 arg3 harg3 arg4 harg4 arg5 harg5 arg6 harg6 arg7 harg7 arg8 harg8 arg9 harg9 arg10 harg10 arg11 harg11 arg12 harg12 arg13 harg13 x0 x1 x2 x3 x4) := by
  unfold kernelRun0_A
  rfl

set_option maxHeartbeats 2000000 in
theorem runA_dk (hc0 : cond0_0 i) (hc1 : ¬cond0_1 i) :
    let h0 := row0 arg2 harg2 arg5 harg5 arg6 harg6 x0 x3 x4
    let b0 := key0 i arg3 harg3 arg4 harg4 arg12 arg13 x1 x2
    let h1 := row1 arg2 harg2 arg5 harg5 arg6 harg6 x0 x3 x4
    let b1 := key1 i arg3 harg3 arg4 harg4 arg12 arg13 x1 x2
    let h2 := row2 arg2 harg2 arg5 harg5 arg6 harg6 x0 x3 x4
    let b2 := key2 i arg3 harg3 arg4 harg4 arg12 arg13 x1 x2
    let h3 := row3 arg2 harg2 arg5 harg5 arg6 harg6 x0 x3 x4
    let b3 := key3 i arg3 harg3 arg4 harg4 arg12 arg13 x1 x2
    (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1
      = dkDiag i arg10.view arg10.view.junk h0 h1 h2 h3 b0 b1 b2 b3 (carA c i arg2 harg2 arg3 harg3 arg4 harg4 arg5 harg5 arg6 harg6 arg7 harg7 arg8 harg8 arg9 harg9 arg10 harg10 arg11 harg11 arg12 harg12 arg13 harg13 x0 x1 x2 x3 x4) ((l2A c i arg2 harg2 arg3 harg3 arg4 harg4 arg5 harg5 arg6 harg6 arg7 harg7 arg8 harg8 arg9 harg9 arg10 harg10 arg11 harg11 arg12 harg12 arg13 harg13 x0 x1 x2 x3 x4).2.1 ++ ((l1A c i arg2 harg2 arg3 harg3 arg4 harg4 arg5 harg5 arg6 harg6 arg7 harg7 arg8 harg8 arg9 harg9 arg10 harg10 arg11 harg11 arg12 harg12 arg13 harg13 x0 x1 x2 x3 x4).2.1 ++ kernelRun0_A.sl.HS0_1)) := by
  unfold kernelRun0_A
  rfl

set_option maxHeartbeats 2000000 in
theorem runA_dv (hc0 : cond0_0 i) (hc1 : ¬cond0_1 i) :
    let h0 := row0 arg2 harg2 arg5 harg5 arg6 harg6 x0 x3 x4
    let b0 := key0 i arg3 harg3 arg4 harg4 arg12 arg13 x1 x2
    let h1 := row1 arg2 harg2 arg5 harg5 arg6 harg6 x0 x3 x4
    let b1 := key1 i arg3 harg3 arg4 harg4 arg12 arg13 x1 x2
    let h2 := row2 arg2 harg2 arg5 harg5 arg6 harg6 x0 x3 x4
    let b2 := key2 i arg3 harg3 arg4 harg4 arg12 arg13 x1 x2
    let h3 := row3 arg2 harg2 arg5 harg5 arg6 harg6 x0 x3 x4
    let b3 := key3 i arg3 harg3 arg4 harg4 arg12 arg13 x1 x2
    (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1
      = dvDiag i arg11.view arg11.view.junk h0 h1 h2 h3 b0 b1 b2 b3 (carA c i arg2 harg2 arg3 harg3 arg4 harg4 arg5 harg5 arg6 harg6 arg7 harg7 arg8 harg8 arg9 harg9 arg10 harg10 arg11 harg11 arg12 harg12 arg13 harg13 x0 x1 x2 x3 x4) ((l2A c i arg2 harg2 arg3 harg3 arg4 harg4 arg5 harg5 arg6 harg6 arg7 harg7 arg8 harg8 arg9 harg9 arg10 harg10 arg11 harg11 arg12 harg12 arg13 harg13 x0 x1 x2 x3 x4).2.2 ++ ((l1A c i arg2 harg2 arg3 harg3 arg4 harg4 arg5 harg5 arg6 harg6 arg7 harg7 arg8 harg8 arg9 harg9 arg10 harg10 arg11 harg11 arg12 harg12 arg13 harg13 x0 x1 x2 x3 x4).2.2 ++ kernelRun0_A.sl.HS1_1)) := by
  unfold kernelRun0_A
  rfl

end

end Cert.KernelIdeal.Step

end
-- ==== Proof.RunB.lean ====
module

public import proofs.«01_k».proof.Proof.Run

/-! The case of a query block in the middle, opened. -/

@[expose] public section

set_option maxRecDepth 16384

noncomputable section

namespace Cert.KernelIdeal.Step

open Idealize.ShloMosaic Idealize.ShloMosaic.TcCoe Idealize.ShloMosaic.Tactic
open Cert.KernelIdeal.Gen

variable {F : FTy → Type} [FloatOps F] [Named F]

variable
  (c : Dev nD) (i : grid0.Coords) (arg2 : Memref sig .tc .vmem S256x512 .bf16) (harg2 : arg2.IsWhole)
  (arg3 : Memref sig .tc .vmem S2048x512 .bf16) (harg3 : arg3.IsWhole)
  (arg4 : Memref sig .tc .vmem S2048x512 .bf16) (harg4 : arg4.IsWhole) (arg5 : Memref sig .tc .vmem S256x512 .bf16)
  (harg5 : arg5.IsWhole) (arg6 : Memref sig .tc .vmem S4x256x1 .f32) (harg6 : arg6.IsWhole)
  (arg7 : Memref sig .tc .vmem S256x512 .bf16) (harg7 : arg7.IsWhole) (arg8 : Memref sig .tc .vmem S2048x512 .bf16)
  (harg8 : arg8.IsWhole) (arg9 : Memref sig .tc .vmem S2048x512 .bf16) (harg9 : arg9.IsWhole)
  (arg10 : Memref sig .tc .vmem S2048x512 .f32) (harg10 : arg10.IsWhole)
  (arg11 : Memref sig .tc .vmem S2048x512 .f32) (harg11 : arg11.IsWhole)
  (arg12 : Memref sig .tc .vmem S512x256 .bf16) (harg12 : arg12.IsWhole)
  (arg13 : Memref sig .tc .vmem S512x256 .bf16) (harg13 : arg13.IsWhole)
  (x0 : Vec F S256x512 .bf16) (x1 x2 : Vec F S2048x512 .bf16) (x3 : Vec F S256x512 .bf16) (x4 : Vec F S4x256x1 .f32)

/-- What the loop leaves. -/
def l1B (xs0 xs1 : Vec F S2048x512 .f32) :
    Carried F × List (View.Piece (Elt F) S2048x512 .f32) × List (View.Piece (Elt F) S2048x512 .f32) :=
  st_k0_t1 (F := F) Variants.none c none i
    arg2 harg2 arg3 harg3 arg4 harg4 arg5 harg5 arg6 harg6 arg7 harg7 arg8 harg8 arg9 harg9 arg10 harg10 arg11
    harg11 arg12 harg12 arg13 harg13
    (BitVec.ofNat 32 ↑(i 1))
    (kernelRun0_B.sl.r c arg2 harg2 x0)
    (kernelRun0_B.sl.r_1 c arg5 harg5 x3)
    (kernelRun0_B.sl.r_2 c arg6 harg6 x4)
    (kernelRun0_B.sl.r_3 c arg2 harg2 x0)
    (kernelRun0_B.sl.r_4 c arg5 harg5 x3)
    (View.readAt (Elt F) arg6.view (Rect.unit (s := S4x256x1) ![1, 0, 0] S1x256x1.size inb_S4x256x1_S1x256x1_1_0_0).toLoadRect (harg6.unread x4))
    (View.readAt (Elt F) arg2.view (Rect.unit (s := S256x512) ![0, 256] S256x128.size inb_S256x512_S256x128_0_256).toLoadRect (harg2.unread x0))
    (View.readAt (Elt F) arg5.view (Rect.unit (s := S256x512) ![0, 256] S256x128.size inb_S256x512_S256x128_0_256).toLoadRect (harg5.unread x3))
    (View.readAt (Elt F) arg6.view (Rect.unit (s := S4x256x1) ![2, 0, 0] S1x256x1.size inb_S4x256x1_S1x256x1_2_0_0).toLoadRect (harg6.unread x4))
    (View.readAt (Elt F) arg2.view (Rect.unit (s := S256x512) ![0, 384] S256x128.size inb_S256x512_S256x128_0_384).toLoadRect (harg2.unread x0))
    (View.readAt (Elt F) arg5.view (Rect.unit (s := S256x512) ![0, 384] S256x128.size inb_S256x512_S256x128_0_384).toLoadRect (harg5.unread x3))
    (View.readAt (Elt F) arg6.view (Rect.unit (s := S4x256x1) ![3, 0, 0] S1x256x1.size inb_S4x256x1_S1x256x1_3_0_0).toLoadRect (harg6.unread x4))
    (harg3.unread x1) (harg4.unread x2)
    (arg12.view.writes (Elt F) arg12.view.junk kernelRun0_B.sl.HS2_2)
    (arg13.view.writes (Elt F) arg13.view.junk kernelRun0_B.sl.HS3_2)
    (harg10.unread xs0) (harg11.unread xs1)
    (k0_pay108, k0_pay109, k0_pay110, k0_pay111, k0_pay112, k0_pay113, k0_pay114, k0_pay115, k0_pay116,
      k0_pay117, k0_pay118, k0_pay119)
    (Scf.trips (k0_t1_loop i).lb (k0_t1_loop i).ub (k0_t1_loop i).st)

/-- What the loop's remainder leaves. -/
def l2B (xs0 xs1 : Vec F S2048x512 .f32) :
    Carried F × List (View.Piece (Elt F) S2048x512 .f32) × List (View.Piece (Elt F) S2048x512 .f32) :=
  st_k0_t2 (F := F) Variants.none c none i
    arg2 harg2 arg3 harg3 arg4 harg4 arg5 harg5 arg6 harg6 arg7 harg7 arg8 harg8 arg9 harg9 arg10 harg10 arg11
    harg11 arg12 harg12 arg13 harg13
    (BitVec.ofNat 32 ↑(i 1)) kernelRun0_B.sl.v3 kernelRun0_B.sl.v4
    (kernelRun0_B.sl.r c arg2 harg2 x0)
    (kernelRun0_B.sl.r_1 c arg5 harg5 x3)
    (kernelRun0_B.sl.r_2 c arg6 harg6 x4)
    (kernelRun0_B.sl.r_3 c arg2 harg2 x0)
    (kernelRun0_B.sl.r_4 c arg5 harg5 x3)
    (kernelRun0_B.sl.r_5 c arg6 harg6 x4)
    (kernelRun0_B.sl.r_6 c arg2 harg2 x0)
    (kernelRun0_B.sl.r_7 c arg5 harg5 x3)
    (kernelRun0_B.sl.r_8 c arg6 harg6 x4)
    (kernelRun0_B.sl.r_9 c arg2 harg2 x0)
    (kernelRun0_B.sl.r_10 c arg5 harg5 x3)
    (kernelRun0_B.sl.r_11 c arg6 harg6 x4)
    (kernelRun0_B.sl.v57 i)
    (kernelRun0_B.sl.r_12 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_13 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_14 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_15 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_16 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_17 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_18 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_19 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_20 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_21 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_22 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_B.sl.r_23 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (1#32)
    (harg3.unread x1) (harg4.unread x2)
    (arg12.view.writes (Elt F) arg12.view.junk kernelRun0_B.sl.HS2_2)
    (arg13.view.writes (Elt F) arg13.view.junk kernelRun0_B.sl.HS3_2)
    (arg10.view.writes (Elt F) (harg10.unread xs0) (l1B c i arg2 harg2 arg3 harg3 arg4 harg4 arg5 harg5 arg6 harg6 arg7 harg7 arg8 harg8 arg9 harg9 arg10 harg10 arg11 harg11 arg12 harg12 arg13 harg13 x0 x1 x2 x3 x4 xs0 xs1).2.1)
    (arg11.view.writes (Elt F) (harg11.unread xs1) (l1B c i arg2 harg2 arg3 harg3 arg4 harg4 arg5 harg5 arg6 harg6 arg7 harg7 arg8 harg8 arg9 harg9 arg10 harg10 arg11 harg11 arg12 harg12 arg13 harg13 x0 x1 x2 x3 x4 xs0 xs1).2.2)
    ((kernelRun0_B.sl.r_12 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_13 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_14 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_15 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_16 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_17 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_18 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_19 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_20 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_21 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_22 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_B.sl.r_23 c i arg2 harg2 arg3 harg3 arg4 harg4 arg5 harg5 arg6 harg6 arg7 harg7 arg8 harg8 arg9 harg9 arg10 harg10 arg11 harg11 arg12 harg12 arg13 harg13 x0 x1 x2 x3 x4 xs0 xs1))
    (Scf.trips (k0_t2_loop i).lb (k0_t2_loop i).ub (k0_t2_loop i).st)

/-- The carried value before the diagonal block. -/
def carB (xs0 xs1 : Vec F S2048x512 .f32) : Carried F :=
  ((kernelRun0_B.sl.r_24 c i arg2 harg2 arg3 harg3 arg4 harg4 arg5 harg5 arg6 harg6 arg7 harg7 arg8 harg8 arg9 harg9 arg10 harg10 arg11 harg11 arg12 harg12 arg13 harg13 x0 x1 x2 x3 x4 xs0 xs1), (l2B c i arg2 harg2 arg3 harg3 arg4 harg4 arg5 harg5 arg6 harg6 arg7 harg7 arg8 harg8 arg9 harg9 arg10 harg10 arg11 harg11 arg12 harg12 arg13 harg13 x0 x1 x2 x3 x4 xs0 xs1).1.2.1,
   (kernelRun0_B.sl.r_25 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_B.sl.r_26 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_B.sl.r_27 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_B.sl.r_28 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_B.sl.r_29 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_B.sl.r_30 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_B.sl.r_31 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_B.sl.r_32 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_B.sl.r_33 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_B.sl.r_34 c i arg2 harg2 arg3 harg3 arg4 harg4 arg5 harg5 arg6 harg6 arg7 harg7 arg8 harg8 arg9 harg9 arg10 harg10 arg11 harg11 arg12 harg12 arg13 harg13 x0 x1 x2 x3 x4 xs0 xs1))

section

attribute [local irreducible] st_k0_t1 st_k0_t2 Scf.trips

theorem l1B_eq (xs0 xs1 : Vec F S2048x512 .f32) : (l1B c i arg2 harg2 arg3 harg3 arg4 harg4 arg5 harg5 arg6 harg6 arg7 harg7 arg8 harg8 arg9 harg9 arg10 harg10 arg11 harg11 arg12 harg12 arg13 harg13 x0 x1 x2 x3 x4 xs0 xs1) = loop1 c i arg2 harg2 arg3 harg3 arg4 harg4 arg5 harg5 arg6 harg6 arg7 harg7 arg8 harg8 arg9 harg9 arg10 harg10 arg11 harg11 arg12 harg12 arg13 harg13 x0 x1 x2 x3 x4 (harg10.unread xs0) (harg11.unread xs1) := by
  rfl

theorem l2B_eq (xs0 xs1 : Vec F S2048x512 .f32) : (l2B c i arg2 harg2 arg3 harg3 arg4 harg4 arg5 harg5 arg6 harg6 arg7 harg7 arg8 harg8 arg9 harg9 arg10 harg10 arg11 harg11 arg12 harg12 arg13 harg13 x0 x1 x2 x3 x4 xs0 xs1) = loop2 c i arg2 harg2 arg3 harg3 arg4 harg4 arg5 harg5 arg6 harg6 arg7 harg7 arg8 harg8 arg9 harg9 arg10 harg10 arg11 harg11 arg12 harg12 arg13 harg13 x0 x1 x2 x3 x4 (l1B c i arg2 harg2 arg3 harg3 arg4 harg4 arg5 harg5 arg6 harg6 arg7 harg7 arg8 harg8 arg9 harg9 arg10 harg10 arg11 harg11 arg12 harg12 arg13 harg13 x0 x1 x2 x3 x4 xs0 xs1) (arg10.view.writes (Elt F) (harg10.unread xs0) (l1B c i arg2 harg2 arg3 harg3 arg4 harg4 arg5 harg5 arg6 harg6 arg7 harg7 arg8 harg8 arg9 harg9 arg10 harg10 arg11 harg11 arg12 harg12 arg13 harg13 x0 x1 x2 x3 x4 xs0 xs1).2.1) (arg11.view.writes (Elt F) (harg11.unread xs1) (l1B c i arg2 harg2 arg3 harg3 arg4 harg4 arg5 harg5 arg6 harg6 arg7 harg7 arg8 harg8 arg9 harg9 arg10 harg10 arg11 harg11 arg12 harg12 arg13 harg13 x0 x1 x2 x3 x4 xs0 xs1).2.2) := by
  rfl

theorem carB_eq (xs0 xs1 : Vec F S2048x512 .f32) : (carB c i arg2 harg2 arg3 harg3 arg4 harg4 arg5 harg5 arg6 harg6 arg7 harg7 arg8 harg8 arg9 harg9 arg10 harg10 arg11 harg11 arg12 harg12 arg13 harg13 x0 x1 x2 x3 x4 xs0 xs1) = (l2B c i arg2 harg2 arg3 harg3 arg4 harg4 arg5 harg5 arg6 harg6 arg7 harg7 arg8 harg8 arg9 harg9 arg10 harg10 arg11 harg11 arg12 harg12 arg13 harg13 x0 x1 x2 x3 x4 xs0 xs1).1 := by
  rfl

end

section

attribute [local irreducible] st_k0_t1 st_k0_t2 Scf.trips
attribute [local irreducible] kernelRun0_B.sl.r_12 kernelRun0_B.sl.r_13 kernelRun0_B.sl.r_14 kernelRun0_B.sl.r_15 kernelRun0_B.sl.r_16 kernelRun0_B.sl.r_17 kernelRun0_B.sl.r_18 kernelRun0_B.sl.r_19 kernelRun0_B.sl.r_20 kernelRun0_B.sl.r_21 kernelRun0_B.sl.r_22 kernelRun0_B.sl.r_23 kernelRun0_B.sl.r_24 kernelRun0_B.sl.r_25 kernelRun0_B.sl.r_26 kernelRun0_B.sl.r_27 kernelRun0_B.sl.r_28 kernelRun0_B.sl.r_29 kernelRun0_B.sl.r_30 kernelRun0_B.sl.r_31 kernelRun0_B.sl.r_32 kernelRun0_B.sl.r_33 kernelRun0_B.sl.r_34

set_option maxHeartbeats 2000000 in
theorem runB_dq (hc0 : ¬cond0_0 i) (hc1 : ¬cond0_1 i) (xs0 xs1 : Vec F S2048x512 .f32) :
    let h0 := row0 arg2 harg2 arg5 harg5 arg6 harg6 x0 x3 x4
    let b0 := key0 i arg3 harg3 arg4 harg4 arg12 arg13 x1 x2
    let h1 := row1 arg2 harg2 arg5 harg5 arg6 harg6 x0 x3 x4
    let b1 := key1 i arg3 harg3 arg4 harg4 arg12 arg13 x1 x2
    let h2 := row2 arg2 harg2 arg5 harg5 arg6 harg6 x0 x3 x4
    let b2 := key2 i arg3 harg3 arg4 harg4 arg12 arg13 x1 x2
    let h3 := row3 arg2 harg2 arg5 harg5 arg6 harg6 x0 x3 x4
    let b3 := key3 i arg3 harg3 arg4 harg4 arg12 arg13 x1 x2
    (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1
      = dqDiag h0 h1 h2 h3 b0 b1 b2 b3 (carB c i arg2 harg2 arg3 harg3 arg4 harg4 arg5 harg5 arg6 harg6 arg7 harg7 arg8 harg8 arg9 harg9 arg10 harg10 arg11 harg11 arg12 harg12 arg13 harg13 x0 x1 x2 x3 x4 xs0 xs1) := by
  unfold kernelRun0_B
  rfl

set_option maxHeartbeats 2000000 in
theorem runB_dk (hc0 : ¬cond0_0 i) (hc1 : ¬cond0_1 i) (xs0 xs1 : Vec F S2048x512 .f32) :
    let h0 := row0 arg2 harg2 arg5 harg5 arg6 harg6 x0 x3 x4
    let b0 := key0 i arg3 harg3 arg4 harg4 arg12 arg13 x1 x2
    let h1 := row1 arg2 harg2 arg5 harg5 arg6 harg6 x0 x3 x4
    let b1 := key1 i arg3 harg3 arg4 harg4 arg12 arg13 x1 x2
    let h2 := row2 arg2 harg2 arg5 harg5 arg6 harg6 x0 x3 x4
    let b2 := key2 i arg3 harg3 arg4 harg4 arg12 arg13 x1 x2
    let h3 := row3 arg2 harg2 arg5 harg5 arg6 harg6 x0 x3 x4
    let b3 := key3 i arg3 harg3 arg4 harg4 arg12 arg13 x1 x2
    (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.1
      = dkDiag i arg10.view (harg10.unread xs0) h0 h1 h2 h3 b0 b1 b2 b3 (carB c i arg2 harg2 arg3 harg3 arg4 harg4 arg5 harg5 arg6 harg6 arg7 harg7 arg8 harg8 arg9 harg9 arg10 harg10 arg11 harg11 arg12 harg12 arg13 harg13 x0 x1 x2 x3 x4 xs0 xs1) ((l2B c i arg2 harg2 arg3 harg3 arg4 harg4 arg5 harg5 arg6 harg6 arg7 harg7 arg8 harg8 arg9 harg9 arg10 harg10 arg11 harg11 arg12 harg12 arg13 harg13 x0 x1 x2 x3 x4 xs0 xs1).2.1 ++ (l1B c i arg2 harg2 arg3 harg3 arg4 harg4 arg5 harg5 arg6 harg6 arg7 harg7 arg8 harg8 arg9 harg9 arg10 harg10 arg11 harg11 arg12 harg12 arg13 harg13 x0 x1 x2 x3 x4 xs0 xs1).2.1) := by
  unfold kernelRun0_B
  rfl

set_option maxHeartbeats 2000000 in
theorem runB_dv (hc0 : ¬cond0_0 i) (hc1 : ¬cond0_1 i) (xs0 xs1 : Vec F S2048x512 .f32) :
    let h0 := row0 arg2 harg2 arg5 harg5 arg6 harg6 x0 x3 x4
    let b0 := key0 i arg3 harg3 arg4 harg4 arg12 arg13 x1 x2
    let h1 := row1 arg2 harg2 arg5 harg5 arg6 harg6 x0 x3 x4
    let b1 := key1 i arg3 harg3 arg4 harg4 arg12 arg13 x1 x2
    let h2 := row2 arg2 harg2 arg5 harg5 arg6 harg6 x0 x3 x4
    let b2 := key2 i arg3 harg3 arg4 harg4 arg12 arg13 x1 x2
    let h3 := row3 arg2 harg2 arg5 harg5 arg6 harg6 x0 x3 x4
    let b3 := key3 i arg3 harg3 arg4 harg4 arg12 arg13 x1 x2
    (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1
      = dvDiag i arg11.view (harg11.unread xs1) h0 h1 h2 h3 b0 b1 b2 b3 (carB c i arg2 harg2 arg3 harg3 arg4 harg4 arg5 harg5 arg6 harg6 arg7 harg7 arg8 harg8 arg9 harg9 arg10 harg10 arg11 harg11 arg12 harg12 arg13 harg13 x0 x1 x2 x3 x4 xs0 xs1) ((l2B c i arg2 harg2 arg3 harg3 arg4 harg4 arg5 harg5 arg6 harg6 arg7 harg7 arg8 harg8 arg9 harg9 arg10 harg10 arg11 harg11 arg12 harg12 arg13 harg13 x0 x1 x2 x3 x4 xs0 xs1).2.2 ++ (l1B c i arg2 harg2 arg3 harg3 arg4 harg4 arg5 harg5 arg6 harg6 arg7 harg7 arg8 harg8 arg9 harg9 arg10 harg10 arg11 harg11 arg12 harg12 arg13 harg13 x0 x1 x2 x3 x4 xs0 xs1).2.2) := by
  unfold kernelRun0_B
  rfl

end

end Cert.KernelIdeal.Step

end
-- ==== Proof.RunC.lean ====
module

public import proofs.«01_k».proof.Proof.Run

/-! The case of the last query block, opened. -/

@[expose] public section

set_option maxRecDepth 16384

noncomputable section

namespace Cert.KernelIdeal.Step

open Idealize.ShloMosaic Idealize.ShloMosaic.TcCoe Idealize.ShloMosaic.Tactic
open Cert.KernelIdeal.Gen

variable {F : FTy → Type} [FloatOps F] [Named F]

variable
  (c : Dev nD) (i : grid0.Coords) (arg2 : Memref sig .tc .vmem S256x512 .bf16) (harg2 : arg2.IsWhole)
  (arg3 : Memref sig .tc .vmem S2048x512 .bf16) (harg3 : arg3.IsWhole)
  (arg4 : Memref sig .tc .vmem S2048x512 .bf16) (harg4 : arg4.IsWhole) (arg5 : Memref sig .tc .vmem S256x512 .bf16)
  (harg5 : arg5.IsWhole) (arg6 : Memref sig .tc .vmem S4x256x1 .f32) (harg6 : arg6.IsWhole)
  (arg7 : Memref sig .tc .vmem S256x512 .bf16) (harg7 : arg7.IsWhole) (arg8 : Memref sig .tc .vmem S2048x512 .bf16)
  (harg8 : arg8.IsWhole) (arg9 : Memref sig .tc .vmem S2048x512 .bf16) (harg9 : arg9.IsWhole)
  (arg10 : Memref sig .tc .vmem S2048x512 .f32) (harg10 : arg10.IsWhole)
  (arg11 : Memref sig .tc .vmem S2048x512 .f32) (harg11 : arg11.IsWhole)
  (arg12 : Memref sig .tc .vmem S512x256 .bf16) (harg12 : arg12.IsWhole)
  (arg13 : Memref sig .tc .vmem S512x256 .bf16) (harg13 : arg13.IsWhole)
  (x0 : Vec F S256x512 .bf16) (x1 x2 : Vec F S2048x512 .bf16) (x3 : Vec F S256x512 .bf16) (x4 : Vec F S4x256x1 .f32)

/-- What the loop leaves. -/
def l1C (xs0 xs1 : Vec F S2048x512 .f32) :
    Carried F × List (View.Piece (Elt F) S2048x512 .f32) × List (View.Piece (Elt F) S2048x512 .f32) :=
  st_k0_t1 (F := F) Variants.none c none i
    arg2 harg2 arg3 harg3 arg4 harg4 arg5 harg5 arg6 harg6 arg7 harg7 arg8 harg8 arg9 harg9 arg10 harg10 arg11
    harg11 arg12 harg12 arg13 harg13
    (BitVec.ofNat 32 ↑(i 1))
    (kernelRun0_C.sl.r c arg2 harg2 x0)
    (kernelRun0_C.sl.r_1 c arg5 harg5 x3)
    (kernelRun0_C.sl.r_2 c arg6 harg6 x4)
    (kernelRun0_C.sl.r_3 c arg2 harg2 x0)
    (kernelRun0_C.sl.r_4 c arg5 harg5 x3)
    (View.readAt (Elt F) arg6.view (Rect.unit (s := S4x256x1) ![1, 0, 0] S1x256x1.size inb_S4x256x1_S1x256x1_1_0_0).toLoadRect (harg6.unread x4))
    (View.readAt (Elt F) arg2.view (Rect.unit (s := S256x512) ![0, 256] S256x128.size inb_S256x512_S256x128_0_256).toLoadRect (harg2.unread x0))
    (View.readAt (Elt F) arg5.view (Rect.unit (s := S256x512) ![0, 256] S256x128.size inb_S256x512_S256x128_0_256).toLoadRect (harg5.unread x3))
    (View.readAt (Elt F) arg6.view (Rect.unit (s := S4x256x1) ![2, 0, 0] S1x256x1.size inb_S4x256x1_S1x256x1_2_0_0).toLoadRect (harg6.unread x4))
    (View.readAt (Elt F) arg2.view (Rect.unit (s := S256x512) ![0, 384] S256x128.size inb_S256x512_S256x128_0_384).toLoadRect (harg2.unread x0))
    (View.readAt (Elt F) arg5.view (Rect.unit (s := S256x512) ![0, 384] S256x128.size inb_S256x512_S256x128_0_384).toLoadRect (harg5.unread x3))
    (View.readAt (Elt F) arg6.view (Rect.unit (s := S4x256x1) ![3, 0, 0] S1x256x1.size inb_S4x256x1_S1x256x1_3_0_0).toLoadRect (harg6.unread x4))
    (harg3.unread x1) (harg4.unread x2)
    (arg12.view.writes (Elt F) arg12.view.junk kernelRun0_C.sl.HS2_2)
    (arg13.view.writes (Elt F) arg13.view.junk kernelRun0_C.sl.HS3_2)
    (harg10.unread xs0) (harg11.unread xs1)
    (k0_pay108, k0_pay109, k0_pay110, k0_pay111, k0_pay112, k0_pay113, k0_pay114, k0_pay115, k0_pay116,
      k0_pay117, k0_pay118, k0_pay119)
    (Scf.trips (k0_t1_loop i).lb (k0_t1_loop i).ub (k0_t1_loop i).st)

/-- What the loop's remainder leaves. -/
def l2C (xs0 xs1 : Vec F S2048x512 .f32) :
    Carried F × List (View.Piece (Elt F) S2048x512 .f32) × List (View.Piece (Elt F) S2048x512 .f32) :=
  st_k0_t2 (F := F) Variants.none c none i
    arg2 harg2 arg3 harg3 arg4 harg4 arg5 harg5 arg6 harg6 arg7 harg7 arg8 harg8 arg9 harg9 arg10 harg10 arg11
    harg11 arg12 harg12 arg13 harg13
    (BitVec.ofNat 32 ↑(i 1)) kernelRun0_C.sl.v3 kernelRun0_C.sl.v4
    (kernelRun0_C.sl.r c arg2 harg2 x0)
    (kernelRun0_C.sl.r_1 c arg5 harg5 x3)
    (kernelRun0_C.sl.r_2 c arg6 harg6 x4)
    (kernelRun0_C.sl.r_3 c arg2 harg2 x0)
    (kernelRun0_C.sl.r_4 c arg5 harg5 x3)
    (kernelRun0_C.sl.r_5 c arg6 harg6 x4)
    (kernelRun0_C.sl.r_6 c arg2 harg2 x0)
    (kernelRun0_C.sl.r_7 c arg5 harg5 x3)
    (kernelRun0_C.sl.r_8 c arg6 harg6 x4)
    (kernelRun0_C.sl.r_9 c arg2 harg2 x0)
    (kernelRun0_C.sl.r_10 c arg5 harg5 x3)
    (kernelRun0_C.sl.r_11 c arg6 harg6 x4)
    (kernelRun0_C.sl.v57 i)
    (kernelRun0_C.sl.r_12 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_13 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_14 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_15 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_16 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_17 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_18 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_19 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_20 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_21 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_22 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (kernelRun0_C.sl.r_23 c i arg2 harg2 arg3 harg3 arg4 harg4 arg5 harg5 arg6 harg6 arg7 harg7 arg8 harg8 arg9 harg9 arg10 harg10 arg11 harg11 arg12 harg12 arg13 harg13 x0 x1 x2 x3 x4 xs0 xs1)
    (1#32)
    (harg3.unread x1) (harg4.unread x2)
    (arg12.view.writes (Elt F) arg12.view.junk kernelRun0_C.sl.HS2_2)
    (arg13.view.writes (Elt F) arg13.view.junk kernelRun0_C.sl.HS3_2)
    (arg10.view.writes (Elt F) (harg10.unread xs0) (l1C c i arg2 harg2 arg3 harg3 arg4 harg4 arg5 harg5 arg6 harg6 arg7 harg7 arg8 harg8 arg9 harg9 arg10 harg10 arg11 harg11 arg12 harg12 arg13 harg13 x0 x1 x2 x3 x4 xs0 xs1).2.1)
    (arg11.view.writes (Elt F) (harg11.unread xs1) (l1C c i arg2 harg2 arg3 harg3 arg4 harg4 arg5 harg5 arg6 harg6 arg7 harg7 arg8 harg8 arg9 harg9 arg10 harg10 arg11 harg11 arg12 harg12 arg13 harg13 x0 x1 x2 x3 x4 xs0 xs1).2.2)
    ((kernelRun0_C.sl.r_12 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_13 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_14 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_15 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_16 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_17 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_18 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_19 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_20 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_21 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_22 c i arg2 harg2 arg3 harg3 arg4 harg4 arg5 harg5 arg6 harg6 arg7 harg7 arg8 harg8 arg9 harg9 arg10 harg10 arg11 harg11 arg12 harg12 arg13 harg13 x0 x1 x2 x3 x4 xs0 xs1),
    (kernelRun0_C.sl.r_23 c i arg2 harg2 arg3 harg3 arg4 harg4 arg5 harg5 arg6 harg6 arg7 harg7 arg8 harg8 arg9 harg9 arg10 harg10 arg11 harg11 arg12 harg12 arg13 harg13 x0 x1 x2 x3 x4 xs0 xs1))
    (Scf.trips (k0_t2_loop i).lb (k0_t2_loop i).ub (k0_t2_loop i).st)

/-- The carried value before the diagonal block. -/
def carC (xs0 xs1 : Vec F S2048x512 .f32) : Carried F :=
  ((kernelRun0_C.sl.r_24 c i arg2 harg2 arg3 harg3 arg4 harg4 arg5 harg5 arg6 harg6 arg7 harg7 arg8 harg8 arg9 harg9 arg10 harg10 arg11 harg11 arg12 harg12 arg13 harg13 x0 x1 x2 x3 x4 xs0 xs1), (l2C c i arg2 harg2 arg3 harg3 arg4 harg4 arg5 harg5 arg6 harg6 arg7 harg7 arg8 harg8 arg9 harg9 arg10 harg10 arg11 harg11 arg12 harg12 arg13 harg13 x0 x1 x2 x3 x4 xs0 xs1).1.2.1,
   (kernelRun0_C.sl.r_25 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_C.sl.r_26 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_C.sl.r_27 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_C.sl.r_28 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_C.sl.r_29 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_C.sl.r_30 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_C.sl.r_31 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_C.sl.r_32 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_C.sl.r_33 c i arg2 harg2 arg3 harg3 arg4 harg4 arg5 harg5 arg6 harg6 arg7 harg7 arg8 harg8 arg9 harg9 arg10 harg10 arg11 harg11 arg12 harg12 arg13 harg13 x0 x1 x2 x3 x4 xs0 xs1),
   (kernelRun0_C.sl.r_34 c i arg2 harg2 arg3 harg3 arg4 harg4 arg5 harg5 arg6 harg6 arg7 harg7 arg8 harg8 arg9 harg9 arg10 harg10 arg11 harg11 arg12 harg12 arg13 harg13 x0 x1 x2 x3 x4 xs0 xs1))

section

attribute [local irreducible] st_k0_t1 st_k0_t2 Scf.trips

theorem l1C_eq (xs0 xs1 : Vec F S2048x512 .f32) : (l1C c i arg2 harg2 arg3 harg3 arg4 harg4 arg5 harg5 arg6 harg6 arg7 harg7 arg8 harg8 arg9 harg9 arg10 harg10 arg11 harg11 arg12 harg12 arg13 harg13 x0 x1 x2 x3 x4 xs0 xs1) = loop1 c i arg2 harg2 arg3 harg3 arg4 harg4 arg5 harg5 arg6 harg6 arg7 harg7 arg8 harg8 arg9 harg9 arg10 harg10 arg11 harg11 arg12 harg12 arg13 harg13 x0 x1 x2 x3 x4 (harg10.unread xs0) (harg11.unread xs1) := by
  rfl

theorem l2C_eq (xs0 xs1 : Vec F S2048x512 .f32) : (l2C c i arg2 harg2 arg3 harg3 arg4 harg4 arg5 harg5 arg6 harg6 arg7 harg7 arg8 harg8 arg9 harg9 arg10 harg10 arg11 harg11 arg12 harg12 arg13 harg13 x0 x1 x2 x3 x4 xs0 xs1) = loop2 c i arg2 harg2 arg3 harg3 arg4 harg4 arg5 harg5 arg6 harg6 arg7 harg7 arg8 harg8 arg9 harg9 arg10 harg10 arg11 harg11 arg12 harg12 arg13 harg13 x0 x1 x2 x3 x4 (l1C c i arg2 harg2 arg3 harg3 arg4 harg4 arg5 harg5 arg6 harg6 arg7 harg7 arg8 harg8 arg9 harg9 arg10 harg10 arg11 harg11 arg12 harg12 arg13 harg13 x0 x1 x2 x3 x4 xs0 xs1) (arg10.view.writes (Elt F) (harg10.unread xs0) (l1C c i arg2 harg2 arg3 harg3 arg4 harg4 arg5 harg5 arg6 harg6 arg7 harg7 arg8 harg8 arg9 harg9 arg10 harg10 arg11 harg11 arg12 harg12 arg13 harg13 x0 x1 x2 x3 x4 xs0 xs1).2.1) (arg11.view.writes (Elt F) (harg11.unread xs1) (l1C c i arg2 harg2 arg3 harg3 arg4 harg4 arg5 harg5 arg6 harg6 arg7 harg7 arg8 harg8 arg9 harg9 arg10 harg10 arg11 harg11 arg12 harg12 arg13 harg13 x0 x1 x2 x3 x4 xs0 xs1).2.2) := by
  rfl

theorem carC_eq (xs0 xs1 : Vec F S2048x512 .f32) : (carC c i arg2 harg2 arg3 harg3 arg4 harg4 arg5 harg5 arg6 harg6 arg7 harg7 arg8 harg8 arg9 harg9 arg10 harg10 arg11 harg11 arg12 harg12 arg13 harg13 x0 x1 x2 x3 x4 xs0 xs1) = (l2C c i arg2 harg2 arg3 harg3 arg4 harg4 arg5 harg5 arg6 harg6 arg7 harg7 arg8 harg8 arg9 harg9 arg10 harg10 arg11 harg11 arg12 harg12 arg13 harg13 x0 x1 x2 x3 x4 xs0 xs1).1 := by
  rfl

end

section

attribute [local irreducible] st_k0_t1 st_k0_t2 Scf.trips
attribute [local irreducible] kernelRun0_C.sl.r_12 kernelRun0_C.sl.r_13 kernelRun0_C.sl.r_14 kernelRun0_C.sl.r_15 kernelRun0_C.sl.r_16 kernelRun0_C.sl.r_17 kernelRun0_C.sl.r_18 kernelRun0_C.sl.r_19 kernelRun0_C.sl.r_20 kernelRun0_C.sl.r_21 kernelRun0_C.sl.r_22 kernelRun0_C.sl.r_23 kernelRun0_C.sl.r_24 kernelRun0_C.sl.r_25 kernelRun0_C.sl.r_26 kernelRun0_C.sl.r_27 kernelRun0_C.sl.r_28 kernelRun0_C.sl.r_29 kernelRun0_C.sl.r_30 kernelRun0_C.sl.r_31 kernelRun0_C.sl.r_32 kernelRun0_C.sl.r_33 kernelRun0_C.sl.r_34

set_option maxHeartbeats 2000000 in
theorem runC_dq (hc0 : ¬cond0_0 i) (hc1 : cond0_1 i) (xs0 xs1 : Vec F S2048x512 .f32) :
    let h0 := row0 arg2 harg2 arg5 harg5 arg6 harg6 x0 x3 x4
    let b0 := key0 i arg3 harg3 arg4 harg4 arg12 arg13 x1 x2
    let h1 := row1 arg2 harg2 arg5 harg5 arg6 harg6 x0 x3 x4
    let b1 := key1 i arg3 harg3 arg4 harg4 arg12 arg13 x1 x2
    let h2 := row2 arg2 harg2 arg5 harg5 arg6 harg6 x0 x3 x4
    let b2 := key2 i arg3 harg3 arg4 harg4 arg12 arg13 x1 x2
    let h3 := row3 arg2 harg2 arg5 harg5 arg6 harg6 x0 x3 x4
    let b3 := key3 i arg3 harg3 arg4 harg4 arg12 arg13 x1 x2
    (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).1
      = dqDiag h0 h1 h2 h3 b0 b1 b2 b3 (carC c i arg2 harg2 arg3 harg3 arg4 harg4 arg5 harg5 arg6 harg6 arg7 harg7 arg8 harg8 arg9 harg9 arg10 harg10 arg11 harg11 arg12 harg12 arg13 harg13 x0 x1 x2 x3 x4 xs0 xs1) := by
  unfold kernelRun0_C
  rfl

set_option maxHeartbeats 2000000 in
theorem runC_dk (hc0 : ¬cond0_0 i) (hc1 : cond0_1 i) (xs0 xs1 : Vec F S2048x512 .f32) :
    let h0 := row0 arg2 harg2 arg5 harg5 arg6 harg6 x0 x3 x4
    let b0 := key0 i arg3 harg3 arg4 harg4 arg12 arg13 x1 x2
    let h1 := row1 arg2 harg2 arg5 harg5 arg6 harg6 x0 x3 x4
    let b1 := key1 i arg3 harg3 arg4 harg4 arg12 arg13 x1 x2
    let h2 := row2 arg2 harg2 arg5 harg5 arg6 harg6 x0 x3 x4
    let b2 := key2 i arg3 harg3 arg4 harg4 arg12 arg13 x1 x2
    let h3 := row3 arg2 harg2 arg5 harg5 arg6 harg6 x0 x3 x4
    let b3 := key3 i arg3 harg3 arg4 harg4 arg12 arg13 x1 x2
    (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.1
      = dkDiag i arg10.view (harg10.unread xs0) h0 h1 h2 h3 b0 b1 b2 b3 (carC c i arg2 harg2 arg3 harg3 arg4 harg4 arg5 harg5 arg6 harg6 arg7 harg7 arg8 harg8 arg9 harg9 arg10 harg10 arg11 harg11 arg12 harg12 arg13 harg13 x0 x1 x2 x3 x4 xs0 xs1) ((l2C c i arg2 harg2 arg3 harg3 arg4 harg4 arg5 harg5 arg6 harg6 arg7 harg7 arg8 harg8 arg9 harg9 arg10 harg10 arg11 harg11 arg12 harg12 arg13 harg13 x0 x1 x2 x3 x4 xs0 xs1).2.1 ++ (l1C c i arg2 harg2 arg3 harg3 arg4 harg4 arg5 harg5 arg6 harg6 arg7 harg7 arg8 harg8 arg9 harg9 arg10 harg10 arg11 harg11 arg12 harg12 arg13 harg13 x0 x1 x2 x3 x4 xs0 xs1).2.1) := by
  unfold kernelRun0_C
  rfl

set_option maxHeartbeats 2000000 in
theorem runC_dv (hc0 : ¬cond0_0 i) (hc1 : cond0_1 i) (xs0 xs1 : Vec F S2048x512 .f32) :
    let h0 := row0 arg2 harg2 arg5 harg5 arg6 harg6 x0 x3 x4
    let b0 := key0 i arg3 harg3 arg4 harg4 arg12 arg13 x1 x2
    let h1 := row1 arg2 harg2 arg5 harg5 arg6 harg6 x0 x3 x4
    let b1 := key1 i arg3 harg3 arg4 harg4 arg12 arg13 x1 x2
    let h2 := row2 arg2 harg2 arg5 harg5 arg6 harg6 x0 x3 x4
    let b2 := key2 i arg3 harg3 arg4 harg4 arg12 arg13 x1 x2
    let h3 := row3 arg2 harg2 arg5 harg5 arg6 harg6 x0 x3 x4
    let b3 := key3 i arg3 harg3 arg4 harg4 arg12 arg13 x1 x2
    (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1
      = dvDiag i arg11.view (harg11.unread xs1) h0 h1 h2 h3 b0 b1 b2 b3 (carC c i arg2 harg2 arg3 harg3 arg4 harg4 arg5 harg5 arg6 harg6 arg7 harg7 arg8 harg8 arg9 harg9 arg10 harg10 arg11 harg11 arg12 harg12 arg13 harg13 x0 x1 x2 x3 x4 xs0 xs1) ((l2C c i arg2 harg2 arg3 harg3 arg4 harg4 arg5 harg5 arg6 harg6 arg7 harg7 arg8 harg8 arg9 harg9 arg10 harg10 arg11 harg11 arg12 harg12 arg13 harg13 x0 x1 x2 x3 x4 xs0 xs1).2.2 ++ (l1C c i arg2 harg2 arg3 harg3 arg4 harg4 arg5 harg5 arg6 harg6 arg7 harg7 arg8 harg8 arg9 harg9 arg10 harg10 arg11 harg11 arg12 harg12 arg13 harg13 x0 x1 x2 x3 x4 xs0 xs1).2.2) := by
  unfold kernelRun0_C
  rfl

theorem runC_dkOut (hc0 : ¬cond0_0 i) (hc1 : cond0_1 i) (xs0 xs1 : Vec F S2048x512 .f32) :
    (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.1
      = [⟨Rect.unit (s := S2048x512) ![0, 0] S2048x512.size inb_S2048x512_S2048x512_0_0,
          k0_pay2 (View.readAt (Elt F) arg10.view (Rect.unit (s := S2048x512) ![0, 0] S2048x512.size inb_S2048x512_S2048x512_0_0).toLoadRect
            (arg10.view.writes (Elt F) (harg10.unread xs0)
              (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.1))⟩] := by
  unfold kernelRun0_C
  rfl

theorem runC_dvOut (hc0 : ¬cond0_0 i) (hc1 : cond0_1 i) (xs0 xs1 : Vec F S2048x512 .f32) :
    (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.1
      = [⟨Rect.unit (s := S2048x512) ![0, 0] S2048x512.size inb_S2048x512_S2048x512_0_0,
          k0_pay3 (View.readAt (Elt F) arg11.view (Rect.unit (s := S2048x512) ![0, 0] S2048x512.size inb_S2048x512_S2048x512_0_0).toLoadRect
            (arg11.view.writes (Elt F) (harg11.unread xs1)
              (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1).2.2.2.2.1))⟩] := by
  unfold kernelRun0_C
  rfl

end

end Cert.KernelIdeal.Step

end
-- ==== Proof.Cases.lean ====
module

public import proofs.«01_k».proof.Proof.Point
public import proofs.«01_k».proof.Proof.RunA
public import proofs.«01_k».proof.Proof.RunB
public import proofs.«01_k».proof.Proof.RunC

/-! The three cases of a grid point over the reals: the first of a group of heads, those in the middle, the last. -/

@[expose] public section

set_option maxRecDepth 16384

noncomputable section

namespace Cert.KernelIdeal.Step

open Idealize.ShloMosaic Idealize.ShloMosaic.TcCoe Cert.KernelIdeal.Gen Cert.SB

/-- What a grid point leaves: the gradient of its queries and the accumulators up to the next point. -/
structure AfterOk (Q K V O : ℕ → ℕ → ℝ) (i : ℕ) (x : Vec Ideal S256x512 .bf16) (y z : Vec Ideal S2048x512 .f32) : Prop where
  dq : ∀ (r : Fin 256) (n : Fin 512), x (ix2 r n) = ((gradQ Q K V O (256 * i + r) n : ℝ) : EReal)
  dk : Reads y (accum (gradK Q K V O) (i + 1) 0)
  dv : Reads z (accum (gradV Q K O) (i + 1) 0)

section
variable
  (c : Dev nD) (i : grid0.Coords) (arg2 : Memref sig .tc .vmem S256x512 .bf16) (harg2 : arg2.IsWhole)
  (arg3 : Memref sig .tc .vmem S2048x512 .bf16) (harg3 : arg3.IsWhole)
  (arg4 : Memref sig .tc .vmem S2048x512 .bf16) (harg4 : arg4.IsWhole) (arg5 : Memref sig .tc .vmem S256x512 .bf16)
  (harg5 : arg5.IsWhole) (arg6 : Memref sig .tc .vmem S4x256x1 .f32) (harg6 : arg6.IsWhole)
  (arg7 : Memref sig .tc .vmem S256x512 .bf16) (harg7 : arg7.IsWhole) (arg8 : Memref sig .tc .vmem S2048x512 .bf16)
  (harg8 : arg8.IsWhole) (arg9 : Memref sig .tc .vmem S2048x512 .bf16) (harg9 : arg9.IsWhole)
  (arg10 : Memref sig .tc .vmem S2048x512 .f32) (harg10 : arg10.IsWhole)
  (arg11 : Memref sig .tc .vmem S2048x512 .f32) (harg11 : arg11.IsWhole)
  (arg12 : Memref sig .tc .vmem S512x256 .bf16) (harg12 : arg12.IsWhole)
  (arg13 : Memref sig .tc .vmem S512x256 .bf16) (harg13 : arg13.IsWhole)
  (x0 : Vec Ideal S256x512 .bf16) (x1 x2 : Vec Ideal S2048x512 .bf16) (x3 : Vec Ideal S256x512 .bf16) (x4 : Vec Ideal S4x256x1 .f32)
  {Q K V O : ℕ → ℕ → ℝ}

set_option maxHeartbeats 2000000 in
theorem caseA_ok (hc0 : cond0_0 i) (hc1 : ¬cond0_1 i) (h : InOk Q K V O (i 1).val x0 x1 x2 x3 x4) (h0 : (i 1).val = 0) :
    AfterOk Q K V O (i 1).val (out0_A_5 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4)
      (sout0_A_0 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4)
      (sout0_A_1 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4) := by
  have hl := loop1_ok c i arg2 harg2 arg3 harg3 arg4 harg4 arg5 harg5 arg6 harg6 arg7 harg7 arg8 harg8 arg9 harg9 arg10 harg10 arg11 harg11
      arg12 harg12 arg13 harg13 x0 x1 x2 x3 x4 h (arg10.view.writes (Elt Ideal) arg10.view.junk zeros) (arg11.view.writes (Elt Ideal) arg11.view.junk zeros) (by rw [h0]; exact zeros_ok _ _ _) (by rw [h0]; exact zeros_ok _ _ _)
  rw [← l1A_eq] at hl
  have e2 := (l2A_eq (F := Ideal) c i arg2 harg2 arg3 harg3 arg4 harg4 arg5 harg5 arg6 harg6 arg7 harg7 arg8 harg8 arg9 harg9 arg10 harg10 arg11 harg11
      arg12 harg12 arg13 harg13 x0 x1 x2 x3 x4).trans (loop2_eq c i arg2 harg2 arg3 harg3 arg4 harg4 arg5 harg5 arg6 harg6 arg7 harg7 arg8 harg8 arg9 harg9 arg10 harg10 arg11 harg11
      arg12 harg12 arg13 harg13 x0 x1 x2 x3 x4 _ _ _)
  have ec := (carA_eq (F := Ideal) c i arg2 harg2 arg3 harg3 arg4 harg4 arg5 harg5 arg6 harg6 arg7 harg7 arg8 harg8 arg9 harg9 arg10 harg10 arg11 harg11
      arg12 harg12 arg13 harg13 x0 x1 x2 x3 x4).trans (congrArg Prod.fst e2)
  refine ⟨fun r n => ?_, ?_, ?_⟩
  · unfold out0_A_5
    rw [runA_dq]
    dsimp only
    rw [ec]
    exact dqDiag_ok
      (row0_ok arg2 harg2 arg5 harg5 arg6 harg6 x0 x3 x4 h)
      (row1_ok arg2 harg2 arg5 harg5 arg6 harg6 x0 x3 x4 h)
      (row2_ok arg2 harg2 arg5 harg5 arg6 harg6 x0 x3 x4 h)
      (row3_ok arg2 harg2 arg5 harg5 arg6 harg6 x0 x3 x4 h)
      (key0_ok i arg3 harg3 arg4 harg4 arg12 arg13 x0 x1 x2 x3 x4 h)
      (key1_ok i arg3 harg3 arg4 harg4 arg12 arg13 x0 x1 x2 x3 x4 h)
      (key2_ok i arg3 harg3 arg4 harg4 arg12 arg13 x0 x1 x2 x3 x4 h)
      (key3_ok i arg3 harg3 arg4 harg4 arg12 arg13 x0 x1 x2 x3 x4 h)
      hl (i 1).isLt VO0_5 _ r n
  · unfold sout0_A_0
    rw [runA_dk]
    dsimp only
    rw [ec, e2]
    rw [View.read_writes_junk_eq_canon, ← View.read_writes_junk_eq_canon arg10.view]
    exact dkDiag_ok i
      (row0_ok arg2 harg2 arg5 harg5 arg6 harg6 x0 x3 x4 h)
      (row1_ok arg2 harg2 arg5 harg5 arg6 harg6 x0 x3 x4 h)
      (row2_ok arg2 harg2 arg5 harg5 arg6 harg6 x0 x3 x4 h)
      (row3_ok arg2 harg2 arg5 harg5 arg6 harg6 x0 x3 x4 h)
      (key0_ok i arg3 harg3 arg4 harg4 arg12 arg13 x0 x1 x2 x3 x4 h)
      (key1_ok i arg3 harg3 arg4 harg4 arg12 arg13 x0 x1 x2 x3 x4 h)
      (key2_ok i arg3 harg3 arg4 harg4 arg12 arg13 x0 x1 x2 x3 x4 h)
      (key3_ok i arg3 harg3 arg4 harg4 arg12 arg13 x0 x1 x2 x3 x4 h)
      hl arg10.view arg10.view.junk _ (by
        have e := hl.dk
        rw [← View.writes_append] at e
        exact e)
  · unfold sout0_A_1
    rw [runA_dv]
    dsimp only
    rw [ec, e2]
    rw [View.read_writes_junk_eq_canon, ← View.read_writes_junk_eq_canon arg11.view]
    exact dvDiag_ok i
      (row0_ok arg2 harg2 arg5 harg5 arg6 harg6 x0 x3 x4 h)
      (row1_ok arg2 harg2 arg5 harg5 arg6 harg6 x0 x3 x4 h)
      (row2_ok arg2 harg2 arg5 harg5 arg6 harg6 x0 x3 x4 h)
      (row3_ok arg2 harg2 arg5 harg5 arg6 harg6 x0 x3 x4 h)
      (key0_ok i arg3 harg3 arg4 harg4 arg12 arg13 x0 x1 x2 x3 x4 h)
      (key1_ok i arg3 harg3 arg4 harg4 arg12 arg13 x0 x1 x2 x3 x4 h)
      (key2_ok i arg3 harg3 arg4 harg4 arg12 arg13 x0 x1 x2 x3 x4 h)
      (key3_ok i arg3 harg3 arg4 harg4 arg12 arg13 x0 x1 x2 x3 x4 h)
      hl arg11.view arg11.view.junk _ (by
        have e := hl.dv
        rw [← View.writes_append] at e
        exact e)

set_option maxHeartbeats 2000000 in
theorem caseB_ok (hc0 : ¬cond0_0 i) (hc1 : ¬cond0_1 i) (h : InOk Q K V O (i 1).val x0 x1 x2 x3 x4) (xs0 xs1 : Vec Ideal S2048x512 .f32)
    (hK : Reads xs0 (accum (gradK Q K V O) (i 1).val 0)) (hV : Reads xs1 (accum (gradV Q K O) (i 1).val 0)) :
    AfterOk Q K V O (i 1).val (out0_B_5 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4 xs0 xs1)
      (sout0_B_0 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4 xs0 xs1)
      (sout0_B_1 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4 xs0 xs1) := by
  have hl := loop1_ok c i arg2 harg2 arg3 harg3 arg4 harg4 arg5 harg5 arg6 harg6 arg7 harg7 arg8 harg8 arg9 harg9 arg10 harg10 arg11 harg11
      arg12 harg12 arg13 harg13 x0 x1 x2 x3 x4 h (harg10.unread xs0) (harg11.unread xs1) (by rw [harg10.read_unread]; exact hK) (by rw [harg11.read_unread]; exact hV)
  rw [← l1B_eq] at hl
  have e2 := (l2B_eq (F := Ideal) c i arg2 harg2 arg3 harg3 arg4 harg4 arg5 harg5 arg6 harg6 arg7 harg7 arg8 harg8 arg9 harg9 arg10 harg10 arg11 harg11
      arg12 harg12 arg13 harg13 x0 x1 x2 x3 x4 xs0 xs1).trans (loop2_eq c i arg2 harg2 arg3 harg3 arg4 harg4 arg5 harg5 arg6 harg6 arg7 harg7 arg8 harg8 arg9 harg9 arg10 harg10 arg11 harg11
      arg12 harg12 arg13 harg13 x0 x1 x2 x3 x4 _ _ _)
  have ec := (carB_eq (F := Ideal) c i arg2 harg2 arg3 harg3 arg4 harg4 arg5 harg5 arg6 harg6 arg7 harg7 arg8 harg8 arg9 harg9 arg10 harg10 arg11 harg11
      arg12 harg12 arg13 harg13 x0 x1 x2 x3 x4 xs0 xs1).trans (congrArg Prod.fst e2)
  refine ⟨fun r n => ?_, ?_, ?_⟩
  · unfold out0_B_5
    rw [runB_dq]
    dsimp only
    rw [ec]
    exact dqDiag_ok
      (row0_ok arg2 harg2 arg5 harg5 arg6 harg6 x0 x3 x4 h)
      (row1_ok arg2 harg2 arg5 harg5 arg6 harg6 x0 x3 x4 h)
      (row2_ok arg2 harg2 arg5 harg5 arg6 harg6 x0 x3 x4 h)
      (row3_ok arg2 harg2 arg5 harg5 arg6 harg6 x0 x3 x4 h)
      (key0_ok i arg3 harg3 arg4 harg4 arg12 arg13 x0 x1 x2 x3 x4 h)
      (key1_ok i arg3 harg3 arg4 harg4 arg12 arg13 x0 x1 x2 x3 x4 h)
      (key2_ok i arg3 harg3 arg4 harg4 arg12 arg13 x0 x1 x2 x3 x4 h)
      (key3_ok i arg3 harg3 arg4 harg4 arg12 arg13 x0 x1 x2 x3 x4 h)
      hl (i 1).isLt VO0_5 _ r n
  · unfold sout0_B_0
    rw [runB_dk]
    dsimp only
    rw [ec, e2]
    exact dkDiag_ok i
      (row0_ok arg2 harg2 arg5 harg5 arg6 harg6 x0 x3 x4 h)
      (row1_ok arg2 harg2 arg5 harg5 arg6 harg6 x0 x3 x4 h)
      (row2_ok arg2 harg2 arg5 harg5 arg6 harg6 x0 x3 x4 h)
      (row3_ok arg2 harg2 arg5 harg5 arg6 harg6 x0 x3 x4 h)
      (key0_ok i arg3 harg3 arg4 harg4 arg12 arg13 x0 x1 x2 x3 x4 h)
      (key1_ok i arg3 harg3 arg4 harg4 arg12 arg13 x0 x1 x2 x3 x4 h)
      (key2_ok i arg3 harg3 arg4 harg4 arg12 arg13 x0 x1 x2 x3 x4 h)
      (key3_ok i arg3 harg3 arg4 harg4 arg12 arg13 x0 x1 x2 x3 x4 h)
      hl arg10.view (harg10.unread xs0) _ (by
        exact hl.dk)
  · unfold sout0_B_1
    rw [runB_dv]
    dsimp only
    rw [ec, e2]
    exact dvDiag_ok i
      (row0_ok arg2 harg2 arg5 harg5 arg6 harg6 x0 x3 x4 h)
      (row1_ok arg2 harg2 arg5 harg5 arg6 harg6 x0 x3 x4 h)
      (row2_ok arg2 harg2 arg5 harg5 arg6 harg6 x0 x3 x4 h)
      (row3_ok arg2 harg2 arg5 harg5 arg6 harg6 x0 x3 x4 h)
      (key0_ok i arg3 harg3 arg4 harg4 arg12 arg13 x0 x1 x2 x3 x4 h)
      (key1_ok i arg3 harg3 arg4 harg4 arg12 arg13 x0 x1 x2 x3 x4 h)
      (key2_ok i arg3 harg3 arg4 harg4 arg12 arg13 x0 x1 x2 x3 x4 h)
      (key3_ok i arg3 harg3 arg4 harg4 arg12 arg13 x0 x1 x2 x3 x4 h)
      hl arg11.view (harg11.unread xs1) _ (by
        exact hl.dv)

set_option maxHeartbeats 2000000 in
theorem caseC_ok (hc0 : ¬cond0_0 i) (hc1 : cond0_1 i) (h : InOk Q K V O (i 1).val x0 x1 x2 x3 x4) (xs0 xs1 : Vec Ideal S2048x512 .f32)
    (hK : Reads xs0 (accum (gradK Q K V O) (i 1).val 0)) (hV : Reads xs1 (accum (gradV Q K O) (i 1).val 0)) :
    AfterOk Q K V O (i 1).val (out0_C_5 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4 xs0 xs1)
      (sout0_C_0 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4 xs0 xs1)
      (sout0_C_1 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4 xs0 xs1) := by
  have hl := loop1_ok c i arg2 harg2 arg3 harg3 arg4 harg4 arg5 harg5 arg6 harg6 arg7 harg7 arg8 harg8 arg9 harg9 arg10 harg10 arg11 harg11
      arg12 harg12 arg13 harg13 x0 x1 x2 x3 x4 h (harg10.unread xs0) (harg11.unread xs1) (by rw [harg10.read_unread]; exact hK) (by rw [harg11.read_unread]; exact hV)
  rw [← l1C_eq] at hl
  have e2 := (l2C_eq (F := Ideal) c i arg2 harg2 arg3 harg3 arg4 harg4 arg5 harg5 arg6 harg6 arg7 harg7 arg8 harg8 arg9 harg9 arg10 harg10 arg11 harg11
      arg12 harg12 arg13 harg13 x0 x1 x2 x3 x4 xs0 xs1).trans (loop2_eq c i arg2 harg2 arg3 harg3 arg4 harg4 arg5 harg5 arg6 harg6 arg7 harg7 arg8 harg8 arg9 harg9 arg10 harg10 arg11 harg11
      arg12 harg12 arg13 harg13 x0 x1 x2 x3 x4 _ _ _)
  have ec := (carC_eq (F := Ideal) c i arg2 harg2 arg3 harg3 arg4 harg4 arg5 harg5 arg6 harg6 arg7 harg7 arg8 harg8 arg9 harg9 arg10 harg10 arg11 harg11
      arg12 harg12 arg13 harg13 x0 x1 x2 x3 x4 xs0 xs1).trans (congrArg Prod.fst e2)
  refine ⟨fun r n => ?_, ?_, ?_⟩
  · unfold out0_C_5
    rw [runC_dq]
    dsimp only
    rw [ec]
    exact dqDiag_ok
      (row0_ok arg2 harg2 arg5 harg5 arg6 harg6 x0 x3 x4 h)
      (row1_ok arg2 harg2 arg5 harg5 arg6 harg6 x0 x3 x4 h)
      (row2_ok arg2 harg2 arg5 harg5 arg6 harg6 x0 x3 x4 h)
      (row3_ok arg2 harg2 arg5 harg5 arg6 harg6 x0 x3 x4 h)
      (key0_ok i arg3 harg3 arg4 harg4 arg12 arg13 x0 x1 x2 x3 x4 h)
      (key1_ok i arg3 harg3 arg4 harg4 arg12 arg13 x0 x1 x2 x3 x4 h)
      (key2_ok i arg3 harg3 arg4 harg4 arg12 arg13 x0 x1 x2 x3 x4 h)
      (key3_ok i arg3 harg3 arg4 harg4 arg12 arg13 x0 x1 x2 x3 x4 h)
      hl (i 1).isLt VO0_5 _ r n
  · unfold sout0_C_0
    rw [runC_dk]
    dsimp only
    rw [ec, e2]
    exact dkDiag_ok i
      (row0_ok arg2 harg2 arg5 harg5 arg6 harg6 x0 x3 x4 h)
      (row1_ok arg2 harg2 arg5 harg5 arg6 harg6 x0 x3 x4 h)
      (row2_ok arg2 harg2 arg5 harg5 arg6 harg6 x0 x3 x4 h)
      (row3_ok arg2 harg2 arg5 harg5 arg6 harg6 x0 x3 x4 h)
      (key0_ok i arg3 harg3 arg4 harg4 arg12 arg13 x0 x1 x2 x3 x4 h)
      (key1_ok i arg3 harg3 arg4 harg4 arg12 arg13 x0 x1 x2 x3 x4 h)
      (key2_ok i arg3 harg3 arg4 harg4 arg12 arg13 x0 x1 x2 x3 x4 h)
      (key3_ok i arg3 harg3 arg4 harg4 arg12 arg13 x0 x1 x2 x3 x4 h)
      hl arg10.view (harg10.unread xs0) _ (by
        exact hl.dk)
  · unfold sout0_C_1
    rw [runC_dv]
    dsimp only
    rw [ec, e2]
    exact dvDiag_ok i
      (row0_ok arg2 harg2 arg5 harg5 arg6 harg6 x0 x3 x4 h)
      (row1_ok arg2 harg2 arg5 harg5 arg6 harg6 x0 x3 x4 h)
      (row2_ok arg2 harg2 arg5 harg5 arg6 harg6 x0 x3 x4 h)
      (row3_ok arg2 harg2 arg5 harg5 arg6 harg6 x0 x3 x4 h)
      (key0_ok i arg3 harg3 arg4 harg4 arg12 arg13 x0 x1 x2 x3 x4 h)
      (key1_ok i arg3 harg3 arg4 harg4 arg12 arg13 x0 x1 x2 x3 x4 h)
      (key2_ok i arg3 harg3 arg4 harg4 arg12 arg13 x0 x1 x2 x3 x4 h)
      (key3_ok i arg3 harg3 arg4 harg4 arg12 arg13 x0 x1 x2 x3 x4 h)
      hl arg11.view (harg11.unread xs1) _ (by
        exact hl.dv)

theorem copydk (u : View sig .tc .vmem S2048x512 .bf16) (v : View sig .tc .vmem S2048x512 .f32) (g f) (y : S2048x512.Idx) :
    u.read (Elt Ideal) (u.writes (Elt Ideal) g
      [⟨Rect.unit (s := S2048x512) ![0, 0] S2048x512.size inb_S2048x512_S2048x512_0_0,
          k0_pay2 (F := Ideal) (View.readAt (Elt Ideal) v (Rect.unit (s := S2048x512) ![0, 0] S2048x512.size
            inb_S2048x512_S2048x512_0_0).toLoadRect f)⟩]) y = v.read (Elt Ideal) f y :=
  (congrFun (View.read_writes_full u g inb_S2048x512_S2048x512_0_0 _ _) y).trans
    (congrFun (View.readAt_full v f inb_S2048x512_S2048x512_0_0) y)

set_option maxHeartbeats 2000000 in
theorem outdk_ok (hc0 : ¬cond0_0 i) (hc1 : cond0_1 i) (xs0 xs1 : Vec Ideal S2048x512 .f32) (y : S2048x512.Idx) :
    out0_C_6 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4 xs0 xs1 y = sout0_C_0 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4 xs0 xs1 y := by
  unfold out0_C_6 sout0_C_0
  exact (congrArg (fun L => VO0_6.read (Elt Ideal) (VO0_6.writes (Elt Ideal) VO0_6.junk L) y)
    (runC_dkOut c i arg2 harg2 arg3 harg3 arg4 harg4 arg5 harg5 arg6 harg6 arg7 harg7 arg8 harg8 arg9 harg9 arg10 harg10 arg11 harg11
      arg12 harg12 arg13 harg13 x0 x1 x2 x3 x4 hc0 hc1 xs0 xs1)).trans (copydk VO0_6 arg10.view _ _ y)

theorem copydv (u : View sig .tc .vmem S2048x512 .bf16) (v : View sig .tc .vmem S2048x512 .f32) (g f) (y : S2048x512.Idx) :
    u.read (Elt Ideal) (u.writes (Elt Ideal) g
      [⟨Rect.unit (s := S2048x512) ![0, 0] S2048x512.size inb_S2048x512_S2048x512_0_0,
          k0_pay3 (F := Ideal) (View.readAt (Elt Ideal) v (Rect.unit (s := S2048x512) ![0, 0] S2048x512.size
            inb_S2048x512_S2048x512_0_0).toLoadRect f)⟩]) y = v.read (Elt Ideal) f y :=
  (congrFun (View.read_writes_full u g inb_S2048x512_S2048x512_0_0 _ _) y).trans
    (congrFun (View.readAt_full v f inb_S2048x512_S2048x512_0_0) y)

set_option maxHeartbeats 2000000 in
theorem outdv_ok (hc0 : ¬cond0_0 i) (hc1 : cond0_1 i) (xs0 xs1 : Vec Ideal S2048x512 .f32) (y : S2048x512.Idx) :
    out0_C_7 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4 xs0 xs1 y = sout0_C_1 (F := Ideal) c i arg2 harg2 arg3 harg3 arg4 harg4 arg5 harg5 arg6 harg6 arg7 harg7 arg8 harg8 arg9 harg9 arg10 harg10 arg11 harg11
      arg12 harg12 arg13 harg13 hc0 hc1 x0 x1 x2 x3 x4 xs0 xs1 y := by
  unfold out0_C_7 sout0_C_1
  exact (congrArg (fun L => VO0_7.read (Elt Ideal) (VO0_7.writes (Elt Ideal) VO0_7.junk L) y)
    (runC_dvOut c i arg2 harg2 arg3 harg3 arg4 harg4 arg5 harg5 arg6 harg6 arg7 harg7 arg8 harg8 arg9 harg9 arg10 harg10 arg11 harg11
      arg12 harg12 arg13 harg13 x0 x1 x2 x3 x4 hc0 hc1 xs0 xs1)).trans (copydv VO0_7 arg11.view _ _ y)

end

end Cert.KernelIdeal.Step

end
-- ==== Proof.Grid.lean ====
module

public import proofs.«01_k».proof.Proof.Cases
public import proofs.«01_k».proof.Proof.Gen.KernelIdeal.Value

/-! The sweep of the grid over the reals: from the blocks that each point is given to the three arrays that the
    kernel leaves. -/

@[expose] public section

set_option maxRecDepth 16384

noncomputable section

namespace Cert.KernelIdeal.Step

open Idealize.ShloMosaic Idealize.ShloMosaic.TcCoe Cert.KernelIdeal.Gen Cert.KernelIdeal.Value Cert.SB

/-- The columns of the group `hg` of four heads. -/
def grp (hg : ℕ) (X : ℕ → ℕ → ℝ) (t n : ℕ) : ℝ := X t (512 * hg + n)

theorem hd_grp (hg n : ℕ) (X : ℕ → ℕ → ℝ) : hd (n / 128) (grp hg X) = hd ((512 * hg + n) / 128) X := by
  funext t d
  unfold hd grp
  congr 1
  omega

theorem gradK_grp (Q K V O : ℕ → ℕ → ℝ) (hg t s n : ℕ) :
    gradK (grp hg Q) (grp hg K) (grp hg V) (grp hg O) t s n = gradK Q K V O t s (512 * hg + n) := by
  unfold gradK
  simp only [hd_grp]
  rfl

theorem gradV_grp (Q K O : ℕ → ℕ → ℝ) (hg t s n : ℕ) :
    gradV (grp hg Q) (grp hg K) (grp hg O) t s n = gradV Q K O t s (512 * hg + n) := by
  unfold gradV
  simp only [hd_grp]
  rfl

theorem gradQ_grp (Q K V O : ℕ → ℕ → ℝ) (hg t n : ℕ) :
    gradQ (grp hg Q) (grp hg K) (grp hg V) (grp hg O) t n = gradQ Q K V O t (512 * hg + n) := by
  unfold gradQ
  simp only [hd_grp]
  rfl

theorem accum_all (E : ℕ → ℕ → ℕ → ℝ) (s n : ℕ) : accum E 8 0 s n = ∑ t ∈ Finset.range 2048, E t s n := by
  simp [accum]

theorem coords_one : ∀ t : Fin cfg0.N, (grid0.coords t 1).val = t.val % 8 :=
  (by decide +kernel : ∀ t : Fin grid0.N, (grid0.coords t 1).val = t.val % 8)

/-- A point's outputs and scratch, together. -/
abbrev State : Type := Vec Ideal S256x512 .bf16 × Vec Ideal S2048x512 .bf16 × Vec Ideal S2048x512 .bf16
  × Vec Ideal S2048x512 .f32 × Vec Ideal S2048x512 .f32

theorem after_of_eq {Q K V O : ℕ → ℕ → ℝ} {i i' : ℕ} {o : State} {x5 : Vec Ideal S256x512 .bf16}
    {x6 x7 : Vec Ideal S2048x512 .bf16} {y0 y1 : Vec Ideal S2048x512 .f32} (e : o = (x5, x6, x7, y0, y1)) (hi : i' = i)
    (h : AfterOk Q K V O i' x5 y0 y1) : AfterOk Q K V O i o.1 o.2.2.2.1 o.2.2.2.2 := by
  subst e hi
  exact h

theorem copies_of_eq {o : State} {x5 : Vec Ideal S256x512 .bf16}
    {x6 x7 : Vec Ideal S2048x512 .bf16} {y0 y1 : Vec Ideal S2048x512 .f32} (e : o = (x5, x6, x7, y0, y1))
    (h : (∀ y, x6 y = y0 y) ∧ ∀ y, x7 y = y1 y) :
    (∀ y, o.2.1 y = o.2.2.2.1 y) ∧ ∀ y, o.2.2.1 y = o.2.2.2.2 y := by
  subst e
  exact h

theorem in_of_eq {Q K V O : ℕ → ℕ → ℝ} {i i' : ℕ} {x0 : Vec Ideal S256x512 .bf16} {x1 x2 : Vec Ideal S2048x512 .bf16}
    {x3 : Vec Ideal S256x512 .bf16} {x4 : Vec Ideal S4x256x1 .f32} (hi : i' = i) (h : InOk Q K V O i x0 x1 x2 x3 x4) :
    InOk Q K V O i' x0 x1 x2 x3 x4 := by
  subst hi
  exact h

theorem reads_of_eq {E : ℕ → ℕ → ℕ → ℝ} {x : Vec Ideal S2048x512 .f32} {i i' : ℕ} (hi : i = i') (h : Reads x (accum E i 0)) :
    Reads x (accum E i' 0) := by
  subst hi
  exact h

section
variable (m : (ℓ : Loc nD τ sig) → Buf (Elt Ideal) ℓ) (c : Dev nD) {Q K V O : ℕ → ℕ → ℝ}

/-- What is given to every point. -/
def Given (Q K V O : ℕ → ℕ → ℝ) : Prop := ∀ t : Fin cfg0.N,
  InOk (grp (t.val / 8) Q) (grp (t.val / 8) K) (grp (t.val / 8) V) (grp (t.val / 8) O) (t.val % 8)
    (iblk m c 0 t) (iblk m c 1 t) (iblk m c 2 t) (iblk m c 3 t) (iblk m c 4 t)

/-- What the point `n` leaves. -/
def Left (Q K V O : ℕ → ℕ → ℝ) (n : ℕ) (hn : n < cfg0.N) : Prop :=
  AfterOk (grp (n / 8) Q) (grp (n / 8) K) (grp (n / 8) V) (grp (n / 8) O) (n % 8)
    (outsAt0 m c n hn).1 (outsAt0 m c n hn).2.2.2.1 (outsAt0 m c n hn).2.2.2.2
  ∧ (n % 8 = 7 → (∀ y, (outsAt0 m c n hn).2.1 y = (outsAt0 m c n hn).2.2.2.1 y)
      ∧ ∀ y, (outsAt0 m c n hn).2.2.1 y = (outsAt0 m c n hn).2.2.2.2 y)

theorem left_A (h : Given m c Q K V O) (t : Fin cfg0.N) (h0 : t.val % 8 = 0) : Left m c Q K V O t.val t.isLt := by
  have h1 : ¬t.val % 8 = 7 := by omega
  have ha := caseA_ok c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    scM0_2 (Memref.isWhole_whole _) scM0_3 (Memref.isWhole_whole _) (iblk m c 0 t) (iblk m c 1 t) (iblk m c 2 t) (iblk m c 3 t) (iblk m c 4 t)
    ((hcond0_0 t).mpr h0) (fun h => h1 ((hcond0_1 t).mp h)) (in_of_eq (coords_one t) (h t)) ((coords_one t).trans h0)
  exact ⟨after_of_eq (outsAt0_A m c t h0 h1) (coords_one t) ha, fun h7 => absurd h7 h1⟩

theorem left_B (h : Given m c Q K V O) (t : Fin cfg0.N) (h0 : ¬t.val % 8 = 0) (h1 : ¬t.val % 8 = 7)
    (hp : Left m c Q K V O (t.val - 1) (Nat.lt_of_le_of_lt (Nat.sub_le _ _) t.isLt)) : Left m c Q K V O t.val t.isLt := by
  have hd : (t.val - 1) / 8 = t.val / 8 := by omega
  have hi : (t.val - 1) % 8 + 1 = (grid0.coords t 1).val := (show _ = t.val % 8 by omega).trans (coords_one t).symm
  have hp1 := hp.1
  rw [hd] at hp1
  have ha := caseB_ok c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    scM0_2 (Memref.isWhole_whole _) scM0_3 (Memref.isWhole_whole _) (iblk m c 0 t) (iblk m c 1 t) (iblk m c 2 t) (iblk m c 3 t) (iblk m c 4 t)
    (fun h => h0 ((hcond0_0 t).mp h)) (fun h => h1 ((hcond0_1 t).mp h)) (in_of_eq (coords_one t) (h t)) _ _ (reads_of_eq hi hp1.dk) (reads_of_eq hi hp1.dv)
  exact ⟨after_of_eq (outsAt0_B m c t h0 h1) (coords_one t) ha, fun h7 => absurd h7 h1⟩

theorem left_C (h : Given m c Q K V O) (t : Fin cfg0.N) (h0 : ¬t.val % 8 = 0) (h1 : t.val % 8 = 7)
    (hp : Left m c Q K V O (t.val - 1) (Nat.lt_of_le_of_lt (Nat.sub_le _ _) t.isLt)) : Left m c Q K V O t.val t.isLt := by
  have hd : (t.val - 1) / 8 = t.val / 8 := by omega
  have hi : (t.val - 1) % 8 + 1 = (grid0.coords t 1).val := (show _ = t.val % 8 by omega).trans (coords_one t).symm
  have hp1 := hp.1
  rw [hd] at hp1
  have ha := caseC_ok c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    scM0_2 (Memref.isWhole_whole _) scM0_3 (Memref.isWhole_whole _) (iblk m c 0 t) (iblk m c 1 t) (iblk m c 2 t) (iblk m c 3 t) (iblk m c 4 t)
    (fun h => h0 ((hcond0_0 t).mp h)) ((hcond0_1 t).mpr h1) (in_of_eq (coords_one t) (h t)) _ _ (reads_of_eq hi hp1.dk) (reads_of_eq hi hp1.dv)
  exact ⟨after_of_eq (outsAt0_C m c t h0 h1) (coords_one t) ha, fun _ => copies_of_eq (outsAt0_C m c t h0 h1)
    ⟨fun y => outdk_ok c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    scM0_2 (Memref.isWhole_whole _) scM0_3 (Memref.isWhole_whole _) (iblk m c 0 t) (iblk m c 1 t) (iblk m c 2 t) (iblk m c 3 t) (iblk m c 4 t)
    (fun h => h0 ((hcond0_0 t).mp h)) ((hcond0_1 t).mpr h1) _ _ y, fun y => outdv_ok c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    scM0_2 (Memref.isWhole_whole _) scM0_3 (Memref.isWhole_whole _) (iblk m c 0 t) (iblk m c 1 t) (iblk m c 2 t) (iblk m c 3 t) (iblk m c 4 t)
    (fun h => h0 ((hcond0_0 t).mp h)) ((hcond0_1 t).mpr h1) _ _ y⟩⟩

theorem left_all (h : Given m c Q K V O) : ∀ (n : ℕ) (hn : n < cfg0.N), Left m c Q K V O n hn := by
  intro n
  induction n with
  | zero => intro hn; exact left_A m c h ⟨0, hn⟩ rfl
  | succ n ih =>
    intro hn
    by_cases h0 : (n + 1) % 8 = 0
    · exact left_A m c h ⟨n + 1, hn⟩ h0
    · have hp := ih (by omega)
      by_cases h1 : (n + 1) % 8 = 7
      · exact left_C m c h ⟨n + 1, hn⟩ h0 h1 hp
      · exact left_B m c h ⟨n + 1, hn⟩ h0 h1 hp

/-- The gradient of the queries. -/
theorem G5_ok (h : Given m c Q K V O) (t n : Fin 2048) : G5 m c (ix2 t n) = ((gradQ Q K V O t n : ℝ) : EReal) := by
  have ht := t.isLt
  have hn := n.isLt
  have e : pt5Of (ix2 t n) = t.val / 256 + 8 * (n.val / 512) := by
    show 1 * (t.val / 256 - 0) + 8 * (n.val / 512 - 0) = _
    omega
  have hlt : pt5Of (ix2 t n) < cfg0.N := by
    rw [e, show cfg0.N = 32 from N_0]; omega
  have hl := (left_all m c h (pt5Of (ix2 t n)) hlt).1.dq ⟨t.val % 256, Nat.mod_lt _ (by decide)⟩ ⟨n.val % 512, Nat.mod_lt _ (by decide)⟩
  rw [gradQ_grp, outsAt0_sweep, show 256 * (pt5Of (ix2 t n) % 8) + t.val % 256 = t.val by rw [e]; omega,
    show 512 * (pt5Of (ix2 t n) / 8) + n.val % 512 = n.val by rw [e]; omega] at hl
  unfold G5
  rw [dif_pos hlt]
  refine Eq.trans (congrArg _ ?_) hl
  funext a
  match a with
  | ⟨0, _⟩ => rfl
  | ⟨1, _⟩ => rfl

theorem G6_ok (h : Given m c Q K V O) (s n : Fin 2048) :
    G6 m c (ix2 s n) = ((∑ t ∈ Finset.range 2048, gradK Q K V O t s n : ℝ) : EReal) := by
  have hs := s.isLt
  have hn := n.isLt
  have e : pt6Of (ix2 s n) = 8 * (n.val / 512) + 7 := by
    show 8 * (4 * (s.val / 2048 - 0) + 1 * (n.val / 512 - 0)) + 7 = _
    omega
  have hlt : pt6Of (ix2 s n) < cfg0.N := by
    rw [e, show cfg0.N = 32 from N_0]; omega
  have hl := left_all m c h (pt6Of (ix2 s n)) hlt
  have h7 : pt6Of (ix2 s n) % 8 = 7 := by rw [e]; omega
  have hk := hl.1.dk s ⟨n.val % 512, Nat.mod_lt _ (by decide)⟩
  rw [← (hl.2 h7).1, h7, accum_all, outsAt0_sweep] at hk
  simp only [gradK_grp] at hk
  rw [show 512 * (pt6Of (ix2 s n) / 8) + n.val % 512 = n.val by rw [e]; omega] at hk
  unfold G6
  rw [dif_pos hlt]
  refine Eq.trans (congrArg _ ?_) hk
  funext a
  match a with
  | ⟨0, _⟩ => exact Fin.ext (Nat.mod_eq_of_lt hs)
  | ⟨1, _⟩ => rfl

theorem G7_ok (h : Given m c Q K V O) (s n : Fin 2048) :
    G7 m c (ix2 s n) = ((∑ t ∈ Finset.range 2048, gradV Q K O t s n : ℝ) : EReal) := by
  have hs := s.isLt
  have hn := n.isLt
  have e : pt7Of (ix2 s n) = 8 * (n.val / 512) + 7 := by
    show 8 * (4 * (s.val / 2048 - 0) + 1 * (n.val / 512 - 0)) + 7 = _
    omega
  have hlt : pt7Of (ix2 s n) < cfg0.N := by
    rw [e, show cfg0.N = 32 from N_0]; omega
  have hl := left_all m c h (pt7Of (ix2 s n)) hlt
  have h7 : pt7Of (ix2 s n) % 8 = 7 := by rw [e]; omega
  have hk := hl.1.dv s ⟨n.val % 512, Nat.mod_lt _ (by decide)⟩
  rw [← (hl.2 h7).2, h7, accum_all, outsAt0_sweep] at hk
  simp only [gradV_grp] at hk
  rw [show 512 * (pt7Of (ix2 s n) / 8) + n.val % 512 = n.val by rw [e]; omega] at hk
  unfold G7
  rw [dif_pos hlt]
  refine Eq.trans (congrArg _ ?_) hk
  funext a
  match a with
  | ⟨0, _⟩ => exact Fin.ext (Nat.mod_eq_of_lt hs)
  | ⟨1, _⟩ => rfl

end

end Cert.KernelIdeal.Step

end
-- ==== Proof.Window.lean ====
module

public import proofs.«01_k».proof.Proof.Math
public import Idealize.ShloMosaic.Lib.Pointwise
public import Idealize.ShloMosaic.PureOps.Ideal.Laws

/-! Running sums along the last axis: a window of the whole row, padded at one end. And a running sum of reals. -/

@[expose] public section

set_option maxRecDepth 16384

noncomputable section

namespace Cert.SB

open Idealize.ShloMosaic Finset

abbrev Sq : Shape := ⟨4, ![1, 16, 2048, 2048]⟩
abbrev Row : Shape := ⟨4, ![1, 1, 1, 2048]⟩

theorem foldl_add {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- A sum over the places of a row. -/
theorem sum_row (g : Row.Idx → EReal) : ∑ w : Row.Idx, g w = ∑ k : Fin 2048, g (ix4 0 0 0 k) := by
  symm
  refine Fintype.sum_bijective (fun k : Fin 2048 => (ix4 0 0 0 k : Row.Idx)) ⟨fun a b h => ?_, fun w => ⟨w 3, ?_⟩⟩ _ _ fun _ => rfl
  · exact congrFun h 3
  · funext a
    match a with
    | ⟨0, _⟩ => exact (Fin.eq_zero (w 0)).symm
    | ⟨1, _⟩ => exact (Fin.eq_zero (w 1)).symm
    | ⟨2, _⟩ => exact (Fin.eq_zero (w 2)).symm
    | ⟨3, _⟩ => rfl

/-- What the window reads at a place of the padded row. -/
def at0 (lo : ℕ) (x : Sq.Idx → EReal) (h : Fin 16) (t : Fin 2048) (p : ℕ) : EReal :=
  if hp : lo ≤ p ∧ p - lo < 2048 then x (ix4 0 h t ⟨p - lo, hp.2⟩) else 0

theorem window_eq (lo hi : ℕ) (x : Sq.Idx → EReal) (hw : Sq.ReduceWindows ![1, 1, 1, 2048] ![1, 1, 1, 1] ![0, 0, 0, lo] ![0, 0, 0, hi] Sq)
    (h : Fin 16) (t s : Fin 2048) :
    Ideal.hostReduceWindowAdd ![1, 1, 1, 2048] ![1, 1, 1, 1] ![0, 0, 0, lo] ![0, 0, 0, hi] hw x 0 (ix4 0 h t s)
      = ∑ k : Fin 2048, at0 lo x h t (s.val + k.val) := by
  unfold Ideal.hostReduceWindowAdd Host.reduceWindow
  dsimp only
  rw [foldl_add, zero_add, ← List.ofFn_eq_map, List.sum_ofFn]
  refine Eq.trans (Finset.sum_congr rfl fun n _ => ?_) ((Equiv.sum_comp (Shape.rowMajor Row).symm
    (fun w : Row.Idx => at0 lo x h t (s.val + (w 3).val))).trans (sum_row _))
  unfold at0
  have h0 : ((Shape.rowMajor Row).symm n 0).val = 0 := Fin.val_eq_zero ((Shape.rowMajor Row).symm n 0)
  have h1 : ((Shape.rowMajor Row).symm n 1).val = 0 := Fin.val_eq_zero ((Shape.rowMajor Row).symm n 1)
  have h2 : ((Shape.rowMajor Row).symm n 2).val = 0 := Fin.val_eq_zero ((Shape.rowMajor Row).symm n 2)
  have hh := h.isLt
  have ht := t.isLt
  by_cases hp : lo ≤ s.val + ((Shape.rowMajor Row).symm n 3).val ∧ s.val + ((Shape.rowMajor Row).symm n 3).val - lo < 2048
  · rw [dif_pos hp, dif_pos ?_]
    · congr 1
      funext a
      match a with
      | ⟨0, _⟩ => exact Fin.ext (show 0 * 1 + ((Shape.rowMajor Row).symm n 0).val - 0 = 0 by omega)
      | ⟨1, _⟩ => exact Fin.ext (show h.val * 1 + ((Shape.rowMajor Row).symm n 1).val - 0 = h.val by omega)
      | ⟨2, _⟩ => exact Fin.ext (show t.val * 1 + ((Shape.rowMajor Row).symm n 2).val - 0 = t.val by omega)
      | ⟨3, _⟩ => exact Fin.ext (show s.val * 1 + ((Shape.rowMajor Row).symm n 3).val - lo = s.val + ((Shape.rowMajor Row).symm n 3).val - lo by omega)
    · intro a
      match a with
      | ⟨0, _⟩ => exact ⟨Nat.zero_le _, show 0 * 1 + ((Shape.rowMajor Row).symm n 0).val - 0 < 1 by omega⟩
      | ⟨1, _⟩ => exact ⟨Nat.zero_le _, show h.val * 1 + ((Shape.rowMajor Row).symm n 1).val - 0 < 16 by omega⟩
      | ⟨2, _⟩ => exact ⟨Nat.zero_le _, show t.val * 1 + ((Shape.rowMajor Row).symm n 2).val - 0 < 2048 by omega⟩
      | ⟨3, _⟩ => exact ⟨show lo ≤ s.val * 1 + ((Shape.rowMajor Row).symm n 3).val by omega, show s.val * 1 + ((Shape.rowMajor Row).symm n 3).val - lo < 2048 by omega⟩
  · rw [dif_neg hp, dif_neg ?_]
    intro hin
    have h3 : lo ≤ s.val * 1 + ((Shape.rowMajor Row).symm n 3).val ∧ s.val * 1 + ((Shape.rowMajor Row).symm n 3).val - lo < 2048 := hin 3
    exact hp ⟨by omega, by omega⟩

/-- Padded after its end, the running sum is that of what follows. -/
theorem sum_from (f : ℕ → ℝ) (s : Fin 2048) :
    ∑ k : Fin 2048, (if s.val + k.val < 2048 then f (s.val + k.val) else 0) = ∑ x ∈ range 2048, f x - ∑ x ∈ range s, f x := by
  have hs := s.isLt
  rw [Fin.sum_univ_eq_sum_range (fun k => if s.val + k < 2048 then f (s.val + k) else 0) 2048, ← sum_filter,
    eq_sub_iff_add_eq, add_comm, ← Finset.sum_range_add_sum_Ico f hs.le, Finset.sum_Ico_eq_sum_range]
  congr 1
  refine Finset.sum_congr ?_ fun _ _ => rfl
  ext k
  simp only [mem_filter, mem_range]
  omega

/-- Padded before its start, it is that of what goes before. -/
theorem sum_upto (f : ℕ → ℝ) (s : Fin 2048) :
    ∑ k : Fin 2048, (if 2047 ≤ s.val + k.val then f (s.val + k.val - 2047) else 0) = ∑ x ∈ range (s + 1), f x := by
  have hs := s.isLt
  rw [Fin.sum_univ_eq_sum_range (fun k => if 2047 ≤ s.val + k then f (s.val + k - 2047) else 0) 2048, ← sum_filter]
  refine Finset.sum_bij' (fun k _ => s.val + k - 2047) (fun x _ => x + 2047 - s.val) ?_ ?_ ?_ ?_ ?_
  · intro k hk; simp only [mem_filter, mem_range] at hk ⊢; omega
  · intro k hk; simp only [mem_filter, mem_range] at hk ⊢; omega
  · intro k hk; simp only [mem_filter, mem_range] at hk; omega
  · intro k hk; simp only [mem_range] at hk; omega
  · intro k hk; rfl

theorem at0_coe (lo : ℕ) (x : Sq.Idx → EReal) (h : Fin 16) (t : Fin 2048) (f : ℕ → ℝ)
    (hx : ∀ s : Fin 2048, x (ix4 0 h t s) = ((f s : ℝ) : EReal)) (p : ℕ) :
    at0 lo x h t p = ((if lo ≤ p ∧ p - lo < 2048 then f (p - lo) else 0 : ℝ) : EReal) := by
  unfold at0
  split
  · rw [hx]
  · rfl

/-- The reversed running sum of a row of reals. -/
theorem window_from (x : Sq.Idx → EReal) (hw : Sq.ReduceWindows ![1, 1, 1, 2048] ![1, 1, 1, 1] ![0, 0, 0, 0] ![0, 0, 0, 2047] Sq)
    (h : Fin 16) (t s : Fin 2048) (f : ℕ → ℝ) (hx : ∀ s : Fin 2048, x (ix4 0 h t s) = ((f s : ℝ) : EReal)) :
    Ideal.hostReduceWindowAdd ![1, 1, 1, 2048] ![1, 1, 1, 1] ![0, 0, 0, 0] ![0, 0, 0, 2047] hw x 0 (ix4 0 h t s)
      = ((∑ x ∈ range 2048, f x - ∑ x ∈ range s, f x : ℝ) : EReal) := by
  rw [window_eq]
  simp only [at0_coe 0 x h t f hx]
  rw [coe_sum, ← sum_from]
  simp

/-- The running sum of a row of reals. -/
theorem window_upto (x : Sq.Idx → EReal) (hw : Sq.ReduceWindows ![1, 1, 1, 2048] ![1, 1, 1, 1] ![0, 0, 0, 2047] ![0, 0, 0, 0] Sq)
    (h : Fin 16) (t s : Fin 2048) (f : ℕ → ℝ) (hx : ∀ s : Fin 2048, x (ix4 0 h t s) = ((f s : ℝ) : EReal)) :
    Ideal.hostReduceWindowAdd ![1, 1, 1, 2048] ![1, 1, 1, 1] ![0, 0, 0, 2047] ![0, 0, 0, 0] hw x 0 (ix4 0 h t s)
      = ((∑ x ∈ range (s + 1), f x : ℝ) : EReal) := by
  rw [window_eq]
  simp only [at0_coe 2047 x h t f hx]
  rw [coe_sum, ← sum_upto]
  congr 1
  refine Finset.sum_congr rfl fun k _ => ?_
  have hs := s.isLt
  have hk := k.isLt
  by_cases hp : 2047 ≤ s.val + k.val
  · rw [if_pos hp, if_pos ⟨hp, by omega⟩]
  · rw [if_neg hp, if_neg fun h => hp h.1]

end Cert.SB

end
-- ==== Proof.Reference.lean ====
module

public import proofs.«01_k».proof.Proof.Window
public import proofs.«01_k».proof.Proof.Point
public import proofs.«01_k».proof.Proof.Gen.ReferenceIdeal.Read

/-! The reference over the reals: each of its arrays, down to the three gradients. -/

@[expose] public section

set_option maxRecDepth 16384

noncomputable section

namespace Cert.SB

open Idealize.ShloMosaic Cert.KernelIdeal.Step Cert.ReferenceIdeal.Read

/-- The arguments hold real numbers: queries, keys and values side by side, and the gradient of the output. -/
structure Inputs (x0 : (⟨2, ![2048, 6144]⟩ : Shape).Idx → EReal) (x1 : (⟨2, ![2048, 2048]⟩ : Shape).Idx → EReal)
    (Q K V O : ℕ → ℕ → ℝ) : Prop where
  q : ∀ (t : Fin 2048) (n : ℕ) (hn : n < 2048), x0 (ix2 t ⟨n, by omega⟩) = ((Q t n : ℝ) : EReal)
  k : ∀ (t : Fin 2048) (n : ℕ) (hn : n < 2048), x0 (ix2 t ⟨2048 + n, by omega⟩) = ((K t n : ℝ) : EReal)
  v : ∀ (t : Fin 2048) (n : ℕ) (hn : n < 2048), x0 (ix2 t ⟨4096 + n, by omega⟩) = ((V t n : ℝ) : EReal)
  o : ∀ (t : Fin 2048) (n : ℕ) (hn : n < 2048), x1 (ix2 t ⟨n, hn⟩) = ((O t n : ℝ) : EReal)

/-- `log (1 + e ^ x)`, the way both programs write it. -/
def sp (x : ℝ) : ℝ := max x 0 + Real.log (1 + Real.exp (-|x|))

theorem neg_sp (x : ℝ) : -sp x = lsm x - x := by
  unfold sp lsm
  rcases le_total x 0 with h | h
  · rw [max_eq_right h, min_eq_left h]; ring
  · rw [max_eq_left h, min_eq_right h]; ring

theorem neg_sp_neg (x : ℝ) : -sp (-x) = lsm x := by
  unfold sp lsm
  rw [abs_neg]
  rcases le_total x 0 with h | h
  · rw [max_eq_left (by linarith), min_eq_left h]; ring
  · rw [max_eq_right (by linarith), min_eq_right h]; ring

theorem sp_coe (x : ℝ) : max (x : EReal) 0 + Ideal.log1p (Ideal.exp (-max ((x : EReal) - 0) (-((x : EReal) - 0)))) = ((sp x : ℝ) : EReal) := by
  rw [sub_zero]
  have ha : max (x : EReal) (-(x : EReal)) = ((|x| : ℝ) : EReal) := absf_coe x
  rw [ha, ← EReal.coe_neg, Ideal.exp_coe, Ideal.log1p, ← EReal.coe_one, ← EReal.coe_add, Ideal.log_coe, if_neg (log_pos_arg _),
    ← EReal.coe_zero, ← EReal.coe_strictMono.monotone.map_max, ← EReal.coe_add]
  rfl

theorem inf_bits : Ideal.ofBits .f32 0x7F800000#32 = (⊤ : EReal) := by simp [Ideal.ofBits, Ideal.ieee]

/-- The running sum of the reference, started from an array holding zero. -/
theorem host_window_from (x : FVec Ideal Sq .f32) {u : Shape} (v : FVec Ideal u .f32) (hv : ∀ i, v i = (0 : EReal))
    (hw : Sq.ReduceWindows ![1, 1, 1, 2048] ![1, 1, 1, 1] ![0, 0, 0, 0] ![0, 0, 0, 2047] Sq) (hu : 0 < u.numel) (h : Fin 16) (t s : Fin 2048) (f : ℕ → ℝ)
    (hx : ∀ s : Fin 2048, x (ix4 0 h t s) = ((f s : ℝ) : EReal)) :
    Host.reduceWindowAdd ![1, 1, 1, 2048] ![1, 1, 1, 1] ![0, 0, 0, 0] ![0, 0, 0, 2047] x v hw hu (ix4 0 h t s)
      = ((∑ x ∈ Finset.range 2048, f x - ∑ x ∈ Finset.range s, f x : ℝ) : EReal) := by
  refine Eq.trans ?_ (window_from x hw h t s f hx)
  unfold Host.reduceWindowAdd
  rw [hv]
  rfl

/-- The running sum of the reference, started from an array holding zero. -/
theorem host_window_upto (x : FVec Ideal Sq .f32) {u : Shape} (v : FVec Ideal u .f32) (hv : ∀ i, v i = (0 : EReal))
    (hw : Sq.ReduceWindows ![1, 1, 1, 2048] ![1, 1, 1, 1] ![0, 0, 0, 2047] ![0, 0, 0, 0] Sq) (hu : 0 < u.numel) (h : Fin 16) (t s : Fin 2048) (f : ℕ → ℝ)
    (hx : ∀ s : Fin 2048, x (ix4 0 h t s) = ((f s : ℝ) : EReal)) :
    Host.reduceWindowAdd ![1, 1, 1, 2048] ![1, 1, 1, 1] ![0, 0, 0, 2047] ![0, 0, 0, 0] x v hw hu (ix4 0 h t s)
      = ((∑ x ∈ Finset.range (s + 1), f x : ℝ) : EReal) := by
  refine Eq.trans ?_ (window_upto x hw h t s f hx)
  unfold Host.reduceWindowAdd
  rw [hv]
  rfl

variable {x0 : (⟨2, ![2048, 6144]⟩ : Shape).Idx → EReal} {x1 : (⟨2, ![2048, 2048]⟩ : Shape).Idx → EReal} {Q K V O : ℕ → ℕ → ℝ}

theorem v5_ok (H : Inputs x0 x1 Q K V O) (h : Fin 16) (t : Fin 2048) (d : Fin 128) :
    val_main_v5 (F := Ideal) x0 (ix4 0 h t d) = ((hd h Q t d : ℝ) : EReal) := by
  have hh := h.isLt
  have ht := t.isLt
  have hd' := d.isLt
  rw [val_main_v5_apply, val_main_v4_apply, val_main_v1_apply, val_main_v0_apply]
  refine Eq.trans (congrArg x0 ?_) (H.q t (128 * h.val + d.val) (by omega))
  funext a
  match a with
  | ⟨0, _⟩ => exact Fin.ext (show (((0 * 2048 + t.val) * 16 + h.val) * 128 + d.val) / 2048 = t.val by omega)
  | ⟨1, _⟩ => exact Fin.ext (show (((0 * 2048 + t.val) * 16 + h.val) * 128 + d.val) % 2048 = (128 * h.val + d.val) by omega)

theorem v7_ok (H : Inputs x0 x1 Q K V O) (h : Fin 16) (t : Fin 2048) (d : Fin 128) :
    val_main_v7 (F := Ideal) x0 (ix4 0 h t d) = ((hd h K t d : ℝ) : EReal) := by
  have hh := h.isLt
  have ht := t.isLt
  have hd' := d.isLt
  rw [val_main_v7_apply, val_main_v6_apply, val_main_v2_apply, val_main_v0_apply]
  refine Eq.trans (congrArg x0 ?_) (H.k t (128 * h.val + d.val) (by omega))
  funext a
  match a with
  | ⟨0, _⟩ => exact Fin.ext (show (((0 * 2048 + t.val) * 16 + h.val) * 128 + d.val) / 2048 = t.val by omega)
  | ⟨1, _⟩ => exact Fin.ext (show 2048 + (((0 * 2048 + t.val) * 16 + h.val) * 128 + d.val) % 2048 = 2048 + (128 * h.val + d.val) by omega)

theorem v9_ok (H : Inputs x0 x1 Q K V O) (h : Fin 16) (t : Fin 2048) (d : Fin 128) :
    val_main_v9 (F := Ideal) x0 (ix4 0 h t d) = ((hd h V t d : ℝ) : EReal) := by
  have hh := h.isLt
  have ht := t.isLt
  have hd' := d.isLt
  rw [val_main_v9_apply, val_main_v8_apply, val_main_v3_apply, val_main_v0_apply]
  refine Eq.trans (congrArg x0 ?_) (H.v t (128 * h.val + d.val) (by omega))
  funext a
  match a with
  | ⟨0, _⟩ => exact Fin.ext (show (((0 * 2048 + t.val) * 16 + h.val) * 128 + d.val) / 2048 = t.val by omega)
  | ⟨1, _⟩ => exact Fin.ext (show 4096 + (((0 * 2048 + t.val) * 16 + h.val) * 128 + d.val) % 2048 = 4096 + (128 * h.val + d.val) by omega)

theorem v36_ok (H : Inputs x0 x1 Q K V O) (h : Fin 16) (t : Fin 2048) (d : Fin 128) :
    val_main_v36 (F := Ideal) x1 (ix4 0 h t d) = ((hd h O t d : ℝ) : EReal) := by
  have hh := h.isLt
  have ht := t.isLt
  have hd' := d.isLt
  rw [val_main_v36_apply, val_main_v35_apply, val_main_v34_apply]
  refine Eq.trans (congrArg x1 ?_) (H.o t (128 * h.val + d.val) (by omega))
  funext a
  match a with
  | ⟨0, _⟩ => exact Fin.ext (show (((0 * 2048 + t.val) * 16 + h.val) * 128 + d.val) / 2048 = t.val by omega)
  | ⟨1, _⟩ => exact Fin.ext (show (((0 * 2048 + t.val) * 16 + h.val) * 128 + d.val) % 2048 = (128 * h.val + d.val) by omega)

/-- The logits of the head `h`. -/
abbrev zh (h : ℕ) (Q K : ℕ → ℕ → ℝ) : ℕ → ℕ → ℝ := zf (hd h Q) (hd h K)

/-- The gradient of its weights. -/
abbrev dah (h : ℕ) (O V : ℕ → ℕ → ℝ) : ℕ → ℕ → ℝ := daf (hd h O) (hd h V)

theorem v12_ok (H : Inputs x0 x1 Q K V O) (h : Fin 16) (t s : Fin 2048) :
    val_main_v12 (F := Ideal) x0 (ix4 0 h t s) = ((zh h Q K t s : ℝ) : EReal) := by
  rw [val_main_v12_apply, val_main_v11_apply, val_main_cst_apply, val_main_v10_apply]
  have e : ∀ k : Fin 128, val_main_v5 (F := Ideal) x0 (lidx_main_v10 (ix4 0 h t s) k) * val_main_v7 (F := Ideal) x0 (ridx_main_v10 (ix4 0 h t s) k)
      = ((hd h Q t k * hd h K s k : ℝ) : EReal) := fun k => by
    rw [show lidx_main_v10 (ix4 0 h t s) k = ix4 0 h t k from by funext a; match a with | ⟨0, _⟩ => rfl | ⟨1, _⟩ => rfl | ⟨2, _⟩ => rfl | ⟨3, _⟩ => rfl,
      show ridx_main_v10 (ix4 0 h t s) k = ix4 0 h s k from by funext a; match a with | ⟨0, _⟩ => rfl | ⟨1, _⟩ => rfl | ⟨2, _⟩ => rfl | ⟨3, _⟩ => rfl,
      v5_ok H, v7_ok H, EReal.coe_mul]
  rw [Finset.sum_congr rfl fun k _ => e k, coe_sum]
  change (_ : EReal) * Ideal.ofBits .f32 0x3DB504F3#32 = _
  rw [scale_coe, ← EReal.coe_mul]
  rfl

theorem v39_ok (H : Inputs x0 x1 Q K V O) (h : Fin 16) (t s : Fin 2048) :
    val_main_v39 (F := Ideal) x0 x1 (ix4 0 h t s) = ((dah h O V t s : ℝ) : EReal) := by
  rw [val_main_v39_apply]
  have e : ∀ k : Fin 128, val_main_v36 (F := Ideal) x1 (lidx_main_v39 (ix4 0 h t s) k) * val_main_v9 (F := Ideal) x0 (ridx_main_v39 (ix4 0 h t s) k)
      = ((hd h O t k * hd h V s k : ℝ) : EReal) := fun k => by
    rw [show lidx_main_v39 (ix4 0 h t s) k = ix4 0 h t k from by funext a; match a with | ⟨0, _⟩ => rfl | ⟨1, _⟩ => rfl | ⟨2, _⟩ => rfl | ⟨3, _⟩ => rfl,
      show ridx_main_v39 (ix4 0 h t s) k = ix4 0 h s k from by funext a; match a with | ⟨0, _⟩ => rfl | ⟨1, _⟩ => rfl | ⟨2, _⟩ => rfl | ⟨3, _⟩ => rfl,
      v36_ok H, v9_ok H, EReal.coe_mul]
  rw [Finset.sum_congr rfl fun k _ => e k, coe_sum]
  rfl

theorem lt_word (t s : ℕ) (ht : t < 2048) (hs : s < 2048) :
    IntOp.cmpi .slt (BitVec.ofNat 32 s) (BitVec.ofNat 32 t) = if s < t then 1#1 else 0#1 := by
  have e : ∀ n : ℕ, n < 2048 → (BitVec.ofNat 32 n).toInt = n := fun n hn => by
    rw [BitVec.toInt_eq_toNat_of_lt (by rw [BitVec.toNat_ofNat]; omega), BitVec.toNat_ofNat]
    omega
  simp only [IntOp.cmpi, BitVec.slt, e _ hs, e _ ht]
  by_cases hlt : s < t <;> simp [hlt]

theorem v24_1_ok (h : Fin 16) (t s : Fin 2048) :
    val_main_v24_1 (F := Ideal) (ix4 0 h t s) = if s.val < t.val then 1#1 else 0#1 := by
  rw [val_main_v24_1_apply, val_main_v21_apply, val_main_v19_apply, val_main_v14_apply, val_main_v13_apply, val_main_v20_apply,
    val_main_v18_apply, val_main_v17_apply, val_main_v16_apply, val_main_c_apply, val_main_v15_apply]
  refine Eq.trans ?_ (lt_word t s t.isLt s.isLt)
  exact congrArg (IntOp.cmpi .slt (BitVec.ofNat 32 s)) (BitVec.zero_add _)

theorem v30_1_ok (h : Fin 16) (t s : Fin 2048) :
    val_main_v30_1 (F := Ideal) (ix4 0 h t s) = if s.val < t.val then 1#1 else 0#1 := v24_1_ok h t s

theorem select_if (p : Prop) [Decidable p] (a b : EReal) :
    Scalar.select (if p then (1#1 : BitVec 1) else 0#1) a b = if p then a else b := by
  by_cases h : p <;> simp [h, Scalar.select]

theorem select_no (a b : EReal) : Scalar.select (0#1 : BitVec 1) a b = b := by simp [Scalar.select]

theorem une_self (a : EReal) : Ideal.cmp .une a a = 0#1 := by simp [Ideal.cmp]

theorem oeq_top (a : ℝ) : Ideal.cmp .oeq (a : EReal) ⊤ = 0#1 := by simp [Ideal.cmp]

theorem call0_v0_ok (H : Inputs x0 x1 Q K V O) (h : Fin 16) (t s : Fin 2048) :
    val_main_call0_v0 (F := Ideal) x0 (ix4 0 h t s) = ((zh h Q K t s : ℝ) : EReal) := by
  rw [val_main_call0_v0_apply, val_main_v22_apply, v12_ok H]
  change -(-((zh h Q K t s : ℝ) : EReal)) = _
  rw [neg_neg]

theorem call0_sp (H : Inputs x0 x1 Q K V O) (h : Fin 16) (t s : Fin 2048) :
    val_main_call0_v1_0 (F := Ideal) x0 (ix4 0 h t s) = ((sp (zh h Q K t s) : ℝ) : EReal) := by
  rw [val_main_call0_v1_0_apply, val_main_call0_call0_v4_apply, val_main_call0_call0_v11_apply, val_main_call0_call0_v1_apply, val_main_call0_call0_v10_apply, val_main_call0_call0_v9_apply, val_main_call0_call0_v8_apply, val_main_call0_call0_v7_apply, val_main_call0_call0_v3_apply, val_main_call0_call0_v0_apply, val_main_call0_call0_v2_apply, val_main_call0_call0_cst_apply, call0_v0_ok H]
  simp only [Ideal.cmpf_def, Ideal.ofBits_def, Ideal.subf_def, Ideal.addf_def, Ideal.maximumf_def, Ideal.hostUnary_log1p_def, Ideal.hostUnary_exp_def, Ideal.hostNegf_def, Ideal.negf_def, Ideal.hostAbsf_def, Ideal.absf_def]
  rw [une_self, Ideal.ofBits_zero_f32, sp_coe, select_no]

theorem v23_0_ok (H : Inputs x0 x1 Q K V O) (h : Fin 16) (t s : Fin 2048) :
    val_main_v23_0 (F := Ideal) x0 (ix4 0 h t s) = ((-sp (zh h Q K t s) : ℝ) : EReal) := by
  rw [val_main_v23_0_apply, call0_sp H]
  rfl

theorem v23_1_ok (H : Inputs x0 x1 Q K V O) (h : Fin 16) (t s : Fin 2048) :
    val_main_v23_1 (F := Ideal) x0 (ix4 0 h t s) = ((Real.exp ((zh h Q K t s) - sp (zh h Q K t s)) : ℝ) : EReal) := by
  rw [val_main_v23_1_apply, val_main_call0_call0_v21_apply, val_main_call0_call0_v16_apply, val_main_call0_call0_v14_apply, val_main_call0_call0_v20_apply, val_main_call0_call0_v18_apply, val_main_call0_call0_v13_apply, val_main_call0_call0_cst_0_apply, val_main_call0_call0_v17_apply, val_main_call0_call0_cst_2_apply, call0_v0_ok H, call0_sp H]
  simp only [Ideal.cmpf_def, Ideal.ofBits_def, Ideal.subf_def, Ideal.addf_def, Ideal.maximumf_def, Ideal.hostUnary_log1p_def, Ideal.hostUnary_exp_def, Ideal.hostNegf_def, Ideal.negf_def, Ideal.hostAbsf_def, Ideal.absf_def]
  rw [inf_bits, oeq_top, oeq_top, select_no, select_no, ← EReal.coe_sub, Ideal.exp_coe]

theorem call3_v0_ok (H : Inputs x0 x1 Q K V O) (h : Fin 16) (t s : Fin 2048) :
    val_main_call3_v0 (F := Ideal) x0 (ix4 0 h t s) = ((-zh h Q K t s : ℝ) : EReal) := by
  rw [val_main_call3_v0_apply, v12_ok H]
  change -((zh h Q K t s : ℝ) : EReal) = _
  rw [← EReal.coe_neg]

theorem call3_sp (H : Inputs x0 x1 Q K V O) (h : Fin 16) (t s : Fin 2048) :
    val_main_call3_v1_0 (F := Ideal) x0 (ix4 0 h t s) = ((sp (-zh h Q K t s) : ℝ) : EReal) := by
  rw [val_main_call3_v1_0_apply, val_main_call3_call0_v4_apply, val_main_call3_call0_v11_apply, val_main_call3_call0_v1_apply, val_main_call3_call0_v10_apply, val_main_call3_call0_v9_apply, val_main_call3_call0_v8_apply, val_main_call3_call0_v7_apply, val_main_call3_call0_v3_apply, val_main_call3_call0_v0_apply, val_main_call3_call0_v2_apply, val_main_call3_call0_cst_apply, call3_v0_ok H]
  simp only [Ideal.cmpf_def, Ideal.ofBits_def, Ideal.subf_def, Ideal.addf_def, Ideal.maximumf_def, Ideal.hostUnary_log1p_def, Ideal.hostUnary_exp_def, Ideal.hostNegf_def, Ideal.negf_def, Ideal.hostAbsf_def, Ideal.absf_def]
  rw [une_self, Ideal.ofBits_zero_f32, sp_coe, select_no]

theorem v27_0_ok (H : Inputs x0 x1 Q K V O) (h : Fin 16) (t s : Fin 2048) :
    val_main_v27_0 (F := Ideal) x0 (ix4 0 h t s) = ((-sp (-zh h Q K t s) : ℝ) : EReal) := by
  rw [val_main_v27_0_apply, call3_sp H]
  rfl

theorem v27_1_ok (H : Inputs x0 x1 Q K V O) (h : Fin 16) (t s : Fin 2048) :
    val_main_v27_1 (F := Ideal) x0 (ix4 0 h t s) = ((Real.exp ((-zh h Q K t s) - sp (-zh h Q K t s)) : ℝ) : EReal) := by
  rw [val_main_v27_1_apply, val_main_call3_call0_v21_apply, val_main_call3_call0_v16_apply, val_main_call3_call0_v14_apply, val_main_call3_call0_v20_apply, val_main_call3_call0_v18_apply, val_main_call3_call0_v13_apply, val_main_call3_call0_cst_0_apply, val_main_call3_call0_v17_apply, val_main_call3_call0_cst_2_apply, call3_v0_ok H, call3_sp H]
  simp only [Ideal.cmpf_def, Ideal.ofBits_def, Ideal.subf_def, Ideal.addf_def, Ideal.maximumf_def, Ideal.hostUnary_log1p_def, Ideal.hostUnary_exp_def, Ideal.hostNegf_def, Ideal.negf_def, Ideal.hostAbsf_def, Ideal.absf_def]
  rw [inf_bits, oeq_top, oeq_top, select_no, select_no, ← EReal.coe_sub, Ideal.exp_coe]

theorem v24_0_ok (H : Inputs x0 x1 Q K V O) (h : Fin 16) (t s : Fin 2048) :
    val_main_v24_0 (F := Ideal) x0 (ix4 0 h t s) = ((LK (zh h Q K) t s : ℝ) : EReal) := by
  rw [val_main_v24_0_apply, v24_1_ok, select_if, v23_0_ok H, val_main_call1_v2_apply, val_main_call1_v0_apply, val_main_cst_0_apply,
    neg_sp, LK]
  split_ifs
  · rfl
  · exact Ideal.ofBits_zero_f32

theorem v26_ok (H : Inputs x0 x1 Q K V O) (h : Fin 16) (t s : Fin 2048) :
    val_main_v26 (F := Ideal) x0 (ix4 0 h t s)
      = ((CT (zh h Q K) t - ∑ x ∈ Finset.range (s + 1), LK (zh h Q K) t x : ℝ) : EReal) := by
  have e : val_main_v25 (F := Ideal) x0 (ix4 0 h t s)
      = ((∑ x ∈ Finset.range 2048, LK (zh h Q K) t x - ∑ x ∈ Finset.range s, LK (zh h Q K) t x : ℝ) : EReal) := by
    unfold val_main_v25
    refine host_window_from (val_main_v24_0 (F := Ideal) x0) _ (fun i => ?_) _ _ h t s _ fun s => v24_0_ok H h t s
    rw [val_main_call2_v0_apply, val_main_call2_cst_apply]
    exact Ideal.ofBits_zero_f32
  rw [val_main_v26_apply, e, v24_0_ok H]
  change ((_ : ℝ) : EReal) - ((_ : ℝ) : EReal) = _
  rw [← EReal.coe_sub, Finset.sum_range_succ _ s.val, CT]
  exact congrArg (fun r : ℝ => (r : EReal)) (by ring)

theorem v29_ok (H : Inputs x0 x1 Q K V O) (h : Fin 16) (t s : Fin 2048) :
    val_main_v29 (F := Ideal) x0 (ix4 0 h t s)
      = ((Real.exp (lsm (zh h Q K t s) + CT (zh h Q K) t - ∑ x ∈ Finset.range (s + 1), LK (zh h Q K) t x) : ℝ) : EReal) := by
  rw [val_main_v29_apply, val_main_v28_apply, v27_0_ok H, v26_ok H, neg_sp_neg]
  change Ideal.exp (((_ : ℝ) : EReal) + ((_ : ℝ) : EReal)) = _
  rw [← EReal.coe_add, Ideal.exp_coe, add_sub_assoc]

theorem v30_0_ok (H : Inputs x0 x1 Q K V O) (h : Fin 16) (t s : Fin 2048) :
    val_main_v30_0 (F := Ideal) x0 (ix4 0 h t s) = ((A (zh h Q K) t s : ℝ) : EReal) := by
  rw [val_main_v30_0_apply, v30_1_ok, select_if, v29_ok H, val_main_call4_v2_apply, val_main_call4_v0_apply, val_main_cst_1_apply, A]
  split_ifs
  · rfl
  · exact Ideal.ofBits_zero_f32

theorem v41_ok (H : Inputs x0 x1 Q K V O) (h : Fin 16) (t s : Fin 2048) :
    val_main_v41 (F := Ideal) x0 x1 (ix4 0 h t s) = ((GW (zh h Q K) (dah h O V) t s : ℝ) : EReal) := by
  rw [val_main_v41_apply, val_main_v40_apply, v30_1_ok, select_if, v39_ok H, v29_ok H, val_main_call5_v0_apply, val_main_call5_cst_apply,
    GW, A]
  split_ifs
  · change ((_ : ℝ) : EReal) * ((_ : ℝ) : EReal) = _
    rw [← EReal.coe_mul, mul_comm]
  · change Ideal.ofBits .f32 0x00000000#32 * ((_ : ℝ) : EReal) = _
    rw [Ideal.ofBits_zero_f32, zero_mul, zero_mul]
    rfl

theorem v45_ok (H : Inputs x0 x1 Q K V O) (h : Fin 16) (t s : Fin 2048) :
    val_main_v45 (F := Ideal) x0 x1 (ix4 0 h t s)
      = ((∑ x ∈ Finset.range s, GW (zh h Q K) (dah h O V) t x : ℝ) : EReal) := by
  have e : val_main_v44 (F := Ideal) x0 x1 (ix4 0 h t s)
      = ((∑ x ∈ Finset.range (s + 1), GW (zh h Q K) (dah h O V) t x : ℝ) : EReal) := by
    unfold val_main_v44
    refine host_window_upto (val_main_v41 (F := Ideal) x0 x1) _ (fun i => ?_) _ _ h t s _ fun s => v41_ok H h t s
    rw [val_main_call7_v0_apply, val_main_call7_cst_apply]
    exact Ideal.ofBits_zero_f32
  rw [val_main_v45_apply, val_main_v43_apply, e, v41_ok H]
  change -((_ : ℝ) : EReal) + ((_ : ℝ) : EReal) = _
  rw [← EReal.coe_neg, ← EReal.coe_add, Finset.sum_range_succ _ s.val]
  exact congrArg (fun r : ℝ => (r : EReal)) (by ring)

theorem v42_ok (H : Inputs x0 x1 Q K V O) (h : Fin 16) (t s : Fin 2048) :
    val_main_v42 (F := Ideal) x0 x1 (ix4 0 h t s)
      = ((GW (zh h Q K) (dah h O V) t s * Real.exp (lsm (zh h Q K t s) - zh h Q K t s) : ℝ) : EReal) := by
  rw [val_main_v42_apply, val_main_call6_v1_apply, val_main_call6_v0_apply, v41_ok H, v27_1_ok H, sub_eq_add_neg, neg_sp_neg]
  change -(-((_ : ℝ) : EReal) * ((_ : ℝ) : EReal)) = _
  rw [← EReal.coe_neg, ← EReal.coe_mul, ← EReal.coe_neg]
  congr 1
  rw [show lsm (zh h Q K t s) - zh h Q K t s = -zh h Q K t s + lsm (zh h Q K t s) by ring]
  ring

theorem v48_ok (H : Inputs x0 x1 Q K V O) (h : Fin 16) (t s : Fin 2048) :
    val_main_v48 (F := Ideal) x0 x1 (ix4 0 h t s)
      = ((-if s.val < t.val then Real.exp (lsm (zh h Q K t s)) * ∑ x ∈ Finset.range s, GW (zh h Q K) (dah h O V) t x else 0 : ℝ) : EReal) := by
  rw [val_main_v48_apply, val_main_v47_apply, val_main_call9_v1_apply, val_main_call9_v0_apply, val_main_v46_apply, v24_1_ok, select_if,
    v45_ok H, v23_1_ok H, val_main_call8_v0_apply, val_main_call8_cst_apply, sub_eq_add_neg, neg_sp,
    show zh h Q K t s + (lsm (zh h Q K t s) - zh h Q K t s) = lsm (zh h Q K t s) by ring]
  split_ifs
  · change -(-(-((_ : ℝ) : EReal) * ((_ : ℝ) : EReal))) = _
    rw [← EReal.coe_neg, ← EReal.coe_mul, ← EReal.coe_neg, ← EReal.coe_neg]
    congr 1
    ring
  · change -(-(-Ideal.ofBits .f32 0x00000000#32 * ((_ : ℝ) : EReal))) = _
    rw [Ideal.ofBits_zero_f32, neg_zero, zero_mul, neg_zero, neg_zero, neg_zero]
    rfl

theorem v51_ok (H : Inputs x0 x1 Q K V O) (h : Fin 16) (t s : Fin 2048) :
    val_main_v51 (F := Ideal) x0 x1 (ix4 0 h t s) = ((dzf (hd h Q) (hd h K) (hd h V) (hd h O) t s : ℝ) : EReal) := by
  rw [val_main_v51_apply, val_main_v49_apply, v42_ok H, v48_ok H, val_main_v50_apply, val_main_cst_2_apply]
  change (((_ : ℝ) : EReal) + ((_ : ℝ) : EReal)) * Ideal.ofBits .f32 0x3DB504F3#32 = _
  rw [scale_coe, ← EReal.coe_add, ← EReal.coe_mul, dzf, DZ]
  congr 1
  split_ifs with hlt
  · ring
  · rw [GW, A, if_neg hlt]
    ring

theorem v53_ok (H : Inputs x0 x1 Q K V O) (h : Fin 16) (t : Fin 2048) (d : Fin 128) :
    val_main_v53 (F := Ideal) x0 x1 (ix4 0 h t d) = ((∑ k ∈ Finset.range 2048, dzf (hd h Q) (hd h K) (hd h V) (hd h O) t k * hd h K k d : ℝ) : EReal) := by
  rw [val_main_v53_apply]
  have e : ∀ k : Fin 2048, val_main_v51 (F := Ideal) x0 x1 (lidx_main_v53 (ix4 0 h t d) k) * val_main_v7 (F := Ideal) x0 (ridx_main_v53 (ix4 0 h t d) k)
      = (((dzf (hd h Q) (hd h K) (hd h V) (hd h O) t k * hd h K k d) : ℝ) : EReal) := fun k => by
    rw [show lidx_main_v53 (ix4 0 h t d) k = ix4 0 h t k from by funext a; match a with | ⟨0, _⟩ => rfl | ⟨1, _⟩ => rfl | ⟨2, _⟩ => rfl | ⟨3, _⟩ => rfl,
      show ridx_main_v53 (ix4 0 h t d) k = ix4 0 h k d from by funext a; match a with | ⟨0, _⟩ => rfl | ⟨1, _⟩ => rfl | ⟨2, _⟩ => rfl | ⟨3, _⟩ => rfl,
      v51_ok H, v7_ok H, EReal.coe_mul]
  rw [Finset.sum_congr rfl fun k _ => e k, coe_sum]
  congr 1

theorem v52_ok (H : Inputs x0 x1 Q K V O) (h : Fin 16) (t : Fin 2048) (d : Fin 128) :
    val_main_v52 (F := Ideal) x0 x1 (ix4 0 h t d) = ((∑ k ∈ Finset.range 2048, dzf (hd h Q) (hd h K) (hd h V) (hd h O) k t * hd h Q k d : ℝ) : EReal) := by
  rw [val_main_v52_apply]
  have e : ∀ k : Fin 2048, val_main_v51 (F := Ideal) x0 x1 (lidx_main_v52 (ix4 0 h t d) k) * val_main_v5 (F := Ideal) x0 (ridx_main_v52 (ix4 0 h t d) k)
      = (((dzf (hd h Q) (hd h K) (hd h V) (hd h O) k t * hd h Q k d) : ℝ) : EReal) := fun k => by
    rw [show lidx_main_v52 (ix4 0 h t d) k = ix4 0 h k t from by funext a; match a with | ⟨0, _⟩ => rfl | ⟨1, _⟩ => rfl | ⟨2, _⟩ => rfl | ⟨3, _⟩ => rfl,
      show ridx_main_v52 (ix4 0 h t d) k = ix4 0 h k d from by funext a; match a with | ⟨0, _⟩ => rfl | ⟨1, _⟩ => rfl | ⟨2, _⟩ => rfl | ⟨3, _⟩ => rfl,
      v51_ok H, v5_ok H, EReal.coe_mul]
  rw [Finset.sum_congr rfl fun k _ => e k, coe_sum]
  congr 1

theorem v37_ok (H : Inputs x0 x1 Q K V O) (h : Fin 16) (t : Fin 2048) (d : Fin 128) :
    val_main_v37 (F := Ideal) x0 x1 (ix4 0 h d t) = ((∑ k ∈ Finset.range 2048, hd h O k d * A (zh h Q K) k t : ℝ) : EReal) := by
  rw [val_main_v37_apply]
  have e : ∀ k : Fin 2048, val_main_v36 (F := Ideal) x1 (lidx_main_v37 (ix4 0 h d t) k) * val_main_v30_0 (F := Ideal) x0 (ridx_main_v37 (ix4 0 h d t) k)
      = (((hd h O k d * A (zh h Q K) k t) : ℝ) : EReal) := fun k => by
    rw [show lidx_main_v37 (ix4 0 h d t) k = ix4 0 h k d from by funext a; match a with | ⟨0, _⟩ => rfl | ⟨1, _⟩ => rfl | ⟨2, _⟩ => rfl | ⟨3, _⟩ => rfl,
      show ridx_main_v37 (ix4 0 h d t) k = ix4 0 h k t from by funext a; match a with | ⟨0, _⟩ => rfl | ⟨1, _⟩ => rfl | ⟨2, _⟩ => rfl | ⟨3, _⟩ => rfl,
      v36_ok H, v30_0_ok H, EReal.coe_mul]
  rw [Finset.sum_congr rfl fun k _ => e k, coe_sum]
  congr 1

theorem v60_ok (H : Inputs x0 x1 Q K V O) (t n : Fin 2048) :
    val_main_v60 (F := Ideal) x0 x1 (ix2 t n) = ((gradQ Q K V O t n : ℝ) : EReal) := by
  have ht := t.isLt
  have hn := n.isLt
  rw [val_main_v60_apply, val_main_v59_apply, val_main_v58_apply]
  refine Eq.trans (congrArg (val_main_v53 (F := Ideal) x0 x1) (?_ : _ = (ix4 0 ⟨n.val / 128, by omega⟩ t ⟨n.val % 128, by omega⟩))) (((v53_ok H _ t _).trans ?_))
  · funext a
    match a with
    | ⟨0, _⟩ => exact Fin.eq_zero _
    | ⟨1, _⟩ => exact Fin.ext (show (t.val * 2048 + n.val) / 128 % 16 = n.val / 128 by omega)
    | ⟨2, _⟩ => exact Fin.ext (show (t.val * 2048 + n.val) / 2048 % 2048 = t.val by omega)
    | ⟨3, _⟩ => exact Fin.ext (show (t.val * 2048 + n.val) % 128 = n.val % 128 by omega)
  · congr 1
    unfold gradQ
    refine Finset.sum_congr rfl fun k _ => ?_
    have en : 128 * (n.val / 128) + n.val % 128 = n.val := by omega
    exact congrArg (HMul.hMul _) (congrArg (K k) en)

theorem v61_ok (H : Inputs x0 x1 Q K V O) (t n : Fin 2048) :
    val_main_v61 (F := Ideal) x0 x1 (ix2 t n) = ((∑ k ∈ Finset.range 2048, gradK Q K V O k t n : ℝ) : EReal) := by
  have ht := t.isLt
  have hn := n.isLt
  rw [val_main_v61_apply, val_main_v57_apply, val_main_v56_apply]
  refine Eq.trans (congrArg (val_main_v52 (F := Ideal) x0 x1) (?_ : _ = (ix4 0 ⟨n.val / 128, by omega⟩ t ⟨n.val % 128, by omega⟩))) (((v52_ok H _ t _).trans ?_))
  · funext a
    match a with
    | ⟨0, _⟩ => exact Fin.eq_zero _
    | ⟨1, _⟩ => exact Fin.ext (show (t.val * 2048 + n.val) / 128 % 16 = n.val / 128 by omega)
    | ⟨2, _⟩ => exact Fin.ext (show (t.val * 2048 + n.val) / 2048 % 2048 = t.val by omega)
    | ⟨3, _⟩ => exact Fin.ext (show (t.val * 2048 + n.val) % 128 = n.val % 128 by omega)
  · congr 1
    unfold gradK
    refine Finset.sum_congr rfl fun k _ => ?_
    have en : 128 * (n.val / 128) + n.val % 128 = n.val := by omega
    exact congrArg (HMul.hMul _) (congrArg (Q k) en)

theorem v62_ok (H : Inputs x0 x1 Q K V O) (t n : Fin 2048) :
    val_main_v62 (F := Ideal) x0 x1 (ix2 t n) = ((∑ k ∈ Finset.range 2048, gradV Q K O k t n : ℝ) : EReal) := by
  have ht := t.isLt
  have hn := n.isLt
  rw [val_main_v62_apply, val_main_v55_apply, val_main_v54_apply, val_main_v38_apply]
  refine Eq.trans (congrArg (val_main_v37 (F := Ideal) x0 x1) (?_ : _ = (ix4 0 ⟨n.val / 128, by omega⟩ ⟨n.val % 128, by omega⟩ t))) (((v37_ok H _ t _).trans ?_))
  · funext a
    match a with
    | ⟨0, _⟩ => exact Fin.eq_zero _
    | ⟨1, _⟩ => exact Fin.ext (show (t.val * 2048 + n.val) / 128 % 16 = n.val / 128 by omega)
    | ⟨2, _⟩ => exact Fin.ext (show (t.val * 2048 + n.val) % 128 = n.val % 128 by omega)
    | ⟨3, _⟩ => exact Fin.ext (show (t.val * 2048 + n.val) / 2048 % 2048 = t.val by omega)
  · congr 1
    unfold gradV
    refine Finset.sum_congr rfl fun k _ => ?_
    have en : 128 * (n.val / 128) + n.val % 128 = n.val := by omega
    refine (mul_comm _ _).trans ?_
    exact congrArg (HMul.hMul _) (congrArg (O k) en)

end Cert.SB

end
-- ==== Proof.Host.lean ====
module

public import proofs.«01_k».proof.Proof.Reference
public import proofs.«01_k».proof.Proof.Grid
public import Idealize.ShloMosaic.Lib.StableHlo.ReadAt

/-! What each grid point is given, from the two arguments: the blocks of the windows, and the sums that the host takes. -/

@[expose] public section

set_option maxRecDepth 16384

noncomputable section

namespace Cert.KernelIdeal.Step

open Idealize.ShloMosaic Idealize.SL.Sem Cert.KernelIdeal.Gen

/-- The places of the logits below the diagonal. -/
def below : S1x16x2048x2048.Idx → BitVec 1 :=
  broadcastInDim S1x16x2048x2048 ![2, 3] bcast_S2048x2048_S1x16x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- `log (1 - β)` below the diagonal and zero elsewhere. -/
def hostKeep (x0 : S2048x6144.Idx → EReal) : S1x16x2048x2048.Idx → EReal :=
  select below (Cert.ReferenceIdeal.Read.val_main_v23_0 (F := Ideal) x0)
    (broadcastInDim S1x16x2048x2048 ![] bcast_S_S1x16x2048x2048 (constant (F := Ideal) S_ .f32 0x00000000#32))

/-- Its sums over the rows, as the host hands them to the kernel. -/
def hostSums (x0 : S2048x6144.Idx → EReal) : S16x2048x1.Idx → EReal :=
  broadcastInDim S16x2048x1 ![0, 1] bcast_S16x2048_S16x2048x1_0_1 (shapeCast S16x2048
    (Host.reduceAdd (F := Ideal) (φ := .f32) (hostKeep x0) (constant (F := Ideal) S_ .f32 0x00000000#32)
      reducesTo_S1x16x2048x2048_S1x16x2048_d3 h_S_) shapeCasts_S1x16x2048_S16x2048)

theorem V_row (m : (ℓ : Loc nD τ sig) → Buf (Elt Ideal) ℓ) (c : Dev nD) :
    V m c main_v22 = hostSums (m (c, Proc.devRef .tc main_arg0)) := by
  after_reads_simp
  simp -implicitDefEqProofs only [StableHlo.TRef.toBuf, StableHlo.TRef.ofBuf, cast_cast, cast_eq]
  rfl

open Cert.SB

theorem hostKeep_ok {x0 : S2048x6144.Idx → EReal} {x1 : S2048x2048.Idx → EReal} {Q K V O : ℕ → ℕ → ℝ} (H : Inputs x0 x1 Q K V O)
    (h : Fin 16) (t s : Fin 2048) : hostKeep x0 (ix4 0 h t s) = ((LK (zh h Q K) t s : ℝ) : EReal) := by
  have e : below (ix4 0 h t s) = if s.val < t.val then 1#1 else 0#1 := (show _ = _ from rfl).trans (lt_word t s t.isLt s.isLt)
  unfold hostKeep
  rw [show select below (Cert.ReferenceIdeal.Read.val_main_v23_0 (F := Ideal) x0) _ (ix4 0 h t s)
    = Scalar.select (below (ix4 0 h t s)) (Cert.ReferenceIdeal.Read.val_main_v23_0 (F := Ideal) x0 (ix4 0 h t s)) (Ideal.ofBits .f32 0x00000000#32) from rfl,
    e, select_if, v23_0_ok H, neg_sp, LK]
  split_ifs
  · rfl
  · exact Ideal.ofBits_zero_f32

theorem hostSums_ok {x0 : S2048x6144.Idx → EReal} {x1 : S2048x2048.Idx → EReal} {Q K V O : ℕ → ℕ → ℝ} (H : Inputs x0 x1 Q K V O)
    (h : Fin 16) (t : Fin 2048) : hostSums x0 (ix3 h t 0) = ((CT (zh h Q K) t : ℝ) : EReal) := by
  have e : hostSums x0 (ix3 h t 0) = Host.reduceAdd (F := Ideal) (φ := .f32) (hostKeep x0) (constant (F := Ideal) S_ .f32 0x00000000#32)
      reducesTo_S1x16x2048x2048_S1x16x2048_d3 h_S_ (ix3 0 h t) := by
    unfold hostSums
    generalize Host.reduceAdd (F := Ideal) (φ := .f32) (hostKeep x0) (constant (F := Ideal) S_ .f32 0x00000000#32)
      reducesTo_S1x16x2048x2048_S1x16x2048_d3 h_S_ = y
    pointwise
  rw [e]
  unfold Host.reduceAdd
  simp only [Ideal.hostReduceAdd_def]
  have hr : S1x16x2048x2048.Reduces [3] S1x16x2048 := by decide
  refine (Ideal.hostReduceAdd_single reducesTo_S1x16x2048x2048_S1x16x2048_d3 hr (hostKeep x0) _ _).trans ?_
  have el : ∀ k : Fin 2048, hostKeep x0 (hr.lift (ix3 0 h t) k) = ((LK (zh h Q K) t k : ℝ) : EReal) := fun k => by
    rw [show hr.lift (ix3 0 h t) k = ix4 0 h t k from by
      funext a; match a with | ⟨0, _⟩ => rfl | ⟨1, _⟩ => rfl | ⟨2, _⟩ => rfl | ⟨3, _⟩ => rfl, hostKeep_ok H]
  refine (congrArg₂ (· + ·) Ideal.ofBits_zero_f32 ((Finset.sum_congr rfl fun k _ => el k).trans (coe_sum _ _))).trans ?_
  rw [zero_add]
  exact congrArg (fun r : ℝ => (r : EReal)) (Fin.sum_univ_eq_sum_range (fun k => LK (zh h Q K) t k) 2048)

theorem blk4 (m : (ℓ : Loc nD τ sig) → Buf (Elt Ideal) ℓ) (c : Dev nD) (v : S16x2048x1.Idx → EReal) (hv : V m c main_v22 = v)
    (t : Fin cfg0.N) (y : S4x256x1.Idx) : iblk m c 4 t y = v (((cfg0.win 4).blk t).view.emb y) := by
  unfold iblk
  exact congrFun hv _

/-- The two arguments as the device `c` holds them. -/
abbrev InputsAt (m : (ℓ : Loc nD τ sig) → Buf (Elt Ideal) ℓ) (c : Dev nD) (Q K V O : ℕ → ℕ → ℝ) : Prop :=
  Inputs (m (c, Proc.devRef .tc main_arg0)) (m (c, Proc.devRef .tc main_arg1)) Q K V O

theorem block0 (m : (ℓ : Loc nD τ sig) → Buf (Elt Ideal) ℓ) (c : Dev nD) {Q K V O : ℕ → ℕ → ℝ} (H : InputsAt m c Q K V O)
    (t : Fin cfg0.N) (r : Fin 256) (n : Fin 512) :
    iblk m c 0 t (ix2 r n) = ((grp (t.val / 8) Q (256 * (t.val % 8) + r.val) n : ℝ) : EReal) := by
  have hN : t.val < 32 := t.isLt
  have i0 : win0_0.index t (0 : Fin 2) = t.val % 8 := (by decide +kernel : ∀ t : Fin grid0.N, win0_0.index t (0 : Fin 2) = t.val % 8) t
  have i1 : win0_0.index t (1 : Fin 2) = t.val / 8 := (by decide +kernel : ∀ t : Fin grid0.N, win0_0.index t (1 : Fin 2) = t.val / 8) t
  have hr := r.isLt
  have hn := n.isLt
  refine Eq.trans ?_ (H.q ⟨256 * (t.val % 8) + r.val, by omega⟩ (512 * (t.val / 8) + n.val) (by omega))
  refine (congrFun (V_main_arg0 m c) (((cfg0.win 0).blk t).view.emb (ix2 r n))).trans (congrArg (m (c, Proc.devRef .tc main_arg0)) ?_)
  funext a
  match a with
  | ⟨0, _⟩ => exact Fin.ext (show win0_0.index t (0 : Fin 2) * 256 + 1 * r.val = 256 * (t.val % 8) + r.val by omega)
  | ⟨1, _⟩ => exact Fin.ext (show win0_0.index t (1 : Fin 2) * 512 + 1 * n.val = 512 * (t.val / 8) + n.val by omega)

theorem block1 (m : (ℓ : Loc nD τ sig) → Buf (Elt Ideal) ℓ) (c : Dev nD) {Q K V O : ℕ → ℕ → ℝ} (H : InputsAt m c Q K V O)
    (t : Fin cfg0.N) (r : Fin 2048) (n : Fin 512) :
    iblk m c 1 t (ix2 r n) = ((grp (t.val / 8) K (r.val) n : ℝ) : EReal) := by
  have hN : t.val < 32 := t.isLt
  have i0 : win0_1.index t (0 : Fin 2) = 0 := (by decide +kernel : ∀ t : Fin grid0.N, win0_1.index t (0 : Fin 2) = 0) t
  have i1 : win0_1.index t (1 : Fin 2) = 4 + t.val / 8 := (by decide +kernel : ∀ t : Fin grid0.N, win0_1.index t (1 : Fin 2) = 4 + t.val / 8) t
  have hr := r.isLt
  have hn := n.isLt
  refine Eq.trans ?_ (H.k r (512 * (t.val / 8) + n.val) (by omega))
  refine (congrFun (V_main_arg0 m c) (((cfg0.win 1).blk t).view.emb (ix2 r n))).trans (congrArg (m (c, Proc.devRef .tc main_arg0)) ?_)
  funext a
  match a with
  | ⟨0, _⟩ => exact Fin.ext (show win0_1.index t (0 : Fin 2) * 2048 + 1 * r.val = r.val by omega)
  | ⟨1, _⟩ => exact Fin.ext (show win0_1.index t (1 : Fin 2) * 512 + 1 * n.val = 2048 + (512 * (t.val / 8) + n.val) by omega)

theorem block2 (m : (ℓ : Loc nD τ sig) → Buf (Elt Ideal) ℓ) (c : Dev nD) {Q K V O : ℕ → ℕ → ℝ} (H : InputsAt m c Q K V O)
    (t : Fin cfg0.N) (r : Fin 2048) (n : Fin 512) :
    iblk m c 2 t (ix2 r n) = ((grp (t.val / 8) V (r.val) n : ℝ) : EReal) := by
  have hN : t.val < 32 := t.isLt
  have i0 : win0_2.index t (0 : Fin 2) = 0 := (by decide +kernel : ∀ t : Fin grid0.N, win0_2.index t (0 : Fin 2) = 0) t
  have i1 : win0_2.index t (1 : Fin 2) = 8 + t.val / 8 := (by decide +kernel : ∀ t : Fin grid0.N, win0_2.index t (1 : Fin 2) = 8 + t.val / 8) t
  have hr := r.isLt
  have hn := n.isLt
  refine Eq.trans ?_ (H.v r (512 * (t.val / 8) + n.val) (by omega))
  refine (congrFun (V_main_arg0 m c) (((cfg0.win 2).blk t).view.emb (ix2 r n))).trans (congrArg (m (c, Proc.devRef .tc main_arg0)) ?_)
  funext a
  match a with
  | ⟨0, _⟩ => exact Fin.ext (show win0_2.index t (0 : Fin 2) * 2048 + 1 * r.val = r.val by omega)
  | ⟨1, _⟩ => exact Fin.ext (show win0_2.index t (1 : Fin 2) * 512 + 1 * n.val = 4096 + (512 * (t.val / 8) + n.val) by omega)

theorem block3 (m : (ℓ : Loc nD τ sig) → Buf (Elt Ideal) ℓ) (c : Dev nD) {Q K V O : ℕ → ℕ → ℝ} (H : InputsAt m c Q K V O)
    (t : Fin cfg0.N) (r : Fin 256) (n : Fin 512) :
    iblk m c 3 t (ix2 r n) = ((grp (t.val / 8) O (256 * (t.val % 8) + r.val) n : ℝ) : EReal) := by
  have hN : t.val < 32 := t.isLt
  have i0 : win0_3.index t (0 : Fin 2) = t.val % 8 := (by decide +kernel : ∀ t : Fin grid0.N, win0_3.index t (0 : Fin 2) = t.val % 8) t
  have i1 : win0_3.index t (1 : Fin 2) = t.val / 8 := (by decide +kernel : ∀ t : Fin grid0.N, win0_3.index t (1 : Fin 2) = t.val / 8) t
  have hr := r.isLt
  have hn := n.isLt
  refine Eq.trans ?_ (H.o ⟨256 * (t.val % 8) + r.val, by omega⟩ (512 * (t.val / 8) + n.val) (by omega))
  refine (congrFun (V_main_arg1 m c) (((cfg0.win 3).blk t).view.emb (ix2 r n))).trans (congrArg (m (c, Proc.devRef .tc main_arg1)) ?_)
  funext a
  match a with
  | ⟨0, _⟩ => exact Fin.ext (show win0_3.index t (0 : Fin 2) * 256 + 1 * r.val = 256 * (t.val % 8) + r.val by omega)
  | ⟨1, _⟩ => exact Fin.ext (show win0_3.index t (1 : Fin 2) * 512 + 1 * n.val = 512 * (t.val / 8) + n.val by omega)

theorem place4 (t : Fin cfg0.N) (g : Fin 4) (r : Fin 256) (hg : 4 * (t.val / 8) + g.val < 16) (hr : 256 * (t.val % 8) + r.val < 2048) :
    ((cfg0.win 4).blk t).view.emb (ix3 g r 0) = (ix3 ⟨4 * (t.val / 8) + g.val, hg⟩ ⟨256 * (t.val % 8) + r.val, hr⟩ 0 : S16x2048x1.Idx) := by
  have i40 : win0_4.index t (0 : Fin 3) = t.val / 8 := (by decide +kernel : ∀ t : Fin grid0.N, win0_4.index t (0 : Fin 3) = t.val / 8) t
  have i41 : win0_4.index t (1 : Fin 3) = t.val % 8 := (by decide +kernel : ∀ t : Fin grid0.N, win0_4.index t (1 : Fin 3) = t.val % 8) t
  funext a
  match a with
  | ⟨0, _⟩ => exact Fin.ext (show win0_4.index t (0 : Fin 3) * 4 + 1 * g.val = 4 * (t.val / 8) + g.val by omega)
  | ⟨1, _⟩ => exact Fin.ext (show win0_4.index t (1 : Fin 3) * 256 + 1 * r.val = 256 * (t.val % 8) + r.val by omega)
  | ⟨2, _⟩ => exact Fin.eq_zero _

theorem block4 (m : (ℓ : Loc nD τ sig) → Buf (Elt Ideal) ℓ) (c : Dev nD) {Q K V O : ℕ → ℕ → ℝ} (H : InputsAt m c Q K V O)
    (t : Fin cfg0.N) (g : Fin 4) (r : Fin 256) :
    iblk m c 4 t (ix3 g r 0)
      = ((CT (zf (hd g (grp (t.val / 8) Q)) (hd g (grp (t.val / 8) K))) (256 * (t.val % 8) + r) : ℝ) : EReal) := by
  have hN : t.val < 32 := t.isLt
  have hg := g.isLt
  have hr := r.isLt
  have eh : ∀ X, hd g.val (grp (t.val / 8) X) = hd (4 * (t.val / 8) + g.val) X := fun X => by
    funext t' d
    unfold hd grp
    congr 1
    omega
  rw [eh, eh]
  refine (blk4 m c _ (V_row m c) t (ix3 g r 0)).trans ?_
  refine (congrArg (hostSums (m (c, Proc.devRef .tc main_arg0))) (place4 t g r (by omega) (by omega))).trans ?_
  exact hostSums_ok H ⟨4 * (t.val / 8) + g.val, by omega⟩ ⟨256 * (t.val % 8) + r.val, by omega⟩

theorem given_ok (m : (ℓ : Loc nD τ sig) → Buf (Elt Ideal) ℓ) (c : Dev nD) {Q K V O : ℕ → ℕ → ℝ} (H : InputsAt m c Q K V O) :
    Given m c Q K V O := fun t =>
  ⟨block0 m c H t, block1 m c H t, block2 m c H t, block3 m c H t, block4 m c H t⟩

end Cert.KernelIdeal.Step

end
-- ==== Proof.SbFwd.lean ====
module

public import proofs.«01_k».proof.Proof.Gen.Kernel12Ideal.Frame
public import proofs.«01_k».proof.Proof.StepIdeal

/-! What the forward pass does with one head and one block of keys, and one trip of its loop over the
blocks left of the diagonal. Logits, logarithms and row sums are those of the backward pass. -/

@[expose] public section

set_option maxRecDepth 16384

noncomputable section

namespace Cert.Kernel12Ideal.Fwd

open Idealize.ShloMosaic Idealize.ShloMosaic.TcCoe Idealize.ShloMosaic.Tactic
open Cert.Kernel12Ideal.Gen Cert.KernelIdeal.Step

variable {F : FTy → Type} [FloatOps F] [Named F]

/-- The quantities of one head after the blocks right of a block of keys: the output so far and the sum
of `log keep`. -/
structure Acc (F : FTy → Type) where
  acc : FVec F S256x128 .f32
  run : FVec F S256x1 .f32

/-- A block of queries, keys and values and the triangle, as a head loads them. -/
structure Blk (F : FTy → Type) where
  q : Vec F S256x128 .bf16
  k : Vec F S256x128 .bf16
  v : Vec F S256x128 .bf16
  tri : Vec F S512x256 .bf16

/-- The logits of a block left of the diagonal. -/
def lgFull (b : Blk F) : Logits F := ⟨logit b.q b.k, logSig (logit b.q b.k), keep (logit b.q b.k)⟩

/-- The logits of the diagonal block. -/
def lgDiag (b : Blk F) : Logits F := ⟨logit b.q b.k, logSigD (logit b.q b.k), keepD (logit b.q b.k)⟩

/-- The weights of a block but for the factor of the blocks right of it. -/
def part (b : Blk F) (x : Logits F) : FVec F S256x256 .bf16 :=
  truncf .bf16 (exp (addf x.lsm (rowSums x.lk b.tri))) bitsLt_bf16_f32

/-- One block of keys. -/
def step (b : Blk F) (x : Logits F) (p : Acc F) : Acc F :=
  ⟨addf p.acc (mulf (broadcastTo S256x128 (exp p.run) broadcasts_S256x1_S256x128)
      (matmul dot_S256x256_S256x128_S256x128_1_0_0_1_n_n none (part b x) b.v
        (constant S256x128 .f32 0x00000000#32))),
    addSum p.run x.lk⟩

/-- What the loop carries: of each of the eight heads the output so far and the sum. -/
abbrev Carried (F : FTy → Type) : Type :=
  FVec F S256x128 .f32 × FVec F S256x1 .f32 × FVec F S256x128 .f32 × FVec F S256x1 .f32
  × FVec F S256x128 .f32 × FVec F S256x1 .f32 × FVec F S256x128 .f32 × FVec F S256x1 .f32
  × FVec F S256x128 .f32 × FVec F S256x1 .f32 × FVec F S256x128 .f32 × FVec F S256x1 .f32
  × FVec F S256x128 .f32 × FVec F S256x1 .f32 × FVec F S256x128 .f32 × FVec F S256x1 .f32

/-- The part of a head. -/
def car (a : Carried F) : Fin 8 → Acc F :=
  ![⟨a.1, a.2.1⟩, ⟨a.2.2.1, a.2.2.2.1⟩, ⟨a.2.2.2.2.1, a.2.2.2.2.2.1⟩, ⟨a.2.2.2.2.2.2.1, a.2.2.2.2.2.2.2.1⟩,
    ⟨a.2.2.2.2.2.2.2.2.1, a.2.2.2.2.2.2.2.2.2.1⟩, ⟨a.2.2.2.2.2.2.2.2.2.2.1, a.2.2.2.2.2.2.2.2.2.2.2.1⟩,
    ⟨a.2.2.2.2.2.2.2.2.2.2.2.2.1, a.2.2.2.2.2.2.2.2.2.2.2.2.2.1⟩,
    ⟨a.2.2.2.2.2.2.2.2.2.2.2.2.2.2.1, a.2.2.2.2.2.2.2.2.2.2.2.2.2.2.2⟩]

/-- The heads' parts together. -/
def pack (f : Fin 8 → Acc F) : Carried F :=
  ((f 0).acc, (f 0).run, (f 1).acc, (f 1).run, (f 2).acc, (f 2).run, (f 3).acc, (f 3).run,
    (f 4).acc, (f 4).run, (f 5).acc, (f 5).run, (f 6).acc, (f 6).run, (f 7).acc, (f 7).run)

theorem car_pack (f : Fin 8 → Acc F) : ∀ g, car (pack f) g = f g
  | 0 => rfl | 1 => rfl | 2 => rfl | 3 => rfl | 4 => rfl | 5 => rfl | 6 => rfl | 7 => rfl

/-- Where a head's columns of the query block begin. -/
def qOff (g : Fin 8) : Fin 2 → ℕ := ![0, 128 * g.val]

theorem qOff_inb (g : Fin 8) : ∀ a, qOff g a + S256x128.size a ≤ S256x1024.size a :=
  Fin.forall_fin_two.mpr ⟨show 0 + 256 ≤ 256 by omega, show 128 * g.val + 128 ≤ 1024 by omega⟩

/-- Where a head's keys and values begin, in a trip of the loop. -/
def kOff (i : grid0.Coords) (k : Fin (k0_t1_loop i).trips) : Fin 8 → Fin 2 → ℕ :=
  ![k0_off9 i k, k0_off10 i k, k0_off11 i k, k0_off12 i k, k0_off13 i k, k0_off14 i k, k0_off15 i k, k0_off16 i k]

theorem kOff_inb (i : grid0.Coords) (k : Fin (k0_t1_loop i).trips) :
    ∀ g a, kOff i k g a + S256x128.size a ≤ S2048x1024.size a
  | 0 => k0_off9_inb i k | 1 => k0_off10_inb i k | 2 => k0_off11_inb i k | 3 => k0_off12_inb i k
  | 4 => k0_off13_inb i k | 5 => k0_off14_inb i k | 6 => k0_off15_inb i k | 7 => k0_off16_inb i k

/-- And on the diagonal. -/
def dOff (i : grid0.Coords) : Fin 8 → Fin 2 → ℕ :=
  ![k0_off1 i, k0_off2 i, k0_off3 i, k0_off4 i, k0_off5 i, k0_off6 i, k0_off7 i, k0_off8 i]

theorem dOff_inb (i : grid0.Coords) : ∀ g a, dOff i g a + S256x128.size a ≤ S2048x1024.size a
  | 0 => k0_off1_inb i | 1 => k0_off2_inb i | 2 => k0_off3_inb i | 3 => k0_off4_inb i
  | 4 => k0_off5_inb i | 5 => k0_off6_inb i | 6 => k0_off7_inb i | 7 => k0_off8_inb i

/-- The block a head loads. -/
def blkAt (v2 : View sig .tc .vmem S256x1024 .bf16) (v3 v4 : View sig .tc .vmem S2048x1024 .bf16)
    (v7 : View sig .tc .vmem S512x256 .bf16) (X2 : v2.ty.Contents (Elt F)) (X3 : v3.ty.Contents (Elt F))
    (X4 : v4.ty.Contents (Elt F)) (X7 : v7.ty.Contents (Elt F)) (g : Fin 8) {off : Fin 2 → ℕ}
    (inb : ∀ a, off a + S256x128.size a ≤ S2048x1024.size a) : Blk F :=
  ⟨v2.readAt (Elt F) (Rect.unit (s := S256x1024) (qOff g) S256x128.size (qOff_inb g)).toLoadRect X2,
   v3.readAt (Elt F) (Rect.unit (s := S2048x1024) off S256x128.size inb).toLoadRect X3,
   v4.readAt (Elt F) (Rect.unit (s := S2048x1024) off S256x128.size inb).toLoadRect X4,
   v7.readAt (Elt F) (Rect.unit (s := S512x256) ![0, 0] S512x256.size inb_S512x256_S512x256_0_0).toLoadRect X7⟩

variable
  (c : Dev nD) (i : grid0.Coords) (arg2 : Memref sig .tc .vmem S256x1024 .bf16)
  (harg2 : arg2.IsWhole) (arg3 : Memref sig .tc .vmem S2048x1024 .bf16) (harg3 : arg3.IsWhole)
  (arg4 : Memref sig .tc .vmem S2048x1024 .bf16) (harg4 : arg4.IsWhole) (arg5 : Memref sig .tc .vmem S256x1024 .bf16)
  (harg5 : arg5.IsWhole) (arg6 : Memref sig .tc .vmem S8x256x1 .f32) (harg6 : arg6.IsWhole)
  (arg7 : Memref sig .tc .vmem S512x256 .bf16) (harg7 : arg7.IsWhole)

section
variable (𝒱 : Variants) (bd : Option 𝒱.V) (arg1 : BitVec 32) (v12 v13 : IVec S256x256 32)
  (v28 : FVec F S256x128 .f32) (v29 : FVec F S256x1 .f32) (v71 : FVec F S256x128 .f32) (v74 : FVec F S256x1 .f32)
  (v114 : FVec F S256x128 .f32) (v117 : FVec F S256x1 .f32) (v157 : FVec F S256x128 .f32) (v160 : FVec F S256x1 .f32)
  (v200 : FVec F S256x128 .f32) (v203 : FVec F S256x1 .f32) (v243 : FVec F S256x128 .f32) (v246 : FVec F S256x1 .f32)
  (v286 : FVec F S256x128 .f32) (v289 : FVec F S256x1 .f32) (v329 : FVec F S256x128 .f32) (v332 : FVec F S256x1 .f32)
  (v333 v335 v337 : Vec F S256x128 .bf16) (cst : FVec F S256x256 .f32)
  (X2 : BufTy.Contents (Elt F) arg2.view.ty) (X3 : BufTy.Contents (Elt F) arg3.view.ty)
  (X4 : BufTy.Contents (Elt F) arg4.view.ty) (X7 : BufTy.Contents (Elt F) arg7.view.ty)

/-- A trip of the loop: the same for each head. -/
theorem trip_eq (k : Fin (k0_t1_loop i).trips) (a : Carried F) :
    tripR_k0_t1 (F := F) 𝒱 c bd i arg2 harg2 arg3 harg3 arg4 harg4 arg5 harg5 arg6 harg6 arg7 harg7 arg1 v12 v13 v28
      v29 v71 v74 v114 v117 v157 v160 v200 v203 v243 v246 v286 v289 v329 v332 v333 v335 v337 cst X2 X3 X4 X7 k a
    = pack fun g =>
        let b : Blk F := blkAt arg2.view arg3.view arg4.view arg7.view X2 X3 X4 X7 g (kOff_inb i k g)
        step b (lgFull b) (car a g) := by
  dsimp only [tripR_k0_t1]
  unfold trip_k0_t1
  sl_unfold_words
  rfl

end

variable (x0 : Vec F S256x1024 .bf16) (x1 x2 : Vec F S2048x1024 .bf16)

/-- The stores of the triangle. -/
def triW : List (View.Piece (Elt F) S512x256 .bf16) :=
  [⟨Rect.unit (s := S512x256) ![256, 0] S256x256.size inb_S512x256_S256x256_256_0, k0_pay94⟩,
   ⟨Rect.unit (s := S512x256) ![0, 0] S256x256.size inb_S512x256_S256x256_0_0, k0_pay93⟩]

/-- The block of a head at a grid point. -/
def blk (g : Fin 8) {off : Fin 2 → ℕ} (inb : ∀ a, off a + S256x128.size a ≤ S2048x1024.size a) : Blk F :=
  blkAt arg2.view arg3.view arg4.view arg7.view (harg2.unread x0) (harg3.unread x1) (harg4.unread x2)
    (arg7.view.writes (Elt F) arg7.view.junk triW) g inb

/-- A head after the diagonal block. -/
def diag0 (g : Fin 8) : Acc F :=
  let b : Blk F := blk arg2 harg2 arg3 harg3 arg4 harg4 arg7 x0 x1 x2 g (dOff_inb i g)
  step b (lgDiag b)
    ⟨broadcast S256x128 (Scalar.ofBits .f32 0x00000000#32 : F .f32),
     broadcast S256x1 (Scalar.ofBits .f32 0x00000000#32 : F .f32)⟩

/-- What the loop leaves, after `n` trips from the diagonal block. -/
def IsLoop (n : ℕ) (w : Carried F) : Prop :=
  ∃ v12 v13 v28 v29 v71 v74 v114 v117 v157 v160 v200 v203 v243 v246 v286 v289 v329 v332 v333 v335 v337 cst init,
    init = pack (diag0 i arg2 harg2 arg3 harg3 arg4 harg4 arg7 x0 x1 x2)
    ∧ st_k0_t1 (F := F) Variants.none c none i arg2 harg2 arg3 harg3 arg4 harg4 arg5 harg5 arg6 harg6 arg7 harg7
      (BitVec.ofNat 32 ↑(i 1)) v12 v13 v28 v29 v71 v74 v114 v117 v157 v160 v200 v203 v243 v246 v286 v289 v329 v332
      v333 v335 v337 cst (harg2.unread x0) (harg3.unread x1) (harg4.unread x2)
      (arg7.view.writes (Elt F) arg7.view.junk triW) init n = w

/-- The heads' stores of the output. -/
def outO (f : Fin 8 → Acc F) : List (View.Piece (Elt F) S256x1024 .bf16) :=
  ([7, 6, 5, 4, 3, 2, 1, 0] : List (Fin 8)).map fun g =>
    ⟨Rect.unit (s := S256x1024) (qOff g) S256x128.size (qOff_inb g), truncf .bf16 (f g).acc bitsLt_bf16_f32⟩

theorem cOff_inb (g : Fin 8) : ∀ a, (![g.val, 0, 0] : Fin 3 → ℕ) a + S1x256x1.size a ≤ S8x256x1.size a
  | 0 => show g.val + 1 ≤ 8 by omega
  | 1 => show 0 + 256 ≤ 256 by omega
  | 2 => show 0 + 1 ≤ 1 by omega

/-- And of the row sums. -/
def outC (f : Fin 8 → Acc F) : List (View.Piece (Elt F) S8x256x1 .f32) :=
  ([7, 6, 5, 4, 3, 2, 1, 0] : List (Fin 8)).map fun g =>
    ⟨Rect.unit (s := S8x256x1) ![g.val, 0, 0] S1x256x1.size (cOff_inb g),
      shapeCast S1x256x1 (f g).run shapeCasts_S256x1_S1x256x1⟩

theorem trips1_all : ∀ n : Fin 8, Scf.trips (1#32 : BitVec 32)
    (Scalar.addi (1#32 : BitVec 32) (Scalar.muli (Scalar.divsi (Scalar.subi
      (Scalar.addi (BitVec.ofNat 32 n.val) 1#32) 1#32) 1#32) 1#32)) 1#32 = n.val := by decide

theorem trips1 (i : grid0.Coords) : Scf.trips (k0_t1_loop i).lb (k0_t1_loop i).ub (k0_t1_loop i).st = (i 1).val :=
  trips1_all (i 1)

theorem trips2_all : ∀ n : Fin 8, Scf.trips
    (Scalar.addi (1#32 : BitVec 32) (Scalar.muli (Scalar.divsi (Scalar.subi
      (Scalar.addi (BitVec.ofNat 32 n.val) 1#32) 1#32) 1#32) 1#32))
    (Scalar.addi (1#32 : BitVec 32) (Scalar.subi (Scalar.addi (BitVec.ofNat 32 n.val) 1#32) 1#32)) 1#32
      = 0 := by decide

theorem trips2 (i : grid0.Coords) : Scf.trips (k0_t2_loop i).lb (k0_t2_loop i).ub (k0_t2_loop i).st = 0 :=
  trips2_all (i 1)

set_option maxHeartbeats 2000000 in
theorem run_ok : ∃ w : Carried F,
    IsLoop c i arg2 harg2 arg3 harg3 arg4 harg4 arg5 harg5 arg6 harg6 arg7 harg7 x0 x1 x2 (i 1).val w
    ∧ (kernelRun0_A (F := F) c i arg2 harg2 arg3 harg3 arg4 harg4 arg5 harg5 arg6 harg6 arg7 harg7 x0 x1 x2).1 = outO (car w)
    ∧ (kernelRun0_A (F := F) c i arg2 harg2 arg3 harg3 arg4 harg4 arg5 harg5 arg6 harg6 arg7 harg7 x0 x1 x2).2.1 = outC (car w) := by
  unfold kernelRun0_A
  dsimp only
  simp only [kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36,
    kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51]
  generalize hw : st_k0_t1 (F := F) _ _ _ _ _ _ _ _ _ _ _ _ _ _ _ _ _ _ _ _ _ _ _ _ _ _ _ _ _ _ _ _ _ _ _ _ _ _ _ _ _ _ _ _ _ = w
  generalize hw2 : st_k0_t2 (F := F) _ _ _ _ _ _ _ _ _ _ _ _ _ _ _ _ _ _ _ _ _ _ _ _ _ _ _ _ _ _ _ _ _ _ _ _ _ _ _ _ = w2
  obtain rfl : w = w2 :=
    (congrArg (st_k0_t2 (F := F) _ _ _ _ _ _ _ _ _ _ _ _ _ _ _ _ _ _ _ _ _ _ _ _ _ _ _ _ _ _ _ _ _ _ _ _ _ _ _) (trips2 i)).symm.trans hw2
  refine ⟨w, ⟨_, _, _, _, _, _, _, _, _, _, _, _, _, _, _, _, _, _, _, _, _, _, _, ?_,
    (congrArg (st_k0_t1 (F := F) _ _ _ _ _ _ _ _ _ _ _ _ _ _ _ _ _ _ _ _ _ _ _ _ _ _ _ _ _ _ _ _ _ _ _ _ _ _ _ _ _ _ _ _) (trips1 i)).symm.trans hw⟩, rfl, rfl⟩
  rfl

end Cert.Kernel12Ideal.Fwd

end
-- ==== Proof.SbFwdIdeal.lean ====
module

public import proofs.«01_k».proof.Proof.SbFwd
public import proofs.«01_k».proof.Proof.Point

/-! The forward pass over the reals: from the blocks a grid point is given to the two blocks it leaves. -/

@[expose] public section

set_option maxRecDepth 16384

noncomputable section

namespace Cert.Kernel12Ideal.Fwd

open Idealize.ShloMosaic Idealize.ShloMosaic.TcCoe
open Cert.Kernel12Ideal.Gen Cert.KernelIdeal.Step Cert.SB

variable (Q K V : ℕ → ℕ → ℝ) (i j : ℕ)

/-- The queries are the query block's, keys and values the key block's, the triangle is one. -/
structure BlkOk (b : Blk Ideal) : Prop where
  q : ∀ (r : Fin 256) (d : Fin 128), b.q (ix2 r d) = ((Q (256 * i + r) d : ℝ) : EReal)
  k : ∀ (r : Fin 256) (d : Fin 128), b.k (ix2 r d) = ((K (256 * j + r) d : ℝ) : EReal)
  v : ∀ (r : Fin 256) (d : Fin 128), b.v (ix2 r d) = ((V (256 * j + r) d : ℝ) : EReal)
  tri : IsTri (fun a c => c < a) b.tri

/-- The output of a query, as far as the keys from block `j` on give it. -/
def outFrom (t d : ℕ) : ℝ := ∑ s ∈ Finset.Ico (256 * j) 2048, A (zf Q K) t s * V s d

/-- The sum of `log keep` over the same keys. -/
def runFrom (t : ℕ) : ℝ := ∑ s ∈ Finset.Ico (256 * j) 2048, LK (zf Q K) t s

/-- The quantities carried are those of the keys from block `j` on. -/
structure AccOk (p : Acc Ideal) : Prop where
  acc : ∀ (r : Fin 256) (d : Fin 128), p.acc (ix2 r d) = ((outFrom Q K V j (256 * i + r) d : ℝ) : EReal)
  run : ∀ r : Fin 256, p.run (ix2 r 0) = ((runFrom Q K j (256 * i + r) : ℝ) : EReal)

variable {Q K V i j} {b : Blk Ideal} {x : Logits Ideal} {p : Acc Ideal}

theorem lgFull_ok (hb : BlkOk Q K V i j b) (hij : j < i) : LogitsOk Q K i j (lgFull b) := by
  have hz := logit_coe b.q b.k Q K i j hb.q hb.k
  refine ⟨hz, fun r c => ?_, fun r c => ?_⟩
  · rw [if_pos (by omega)]
    exact logSig_coe _ r c _ (hz r c)
  · rw [LK, if_pos (by omega)]
    exact keep_coe _ r c _ (hz r c)

theorem lgDiag_ok (hb : BlkOk Q K V i i b) : LogitsOk Q K i i (lgDiag b) := by
  have hz := logit_coe b.q b.k Q K i i hb.q hb.k
  refine ⟨hz, fun r c => ?_, fun r c => ?_⟩
  · simp only [Nat.add_lt_add_iff_left]
    exact logSigD_coe _ r c _ (hz r c)
  · simp only [LK, Nat.add_lt_add_iff_left]
    exact keepD_coe _ r c _ (hz r c)

/-- A sum from block `j` on, one block off. -/
theorem sum_from_block (f : ℕ → ℝ) (hj : j < 8) :
    ∑ s ∈ Finset.Ico (256 * j) 2048, f s
      = ∑ a : Fin 256, f (256 * j + a) + ∑ s ∈ Finset.Ico (256 * (j + 1)) 2048, f s := by
  rw [← Finset.sum_Ico_consecutive f (show 256 * j ≤ 256 * (j + 1) by omega) (by omega), Finset.sum_Ico_eq_sum_range,
    show 256 * (j + 1) - 256 * j = 256 by omega, Fin.sum_univ_eq_sum_range (fun a => f (256 * j + a)) 256]

/-- What follows a key of block `j`: the rest of the block and the blocks after. -/
theorem sum_after (f : ℕ → ℝ) (hj : j < 8) (c : Fin 256) :
    ∑ s ∈ Finset.range 2048, f s - ∑ s ∈ Finset.range (256 * j + c + 1), f s
      = ∑ a : Fin 256, (if c.val < a.val then f (256 * j + a) else 0) + ∑ s ∈ Finset.Ico (256 * (j + 1)) 2048, f s := by
  have h1 := Finset.sum_range_add_sum_Ico f (show 256 * j ≤ 2048 by omega)
  have h2 := Finset.sum_range_add f (256 * j) (c.val + 1)
  have h3 := sum_fin_le (fun a => f (256 * j + a)) c.isLt
  have h4 : ∑ a : Fin 256, f (256 * j + a)
      = ∑ a : Fin 256, (if a.val ≤ c.val then f (256 * j + a) else 0)
        + ∑ a : Fin 256, (if c.val < a.val then f (256 * j + a) else 0) := by
    rw [← Finset.sum_add_distrib]
    refine Finset.sum_congr rfl fun a _ => ?_
    by_cases h : a.val ≤ c.val
    · rw [if_pos h, if_neg (by omega), add_zero]
    · rw [if_neg h, if_pos (by omega), zero_add]
  rw [sum_from_block f hj] at h1
  rw [add_assoc (256 * j), ← h1, h2, h4, h3]
  ring

theorem part_ok (hb : BlkOk Q K V i j b) (hx : LogitsOk Q K i j x) (r c : Fin 256) :
    part b x (ix2 r c) = ((if 256 * j + c.val < 256 * i + r.val then
      Real.exp (lsm (zf Q K (256 * i + r) (256 * j + c))
        + ∑ a : Fin 256, if c.val < a.val then LK (zf Q K) (256 * i + r) (256 * j + a) else 0) else 0 : ℝ) : EReal) := by
  have e : part b x (ix2 r c) = Ideal.exp (x.lsm (ix2 r c) + rowSums (F := Ideal) x.lk b.tri (ix2 r c)) := by
    pointwise [part]
  rw [e, rowSums_coe x.lk b.tri (fun a c => c < a) hb.tri r c (fun s => LK (zf Q K) (256 * i + r) (256 * j + s)) (hx.lk r), hx.lsm]
  split
  · rw [← EReal.coe_add, Ideal.exp_coe]
  · rw [EReal.bot_add]
    rfl

theorem step_ok (hj : j < 8) (hb : BlkOk Q K V i j b) (hx : LogitsOk Q K i j x) (hp : AccOk Q K V i (j + 1) p) :
    AccOk Q K V i j (step b x p) := by
  refine ⟨fun r d => ?_, fun r => ?_⟩
  · have e : (step b x p).acc (ix2 r d)
        = p.acc (ix2 r d) + Ideal.exp (p.run (ix2 r 0)) * ∑ a : Fin 256, part b x (ix2 r a) * b.v (ix2 a d) := by
      pointwise [step]
    rw [e, hp.acc, hp.run, Ideal.exp_coe, Finset.sum_congr rfl fun a _ => by rw [part_ok hb hx, hb.v, ← EReal.coe_mul],
      coe_sum, ← EReal.coe_mul, ← EReal.coe_add, outFrom, outFrom, sum_from_block _ hj, add_comm, Finset.mul_sum]
    congr 2
    refine Finset.sum_congr rfl fun a _ => ?_
    rw [A, ← mul_assoc]
    congr 1
    split
    · rw [← Real.exp_add, add_sub_assoc, CT, sum_after _ hj, runFrom]
      congr 1
      ring
    · rw [mul_zero]
  · refine (addSum_coe _ _ r).trans ?_
    rw [hp.run, Finset.sum_congr rfl fun a _ => hx.lk r a, coe_sum, ← EReal.coe_add, runFrom, runFrom, sum_from_block _ hj,
      add_comm]

/-- Before the diagonal block nothing has come in. -/
theorem start_ok (p : Acc Ideal) (h1 : ∀ (r : Fin 256) (d : Fin 128), p.acc (ix2 r d) = 0) (h2 : ∀ r : Fin 256, p.run (ix2 r 0) = 0) :
    AccOk Q K V i (i + 1) p := by
  refine ⟨fun r d => (h1 r d).trans ?_, fun r => (h2 r).trans ?_⟩
  · rw [outFrom, Finset.sum_eq_zero fun s hs => ?_, EReal.coe_zero]
    rw [Finset.mem_Ico] at hs
    rw [A, if_neg (by omega), zero_mul]
  · rw [runFrom, Finset.sum_eq_zero fun s hs => ?_, EReal.coe_zero]
    rw [Finset.mem_Ico] at hs
    rw [LK, if_neg (by omega)]

end Cert.Kernel12Ideal.Fwd

end
-- ==== Proof.SbFwdPoint.lean ====
module

public import proofs.«01_k».proof.Proof.SbFwdIdeal

/-! A grid point of the forward pass over the reals: what the loop has after so many trips, and the two blocks stored. -/

@[expose] public section

set_option maxRecDepth 16384

noncomputable section

namespace Cert.Kernel12Ideal.Fwd

open Idealize.ShloMosaic Idealize.ShloMosaic.TcCoe
open Cert.Kernel12Ideal.Gen Cert.SB
open Cert.KernelIdeal.Step (IsTri hd toInt_small zf)

theorem pay92_apply (r c : Fin 256) :
    k0_pay92 (F := Ideal) (ix2 r c) = if c.val < r.val then ((1 : ℝ) : EReal) else ((0 : ℝ) : EReal) := by
  have h : k0_pay92 (F := Ideal) (ix2 r c)
      = FloatOps.sitofp (F := Ideal) .f32 ((IntOp.cmpi CmpIPredicate.sgt (BitVec.ofNat 32 ↑r) (BitVec.ofNat 32 ↑c)).setWidth 32) := by
    pointwise [k0_pay92]
  rw [h]
  simp only [IntOp.cmpi, BitVec.slt, toInt_small _ r.isLt, toInt_small _ c.isLt]
  by_cases hlt : c.val < r.val <;> simp [hlt, FloatOps.sitofp]

theorem pay93_apply (r c : Fin 256) : k0_pay93 (F := Ideal) (ix2 r c) = k0_pay92 (F := Ideal) (ix2 r c) := by
  pointwise [k0_pay93]

theorem pay94_apply (r c : Fin 256) : k0_pay94 (F := Ideal) (ix2 r c) = k0_pay92 (F := Ideal) (ix2 r c) := by
  pointwise [k0_pay94]

theorem triW_ok (v : View sig .tc .vmem S512x256 .bf16) (f : v.ty.Contents (Elt Ideal)) :
    IsTri (fun a c => c < a) (v.read (Elt Ideal) (v.writes (Elt Ideal) f triW)) := fun x c => by
  have hx := x.isLt
  have h : v.read (Elt Ideal) (v.writes (Elt Ideal) f triW) (ix2 x c)
      = k0_pay92 (F := Ideal) (ix2 ⟨x.val % 256, Nat.mod_lt _ (by decide)⟩ c) := by
    by_cases hx' : 256 ≤ x.val
    · refine (View.read_writes_cons_unit_of_mem v f inb_S512x256_S256x256_256_0 _ _ (ix2 x c)
        (ix2 ⟨x.val % 256, Nat.mod_lt _ (by decide)⟩ c) rfl (Fin.forall_fin_two.mpr
        ⟨show x.val = 256 + x.val % 256 by omega, show c.val = 0 + c.val by omega⟩)).trans (pay94_apply _ _)
    · refine (View.read_writes_cons_unit_of_not_mem v f inb_S512x256_S256x256_256_0 _ _ (ix2 x c) rfl 0
        (show x.val < 256 ∨ 256 + 256 ≤ x.val by omega)).trans ?_
      exact (View.read_writes_cons_unit_of_mem v f inb_S512x256_S256x256_0_0 _ _ (ix2 x c)
        (ix2 ⟨x.val % 256, Nat.mod_lt _ (by decide)⟩ c) rfl (Fin.forall_fin_two.mpr
        ⟨show x.val = 0 + x.val % 256 by omega, show c.val = 0 + c.val by omega⟩)).trans (pay93_apply _ _)
  rw [pay92_apply] at h
  exact ⟨fun hp => h.trans (if_pos hp), fun hp => h.trans (if_neg hp)⟩

theorem iv_all : ∀ n k : Fin 8, k < n → (Scalar.indexCast (Scalar.muli (Scalar.subi (BitVec.ofNat 32 n.val)
    (Scf.iv (1#32 : BitVec 32) 1#32 k.val)) 256#32) : Index).toNat = 256 * (n.val - 1 - k.val) := by decide

theorem diag_all : ∀ n : Fin 8, (Scalar.indexCast (Scalar.muli (BitVec.ofNat 32 n.val) 256#32) : Index).toNat = 256 * n.val := by
  decide

theorem kOff_eq (i : grid0.Coords) (k : Fin (k0_t1_loop i).trips) (g : Fin 8) :
    kOff i k g = ![256 * ((i 1).val - 1 - k.val), 128 * g.val] := by
  have hk : k.val < (i 1).val := Nat.lt_of_lt_of_eq k.isLt (trips1 i)
  have h8 : (i 1).val < 8 := (i 1).isLt
  have h := iv_all (i 1) ⟨k.val, by omega⟩ hk
  match g with
  | 0 => exact congrArg (fun x => ![x, 128 * 0]) h
  | 1 => exact congrArg (fun x => ![x, 128 * 1]) h
  | 2 => exact congrArg (fun x => ![x, 128 * 2]) h
  | 3 => exact congrArg (fun x => ![x, 128 * 3]) h
  | 4 => exact congrArg (fun x => ![x, 128 * 4]) h
  | 5 => exact congrArg (fun x => ![x, 128 * 5]) h
  | 6 => exact congrArg (fun x => ![x, 128 * 6]) h
  | 7 => exact congrArg (fun x => ![x, 128 * 7]) h

theorem dOff_eq (i : grid0.Coords) (g : Fin 8) : dOff i g = ![256 * (i 1).val, 128 * g.val] := by
  have h := diag_all (i 1)
  match g with
  | 0 => exact congrArg (fun x => ![x, 128 * 0]) h
  | 1 => exact congrArg (fun x => ![x, 128 * 1]) h
  | 2 => exact congrArg (fun x => ![x, 128 * 2]) h
  | 3 => exact congrArg (fun x => ![x, 128 * 3]) h
  | 4 => exact congrArg (fun x => ![x, 128 * 4]) h
  | 5 => exact congrArg (fun x => ![x, 128 * 5]) h
  | 6 => exact congrArg (fun x => ![x, 128 * 6]) h
  | 7 => exact congrArg (fun x => ![x, 128 * 7]) h

/-- The buffer of eight heads holds the real numbers `X`. -/
def Holds (x : S2048x1024.Idx → EReal) (X : ℕ → ℕ → ℝ) : Prop :=
  ∀ (s : Fin 2048) (n : Fin 1024), x (ix2 s n) = ((X s n : ℝ) : EReal)

/-- What a grid point is given: a block of 256 queries and all keys and values, of eight heads. -/
structure InOk (Q K V : ℕ → ℕ → ℝ) (i : ℕ) (x0 : Vec Ideal S256x1024 .bf16) (x1 x2 : Vec Ideal S2048x1024 .bf16) : Prop where
  q : ∀ (r : Fin 256) (n : Fin 1024), x0 (ix2 r n) = ((Q (256 * i + r) n : ℝ) : EReal)
  k : Holds x1 K
  v : Holds x2 V

theorem read_keys (m : Memref sig .tc .vmem S2048x1024 .bf16) (hm : m.IsWhole) (x : Vec Ideal S2048x1024 .bf16)
    {X : ℕ → ℕ → ℝ} (hx : Holds x X) {off : Fin 2 → ℕ} {j g : ℕ} (inb : ∀ a, off a + S256x128.size a ≤ S2048x1024.size a)
    (ho : off = ![256 * j, 128 * g]) (r : Fin 256) (d : Fin 128) :
    m.view.readAt (Elt Ideal) (Rect.unit (s := S2048x1024) off S256x128.size inb).toLoadRect (hm.unread x) (ix2 r d)
      = ((hd g X (256 * j + r) d : ℝ) : EReal) := by
  subst ho
  have h0 : 256 * j + 256 ≤ 2048 := inb 0
  have h1 : 128 * g + 128 ≤ 1024 := inb 1
  refine Eq.trans ((hm.readAt_unread x _ _).trans (congrArg x (?_ : _ = ix2 ⟨256 * j + r.val, by omega⟩ ⟨128 * g + d.val, by omega⟩)))
    (hx ⟨256 * j + r.val, by omega⟩ ⟨128 * g + d.val, by omega⟩)
  exact funext (Fin.forall_fin_two.mpr
    ⟨Fin.ext (show 256 * j + 1 * r.val = 256 * j + r.val by omega),
      Fin.ext (show 128 * g + 1 * d.val = 128 * g + d.val by omega)⟩)

theorem read_queries (m : Memref sig .tc .vmem S256x1024 .bf16) (hm : m.IsWhole) (x : Vec Ideal S256x1024 .bf16)
    {X : ℕ → ℕ → ℝ} {i : ℕ} (hx : ∀ (r : Fin 256) (n : Fin 1024), x (ix2 r n) = ((X (256 * i + r) n : ℝ) : EReal)) (g : Fin 8)
    (r : Fin 256) (d : Fin 128) :
    m.view.readAt (Elt Ideal) (Rect.unit (s := S256x1024) (qOff g) S256x128.size (qOff_inb g)).toLoadRect (hm.unread x) (ix2 r d)
      = ((hd g X (256 * i + r) d : ℝ) : EReal) := by
  refine Eq.trans ((hm.readAt_unread x _ _).trans (congrArg x (?_ : _ = ix2 r ⟨128 * g.val + d.val, by omega⟩)))
    (hx r ⟨128 * g.val + d.val, by omega⟩)
  exact funext (Fin.forall_fin_two.mpr
    ⟨Fin.ext (show 0 + 1 * r.val = r.val by omega),
      Fin.ext (show 128 * g.val + 1 * d.val = 128 * g.val + d.val by omega)⟩)

section
variable
  (c : Dev nD) (i : grid0.Coords) (arg2 : Memref sig .tc .vmem S256x1024 .bf16)
  (harg2 : arg2.IsWhole) (arg3 : Memref sig .tc .vmem S2048x1024 .bf16) (harg3 : arg3.IsWhole)
  (arg4 : Memref sig .tc .vmem S2048x1024 .bf16) (harg4 : arg4.IsWhole) (arg5 : Memref sig .tc .vmem S256x1024 .bf16)
  (harg5 : arg5.IsWhole) (arg6 : Memref sig .tc .vmem S8x256x1 .f32) (harg6 : arg6.IsWhole)
  (arg7 : Memref sig .tc .vmem S512x256 .bf16) (harg7 : arg7.IsWhole)
  (x0 : Vec Ideal S256x1024 .bf16) (x1 x2 : Vec Ideal S2048x1024 .bf16)
  {Q K V : ℕ → ℕ → ℝ}

theorem blk_ok {i j : ℕ} (h : InOk Q K V i x0 x1 x2) (g : Fin 8) {off : Fin 2 → ℕ}
    (inb : ∀ a, off a + S256x128.size a ≤ S2048x1024.size a) (ho : off = ![256 * j, 128 * g.val]) :
    BlkOk (hd g Q) (hd g K) (hd g V) i j (blk arg2 harg2 arg3 harg3 arg4 harg4 arg7 x0 x1 x2 g inb) :=
  ⟨read_queries arg2 harg2 x0 h.q g,
   read_keys arg3 harg3 x1 h.k inb ho, read_keys arg4 harg4 x2 h.v inb ho,
   by
     show IsTri _ (arg7.view.readAt (Elt Ideal) (Rect.unit (s := S512x256) ![0, 0] S512x256.size
       inb_S512x256_S512x256_0_0).toLoadRect _)
     rw [View.readAt_full]
     exact triW_ok _ _⟩

theorem diag0_ok (h : InOk Q K V (i 1).val x0 x1 x2) (g : Fin 8) :
    AccOk (hd g Q) (hd g K) (hd g V) (i 1).val (i 1).val (diag0 i arg2 harg2 arg3 harg3 arg4 harg4 arg7 x0 x1 x2 g) := by
  have hb := blk_ok arg2 harg2 arg3 harg3 arg4 harg4 arg7 x0 x1 x2 h g (dOff_inb i g) (dOff_eq i g)
  exact step_ok (i 1).isLt hb (lgDiag_ok hb) (start_ok _ (fun _ _ => Ideal.ofBits_zero_f32) fun _ => Ideal.ofBits_zero_f32)

theorem loop_ok (h : InOk Q K V (i 1).val x0 x1 x2) (n : ℕ) : n ≤ (i 1).val → ∀ w : Carried Ideal,
    IsLoop c i arg2 harg2 arg3 harg3 arg4 harg4 arg5 harg5 arg6 harg6 arg7 harg7 x0 x1 x2 n w →
    ∀ g : Fin 8, AccOk (hd g Q) (hd g K) (hd g V) (i 1).val ((i 1).val - n) (car w g) := by
  induction n with
  | zero =>
    rintro - w ⟨v12, v13, v28, v29, v71, v74, v114, v117, v157, v160, v200, v203, v243, v246, v286, v289, v329, v332,
      v333, v335, v337, cst, init, hi, hw⟩ g
    rw [st_k0_t1_zero] at hw
    rw [← hw, hi, car_pack]
    exact diag0_ok i arg2 harg2 arg3 harg3 arg4 harg4 arg7 x0 x1 x2 h g
  | succ n ih =>
    rintro hn w ⟨v12, v13, v28, v29, v71, v74, v114, v117, v157, v160, v200, v203, v243, v246, v286, v289, v329, v332,
      v333, v335, v337, cst, init, hi, hw⟩ g
    have h8 : (i 1).val < 8 := (i 1).isLt
    have hk : n < (k0_t1_loop i).trips := Nat.lt_of_lt_of_eq hn (trips1 i).symm
    have hp := ih (by omega) _ ⟨v12, v13, v28, v29, v71, v74, v114, v117, v157, v160, v200, v203, v243, v246, v286, v289,
      v329, v332, v333, v335, v337, cst, init, hi, rfl⟩ g
    have e := st_k0_t1_succ (F := Ideal) Variants.none c none i arg2 harg2 arg3 harg3 arg4 harg4 arg5 harg5 arg6 harg6 arg7 harg7
      (BitVec.ofNat 32 ↑(i 1)) v12 v13 v28 v29 v71 v74 v114 v117 v157 v160 v200 v203 v243 v246 v286 v289 v329 v332
      v333 v335 v337 cst (harg2.unread x0) (harg3.unread x1) (harg4.unread x2)
      (arg7.view.writes (Elt Ideal) arg7.view.junk triW) init ⟨n, hk⟩
    have hb := blk_ok arg2 harg2 arg3 harg3 arg4 harg4 arg7 x0 x1 x2 h g (kOff_inb i ⟨n, hk⟩ g) (kOff_eq i ⟨n, hk⟩ g)
    rw [← hw, e, trip_eq, car_pack]
    have es : (i 1).val - n = (i 1).val - 1 - n + 1 := by omega
    rw [es] at hp
    rw [show (i 1).val - (n + 1) = (i 1).val - 1 - n by omega]
    exact step_ok (by omega) hb (lgFull_ok hb (show (i 1).val - 1 - n < (i 1).val by omega)) hp

/-- Stores of 128 columns over a block of 1024. -/
theorem put_heads (v : View sig .tc .vmem S256x1024 .bf16) (f : v.ty.Contents (Elt Ideal)) (w : Fin 8 → Vec Ideal S256x128 .bf16)
    (r : Fin 256) (n : Fin 1024) (g : Fin 8) (hg : n.val / 128 = g.val) (l : List (Fin 8)) (hl : g ∈ l) :
    v.read (Elt Ideal) (v.writes (Elt Ideal) f (l.map fun g =>
      (⟨Rect.unit (s := S256x1024) (qOff g) S256x128.size (qOff_inb g), w g⟩ : View.Piece (Elt Ideal) S256x1024 .bf16))) (ix2 r n)
      = w g (ix2 r ⟨n.val % 128, Nat.mod_lt _ (by decide)⟩) := by
  induction l with
  | nil => cases hl
  | cons a l ih =>
    rw [List.map_cons]
    by_cases ha : g = a
    · subst ha
      exact View.read_writes_cons_unit_of_mem v f (qOff_inb g) (w g) _ (ix2 r n) _ rfl (Fin.forall_fin_two.mpr
        ⟨show r.val = 0 + r.val by omega, show n.val = 128 * g.val + n.val % 128 by omega⟩)
    · have hne : g.val ≠ a.val := fun h => ha (Fin.ext h)
      exact (View.read_writes_cons_unit_of_not_mem v f (qOff_inb a) (w a) _ (ix2 r n) rfl 1
        (show n.val < 128 * a.val ∨ 128 * a.val + 128 ≤ n.val by omega)).trans
        (ih ((List.mem_cons.mp hl).resolve_left ha))

/-- Stores of a head each. -/
theorem put_sums (v : View sig .tc .vmem S8x256x1 .f32) (f : v.ty.Contents (Elt Ideal)) (w : Fin 8 → Vec Ideal S1x256x1 .f32)
    (r : Fin 256) (g : Fin 8) (l : List (Fin 8)) (hl : g ∈ l) :
    v.read (Elt Ideal) (v.writes (Elt Ideal) f (l.map fun g =>
      (⟨Rect.unit (s := S8x256x1) ![g.val, 0, 0] S1x256x1.size (cOff_inb g), w g⟩ : View.Piece (Elt Ideal) S8x256x1 .f32))) (ix3 g r 0)
      = w g (ix3 0 r 0) := by
  induction l with
  | nil => cases hl
  | cons a l ih =>
    rw [List.map_cons]
    by_cases ha : g = a
    · subst ha
      exact View.read_writes_cons_unit_of_mem v f (cOff_inb g) (w g) _ (ix3 g r 0) _ rfl (Fin.forall_fin_succ.mpr
        ⟨show g.val = g.val + 0 by omega, Fin.forall_fin_two.mpr
        ⟨show r.val = 0 + r.val by omega, show 0 = 0 + 0 by omega⟩⟩)
    · have hne : g.val ≠ a.val := fun h => ha (Fin.ext h)
      exact (View.read_writes_cons_unit_of_not_mem v f (cOff_inb a) (w a) _ (ix3 g r 0) rfl 0
        (show g.val < a.val ∨ a.val + 1 ≤ g.val by omega)).trans
        (ih ((List.mem_cons.mp hl).resolve_left ha))

theorem all_heads : ∀ g : Fin 8, g ∈ ([7, 6, 5, 4, 3, 2, 1, 0] : List (Fin 8)) := by decide

/-- The output of a query, all keys together. -/
def outAll (Q K V : ℕ → ℕ → ℝ) (t n : ℕ) : ℝ :=
  ∑ s ∈ Finset.range 2048, A (zf (hd (n / 128) Q) (hd (n / 128) K)) t s * V s n

theorem out3_ok (h : InOk Q K V (i 1).val x0 x1 x2) (r : Fin 256) (n : Fin 1024) :
    out0_A_3 (F := Ideal) c i arg2 harg2 arg3 harg3 arg4 harg4 arg5 harg5 arg6 harg6 arg7 harg7 x0 x1 x2 (ix2 r n)
      = ((outAll Q K V (256 * (i 1).val + r) n : ℝ) : EReal) := by
  obtain ⟨w, hl, ho, -⟩ := run_ok (F := Ideal) c i arg2 harg2 arg3 harg3 arg4 harg4 arg5 harg5 arg6 harg6 arg7 harg7 x0 x1 x2
  have hn := n.isLt
  have hw := (loop_ok c i arg2 harg2 arg3 harg3 arg4 harg4 arg5 harg5 arg6 harg6 arg7 harg7 x0 x1 x2 h _ le_rfl w hl
    ⟨n.val / 128, by omega⟩).acc r ⟨n.val % 128, Nat.mod_lt _ (by decide)⟩
  unfold out0_A_3
  rw [ho]
  refine (put_heads VO0_3 _ (fun g => truncf .bf16 (car w g).acc bitsLt_bf16_f32) r n ⟨n.val / 128, by omega⟩ rfl _ (all_heads _)).trans ?_
  refine Eq.trans ?_ (hw.trans ?_)
  · pointwise
  · rw [outFrom, Nat.sub_self, Nat.mul_zero, ← Finset.range_eq_Ico, outAll]
    congr 1
    refine Finset.sum_congr rfl fun s _ => ?_
    exact congrArg (fun m => A (zf (hd (n.val / 128) Q) (hd (n.val / 128) K)) (256 * (i 1).val + r) s * V s m)
      (show 128 * (n.val / 128) + n.val % 128 = n.val by omega)

theorem out4_ok (h : InOk Q K V (i 1).val x0 x1 x2) (g : Fin 8) (r : Fin 256) :
    out0_A_4 (F := Ideal) c i arg2 harg2 arg3 harg3 arg4 harg4 arg5 harg5 arg6 harg6 arg7 harg7 x0 x1 x2 (ix3 g r 0)
      = ((CT (zf (hd g Q) (hd g K)) (256 * (i 1).val + r) : ℝ) : EReal) := by
  obtain ⟨w, hl, -, ho⟩ := run_ok (F := Ideal) c i arg2 harg2 arg3 harg3 arg4 harg4 arg5 harg5 arg6 harg6 arg7 harg7 x0 x1 x2
  have hw := (loop_ok c i arg2 harg2 arg3 harg3 arg4 harg4 arg5 harg5 arg6 harg6 arg7 harg7 x0 x1 x2 h _ le_rfl w hl g).run r
  unfold out0_A_4
  rw [ho]
  refine (put_sums VO0_4 _ (fun g => shapeCast S1x256x1 (car w g).run shapeCasts_S256x1_S1x256x1) r g _ (all_heads g)).trans ?_
  refine Eq.trans ?_ (hw.trans ?_)
  · pointwise
  · rw [runFrom, Nat.sub_self, Nat.mul_zero, ← Finset.range_eq_Ico, CT]

end

end Cert.Kernel12Ideal.Fwd

end
-- ==== Proof.SbFwdReference.lean ====
module

public import proofs.«01_k».proof.Proof.Host
public import proofs.«01_k».proof.Proof.SbFwdPoint
public import proofs.«01_k».proof.Proof.Gen.Reference12Ideal.Read

/-! The reference of the forward pass over the reals. Its weights and row sums are the ones that the reference of
the backward pass recomputes. -/

@[expose] public section

set_option maxRecDepth 16384

noncomputable section

namespace Cert.Kernel12Ideal.Fwd

open Idealize.ShloMosaic Cert.SB Cert.Reference12Ideal.Read
open Cert.KernelIdeal.Step (hd zf hostSums hostSums_ok)

variable {x0 : (⟨2, ![2048, 6144]⟩ : Shape).Idx → EReal}

theorem weights_eq : val_main_v53 (F := Ideal) x0 = Cert.ReferenceIdeal.Read.val_main_v30_0 (F := Ideal) x0 := rfl

theorem values_eq : val_main_v32 (F := Ideal) x0 = Cert.ReferenceIdeal.Read.val_main_v9 (F := Ideal) x0 := rfl

theorem sums_eq : val_main_v22 (F := Ideal) x0 = hostSums x0 := rfl

variable {x1 : (⟨2, ![2048, 2048]⟩ : Shape).Idx → EReal} {Q K V O : ℕ → ℕ → ℝ}

theorem ref_sums_ok (H : Inputs x0 x1 Q K V O) (h : Fin 16) (t : Fin 2048) :
    val_main_v22 (F := Ideal) x0 (ix3 h t 0) = ((CT (zf (hd h Q) (hd h K)) t : ℝ) : EReal) := by
  rw [sums_eq]
  exact hostSums_ok H h t

theorem ref_heads_ok (H : Inputs x0 x1 Q K V O) (h : Fin 16) (t : Fin 2048) (d : Fin 128) :
    val_main_v54 (F := Ideal) x0 (ix4 0 h t d) = ((∑ k ∈ Finset.range 2048, A (zf (hd h Q) (hd h K)) t k * hd h V k d : ℝ) : EReal) := by
  rw [val_main_v54_apply]
  have e : ∀ k : Fin 2048, val_main_v53 (F := Ideal) x0 (lidx_main_v54 (ix4 0 h t d) k) * val_main_v32 (F := Ideal) x0 (ridx_main_v54 (ix4 0 h t d) k)
      = ((A (zf (hd h Q) (hd h K)) t k * hd h V k d : ℝ) : EReal) := fun k => by
    rw [show lidx_main_v54 (ix4 0 h t d) k = ix4 0 h t k from by funext a; match a with | ⟨0, _⟩ => rfl | ⟨1, _⟩ => rfl | ⟨2, _⟩ => rfl | ⟨3, _⟩ => rfl,
      show ridx_main_v54 (ix4 0 h t d) k = ix4 0 h k d from by funext a; match a with | ⟨0, _⟩ => rfl | ⟨1, _⟩ => rfl | ⟨2, _⟩ => rfl | ⟨3, _⟩ => rfl,
      weights_eq, values_eq, v30_0_ok H, v9_ok H, EReal.coe_mul]
  rw [Finset.sum_congr rfl fun k _ => e k, coe_sum]
  congr 1

theorem ref_out_ok (H : Inputs x0 x1 Q K V O) (t n : Fin 2048) :
    val_main_v57 (F := Ideal) x0 (ix2 t n) = ((outAll Q K V t n : ℝ) : EReal) := by
  have ht := t.isLt
  have hn := n.isLt
  rw [val_main_v57_apply, val_main_v56_apply, val_main_v55_apply]
  refine Eq.trans (congrArg (val_main_v54 (F := Ideal) x0) (?_ : _ = (ix4 0 ⟨n.val / 128, by omega⟩ t ⟨n.val % 128, by omega⟩))) (((ref_heads_ok H _ t _).trans ?_))
  · funext a
    match a with
    | ⟨0, _⟩ => exact Fin.eq_zero _
    | ⟨1, _⟩ => exact Fin.ext (show (t.val * 2048 + n.val) / 128 % 16 = n.val / 128 by omega)
    | ⟨2, _⟩ => exact Fin.ext (show (t.val * 2048 + n.val) / 2048 % 2048 = t.val by omega)
    | ⟨3, _⟩ => exact Fin.ext (show (t.val * 2048 + n.val) % 128 = n.val % 128 by omega)
  · congr 1
    unfold outAll
    refine Finset.sum_congr rfl fun k _ => ?_
    have en : 128 * (n.val / 128) + n.val % 128 = n.val := by omega
    exact congrArg (HMul.hMul _) (congrArg (V k) en)

end Cert.Kernel12Ideal.Fwd

end
-- ==== Proof.SbFwdGrid.lean ====
module

public import proofs.«01_k».proof.Proof.SbFwdReference
public import proofs.«01_k».proof.Proof.Gen.Kernel12Ideal.Value
public import Idealize.ShloMosaic.Lib.Pipeline.ValueKit.Geometry

/-! The sweep of the forward pass over two groups of eight heads and eight blocks of queries: what each point is given,
and that the two arrays left are the reference's. -/

@[expose] public section

set_option maxRecDepth 16384

noncomputable section

namespace Cert.Kernel12Ideal.Fwd

open Idealize.ShloMosaic Idealize.ShloMosaic.TcCoe Idealize.SL.Sem
open Cert.Kernel12Ideal.Gen Cert.Kernel12Ideal.Value Cert.SB
open Cert.Reference12Ideal.Read (val_main_v57 val_main_v22)
open Cert.KernelIdeal.Step (hd zf)

/-- The columns of the group `hg` of eight heads. -/
def grp8 (hg : ℕ) (X : ℕ → ℕ → ℝ) (t n : ℕ) : ℝ := X t (1024 * hg + n)

theorem hd_grp8 (hg g : ℕ) (X : ℕ → ℕ → ℝ) : hd g (grp8 hg X) = hd (8 * hg + g) X := by
  funext t d
  unfold hd grp8
  congr 1
  omega

theorem outAll_grp8 (Q K V : ℕ → ℕ → ℝ) (hg t n : ℕ) :
    outAll (grp8 hg Q) (grp8 hg K) (grp8 hg V) t n = outAll Q K V t (1024 * hg + n) := by
  unfold outAll
  rw [hd_grp8, hd_grp8, show (1024 * hg + n) / 128 = 8 * hg + n / 128 by omega]
  rfl

theorem coords_one (t : Fin cfg0.N) : (grid0.coords t 1).val = t.val % 8 :=
  (by decide +kernel : ∀ t : Fin grid0.N, (grid0.coords t 1).val = t.val % 8) t

theorem idx : ∀ t : Fin cfg0.N, win0_0.index t = ![t.val % 8, t.val / 8] ∧ win0_1.index t = ![0, 2 + t.val / 8]
    ∧ win0_2.index t = ![0, 4 + t.val / 8] ∧ win0_3.index t = ![t.val % 8, t.val / 8] ∧ win0_4.index t = ![t.val / 8, t.val % 8, 0] :=
  (by decide +kernel : ∀ t : Fin grid0.N, _)

variable (m : (ℓ : Loc nD τ sig) → Buf (Elt Ideal) ℓ) (c : Dev nD) {x1 : (⟨2, ![2048, 2048]⟩ : Shape).Idx → EReal}
  {Q K V O : ℕ → ℕ → ℝ}

/-- The argument as the device `c` holds it. -/
abbrev given : (⟨2, ![2048, 6144]⟩ : Shape).Idx → EReal := m (c, Proc.devRef .tc main_arg0)

variable (H : Inputs (given m c) x1 Q K V O)

include H in
theorem in_ok (t : Fin cfg0.N) : InOk (grp8 (t.val / 8) Q) (grp8 (t.val / 8) K) (grp8 (t.val / 8) V) (grid0.coords t 1).val
    (iblk m c 0 t) (iblk m c 1 t) (iblk m c 2 t) := by
  have hN : t.val < 16 := t.isLt
  obtain ⟨e0, e1, e2, -, -⟩ := idx t
  rw [coords_one]
  refine ⟨fun r n => ?_, fun r n => ?_, fun r n => ?_⟩
  · have hr := r.isLt
    have hn := n.isLt
    refine Eq.trans ?_ (H.q ⟨256 * (t.val % 8) + r.val, by omega⟩ (1024 * (t.val / 8) + n.val) (by omega))
    blk_simp [iblk]
    exact congrArg (given m c) (by blk_ext [e0])
  · have hr := r.isLt
    have hn := n.isLt
    refine Eq.trans ?_ (H.k r (1024 * (t.val / 8) + n.val) (by omega))
    blk_simp [iblk]
    exact congrArg (given m c) (by blk_ext [e1])
  · have hr := r.isLt
    have hn := n.isLt
    refine Eq.trans ?_ (H.v r (1024 * (t.val / 8) + n.val) (by omega))
    blk_simp [iblk]
    exact congrArg (given m c) (by blk_ext [e2])

include H in
/-- The outputs left are the reference's. -/
theorem final3 : (dats m 0 c).arrAt 3 cfg0.N = val_main_v57 (F := Ideal) (given m c) := by
  refine (dats m 0 c).arrAt_eq_of_covers 3 _ (by decide +kernel) fun t hf y => ?_
  have hN : t.val < 16 := t.isLt
  obtain ⟨-, -, -, e3, -⟩ := idx t
  have h0 : (y 0).val < 256 := (y 0).isLt
  have h1 : (y 1).val < 1024 := (y 1).isLt
  have hy : (cfg0.win 3).xinj (grid0.coords t) y = ix2 (n0 := 256) (n1 := 1024) (y 0) (y 1) := by
    funext a
    match a with
    | ⟨0, _⟩ => rfl
    | ⟨1, _⟩ => rfl
  have hb : ((cfg0.win 3).blk t).view.emb y
      = (ix2 ⟨256 * (t.val % 8) + (y 0).val, by omega⟩ ⟨1024 * (t.val / 8) + (y 1).val, by omega⟩ : S2048x2048.Idx) := by
    blk_ext [e3]
  rw [hb, ref_out_ok H]
  refine (congrFun (flushed3_A m c t) y).trans ?_
  refine (congrArg (out0_A_3 (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t)) hy).trans ?_
  refine (out3_ok _ _ _ _ _ _ _ _ _ _ _ _ _ _ _ _ _ (in_ok m c H t) _ _).trans ?_
  rw [outAll_grp8, coords_one]

include H in
/-- The row sums left are the reference's. -/
theorem final4 : (dats m 0 c).arrAt 4 cfg0.N = val_main_v22 (F := Ideal) (given m c) := by
  refine (dats m 0 c).arrAt_eq_of_covers 4 _ (by decide +kernel) fun t hf y => ?_
  have hN : t.val < 16 := t.isLt
  obtain ⟨-, -, -, -, e4⟩ := idx t
  have h0 : (y 0).val < 8 := (y 0).isLt
  have h1 : (y 1).val < 256 := (y 1).isLt
  have h2 : (y 2).val < 1 := (y 2).isLt
  have hy : (cfg0.win 4).xinj (grid0.coords t) y = ix3 (n0 := 8) (n1 := 256) (n2 := 1) (y 0) (y 1) 0 := by
    funext a
    match a with
    | ⟨0, _⟩ => rfl
    | ⟨1, _⟩ => rfl
    | ⟨2, _⟩ => exact Fin.ext (by show (y 2).val = 0; omega)
  have hb : ((cfg0.win 4).blk t).view.emb y
      = (ix3 ⟨8 * (t.val / 8) + (y 0).val, by omega⟩ ⟨256 * (t.val % 8) + (y 1).val, by omega⟩ 0 : S16x2048x1.Idx) := by
    blk_ext [e4]
  rw [hb, ref_sums_ok H]
  refine (congrFun (flushed4_A m c t) y).trans ?_
  refine (congrArg (out0_A_4 (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t)) hy).trans ?_
  refine (out4_ok _ _ _ _ _ _ _ _ _ _ _ _ _ _ _ _ _ (in_ok m c H t) _ _).trans ?_
  rw [hd_grp8, hd_grp8, coords_one]

end Cert.Kernel12Ideal.Fwd

end
-- ==== Proof.lean ====
/- The gradient of stick-breaking attention, swept over four groups of heads and eight blocks of queries, is over the
   reals the gradient of the attention written plainly, for finite arguments.

   Proof/Math.lean, Proof/Step*.lean, Proof/Trip.lean, Proof/Run*.lean, Proof/Loop.lean, Proof/Point.lean: one grid point.
   Proof/Cases.lean, Proof/Grid.lean: the sweep of the grid. Proof/Host.lean: what the host hands over.
   Proof/Window.lean, Proof/Reference.lean: the reference. Proof/Mlp*.lean: the calls of the squared-ReLU MLP, forward and
   backward, each a tiled product against the whole one, with their claims in Proof/MlpClaims.lean. Proof/Proj*.lean: the
   products into and out of the mixers, likewise, with their claims in Proof/ProjClaims.lean. Proof/Latent*.lean: the products
   of the latent attention and the product of the forget gate, likewise, with their claims in Proof/LatentClaims.lean.
   Proof/SbFwd*.lean: the forward pass of stick-breaking attention, its loop, one grid point, its reference and the sweep of
   its grid. Proof/Norm*.lean: the RMS norm, forward and backward, of the
   layers' rows and of the two latents, with its claims in Proof/NormClaims.lean. Proof/Adam.lean: the optimiser's step on the
   small weights. Proof/Loss*.lean: the loss and its gradient. Proof/Sum.lean: the sum of the small
   gradients' four parts. Here: the claims of the attention, backward and forward, and all claims together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Read
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Read
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Read
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Loops
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Loops
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Reference12Ideal.Run
public import proofs.«01_k».proof.Proof.Gen.Pre_finite12
public import proofs.«01_k».proof.Proof.Gen.Kernel13Ideal.Value
public import proofs.«01_k».proof.Proof.Gen.Reference13Ideal.Read
public import proofs.«01_k».proof.Proof.Gen.Reference14Ideal.Read
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference13Ideal.Run
public import proofs.«01_k».proof.Proof.Gen.Reference14Ideal.Run
public import proofs.«01_k».proof.Proof.LatentClaims
public import proofs.«01_k».proof.Proof.NormClaims
public import proofs.«01_k».proof.Proof.Adam
public import proofs.«01_k».proof.Proof.LossClaims
public import proofs.«01_k».proof.Proof.Sum
public import proofs.«01_k».proof.Proof.MlpClaims
public import proofs.«01_k».proof.Proof.ProjClaims
public import proofs.«01_k».proof.Proof.Grid
public import proofs.«01_k».proof.Proof.Host
public import proofs.«01_k».proof.Proof.Reference
public import proofs.«01_k».proof.Proof.SbFwdGrid
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-! ## The frames -/

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

/-- The reference declares no semaphore. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_ri_finite : Cert.quiescent_ReferenceIdeal_pre_finite := fun m ρ _ => frame_ri m ρ trivial

/-! ## The named constant -/

theorem preserves : Cert.preserves_Kernel_KernelIdeal :=
  IdealRules.named_const.statement Cert.KernelIdeal.κ "mask" .f32 0xF149F2CA#32 ⊥ rfl

/-! ## The arguments are real -/

theorem real_of_lt (a : EReal) (h : Ideal.cmp .olt (max a (-a)) (Ideal.ofBits .f32 0x7F800000#32) = 1#1) :
    a = ((a.toReal : ℝ) : EReal) := by
  rw [Cert.SB.inf_bits] at h
  have hlt : max a (-a) < ⊤ := by
    by_contra hn
    simp [Ideal.cmp, hn] at h
  have h1 : a ≠ ⊤ := fun e => by simp [e] at hlt
  have h2 : a ≠ ⊥ := fun e => by simp [e] at hlt
  exact (EReal.coe_toReal h1 h2).symm

/-- The entries of an array of reals by their two numbers, zero outside. -/
def entry {a b : ℕ} (x : (⟨2, ![a, b]⟩ : Shape).Idx → EReal) (o t n : ℕ) : ℝ :=
  if h : t < a ∧ o + n < b then (x (ix2 ⟨t, h.1⟩ ⟨o + n, h.2⟩)).toReal else 0

theorem entry_ok {a b : ℕ} (x : (⟨2, ![a, b]⟩ : Shape).Idx → EReal) (hx : ∀ i, x i = (((x i).toReal : ℝ) : EReal)) (o : ℕ)
    (t : Fin a) (n : ℕ) (hn : o + n < b) : x (ix2 t ⟨o + n, hn⟩) = ((entry x o t n : ℝ) : EReal) := by
  rw [entry, dif_pos ⟨t.isLt, hn⟩]
  exact hx _

theorem inputs (x0 : (⟨2, ![2048, 6144]⟩ : Shape).Idx → EReal) (x1 : (⟨2, ![2048, 2048]⟩ : Shape).Idx → EReal)
    (h0 : ∀ i, x0 i = (((x0 i).toReal : ℝ) : EReal)) (h1 : ∀ i, x1 i = (((x1 i).toReal : ℝ) : EReal)) :
    Cert.SB.Inputs x0 x1 (entry x0 0) (entry x0 2048) (entry x0 4096) (entry x1 0) where
  q t n hn := by
    refine Eq.trans ?_ (entry_ok x0 h0 0 t n (by omega))
    congr 2
    exact Fin.ext (Nat.zero_add n).symm
  k t n hn := entry_ok x0 h0 2048 t n (by omega)
  v t n hn := entry_ok x0 h0 4096 t n (by omega)
  o t n hn := by
    refine Eq.trans ?_ (entry_ok x1 h1 0 t n (by omega))
    congr 2
    exact Fin.ext (Nat.zero_add n).symm

theorem finite_inputs (x0 : FVec Ideal Cert.Pre_finite.S2048x6144 .bf16) (x1 : FVec Ideal Cert.Pre_finite.S2048x2048 .bf16)
    (h0 : (Cert.Pre_finite.fn (F := Ideal) x0 x1).1 = fun _ => 1#1) (h1 : (Cert.Pre_finite.fn (F := Ideal) x0 x1).2 = fun _ => 1#1) :
    Cert.SB.Inputs x0 x1 (entry x0 0) (entry x0 2048) (entry x0 4096) (entry x1 0) :=
  inputs x0 x1 (fun i => real_of_lt _ (congrFun h0 i)) fun i => real_of_lt _ (congrFun h1 i)

/-! ## The values -/

theorem square (i : (⟨2, ![2048, 2048]⟩ : Shape).Idx) : i = ix2 (i 0) (i 1) := by
  funext a
  match a with
  | ⟨0, _⟩ => rfl
  | ⟨1, _⟩ => rfl

section
variable (m : (ℓ : Loc Cert.KernelIdeal.nD Cert.KernelIdeal.τ Cert.KernelIdeal.sig) → Buf (Elt Ideal) ℓ) (c : Dev Cert.KernelIdeal.nD)
  (Q K V O : ℕ → ℕ → ℝ) (H : Cert.KernelIdeal.Step.InputsAt m c Q K V O)

open Cert.ReferenceIdeal.Read Cert.KernelIdeal.Step Cert.KernelIdeal.Value

include H in
theorem dq_eq : val_main_v60 (F := Ideal) (m (c, Proc.devRef .tc Cert.KernelIdeal.main_arg0)) (m (c, Proc.devRef .tc Cert.KernelIdeal.main_arg1)) = G5 m c :=
  funext fun i => by
    rw [square i]
    exact (Cert.SB.v60_ok H _ _).trans (G5_ok m c (given_ok m c H) _ _).symm

include H in
theorem dk_eq : val_main_v61 (F := Ideal) (m (c, Proc.devRef .tc Cert.KernelIdeal.main_arg0)) (m (c, Proc.devRef .tc Cert.KernelIdeal.main_arg1)) = G6 m c :=
  funext fun i => by
    rw [square i]
    exact (Cert.SB.v61_ok H _ _).trans (G6_ok m c (given_ok m c H) _ _).symm

include H in
theorem dv_eq : val_main_v62 (F := Ideal) (m (c, Proc.devRef .tc Cert.KernelIdeal.main_arg0)) (m (c, Proc.devRef .tc Cert.KernelIdeal.main_arg1)) = G7 m c :=
  funext fun i => by
    rw [square i]
    exact (Cert.SB.v62_ok H _ _).trans (G7_ok m c (given_ok m c H) _ _).symm

end

/-- Both programs leave the three gradients of stick-breaking attention. -/
theorem algebraic : Cert.algebraic_KernelIdeal_ReferenceIdeal_pre_finite := by
  intro m ρ m' ρ' hpre hagree
  refine ⟨fun c => Cert.KernelIdeal.Value.G5 m c, fun c => Cert.KernelIdeal.Value.G6 m c, fun c => Cert.KernelIdeal.Value.G7 m c,
    Cert.KernelIdeal.Value.run m ρ, ?_⟩
  have hH := fun c => finite_inputs _ _ (hpre c).1 (hpre c).2
  refine (θ_run Cert.ReferenceIdeal.defs _ _).mono (fun r h c => ⟨?_, ?_, ?_, (h c).2.2.2.1, (h c).2.2.2.2⟩)
    (Cert.ReferenceIdeal.Value.run (F := Ideal) m' ρ')
  · refine (h c).1.trans ((Cert.ReferenceIdeal.Read.val_main_v60_eq (StableHlo.launchContents m' c)).trans ?_)
    exact (congrArg₂ (Cert.ReferenceIdeal.Read.val_main_v60 (F := Ideal)) (hagree c).1 (hagree c).2).trans (dq_eq m c _ _ _ _ (hH c))
  · refine (h c).2.1.trans ((Cert.ReferenceIdeal.Read.val_main_v61_eq (StableHlo.launchContents m' c)).trans ?_)
    exact (congrArg₂ (Cert.ReferenceIdeal.Read.val_main_v61 (F := Ideal)) (hagree c).1 (hagree c).2).trans (dk_eq m c _ _ _ _ (hH c))
  · refine (h c).2.2.1.trans ((Cert.ReferenceIdeal.Read.val_main_v62_eq (StableHlo.launchContents m' c)).trans ?_)
    exact (congrArg₂ (Cert.ReferenceIdeal.Read.val_main_v62 (F := Ideal)) (hagree c).1 (hagree c).2).trans (dv_eq m c _ _ _ _ (hH c))

/-! ## The forward pass -/

theorem frame_p12 : Cert.quiescent_Kernel12 := fun m ρ _ => Cert.Kernel12.Gen.frame m ρ

theorem frame_pi12 : Cert.quiescent_Kernel12Ideal := fun m ρ _ => Cert.Kernel12Ideal.Gen.frame m ρ

theorem frame_pi12_finite : Cert.quiescent_Kernel12Ideal_pre_finite12 := fun m ρ _ => Cert.Kernel12Ideal.Gen.frame m ρ

theorem frame_ri12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem frame_ri12_finite : Cert.quiescent_Reference12Ideal_pre_finite12 := fun m ρ _ => frame_ri12 m ρ trivial

theorem preserves12 : Cert.preserves_Kernel12_Kernel12Ideal :=
  IdealRules.named_const.statement Cert.Kernel12Ideal.κ "mask" .f32 0xF149F2CA#32 ⊥ rfl

/-- The one argument of the forward pass, beside an output gradient of zeros. -/
theorem finite_input (x0 : FVec Ideal Cert.Pre_finite12.S2048x6144 .bf16) (h0 : Cert.Pre_finite12.fn (F := Ideal) x0 = fun _ => 1#1) :
    Cert.SB.Inputs x0 (fun _ => 0) (entry x0 0) (entry x0 2048) (entry x0 4096) (entry (a := 2048) (b := 2048) (fun _ => 0) 0) :=
  inputs x0 _ (fun i => real_of_lt _ (congrFun h0 i)) fun _ => by simp

/-- Both programs leave the output of stick-breaking attention and the row sums. -/
theorem algebraic12 : Cert.algebraic_Kernel12Ideal_Reference12Ideal_pre_finite12 := by
  intro m ρ m' ρ' hpre hagree
  have hH := fun c => finite_input _ (hpre c)
  refine ⟨fun c => Cert.Reference12Ideal.Read.val_main_v57 (F := Ideal) (Cert.Kernel12Ideal.Fwd.given m c),
    fun c => Cert.Reference12Ideal.Read.val_main_v22 (F := Ideal) (Cert.Kernel12Ideal.Fwd.given m c),
    (θ_run Cert.Kernel12Ideal.defs _ _).mono (fun r h c => ⟨(h c).1.trans (Cert.Kernel12Ideal.Fwd.final3 m c (hH c)),
      (h c).2.1.trans (Cert.Kernel12Ideal.Fwd.final4 m c (hH c)), (h c).2.2⟩) (Cert.Kernel12Ideal.Value.run_blocks m ρ), ?_⟩
  refine (θ_run Cert.Reference12Ideal.defs _ _).mono (fun r h c => ⟨?_, ?_, (h c).2.2⟩) (Cert.Reference12Ideal.Value.run (F := Ideal) m' ρ')
  · exact (h c).1.trans ((Cert.Reference12Ideal.Read.val_main_v57_eq _ _).trans
      (congrArg (Cert.Reference12Ideal.Read.val_main_v57 (F := Ideal)) (hagree c)))
  · exact (h c).2.1.trans ((Cert.Reference12Ideal.Read.val_main_v22_eq _ _).trans
      (congrArg (Cert.Reference12Ideal.Read.val_main_v22 (F := Ideal)) (hagree c)))

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Pre_finite.Gen.facts, Cert.Pre_finite12.Gen.facts, frame_p, frame_pi, frame_pi_finite, frame_ri,
  frame_ri_finite, frame_p2, frame_pi2, frame_ri2, frame_p3, frame_pi3, frame_ri3, frame_p4, frame_pi4, frame_ri4,
  frame_p5, frame_pi5, frame_ri5, frame_p6, frame_pi6, frame_ri6, frame_p7, frame_pi7, frame_ri7, frame_p8, frame_pi8,
  frame_ri8, frame_p9, frame_pi9, frame_ri9, frame_p10, frame_pi10, frame_ri10, frame_p11, frame_pi11, frame_ri11,
  frame_p12, frame_pi12, frame_pi12_finite, frame_ri12, frame_ri12_finite,
  frame_p13, frame_pi13, frame_ri13, frame_p14, frame_pi14, frame_ri14,
  frame_p15, frame_pi15, frame_ri15,
  frame_p16, frame_pi16, frame_ri16,
  frame_p17, frame_pi17, frame_ri17,
  frame_p18, frame_pi18, frame_ri18,
  frame_p19, frame_pi19, frame_ri19,
  frame_p20, frame_pi20, frame_ri20,
  frame_p21, frame_pi21, frame_ri21,
  preserves, algebraic, preserves2, algebraic2, preserves3, algebraic3, preserves4, algebraic4, preserves5, algebraic5,
  preserves6, algebraic6, preserves7, algebraic7, preserves8, algebraic8, preserves9, algebraic9, preserves10,
  algebraic10, preserves11, algebraic11, preserves12, algebraic12, preserves13, algebraic13,
  preserves14, algebraic14,
  preserves15, algebraic15,
  preserves16, algebraic16,
  preserves17, algebraic17,
  preserves18, algebraic18,
  preserves19, algebraic19,
  preserves20, algebraic20,
  preserves21, algebraic21⟩

end Cert.Proof

end
